-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16)
      ∧ r.2.mem ((c.tc : Thread Cert.Kernel5.nD Cert.Kernel5.τ).loc Cert.Kernel5.main_arg17) = m ((c.tc : Thread Cert.Kernel5.nD Cert.Kernel5.τ).loc Cert.Kernel5.main_arg17)
      ∧ r.2.mem ((c.tc : Thread Cert.Kernel5.nD Cert.Kernel5.τ).loc Cert.Kernel5.main_arg18) = m ((c.tc : Thread Cert.Kernel5.nD Cert.Kernel5.τ).loc Cert.Kernel5.main_arg18)
      ∧ r.2.mem ((c.tc : Thread Cert.Kernel5.nD Cert.Kernel5.τ).loc Cert.Kernel5.main_arg19) = m ((c.tc : Thread Cert.Kernel5.nD Cert.Kernel5.τ).loc Cert.Kernel5.main_arg19)
      ∧ r.2.mem ((c.tc : Thread Cert.Kernel5.nD Cert.Kernel5.τ).loc Cert.Kernel5.main_arg20) = m ((c.tc : Thread Cert.Kernel5.nD Cert.Kernel5.τ).loc Cert.Kernel5.main_arg20)
      ∧ r.2.mem ((c.tc : Thread Cert.Kernel5.nD Cert.Kernel5.τ).loc Cert.Kernel5.main_arg21) = m ((c.tc : Thread Cert.Kernel5.nD Cert.Kernel5.τ).loc Cert.Kernel5.main_arg21)
      ∧ r.2.mem ((c.tc : Thread Cert.Kernel5.nD Cert.Kernel5.τ).loc Cert.Kernel5.main_arg22) = m ((c.tc : Thread Cert.Kernel5.nD Cert.Kernel5.τ).loc Cert.Kernel5.main_arg22)
      ∧ r.2.mem ((c.tc : Thread Cert.Kernel5.nD Cert.Kernel5.τ).loc Cert.Kernel5.main_arg23) = m ((c.tc : Thread Cert.Kernel5.nD Cert.Kernel5.τ).loc Cert.Kernel5.main_arg23))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
      ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
      ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
      ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20)
      ∧ r.2.mem ((c.tc : Thread Cert.Kernel5Ideal.nD Cert.Kernel5Ideal.τ).loc Cert.Kernel5Ideal.main_arg21) = m ((c.tc : Thread Cert.Kernel5Ideal.nD Cert.Kernel5Ideal.τ).loc Cert.Kernel5Ideal.main_arg21)
      ∧ r.2.mem ((c.tc : Thread Cert.Kernel5Ideal.nD Cert.Kernel5Ideal.τ).loc Cert.Kernel5Ideal.main_arg22) = m ((c.tc : Thread Cert.Kernel5Ideal.nD Cert.Kernel5Ideal.τ).loc Cert.Kernel5Ideal.main_arg22)
      ∧ r.2.mem ((c.tc : Thread Cert.Kernel5Ideal.nD Cert.Kernel5Ideal.τ).loc Cert.Kernel5Ideal.main_arg23) = m ((c.tc : Thread Cert.Kernel5Ideal.nD Cert.Kernel5Ideal.τ).loc Cert.Kernel5Ideal.main_arg23))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17)
      ∧ r.2.mem ((c.tc : Thread Cert.Reference5Ideal.nD Cert.Reference5Ideal.τ).loc Cert.Reference5Ideal.main_arg18) = m ((c.tc : Thread Cert.Reference5Ideal.nD Cert.Reference5Ideal.τ).loc Cert.Reference5Ideal.main_arg18)
      ∧ r.2.mem ((c.tc : Thread Cert.Reference5Ideal.nD Cert.Reference5Ideal.τ).loc Cert.Reference5Ideal.main_arg19) = m ((c.tc : Thread Cert.Reference5Ideal.nD Cert.Reference5Ideal.τ).loc Cert.Reference5Ideal.main_arg19)
      ∧ r.2.mem ((c.tc : Thread Cert.Reference5Ideal.nD Cert.Reference5Ideal.τ).loc Cert.Reference5Ideal.main_arg20) = m ((c.tc : Thread Cert.Reference5Ideal.nD Cert.Reference5Ideal.τ).loc Cert.Reference5Ideal.main_arg20)
      ∧ r.2.mem ((c.tc : Thread Cert.Reference5Ideal.nD Cert.Reference5Ideal.τ).loc Cert.Reference5Ideal.main_arg21) = m ((c.tc : Thread Cert.Reference5Ideal.nD Cert.Reference5Ideal.τ).loc Cert.Reference5Ideal.main_arg21)
      ∧ r.2.mem ((c.tc : Thread Cert.Reference5Ideal.nD Cert.Reference5Ideal.τ).loc Cert.Reference5Ideal.main_arg22) = m ((c.tc : Thread Cert.Reference5Ideal.nD Cert.Reference5Ideal.τ).loc Cert.Reference5Ideal.main_arg22)
      ∧ r.2.mem ((c.tc : Thread Cert.Reference5Ideal.nD Cert.Reference5Ideal.τ).loc Cert.Reference5Ideal.main_arg23) = m ((c.tc : Thread Cert.Reference5Ideal.nD Cert.Reference5Ideal.τ).loc Cert.Reference5Ideal.main_arg23))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15)
      ∧ r.2.mem ((c.tc : Thread Cert.Kernel6.nD Cert.Kernel6.τ).loc Cert.Kernel6.main_arg16) = m ((c.tc : Thread Cert.Kernel6.nD Cert.Kernel6.τ).loc Cert.Kernel6.main_arg16)
      ∧ r.2.mem ((c.tc : Thread Cert.Kernel6.nD Cert.Kernel6.τ).loc Cert.Kernel6.main_arg17) = m ((c.tc : Thread Cert.Kernel6.nD Cert.Kernel6.τ).loc Cert.Kernel6.main_arg17)
      ∧ r.2.mem ((c.tc : Thread Cert.Kernel6.nD Cert.Kernel6.τ).loc Cert.Kernel6.main_arg18) = m ((c.tc : Thread Cert.Kernel6.nD Cert.Kernel6.τ).loc Cert.Kernel6.main_arg18)
      ∧ r.2.mem ((c.tc : Thread Cert.Kernel6.nD Cert.Kernel6.τ).loc Cert.Kernel6.main_arg19) = m ((c.tc : Thread Cert.Kernel6.nD Cert.Kernel6.τ).loc Cert.Kernel6.main_arg19))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
      ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17)
      ∧ r.2.mem ((c.tc : Thread Cert.Reference6Ideal.nD Cert.Reference6Ideal.τ).loc Cert.Reference6Ideal.main_arg18) = m ((c.tc : Thread Cert.Reference6Ideal.nD Cert.Reference6Ideal.τ).loc Cert.Reference6Ideal.main_arg18)
      ∧ r.2.mem ((c.tc : Thread Cert.Reference6Ideal.nD Cert.Reference6Ideal.τ).loc Cert.Reference6Ideal.main_arg19) = m ((c.tc : Thread Cert.Reference6Ideal.nD Cert.Reference6Ideal.τ).loc Cert.Reference6Ideal.main_arg19))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9)
      ∧ r.2.mem ((c.tc : Thread Cert.Kernel13.nD Cert.Kernel13.τ).loc Cert.Kernel13.main_arg10) = m ((c.tc : Thread Cert.Kernel13.nD Cert.Kernel13.τ).loc Cert.Kernel13.main_arg10)
      ∧ r.2.mem ((c.tc : Thread Cert.Kernel13.nD Cert.Kernel13.τ).loc Cert.Kernel13.main_arg11) = m ((c.tc : Thread Cert.Kernel13.nD Cert.Kernel13.τ).loc Cert.Kernel13.main_arg11)
      ∧ r.2.mem ((c.tc : Thread Cert.Kernel13.nD Cert.Kernel13.τ).loc Cert.Kernel13.main_arg12) = m ((c.tc : Thread Cert.Kernel13.nD Cert.Kernel13.τ).loc Cert.Kernel13.main_arg12)
      ∧ r.2.mem ((c.tc : Thread Cert.Kernel13.nD Cert.Kernel13.τ).loc Cert.Kernel13.main_arg13) = m ((c.tc : Thread Cert.Kernel13.nD Cert.Kernel13.τ).loc Cert.Kernel13.main_arg13)
      ∧ r.2.mem ((c.tc : Thread Cert.Kernel13.nD Cert.Kernel13.τ).loc Cert.Kernel13.main_arg14) = m ((c.tc : Thread Cert.Kernel13.nD Cert.Kernel13.τ).loc Cert.Kernel13.main_arg14)
      ∧ r.2.mem ((c.tc : Thread Cert.Kernel13.nD Cert.Kernel13.τ).loc Cert.Kernel13.main_arg15) = m ((c.tc : Thread Cert.Kernel13.nD Cert.Kernel13.τ).loc Cert.Kernel13.main_arg15))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
      ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
      ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
      ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
      ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13)
      ∧ r.2.mem ((c.tc : Thread Cert.Kernel13Ideal.nD Cert.Kernel13Ideal.τ).loc Cert.Kernel13Ideal.main_arg14) = m ((c.tc : Thread Cert.Kernel13Ideal.nD Cert.Kernel13Ideal.τ).loc Cert.Kernel13Ideal.main_arg14)
      ∧ r.2.mem ((c.tc : Thread Cert.Kernel13Ideal.nD Cert.Kernel13Ideal.τ).loc Cert.Kernel13Ideal.main_arg15) = m ((c.tc : Thread Cert.Kernel13Ideal.nD Cert.Kernel13Ideal.τ).loc Cert.Kernel13Ideal.main_arg15))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9)
      ∧ r.2.mem ((c.tc : Thread Cert.Reference13Ideal.nD Cert.Reference13Ideal.τ).loc Cert.Reference13Ideal.main_arg10) = m ((c.tc : Thread Cert.Reference13Ideal.nD Cert.Reference13Ideal.τ).loc Cert.Reference13Ideal.main_arg10)
      ∧ r.2.mem ((c.tc : Thread Cert.Reference13Ideal.nD Cert.Reference13Ideal.τ).loc Cert.Reference13Ideal.main_arg11) = m ((c.tc : Thread Cert.Reference13Ideal.nD Cert.Reference13Ideal.τ).loc Cert.Reference13Ideal.main_arg11)
      ∧ r.2.mem ((c.tc : Thread Cert.Reference13Ideal.nD Cert.Reference13Ideal.τ).loc Cert.Reference13Ideal.main_arg12) = m ((c.tc : Thread Cert.Reference13Ideal.nD Cert.Reference13Ideal.τ).loc Cert.Reference13Ideal.main_arg12)
      ∧ r.2.mem ((c.tc : Thread Cert.Reference13Ideal.nD Cert.Reference13Ideal.τ).loc Cert.Reference13Ideal.main_arg13) = m ((c.tc : Thread Cert.Reference13Ideal.nD Cert.Reference13Ideal.τ).loc Cert.Reference13Ideal.main_arg13)
      ∧ r.2.mem ((c.tc : Thread Cert.Reference13Ideal.nD Cert.Reference13Ideal.τ).loc Cert.Reference13Ideal.main_arg14) = m ((c.tc : Thread Cert.Reference13Ideal.nD Cert.Reference13Ideal.τ).loc Cert.Reference13Ideal.main_arg14)
      ∧ r.2.mem ((c.tc : Thread Cert.Reference13Ideal.nD Cert.Reference13Ideal.τ).loc Cert.Reference13Ideal.main_arg15) = m ((c.tc : Thread Cert.Reference13Ideal.nD Cert.Reference13Ideal.τ).loc Cert.Reference13Ideal.main_arg15))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7)
      ∧ r.2.mem ((c.tc : Thread Cert.Kernel16.nD Cert.Kernel16.τ).loc Cert.Kernel16.main_arg8) = m ((c.tc : Thread Cert.Kernel16.nD Cert.Kernel16.τ).loc Cert.Kernel16.main_arg8)
      ∧ r.2.mem ((c.tc : Thread Cert.Kernel16.nD Cert.Kernel16.τ).loc Cert.Kernel16.main_arg9) = m ((c.tc : Thread Cert.Kernel16.nD Cert.Kernel16.τ).loc Cert.Kernel16.main_arg9)
      ∧ r.2.mem ((c.tc : Thread Cert.Kernel16.nD Cert.Kernel16.τ).loc Cert.Kernel16.main_arg10) = m ((c.tc : Thread Cert.Kernel16.nD Cert.Kernel16.τ).loc Cert.Kernel16.main_arg10)
      ∧ r.2.mem ((c.tc : Thread Cert.Kernel16.nD Cert.Kernel16.τ).loc Cert.Kernel16.main_arg11) = m ((c.tc : Thread Cert.Kernel16.nD Cert.Kernel16.τ).loc Cert.Kernel16.main_arg11))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
      ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
      ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
      ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10)
      ∧ r.2.mem ((c.tc : Thread Cert.Kernel16Ideal.nD Cert.Kernel16Ideal.τ).loc Cert.Kernel16Ideal.main_arg11) = m ((c.tc : Thread Cert.Kernel16Ideal.nD Cert.Kernel16Ideal.τ).loc Cert.Kernel16Ideal.main_arg11))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7)
      ∧ r.2.mem ((c.tc : Thread Cert.Reference16Ideal.nD Cert.Reference16Ideal.τ).loc Cert.Reference16Ideal.main_arg8) = m ((c.tc : Thread Cert.Reference16Ideal.nD Cert.Reference16Ideal.τ).loc Cert.Reference16Ideal.main_arg8)
      ∧ r.2.mem ((c.tc : Thread Cert.Reference16Ideal.nD Cert.Reference16Ideal.τ).loc Cert.Reference16Ideal.main_arg9) = m ((c.tc : Thread Cert.Reference16Ideal.nD Cert.Reference16Ideal.τ).loc Cert.Reference16Ideal.main_arg9)
      ∧ r.2.mem ((c.tc : Thread Cert.Reference16Ideal.nD Cert.Reference16Ideal.τ).loc Cert.Reference16Ideal.main_arg10) = m ((c.tc : Thread Cert.Reference16Ideal.nD Cert.Reference16Ideal.τ).loc Cert.Reference16Ideal.main_arg10)
      ∧ r.2.mem ((c.tc : Thread Cert.Reference16Ideal.nD Cert.Reference16Ideal.τ).loc Cert.Reference16Ideal.main_arg11) = m ((c.tc : Thread Cert.Reference16Ideal.nD Cert.Reference16Ideal.τ).loc Cert.Reference16Ideal.main_arg11))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2)) (v1 : (c : Dev Cert.Kernel2Ideal.nD) → Buf (Elt Ideal) ((c.tc : Thread Cert.Kernel2Ideal.nD Cert.Kernel2Ideal.τ).loc Cert.Kernel2Ideal.main_v9_0)) (v2 : (c : Dev Cert.Kernel2Ideal.nD) → Buf (Elt Ideal) ((c.tc : Thread Cert.Kernel2Ideal.nD Cert.Kernel2Ideal.τ).loc Cert.Kernel2Ideal.main_v9_1)) (v3 : (c : Dev Cert.Kernel2Ideal.nD) → Buf (Elt Ideal) ((c.tc : Thread Cert.Kernel2Ideal.nD Cert.Kernel2Ideal.τ).loc Cert.Kernel2Ideal.main_v9_2)) (v4 : (c : Dev Cert.Kernel2Ideal.nD) → Buf (Elt Ideal) ((c.tc : Thread Cert.Kernel2Ideal.nD Cert.Kernel2Ideal.τ).loc Cert.Kernel2Ideal.main_v6)) (v5 : (c : Dev Cert.Kernel2Ideal.nD) → Buf (Elt Ideal) ((c.tc : Thread Cert.Kernel2Ideal.nD Cert.Kernel2Ideal.τ).loc Cert.Kernel2Ideal.main_v7)) (v6 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_v9_0) = v1 c
          ∧ r.2.mem ((c.tc : Thread Cert.Kernel2Ideal.nD Cert.Kernel2Ideal.τ).loc Cert.Kernel2Ideal.main_v9_1) = v2 c
          ∧ r.2.mem ((c.tc : Thread Cert.Kernel2Ideal.nD Cert.Kernel2Ideal.τ).loc Cert.Kernel2Ideal.main_v9_2) = v3 c
          ∧ r.2.mem ((c.tc : Thread Cert.Kernel2Ideal.nD Cert.Kernel2Ideal.τ).loc Cert.Kernel2Ideal.main_v6) = v4 c
          ∧ r.2.mem ((c.tc : Thread Cert.Kernel2Ideal.nD Cert.Kernel2Ideal.τ).loc Cert.Kernel2Ideal.main_v7) = v5 c
          ∧ r.2.mem ((c.tc : Thread Cert.Kernel2Ideal.nD Cert.Kernel2Ideal.τ).loc Cert.Kernel2Ideal.main_v5) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v63) = v1 c
          ∧ r.2.mem ((c.tc : Thread Cert.Reference2Ideal.nD Cert.Reference2Ideal.τ).loc Cert.Reference2Ideal.main_v64) = v2 c
          ∧ r.2.mem ((c.tc : Thread Cert.Reference2Ideal.nD Cert.Reference2Ideal.τ).loc Cert.Reference2Ideal.main_v46) = v3 c
          ∧ r.2.mem ((c.tc : Thread Cert.Reference2Ideal.nD Cert.Reference2Ideal.τ).loc Cert.Reference2Ideal.main_v66) = v4 c
          ∧ r.2.mem ((c.tc : Thread Cert.Reference2Ideal.nD Cert.Reference2Ideal.τ).loc Cert.Reference2Ideal.main_v68) = v5 c
          ∧ r.2.mem ((c.tc : Thread Cert.Reference2Ideal.nD Cert.Reference2Ideal.τ).loc Cert.Reference2Ideal.main_v69) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v16)) (v1 : (c : Dev Cert.Kernel3Ideal.nD) → Buf (Elt Ideal) ((c.tc : Thread Cert.Kernel3Ideal.nD Cert.Kernel3Ideal.τ).loc Cert.Kernel3Ideal.main_v18_1)) (v2 : (c : Dev Cert.Kernel3Ideal.nD) → Buf (Elt Ideal) ((c.tc : Thread Cert.Kernel3Ideal.nD Cert.Kernel3Ideal.τ).loc Cert.Kernel3Ideal.main_v18_2)) (v3 : (c : Dev Cert.Kernel3Ideal.nD) → Buf (Elt Ideal) ((c.tc : Thread Cert.Kernel3Ideal.nD Cert.Kernel3Ideal.τ).loc Cert.Kernel3Ideal.main_v23)) (v4 : (c : Dev Cert.Kernel3Ideal.nD) → Buf (Elt Ideal) ((c.tc : Thread Cert.Kernel3Ideal.nD Cert.Kernel3Ideal.τ).loc Cert.Kernel3Ideal.main_v22)) (v5 : (c : Dev Cert.Kernel3Ideal.nD) → Buf (Elt Ideal) ((c.tc : Thread Cert.Kernel3Ideal.nD Cert.Kernel3Ideal.τ).loc Cert.Kernel3Ideal.main_v19)) (v6 : (c : Dev Cert.Kernel3Ideal.nD) → Buf (Elt Ideal) ((c.tc : Thread Cert.Kernel3Ideal.nD Cert.Kernel3Ideal.τ).loc Cert.Kernel3Ideal.main_v20)) (v7 : (c : Dev Cert.Kernel3Ideal.nD) → Buf (Elt Ideal) ((c.tc : Thread Cert.Kernel3Ideal.nD Cert.Kernel3Ideal.τ).loc Cert.Kernel3Ideal.main_v21)) (v8 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_v18_1) = v1 c
          ∧ r.2.mem ((c.tc : Thread Cert.Kernel3Ideal.nD Cert.Kernel3Ideal.τ).loc Cert.Kernel3Ideal.main_v18_2) = v2 c
          ∧ r.2.mem ((c.tc : Thread Cert.Kernel3Ideal.nD Cert.Kernel3Ideal.τ).loc Cert.Kernel3Ideal.main_v23) = v3 c
          ∧ r.2.mem ((c.tc : Thread Cert.Kernel3Ideal.nD Cert.Kernel3Ideal.τ).loc Cert.Kernel3Ideal.main_v22) = v4 c
          ∧ r.2.mem ((c.tc : Thread Cert.Kernel3Ideal.nD Cert.Kernel3Ideal.τ).loc Cert.Kernel3Ideal.main_v19) = v5 c
          ∧ r.2.mem ((c.tc : Thread Cert.Kernel3Ideal.nD Cert.Kernel3Ideal.τ).loc Cert.Kernel3Ideal.main_v20) = v6 c
          ∧ r.2.mem ((c.tc : Thread Cert.Kernel3Ideal.nD Cert.Kernel3Ideal.τ).loc Cert.Kernel3Ideal.main_v21) = v7 c
          ∧ r.2.mem ((c.tc : Thread Cert.Kernel3Ideal.nD Cert.Kernel3Ideal.τ).loc Cert.Kernel3Ideal.main_v17) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_v102) = v1 c
          ∧ r.2.mem ((c.tc : Thread Cert.Reference3Ideal.nD Cert.Reference3Ideal.τ).loc Cert.Reference3Ideal.main_v103) = v2 c
          ∧ r.2.mem ((c.tc : Thread Cert.Reference3Ideal.nD Cert.Reference3Ideal.τ).loc Cert.Reference3Ideal.main_v101) = v3 c
          ∧ r.2.mem ((c.tc : Thread Cert.Reference3Ideal.nD Cert.Reference3Ideal.τ).loc Cert.Reference3Ideal.main_v98) = v4 c
          ∧ r.2.mem ((c.tc : Thread Cert.Reference3Ideal.nD Cert.Reference3Ideal.τ).loc Cert.Reference3Ideal.main_v105) = v5 c
          ∧ r.2.mem ((c.tc : Thread Cert.Reference3Ideal.nD Cert.Reference3Ideal.τ).loc Cert.Reference3Ideal.main_v107) = v6 c
          ∧ r.2.mem ((c.tc : Thread Cert.Reference3Ideal.nD Cert.Reference3Ideal.τ).loc Cert.Reference3Ideal.main_v109) = v7 c
          ∧ r.2.mem ((c.tc : Thread Cert.Reference3Ideal.nD Cert.Reference3Ideal.τ).loc Cert.Reference3Ideal.main_v110) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v1)) (v1 : (c : Dev Cert.Kernel4Ideal.nD) → Buf (Elt Ideal) ((c.tc : Thread Cert.Kernel4Ideal.nD Cert.Kernel4Ideal.τ).loc Cert.Kernel4Ideal.main_v12_0)) (v2 : (c : Dev Cert.Kernel4Ideal.nD) → Buf (Elt Ideal) ((c.tc : Thread Cert.Kernel4Ideal.nD Cert.Kernel4Ideal.τ).loc Cert.Kernel4Ideal.main_v12_1)) (v3 : (c : Dev Cert.Kernel4Ideal.nD) → Buf (Elt Ideal) ((c.tc : Thread Cert.Kernel4Ideal.nD Cert.Kernel4Ideal.τ).loc Cert.Kernel4Ideal.main_v12_2)) (v4 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_v12_0) = v1 c
          ∧ r.2.mem ((c.tc : Thread Cert.Kernel4Ideal.nD Cert.Kernel4Ideal.τ).loc Cert.Kernel4Ideal.main_v12_1) = v2 c
          ∧ r.2.mem ((c.tc : Thread Cert.Kernel4Ideal.nD Cert.Kernel4Ideal.τ).loc Cert.Kernel4Ideal.main_v12_2) = v3 c
          ∧ r.2.mem ((c.tc : Thread Cert.Kernel4Ideal.nD Cert.Kernel4Ideal.τ).loc Cert.Kernel4Ideal.main_v10) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v45) = v1 c
          ∧ r.2.mem ((c.tc : Thread Cert.Reference4Ideal.nD Cert.Reference4Ideal.τ).loc Cert.Reference4Ideal.main_v46) = v2 c
          ∧ r.2.mem ((c.tc : Thread Cert.Reference4Ideal.nD Cert.Reference4Ideal.τ).loc Cert.Reference4Ideal.main_v28) = v3 c
          ∧ r.2.mem ((c.tc : Thread Cert.Reference4Ideal.nD Cert.Reference4Ideal.τ).loc Cert.Reference4Ideal.main_v48) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)
      ∧ m' ((c.tc : Thread Cert.Reference5Ideal.nD Cert.Reference5Ideal.τ).loc Cert.Reference5Ideal.main_arg17) = m ((c.tc : Thread Cert.Kernel5Ideal.nD Cert.Kernel5Ideal.τ).loc Cert.Kernel5Ideal.main_arg17)
      ∧ m' ((c.tc : Thread Cert.Reference5Ideal.nD Cert.Reference5Ideal.τ).loc Cert.Reference5Ideal.main_arg18) = m ((c.tc : Thread Cert.Kernel5Ideal.nD Cert.Kernel5Ideal.τ).loc Cert.Kernel5Ideal.main_arg18)
      ∧ m' ((c.tc : Thread Cert.Reference5Ideal.nD Cert.Reference5Ideal.τ).loc Cert.Reference5Ideal.main_arg19) = m ((c.tc : Thread Cert.Kernel5Ideal.nD Cert.Kernel5Ideal.τ).loc Cert.Kernel5Ideal.main_arg19)
      ∧ m' ((c.tc : Thread Cert.Reference5Ideal.nD Cert.Reference5Ideal.τ).loc Cert.Reference5Ideal.main_arg20) = m ((c.tc : Thread Cert.Kernel5Ideal.nD Cert.Kernel5Ideal.τ).loc Cert.Kernel5Ideal.main_arg20)
      ∧ m' ((c.tc : Thread Cert.Reference5Ideal.nD Cert.Reference5Ideal.τ).loc Cert.Reference5Ideal.main_arg21) = m ((c.tc : Thread Cert.Kernel5Ideal.nD Cert.Kernel5Ideal.τ).loc Cert.Kernel5Ideal.main_arg21)
      ∧ m' ((c.tc : Thread Cert.Reference5Ideal.nD Cert.Reference5Ideal.τ).loc Cert.Reference5Ideal.main_arg22) = m ((c.tc : Thread Cert.Kernel5Ideal.nD Cert.Kernel5Ideal.τ).loc Cert.Kernel5Ideal.main_arg22)
      ∧ m' ((c.tc : Thread Cert.Reference5Ideal.nD Cert.Reference5Ideal.τ).loc Cert.Reference5Ideal.main_arg23) = m ((c.tc : Thread Cert.Kernel5Ideal.nD Cert.Kernel5Ideal.τ).loc Cert.Kernel5Ideal.main_arg23)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)) (v5 : (c : Dev Cert.Kernel5Ideal.nD) → Buf (Elt Ideal) ((c.tc : Thread Cert.Kernel5Ideal.nD Cert.Kernel5Ideal.τ).loc Cert.Kernel5Ideal.main_v0_5)) (v6 : (c : Dev Cert.Kernel5Ideal.nD) → Buf (Elt Ideal) ((c.tc : Thread Cert.Kernel5Ideal.nD Cert.Kernel5Ideal.τ).loc Cert.Kernel5Ideal.main_v0_6)) (v7 : (c : Dev Cert.Kernel5Ideal.nD) → Buf (Elt Ideal) ((c.tc : Thread Cert.Kernel5Ideal.nD Cert.Kernel5Ideal.τ).loc Cert.Kernel5Ideal.main_v0_7)) (v8 : (c : Dev Cert.Kernel5Ideal.nD) → Buf (Elt Ideal) ((c.tc : Thread Cert.Kernel5Ideal.nD Cert.Kernel5Ideal.τ).loc Cert.Kernel5Ideal.main_v0_8)) (v9 : (c : Dev Cert.Kernel5Ideal.nD) → Buf (Elt Ideal) ((c.tc : Thread Cert.Kernel5Ideal.nD Cert.Kernel5Ideal.τ).loc Cert.Kernel5Ideal.main_v0_9)) (v10 : (c : Dev Cert.Kernel5Ideal.nD) → Buf (Elt Ideal) ((c.tc : Thread Cert.Kernel5Ideal.nD Cert.Kernel5Ideal.τ).loc Cert.Kernel5Ideal.main_v0_10)) (v11 : (c : Dev Cert.Kernel5Ideal.nD) → Buf (Elt Ideal) ((c.tc : Thread Cert.Kernel5Ideal.nD Cert.Kernel5Ideal.τ).loc Cert.Kernel5Ideal.main_v0_11)) (v12 : (c : Dev Cert.Kernel5Ideal.nD) → Buf (Elt Ideal) ((c.tc : Thread Cert.Kernel5Ideal.nD Cert.Kernel5Ideal.τ).loc Cert.Kernel5Ideal.main_v0_12)) (v13 : (c : Dev Cert.Kernel5Ideal.nD) → Buf (Elt Ideal) ((c.tc : Thread Cert.Kernel5Ideal.nD Cert.Kernel5Ideal.τ).loc Cert.Kernel5Ideal.main_v0_13)) (v14 : (c : Dev Cert.Kernel5Ideal.nD) → Buf (Elt Ideal) ((c.tc : Thread Cert.Kernel5Ideal.nD Cert.Kernel5Ideal.τ).loc Cert.Kernel5Ideal.main_v0_14)) (v15 : (c : Dev Cert.Kernel5Ideal.nD) → Buf (Elt Ideal) ((c.tc : Thread Cert.Kernel5Ideal.nD Cert.Kernel5Ideal.τ).loc Cert.Kernel5Ideal.main_v0_15)) (v16 : (c : Dev Cert.Kernel5Ideal.nD) → Buf (Elt Ideal) ((c.tc : Thread Cert.Kernel5Ideal.nD Cert.Kernel5Ideal.τ).loc Cert.Kernel5Ideal.main_v0_16)) (v17 : (c : Dev Cert.Kernel5Ideal.nD) → Buf (Elt Ideal) ((c.tc : Thread Cert.Kernel5Ideal.nD Cert.Kernel5Ideal.τ).loc Cert.Kernel5Ideal.main_v0_17)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_v0_5) = v5 c
          ∧ r.2.mem ((c.tc : Thread Cert.Kernel5Ideal.nD Cert.Kernel5Ideal.τ).loc Cert.Kernel5Ideal.main_v0_6) = v6 c
          ∧ r.2.mem ((c.tc : Thread Cert.Kernel5Ideal.nD Cert.Kernel5Ideal.τ).loc Cert.Kernel5Ideal.main_v0_7) = v7 c
          ∧ r.2.mem ((c.tc : Thread Cert.Kernel5Ideal.nD Cert.Kernel5Ideal.τ).loc Cert.Kernel5Ideal.main_v0_8) = v8 c
          ∧ r.2.mem ((c.tc : Thread Cert.Kernel5Ideal.nD Cert.Kernel5Ideal.τ).loc Cert.Kernel5Ideal.main_v0_9) = v9 c
          ∧ r.2.mem ((c.tc : Thread Cert.Kernel5Ideal.nD Cert.Kernel5Ideal.τ).loc Cert.Kernel5Ideal.main_v0_10) = v10 c
          ∧ r.2.mem ((c.tc : Thread Cert.Kernel5Ideal.nD Cert.Kernel5Ideal.τ).loc Cert.Kernel5Ideal.main_v0_11) = v11 c
          ∧ r.2.mem ((c.tc : Thread Cert.Kernel5Ideal.nD Cert.Kernel5Ideal.τ).loc Cert.Kernel5Ideal.main_v0_12) = v12 c
          ∧ r.2.mem ((c.tc : Thread Cert.Kernel5Ideal.nD Cert.Kernel5Ideal.τ).loc Cert.Kernel5Ideal.main_v0_13) = v13 c
          ∧ r.2.mem ((c.tc : Thread Cert.Kernel5Ideal.nD Cert.Kernel5Ideal.τ).loc Cert.Kernel5Ideal.main_v0_14) = v14 c
          ∧ r.2.mem ((c.tc : Thread Cert.Kernel5Ideal.nD Cert.Kernel5Ideal.τ).loc Cert.Kernel5Ideal.main_v0_15) = v15 c
          ∧ r.2.mem ((c.tc : Thread Cert.Kernel5Ideal.nD Cert.Kernel5Ideal.τ).loc Cert.Kernel5Ideal.main_v0_16) = v16 c
          ∧ r.2.mem ((c.tc : Thread Cert.Kernel5Ideal.nD Cert.Kernel5Ideal.τ).loc Cert.Kernel5Ideal.main_v0_17) = v17 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
          ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
          ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
          ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
          ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20)
          ∧ r.2.mem ((c.tc : Thread Cert.Kernel5Ideal.nD Cert.Kernel5Ideal.τ).loc Cert.Kernel5Ideal.main_arg21) = m ((c.tc : Thread Cert.Kernel5Ideal.nD Cert.Kernel5Ideal.τ).loc Cert.Kernel5Ideal.main_arg21)
          ∧ r.2.mem ((c.tc : Thread Cert.Kernel5Ideal.nD Cert.Kernel5Ideal.τ).loc Cert.Kernel5Ideal.main_arg22) = m ((c.tc : Thread Cert.Kernel5Ideal.nD Cert.Kernel5Ideal.τ).loc Cert.Kernel5Ideal.main_arg22)
          ∧ r.2.mem ((c.tc : Thread Cert.Kernel5Ideal.nD Cert.Kernel5Ideal.τ).loc Cert.Kernel5Ideal.main_arg23) = m ((c.tc : Thread Cert.Kernel5Ideal.nD Cert.Kernel5Ideal.τ).loc Cert.Kernel5Ideal.main_arg23))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_v47) = v3 c
          ∧ r.2.mem ((c.tc : Thread Cert.Reference5Ideal.nD Cert.Reference5Ideal.τ).loc Cert.Reference5Ideal.main_v28) = v4 c
          ∧ r.2.mem ((c.tc : Thread Cert.Reference5Ideal.nD Cert.Reference5Ideal.τ).loc Cert.Reference5Ideal.main_v34) = v5 c
          ∧ r.2.mem ((c.tc : Thread Cert.Reference5Ideal.nD Cert.Reference5Ideal.τ).loc Cert.Reference5Ideal.main_v71) = v6 c
          ∧ r.2.mem ((c.tc : Thread Cert.Reference5Ideal.nD Cert.Reference5Ideal.τ).loc Cert.Reference5Ideal.main_v52) = v7 c
          ∧ r.2.mem ((c.tc : Thread Cert.Reference5Ideal.nD Cert.Reference5Ideal.τ).loc Cert.Reference5Ideal.main_v58) = v8 c
          ∧ r.2.mem ((c.tc : Thread Cert.Reference5Ideal.nD Cert.Reference5Ideal.τ).loc Cert.Reference5Ideal.main_v95) = v9 c
          ∧ r.2.mem ((c.tc : Thread Cert.Reference5Ideal.nD Cert.Reference5Ideal.τ).loc Cert.Reference5Ideal.main_v76) = v10 c
          ∧ r.2.mem ((c.tc : Thread Cert.Reference5Ideal.nD Cert.Reference5Ideal.τ).loc Cert.Reference5Ideal.main_v82) = v11 c
          ∧ r.2.mem ((c.tc : Thread Cert.Reference5Ideal.nD Cert.Reference5Ideal.τ).loc Cert.Reference5Ideal.main_v119) = v12 c
          ∧ r.2.mem ((c.tc : Thread Cert.Reference5Ideal.nD Cert.Reference5Ideal.τ).loc Cert.Reference5Ideal.main_v100) = v13 c
          ∧ r.2.mem ((c.tc : Thread Cert.Reference5Ideal.nD Cert.Reference5Ideal.τ).loc Cert.Reference5Ideal.main_v106) = v14 c
          ∧ r.2.mem ((c.tc : Thread Cert.Reference5Ideal.nD Cert.Reference5Ideal.τ).loc Cert.Reference5Ideal.main_v143) = v15 c
          ∧ r.2.mem ((c.tc : Thread Cert.Reference5Ideal.nD Cert.Reference5Ideal.τ).loc Cert.Reference5Ideal.main_v124) = v16 c
          ∧ r.2.mem ((c.tc : Thread Cert.Reference5Ideal.nD Cert.Reference5Ideal.τ).loc Cert.Reference5Ideal.main_v130) = v17 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16)
          ∧ r.2.mem ((c.tc : Thread Cert.Reference5Ideal.nD Cert.Reference5Ideal.τ).loc Cert.Reference5Ideal.main_arg17) = m' ((c.tc : Thread Cert.Reference5Ideal.nD Cert.Reference5Ideal.τ).loc Cert.Reference5Ideal.main_arg17)
          ∧ r.2.mem ((c.tc : Thread Cert.Reference5Ideal.nD Cert.Reference5Ideal.τ).loc Cert.Reference5Ideal.main_arg18) = m' ((c.tc : Thread Cert.Reference5Ideal.nD Cert.Reference5Ideal.τ).loc Cert.Reference5Ideal.main_arg18)
          ∧ r.2.mem ((c.tc : Thread Cert.Reference5Ideal.nD Cert.Reference5Ideal.τ).loc Cert.Reference5Ideal.main_arg19) = m' ((c.tc : Thread Cert.Reference5Ideal.nD Cert.Reference5Ideal.τ).loc Cert.Reference5Ideal.main_arg19)
          ∧ r.2.mem ((c.tc : Thread Cert.Reference5Ideal.nD Cert.Reference5Ideal.τ).loc Cert.Reference5Ideal.main_arg20) = m' ((c.tc : Thread Cert.Reference5Ideal.nD Cert.Reference5Ideal.τ).loc Cert.Reference5Ideal.main_arg20)
          ∧ r.2.mem ((c.tc : Thread Cert.Reference5Ideal.nD Cert.Reference5Ideal.τ).loc Cert.Reference5Ideal.main_arg21) = m' ((c.tc : Thread Cert.Reference5Ideal.nD Cert.Reference5Ideal.τ).loc Cert.Reference5Ideal.main_arg21)
          ∧ r.2.mem ((c.tc : Thread Cert.Reference5Ideal.nD Cert.Reference5Ideal.τ).loc Cert.Reference5Ideal.main_arg22) = m' ((c.tc : Thread Cert.Reference5Ideal.nD Cert.Reference5Ideal.τ).loc Cert.Reference5Ideal.main_arg22)
          ∧ r.2.mem ((c.tc : Thread Cert.Reference5Ideal.nD Cert.Reference5Ideal.τ).loc Cert.Reference5Ideal.main_arg23) = m' ((c.tc : Thread Cert.Reference5Ideal.nD Cert.Reference5Ideal.τ).loc Cert.Reference5Ideal.main_arg23))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)
      ∧ m' ((c.tc : Thread Cert.Reference6Ideal.nD Cert.Reference6Ideal.τ).loc Cert.Reference6Ideal.main_arg17) = m ((c.tc : Thread Cert.Kernel6Ideal.nD Cert.Kernel6Ideal.τ).loc Cert.Kernel6Ideal.main_arg17)
      ∧ m' ((c.tc : Thread Cert.Reference6Ideal.nD Cert.Reference6Ideal.τ).loc Cert.Reference6Ideal.main_arg18) = m ((c.tc : Thread Cert.Kernel6Ideal.nD Cert.Kernel6Ideal.τ).loc Cert.Kernel6Ideal.main_arg18)
      ∧ m' ((c.tc : Thread Cert.Reference6Ideal.nD Cert.Reference6Ideal.τ).loc Cert.Reference6Ideal.main_arg19) = m ((c.tc : Thread Cert.Kernel6Ideal.nD Cert.Kernel6Ideal.τ).loc Cert.Kernel6Ideal.main_arg19)) →
    ∃ (v0 : (c : Dev Cert.Kernel6Ideal.nD) → Buf (Elt Ideal) ((c.tc : Thread Cert.Kernel6Ideal.nD Cert.Kernel6Ideal.τ).loc Cert.Kernel6Ideal.main_v16)) (v1 : (c : Dev Cert.Kernel6Ideal.nD) → Buf (Elt Ideal) ((c.tc : Thread Cert.Kernel6Ideal.nD Cert.Kernel6Ideal.τ).loc Cert.Kernel6Ideal.main_v17)) (v2 : (c : Dev Cert.Kernel6Ideal.nD) → Buf (Elt Ideal) ((c.tc : Thread Cert.Kernel6Ideal.nD Cert.Kernel6Ideal.τ).loc Cert.Kernel6Ideal.main_v18)) (v3 : (c : Dev Cert.Kernel6Ideal.nD) → Buf (Elt Ideal) ((c.tc : Thread Cert.Kernel6Ideal.nD Cert.Kernel6Ideal.τ).loc Cert.Kernel6Ideal.main_v19)) (v4 : (c : Dev Cert.Kernel6Ideal.nD) → Buf (Elt Ideal) ((c.tc : Thread Cert.Kernel6Ideal.nD Cert.Kernel6Ideal.τ).loc Cert.Kernel6Ideal.main_v20)) (v5 : (c : Dev Cert.Kernel6Ideal.nD) → Buf (Elt Ideal) ((c.tc : Thread Cert.Kernel6Ideal.nD Cert.Kernel6Ideal.τ).loc Cert.Kernel6Ideal.main_v21)) (v6 : (c : Dev Cert.Kernel6Ideal.nD) → Buf (Elt Ideal) ((c.tc : Thread Cert.Kernel6Ideal.nD Cert.Kernel6Ideal.τ).loc Cert.Kernel6Ideal.main_v22)) (v7 : (c : Dev Cert.Kernel6Ideal.nD) → Buf (Elt Ideal) ((c.tc : Thread Cert.Kernel6Ideal.nD Cert.Kernel6Ideal.τ).loc Cert.Kernel6Ideal.main_v23)) (v8 : (c : Dev Cert.Kernel6Ideal.nD) → Buf (Elt Ideal) ((c.tc : Thread Cert.Kernel6Ideal.nD Cert.Kernel6Ideal.τ).loc Cert.Kernel6Ideal.main_v24)) (v9 : (c : Dev Cert.Kernel6Ideal.nD) → Buf (Elt Ideal) ((c.tc : Thread Cert.Kernel6Ideal.nD Cert.Kernel6Ideal.τ).loc Cert.Kernel6Ideal.main_v25)) (v10 : (c : Dev Cert.Kernel6Ideal.nD) → Buf (Elt Ideal) ((c.tc : Thread Cert.Kernel6Ideal.nD Cert.Kernel6Ideal.τ).loc Cert.Kernel6Ideal.main_v26)) (v11 : (c : Dev Cert.Kernel6Ideal.nD) → Buf (Elt Ideal) ((c.tc : Thread Cert.Kernel6Ideal.nD Cert.Kernel6Ideal.τ).loc Cert.Kernel6Ideal.main_v27)) (v12 : (c : Dev Cert.Kernel6Ideal.nD) → Buf (Elt Ideal) ((c.tc : Thread Cert.Kernel6Ideal.nD Cert.Kernel6Ideal.τ).loc Cert.Kernel6Ideal.main_v28)) (v13 : (c : Dev Cert.Kernel6Ideal.nD) → Buf (Elt Ideal) ((c.tc : Thread Cert.Kernel6Ideal.nD Cert.Kernel6Ideal.τ).loc Cert.Kernel6Ideal.main_v29)) (v14 : (c : Dev Cert.Kernel6Ideal.nD) → Buf (Elt Ideal) ((c.tc : Thread Cert.Kernel6Ideal.nD Cert.Kernel6Ideal.τ).loc Cert.Kernel6Ideal.main_v30)) (v15 : (c : Dev Cert.Kernel6Ideal.nD) → Buf (Elt Ideal) ((c.tc : Thread Cert.Kernel6Ideal.nD Cert.Kernel6Ideal.τ).loc Cert.Kernel6Ideal.main_v31)) (v16 : (c : Dev Cert.Kernel6Ideal.nD) → Buf (Elt Ideal) ((c.tc : Thread Cert.Kernel6Ideal.nD Cert.Kernel6Ideal.τ).loc Cert.Kernel6Ideal.main_v32)) (v17 : (c : Dev Cert.Kernel6Ideal.nD) → Buf (Elt Ideal) ((c.tc : Thread Cert.Kernel6Ideal.nD Cert.Kernel6Ideal.τ).loc Cert.Kernel6Ideal.main_v33)) (v18 : (c : Dev Cert.Kernel6Ideal.nD) → Buf (Elt Ideal) ((c.tc : Thread Cert.Kernel6Ideal.nD Cert.Kernel6Ideal.τ).loc Cert.Kernel6Ideal.main_v34)) (v19 : (c : Dev Cert.Kernel6Ideal.nD) → Buf (Elt Ideal) ((c.tc : Thread Cert.Kernel6Ideal.nD Cert.Kernel6Ideal.τ).loc Cert.Kernel6Ideal.main_v35)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v16) = v0 c
          ∧ r.2.mem ((c.tc : Thread Cert.Kernel6Ideal.nD Cert.Kernel6Ideal.τ).loc Cert.Kernel6Ideal.main_v17) = v1 c
          ∧ r.2.mem ((c.tc : Thread Cert.Kernel6Ideal.nD Cert.Kernel6Ideal.τ).loc Cert.Kernel6Ideal.main_v18) = v2 c
          ∧ r.2.mem ((c.tc : Thread Cert.Kernel6Ideal.nD Cert.Kernel6Ideal.τ).loc Cert.Kernel6Ideal.main_v19) = v3 c
          ∧ r.2.mem ((c.tc : Thread Cert.Kernel6Ideal.nD Cert.Kernel6Ideal.τ).loc Cert.Kernel6Ideal.main_v20) = v4 c
          ∧ r.2.mem ((c.tc : Thread Cert.Kernel6Ideal.nD Cert.Kernel6Ideal.τ).loc Cert.Kernel6Ideal.main_v21) = v5 c
          ∧ r.2.mem ((c.tc : Thread Cert.Kernel6Ideal.nD Cert.Kernel6Ideal.τ).loc Cert.Kernel6Ideal.main_v22) = v6 c
          ∧ r.2.mem ((c.tc : Thread Cert.Kernel6Ideal.nD Cert.Kernel6Ideal.τ).loc Cert.Kernel6Ideal.main_v23) = v7 c
          ∧ r.2.mem ((c.tc : Thread Cert.Kernel6Ideal.nD Cert.Kernel6Ideal.τ).loc Cert.Kernel6Ideal.main_v24) = v8 c
          ∧ r.2.mem ((c.tc : Thread Cert.Kernel6Ideal.nD Cert.Kernel6Ideal.τ).loc Cert.Kernel6Ideal.main_v25) = v9 c
          ∧ r.2.mem ((c.tc : Thread Cert.Kernel6Ideal.nD Cert.Kernel6Ideal.τ).loc Cert.Kernel6Ideal.main_v26) = v10 c
          ∧ r.2.mem ((c.tc : Thread Cert.Kernel6Ideal.nD Cert.Kernel6Ideal.τ).loc Cert.Kernel6Ideal.main_v27) = v11 c
          ∧ r.2.mem ((c.tc : Thread Cert.Kernel6Ideal.nD Cert.Kernel6Ideal.τ).loc Cert.Kernel6Ideal.main_v28) = v12 c
          ∧ r.2.mem ((c.tc : Thread Cert.Kernel6Ideal.nD Cert.Kernel6Ideal.τ).loc Cert.Kernel6Ideal.main_v29) = v13 c
          ∧ r.2.mem ((c.tc : Thread Cert.Kernel6Ideal.nD Cert.Kernel6Ideal.τ).loc Cert.Kernel6Ideal.main_v30) = v14 c
          ∧ r.2.mem ((c.tc : Thread Cert.Kernel6Ideal.nD Cert.Kernel6Ideal.τ).loc Cert.Kernel6Ideal.main_v31) = v15 c
          ∧ r.2.mem ((c.tc : Thread Cert.Kernel6Ideal.nD Cert.Kernel6Ideal.τ).loc Cert.Kernel6Ideal.main_v32) = v16 c
          ∧ r.2.mem ((c.tc : Thread Cert.Kernel6Ideal.nD Cert.Kernel6Ideal.τ).loc Cert.Kernel6Ideal.main_v33) = v17 c
          ∧ r.2.mem ((c.tc : Thread Cert.Kernel6Ideal.nD Cert.Kernel6Ideal.τ).loc Cert.Kernel6Ideal.main_v34) = v18 c
          ∧ r.2.mem ((c.tc : Thread Cert.Kernel6Ideal.nD Cert.Kernel6Ideal.τ).loc Cert.Kernel6Ideal.main_v35) = v19 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
          ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
          ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
          ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
          ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_v5) = v1 c
          ∧ r.2.mem ((c.tc : Thread Cert.Reference6Ideal.nD Cert.Reference6Ideal.τ).loc Cert.Reference6Ideal.main_v11) = v2 c
          ∧ r.2.mem ((c.tc : Thread Cert.Reference6Ideal.nD Cert.Reference6Ideal.τ).loc Cert.Reference6Ideal.main_v0) = v3 c
          ∧ r.2.mem ((c.tc : Thread Cert.Reference6Ideal.nD Cert.Reference6Ideal.τ).loc Cert.Reference6Ideal.main_v49) = v4 c
          ∧ r.2.mem ((c.tc : Thread Cert.Reference6Ideal.nD Cert.Reference6Ideal.τ).loc Cert.Reference6Ideal.main_v30) = v5 c
          ∧ r.2.mem ((c.tc : Thread Cert.Reference6Ideal.nD Cert.Reference6Ideal.τ).loc Cert.Reference6Ideal.main_v36) = v6 c
          ∧ r.2.mem ((c.tc : Thread Cert.Reference6Ideal.nD Cert.Reference6Ideal.τ).loc Cert.Reference6Ideal.main_v25) = v7 c
          ∧ r.2.mem ((c.tc : Thread Cert.Reference6Ideal.nD Cert.Reference6Ideal.τ).loc Cert.Reference6Ideal.main_v74) = v8 c
          ∧ r.2.mem ((c.tc : Thread Cert.Reference6Ideal.nD Cert.Reference6Ideal.τ).loc Cert.Reference6Ideal.main_v55) = v9 c
          ∧ r.2.mem ((c.tc : Thread Cert.Reference6Ideal.nD Cert.Reference6Ideal.τ).loc Cert.Reference6Ideal.main_v61) = v10 c
          ∧ r.2.mem ((c.tc : Thread Cert.Reference6Ideal.nD Cert.Reference6Ideal.τ).loc Cert.Reference6Ideal.main_v50) = v11 c
          ∧ r.2.mem ((c.tc : Thread Cert.Reference6Ideal.nD Cert.Reference6Ideal.τ).loc Cert.Reference6Ideal.main_v99) = v12 c
          ∧ r.2.mem ((c.tc : Thread Cert.Reference6Ideal.nD Cert.Reference6Ideal.τ).loc Cert.Reference6Ideal.main_v80) = v13 c
          ∧ r.2.mem ((c.tc : Thread Cert.Reference6Ideal.nD Cert.Reference6Ideal.τ).loc Cert.Reference6Ideal.main_v86) = v14 c
          ∧ r.2.mem ((c.tc : Thread Cert.Reference6Ideal.nD Cert.Reference6Ideal.τ).loc Cert.Reference6Ideal.main_v75) = v15 c
          ∧ r.2.mem ((c.tc : Thread Cert.Reference6Ideal.nD Cert.Reference6Ideal.τ).loc Cert.Reference6Ideal.main_v124) = v16 c
          ∧ r.2.mem ((c.tc : Thread Cert.Reference6Ideal.nD Cert.Reference6Ideal.τ).loc Cert.Reference6Ideal.main_v105) = v17 c
          ∧ r.2.mem ((c.tc : Thread Cert.Reference6Ideal.nD Cert.Reference6Ideal.τ).loc Cert.Reference6Ideal.main_v111) = v18 c
          ∧ r.2.mem ((c.tc : Thread Cert.Reference6Ideal.nD Cert.Reference6Ideal.τ).loc Cert.Reference6Ideal.main_v100) = v19 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15)
          ∧ r.2.mem ((c.tc : Thread Cert.Reference6Ideal.nD Cert.Reference6Ideal.τ).loc Cert.Reference6Ideal.main_arg16) = m' ((c.tc : Thread Cert.Reference6Ideal.nD Cert.Reference6Ideal.τ).loc Cert.Reference6Ideal.main_arg16)
          ∧ r.2.mem ((c.tc : Thread Cert.Reference6Ideal.nD Cert.Reference6Ideal.τ).loc Cert.Reference6Ideal.main_arg17) = m' ((c.tc : Thread Cert.Reference6Ideal.nD Cert.Reference6Ideal.τ).loc Cert.Reference6Ideal.main_arg17)
          ∧ r.2.mem ((c.tc : Thread Cert.Reference6Ideal.nD Cert.Reference6Ideal.τ).loc Cert.Reference6Ideal.main_arg18) = m' ((c.tc : Thread Cert.Reference6Ideal.nD Cert.Reference6Ideal.τ).loc Cert.Reference6Ideal.main_arg18)
          ∧ r.2.mem ((c.tc : Thread Cert.Reference6Ideal.nD Cert.Reference6Ideal.τ).loc Cert.Reference6Ideal.main_arg19) = m' ((c.tc : Thread Cert.Reference6Ideal.nD Cert.Reference6Ideal.τ).loc Cert.Reference6Ideal.main_arg19))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v0_4)) (v5 : (c : Dev Cert.Kernel7Ideal.nD) → Buf (Elt Ideal) ((c.tc : Thread Cert.Kernel7Ideal.nD Cert.Kernel7Ideal.τ).loc Cert.Kernel7Ideal.main_v0_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v0_4) = v4 c
          ∧ r.2.mem ((c.tc : Thread Cert.Kernel7Ideal.nD Cert.Kernel7Ideal.τ).loc Cert.Kernel7Ideal.main_v0_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_v47) = v3 c
          ∧ r.2.mem ((c.tc : Thread Cert.Reference7Ideal.nD Cert.Reference7Ideal.τ).loc Cert.Reference7Ideal.main_v28) = v4 c
          ∧ r.2.mem ((c.tc : Thread Cert.Reference7Ideal.nD Cert.Reference7Ideal.τ).loc Cert.Reference7Ideal.main_v34) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v24) = v0 c
          ∧ r.2.mem ((c.tc : Thread Cert.Reference10Ideal.nD Cert.Reference10Ideal.τ).loc Cert.Reference10Ideal.main_v5) = v1 c
          ∧ r.2.mem ((c.tc : Thread Cert.Reference10Ideal.nD Cert.Reference10Ideal.τ).loc Cert.Reference10Ideal.main_v11) = v2 c
          ∧ r.2.mem ((c.tc : Thread Cert.Reference10Ideal.nD Cert.Reference10Ideal.τ).loc Cert.Reference10Ideal.main_v0) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)) (v4 : (c : Dev Cert.Kernel11Ideal.nD) → Buf (Elt Ideal) ((c.tc : Thread Cert.Kernel11Ideal.nD Cert.Kernel11Ideal.τ).loc Cert.Kernel11Ideal.main_v0_4)) (v5 : (c : Dev Cert.Kernel11Ideal.nD) → Buf (Elt Ideal) ((c.tc : Thread Cert.Kernel11Ideal.nD Cert.Kernel11Ideal.τ).loc Cert.Kernel11Ideal.main_v0_5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_v0_4) = v4 c
          ∧ r.2.mem ((c.tc : Thread Cert.Kernel11Ideal.nD Cert.Kernel11Ideal.τ).loc Cert.Kernel11Ideal.main_v0_5) = v5 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_v47) = v3 c
          ∧ r.2.mem ((c.tc : Thread Cert.Reference11Ideal.nD Cert.Reference11Ideal.τ).loc Cert.Reference11Ideal.main_v28) = v4 c
          ∧ r.2.mem ((c.tc : Thread Cert.Reference11Ideal.nD Cert.Reference11Ideal.τ).loc Cert.Reference11Ideal.main_v34) = v5 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)
      ∧ m' ((c.tc : Thread Cert.Reference13Ideal.nD Cert.Reference13Ideal.τ).loc Cert.Reference13Ideal.main_arg10) = m ((c.tc : Thread Cert.Kernel13Ideal.nD Cert.Kernel13Ideal.τ).loc Cert.Kernel13Ideal.main_arg10)
      ∧ m' ((c.tc : Thread Cert.Reference13Ideal.nD Cert.Reference13Ideal.τ).loc Cert.Reference13Ideal.main_arg11) = m ((c.tc : Thread Cert.Kernel13Ideal.nD Cert.Kernel13Ideal.τ).loc Cert.Kernel13Ideal.main_arg11)
      ∧ m' ((c.tc : Thread Cert.Reference13Ideal.nD Cert.Reference13Ideal.τ).loc Cert.Reference13Ideal.main_arg12) = m ((c.tc : Thread Cert.Kernel13Ideal.nD Cert.Kernel13Ideal.τ).loc Cert.Kernel13Ideal.main_arg12)
      ∧ m' ((c.tc : Thread Cert.Reference13Ideal.nD Cert.Reference13Ideal.τ).loc Cert.Reference13Ideal.main_arg13) = m ((c.tc : Thread Cert.Kernel13Ideal.nD Cert.Kernel13Ideal.τ).loc Cert.Kernel13Ideal.main_arg13)
      ∧ m' ((c.tc : Thread Cert.Reference13Ideal.nD Cert.Reference13Ideal.τ).loc Cert.Reference13Ideal.main_arg14) = m ((c.tc : Thread Cert.Kernel13Ideal.nD Cert.Kernel13Ideal.τ).loc Cert.Kernel13Ideal.main_arg14)
      ∧ m' ((c.tc : Thread Cert.Reference13Ideal.nD Cert.Reference13Ideal.τ).loc Cert.Reference13Ideal.main_arg15) = m ((c.tc : Thread Cert.Kernel13Ideal.nD Cert.Kernel13Ideal.τ).loc Cert.Kernel13Ideal.main_arg15)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)) (v4 : (c : Dev Cert.Kernel13Ideal.nD) → Buf (Elt Ideal) ((c.tc : Thread Cert.Kernel13Ideal.nD Cert.Kernel13Ideal.τ).loc Cert.Kernel13Ideal.main_v0_4)) (v5 : (c : Dev Cert.Kernel13Ideal.nD) → Buf (Elt Ideal) ((c.tc : Thread Cert.Kernel13Ideal.nD Cert.Kernel13Ideal.τ).loc Cert.Kernel13Ideal.main_v0_5)) (v6 : (c : Dev Cert.Kernel13Ideal.nD) → Buf (Elt Ideal) ((c.tc : Thread Cert.Kernel13Ideal.nD Cert.Kernel13Ideal.τ).loc Cert.Kernel13Ideal.main_v0_6)) (v7 : (c : Dev Cert.Kernel13Ideal.nD) → Buf (Elt Ideal) ((c.tc : Thread Cert.Kernel13Ideal.nD Cert.Kernel13Ideal.τ).loc Cert.Kernel13Ideal.main_v0_7)) (v8 : (c : Dev Cert.Kernel13Ideal.nD) → Buf (Elt Ideal) ((c.tc : Thread Cert.Kernel13Ideal.nD Cert.Kernel13Ideal.τ).loc Cert.Kernel13Ideal.main_v0_8)) (v9 : (c : Dev Cert.Kernel13Ideal.nD) → Buf (Elt Ideal) ((c.tc : Thread Cert.Kernel13Ideal.nD Cert.Kernel13Ideal.τ).loc Cert.Kernel13Ideal.main_v0_9)) (v10 : (c : Dev Cert.Kernel13Ideal.nD) → Buf (Elt Ideal) ((c.tc : Thread Cert.Kernel13Ideal.nD Cert.Kernel13Ideal.τ).loc Cert.Kernel13Ideal.main_v0_10)) (v11 : (c : Dev Cert.Kernel13Ideal.nD) → Buf (Elt Ideal) ((c.tc : Thread Cert.Kernel13Ideal.nD Cert.Kernel13Ideal.τ).loc Cert.Kernel13Ideal.main_v0_11)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_v0_4) = v4 c
          ∧ r.2.mem ((c.tc : Thread Cert.Kernel13Ideal.nD Cert.Kernel13Ideal.τ).loc Cert.Kernel13Ideal.main_v0_5) = v5 c
          ∧ r.2.mem ((c.tc : Thread Cert.Kernel13Ideal.nD Cert.Kernel13Ideal.τ).loc Cert.Kernel13Ideal.main_v0_6) = v6 c
          ∧ r.2.mem ((c.tc : Thread Cert.Kernel13Ideal.nD Cert.Kernel13Ideal.τ).loc Cert.Kernel13Ideal.main_v0_7) = v7 c
          ∧ r.2.mem ((c.tc : Thread Cert.Kernel13Ideal.nD Cert.Kernel13Ideal.τ).loc Cert.Kernel13Ideal.main_v0_8) = v8 c
          ∧ r.2.mem ((c.tc : Thread Cert.Kernel13Ideal.nD Cert.Kernel13Ideal.τ).loc Cert.Kernel13Ideal.main_v0_9) = v9 c
          ∧ r.2.mem ((c.tc : Thread Cert.Kernel13Ideal.nD Cert.Kernel13Ideal.τ).loc Cert.Kernel13Ideal.main_v0_10) = v10 c
          ∧ r.2.mem ((c.tc : Thread Cert.Kernel13Ideal.nD Cert.Kernel13Ideal.τ).loc Cert.Kernel13Ideal.main_v0_11) = v11 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
          ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
          ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
          ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
          ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13)
          ∧ r.2.mem ((c.tc : Thread Cert.Kernel13Ideal.nD Cert.Kernel13Ideal.τ).loc Cert.Kernel13Ideal.main_arg14) = m ((c.tc : Thread Cert.Kernel13Ideal.nD Cert.Kernel13Ideal.τ).loc Cert.Kernel13Ideal.main_arg14)
          ∧ r.2.mem ((c.tc : Thread Cert.Kernel13Ideal.nD Cert.Kernel13Ideal.τ).loc Cert.Kernel13Ideal.main_arg15) = m ((c.tc : Thread Cert.Kernel13Ideal.nD Cert.Kernel13Ideal.τ).loc Cert.Kernel13Ideal.main_arg15))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_v47) = v3 c
          ∧ r.2.mem ((c.tc : Thread Cert.Reference13Ideal.nD Cert.Reference13Ideal.τ).loc Cert.Reference13Ideal.main_v28) = v4 c
          ∧ r.2.mem ((c.tc : Thread Cert.Reference13Ideal.nD Cert.Reference13Ideal.τ).loc Cert.Reference13Ideal.main_v34) = v5 c
          ∧ r.2.mem ((c.tc : Thread Cert.Reference13Ideal.nD Cert.Reference13Ideal.τ).loc Cert.Reference13Ideal.main_v71) = v6 c
          ∧ r.2.mem ((c.tc : Thread Cert.Reference13Ideal.nD Cert.Reference13Ideal.τ).loc Cert.Reference13Ideal.main_v52) = v7 c
          ∧ r.2.mem ((c.tc : Thread Cert.Reference13Ideal.nD Cert.Reference13Ideal.τ).loc Cert.Reference13Ideal.main_v58) = v8 c
          ∧ r.2.mem ((c.tc : Thread Cert.Reference13Ideal.nD Cert.Reference13Ideal.τ).loc Cert.Reference13Ideal.main_v95) = v9 c
          ∧ r.2.mem ((c.tc : Thread Cert.Reference13Ideal.nD Cert.Reference13Ideal.τ).loc Cert.Reference13Ideal.main_v76) = v10 c
          ∧ r.2.mem ((c.tc : Thread Cert.Reference13Ideal.nD Cert.Reference13Ideal.τ).loc Cert.Reference13Ideal.main_v82) = v11 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9)
          ∧ r.2.mem ((c.tc : Thread Cert.Reference13Ideal.nD Cert.Reference13Ideal.τ).loc Cert.Reference13Ideal.main_arg10) = m' ((c.tc : Thread Cert.Reference13Ideal.nD Cert.Reference13Ideal.τ).loc Cert.Reference13Ideal.main_arg10)
          ∧ r.2.mem ((c.tc : Thread Cert.Reference13Ideal.nD Cert.Reference13Ideal.τ).loc Cert.Reference13Ideal.main_arg11) = m' ((c.tc : Thread Cert.Reference13Ideal.nD Cert.Reference13Ideal.τ).loc Cert.Reference13Ideal.main_arg11)
          ∧ r.2.mem ((c.tc : Thread Cert.Reference13Ideal.nD Cert.Reference13Ideal.τ).loc Cert.Reference13Ideal.main_arg12) = m' ((c.tc : Thread Cert.Reference13Ideal.nD Cert.Reference13Ideal.τ).loc Cert.Reference13Ideal.main_arg12)
          ∧ r.2.mem ((c.tc : Thread Cert.Reference13Ideal.nD Cert.Reference13Ideal.τ).loc Cert.Reference13Ideal.main_arg13) = m' ((c.tc : Thread Cert.Reference13Ideal.nD Cert.Reference13Ideal.τ).loc Cert.Reference13Ideal.main_arg13)
          ∧ r.2.mem ((c.tc : Thread Cert.Reference13Ideal.nD Cert.Reference13Ideal.τ).loc Cert.Reference13Ideal.main_arg14) = m' ((c.tc : Thread Cert.Reference13Ideal.nD Cert.Reference13Ideal.τ).loc Cert.Reference13Ideal.main_arg14)
          ∧ r.2.mem ((c.tc : Thread Cert.Reference13Ideal.nD Cert.Reference13Ideal.τ).loc Cert.Reference13Ideal.main_arg15) = m' ((c.tc : Thread Cert.Reference13Ideal.nD Cert.Reference13Ideal.τ).loc Cert.Reference13Ideal.main_arg15))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)) (v4 : (c : Dev Cert.Kernel15Ideal.nD) → Buf (Elt Ideal) ((c.tc : Thread Cert.Kernel15Ideal.nD Cert.Kernel15Ideal.τ).loc Cert.Kernel15Ideal.main_v0_4)) (v5 : (c : Dev Cert.Kernel15Ideal.nD) → Buf (Elt Ideal) ((c.tc : Thread Cert.Kernel15Ideal.nD Cert.Kernel15Ideal.τ).loc Cert.Kernel15Ideal.main_v0_5)) (v6 : (c : Dev Cert.Kernel15Ideal.nD) → Buf (Elt Ideal) ((c.tc : Thread Cert.Kernel15Ideal.nD Cert.Kernel15Ideal.τ).loc Cert.Kernel15Ideal.main_v0_6)) (v7 : (c : Dev Cert.Kernel15Ideal.nD) → Buf (Elt Ideal) ((c.tc : Thread Cert.Kernel15Ideal.nD Cert.Kernel15Ideal.τ).loc Cert.Kernel15Ideal.main_v0_7)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_v0_4) = v4 c
          ∧ r.2.mem ((c.tc : Thread Cert.Kernel15Ideal.nD Cert.Kernel15Ideal.τ).loc Cert.Kernel15Ideal.main_v0_5) = v5 c
          ∧ r.2.mem ((c.tc : Thread Cert.Kernel15Ideal.nD Cert.Kernel15Ideal.τ).loc Cert.Kernel15Ideal.main_v0_6) = v6 c
          ∧ r.2.mem ((c.tc : Thread Cert.Kernel15Ideal.nD Cert.Kernel15Ideal.τ).loc Cert.Kernel15Ideal.main_v0_7) = v7 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v24) = v0 c
          ∧ r.2.mem ((c.tc : Thread Cert.Reference15Ideal.nD Cert.Reference15Ideal.τ).loc Cert.Reference15Ideal.main_v5) = v1 c
          ∧ r.2.mem ((c.tc : Thread Cert.Reference15Ideal.nD Cert.Reference15Ideal.τ).loc Cert.Reference15Ideal.main_v11) = v2 c
          ∧ r.2.mem ((c.tc : Thread Cert.Reference15Ideal.nD Cert.Reference15Ideal.τ).loc Cert.Reference15Ideal.main_v0) = v3 c
          ∧ r.2.mem ((c.tc : Thread Cert.Reference15Ideal.nD Cert.Reference15Ideal.τ).loc Cert.Reference15Ideal.main_v49) = v4 c
          ∧ r.2.mem ((c.tc : Thread Cert.Reference15Ideal.nD Cert.Reference15Ideal.τ).loc Cert.Reference15Ideal.main_v30) = v5 c
          ∧ r.2.mem ((c.tc : Thread Cert.Reference15Ideal.nD Cert.Reference15Ideal.τ).loc Cert.Reference15Ideal.main_v36) = v6 c
          ∧ r.2.mem ((c.tc : Thread Cert.Reference15Ideal.nD Cert.Reference15Ideal.τ).loc Cert.Reference15Ideal.main_v25) = v7 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)
      ∧ m' ((c.tc : Thread Cert.Reference16Ideal.nD Cert.Reference16Ideal.τ).loc Cert.Reference16Ideal.main_arg8) = m ((c.tc : Thread Cert.Kernel16Ideal.nD Cert.Kernel16Ideal.τ).loc Cert.Kernel16Ideal.main_arg8)
      ∧ m' ((c.tc : Thread Cert.Reference16Ideal.nD Cert.Reference16Ideal.τ).loc Cert.Reference16Ideal.main_arg9) = m ((c.tc : Thread Cert.Kernel16Ideal.nD Cert.Kernel16Ideal.τ).loc Cert.Kernel16Ideal.main_arg9)
      ∧ m' ((c.tc : Thread Cert.Reference16Ideal.nD Cert.Reference16Ideal.τ).loc Cert.Reference16Ideal.main_arg10) = m ((c.tc : Thread Cert.Kernel16Ideal.nD Cert.Kernel16Ideal.τ).loc Cert.Kernel16Ideal.main_arg10)
      ∧ m' ((c.tc : Thread Cert.Reference16Ideal.nD Cert.Reference16Ideal.τ).loc Cert.Reference16Ideal.main_arg11) = m ((c.tc : Thread Cert.Kernel16Ideal.nD Cert.Kernel16Ideal.τ).loc Cert.Kernel16Ideal.main_arg11)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)) (v4 : (c : Dev Cert.Kernel16Ideal.nD) → Buf (Elt Ideal) ((c.tc : Thread Cert.Kernel16Ideal.nD Cert.Kernel16Ideal.τ).loc Cert.Kernel16Ideal.main_v0_4)) (v5 : (c : Dev Cert.Kernel16Ideal.nD) → Buf (Elt Ideal) ((c.tc : Thread Cert.Kernel16Ideal.nD Cert.Kernel16Ideal.τ).loc Cert.Kernel16Ideal.main_v0_5)) (v6 : (c : Dev Cert.Kernel16Ideal.nD) → Buf (Elt Ideal) ((c.tc : Thread Cert.Kernel16Ideal.nD Cert.Kernel16Ideal.τ).loc Cert.Kernel16Ideal.main_v0_6)) (v7 : (c : Dev Cert.Kernel16Ideal.nD) → Buf (Elt Ideal) ((c.tc : Thread Cert.Kernel16Ideal.nD Cert.Kernel16Ideal.τ).loc Cert.Kernel16Ideal.main_v0_7)) (v8 : (c : Dev Cert.Kernel16Ideal.nD) → Buf (Elt Ideal) ((c.tc : Thread Cert.Kernel16Ideal.nD Cert.Kernel16Ideal.τ).loc Cert.Kernel16Ideal.main_v0_8)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_v0_4) = v4 c
          ∧ r.2.mem ((c.tc : Thread Cert.Kernel16Ideal.nD Cert.Kernel16Ideal.τ).loc Cert.Kernel16Ideal.main_v0_5) = v5 c
          ∧ r.2.mem ((c.tc : Thread Cert.Kernel16Ideal.nD Cert.Kernel16Ideal.τ).loc Cert.Kernel16Ideal.main_v0_6) = v6 c
          ∧ r.2.mem ((c.tc : Thread Cert.Kernel16Ideal.nD Cert.Kernel16Ideal.τ).loc Cert.Kernel16Ideal.main_v0_7) = v7 c
          ∧ r.2.mem ((c.tc : Thread Cert.Kernel16Ideal.nD Cert.Kernel16Ideal.τ).loc Cert.Kernel16Ideal.main_v0_8) = v8 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
          ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
          ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
          ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10)
          ∧ r.2.mem ((c.tc : Thread Cert.Kernel16Ideal.nD Cert.Kernel16Ideal.τ).loc Cert.Kernel16Ideal.main_arg11) = m ((c.tc : Thread Cert.Kernel16Ideal.nD Cert.Kernel16Ideal.τ).loc Cert.Kernel16Ideal.main_arg11))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_v47) = v3 c
          ∧ r.2.mem ((c.tc : Thread Cert.Reference16Ideal.nD Cert.Reference16Ideal.τ).loc Cert.Reference16Ideal.main_v28) = v4 c
          ∧ r.2.mem ((c.tc : Thread Cert.Reference16Ideal.nD Cert.Reference16Ideal.τ).loc Cert.Reference16Ideal.main_v34) = v5 c
          ∧ r.2.mem ((c.tc : Thread Cert.Reference16Ideal.nD Cert.Reference16Ideal.τ).loc Cert.Reference16Ideal.main_v71) = v6 c
          ∧ r.2.mem ((c.tc : Thread Cert.Reference16Ideal.nD Cert.Reference16Ideal.τ).loc Cert.Reference16Ideal.main_v52) = v7 c
          ∧ r.2.mem ((c.tc : Thread Cert.Reference16Ideal.nD Cert.Reference16Ideal.τ).loc Cert.Reference16Ideal.main_v58) = v8 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7)
          ∧ r.2.mem ((c.tc : Thread Cert.Reference16Ideal.nD Cert.Reference16Ideal.τ).loc Cert.Reference16Ideal.main_arg8) = m' ((c.tc : Thread Cert.Reference16Ideal.nD Cert.Reference16Ideal.τ).loc Cert.Reference16Ideal.main_arg8)
          ∧ r.2.mem ((c.tc : Thread Cert.Reference16Ideal.nD Cert.Reference16Ideal.τ).loc Cert.Reference16Ideal.main_arg9) = m' ((c.tc : Thread Cert.Reference16Ideal.nD Cert.Reference16Ideal.τ).loc Cert.Reference16Ideal.main_arg9)
          ∧ r.2.mem ((c.tc : Thread Cert.Reference16Ideal.nD Cert.Reference16Ideal.τ).loc Cert.Reference16Ideal.main_arg10) = m' ((c.tc : Thread Cert.Reference16Ideal.nD Cert.Reference16Ideal.τ).loc Cert.Reference16Ideal.main_arg10)
          ∧ r.2.mem ((c.tc : Thread Cert.Reference16Ideal.nD Cert.Reference16Ideal.τ).loc Cert.Reference16Ideal.main_arg11) = m' ((c.tc : Thread Cert.Reference16Ideal.nD Cert.Reference16Ideal.τ).loc Cert.Reference16Ideal.main_arg11))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_v5) = v1 c
          ∧ r.2.mem ((c.tc : Thread Cert.Reference17Ideal.nD Cert.Reference17Ideal.τ).loc Cert.Reference17Ideal.main_v11) = v2 c
          ∧ r.2.mem ((c.tc : Thread Cert.Reference17Ideal.nD Cert.Reference17Ideal.τ).loc Cert.Reference17Ideal.main_v0) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite2 : Cert.Pre_finite2.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S4096x1024 : Shape := ⟨2, ![4096, 1024]⟩
abbrev S256x2048 : Shape := ⟨2, ![256, 2048]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S256x2048 : S_.BroadcastsInDim S256x2048 (![] : Fin 0 → Fin S256x2048.rank)

variable [Facts]

def fn {F : FTy → Type} [FloatOps F] (main_arg0 : FVec F S4096x1024 .bf16) (main_arg1 : FVec F S256x2048 .bf16) (main_arg2 : FVec F S4096x1024 .bf16) : IVec S4096x1024 1 × IVec S256x2048 1 × IVec S4096x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S256x2048 .f32 := (extf .f32 · bitsLt_bf16_f32) main_arg1
  let main_v5 : FVec F S256x2048 .f32 := Host.absf main_v4
  let main_cst_0 : FVec F S_ .f32 := constant S_ .f32 0x7F800000#32
  let main_v6 : FVec F S256x2048 .f32 := broadcastInDim S256x2048 ![] bcast_S_S256x2048 main_cst_0
  let main_v7 : IVec S256x2048 1 := cmpf .olt main_v5 main_v6
  let main_v8 : FVec F S4096x1024 .f32 := (extf .f32 · bitsLt_bf16_f32) main_arg2
  let main_v9 : FVec F S4096x1024 .f32 := Host.absf main_v8
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  (main_v3, main_v7, main_v11)
-- ==== Pre_finite2.lean ====
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bitsLt_bf16_f32 : FTy.bits .bf16 < FTy.bits .f32
  bcast_S_S2816x1024 : S_.BroadcastsInDim S2816x1024 (![] : Fin 0 → Fin S2816x1024.rank)

variable [Facts]

def fn_part1 {F : FTy → Type} [FloatOps F] (main_v2 : IVec S4096x1024 1) (main_v5 : IVec S1x1024 1) (main_v9 : IVec S2816x1024 1) (main_v13 : IVec S2816x1024 1) (main_v17 : IVec S2816x1024 1) (main_v18 : FVec F S4096x1024 .f32) : IVec S4096x1024 1 × IVec S1x1024 1 × IVec S2816x1024 1 × IVec S2816x1024 1 × IVec S2816x1024 1 × IVec S4096x1024 1 :=
  let main_cst_4 : FVec F S_ .f32 := constant S_ .f32 0x7F800000#32
  let main_v19 : FVec F S4096x1024 .f32 := broadcastInDim S4096x1024 ![] bcast_S_S4096x1024 main_cst_4
  let main_v20 : IVec S4096x1024 1 := cmpf .olt main_v18 main_v19
  (main_v2, main_v5, main_v9, main_v13, main_v17, main_v20)

def fn {F : FTy → Type} [FloatOps F] (main_arg0 : FVec F S4096x1024 .f32) (main_arg1 : FVec F S1x1024 .f32) (main_arg2 : FVec F S2816x1024 .bf16) (main_arg3 : FVec F S2816x1024 .bf16) (main_arg4 : FVec F S2816x1024 .bf16) (main_arg5 : FVec F S4096x1024 .f32) : IVec S4096x1024 1 × IVec S1x1024 1 × IVec S2816x1024 1 × IVec S2816x1024 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S2816x1024 .f32 := (extf .f32 · bitsLt_bf16_f32) main_arg2
  let main_v7 : FVec F S2816x1024 .f32 := Host.absf main_v6
  let main_cst_1 : FVec F S_ .f32 := constant S_ .f32 0x7F800000#32
  let main_v8 : FVec F S2816x1024 .f32 := broadcastInDim S2816x1024 ![] bcast_S_S2816x1024 main_cst_1
  let main_v9 : IVec S2816x1024 1 := cmpf .olt main_v7 main_v8
  let main_v10 : FVec F S2816x1024 .f32 := (extf .f32 · bitsLt_bf16_f32) main_arg3
  let main_v11 : FVec F S2816x1024 .f32 := Host.absf main_v10
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  let main_v14 : FVec F S2816x1024 .f32 := (extf .f32 · bitsLt_bf16_f32) main_arg4
  let main_v15 : FVec F S2816x1024 .f32 := Host.absf main_v14
  let main_cst_3 : FVec F S_ .f32 := constant S_ .f32 0x7F800000#32
  let main_v16 : FVec F S2816x1024 .f32 := broadcastInDim S2816x1024 ![] bcast_S_S2816x1024 main_cst_3
  let main_v17 : IVec S2816x1024 1 := cmpf .olt main_v15 main_v16
  let main_v18 : FVec F S4096x1024 .f32 := Host.absf main_arg5
  fn_part1 (F := F) main_v2 main_v5 main_v9 main_v13 main_v17 main_v18
-- ==== Pre_finite4.lean ====
abbrev S4096x1024 : Shape := ⟨2, ![4096, 1024]⟩
abbrev S1x1024 : Shape := ⟨2, ![1, 1024]⟩
abbrev S2816x1024 : Shape := ⟨2, ![2816, 1024]⟩
abbrev S4096x512 : Shape := ⟨2, ![4096, 512]⟩
abbrev S4096x256 : Shape := ⟨2, ![4096, 256]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bitsLt_bf16_f32 : FTy.bits .bf16 < FTy.bits .f32
  bcast_S_S2816x1024 : S_.BroadcastsInDim S2816x1024 (![] : Fin 0 → Fin S2816x1024.rank)
  bcast_S_S4096x512 : S_.BroadcastsInDim S4096x512 (![] : Fin 0 → Fin S4096x512.rank)
  bcast_S_S4096x256 : S_.BroadcastsInDim S4096x256 (![] : Fin 0 → Fin S4096x256.rank)

variable [Facts]

def fn_part1 {F : FTy → Type} [FloatOps F] (main_arg6 : FVec F S4096x1024 .bf16) (main_arg7 : FVec F S4096x1024 .f32) (main_v2 : IVec S4096x1024 1) (main_v5 : IVec S1x1024 1) (main_v9 : IVec S2816x1024 1) (main_v13 : IVec S4096x512 1) (main_v17 : IVec S4096x256 1) (main_v18 : FVec F S4096x1024 .f32) : IVec S4096x1024 1 × IVec S1x1024 1 × IVec S2816x1024 1 × IVec S4096x512 1 × IVec S4096x256 1 × IVec S4096x1024 1 × IVec S4096x1024 1 × IVec S4096x1024 1 :=
  let main_v19 : FVec F S4096x1024 .f32 := Host.absf main_v18
  let main_cst_4 : FVec F S_ .f32 := constant S_ .f32 0x7F800000#32
  let main_v20 : FVec F S4096x1024 .f32 := broadcastInDim S4096x1024 ![] bcast_S_S4096x1024 main_cst_4
  let main_v21 : IVec S4096x1024 1 := cmpf .olt main_v19 main_v20
  let main_v22 : FVec F S4096x1024 .f32 := (extf .f32 · bitsLt_bf16_f32) main_arg6
  let main_v23 : FVec F S4096x1024 .f32 := Host.absf main_v22
  let main_cst_5 : FVec F S_ .f32 := constant S_ .f32 0x7F800000#32
  let main_v24 : FVec F S4096x1024 .f32 := broadcastInDim S4096x1024 ![] bcast_S_S4096x1024 main_cst_5
  let main_v25 : IVec S4096x1024 1 := cmpf .olt main_v23 main_v24
  let main_v26 : FVec F S4096x1024 .f32 := Host.absf main_arg7
  let main_cst_6 : FVec F S_ .f32 := constant S_ .f32 0x7F800000#32
  let main_v27 : FVec F S4096x1024 .f32 := broadcastInDim S4096x1024 ![] bcast_S_S4096x1024 main_cst_6
  let main_v28 : IVec S4096x1024 1 := cmpf .olt main_v26 main_v27
  (main_v2, main_v5, main_v9, main_v13, main_v17, main_v21, main_v25, main_v28)

def fn {F : FTy → Type} [FloatOps F] (main_arg0 : FVec F S4096x1024 .f32) (main_arg1 : FVec F S1x1024 .f32) (main_arg2 : FVec F S2816x1024 .bf16) (main_arg3 : FVec F S4096x512 .bf16) (main_arg4 : FVec F S4096x256 .bf16) (main_arg5 : FVec F S4096x1024 .bf16) (main_arg6 : FVec F S4096x1024 .bf16) (main_arg7 : FVec F S4096x1024 .f32) : IVec S4096x1024 1 × IVec S1x1024 1 × IVec S2816x1024 1 × IVec S4096x512 1 × IVec S4096x256 1 × IVec S4096x1024 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S2816x1024 .f32 := (extf .f32 · bitsLt_bf16_f32) main_arg2
  let main_v7 : FVec F S2816x1024 .f32 := Host.absf main_v6
  let main_cst_1 : FVec F S_ .f32 := constant S_ .f32 0x7F800000#32
  let main_v8 : FVec F S2816x1024 .f32 := broadcastInDim S2816x1024 ![] bcast_S_S2816x1024 main_cst_1
  let main_v9 : IVec S2816x1024 1 := cmpf .olt main_v7 main_v8
  let main_v10 : FVec F S4096x512 .f32 := (extf .f32 · bitsLt_bf16_f32) main_arg3
  let main_v11 : FVec F S4096x512 .f32 := Host.absf main_v10
  let main_cst_2 : FVec F S_ .f32 := constant S_ .f32 0x7F800000#32
  let main_v12 : FVec F S4096x512 .f32 := broadcastInDim S4096x512 ![] bcast_S_S4096x512 main_cst_2
  let main_v13 : IVec S4096x512 1 := cmpf .olt main_v11 main_v12
  let main_v14 : FVec F S4096x256 .f32 := (extf .f32 · bitsLt_bf16_f32) main_arg4
  let main_v15 : FVec F S4096x256 .f32 := Host.absf main_v14
  let main_cst_3 : FVec F S_ .f32 := constant S_ .f32 0x7F800000#32
  let main_v16 : FVec F S4096x256 .f32 := broadcastInDim S4096x256 ![] bcast_S_S4096x256 main_cst_3
  let main_v17 : IVec S4096x256 1 := cmpf .olt main_v15 main_v16
  let main_v18 : FVec F S4096x1024 .f32 := (extf .f32 · bitsLt_bf16_f32) main_arg5
  fn_part1 (F := F) main_arg6 main_arg7 main_v2 main_v5 main_v9 main_v13 main_v17 main_v18
-- ==== Kernel.lean ====
abbrev S4096x1024 : Shape := ⟨2, ![4096, 1024]⟩
abbrev S256x2048 : Shape := ⟨2, ![256, 2048]⟩
abbrev S1024x1024 : Shape := ⟨2, ![1024, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S4096x1024, .bf16⟩
  | .hbm, ⟨4, _⟩ => ⟨S256x2048, .f32⟩
  | .local _ .vmem, ⟨0, _⟩ => ⟨S1024x1024, .bf16⟩
  | .local _ .vmem, ⟨1, _⟩ => ⟨S1024x1024, .bf16⟩
  | .local _ .vmem, ⟨2, _⟩ => ⟨S256x2048, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S256x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x1024 : Shape := ⟨2, ![4096, 1024]⟩
abbrev S256x2048 : Shape := ⟨2, ![256, 2048]⟩
abbrev S4096x4x256 : Shape := ⟨3, ![4096, 4, 256]⟩
abbrev S256x1024 : Shape := ⟨2, ![256, 1024]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 91
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S4096x1024, .f32⟩
  | .hbm, ⟨4, _⟩ => ⟨S256x2048, .f32⟩
  | .hbm, ⟨5, _⟩ => ⟨S4096x4x256, .f32⟩
  | .hbm, ⟨6, _⟩ => ⟨S256x1024, .f32⟩
  | .hbm, ⟨7, _⟩ => ⟨S256x4x256, .f32⟩
  | .hbm, ⟨8, _⟩ => ⟨S256x1024, .f32⟩
  | .hbm, ⟨9, _⟩ => ⟨S256x4x256, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x256, .f32⟩
  | .hbm, ⟨18, _⟩ => ⟨S4x4096x256, .i1⟩
  | .hbm, ⟨19, _⟩ => ⟨S4x4096x256, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .i1⟩
  | .hbm, ⟨28, _⟩ => ⟨S_, .f32⟩
  | .hbm, ⟨29, _⟩ => ⟨S4x4096, .f32⟩
  | .hbm, ⟨30, _⟩ => ⟨S4x4096, .i1⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .f32⟩
  | .hbm, ⟨38, _⟩ => ⟨S4x4096, .f32⟩
  | .hbm, ⟨39, _⟩ => ⟨S4x4096x1, .f32⟩
  | .hbm, ⟨40, _⟩ => ⟨S4x4096x256, .f32⟩
  | .hbm, ⟨41, _⟩ => ⟨S4x4096x256, .f32⟩
  | .hbm, ⟨42, _⟩ => ⟨S4x4096x256, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S4x4096x256, .f32⟩
  | .hbm, ⟨47, _⟩ => ⟨S4x4096x256, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x256x4096, .f32⟩
  | .hbm, ⟨53, _⟩ => ⟨S4096x4x256, .f32⟩
  | .hbm, ⟨54, _⟩ => ⟨S4096x1024, .f32⟩
  | .hbm, ⟨55, _⟩ => ⟨S4096x1024, .f32⟩
  | .hbm, ⟨56, _⟩ => ⟨S4096x4x256, .f32⟩
  | .hbm, ⟨57, _⟩ => ⟨S4x256x4096, .f32⟩
  | .hbm, ⟨58, _⟩ => ⟨S4x4096x256, .f32⟩
  | .hbm, ⟨59, _⟩ => ⟨S4x256x256, .f32⟩
  | .hbm, ⟨60, _⟩ => ⟨S256x4x256, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x1, .f32⟩
  | .hbm, ⟨68, _⟩ => ⟨S4x4096x256, .f32⟩
  | .hbm, ⟨69, _⟩ => ⟨S4x4096x256, .f32⟩
  | .hbm, ⟨70, _⟩ => ⟨S_, .f32⟩
  | .hbm, ⟨71, _⟩ => ⟨S4x4096, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S_, .f32⟩
  | .hbm, ⟨76, _⟩ => ⟨S4x4096x256, .f32⟩
  | .hbm, ⟨77, _⟩ => ⟨S4x4096x256, .f32⟩
  | .hbm, ⟨78, _⟩ => ⟨S4x256x256, .f32⟩
  | .hbm, ⟨79, _⟩ => ⟨S256x4x256, .f32⟩
  | .hbm, ⟨80, _⟩ => ⟨S4x4096x256, .f32⟩
  | .hbm, ⟨81, _⟩ => ⟨S4096x4x256, .f32⟩
  | .hbm, ⟨82, _⟩ => ⟨S256x1024, .f32⟩
  | .hbm, ⟨83, _⟩ => ⟨S_, .f32⟩
  | .hbm, ⟨84, _⟩ => ⟨S256x2048, .f32⟩
  | .hbm, ⟨85, _⟩ => ⟨S256x1024, .f32⟩
  | .hbm, ⟨86, _⟩ => ⟨S_, .f32⟩
  | .hbm, ⟨87, _⟩ => ⟨S256x2048, .f32⟩
  | .hbm, ⟨88, _⟩ => ⟨S256x2048, .f32⟩
  | .hbm, ⟨89, _⟩ => ⟨S4096x1024, .f32⟩
  | .hbm, ⟨90, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_v67 : Ref sig .tc := ⟨.hbm, 85, rfl⟩
abbrev main_cst_14 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S2816x1024 : Shape := ⟨2, ![2816, 1024]⟩
abbrev S1024x1024 : Shape := ⟨2, ![1024, 1024]⟩
abbrev S1024 : Shape := ⟨1, ![1024]⟩
abbrev S1024x1 : Shape := ⟨2, ![1024, 1]⟩
abbrev S4096x2816 : Shape := ⟨2, ![4096, 2816]⟩
abbrev S1408x1024 : Shape := ⟨2, ![1408, 1024]⟩
abbrev S1024x1408 : Shape := ⟨2, ![1024, 1408]⟩
abbrev S256x1024 : Shape := ⟨2, ![256, 1024]⟩
abbrev S256x1408 : Shape := ⟨2, ![256, 1408]⟩
abbrev S1024x2816 : Shape := ⟨2, ![1024, 2816]⟩
abbrev S2816x512 : Shape := ⟨2, ![2816, 512]⟩
abbrev S1024x512 : Shape := ⟨2, ![1024, 512]⟩
abbrev S256x2816 : Shape := ⟨2, ![256, 2816]⟩
abbrev S256x512 : Shape := ⟨2, ![256, 512]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 21
  | .vmem => 77
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S4096x1024, .f32⟩
  | .hbm, ⟨6, _⟩ => ⟨S4096x1024, .bf16⟩
  | .hbm, ⟨7, _⟩ => ⟨S4096x2816, .bf16⟩
  | .hbm, ⟨8, _⟩ => ⟨S4096x2816, .bf16⟩
  | .hbm, ⟨9, _⟩ => ⟨S4096x2816, .bf16⟩
  | .hbm, ⟨10, _⟩ => ⟨S4096x1024, .f32⟩
  | .hbm, ⟨11, _⟩ => ⟨S4096x1024, .bf16⟩
  | .hbm, ⟨12, _⟩ => ⟨S4096x2816, .bf16⟩
  | .hbm, ⟨13, _⟩ => ⟨S4096x2816, .bf16⟩
  | .hbm, ⟨14, _⟩ => ⟨S2816x1024, .bf16⟩
  | .hbm, ⟨15, _⟩ => ⟨S2816x1024, .bf16⟩
  | .hbm, ⟨16, _⟩ => ⟨S2816x1024, .bf16⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1408x1024, .bf16⟩
  | .local _ .vmem, ⟨8, _⟩ => ⟨S1408x1024, .bf16⟩
  | .local _ .vmem, ⟨9, _⟩ => ⟨S1408x1024, .bf16⟩
  | .local _ .vmem, ⟨10, _⟩ => ⟨S1408x1024, .bf16⟩
  | .local _ .vmem, ⟨11, _⟩ => ⟨S1024x1408, .bf16⟩
  | .local _ .vmem, ⟨12, _⟩ => ⟨S1024x1408, .bf16⟩
  | .local _ .vmem, ⟨13, _⟩ => ⟨S1024x1408, .bf16⟩
  | .local _ .vmem, ⟨14, _⟩ => ⟨S1024x1408, .bf16⟩
  | .local _ .vmem, ⟨15, _⟩ => ⟨S1024x1408, .bf16⟩
  | .local _ .vmem, ⟨16, _⟩ => ⟨S1024x1408, .bf16⟩
  | .local _ .vmem, ⟨17, _⟩ => ⟨S1024x2816, .bf16⟩
  | .local _ .vmem, ⟨18, _⟩ => ⟨S1024x2816, .bf16⟩
  | .local _ .vmem, ⟨19, _⟩ => ⟨S2816x512, .bf16⟩
  | .local _ .vmem, ⟨20, _⟩ => ⟨S2816x512, .bf16⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .vmem, ⟨24, _⟩ => ⟨S1024x512, .f32⟩
  | .local _ .vmem, ⟨25, _⟩ => ⟨S1024x1024, .bf16⟩
  | .local _ .vmem, ⟨26, _⟩ => ⟨S1024x1024, .bf16⟩
  | .local _ .vmem, ⟨27, _⟩ => ⟨S1408x1024, .bf16⟩
  | .local _ .vmem, ⟨28, _⟩ => ⟨S1408x1024, .bf16⟩
  | .local _ .vmem, ⟨29, _⟩ => ⟨S1024x1408, .bf16⟩
  | .local _ .vmem, ⟨30, _⟩ => ⟨S1024x1408, .bf16⟩
  | .local _ .vmem, ⟨31, _⟩ => ⟨S1024x1408, .bf16⟩
  | .local _ .vmem, ⟨32, _⟩ => ⟨S1024x1408, .bf16⟩
  | .local _ .vmem, ⟨33, _⟩ => ⟨S1024x1408, .bf16⟩
  | .local _ .vmem, ⟨34, _⟩ => ⟨S1024x1408, .bf16⟩
  | .local _ .vmem, ⟨35, _⟩ => ⟨S1024x1408, .bf16⟩
  | .local _ .vmem, ⟨36, _⟩ => ⟨S1024x1408, .bf16⟩
  | .local _ .vmem, ⟨37, _⟩ => ⟨S4096x1408, .bf16⟩
  | .local _ .vmem, ⟨38, _⟩ => ⟨S4096x1408, .bf16⟩
  | .local _ .vmem, ⟨39, _⟩ => ⟨S4096x512, .bf16⟩
  | .local _ .vmem, ⟨40, _⟩ => ⟨S4096x512, .bf16⟩
  | .local _ .vmem, ⟨41, _⟩ => ⟨S1408x512, .bf16⟩
  | .local _ .vmem, ⟨42, _⟩ => ⟨S1408x512, .bf16⟩
  | .local _ .vmem, ⟨43, _⟩ => ⟨S4096x1408, .bf16⟩
  | .local _ .vmem, ⟨44, _⟩ => ⟨S4096x1408, .bf16⟩
  | .local _ .vmem, ⟨45, _⟩ => ⟨S4096x512, .bf16⟩
  | .local _ .vmem, ⟨46, _⟩ => ⟨S4096x512, .bf16⟩
  | .local _ .vmem, ⟨47, _⟩ => ⟨S1408x512, .bf16⟩
  | .local _ .vmem, ⟨48, _⟩ => ⟨S1408x512, .bf16⟩
  | .local _ .vmem, ⟨49, _⟩ => ⟨S4096x1408, .bf16⟩
  | .local _ .vmem, ⟨50, _⟩ => ⟨S4096x1408, .bf16⟩
  | .local _ .vmem, ⟨51, _⟩ => ⟨S4096x512, .bf16⟩
  | .local _ .vmem, ⟨52, _⟩ => ⟨S4096x512, .bf16⟩
  | .local _ .vmem, ⟨53, _⟩ => ⟨S1408x512, .bf16⟩
  | .local _ .vmem, ⟨54, _⟩ => ⟨S1408x512, .bf16⟩
  | .local _ .vmem, ⟨55, _⟩ => ⟨S1024x2816, .bf16⟩
  | .local _ .vmem, ⟨56, _⟩ => ⟨S1024x2816, .bf16⟩
  | .local _ .vmem, ⟨57, _⟩ => ⟨S1024x2816, .bf16⟩
  | .local _ .vmem, ⟨58, _⟩ => ⟨S1024x2816, .bf16⟩
  | .local _ .vmem, ⟨59, _⟩ => ⟨S2816x512, .bf16⟩
  | .local _ .vmem, ⟨60, _⟩ => ⟨S2816x512, .bf16⟩
  | .local _ .vmem, ⟨61, _⟩ => ⟨S2816x512, .bf16⟩
  | .local _ .vmem, ⟨62, _⟩ => ⟨S2816x512, .bf16⟩
  | .local _ .vmem, ⟨63, _⟩ => ⟨S1024x512, .f32⟩
  | .local _ .vmem, ⟨64, _⟩ => ⟨S1024x512, .f32⟩
  | .local _ .vmem, ⟨65, _⟩ => ⟨S1024x1024, .f32⟩
  | .local _ .vmem, ⟨66, _⟩ => ⟨S1024x1024, .f32⟩
  | .local _ .vmem, ⟨67, _⟩ => ⟨S1x1024, .f32⟩
  | .local _ .vmem, ⟨68, _⟩ => ⟨S1024x1024, .f32⟩
  | .local _ .vmem, ⟨69, _⟩ => ⟨S1024x1024, .f32⟩
  | .local _ .vmem, ⟨70, _⟩ => ⟨S1024x1024, .f32⟩
  | .local _ .vmem, ⟨71, _⟩ => ⟨S1024x1024, .f32⟩
  | .local _ .vmem, ⟨72, _⟩ => ⟨S1024x1024, .f32⟩
  | .local _ .vmem, ⟨73, _⟩ => ⟨S1024x1024, .f32⟩
  | .local _ .vmem, ⟨74, _⟩ => ⟨S1024x1024, .bf16⟩
  | .local _ .vmem, ⟨75, _⟩ => ⟨S1024x1024, .bf16⟩
  | .local _ .vmem, ⟨76, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc3_stg4_0 : Ref sig .tc := ⟨.vmem, 33, rfl⟩
abbrev cc3_stg4_1 : Ref sig .tc := ⟨.vmem, 34, rfl⟩
abbrev cc3_stg5_0 : Ref sig .tc := ⟨.vmem, 35, rfl⟩
abbrev cc3_stg5_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg2_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg2_1 : Ref sig .tc := ⟨.vmem, 48, rfl⟩
abbrev cc6_stg0_0 : Ref sig .tc := ⟨.vmem, 49, rfl⟩
abbrev cc6_stg0_1 : Ref sig .tc := ⟨.vmem, 50, rfl⟩
abbrev cc6_stg1_0 : Ref sig .tc := ⟨.vmem, 51, rfl⟩
abbrev cc6_stg1_1 : Ref sig .tc := ⟨.vmem, 52, rfl⟩
abbrev cc6_stg2_0 : Ref sig .tc := ⟨.vmem, 53, rfl⟩
abbrev cc6_stg2_1 : Ref sig .tc := ⟨.vmem, 54, rfl⟩
abbrev cc7_stg0_0 : Ref sig .tc := ⟨.vmem, 55, rfl⟩
abbrev cc7_stg0_1 : Ref sig .tc := ⟨.vmem, 56, rfl⟩
abbrev cc7_stg1_0 : Ref sig .tc := ⟨.vmem, 57, rfl⟩
abbrev cc7_stg1_1 : Ref sig .tc := ⟨.vmem, 58, rfl⟩
abbrev cc7_stg2_0 : Ref sig .tc := ⟨.vmem, 59, rfl⟩
abbrev cc7_stg2_1 : Ref sig .tc := ⟨.vmem, 60, rfl⟩
abbrev cc7_stg3_0 : Ref sig .tc := ⟨.vmem, 61, rfl⟩
abbrev cc7_stg3_1 : Ref sig .tc := ⟨.vmem, 62, rfl⟩
abbrev cc7_stg4_0 : Ref sig .tc := ⟨.vmem, 63, rfl⟩
abbrev cc7_stg4_1 : Ref sig .tc := ⟨.vmem, 64, rfl⟩
abbrev cc8_stg0_0 : Ref sig .tc := ⟨.vmem, 65, rfl⟩
abbrev cc8_stg0_1 : Ref sig .tc := ⟨.vmem, 66, rfl⟩
abbrev cc8_stg1_0 : Ref sig .tc := ⟨.vmem, 67, rfl⟩
abbrev cc8_stg2_0 : Ref sig .tc := ⟨.vmem, 68, rfl⟩
abbrev cc8_stg2_1 : Ref sig .tc := ⟨.vmem, 69, rfl⟩
abbrev cc8_stg3_0 : Ref sig .tc := ⟨.vmem, 70, rfl⟩
abbrev cc8_stg3_1 : Ref sig .tc := ⟨.vmem, 71, rfl⟩
abbrev cc8_stg4_0 : Ref sig .tc := ⟨.vmem, 72, rfl⟩
abbrev cc8_stg4_1 : Ref sig .tc := ⟨.vmem, 73, rfl⟩
abbrev cc8_stg5_0 : Ref sig .tc := ⟨.vmem, 74, rfl⟩
abbrev cc8_stg5_1 : Ref sig .tc := ⟨.vmem, 75, rfl⟩
abbrev cc8_stg6_0 : Ref sig .tc := ⟨.vmem, 76, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem3_1 : DmaSem sig := 32
abbrev cc3_sem4_0 : DmaSem sig := 33
abbrev cc3_sem4_1 : DmaSem sig := 34
abbrev cc3_sem5_0 : DmaSem sig := 35
abbrev cc3_sem5_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem2_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem2_1 : DmaSem sig := 48
abbrev cc6_sem0_0 : DmaSem sig := 49
abbrev cc6_sem0_1 : DmaSem sig := 50
abbrev cc6_sem1_0 : DmaSem sig := 51
abbrev cc6_sem1_1 : DmaSem sig := 52
abbrev cc6_sem2_0 : DmaSem sig := 53
abbrev cc6_sem2_1 : DmaSem sig := 54
abbrev cc7_sem0_0 : DmaSem sig := 55
abbrev cc7_sem0_1 : DmaSem sig := 56
abbrev cc7_sem1_0 : DmaSem sig := 57
abbrev cc7_sem1_1 : DmaSem sig := 58
abbrev cc7_sem2_0 : DmaSem sig := 59
abbrev cc7_sem2_1 : DmaSem sig := 60
abbrev cc7_sem3_0 : DmaSem sig := 61
abbrev cc7_sem3_1 : DmaSem sig := 62
abbrev cc7_sem4_0 : DmaSem sig := 63
abbrev cc7_sem4_1 : DmaSem sig := 64
abbrev cc8_sem0_0 : DmaSem sig := 65
abbrev cc8_sem0_1 : DmaSem sig := 66
abbrev cc8_sem1_0 : DmaSem sig := 67
abbrev cc8_sem2_0 : DmaSem sig := 68
abbrev cc8_sem2_1 : DmaSem sig := 69
abbrev cc8_sem3_0 : DmaSem sig := 70
abbrev cc8_sem3_1 : DmaSem sig := 71
abbrev cc8_sem4_0 : DmaSem sig := 72
abbrev cc8_sem4_1 : DmaSem sig := 73
abbrev cc8_sem5_0 : DmaSem sig := 74
abbrev cc8_sem5_1 : DmaSem sig := 75
abbrev cc8_sem6_0 : DmaSem sig := 76

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1408x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![4, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage2_0 : Fin 2 → Memref sig .tc .vmem S1024x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2816x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![4, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1408x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1408 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x1408 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1024x1408 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1024x1408 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨2, ![2, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage4_0 : Fin 2 → Memref sig .tc .vmem S4096x1408 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1408x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![2, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage5_0 : Fin 2 → Memref sig .tc .vmem S4096x1408 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1408x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![2, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage6_0 : Fin 2 → Memref sig .tc .vmem S4096x1408 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S4096x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1408x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![4, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage7_0 : Fin 2 → Memref sig .tc .vmem S1024x2816 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S1024x2816 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S2816x512 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S2816x512 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![false, true]

abbrev stage7_4 : Fin 2 → Memref sig .tc .vmem S1024x512 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S1024x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x1024 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S1024x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S1024x1024 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S1024x1024 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S1024x1024 .bf16 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 1 → Memref sig .tc .vmem S1x1024 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]
-- ==== Reference2Ideal.lean ====
abbrev S4096x1024 : Shape := ⟨2, ![4096, 1024]⟩
abbrev S1x1024 : Shape := ⟨2, ![1, 1024]⟩
abbrev S2816x1024 : Shape := ⟨2, ![2816, 1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩

abbrev nBuf : Space → Nat
  | .hbm => 101
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S4096x1024, .f32⟩
  | .hbm, ⟨6, _⟩ => ⟨S2816x1024, .f32⟩
  | .hbm, ⟨7, _⟩ => ⟨S1024x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S1024x2816, .f32⟩
  | .hbm, ⟨56, _⟩ => ⟨S2816x1024, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S2816x1024, .f32⟩
  | .hbm, ⟨61, _⟩ => ⟨S1024x2816, .f32⟩
  | .hbm, ⟨62, _⟩ => ⟨S4096x1024, .f32⟩
  | .hbm, ⟨63, _⟩ => ⟨S4096x2816, .f32⟩
  | .hbm, ⟨64, _⟩ => ⟨S4096x2816, .f32⟩
  | .hbm, ⟨65, _⟩ => ⟨S4096x2816, .f32⟩
  | .hbm, ⟨66, _⟩ => ⟨S4096x2816, .f32⟩
  | .hbm, ⟨67, _⟩ => ⟨S2816x1024, .f32⟩
  | .hbm, ⟨68, _⟩ => ⟨S1024x2816, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .bf16⟩
  | .hbm, ⟨96, _⟩ => ⟨S2816x1024, .f32⟩
  | .hbm, ⟨97, _⟩ => ⟨S2816x1024, .bf16⟩
  | .hbm, ⟨98, _⟩ => ⟨S2816x1024, .f32⟩
  | .hbm, ⟨99, _⟩ => ⟨S2816x1024, .bf16⟩
  | .hbm, ⟨100, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v21_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v21_1 : Ref sig .tc := ⟨.hbm, 42, rfl⟩
abbrev main_v21_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_5 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_6 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_7 : Ref sig .tc := ⟨.hbm, 85, rfl⟩
abbrev main_v56 : Ref sig .tc := ⟨.hbm, 86, rfl⟩
abbrev main_v57 : Ref sig .tc := ⟨.hbm, 87, rfl⟩
abbrev main_cst_8 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩

abbrev nD : Nat := 1
abbrev τ : Topo := Topo.v7x

variable {F : FTy → Type} [FloatOps F]
-- ==== Kernel3.lean ====
abbrev S4096x1024 : Shape := ⟨2, ![4096, 1024]⟩
abbrev S4096x2816 : Shape := ⟨2, ![4096, 2816]⟩
abbrev S4096x512 : Shape := ⟨2, ![4096, 512]⟩
abbrev S4096x256 : Shape := ⟨2, ![4096, 256]⟩
abbrev S1024x512 : Shape := ⟨2, ![1024, 512]⟩
abbrev S1024x256 : Shape := ⟨2, ![1024, 256]⟩
abbrev S1024x1024 : Shape := ⟨2, ![1024, 1024]⟩
abbrev S_ : Shape := ⟨0, ![]⟩
abbrev S2048x512 : Shape := ⟨2, ![2048, 512]⟩
abbrev S2048x256 : Shape := ⟨2, ![2048, 256]⟩
abbrev S256x512 : Shape := ⟨2, ![256, 512]⟩
abbrev S256x256 : Shape := ⟨2, ![256, 256]⟩
abbrev S2048x1024 : Shape := ⟨2, ![2048, 1024]⟩
abbrev S256x1024 : Shape := ⟨2, ![256, 1024]⟩

abbrev nBuf : Space → Nat
  | .hbm => 41
  | .vmem => 82
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x512, .bf16⟩
  | .hbm, ⟨3, _⟩ => ⟨S4096x256, .f32⟩
  | .hbm, ⟨4, _⟩ => ⟨S1024x512, .bf16⟩
  | .hbm, ⟨5, _⟩ => ⟨S1024x256, .bf16⟩
  | .hbm, ⟨6, _⟩ => ⟨S1024x256, .bf16⟩
  | .hbm, ⟨7, _⟩ => ⟨S1024x1024, .bf16⟩
  | .hbm, ⟨8, _⟩ => ⟨S4096x1024, .f32⟩
  | .hbm, ⟨9, _⟩ => ⟨S4096x256, .f32⟩
  | .hbm, ⟨10, _⟩ => ⟨S4096x256, .f32⟩
  | .hbm, ⟨11, _⟩ => ⟨S_, .f32⟩
  | .hbm, ⟨12, _⟩ => ⟨S4096x256, .f32⟩
  | .hbm, ⟨13, _⟩ => ⟨S4096x256, .f32⟩
  | .hbm, ⟨14, _⟩ => ⟨S4096x256, .f32⟩
  | .hbm, ⟨15, _⟩ => ⟨S_, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S_, .f32⟩
  | .hbm, ⟨20, _⟩ => ⟨S4096x256, .f32⟩
  | .hbm, ⟨21, _⟩ => ⟨S4096x256, .f32⟩
  | .hbm, ⟨22, _⟩ => ⟨S_, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S4096x256, .bf16⟩
  | .hbm, ⟨27, _⟩ => ⟨S4096x1024, .bf16⟩
  | .hbm, ⟨28, _⟩ => ⟨S4096x1024, .bf16⟩
  | .hbm, ⟨29, _⟩ => ⟨S4096x1024, .f32⟩
  | .hbm, ⟨30, _⟩ => ⟨S1024x1024, .bf16⟩
  | .hbm, ⟨31, _⟩ => ⟨S4096x1024, .bf16⟩
  | .hbm, ⟨32, _⟩ => ⟨S4096x1024, .bf16⟩
  | .hbm, ⟨33, _⟩ => ⟨S4096x1024, .bf16⟩
  | .hbm, ⟨34, _⟩ => ⟨S4096x1024, .bf16⟩
  | .hbm, ⟨35, _⟩ => ⟨S4096x1024, .bf16⟩
  | .hbm, ⟨36, _⟩ => ⟨S1024x512, .bf16⟩
  | .hbm, ⟨37, _⟩ => ⟨S1024x256, .bf16⟩
  | .hbm, ⟨38, _⟩ => ⟨S1024x256, .bf16⟩
  | .hbm, ⟨39, _⟩ => ⟨S4096x256, .f32⟩
  | .hbm, ⟨40, _⟩ => ⟨S4096x512, .f32⟩
  | .local _ .vmem, ⟨0, _⟩ => ⟨S2048x512, .bf16⟩
  | .local _ .vmem, ⟨1, _⟩ => ⟨S2048x512, .bf16⟩
  | .local _ .vmem, ⟨2, _⟩ => ⟨S2048x256, .bf16⟩
  | .local _ .vmem, ⟨3, _⟩ => ⟨S2048x256, .bf16⟩
  | .local _ .vmem, ⟨4, _⟩ => ⟨S256x512, .bf16⟩
  | .local _ .vmem, ⟨5, _⟩ => ⟨S256x512, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .bf16⟩
  | .local _ .vmem, ⟨15, _⟩ => ⟨S2048x256, .bf16⟩
  | .local _ .vmem, ⟨16, _⟩ => ⟨S2048x1024, .bf16⟩
  | .local _ .vmem, ⟨17, _⟩ => ⟨S2048x1024, .bf16⟩
  | .local _ .vmem, ⟨18, _⟩ => ⟨S1024x512, .bf16⟩
  | .local _ .vmem, ⟨19, _⟩ => ⟨S1024x512, .bf16⟩
  | .local _ .vmem, ⟨20, _⟩ => ⟨S2048x512, .f32⟩
  | .local _ .vmem, ⟨21, _⟩ => ⟨S2048x512, .f32⟩
  | .local _ .vmem, ⟨22, _⟩ => ⟨S2048x512, .f32⟩
  | .local _ .vmem, ⟨23, _⟩ => ⟨S2048x512, .f32⟩
  | .local _ .vmem, ⟨24, _⟩ => ⟨S4096x1024, .bf16⟩
  | .local _ .vmem, ⟨25, _⟩ => ⟨S4096x512, .bf16⟩
  | .local _ .vmem, ⟨26, _⟩ => ⟨S4096x512, .bf16⟩
  | .local _ .vmem, ⟨27, _⟩ => ⟨S1024x512, .bf16⟩
  | .local _ .vmem, ⟨28, _⟩ => ⟨S1024x512, .bf16⟩
  | .local _ .vmem, ⟨29, _⟩ => ⟨S2048x1024, .bf16⟩
  | .local _ .vmem, ⟨30, _⟩ => ⟨S2048x1024, .bf16⟩
  | .local _ .vmem, ⟨31, _⟩ => ⟨S2048x512, .bf16⟩
  | .local _ .vmem, ⟨32, _⟩ => ⟨S2048x512, .bf16⟩
  | .local _ .vmem, ⟨33, _⟩ => ⟨S2048x256, .bf16⟩
  | .local _ .vmem, ⟨34, _⟩ => ⟨S2048x256, .bf16⟩
  | .local _ .vmem, ⟨35, _⟩ => ⟨S256x1024, .bf16⟩
  | .local _ .vmem, ⟨36, _⟩ => ⟨S256x1024, .bf16⟩
  | .local _ .vmem, ⟨37, _⟩ => ⟨S256x512, .bf16⟩
  | .local _ .vmem, ⟨38, _⟩ => ⟨S256x512, .bf16⟩
  | .local _ .vmem, ⟨39, _⟩ => ⟨S256x256, .bf16⟩
  | .local _ .vmem, ⟨40, _⟩ => ⟨S256x256, .bf16⟩
  | .local _ .vmem, ⟨41, _⟩ => ⟨S256x256, .bf16⟩
  | .local _ .vmem, ⟨42, _⟩ => ⟨S256x256, .bf16⟩
  | .local _ .vmem, ⟨43, _⟩ => ⟨S2048x256, .f32⟩
  | .local _ .vmem, ⟨44, _⟩ => ⟨S2048x256, .f32⟩
  | .local _ .vmem, ⟨45, _⟩ => ⟨S2048x256, .f32⟩
  | .local _ .vmem, ⟨46, _⟩ => ⟨S2048x256, .f32⟩
  | .local _ .vmem, ⟨47, _⟩ => ⟨S2048x256, .bf16⟩
  | .local _ .vmem, ⟨48, _⟩ => ⟨S2048x256, .bf16⟩
  | .local _ .vmem, ⟨49, _⟩ => ⟨S2048x256, .bf16⟩
  | .local _ .vmem, ⟨50, _⟩ => ⟨S2048x256, .bf16⟩
  | .local _ .vmem, ⟨51, _⟩ => ⟨S2048x256, .bf16⟩
  | .local _ .vmem, ⟨52, _⟩ => ⟨S2048x256, .bf16⟩
  | .local _ .vmem, ⟨53, _⟩ => ⟨S2048x256, .bf16⟩
  | .local _ .vmem, ⟨54, _⟩ => ⟨S2048x256, .bf16⟩
  | .local _ .vmem, ⟨55, _⟩ => ⟨S2048x256, .bf16⟩
  | .local _ .vmem, ⟨56, _⟩ => ⟨S2048x256, .bf16⟩
  | .local _ .vmem, ⟨57, _⟩ => ⟨S4096x1024, .bf16⟩
  | .local _ .vmem, ⟨58, _⟩ => ⟨S4096x512, .bf16⟩
  | .local _ .vmem, ⟨59, _⟩ => ⟨S1024x512, .bf16⟩
  | .local _ .vmem, ⟨60, _⟩ => ⟨S4096x1024, .bf16⟩
  | .local _ .vmem, ⟨61, _⟩ => ⟨S4096x256, .bf16⟩
  | .local _ .vmem, ⟨62, _⟩ => ⟨S1024x256, .bf16⟩
  | .local _ .vmem, ⟨63, _⟩ => ⟨S4096x1024, .bf16⟩
  | .local _ .vmem, ⟨64, _⟩ => ⟨S4096x256, .bf16⟩
  | .local _ .vmem, ⟨65, _⟩ => ⟨S1024x256, .bf16⟩
  | .local _ .vmem, ⟨66, _⟩ => ⟨S1024x1024, .bf16⟩
  | .local _ .vmem, ⟨67, _⟩ => ⟨S1024x1024, .bf16⟩
  | .local _ .vmem, ⟨68, _⟩ => ⟨S1024x1024, .bf16⟩
  | .local _ .vmem, ⟨69, _⟩ => ⟨S1024x1024, .bf16⟩
  | .local _ .vmem, ⟨70, _⟩ => ⟨S1024x256, .bf16⟩
  | .local _ .vmem, ⟨71, _⟩ => ⟨S1024x256, .bf16⟩
  | .local _ .vmem, ⟨72, _⟩ => ⟨S1024x256, .f32⟩
  | .local _ .vmem, ⟨73, _⟩ => ⟨S1024x256, .f32⟩
  | .local _ .vmem, ⟨74, _⟩ => ⟨S1024x256, .f32⟩
  | .local _ .vmem, ⟨75, _⟩ => ⟨S1024x256, .f32⟩
  | .local _ .vmem, ⟨76, _⟩ => ⟨S2048x1024, .bf16⟩
  | .local _ .vmem, ⟨77, _⟩ => ⟨S2048x1024, .bf16⟩
  | .local _ .vmem, ⟨78, _⟩ => ⟨S1024x256, .bf16⟩
  | .local _ .vmem, ⟨79, _⟩ => ⟨S1024x256, .bf16⟩
  | .local _ .vmem, ⟨80, _⟩ => ⟨S2048x256, .f32⟩
  | .local _ .vmem, ⟨81, _⟩ => ⟨S2048x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v18_3 : Ref sig .tc := ⟨.hbm, 34, rfl⟩
abbrev main_v18_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc2_stg0_0 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc3_stg4_0 : Ref sig .tc := ⟨.vmem, 37, rfl⟩
abbrev cc3_stg4_1 : Ref sig .tc := ⟨.vmem, 38, rfl⟩
abbrev cc3_stg5_0 : Ref sig .tc := ⟨.vmem, 39, rfl⟩
abbrev cc3_stg5_1 : Ref sig .tc := ⟨.vmem, 40, rfl⟩
abbrev cc3_stg6_0 : Ref sig .tc := ⟨.vmem, 41, rfl⟩
abbrev cc3_stg6_1 : Ref sig .tc := ⟨.vmem, 42, rfl⟩
abbrev cc3_stg7_0 : Ref sig .tc := ⟨.vmem, 43, rfl⟩
abbrev cc3_stg7_1 : Ref sig .tc := ⟨.vmem, 44, rfl⟩
abbrev cc3_stg8_0 : Ref sig .tc := ⟨.vmem, 45, rfl⟩
abbrev cc3_stg8_1 : Ref sig .tc := ⟨.vmem, 46, rfl⟩
abbrev cc3_stg9_0 : Ref sig .tc := ⟨.vmem, 47, rfl⟩
abbrev cc3_stg9_1 : Ref sig .tc := ⟨.vmem, 48, rfl⟩
abbrev cc3_stg10_0 : Ref sig .tc := ⟨.vmem, 49, rfl⟩
abbrev cc3_stg10_1 : Ref sig .tc := ⟨.vmem, 50, rfl⟩
abbrev cc3_stg11_0 : Ref sig .tc := ⟨.vmem, 51, rfl⟩
abbrev cc3_stg11_1 : Ref sig .tc := ⟨.vmem, 52, rfl⟩
abbrev cc3_stg12_0 : Ref sig .tc := ⟨.vmem, 53, rfl⟩
abbrev cc3_stg12_1 : Ref sig .tc := ⟨.vmem, 54, rfl⟩
abbrev cc3_stg13_0 : Ref sig .tc := ⟨.vmem, 55, rfl⟩
abbrev cc3_stg13_1 : Ref sig .tc := ⟨.vmem, 56, rfl⟩
abbrev cc4_stg0_0 : Ref sig .tc := ⟨.vmem, 57, rfl⟩
abbrev cc4_stg1_0 : Ref sig .tc := ⟨.vmem, 58, rfl⟩
abbrev cc4_stg2_0 : Ref sig .tc := ⟨.vmem, 59, rfl⟩
abbrev cc5_stg0_0 : Ref sig .tc := ⟨.vmem, 60, rfl⟩
abbrev cc5_stg1_0 : Ref sig .tc := ⟨.vmem, 61, rfl⟩
abbrev cc5_stg2_0 : Ref sig .tc := ⟨.vmem, 62, rfl⟩
abbrev cc6_stg0_0 : Ref sig .tc := ⟨.vmem, 63, rfl⟩
abbrev cc6_stg1_0 : Ref sig .tc := ⟨.vmem, 64, rfl⟩
abbrev cc6_stg2_0 : Ref sig .tc := ⟨.vmem, 65, rfl⟩
abbrev cc7_stg0_0 : Ref sig .tc := ⟨.vmem, 66, rfl⟩
abbrev cc7_stg0_1 : Ref sig .tc := ⟨.vmem, 67, rfl⟩
abbrev cc7_stg1_0 : Ref sig .tc := ⟨.vmem, 68, rfl⟩
abbrev cc7_stg1_1 : Ref sig .tc := ⟨.vmem, 69, rfl⟩
abbrev cc7_stg2_0 : Ref sig .tc := ⟨.vmem, 70, rfl⟩
abbrev cc7_stg3_0 : Ref sig .tc := ⟨.vmem, 71, rfl⟩
abbrev cc7_stg4_0 : Ref sig .tc := ⟨.vmem, 72, rfl⟩
abbrev cc7_stg4_1 : Ref sig .tc := ⟨.vmem, 73, rfl⟩
abbrev cc7_stg5_0 : Ref sig .tc := ⟨.vmem, 74, rfl⟩
abbrev cc7_stg5_1 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg1_1 : Ref sig .tc := ⟨.vmem, 79, rfl⟩
abbrev cc8_stg2_0 : Ref sig .tc := ⟨.vmem, 80, rfl⟩
abbrev cc8_stg2_1 : Ref sig .tc := ⟨.vmem, 81, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc2_sem0_0 : DmaSem sig := 24
abbrev cc2_sem1_0 : DmaSem sig := 25
abbrev cc2_sem1_1 : DmaSem sig := 26
abbrev cc2_sem2_0 : DmaSem sig := 27
abbrev cc2_sem2_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem3_1 : DmaSem sig := 36
abbrev cc3_sem4_0 : DmaSem sig := 37
abbrev cc3_sem4_1 : DmaSem sig := 38
abbrev cc3_sem5_0 : DmaSem sig := 39
abbrev cc3_sem5_1 : DmaSem sig := 40
abbrev cc3_sem6_0 : DmaSem sig := 41
abbrev cc3_sem6_1 : DmaSem sig := 42
abbrev cc3_sem7_0 : DmaSem sig := 43
abbrev cc3_sem7_1 : DmaSem sig := 44
abbrev cc3_sem8_0 : DmaSem sig := 45
abbrev cc3_sem8_1 : DmaSem sig := 46
abbrev cc3_sem9_0 : DmaSem sig := 47
abbrev cc3_sem9_1 : DmaSem sig := 48
abbrev cc3_sem10_0 : DmaSem sig := 49
abbrev cc3_sem10_1 : DmaSem sig := 50
abbrev cc3_sem11_0 : DmaSem sig := 51
abbrev cc3_sem11_1 : DmaSem sig := 52
abbrev cc3_sem12_0 : DmaSem sig := 53
abbrev cc3_sem12_1 : DmaSem sig := 54
abbrev cc3_sem13_0 : DmaSem sig := 55
abbrev cc3_sem13_1 : DmaSem sig := 56
abbrev cc4_sem0_0 : DmaSem sig := 57
abbrev cc4_sem1_0 : DmaSem sig := 58
abbrev cc4_sem2_0 : DmaSem sig := 59
abbrev cc5_sem0_0 : DmaSem sig := 60
abbrev cc5_sem1_0 : DmaSem sig := 61
abbrev cc5_sem2_0 : DmaSem sig := 62
abbrev cc6_sem0_0 : DmaSem sig := 63
abbrev cc6_sem1_0 : DmaSem sig := 64
abbrev cc6_sem2_0 : DmaSem sig := 65
abbrev cc7_sem0_0 : DmaSem sig := 66
abbrev cc7_sem0_1 : DmaSem sig := 67
abbrev cc7_sem1_0 : DmaSem sig := 68
abbrev cc7_sem1_1 : DmaSem sig := 69
abbrev cc7_sem2_0 : DmaSem sig := 70
abbrev cc7_sem3_0 : DmaSem sig := 71
abbrev cc7_sem4_0 : DmaSem sig := 72
abbrev cc7_sem4_1 : DmaSem sig := 73
abbrev cc7_sem5_0 : DmaSem sig := 74
abbrev cc7_sem5_1 : DmaSem sig := 75
abbrev cc8_sem0_0 : DmaSem sig := 76
abbrev cc8_sem0_1 : DmaSem sig := 77
abbrev cc8_sem1_0 : DmaSem sig := 78
abbrev cc8_sem1_1 : DmaSem sig := 79
abbrev cc8_sem2_0 : DmaSem sig := 80
abbrev cc8_sem2_1 : DmaSem sig := 81

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg1 c3_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi arg1 c7_i32
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![1, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_7 (i : grid3.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg1 c3_i32
  let c0_i32 : BitVec 32 := 0#32
  ![arg0.toNat, v0.toNat]

def cc3_transform_8 (i : grid3.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi arg1 c7_i32
  let c0_i32 : BitVec 32 := 0#32
  ![arg0.toNat, v0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc3_transform_11 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc3_transform_12 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc3_transform_13 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S2048x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S256x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S256x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true]

abbrev stage3_5 : Fin 2 → Memref sig .tc .vmem S256x256 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![false, true]

abbrev stage3_6 : Fin 2 → Memref sig .tc .vmem S256x256 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![false, true]

abbrev stage3_7 : Fin 2 → Memref sig .tc .vmem S2048x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S2048x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 2 → Memref sig .tc .vmem S2048x256 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S2048x256 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]

abbrev stage3_11 : Fin 2 → Memref sig .tc .vmem S2048x256 .bf16 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true, true]

abbrev stage3_12 : Fin 2 → Memref sig .tc .vmem S2048x256 .bf16 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true, true]

abbrev stage3_13 : Fin 2 → Memref sig .tc .vmem S2048x256 .bf16 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true, true]

abbrev grid4 : Pipeline.Grid := ⟨2, ![1, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 1 → Memref sig .tc .vmem S4096x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S1024x512 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true]

abbrev grid5 : Pipeline.Grid := ⟨2, ![1, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage5_0 : Fin 1 → Memref sig .tc .vmem S4096x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 1 → Memref sig .tc .vmem S4096x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 1 → Memref sig .tc .vmem S1024x256 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true]

abbrev grid6 : Pipeline.Grid := ⟨2, ![1, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage6_0 : Fin 1 → Memref sig .tc .vmem S4096x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 1 → Memref sig .tc .vmem S4096x256 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 1 → Memref sig .tc .vmem S1024x256 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, true]

abbrev grid7 : Pipeline.Grid := ⟨2, ![4, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S1024x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 1 → Memref sig .tc .vmem S1024x256 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, true]

abbrev stage7_3 : Fin 1 → Memref sig .tc .vmem S1024x256 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, true]

abbrev stage7_4 : Fin 2 → Memref sig .tc .vmem S1024x256 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev stage7_5 : Fin 2 → Memref sig .tc .vmem S1024x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, true]

abbrev grid8 : Pipeline.Grid := ⟨2, ![2, 2], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage8_0 : Fin 2 → Memref sig .tc .vmem S2048x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S1024x256 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S2048x256 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]
-- ==== Reference3Ideal.lean ====
abbrev S4096x1024 : Shape := ⟨2, ![4096, 1024]⟩
abbrev S4096x2816 : Shape := ⟨2, ![4096, 2816]⟩
abbrev S4096x512 : Shape := ⟨2, ![4096, 512]⟩
abbrev S4096x256 : Shape := ⟨2, ![4096, 256]⟩
abbrev S1024x512 : Shape := ⟨2, ![1024, 512]⟩
abbrev S1024x256 : Shape := ⟨2, ![1024, 256]⟩
abbrev S1024x1024 : Shape := ⟨2, ![1024, 1024]⟩
abbrev S512x1024 : Shape := ⟨2, ![512, 1024]⟩
abbrev S256x1024 : Shape := ⟨2, ![256, 1024]⟩
abbrev S_ : Shape := ⟨0, ![]⟩

abbrev nBuf : Space → Nat
  | .hbm => 139
  | .vmem => 0
  | .smem => 0
  | _ => 0

abbrev hbmTy0_0 (i : Nat) : BufTy := match i % 128 with
  | 0 => ⟨S4096x1024, .f32⟩
  | 1 => ⟨S4096x2816, .f32⟩
  | 2 => ⟨S4096x512, .bf16⟩
  | 3 => ⟨S4096x256, .f32⟩
  | 4 => ⟨S1024x512, .bf16⟩
  | 5 => ⟨S1024x256, .bf16⟩
  | 6 => ⟨S1024x256, .bf16⟩
  | 7 => ⟨S1024x1024, .bf16⟩
  | 8 => ⟨S4096x1024, .f32⟩
  | 9 => ⟨S4096x1024, .f32⟩
  | 10 => ⟨S4096x1024, .f32⟩
  | 11 => ⟨S4096x512, .f32⟩
  | 12 => ⟨S1024x512, .f32⟩
  | 13 => ⟨S512x1024, .f32⟩
  | 14 => ⟨S1024x256, .f32⟩
  | 15 => ⟨S256x1024, .f32⟩
  | 16 => ⟨S1024x256, .f32⟩
  | 17 => ⟨S256x1024, .f32⟩
  | 18 => ⟨S1024x1024, .f32⟩
  | 19 => ⟨S4096x1024, .f32⟩
  | 20 => ⟨S4096x256, .f32⟩
  | 21 => ⟨S4096x256, .f32⟩
  | 22 => ⟨S4096x256, .f32⟩
  | 23 => ⟨S_, .f32⟩
  | 24 => ⟨S4096x256, .f32⟩
  | 25 => ⟨S4096x256, .f32⟩
  | 26 => ⟨S_, .f32⟩
  | 27 => ⟨S4096x256, .f32⟩
  | 28 => ⟨S4096x256, .f32⟩
  | 29 => ⟨S4096x256, .f32⟩
  | 30 => ⟨S_, .f32⟩
  | 31 => ⟨S4096x256, .f32⟩
  | 32 => ⟨S4096x256, .f32⟩
  | 33 => ⟨S4096x256, .f32⟩
  | 34 => ⟨S_, .f32⟩
  | 35 => ⟨S4096x256, .f32⟩
  | 36 => ⟨S4096x256, .f32⟩
  | 37 => ⟨S_, .f32⟩
  | 38 => ⟨S4096x256, .f32⟩
  | 39 => ⟨S4096x256, .f32⟩
  | 40 => ⟨S4096x256, .f32⟩
  | 41 => ⟨S_, .f32⟩
  | 42 => ⟨S4096x256, .f32⟩
  | 43 => ⟨S4096x256, .f32⟩
  | 44 => ⟨S_, .f32⟩
  | 45 => ⟨S4096x256, .f32⟩
  | 46 => ⟨S4096x256, .f32⟩
  | 47 => ⟨S4096x256, .f32⟩
  | 48 => ⟨S4096x1024, .f32⟩
  | 49 => ⟨S4096x1024, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S_, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S_, .f32⟩
  | 72 => ⟨S4096x1024, .f32⟩
  | 73 => ⟨S4096x1024, .f32⟩
  | 74 => ⟨S4096x1024, .f32⟩
  | 75 => ⟨S4096x1024, .f32⟩
  | 76 => ⟨S4096x1024, .f32⟩
  | 77 => ⟨S4096x1024, .f32⟩
  | 78 => ⟨S_, .f32⟩
  | 79 => ⟨S4096x1024, .f32⟩
  | 80 => ⟨S4096x1024, .f32⟩
  | 81 => ⟨S_, .f32⟩
  | 82 => ⟨S4096x1024, .f32⟩
  | 83 => ⟨S4096x1024, .f32⟩
  | 84 => ⟨S_, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S1024x1024, .f32⟩
  | 94 => ⟨S1024x1024, .f32⟩
  | 95 => ⟨S4096x1024, .f32⟩
  | 96 => ⟨S4096x1024, .f32⟩
  | 97 => ⟨S4096x1024, .f32⟩
  | 98 => ⟨S4096x1024, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S1024x256, .f32⟩
  | 106 => ⟨S256x1024, .f32⟩
  | 107 => ⟨S4096x256, .f32⟩
  | 108 => ⟨S1024x256, .f32⟩
  | 109 => ⟨S256x1024, .f32⟩
  | 110 => ⟨S4096x256, .f32⟩
  | 111 => ⟨S4096x256, .f32⟩
  | 112 => ⟨S4096x256, .f32⟩
  | 113 => ⟨S4096x256, .f32⟩
  | 114 => ⟨S_, .f32⟩
  | 115 => ⟨S4096x256, .f32⟩
  | 116 => ⟨S4096x256, .f32⟩
  | 117 => ⟨S4096x256, .f32⟩
  | 118 => ⟨S_, .f32⟩
  | 119 => ⟨S4096x256, .f32⟩
  | 120 => ⟨S4096x256, .f32⟩
  | 121 => ⟨S4096x256, .f32⟩
  | 122 => ⟨S_, .f32⟩
  | 123 => ⟨S4096x256, .f32⟩
  | 124 => ⟨S4096x256, .f32⟩
  | 125 => ⟨S4096x256, .f32⟩
  | 126 => ⟨S4096x256, .f32⟩
  | 127 => ⟨S1024x512, .f32⟩
  | _ => ⟨S4096x1024, .f32⟩

abbrev hbmTy0_1 (i : Nat) : BufTy := match i % 128 with
  | 0 => ⟨S512x1024, .f32⟩
  | 1 => ⟨S4096x512, .f32⟩
  | 2 => ⟨S4096x1024, .bf16⟩
  | 3 => ⟨S4096x1024, .bf16⟩
  | 4 => ⟨S1024x512, .f32⟩
  | 5 => ⟨S1024x512, .bf16⟩
  | 6 => ⟨S1024x256, .f32⟩
  | 7 => ⟨S1024x256, .bf16⟩
  | 8 => ⟨S1024x256, .f32⟩
  | 9 => ⟨S1024x256, .bf16⟩
  | 10 => ⟨S1024x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_cst_14 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_15 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_16 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_17 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S2816x1024 : Shape := ⟨2, ![2816, 1024]⟩
abbrev S4096x512 : Shape := ⟨2, ![4096, 512]⟩
abbrev S4096x256 : Shape := ⟨2, ![4096, 256]⟩
abbrev S1024x1024 : Shape := ⟨2, ![1024, 1024]⟩
abbrev S1024 : Shape := ⟨1, ![1024]⟩
abbrev S1024x1 : Shape := ⟨2, ![1024, 1]⟩
abbrev S4096x2816 : Shape := ⟨2, ![4096, 2816]⟩
abbrev S2048x1024 : Shape := ⟨2, ![2048, 1024]⟩
abbrev S1408x1024 : Shape := ⟨2, ![1408, 1024]⟩
abbrev S2048x1408 : Shape := ⟨2, ![2048, 1408]⟩
abbrev S256x1024 : Shape := ⟨2, ![256, 1024]⟩
abbrev S256x1408 : Shape := ⟨2, ![256, 1408]⟩
abbrev S512x1024 : Shape := ⟨2, ![512, 1024]⟩
abbrev S512x512 : Shape := ⟨2, ![512, 512]⟩
abbrev S256x512 : Shape := ⟨2, ![256, 512]⟩
abbrev S1024x512 : Shape := ⟨2, ![1024, 512]⟩
abbrev S2048x512 : Shape := ⟨2, ![2048, 512]⟩
abbrev S2048x256 : Shape := ⟨2, ![2048, 256]⟩
abbrev S256x256 : Shape := ⟨2, ![256, 256]⟩

abbrev nBuf : Space → Nat
  | .hbm => 23
  | .vmem => 61
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S4096x512, .bf16⟩
  | .hbm, ⟨4, _⟩ => ⟨S4096x256, .bf16⟩
  | .hbm, ⟨5, _⟩ => ⟨S4096x1024, .bf16⟩
  | .hbm, ⟨6, _⟩ => ⟨S4096x1024, .bf16⟩
  | .hbm, ⟨7, _⟩ => ⟨S4096x1024, .f32⟩
  | .hbm, ⟨8, _⟩ => ⟨S4096x1024, .bf16⟩
  | .hbm, ⟨9, _⟩ => ⟨S4096x2816, .f32⟩
  | .hbm, ⟨10, _⟩ => ⟨S512x1024, .bf16⟩
  | .hbm, ⟨11, _⟩ => ⟨S256x1024, .bf16⟩
  | .hbm, ⟨12, _⟩ => ⟨S1024x1024, .bf16⟩
  | .hbm, ⟨13, _⟩ => ⟨S1024x1024, .bf16⟩
  | .hbm, ⟨14, _⟩ => ⟨S512x1024, .bf16⟩
  | .hbm, ⟨15, _⟩ => ⟨S256x1024, .bf16⟩
  | .hbm, ⟨16, _⟩ => ⟨S1024x1024, .bf16⟩
  | .hbm, ⟨17, _⟩ => ⟨S1024x1024, .bf16⟩
  | .hbm, ⟨18, _⟩ => ⟨S2816x1024, .bf16⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S2048x1024, .bf16⟩
  | .local _ .vmem, ⟨6, _⟩ => ⟨S2048x1024, .bf16⟩
  | .local _ .vmem, ⟨7, _⟩ => ⟨S1408x1024, .bf16⟩
  | .local _ .vmem, ⟨8, _⟩ => ⟨S1408x1024, .bf16⟩
  | .local _ .vmem, ⟨9, _⟩ => ⟨S2048x1408, .f32⟩
  | .local _ .vmem, ⟨10, _⟩ => ⟨S2048x1408, .f32⟩
  | .local _ .vmem, ⟨11, _⟩ => ⟨S4096x512, .bf16⟩
  | .local _ .vmem, ⟨12, _⟩ => ⟨S4096x512, .bf16⟩
  | .local _ .vmem, ⟨13, _⟩ => ⟨S4096x512, .bf16⟩
  | .local _ .vmem, ⟨14, _⟩ => ⟨S512x512, .bf16⟩
  | .local _ .vmem, ⟨15, _⟩ => ⟨S512x512, .bf16⟩
  | .local _ .vmem, ⟨16, _⟩ => ⟨S4096x256, .bf16⟩
  | .local _ .vmem, ⟨17, _⟩ => ⟨S4096x512, .bf16⟩
  | .local _ .vmem, ⟨18, _⟩ => ⟨S4096x512, .bf16⟩
  | .local _ .vmem, ⟨19, _⟩ => ⟨S256x512, .bf16⟩
  | .local _ .vmem, ⟨20, _⟩ => ⟨S256x512, .bf16⟩
  | .local _ .vmem, ⟨21, _⟩ => ⟨S4096x1024, .bf16⟩
  | .local _ .vmem, ⟨22, _⟩ => ⟨S4096x512, .bf16⟩
  | .local _ .vmem, ⟨23, _⟩ => ⟨S4096x512, .bf16⟩
  | .local _ .vmem, ⟨24, _⟩ => ⟨S1024x512, .bf16⟩
  | .local _ .vmem, ⟨25, _⟩ => ⟨S1024x512, .bf16⟩
  | .local _ .vmem, ⟨26, _⟩ => ⟨S4096x1024, .bf16⟩
  | .local _ .vmem, ⟨27, _⟩ => ⟨S4096x512, .bf16⟩
  | .local _ .vmem, ⟨28, _⟩ => ⟨S4096x512, .bf16⟩
  | .local _ .vmem, ⟨29, _⟩ => ⟨S1024x512, .bf16⟩
  | .local _ .vmem, ⟨30, _⟩ => ⟨S1024x512, .bf16⟩
  | .local _ .vmem, ⟨31, _⟩ => ⟨S2048x512, .bf16⟩
  | .local _ .vmem, ⟨32, _⟩ => ⟨S2048x512, .bf16⟩
  | .local _ .vmem, ⟨33, _⟩ => ⟨S2048x256, .bf16⟩
  | .local _ .vmem, ⟨34, _⟩ => ⟨S2048x256, .bf16⟩
  | .local _ .vmem, ⟨35, _⟩ => ⟨S2048x1024, .bf16⟩
  | .local _ .vmem, ⟨36, _⟩ => ⟨S2048x1024, .bf16⟩
  | .local _ .vmem, ⟨37, _⟩ => ⟨S2048x1024, .bf16⟩
  | .local _ .vmem, ⟨38, _⟩ => ⟨S2048x1024, .bf16⟩
  | .local _ .vmem, ⟨39, _⟩ => ⟨S512x512, .bf16⟩
  | .local _ .vmem, ⟨40, _⟩ => ⟨S512x512, .bf16⟩
  | .local _ .vmem, ⟨41, _⟩ => ⟨S256x512, .bf16⟩
  | .local _ .vmem, ⟨42, _⟩ => ⟨S256x512, .bf16⟩
  | .local _ .vmem, ⟨43, _⟩ => ⟨S1024x512, .bf16⟩
  | .local _ .vmem, ⟨44, _⟩ => ⟨S1024x512, .bf16⟩
  | .local _ .vmem, ⟨45, _⟩ => ⟨S1024x512, .bf16⟩
  | .local _ .vmem, ⟨46, _⟩ => ⟨S1024x512, .bf16⟩
  | .local _ .vmem, ⟨47, _⟩ => ⟨S2048x512, .f32⟩
  | .local _ .vmem, ⟨48, _⟩ => ⟨S2048x512, .f32⟩
  | .local _ .vmem, ⟨49, _⟩ => ⟨S1024x1024, .f32⟩
  | .local _ .vmem, ⟨50, _⟩ => ⟨S1024x1024, .f32⟩
  | .local _ .vmem, ⟨51, _⟩ => ⟨S1x1024, .f32⟩
  | .local _ .vmem, ⟨52, _⟩ => ⟨S1024x1024, .f32⟩
  | .local _ .vmem, ⟨53, _⟩ => ⟨S1024x1024, .f32⟩
  | .local _ .vmem, ⟨54, _⟩ => ⟨S1024x1024, .f32⟩
  | .local _ .vmem, ⟨55, _⟩ => ⟨S1024x1024, .f32⟩
  | .local _ .vmem, ⟨56, _⟩ => ⟨S1024x1024, .f32⟩
  | .local _ .vmem, ⟨57, _⟩ => ⟨S1024x1024, .f32⟩
  | .local _ .vmem, ⟨58, _⟩ => ⟨S1024x1024, .bf16⟩
  | .local _ .vmem, ⟨59, _⟩ => ⟨S1024x1024, .bf16⟩
  | .local _ .vmem, ⟨60, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc5_stg2_1 : Ref sig .tc := ⟨.vmem, 30, rfl⟩
abbrev cc6_stg0_0 : Ref sig .tc := ⟨.vmem, 31, rfl⟩
abbrev cc6_stg0_1 : Ref sig .tc := ⟨.vmem, 32, rfl⟩
abbrev cc6_stg1_0 : Ref sig .tc := ⟨.vmem, 33, rfl⟩
abbrev cc6_stg1_1 : Ref sig .tc := ⟨.vmem, 34, rfl⟩
abbrev cc6_stg2_0 : Ref sig .tc := ⟨.vmem, 35, rfl⟩
abbrev cc6_stg2_1 : Ref sig .tc := ⟨.vmem, 36, rfl⟩
abbrev cc6_stg3_0 : Ref sig .tc := ⟨.vmem, 37, rfl⟩
abbrev cc6_stg3_1 : Ref sig .tc := ⟨.vmem, 38, rfl⟩
abbrev cc6_stg4_0 : Ref sig .tc := ⟨.vmem, 39, rfl⟩
abbrev cc6_stg4_1 : Ref sig .tc := ⟨.vmem, 40, rfl⟩
abbrev cc6_stg5_0 : Ref sig .tc := ⟨.vmem, 41, rfl⟩
abbrev cc6_stg5_1 : Ref sig .tc := ⟨.vmem, 42, rfl⟩
abbrev cc6_stg6_0 : Ref sig .tc := ⟨.vmem, 43, rfl⟩
abbrev cc6_stg6_1 : Ref sig .tc := ⟨.vmem, 44, rfl⟩
abbrev cc6_stg7_0 : Ref sig .tc := ⟨.vmem, 45, rfl⟩
abbrev cc6_stg7_1 : Ref sig .tc := ⟨.vmem, 46, rfl⟩
abbrev cc6_stg8_0 : Ref sig .tc := ⟨.vmem, 47, rfl⟩
abbrev cc6_stg8_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg2_0 : Ref sig .tc := ⟨.vmem, 52, rfl⟩
abbrev cc7_stg2_1 : Ref sig .tc := ⟨.vmem, 53, rfl⟩
abbrev cc7_stg3_0 : Ref sig .tc := ⟨.vmem, 54, rfl⟩
abbrev cc7_stg3_1 : Ref sig .tc := ⟨.vmem, 55, rfl⟩
abbrev cc7_stg4_0 : Ref sig .tc := ⟨.vmem, 56, rfl⟩
abbrev cc7_stg4_1 : Ref sig .tc := ⟨.vmem, 57, rfl⟩
abbrev cc7_stg5_0 : Ref sig .tc := ⟨.vmem, 58, rfl⟩
abbrev cc7_stg5_1 : Ref sig .tc := ⟨.vmem, 59, rfl⟩
abbrev cc7_stg6_0 : Ref sig .tc := ⟨.vmem, 60, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem1_1 : DmaSem sig := 18
abbrev cc3_sem2_0 : DmaSem sig := 19
abbrev cc3_sem2_1 : DmaSem sig := 20
abbrev cc4_sem0_0 : DmaSem sig := 21
abbrev cc4_sem1_0 : DmaSem sig := 22
abbrev cc4_sem1_1 : DmaSem sig := 23
abbrev cc4_sem2_0 : DmaSem sig := 24
abbrev cc4_sem2_1 : DmaSem sig := 25
abbrev cc5_sem0_0 : DmaSem sig := 26
abbrev cc5_sem1_0 : DmaSem sig := 27
abbrev cc5_sem1_1 : DmaSem sig := 28
abbrev cc5_sem2_0 : DmaSem sig := 29
abbrev cc5_sem2_1 : DmaSem sig := 30
abbrev cc6_sem0_0 : DmaSem sig := 31
abbrev cc6_sem0_1 : DmaSem sig := 32
abbrev cc6_sem1_0 : DmaSem sig := 33
abbrev cc6_sem1_1 : DmaSem sig := 34
abbrev cc6_sem2_0 : DmaSem sig := 35
abbrev cc6_sem2_1 : DmaSem sig := 36
abbrev cc6_sem3_0 : DmaSem sig := 37
abbrev cc6_sem3_1 : DmaSem sig := 38
abbrev cc6_sem4_0 : DmaSem sig := 39
abbrev cc6_sem4_1 : DmaSem sig := 40
abbrev cc6_sem5_0 : DmaSem sig := 41
abbrev cc6_sem5_1 : DmaSem sig := 42
abbrev cc6_sem6_0 : DmaSem sig := 43
abbrev cc6_sem6_1 : DmaSem sig := 44
abbrev cc6_sem7_0 : DmaSem sig := 45
abbrev cc6_sem7_1 : DmaSem sig := 46
abbrev cc6_sem8_0 : DmaSem sig := 47
abbrev cc6_sem8_1 : DmaSem sig := 48
abbrev cc7_sem0_0 : DmaSem sig := 49
abbrev cc7_sem0_1 : DmaSem sig := 50
abbrev cc7_sem1_0 : DmaSem sig := 51
abbrev cc7_sem2_0 : DmaSem sig := 52
abbrev cc7_sem2_1 : DmaSem sig := 53
abbrev cc7_sem3_0 : DmaSem sig := 54
abbrev cc7_sem3_1 : DmaSem sig := 55
abbrev cc7_sem4_0 : DmaSem sig := 56
abbrev cc7_sem4_1 : DmaSem sig := 57
abbrev cc7_sem5_0 : DmaSem sig := 58
abbrev cc7_sem5_1 : DmaSem sig := 59
abbrev cc7_sem6_0 : DmaSem sig := 60

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage2_0 : Fin 1 → Memref sig .tc .vmem S4096x512 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage3_0 : Fin 1 → Memref sig .tc .vmem S4096x256 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S256x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage5_0 : Fin 1 → Memref sig .tc .vmem S4096x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S4096x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![2, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_7 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_8 (i : grid6.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage6_0 : Fin 2 → Memref sig .tc .vmem S2048x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S2048x256 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S2048x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S2048x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev stage6_4 : Fin 2 → Memref sig .tc .vmem S512x512 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![false, true]

abbrev stage6_5 : Fin 2 → Memref sig .tc .vmem S256x512 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![false, true]

abbrev stage6_6 : Fin 2 → Memref sig .tc .vmem S1024x512 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![false, true]

abbrev stage6_7 : Fin 2 → Memref sig .tc .vmem S1024x512 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![false, true]

abbrev stage6_8 : Fin 2 → Memref sig .tc .vmem S2048x512 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true, true]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S1024x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x1024 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S1024x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S1024x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S1024x1024 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 1 → Memref sig .tc .vmem S1x1024 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]
-- ==== Reference4Ideal.lean ====
abbrev S4096x1024 : Shape := ⟨2, ![4096, 1024]⟩
abbrev S1x1024 : Shape := ⟨2, ![1, 1024]⟩
abbrev S2816x1024 : Shape := ⟨2, ![2816, 1024]⟩
abbrev S4096x512 : Shape := ⟨2, ![4096, 512]⟩
abbrev S4096x256 : Shape := ⟨2, ![4096, 256]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩

abbrev nBuf : Space → Nat
  | .hbm => 65
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S4096x512, .bf16⟩
  | .hbm, ⟨4, _⟩ => ⟨S4096x256, .bf16⟩
  | .hbm, ⟨5, _⟩ => ⟨S4096x1024, .bf16⟩
  | .hbm, ⟨6, _⟩ => ⟨S4096x1024, .bf16⟩
  | .hbm, ⟨7, _⟩ => ⟨S4096x1024, .f32⟩
  | .hbm, ⟨8, _⟩ => ⟨S2816x1024, .f32⟩
  | .hbm, ⟨9, _⟩ => ⟨S1024x2816, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x2816, .f32⟩
  | .hbm, ⟨30, _⟩ => ⟨S4096x512, .f32⟩
  | .hbm, ⟨31, _⟩ => ⟨S4096x256, .f32⟩
  | .hbm, ⟨32, _⟩ => ⟨S4096x1024, .f32⟩
  | .hbm, ⟨33, _⟩ => ⟨S4096x1024, .f32⟩
  | .hbm, ⟨34, _⟩ => ⟨S4096x2816, .f32⟩
  | .hbm, ⟨35, _⟩ => ⟨S2816x1024, .f32⟩
  | .hbm, ⟨36, _⟩ => ⟨S1024x2816, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .bf16⟩
  | .hbm, ⟨63, _⟩ => ⟨S2816x1024, .f32⟩
  | .hbm, ⟨64, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Kernel5.lean ====
abbrev S1x1024 : Shape := ⟨2, ![1, 1024]⟩

abbrev nBuf : Space → Nat
  | .hbm => 42
  | .vmem => 42
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev main_v0_3 : Ref sig .tc := ⟨.hbm, 27, rfl⟩
abbrev main_v0_4 : Ref sig .tc := ⟨.hbm, 28, rfl⟩
abbrev main_v0_5 : Ref sig .tc := ⟨.hbm, 29, rfl⟩
abbrev main_v0_6 : Ref sig .tc := ⟨.hbm, 30, rfl⟩
abbrev main_v0_7 : Ref sig .tc := ⟨.hbm, 31, rfl⟩
abbrev main_v0_8 : Ref sig .tc := ⟨.hbm, 32, rfl⟩
abbrev main_v0_9 : Ref sig .tc := ⟨.hbm, 33, rfl⟩
abbrev main_v0_10 : Ref sig .tc := ⟨.hbm, 34, rfl⟩
abbrev main_v0_11 : Ref sig .tc := ⟨.hbm, 35, rfl⟩
abbrev main_v0_12 : Ref sig .tc := ⟨.hbm, 36, rfl⟩
abbrev main_v0_13 : Ref sig .tc := ⟨.hbm, 37, rfl⟩
abbrev main_v0_14 : Ref sig .tc := ⟨.hbm, 38, rfl⟩
abbrev main_v0_15 : Ref sig .tc := ⟨.hbm, 39, rfl⟩
abbrev main_v0_16 : Ref sig .tc := ⟨.hbm, 40, rfl⟩
abbrev main_v0_17 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_33 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_34 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_35 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_36 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_37 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_38 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_39 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_40 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_41 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![true]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![true]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![true]

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![true]

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![true]

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![true]

abbrev stage0_30 : Fin 1 → Memref sig .tc .vmem S1x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![true]

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![true]

abbrev stage0_32 : Fin 1 → Memref sig .tc .vmem S1x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![true]

abbrev stage0_33 : Fin 1 → Memref sig .tc .vmem S1x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![true]

abbrev stage0_34 : Fin 1 → Memref sig .tc .vmem S1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![true]

abbrev stage0_35 : Fin 1 → Memref sig .tc .vmem S1x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![true]

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![true]

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))
abbrev reads0_37 : Fin grid0.rank → Bool := ![true]

abbrev stage0_38 : Fin 1 → Memref sig .tc .vmem S1x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))
abbrev reads0_38 : Fin grid0.rank → Bool := ![true]

abbrev stage0_39 : Fin 1 → Memref sig .tc .vmem S1x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))
abbrev reads0_39 : Fin grid0.rank → Bool := ![true]

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))
abbrev reads0_40 : Fin grid0.rank → Bool := ![true]

abbrev stage0_41 : Fin 1 → Memref sig .tc .vmem S1x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))
abbrev reads0_41 : Fin grid0.rank → Bool := ![true]
-- ==== Kernel5Ideal.lean ====
abbrev S1x1024 : Shape := ⟨2, ![1, 1024]⟩

abbrev nBuf : Space → Nat
  | .hbm => 42
  | .vmem => 42
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev main_v0_3 : Ref sig .tc := ⟨.hbm, 27, rfl⟩
abbrev main_v0_4 : Ref sig .tc := ⟨.hbm, 28, rfl⟩
abbrev main_v0_5 : Ref sig .tc := ⟨.hbm, 29, rfl⟩
abbrev main_v0_6 : Ref sig .tc := ⟨.hbm, 30, rfl⟩
abbrev main_v0_7 : Ref sig .tc := ⟨.hbm, 31, rfl⟩
abbrev main_v0_8 : Ref sig .tc := ⟨.hbm, 32, rfl⟩
abbrev main_v0_9 : Ref sig .tc := ⟨.hbm, 33, rfl⟩
abbrev main_v0_10 : Ref sig .tc := ⟨.hbm, 34, rfl⟩
abbrev main_v0_11 : Ref sig .tc := ⟨.hbm, 35, rfl⟩
abbrev main_v0_12 : Ref sig .tc := ⟨.hbm, 36, rfl⟩
abbrev main_v0_13 : Ref sig .tc := ⟨.hbm, 37, rfl⟩
abbrev main_v0_14 : Ref sig .tc := ⟨.hbm, 38, rfl⟩
abbrev main_v0_15 : Ref sig .tc := ⟨.hbm, 39, rfl⟩
abbrev main_v0_16 : Ref sig .tc := ⟨.hbm, 40, rfl⟩
abbrev main_v0_17 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_33 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_34 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_35 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_36 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_37 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_38 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_39 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_40 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_41 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![true]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![true]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![true]

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![true]

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![true]

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![true]

abbrev stage0_30 : Fin 1 → Memref sig .tc .vmem S1x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![true]

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![true]

abbrev stage0_32 : Fin 1 → Memref sig .tc .vmem S1x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![true]

abbrev stage0_33 : Fin 1 → Memref sig .tc .vmem S1x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![true]

abbrev stage0_34 : Fin 1 → Memref sig .tc .vmem S1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![true]

abbrev stage0_35 : Fin 1 → Memref sig .tc .vmem S1x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![true]

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![true]

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))
abbrev reads0_37 : Fin grid0.rank → Bool := ![true]

abbrev stage0_38 : Fin 1 → Memref sig .tc .vmem S1x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))
abbrev reads0_38 : Fin grid0.rank → Bool := ![true]

abbrev stage0_39 : Fin 1 → Memref sig .tc .vmem S1x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))
abbrev reads0_39 : Fin grid0.rank → Bool := ![true]

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))
abbrev reads0_40 : Fin grid0.rank → Bool := ![true]

abbrev stage0_41 : Fin 1 → Memref sig .tc .vmem S1x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))
abbrev reads0_41 : Fin grid0.rank → Bool := ![true]
-- ==== Reference5Ideal.lean ====
abbrev S1x1024 : Shape := ⟨2, ![1, 1024]⟩
abbrev S_ : Shape := ⟨0, ![]⟩

abbrev nBuf : Space → Nat
  | .hbm => 222
  | .vmem => 0
  | .smem => 0
  | _ => 0

abbrev hbmTy0_0 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S_, .f32⟩
  | 25 => ⟨S1x1024, .f32⟩
  | 26 => ⟨S1x1024, .f32⟩
  | 27 => ⟨S_, .f32⟩
  | 28 => ⟨S1x1024, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S1x1024, .f32⟩
  | 35 => ⟨S_, .f32⟩
  | 36 => ⟨S1x1024, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S_, .f32⟩
  | 58 => ⟨S1x1024, .f32⟩
  | 59 => ⟨S1x1024, .f32⟩
  | 60 => ⟨S_, .f32⟩
  | 61 => ⟨S1x1024, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S1x1024, .f32⟩
  | 101 => ⟨S_, .f32⟩
  | 102 => ⟨S1x1024, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S1x1024, .f32⟩
  | 116 => ⟨S_, .f32⟩
  | 117 => ⟨S1x1024, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S_, .f32⟩
  | 124 => ⟨S1x1024, .f32⟩
  | 125 => ⟨S1x1024, .f32⟩
  | 126 => ⟨S_, .f32⟩
  | 127 => ⟨S1x1024, .f32⟩
  | _ => ⟨S1x1024, .f32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S1x1024, .f32⟩
  | 6 => ⟨S_, .f32⟩
  | 7 => ⟨S1x1024, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | 20 => ⟨S1x1024, .f32⟩
  | 21 => ⟨S_, .f32⟩
  | 22 => ⟨S1x1024, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S_, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S1x1024, .f32⟩
  | 35 => ⟨S_, .f32⟩
  | 36 => ⟨S1x1024, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S_, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_3 : Ref sig .tc := ⟨.hbm, 39, rfl⟩
abbrev main_v11 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_6 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_7 : Ref sig .tc := ⟨.hbm, 54, rfl⟩
abbrev main_v22 : Ref sig .tc := ⟨.hbm, 55, rfl⟩
abbrev main_v23 : Ref sig .tc := ⟨.hbm, 56, rfl⟩
abbrev main_cst_8 : Ref sig .tc := ⟨.hbm, 57, rfl⟩
abbrev main_v24 : Ref sig .tc := ⟨.hbm, 58, rfl⟩
abbrev main_v25 : Ref sig .tc := ⟨.hbm, 59, rfl⟩
abbrev main_cst_9 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_10 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_12 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_14 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_15 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_16 : Ref sig .tc := ⟨.hbm, 87, rfl⟩
abbrev main_v46 : Ref sig .tc := ⟨.hbm, 88, rfl⟩
abbrev main_v47 : Ref sig .tc := ⟨.hbm, 89, rfl⟩
abbrev main_cst_17 : Ref sig .tc := ⟨.hbm, 90, rfl⟩
abbrev main_v48 : Ref sig .tc := ⟨.hbm, 91, rfl⟩
abbrev main_v49 : Ref sig .tc := ⟨.hbm, 92, rfl⟩
abbrev main_cst_18 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_19 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_20 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_21 : Ref sig .tc := ⟨.hbm, 105, rfl⟩
abbrev main_v59 : Ref sig .tc := ⟨.hbm, 106, rfl⟩
abbrev main_v60 : Ref sig .tc := ⟨.hbm, 107, rfl⟩
abbrev main_cst_22 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_23 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_24 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_25 : Ref sig .tc := ⟨.hbm, 120, rfl⟩
abbrev main_v70 : Ref sig .tc := ⟨.hbm, 121, rfl⟩
abbrev main_v71 : Ref sig .tc := ⟨.hbm, 122, rfl⟩
abbrev main_cst_26 : Ref sig .tc := ⟨.hbm, 123, rfl⟩
abbrev main_v72 : Ref sig .tc := ⟨.hbm, 124, rfl⟩
abbrev main_v73 : Ref sig .tc := ⟨.hbm, 125, rfl⟩
abbrev main_cst_27 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_28 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_29 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_30 : Ref sig .tc := ⟨.hbm, 138, rfl⟩
abbrev main_v83 : Ref sig .tc := ⟨.hbm, 139, rfl⟩
abbrev main_v84 : Ref sig .tc := ⟨.hbm, 140, rfl⟩
abbrev main_cst_31 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_32 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_33 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_34 : Ref sig .tc := ⟨.hbm, 153, rfl⟩
abbrev main_v94 : Ref sig .tc := ⟨.hbm, 154, rfl⟩
abbrev main_v95 : Ref sig .tc := ⟨.hbm, 155, rfl⟩
abbrev main_cst_35 : Ref sig .tc := ⟨.hbm, 156, rfl⟩
abbrev main_v96 : Ref sig .tc := ⟨.hbm, 157, rfl⟩
abbrev main_v97 : Ref sig .tc := ⟨.hbm, 158, rfl⟩
abbrev main_cst_36 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_37 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_38 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_39 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_41 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_42 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_43 : Ref sig .tc := ⟨.hbm, 186, rfl⟩
abbrev main_v118 : Ref sig .tc := ⟨.hbm, 187, rfl⟩
abbrev main_v119 : Ref sig .tc := ⟨.hbm, 188, rfl⟩
abbrev main_cst_44 : Ref sig .tc := ⟨.hbm, 189, rfl⟩
abbrev main_v120 : Ref sig .tc := ⟨.hbm, 190, rfl⟩
abbrev main_v121 : Ref sig .tc := ⟨.hbm, 191, rfl⟩
abbrev main_cst_45 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_46 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_47 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_48 : Ref sig .tc := ⟨.hbm, 204, rfl⟩
abbrev main_v131 : Ref sig .tc := ⟨.hbm, 205, rfl⟩
abbrev main_v132 : Ref sig .tc := ⟨.hbm, 206, rfl⟩
abbrev main_cst_49 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_50 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_51 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_52 : Ref sig .tc := ⟨.hbm, 219, rfl⟩
abbrev main_v142 : Ref sig .tc := ⟨.hbm, 220, rfl⟩
abbrev main_v143 : Ref sig .tc := ⟨.hbm, 221, rfl⟩

abbrev nD : Nat := 1
abbrev τ : Topo := Topo.v7x

variable {F : FTy → Type} [FloatOps F]
-- ==== Kernel6.lean ====
abbrev S1024x352 : Shape := ⟨2, ![1024, 352]⟩
abbrev S352x1024 : Shape := ⟨2, ![352, 1024]⟩
abbrev S88x1024 : Shape := ⟨2, ![88, 1024]⟩

abbrev nBuf : Space → Nat
  | .hbm => 70
  | .vmem => 70
  | .smem => 0
  | _ => 0

abbrev bufTy : (tb : Table) → Fin (tcTables nBuf tb) → BufTy
  | .hbm, ⟨0, _⟩ => ⟨S1024x352, .f32⟩
  | .hbm, ⟨1, _⟩ => ⟨S352x1024, .f32⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S352x1024, .f32⟩
  | .hbm, ⟨6, _⟩ => ⟨S1024x352, .f32⟩
  | .hbm, ⟨7, _⟩ => ⟨S1024x352, .f32⟩
  | .hbm, ⟨8, _⟩ => ⟨S1024x352, .f32⟩
  | .hbm, ⟨9, _⟩ => ⟨S352x1024, .f32⟩
  | .hbm, ⟨10, _⟩ => ⟨S1024x352, .f32⟩
  | .hbm, ⟨11, _⟩ => ⟨S1024x352, .f32⟩
  | .hbm, ⟨12, _⟩ => ⟨S1024x352, .f32⟩
  | .hbm, ⟨13, _⟩ => ⟨S352x1024, .f32⟩
  | .hbm, ⟨14, _⟩ => ⟨S1024x352, .f32⟩
  | .hbm, ⟨15, _⟩ => ⟨S1024x352, .f32⟩
  | .hbm, ⟨16, _⟩ => ⟨S1024x352, .f32⟩
  | .hbm, ⟨17, _⟩ => ⟨S352x1024, .f32⟩
  | .hbm, ⟨18, _⟩ => ⟨S1024x352, .f32⟩
  | .hbm, ⟨19, _⟩ => ⟨S1024x352, .f32⟩
  | .hbm, ⟨20, _⟩ => ⟨S352x1024, .f32⟩
  | .hbm, ⟨21, _⟩ => ⟨S352x1024, .f32⟩
  | .hbm, ⟨22, _⟩ => ⟨S352x1024, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S352x1024, .f32⟩
  | .hbm, ⟨38, _⟩ => ⟨S352x1024, .f32⟩
  | .hbm, ⟨39, _⟩ => ⟨S352x1024, .f32⟩
  | .hbm, ⟨40, _⟩ => ⟨S352x1024, .f32⟩
  | .hbm, ⟨41, _⟩ => ⟨S352x1024, .f32⟩
  | .hbm, ⟨42, _⟩ => ⟨S352x1024, .f32⟩
  | .hbm, ⟨43, _⟩ => ⟨S352x1024, .f32⟩
  | .hbm, ⟨44, _⟩ => ⟨S352x1024, .f32⟩
  | .hbm, ⟨45, _⟩ => ⟨S352x1024, .f32⟩
  | .hbm, ⟨46, _⟩ => ⟨S352x1024, .f32⟩
  | .hbm, ⟨47, _⟩ => ⟨S352x1024, .f32⟩
  | .hbm, ⟨48, _⟩ => ⟨S352x1024, .f32⟩
  | .hbm, ⟨49, _⟩ => ⟨S352x1024, .f32⟩
  | .hbm, ⟨50, _⟩ => ⟨S1024x352, .f32⟩
  | .hbm, ⟨51, _⟩ => ⟨S1024x352, .f32⟩
  | .hbm, ⟨52, _⟩ => ⟨S1024x352, .f32⟩
  | .hbm, ⟨53, _⟩ => ⟨S1024x352, .f32⟩
  | .hbm, ⟨54, _⟩ => ⟨S1024x352, .f32⟩
  | .hbm, ⟨55, _⟩ => ⟨S1024x352, .f32⟩
  | .hbm, ⟨56, _⟩ => ⟨S1024x352, .f32⟩
  | .hbm, ⟨57, _⟩ => ⟨S1024x352, .f32⟩
  | .hbm, ⟨58, _⟩ => ⟨S1024x352, .f32⟩
  | .hbm, ⟨59, _⟩ => ⟨S1024x352, .f32⟩
  | .hbm, ⟨60, _⟩ => ⟨S1024x352, .f32⟩
  | .hbm, ⟨61, _⟩ => ⟨S1024x352, .f32⟩
  | .hbm, ⟨62, _⟩ => ⟨S1024x352, .f32⟩
  | .hbm, ⟨63, _⟩ => ⟨S1024x352, .f32⟩
  | .hbm, ⟨64, _⟩ => ⟨S1024x352, .f32⟩
  | .hbm, ⟨65, _⟩ => ⟨S1024x352, .f32⟩
  | .hbm, ⟨66, _⟩ => ⟨S1024x352, .f32⟩
  | .hbm, ⟨67, _⟩ => ⟨S1024x352, .f32⟩
  | .hbm, ⟨68, _⟩ => ⟨S1024x352, .f32⟩
  | .hbm, ⟨69, _⟩ => ⟨S1024x352, .f32⟩
  | .local _ .vmem, ⟨0, _⟩ => ⟨S88x1024, .f32⟩
  | .local _ .vmem, ⟨1, _⟩ => ⟨S88x1024, .f32⟩
  | .local _ .vmem, ⟨2, _⟩ => ⟨S88x1024, .f32⟩
  | .local _ .vmem, ⟨3, _⟩ => ⟨S88x1024, .f32⟩
  | .local _ .vmem, ⟨4, _⟩ => ⟨S88x1024, .f32⟩
  | .local _ .vmem, ⟨5, _⟩ => ⟨S88x1024, .f32⟩
  | .local _ .vmem, ⟨6, _⟩ => ⟨S88x1024, .f32⟩
  | .local _ .vmem, ⟨7, _⟩ => ⟨S88x1024, .f32⟩
  | .local _ .vmem, ⟨8, _⟩ => ⟨S88x1024, .f32⟩
  | .local _ .vmem, ⟨9, _⟩ => ⟨S88x1024, .f32⟩
  | .local _ .vmem, ⟨10, _⟩ => ⟨S88x1024, .f32⟩
  | .local _ .vmem, ⟨11, _⟩ => ⟨S88x1024, .f32⟩
  | .local _ .vmem, ⟨12, _⟩ => ⟨S88x1024, .f32⟩
  | .local _ .vmem, ⟨13, _⟩ => ⟨S88x1024, .f32⟩
  | .local _ .vmem, ⟨14, _⟩ => ⟨S88x1024, .f32⟩
  | .local _ .vmem, ⟨15, _⟩ => ⟨S88x1024, .f32⟩
  | .local _ .vmem, ⟨16, _⟩ => ⟨S88x1024, .f32⟩
  | .local _ .vmem, ⟨17, _⟩ => ⟨S88x1024, .f32⟩
  | .local _ .vmem, ⟨18, _⟩ => ⟨S88x1024, .f32⟩
  | .local _ .vmem, ⟨19, _⟩ => ⟨S88x1024, .f32⟩
  | .local _ .vmem, ⟨20, _⟩ => ⟨S88x1024, .f32⟩
  | .local _ .vmem, ⟨21, _⟩ => ⟨S88x1024, .f32⟩
  | .local _ .vmem, ⟨22, _⟩ => ⟨S88x1024, .f32⟩
  | .local _ .vmem, ⟨23, _⟩ => ⟨S88x1024, .f32⟩
  | .local _ .vmem, ⟨24, _⟩ => ⟨S88x1024, .f32⟩
  | .local _ .vmem, ⟨25, _⟩ => ⟨S88x1024, .f32⟩
  | .local _ .vmem, ⟨26, _⟩ => ⟨S88x1024, .f32⟩
  | .local _ .vmem, ⟨27, _⟩ => ⟨S88x1024, .f32⟩
  | .local _ .vmem, ⟨28, _⟩ => ⟨S88x1024, .f32⟩
  | .local _ .vmem, ⟨29, _⟩ => ⟨S88x1024, .f32⟩
  | .local _ .vmem, ⟨30, _⟩ => ⟨S88x1024, .f32⟩
  | .local _ .vmem, ⟨31, _⟩ => ⟨S88x1024, .f32⟩
  | .local _ .vmem, ⟨32, _⟩ => ⟨S88x1024, .f32⟩
  | .local _ .vmem, ⟨33, _⟩ => ⟨S88x1024, .f32⟩
  | .local _ .vmem, ⟨34, _⟩ => ⟨S88x1024, .f32⟩
  | .local _ .vmem, ⟨35, _⟩ => ⟨S88x1024, .f32⟩
  | .local _ .vmem, ⟨36, _⟩ => ⟨S88x1024, .f32⟩
  | .local _ .vmem, ⟨37, _⟩ => ⟨S88x1024, .f32⟩
  | .local _ .vmem, ⟨38, _⟩ => ⟨S88x1024, .f32⟩
  | .local _ .vmem, ⟨39, _⟩ => ⟨S88x1024, .f32⟩
  | .local _ .vmem, ⟨40, _⟩ => ⟨S88x1024, .f32⟩
  | .local _ .vmem, ⟨41, _⟩ => ⟨S88x1024, .f32⟩
  | .local _ .vmem, ⟨42, _⟩ => ⟨S88x1024, .f32⟩
  | .local _ .vmem, ⟨43, _⟩ => ⟨S88x1024, .f32⟩
  | .local _ .vmem, ⟨44, _⟩ => ⟨S88x1024, .f32⟩
  | .local _ .vmem, ⟨45, _⟩ => ⟨S88x1024, .f32⟩
  | .local _ .vmem, ⟨46, _⟩ => ⟨S88x1024, .f32⟩
  | .local _ .vmem, ⟨47, _⟩ => ⟨S88x1024, .f32⟩
  | .local _ .vmem, ⟨48, _⟩ => ⟨S88x1024, .f32⟩
  | .local _ .vmem, ⟨49, _⟩ => ⟨S88x1024, .f32⟩
  | .local _ .vmem, ⟨50, _⟩ => ⟨S88x1024, .f32⟩
  | .local _ .vmem, ⟨51, _⟩ => ⟨S88x1024, .f32⟩
  | .local _ .vmem, ⟨52, _⟩ => ⟨S88x1024, .f32⟩
  | .local _ .vmem, ⟨53, _⟩ => ⟨S88x1024, .f32⟩
  | .local _ .vmem, ⟨54, _⟩ => ⟨S88x1024, .f32⟩
  | .local _ .vmem, ⟨55, _⟩ => ⟨S88x1024, .f32⟩
  | .local _ .vmem, ⟨56, _⟩ => ⟨S88x1024, .f32⟩
  | .local _ .vmem, ⟨57, _⟩ => ⟨S88x1024, .f32⟩
  | .local _ .vmem, ⟨58, _⟩ => ⟨S88x1024, .f32⟩
  | .local _ .vmem, ⟨59, _⟩ => ⟨S88x1024, .f32⟩
  | .local _ .vmem, ⟨60, _⟩ => ⟨S88x1024, .f32⟩
  | .local _ .vmem, ⟨61, _⟩ => ⟨S88x1024, .f32⟩
  | .local _ .vmem, ⟨62, _⟩ => ⟨S88x1024, .f32⟩
  | .local _ .vmem, ⟨63, _⟩ => ⟨S88x1024, .f32⟩
  | .local _ .vmem, ⟨64, _⟩ => ⟨S88x1024, .f32⟩
  | .local _ .vmem, ⟨65, _⟩ => ⟨S88x1024, .f32⟩
  | .local _ .vmem, ⟨66, _⟩ => ⟨S88x1024, .f32⟩
  | .local _ .vmem, ⟨67, _⟩ => ⟨S88x1024, .f32⟩
  | .local _ .vmem, ⟨68, _⟩ => ⟨S88x1024, .f32⟩
  | .local _ .vmem, ⟨69, _⟩ => ⟨S88x1024, .f32⟩
  | _, _ => ⟨S1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15_0 : Ref sig .tc := ⟨.hbm, 35, rfl⟩
abbrev main_v15_1 : Ref sig .tc := ⟨.hbm, 36, rfl⟩
abbrev main_v15_2 : Ref sig .tc := ⟨.hbm, 37, rfl⟩
abbrev main_v15_3 : Ref sig .tc := ⟨.hbm, 38, rfl⟩
abbrev main_v15_4 : Ref sig .tc := ⟨.hbm, 39, rfl⟩
abbrev main_v15_5 : Ref sig .tc := ⟨.hbm, 40, rfl⟩
abbrev main_v15_6 : Ref sig .tc := ⟨.hbm, 41, rfl⟩
abbrev main_v15_7 : Ref sig .tc := ⟨.hbm, 42, rfl⟩
abbrev main_v15_8 : Ref sig .tc := ⟨.hbm, 43, rfl⟩
abbrev main_v15_9 : Ref sig .tc := ⟨.hbm, 44, rfl⟩
abbrev main_v15_10 : Ref sig .tc := ⟨.hbm, 45, rfl⟩
abbrev main_v15_11 : Ref sig .tc := ⟨.hbm, 46, rfl⟩
abbrev main_v15_12 : Ref sig .tc := ⟨.hbm, 47, rfl⟩
abbrev main_v15_13 : Ref sig .tc := ⟨.hbm, 48, rfl⟩
abbrev main_v15_14 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_33 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_34 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S88x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S88x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S88x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S88x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S88x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S88x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S88x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S88x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S88x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S88x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S88x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S88x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S88x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S88x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S88x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S88x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S88x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S88x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S88x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S88x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S88x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S88x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S88x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S88x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S88x1024 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S88x1024 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S88x1024 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S88x1024 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S88x1024 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S88x1024 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]
-- ==== Kernel6Ideal.lean ====
abbrev S1024x352 : Shape := ⟨2, ![1024, 352]⟩
abbrev S352x1024 : Shape := ⟨2, ![352, 1024]⟩
abbrev S88x1024 : Shape := ⟨2, ![88, 1024]⟩

abbrev nBuf : Space → Nat
  | .hbm => 70
  | .vmem => 70
  | .smem => 0
  | _ => 0

abbrev bufTy : (tb : Table) → Fin (tcTables nBuf tb) → BufTy
  | .hbm, ⟨0, _⟩ => ⟨S1024x352, .f32⟩
  | .hbm, ⟨1, _⟩ => ⟨S352x1024, .f32⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S352x1024, .f32⟩
  | .hbm, ⟨6, _⟩ => ⟨S1024x352, .f32⟩
  | .hbm, ⟨7, _⟩ => ⟨S1024x352, .f32⟩
  | .hbm, ⟨8, _⟩ => ⟨S1024x352, .f32⟩
  | .hbm, ⟨9, _⟩ => ⟨S352x1024, .f32⟩
  | .hbm, ⟨10, _⟩ => ⟨S1024x352, .f32⟩
  | .hbm, ⟨11, _⟩ => ⟨S1024x352, .f32⟩
  | .hbm, ⟨12, _⟩ => ⟨S1024x352, .f32⟩
  | .hbm, ⟨13, _⟩ => ⟨S352x1024, .f32⟩
  | .hbm, ⟨14, _⟩ => ⟨S1024x352, .f32⟩
  | .hbm, ⟨15, _⟩ => ⟨S1024x352, .f32⟩
  | .hbm, ⟨16, _⟩ => ⟨S1024x352, .f32⟩
  | .hbm, ⟨17, _⟩ => ⟨S352x1024, .f32⟩
  | .hbm, ⟨18, _⟩ => ⟨S1024x352, .f32⟩
  | .hbm, ⟨19, _⟩ => ⟨S1024x352, .f32⟩
  | .hbm, ⟨20, _⟩ => ⟨S352x1024, .f32⟩
  | .hbm, ⟨21, _⟩ => ⟨S352x1024, .f32⟩
  | .hbm, ⟨22, _⟩ => ⟨S352x1024, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S352x1024, .f32⟩
  | .hbm, ⟨38, _⟩ => ⟨S352x1024, .f32⟩
  | .hbm, ⟨39, _⟩ => ⟨S352x1024, .f32⟩
  | .hbm, ⟨40, _⟩ => ⟨S352x1024, .f32⟩
  | .hbm, ⟨41, _⟩ => ⟨S352x1024, .f32⟩
  | .hbm, ⟨42, _⟩ => ⟨S352x1024, .f32⟩
  | .hbm, ⟨43, _⟩ => ⟨S352x1024, .f32⟩
  | .hbm, ⟨44, _⟩ => ⟨S352x1024, .f32⟩
  | .hbm, ⟨45, _⟩ => ⟨S352x1024, .f32⟩
  | .hbm, ⟨46, _⟩ => ⟨S352x1024, .f32⟩
  | .hbm, ⟨47, _⟩ => ⟨S352x1024, .f32⟩
  | .hbm, ⟨48, _⟩ => ⟨S352x1024, .f32⟩
  | .hbm, ⟨49, _⟩ => ⟨S352x1024, .f32⟩
  | .hbm, ⟨50, _⟩ => ⟨S1024x352, .f32⟩
  | .hbm, ⟨51, _⟩ => ⟨S1024x352, .f32⟩
  | .hbm, ⟨52, _⟩ => ⟨S1024x352, .f32⟩
  | .hbm, ⟨53, _⟩ => ⟨S1024x352, .f32⟩
  | .hbm, ⟨54, _⟩ => ⟨S1024x352, .f32⟩
  | .hbm, ⟨55, _⟩ => ⟨S1024x352, .f32⟩
  | .hbm, ⟨56, _⟩ => ⟨S1024x352, .f32⟩
  | .hbm, ⟨57, _⟩ => ⟨S1024x352, .f32⟩
  | .hbm, ⟨58, _⟩ => ⟨S1024x352, .f32⟩
  | .hbm, ⟨59, _⟩ => ⟨S1024x352, .f32⟩
  | .hbm, ⟨60, _⟩ => ⟨S1024x352, .f32⟩
  | .hbm, ⟨61, _⟩ => ⟨S1024x352, .f32⟩
  | .hbm, ⟨62, _⟩ => ⟨S1024x352, .f32⟩
  | .hbm, ⟨63, _⟩ => ⟨S1024x352, .f32⟩
  | .hbm, ⟨64, _⟩ => ⟨S1024x352, .f32⟩
  | .hbm, ⟨65, _⟩ => ⟨S1024x352, .f32⟩
  | .hbm, ⟨66, _⟩ => ⟨S1024x352, .f32⟩
  | .hbm, ⟨67, _⟩ => ⟨S1024x352, .f32⟩
  | .hbm, ⟨68, _⟩ => ⟨S1024x352, .f32⟩
  | .hbm, ⟨69, _⟩ => ⟨S1024x352, .f32⟩
  | .local _ .vmem, ⟨0, _⟩ => ⟨S88x1024, .f32⟩
  | .local _ .vmem, ⟨1, _⟩ => ⟨S88x1024, .f32⟩
  | .local _ .vmem, ⟨2, _⟩ => ⟨S88x1024, .f32⟩
  | .local _ .vmem, ⟨3, _⟩ => ⟨S88x1024, .f32⟩
  | .local _ .vmem, ⟨4, _⟩ => ⟨S88x1024, .f32⟩
  | .local _ .vmem, ⟨5, _⟩ => ⟨S88x1024, .f32⟩
  | .local _ .vmem, ⟨6, _⟩ => ⟨S88x1024, .f32⟩
  | .local _ .vmem, ⟨7, _⟩ => ⟨S88x1024, .f32⟩
  | .local _ .vmem, ⟨8, _⟩ => ⟨S88x1024, .f32⟩
  | .local _ .vmem, ⟨9, _⟩ => ⟨S88x1024, .f32⟩
  | .local _ .vmem, ⟨10, _⟩ => ⟨S88x1024, .f32⟩
  | .local _ .vmem, ⟨11, _⟩ => ⟨S88x1024, .f32⟩
  | .local _ .vmem, ⟨12, _⟩ => ⟨S88x1024, .f32⟩
  | .local _ .vmem, ⟨13, _⟩ => ⟨S88x1024, .f32⟩
  | .local _ .vmem, ⟨14, _⟩ => ⟨S88x1024, .f32⟩
  | .local _ .vmem, ⟨15, _⟩ => ⟨S88x1024, .f32⟩
  | .local _ .vmem, ⟨16, _⟩ => ⟨S88x1024, .f32⟩
  | .local _ .vmem, ⟨17, _⟩ => ⟨S88x1024, .f32⟩
  | .local _ .vmem, ⟨18, _⟩ => ⟨S88x1024, .f32⟩
  | .local _ .vmem, ⟨19, _⟩ => ⟨S88x1024, .f32⟩
  | .local _ .vmem, ⟨20, _⟩ => ⟨S88x1024, .f32⟩
  | .local _ .vmem, ⟨21, _⟩ => ⟨S88x1024, .f32⟩
  | .local _ .vmem, ⟨22, _⟩ => ⟨S88x1024, .f32⟩
  | .local _ .vmem, ⟨23, _⟩ => ⟨S88x1024, .f32⟩
  | .local _ .vmem, ⟨24, _⟩ => ⟨S88x1024, .f32⟩
  | .local _ .vmem, ⟨25, _⟩ => ⟨S88x1024, .f32⟩
  | .local _ .vmem, ⟨26, _⟩ => ⟨S88x1024, .f32⟩
  | .local _ .vmem, ⟨27, _⟩ => ⟨S88x1024, .f32⟩
  | .local _ .vmem, ⟨28, _⟩ => ⟨S88x1024, .f32⟩
  | .local _ .vmem, ⟨29, _⟩ => ⟨S88x1024, .f32⟩
  | .local _ .vmem, ⟨30, _⟩ => ⟨S88x1024, .f32⟩
  | .local _ .vmem, ⟨31, _⟩ => ⟨S88x1024, .f32⟩
  | .local _ .vmem, ⟨32, _⟩ => ⟨S88x1024, .f32⟩
  | .local _ .vmem, ⟨33, _⟩ => ⟨S88x1024, .f32⟩
  | .local _ .vmem, ⟨34, _⟩ => ⟨S88x1024, .f32⟩
  | .local _ .vmem, ⟨35, _⟩ => ⟨S88x1024, .f32⟩
  | .local _ .vmem, ⟨36, _⟩ => ⟨S88x1024, .f32⟩
  | .local _ .vmem, ⟨37, _⟩ => ⟨S88x1024, .f32⟩
  | .local _ .vmem, ⟨38, _⟩ => ⟨S88x1024, .f32⟩
  | .local _ .vmem, ⟨39, _⟩ => ⟨S88x1024, .f32⟩
  | .local _ .vmem, ⟨40, _⟩ => ⟨S88x1024, .f32⟩
  | .local _ .vmem, ⟨41, _⟩ => ⟨S88x1024, .f32⟩
  | .local _ .vmem, ⟨42, _⟩ => ⟨S88x1024, .f32⟩
  | .local _ .vmem, ⟨43, _⟩ => ⟨S88x1024, .f32⟩
  | .local _ .vmem, ⟨44, _⟩ => ⟨S88x1024, .f32⟩
  | .local _ .vmem, ⟨45, _⟩ => ⟨S88x1024, .f32⟩
  | .local _ .vmem, ⟨46, _⟩ => ⟨S88x1024, .f32⟩
  | .local _ .vmem, ⟨47, _⟩ => ⟨S88x1024, .f32⟩
  | .local _ .vmem, ⟨48, _⟩ => ⟨S88x1024, .f32⟩
  | .local _ .vmem, ⟨49, _⟩ => ⟨S88x1024, .f32⟩
  | .local _ .vmem, ⟨50, _⟩ => ⟨S88x1024, .f32⟩
  | .local _ .vmem, ⟨51, _⟩ => ⟨S88x1024, .f32⟩
  | .local _ .vmem, ⟨52, _⟩ => ⟨S88x1024, .f32⟩
  | .local _ .vmem, ⟨53, _⟩ => ⟨S88x1024, .f32⟩
  | .local _ .vmem, ⟨54, _⟩ => ⟨S88x1024, .f32⟩
  | .local _ .vmem, ⟨55, _⟩ => ⟨S88x1024, .f32⟩
  | .local _ .vmem, ⟨56, _⟩ => ⟨S88x1024, .f32⟩
  | .local _ .vmem, ⟨57, _⟩ => ⟨S88x1024, .f32⟩
  | .local _ .vmem, ⟨58, _⟩ => ⟨S88x1024, .f32⟩
  | .local _ .vmem, ⟨59, _⟩ => ⟨S88x1024, .f32⟩
  | .local _ .vmem, ⟨60, _⟩ => ⟨S88x1024, .f32⟩
  | .local _ .vmem, ⟨61, _⟩ => ⟨S88x1024, .f32⟩
  | .local _ .vmem, ⟨62, _⟩ => ⟨S88x1024, .f32⟩
  | .local _ .vmem, ⟨63, _⟩ => ⟨S88x1024, .f32⟩
  | .local _ .vmem, ⟨64, _⟩ => ⟨S88x1024, .f32⟩
  | .local _ .vmem, ⟨65, _⟩ => ⟨S88x1024, .f32⟩
  | .local _ .vmem, ⟨66, _⟩ => ⟨S88x1024, .f32⟩
  | .local _ .vmem, ⟨67, _⟩ => ⟨S88x1024, .f32⟩
  | .local _ .vmem, ⟨68, _⟩ => ⟨S88x1024, .f32⟩
  | .local _ .vmem, ⟨69, _⟩ => ⟨S88x1024, .f32⟩
  | _, _ => ⟨S1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15_0 : Ref sig .tc := ⟨.hbm, 35, rfl⟩
abbrev main_v15_1 : Ref sig .tc := ⟨.hbm, 36, rfl⟩
abbrev main_v15_2 : Ref sig .tc := ⟨.hbm, 37, rfl⟩
abbrev main_v15_3 : Ref sig .tc := ⟨.hbm, 38, rfl⟩
abbrev main_v15_4 : Ref sig .tc := ⟨.hbm, 39, rfl⟩
abbrev main_v15_5 : Ref sig .tc := ⟨.hbm, 40, rfl⟩
abbrev main_v15_6 : Ref sig .tc := ⟨.hbm, 41, rfl⟩
abbrev main_v15_7 : Ref sig .tc := ⟨.hbm, 42, rfl⟩
abbrev main_v15_8 : Ref sig .tc := ⟨.hbm, 43, rfl⟩
abbrev main_v15_9 : Ref sig .tc := ⟨.hbm, 44, rfl⟩
abbrev main_v15_10 : Ref sig .tc := ⟨.hbm, 45, rfl⟩
abbrev main_v15_11 : Ref sig .tc := ⟨.hbm, 46, rfl⟩
abbrev main_v15_12 : Ref sig .tc := ⟨.hbm, 47, rfl⟩
abbrev main_v15_13 : Ref sig .tc := ⟨.hbm, 48, rfl⟩
abbrev main_v15_14 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_33 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_34 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S88x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S88x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S88x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S88x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S88x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S88x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S88x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S88x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S88x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S88x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S88x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S88x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S88x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S88x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S88x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S88x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S88x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S88x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S88x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S88x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S88x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S88x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S88x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S88x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S88x1024 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S88x1024 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S88x1024 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S88x1024 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S88x1024 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S88x1024 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]
-- ==== Reference6Ideal.lean ====
abbrev S1024x352 : Shape := ⟨2, ![1024, 352]⟩
abbrev S352x1024 : Shape := ⟨2, ![352, 1024]⟩
abbrev S_ : Shape := ⟨0, ![]⟩

abbrev nBuf : Space → Nat
  | .hbm => 190
  | .vmem => 0
  | .smem => 0
  | _ => 0

abbrev hbmTy0_0 (i : Nat) : BufTy := match i % 128 with
  | 0 => ⟨S1024x352, .f32⟩
  | 1 => ⟨S352x1024, .f32⟩
  | 2 => ⟨S1024x352, .f32⟩
  | 3 => ⟨S1024x352, .f32⟩
  | 4 => ⟨S1024x352, .f32⟩
  | 5 => ⟨S352x1024, .f32⟩
  | 6 => ⟨S1024x352, .f32⟩
  | 7 => ⟨S1024x352, .f32⟩
  | 8 => ⟨S1024x352, .f32⟩
  | 9 => ⟨S352x1024, .f32⟩
  | 10 => ⟨S1024x352, .f32⟩
  | 11 => ⟨S1024x352, .f32⟩
  | 12 => ⟨S1024x352, .f32⟩
  | 13 => ⟨S352x1024, .f32⟩
  | 14 => ⟨S1024x352, .f32⟩
  | 15 => ⟨S1024x352, .f32⟩
  | 16 => ⟨S1024x352, .f32⟩
  | 17 => ⟨S352x1024, .f32⟩
  | 18 => ⟨S1024x352, .f32⟩
  | 19 => ⟨S1024x352, .f32⟩
  | 20 => ⟨S1024x352, .f32⟩
  | 21 => ⟨S_, .f32⟩
  | 22 => ⟨S1024x352, .f32⟩
  | 23 => ⟨S1024x352, .f32⟩
  | 24 => ⟨S_, .f32⟩
  | 25 => ⟨S1024x352, .f32⟩
  | 26 => ⟨S1024x352, .f32⟩
  | 27 => ⟨S1024x352, .f32⟩
  | 28 => ⟨S_, .f32⟩
  | 29 => ⟨S1024x352, .f32⟩
  | 30 => ⟨S1024x352, .f32⟩
  | 31 => ⟨S1024x352, .f32⟩
  | 32 => ⟨S_, .f32⟩
  | 33 => ⟨S1024x352, .f32⟩
  | 34 => ⟨S1024x352, .f32⟩
  | 35 => ⟨S1024x352, .f32⟩
  | 36 => ⟨S_, .f32⟩
  | 37 => ⟨S1024x352, .f32⟩
  | 38 => ⟨S1024x352, .f32⟩
  | 39 => ⟨S_, .f32⟩
  | 40 => ⟨S1024x352, .f32⟩
  | 41 => ⟨S1024x352, .f32⟩
  | 42 => ⟨S1024x352, .f32⟩
  | 43 => ⟨S_, .f32⟩
  | 44 => ⟨S1024x352, .f32⟩
  | 45 => ⟨S1024x352, .f32⟩
  | 46 => ⟨S1024x352, .f32⟩
  | 47 => ⟨S_, .f32⟩
  | 48 => ⟨S1024x352, .f32⟩
  | 49 => ⟨S1024x352, .f32⟩
  | 50 => ⟨S1024x352, .f32⟩
  | 51 => ⟨S_, .f32⟩
  | 52 => ⟨S1024x352, .f32⟩
  | 53 => ⟨S1024x352, .f32⟩
  | 54 => ⟨S1024x352, .f32⟩
  | 55 => ⟨S_, .f32⟩
  | 56 => ⟨S1024x352, .f32⟩
  | 57 => ⟨S1024x352, .f32⟩
  | 58 => ⟨S_, .f32⟩
  | 59 => ⟨S1024x352, .f32⟩
  | 60 => ⟨S1024x352, .f32⟩
  | 61 => ⟨S1024x352, .f32⟩
  | 62 => ⟨S_, .f32⟩
  | 63 => ⟨S1024x352, .f32⟩
  | 64 => ⟨S1024x352, .f32⟩
  | 65 => ⟨S1024x352, .f32⟩
  | 66 => ⟨S_, .f32⟩
  | 67 => ⟨S1024x352, .f32⟩
  | 68 => ⟨S1024x352, .f32⟩
  | 69 => ⟨S1024x352, .f32⟩
  | 70 => ⟨S_, .f32⟩
  | 71 => ⟨S1024x352, .f32⟩
  | 72 => ⟨S1024x352, .f32⟩
  | 73 => ⟨S_, .f32⟩
  | 74 => ⟨S1024x352, .f32⟩
  | 75 => ⟨S1024x352, .f32⟩
  | 76 => ⟨S1024x352, .f32⟩
  | 77 => ⟨S_, .f32⟩
  | 78 => ⟨S1024x352, .f32⟩
  | 79 => ⟨S1024x352, .f32⟩
  | 80 => ⟨S1024x352, .f32⟩
  | 81 => ⟨S_, .f32⟩
  | 82 => ⟨S1024x352, .f32⟩
  | 83 => ⟨S1024x352, .f32⟩
  | 84 => ⟨S1024x352, .f32⟩
  | 85 => ⟨S_, .f32⟩
  | 86 => ⟨S1024x352, .f32⟩
  | 87 => ⟨S1024x352, .f32⟩
  | 88 => ⟨S1024x352, .f32⟩
  | 89 => ⟨S_, .f32⟩
  | 90 => ⟨S1024x352, .f32⟩
  | 91 => ⟨S1024x352, .f32⟩
  | 92 => ⟨S_, .f32⟩
  | 93 => ⟨S1024x352, .f32⟩
  | 94 => ⟨S1024x352, .f32⟩
  | 95 => ⟨S1024x352, .f32⟩
  | 96 => ⟨S_, .f32⟩
  | 97 => ⟨S1024x352, .f32⟩
  | 98 => ⟨S1024x352, .f32⟩
  | 99 => ⟨S1024x352, .f32⟩
  | 100 => ⟨S_, .f32⟩
  | 101 => ⟨S1024x352, .f32⟩
  | 102 => ⟨S1024x352, .f32⟩
  | 103 => ⟨S1024x352, .f32⟩
  | 104 => ⟨S_, .f32⟩
  | 105 => ⟨S1024x352, .f32⟩
  | 106 => ⟨S1024x352, .f32⟩
  | 107 => ⟨S_, .f32⟩
  | 108 => ⟨S1024x352, .f32⟩
  | 109 => ⟨S1024x352, .f32⟩
  | 110 => ⟨S1024x352, .f32⟩
  | 111 => ⟨S_, .f32⟩
  | 112 => ⟨S1024x352, .f32⟩
  | 113 => ⟨S1024x352, .f32⟩
  | 114 => ⟨S1024x352, .f32⟩
  | 115 => ⟨S_, .f32⟩
  | 116 => ⟨S1024x352, .f32⟩
  | 117 => ⟨S1024x352, .f32⟩
  | 118 => ⟨S1024x352, .f32⟩
  | 119 => ⟨S_, .f32⟩
  | 120 => ⟨S1024x352, .f32⟩
  | 121 => ⟨S1024x352, .f32⟩
  | 122 => ⟨S1024x352, .f32⟩
  | 123 => ⟨S_, .f32⟩
  | 124 => ⟨S1024x352, .f32⟩
  | 125 => ⟨S1024x352, .f32⟩
  | 126 => ⟨S_, .f32⟩
  | 127 => ⟨S1024x352, .f32⟩
  | _ => ⟨S1024x352, .f32⟩

abbrev hbmTy0_1 (i : Nat) : BufTy := match i % 128 with
  | 0 => ⟨S1024x352, .f32⟩
  | 1 => ⟨S1024x352, .f32⟩
  | 2 => ⟨S_, .f32⟩
  | 3 => ⟨S1024x352, .f32⟩
  | 4 => ⟨S1024x352, .f32⟩
  | 5 => ⟨S1024x352, .f32⟩
  | 6 => ⟨S_, .f32⟩
  | 7 => ⟨S1024x352, .f32⟩
  | 8 => ⟨S1024x352, .f32⟩
  | 9 => ⟨S1024x352, .f32⟩
  | 10 => ⟨S_, .f32⟩
  | 11 => ⟨S1024x352, .f32⟩
  | 12 => ⟨S1024x352, .f32⟩
  | 13 => ⟨S_, .f32⟩
  | 14 => ⟨S1024x352, .f32⟩
  | 15 => ⟨S1024x352, .f32⟩
  | 16 => ⟨S1024x352, .f32⟩
  | 17 => ⟨S_, .f32⟩
  | 18 => ⟨S1024x352, .f32⟩
  | 19 => ⟨S1024x352, .f32⟩
  | 20 => ⟨S1024x352, .f32⟩
  | 21 => ⟨S_, .f32⟩
  | 22 => ⟨S1024x352, .f32⟩
  | 23 => ⟨S1024x352, .f32⟩
  | 24 => ⟨S1024x352, .f32⟩
  | 25 => ⟨S_, .f32⟩
  | 26 => ⟨S1024x352, .f32⟩
  | 27 => ⟨S1024x352, .f32⟩
  | 28 => ⟨S1024x352, .f32⟩
  | 29 => ⟨S_, .f32⟩
  | 30 => ⟨S1024x352, .f32⟩
  | 31 => ⟨S1024x352, .f32⟩
  | 32 => ⟨S_, .f32⟩
  | 33 => ⟨S1024x352, .f32⟩
  | 34 => ⟨S1024x352, .f32⟩
  | 35 => ⟨S1024x352, .f32⟩
  | 36 => ⟨S_, .f32⟩
  | 37 => ⟨S1024x352, .f32⟩
  | 38 => ⟨S1024x352, .f32⟩
  | 39 => ⟨S1024x352, .f32⟩
  | 40 => ⟨S_, .f32⟩
  | 41 => ⟨S1024x352, .f32⟩
  | 42 => ⟨S1024x352, .f32⟩
  | 43 => ⟨S1024x352, .f32⟩
  | 44 => ⟨S_, .f32⟩
  | 45 => ⟨S1024x352, .f32⟩
  | 46 => ⟨S1024x352, .f32⟩
  | 47 => ⟨S_, .f32⟩
  | 48 => ⟨S1024x352, .f32⟩
  | 49 => ⟨S1024x352, .f32⟩
  | 50 => ⟨S1024x352, .f32⟩
  | 51 => ⟨S_, .f32⟩
  | 52 => ⟨S1024x352, .f32⟩
  | 53 => ⟨S1024x352, .f32⟩
  | 54 => ⟨S1024x352, .f32⟩
  | 55 => ⟨S_, .f32⟩
  | 56 => ⟨S1024x352, .f32⟩
  | 57 => ⟨S1024x352, .f32⟩
  | 58 => ⟨S1024x352, .f32⟩
  | 59 => ⟨S_, .f32⟩
  | 60 => ⟨S1024x352, .f32⟩
  | 61 => ⟨S1024x352, .f32⟩
  | _ => ⟨S1024x352, .f32⟩

abbrev hbmTy (i : Nat) : BufTy := match i / 128 with
  | 0 => hbmTy0_0 i
  | 1 => hbmTy0_1 i
  | _ => ⟨S1024x352, .f32⟩

abbrev bufTy : (tb : Table) → Fin (tcTables nBuf tb) → BufTy
  | .hbm, ⟨i, _⟩ => hbmTy i
  | _, _ => ⟨S1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_v2 : Ref sig .tc := ⟨.hbm, 23, rfl⟩
abbrev main_cst_0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_cst_1 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_3 : Ref sig .tc := ⟨.hbm, 36, rfl⟩
abbrev main_v12 : Ref sig .tc := ⟨.hbm, 37, rfl⟩
abbrev main_v13 : Ref sig .tc := ⟨.hbm, 38, rfl⟩
abbrev main_cst_4 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_5 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_6 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_7 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_8 : Ref sig .tc := ⟨.hbm, 55, rfl⟩
abbrev main_v26 : Ref sig .tc := ⟨.hbm, 56, rfl⟩
abbrev main_v27 : Ref sig .tc := ⟨.hbm, 57, rfl⟩
abbrev main_cst_9 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_10 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_11 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_12 : Ref sig .tc := ⟨.hbm, 70, rfl⟩
abbrev main_v37 : Ref sig .tc := ⟨.hbm, 71, rfl⟩
abbrev main_v38 : Ref sig .tc := ⟨.hbm, 72, rfl⟩
abbrev main_cst_13 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst_14 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_15 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_16 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_17 : Ref sig .tc := ⟨.hbm, 89, rfl⟩
abbrev main_v51 : Ref sig .tc := ⟨.hbm, 90, rfl⟩
abbrev main_v52 : Ref sig .tc := ⟨.hbm, 91, rfl⟩
abbrev main_cst_18 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_19 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_20 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_21 : Ref sig .tc := ⟨.hbm, 104, rfl⟩
abbrev main_v62 : Ref sig .tc := ⟨.hbm, 105, rfl⟩
abbrev main_v63 : Ref sig .tc := ⟨.hbm, 106, rfl⟩
abbrev main_cst_22 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_23 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_cst_24 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_25 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_cst_26 : Ref sig .tc := ⟨.hbm, 123, rfl⟩
abbrev main_v76 : Ref sig .tc := ⟨.hbm, 124, rfl⟩
abbrev main_v77 : Ref sig .tc := ⟨.hbm, 125, rfl⟩
abbrev main_cst_27 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_cst_28 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_cst_29 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_cst_30 : Ref sig .tc := ⟨.hbm, 138, rfl⟩
abbrev main_v87 : Ref sig .tc := ⟨.hbm, 139, rfl⟩
abbrev main_v88 : Ref sig .tc := ⟨.hbm, 140, rfl⟩
abbrev main_cst_31 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_cst_32 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_cst_33 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_cst_34 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_cst_35 : Ref sig .tc := ⟨.hbm, 157, rfl⟩
abbrev main_v101 : Ref sig .tc := ⟨.hbm, 158, rfl⟩
abbrev main_v102 : Ref sig .tc := ⟨.hbm, 159, rfl⟩
abbrev main_cst_36 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_cst_37 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_cst_38 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_cst_39 : Ref sig .tc := ⟨.hbm, 172, rfl⟩
abbrev main_v112 : Ref sig .tc := ⟨.hbm, 173, rfl⟩
abbrev main_v113 : Ref sig .tc := ⟨.hbm, 174, rfl⟩
abbrev main_cst_40 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_cst_41 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_cst_42 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_cst_43 : Ref sig .tc := ⟨.hbm, 187, rfl⟩
abbrev main_v123 : Ref sig .tc := ⟨.hbm, 188, rfl⟩
abbrev main_v124 : Ref sig .tc := ⟨.hbm, 189, rfl⟩

abbrev nD : Nat := 1
abbrev τ : Topo := Topo.v7x

variable {F : FTy → Type} [FloatOps F]
-- ==== Kernel7.lean ====
abbrev S352x1024 : Shape := ⟨2, ![352, 1024]⟩
abbrev S176x1024 : Shape := ⟨2, ![176, 1024]⟩

abbrev nBuf : Space → Nat
  | .hbm => 14
  | .vmem => 28
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | .local _ .vmem, ⟨22, _⟩ => ⟨S176x1024, .f32⟩
  | .local _ .vmem, ⟨23, _⟩ => ⟨S176x1024, .f32⟩
  | .local _ .vmem, ⟨24, _⟩ => ⟨S176x1024, .f32⟩
  | .local _ .vmem, ⟨25, _⟩ => ⟨S176x1024, .f32⟩
  | .local _ .vmem, ⟨26, _⟩ => ⟨S176x1024, .f32⟩
  | .local _ .vmem, ⟨27, _⟩ => ⟨S176x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S176x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel7Ideal.lean ====
abbrev S352x1024 : Shape := ⟨2, ![352, 1024]⟩
abbrev S176x1024 : Shape := ⟨2, ![176, 1024]⟩

abbrev nBuf : Space → Nat
  | .hbm => 14
  | .vmem => 28
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | .local _ .vmem, ⟨22, _⟩ => ⟨S176x1024, .f32⟩
  | .local _ .vmem, ⟨23, _⟩ => ⟨S176x1024, .f32⟩
  | .local _ .vmem, ⟨24, _⟩ => ⟨S176x1024, .f32⟩
  | .local _ .vmem, ⟨25, _⟩ => ⟨S176x1024, .f32⟩
  | .local _ .vmem, ⟨26, _⟩ => ⟨S176x1024, .f32⟩
  | .local _ .vmem, ⟨27, _⟩ => ⟨S176x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S176x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference7Ideal.lean ====
abbrev S352x1024 : Shape := ⟨2, ![352, 1024]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S_, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S352x1024, .f32⟩
  | .hbm, ⟨23, _⟩ => ⟨S_, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | .hbm, ⟨37, _⟩ => ⟨S352x1024, .f32⟩
  | .hbm, ⟨38, _⟩ => ⟨S_, .f32⟩
  | .hbm, ⟨39, _⟩ => ⟨S352x1024, .f32⟩
  | .hbm, ⟨40, _⟩ => ⟨S352x1024, .f32⟩
  | .hbm, ⟨41, _⟩ => ⟨S_, .f32⟩
  | .hbm, ⟨42, _⟩ => ⟨S352x1024, .f32⟩
  | .hbm, ⟨43, _⟩ => ⟨S352x1024, .f32⟩
  | .hbm, ⟨44, _⟩ => ⟨S_, .f32⟩
  | .hbm, ⟨45, _⟩ => ⟨S352x1024, .f32⟩
  | .hbm, ⟨46, _⟩ => ⟨S352x1024, .f32⟩
  | .hbm, ⟨47, _⟩ => ⟨S352x1024, .f32⟩
  | .hbm, ⟨48, _⟩ => ⟨S_, .f32⟩
  | .hbm, ⟨49, _⟩ => ⟨S352x1024, .f32⟩
  | .hbm, ⟨50, _⟩ => ⟨S352x1024, .f32⟩
  | .hbm, ⟨51, _⟩ => ⟨S352x1024, .f32⟩
  | .hbm, ⟨52, _⟩ => ⟨S_, .f32⟩
  | .hbm, ⟨53, _⟩ => ⟨S352x1024, .f32⟩
  | .hbm, ⟨54, _⟩ => ⟨S352x1024, .f32⟩
  | .hbm, ⟨55, _⟩ => ⟨S352x1024, .f32⟩
  | .hbm, ⟨56, _⟩ => ⟨S_, .f32⟩
  | .hbm, ⟨57, _⟩ => ⟨S352x1024, .f32⟩
  | .hbm, ⟨58, _⟩ => ⟨S352x1024, .f32⟩
  | .hbm, ⟨59, _⟩ => ⟨S_, .f32⟩
  | .hbm, ⟨60, _⟩ => ⟨S352x1024, .f32⟩
  | .hbm, ⟨61, _⟩ => ⟨S352x1024, .f32⟩
  | .hbm, ⟨62, _⟩ => ⟨S352x1024, .f32⟩
  | .hbm, ⟨63, _⟩ => ⟨S_, .f32⟩
  | .hbm, ⟨64, _⟩ => ⟨S352x1024, .f32⟩
  | .hbm, ⟨65, _⟩ => ⟨S352x1024, .f32⟩
  | .hbm, ⟨66, _⟩ => ⟨S352x1024, .f32⟩
  | .hbm, ⟨67, _⟩ => ⟨S_, .f32⟩
  | .hbm, ⟨68, _⟩ => ⟨S352x1024, .f32⟩
  | .hbm, ⟨69, _⟩ => ⟨S352x1024, .f32⟩
  | .hbm, ⟨70, _⟩ => ⟨S352x1024, .f32⟩
  | .hbm, ⟨71, _⟩ => ⟨S_, .f32⟩
  | .hbm, ⟨72, _⟩ => ⟨S352x1024, .f32⟩
  | .hbm, ⟨73, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Kernel8.lean ====
abbrev S512x128 : Shape := ⟨2, ![512, 128]⟩

abbrev nBuf : Space → Nat
  | .hbm => 7
  | .vmem => 7
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel8Ideal.lean ====
abbrev S512x128 : Shape := ⟨2, ![512, 128]⟩

abbrev nBuf : Space → Nat
  | .hbm => 7
  | .vmem => 7
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference8Ideal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel9Ideal.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference9Ideal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S512x128 : Shape := ⟨2, ![512, 128]⟩
abbrev S128x512 : Shape := ⟨2, ![128, 512]⟩

abbrev nBuf : Space → Nat
  | .hbm => 8
  | .vmem => 8
  | .smem => 0
  | _ => 0

abbrev bufTy : (tb : Table) → Fin (tcTables nBuf tb) → BufTy
  | .hbm, ⟨0, _⟩ => ⟨S512x128, .f32⟩
  | .hbm, ⟨1, _⟩ => ⟨S128x512, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S512x128, .f32⟩
  | .local _ .vmem, ⟨1, _⟩ => ⟨S128x512, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel10Ideal.lean ====
abbrev S512x128 : Shape := ⟨2, ![512, 128]⟩
abbrev S128x512 : Shape := ⟨2, ![128, 512]⟩

abbrev nBuf : Space → Nat
  | .hbm => 8
  | .vmem => 8
  | .smem => 0
  | _ => 0

abbrev bufTy : (tb : Table) → Fin (tcTables nBuf tb) → BufTy
  | .hbm, ⟨0, _⟩ => ⟨S512x128, .f32⟩
  | .hbm, ⟨1, _⟩ => ⟨S128x512, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S512x128, .f32⟩
  | .local _ .vmem, ⟨1, _⟩ => ⟨S128x512, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference10Ideal.lean ====
abbrev S512x128 : Shape := ⟨2, ![512, 128]⟩
abbrev S128x512 : Shape := ⟨2, ![128, 512]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S128x512, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S_, .f32⟩
  | .hbm, ⟨6, _⟩ => ⟨S512x128, .f32⟩
  | .hbm, ⟨7, _⟩ => ⟨S512x128, .f32⟩
  | .hbm, ⟨8, _⟩ => ⟨S_, .f32⟩
  | .hbm, ⟨9, _⟩ => ⟨S512x128, .f32⟩
  | .hbm, ⟨10, _⟩ => ⟨S512x128, .f32⟩
  | .hbm, ⟨11, _⟩ => ⟨S512x128, .f32⟩
  | .hbm, ⟨12, _⟩ => ⟨S_, .f32⟩
  | .hbm, ⟨13, _⟩ => ⟨S512x128, .f32⟩
  | .hbm, ⟨14, _⟩ => ⟨S512x128, .f32⟩
  | .hbm, ⟨15, _⟩ => ⟨S512x128, .f32⟩
  | .hbm, ⟨16, _⟩ => ⟨S_, .f32⟩
  | .hbm, ⟨17, _⟩ => ⟨S512x128, .f32⟩
  | .hbm, ⟨18, _⟩ => ⟨S512x128, .f32⟩
  | .hbm, ⟨19, _⟩ => ⟨S512x128, .f32⟩
  | .hbm, ⟨20, _⟩ => ⟨S_, .f32⟩
  | .hbm, ⟨21, _⟩ => ⟨S512x128, .f32⟩
  | .hbm, ⟨22, _⟩ => ⟨S512x128, .f32⟩
  | .hbm, ⟨23, _⟩ => ⟨S_, .f32⟩
  | .hbm, ⟨24, _⟩ => ⟨S512x128, .f32⟩
  | .hbm, ⟨25, _⟩ => ⟨S512x128, .f32⟩
  | .hbm, ⟨26, _⟩ => ⟨S512x128, .f32⟩
  | .hbm, ⟨27, _⟩ => ⟨S_, .f32⟩
  | .hbm, ⟨28, _⟩ => ⟨S512x128, .f32⟩
  | .hbm, ⟨29, _⟩ => ⟨S512x128, .f32⟩
  | .hbm, ⟨30, _⟩ => ⟨S512x128, .f32⟩
  | .hbm, ⟨31, _⟩ => ⟨S_, .f32⟩
  | .hbm, ⟨32, _⟩ => ⟨S512x128, .f32⟩
  | .hbm, ⟨33, _⟩ => ⟨S512x128, .f32⟩
  | .hbm, ⟨34, _⟩ => ⟨S512x128, .f32⟩
  | .hbm, ⟨35, _⟩ => ⟨S_, .f32⟩
  | .hbm, ⟨36, _⟩ => ⟨S512x128, .f32⟩
  | .hbm, ⟨37, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel11.lean ====
abbrev S32x64 : Shape := ⟨2, ![32, 64]⟩

abbrev nBuf : Space → Nat
  | .hbm => 14
  | .vmem => 14
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x64, .f32⟩
  | .hbm, ⟨3, _⟩ => ⟨S32x64, .f32⟩
  | .hbm, ⟨4, _⟩ => ⟨S32x64, .f32⟩
  | .hbm, ⟨5, _⟩ => ⟨S32x64, .f32⟩
  | .hbm, ⟨6, _⟩ => ⟨S32x64, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .local _ .vmem, ⟨0, _⟩ => ⟨S32x64, .f32⟩
  | .local _ .vmem, ⟨1, _⟩ => ⟨S32x64, .f32⟩
  | .local _ .vmem, ⟨2, _⟩ => ⟨S32x64, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | .local _ .vmem, ⟨7, _⟩ => ⟨S32x64, .f32⟩
  | .local _ .vmem, ⟨8, _⟩ => ⟨S32x64, .f32⟩
  | .local _ .vmem, ⟨9, _⟩ => ⟨S32x64, .f32⟩
  | .local _ .vmem, ⟨10, _⟩ => ⟨S32x64, .f32⟩
  | .local _ .vmem, ⟨11, _⟩ => ⟨S32x64, .f32⟩
  | .local _ .vmem, ⟨12, _⟩ => ⟨S32x64, .f32⟩
  | .local _ .vmem, ⟨13, _⟩ => ⟨S32x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S32x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S32x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S32x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== Kernel11Ideal.lean ====
abbrev S32x64 : Shape := ⟨2, ![32, 64]⟩

abbrev nBuf : Space → Nat
  | .hbm => 14
  | .vmem => 14
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x64, .f32⟩
  | .hbm, ⟨3, _⟩ => ⟨S32x64, .f32⟩
  | .hbm, ⟨4, _⟩ => ⟨S32x64, .f32⟩
  | .hbm, ⟨5, _⟩ => ⟨S32x64, .f32⟩
  | .hbm, ⟨6, _⟩ => ⟨S32x64, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .local _ .vmem, ⟨0, _⟩ => ⟨S32x64, .f32⟩
  | .local _ .vmem, ⟨1, _⟩ => ⟨S32x64, .f32⟩
  | .local _ .vmem, ⟨2, _⟩ => ⟨S32x64, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | .local _ .vmem, ⟨7, _⟩ => ⟨S32x64, .f32⟩
  | .local _ .vmem, ⟨8, _⟩ => ⟨S32x64, .f32⟩
  | .local _ .vmem, ⟨9, _⟩ => ⟨S32x64, .f32⟩
  | .local _ .vmem, ⟨10, _⟩ => ⟨S32x64, .f32⟩
  | .local _ .vmem, ⟨11, _⟩ => ⟨S32x64, .f32⟩
  | .local _ .vmem, ⟨12, _⟩ => ⟨S32x64, .f32⟩
  | .local _ .vmem, ⟨13, _⟩ => ⟨S32x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S32x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S32x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S32x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== Reference11Ideal.lean ====
abbrev S32x64 : Shape := ⟨2, ![32, 64]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x64, .f32⟩
  | .hbm, ⟨3, _⟩ => ⟨S32x64, .f32⟩
  | .hbm, ⟨4, _⟩ => ⟨S32x64, .f32⟩
  | .hbm, ⟨5, _⟩ => ⟨S32x64, .f32⟩
  | .hbm, ⟨6, _⟩ => ⟨S32x64, .f32⟩
  | .hbm, ⟨7, _⟩ => ⟨S32x64, .f32⟩
  | .hbm, ⟨8, _⟩ => ⟨S_, .f32⟩
  | .hbm, ⟨9, _⟩ => ⟨S32x64, .f32⟩
  | .hbm, ⟨10, _⟩ => ⟨S32x64, .f32⟩
  | .hbm, ⟨11, _⟩ => ⟨S_, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S_, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S_, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S_, .f32⟩
  | .hbm, ⟨24, _⟩ => ⟨S32x64, .f32⟩
  | .hbm, ⟨25, _⟩ => ⟨S32x64, .f32⟩
  | .hbm, ⟨26, _⟩ => ⟨S_, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S_, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S_, .f32⟩
  | .hbm, ⟨35, _⟩ => ⟨S32x64, .f32⟩
  | .hbm, ⟨36, _⟩ => ⟨S32x64, .f32⟩
  | .hbm, ⟨37, _⟩ => ⟨S32x64, .f32⟩
  | .hbm, ⟨38, _⟩ => ⟨S_, .f32⟩
  | .hbm, ⟨39, _⟩ => ⟨S32x64, .f32⟩
  | .hbm, ⟨40, _⟩ => ⟨S32x64, .f32⟩
  | .hbm, ⟨41, _⟩ => ⟨S_, .f32⟩
  | .hbm, ⟨42, _⟩ => ⟨S32x64, .f32⟩
  | .hbm, ⟨43, _⟩ => ⟨S32x64, .f32⟩
  | .hbm, ⟨44, _⟩ => ⟨S_, .f32⟩
  | .hbm, ⟨45, _⟩ => ⟨S32x64, .f32⟩
  | .hbm, ⟨46, _⟩ => ⟨S32x64, .f32⟩
  | .hbm, ⟨47, _⟩ => ⟨S32x64, .f32⟩
  | .hbm, ⟨48, _⟩ => ⟨S_, .f32⟩
  | .hbm, ⟨49, _⟩ => ⟨S32x64, .f32⟩
  | .hbm, ⟨50, _⟩ => ⟨S32x64, .f32⟩
  | .hbm, ⟨51, _⟩ => ⟨S32x64, .f32⟩
  | .hbm, ⟨52, _⟩ => ⟨S_, .f32⟩
  | .hbm, ⟨53, _⟩ => ⟨S32x64, .f32⟩
  | .hbm, ⟨54, _⟩ => ⟨S32x64, .f32⟩
  | .hbm, ⟨55, _⟩ => ⟨S32x64, .f32⟩
  | .hbm, ⟨56, _⟩ => ⟨S_, .f32⟩
  | .hbm, ⟨57, _⟩ => ⟨S32x64, .f32⟩
  | .hbm, ⟨58, _⟩ => ⟨S32x64, .f32⟩
  | .hbm, ⟨59, _⟩ => ⟨S_, .f32⟩
  | .hbm, ⟨60, _⟩ => ⟨S32x64, .f32⟩
  | .hbm, ⟨61, _⟩ => ⟨S32x64, .f32⟩
  | .hbm, ⟨62, _⟩ => ⟨S32x64, .f32⟩
  | .hbm, ⟨63, _⟩ => ⟨S_, .f32⟩
  | .hbm, ⟨64, _⟩ => ⟨S32x64, .f32⟩
  | .hbm, ⟨65, _⟩ => ⟨S32x64, .f32⟩
  | .hbm, ⟨66, _⟩ => ⟨S32x64, .f32⟩
  | .hbm, ⟨67, _⟩ => ⟨S_, .f32⟩
  | .hbm, ⟨68, _⟩ => ⟨S32x64, .f32⟩
  | .hbm, ⟨69, _⟩ => ⟨S32x64, .f32⟩
  | .hbm, ⟨70, _⟩ => ⟨S32x64, .f32⟩
  | .hbm, ⟨71, _⟩ => ⟨S_, .f32⟩
  | .hbm, ⟨72, _⟩ => ⟨S32x64, .f32⟩
  | .hbm, ⟨73, _⟩ => ⟨S32x64, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Kernel12.lean ====
abbrev S2x16 : Shape := ⟨2, ![2, 16]⟩

abbrev nBuf : Space → Nat
  | .hbm => 7
  | .vmem => 7
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S2x16, .f32⟩
  | .hbm, ⟨5, _⟩ => ⟨S2x16, .f32⟩
  | .hbm, ⟨6, _⟩ => ⟨S2x16, .f32⟩
  | .local _ .vmem, ⟨0, _⟩ => ⟨S2x16, .f32⟩
  | .local _ .vmem, ⟨1, _⟩ => ⟨S2x16, .f32⟩
  | .local _ .vmem, ⟨2, _⟩ => ⟨S2x16, .f32⟩
  | .local _ .vmem, ⟨3, _⟩ => ⟨S2x16, .f32⟩
  | .local _ .vmem, ⟨4, _⟩ => ⟨S2x16, .f32⟩
  | .local _ .vmem, ⟨5, _⟩ => ⟨S2x16, .f32⟩
  | .local _ .vmem, ⟨6, _⟩ => ⟨S2x16, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel12Ideal.lean ====
abbrev S2x16 : Shape := ⟨2, ![2, 16]⟩

abbrev nBuf : Space → Nat
  | .hbm => 7
  | .vmem => 7
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S2x16, .f32⟩
  | .hbm, ⟨5, _⟩ => ⟨S2x16, .f32⟩
  | .hbm, ⟨6, _⟩ => ⟨S2x16, .f32⟩
  | .local _ .vmem, ⟨0, _⟩ => ⟨S2x16, .f32⟩
  | .local _ .vmem, ⟨1, _⟩ => ⟨S2x16, .f32⟩
  | .local _ .vmem, ⟨2, _⟩ => ⟨S2x16, .f32⟩
  | .local _ .vmem, ⟨3, _⟩ => ⟨S2x16, .f32⟩
  | .local _ .vmem, ⟨4, _⟩ => ⟨S2x16, .f32⟩
  | .local _ .vmem, ⟨5, _⟩ => ⟨S2x16, .f32⟩
  | .local _ .vmem, ⟨6, _⟩ => ⟨S2x16, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference12Ideal.lean ====
abbrev S2x16 : Shape := ⟨2, ![2, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S_, .f32⟩
  | .hbm, ⟨5, _⟩ => ⟨S2x16, .f32⟩
  | .hbm, ⟨6, _⟩ => ⟨S2x16, .f32⟩
  | .hbm, ⟨7, _⟩ => ⟨S_, .f32⟩
  | .hbm, ⟨8, _⟩ => ⟨S2x16, .f32⟩
  | .hbm, ⟨9, _⟩ => ⟨S2x16, .f32⟩
  | .hbm, ⟨10, _⟩ => ⟨S2x16, .f32⟩
  | .hbm, ⟨11, _⟩ => ⟨S_, .f32⟩
  | .hbm, ⟨12, _⟩ => ⟨S2x16, .f32⟩
  | .hbm, ⟨13, _⟩ => ⟨S2x16, .f32⟩
  | .hbm, ⟨14, _⟩ => ⟨S2x16, .f32⟩
  | .hbm, ⟨15, _⟩ => ⟨S_, .f32⟩
  | .hbm, ⟨16, _⟩ => ⟨S2x16, .f32⟩
  | .hbm, ⟨17, _⟩ => ⟨S2x16, .f32⟩
  | .hbm, ⟨18, _⟩ => ⟨S2x16, .f32⟩
  | .hbm, ⟨19, _⟩ => ⟨S_, .f32⟩
  | .hbm, ⟨20, _⟩ => ⟨S2x16, .f32⟩
  | .hbm, ⟨21, _⟩ => ⟨S2x16, .f32⟩
  | .hbm, ⟨22, _⟩ => ⟨S_, .f32⟩
  | .hbm, ⟨23, _⟩ => ⟨S2x16, .f32⟩
  | .hbm, ⟨24, _⟩ => ⟨S2x16, .f32⟩
  | .hbm, ⟨25, _⟩ => ⟨S2x16, .f32⟩
  | .hbm, ⟨26, _⟩ => ⟨S_, .f32⟩
  | .hbm, ⟨27, _⟩ => ⟨S2x16, .f32⟩
  | .hbm, ⟨28, _⟩ => ⟨S2x16, .f32⟩
  | .hbm, ⟨29, _⟩ => ⟨S2x16, .f32⟩
  | .hbm, ⟨30, _⟩ => ⟨S_, .f32⟩
  | .hbm, ⟨31, _⟩ => ⟨S2x16, .f32⟩
  | .hbm, ⟨32, _⟩ => ⟨S2x16, .f32⟩
  | .hbm, ⟨33, _⟩ => ⟨S2x16, .f32⟩
  | .hbm, ⟨34, _⟩ => ⟨S_, .f32⟩
  | .hbm, ⟨35, _⟩ => ⟨S2x16, .f32⟩
  | .hbm, ⟨36, _⟩ => ⟨S2x16, .f32⟩
  | _, _ => ⟨S2x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S512x64 : Shape := ⟨2, ![512, 64]⟩

abbrev nBuf : Space → Nat
  | .hbm => 28
  | .vmem => 28
  | .smem => 0
  | _ => 0

abbrev bufTy : (tb : Table) → Fin (tcTables nBuf tb) → BufTy
  | .hbm, ⟨0, _⟩ => ⟨S512x64, .f32⟩
  | .hbm, ⟨1, _⟩ => ⟨S512x64, .f32⟩
  | .hbm, ⟨2, _⟩ => ⟨S512x64, .f32⟩
  | .hbm, ⟨3, _⟩ => ⟨S512x64, .f32⟩
  | .hbm, ⟨4, _⟩ => ⟨S512x64, .f32⟩
  | .hbm, ⟨5, _⟩ => ⟨S512x64, .f32⟩
  | .hbm, ⟨6, _⟩ => ⟨S512x64, .f32⟩
  | .hbm, ⟨7, _⟩ => ⟨S512x64, .f32⟩
  | .hbm, ⟨8, _⟩ => ⟨S512x64, .f32⟩
  | .hbm, ⟨9, _⟩ => ⟨S512x64, .f32⟩
  | .hbm, ⟨10, _⟩ => ⟨S512x64, .f32⟩
  | .hbm, ⟨11, _⟩ => ⟨S512x64, .f32⟩
  | .hbm, ⟨12, _⟩ => ⟨S512x64, .f32⟩
  | .hbm, ⟨13, _⟩ => ⟨S512x64, .f32⟩
  | .hbm, ⟨14, _⟩ => ⟨S512x64, .f32⟩
  | .hbm, ⟨15, _⟩ => ⟨S512x64, .f32⟩
  | .hbm, ⟨16, _⟩ => ⟨S512x64, .f32⟩
  | .hbm, ⟨17, _⟩ => ⟨S512x64, .f32⟩
  | .hbm, ⟨18, _⟩ => ⟨S512x64, .f32⟩
  | .hbm, ⟨19, _⟩ => ⟨S512x64, .f32⟩
  | .hbm, ⟨20, _⟩ => ⟨S512x64, .f32⟩
  | .hbm, ⟨21, _⟩ => ⟨S512x64, .f32⟩
  | .hbm, ⟨22, _⟩ => ⟨S512x64, .f32⟩
  | .hbm, ⟨23, _⟩ => ⟨S512x64, .f32⟩
  | .hbm, ⟨24, _⟩ => ⟨S512x64, .f32⟩
  | .hbm, ⟨25, _⟩ => ⟨S512x64, .f32⟩
  | .hbm, ⟨26, _⟩ => ⟨S512x64, .f32⟩
  | .hbm, ⟨27, _⟩ => ⟨S512x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | .local _ .vmem, ⟨14, _⟩ => ⟨S512x64, .f32⟩
  | .local _ .vmem, ⟨15, _⟩ => ⟨S512x64, .f32⟩
  | .local _ .vmem, ⟨16, _⟩ => ⟨S512x64, .f32⟩
  | .local _ .vmem, ⟨17, _⟩ => ⟨S512x64, .f32⟩
  | .local _ .vmem, ⟨18, _⟩ => ⟨S512x64, .f32⟩
  | .local _ .vmem, ⟨19, _⟩ => ⟨S512x64, .f32⟩
  | .local _ .vmem, ⟨20, _⟩ => ⟨S512x64, .f32⟩
  | .local _ .vmem, ⟨21, _⟩ => ⟨S512x64, .f32⟩
  | .local _ .vmem, ⟨22, _⟩ => ⟨S512x64, .f32⟩
  | .local _ .vmem, ⟨23, _⟩ => ⟨S512x64, .f32⟩
  | .local _ .vmem, ⟨24, _⟩ => ⟨S512x64, .f32⟩
  | .local _ .vmem, ⟨25, _⟩ => ⟨S512x64, .f32⟩
  | .local _ .vmem, ⟨26, _⟩ => ⟨S512x64, .f32⟩
  | .local _ .vmem, ⟨27, _⟩ => ⟨S512x64, .f32⟩
  | _, _ => ⟨S512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S512x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S512x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S512x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S512x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S512x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S512x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S512x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S512x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]

abbrev stage0_23 : Fin 1 → Memref sig .tc .vmem S512x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true]

abbrev stage0_24 : Fin 1 → Memref sig .tc .vmem S512x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![true]

abbrev stage0_25 : Fin 1 → Memref sig .tc .vmem S512x64 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![true]

abbrev stage0_26 : Fin 1 → Memref sig .tc .vmem S512x64 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![true]

abbrev stage0_27 : Fin 1 → Memref sig .tc .vmem S512x64 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![true]
-- ==== Kernel13Ideal.lean ====
abbrev S512x64 : Shape := ⟨2, ![512, 64]⟩

abbrev nBuf : Space → Nat
  | .hbm => 28
  | .vmem => 28
  | .smem => 0
  | _ => 0

abbrev bufTy : (tb : Table) → Fin (tcTables nBuf tb) → BufTy
  | .hbm, ⟨0, _⟩ => ⟨S512x64, .f32⟩
  | .hbm, ⟨1, _⟩ => ⟨S512x64, .f32⟩
  | .hbm, ⟨2, _⟩ => ⟨S512x64, .f32⟩
  | .hbm, ⟨3, _⟩ => ⟨S512x64, .f32⟩
  | .hbm, ⟨4, _⟩ => ⟨S512x64, .f32⟩
  | .hbm, ⟨5, _⟩ => ⟨S512x64, .f32⟩
  | .hbm, ⟨6, _⟩ => ⟨S512x64, .f32⟩
  | .hbm, ⟨7, _⟩ => ⟨S512x64, .f32⟩
  | .hbm, ⟨8, _⟩ => ⟨S512x64, .f32⟩
  | .hbm, ⟨9, _⟩ => ⟨S512x64, .f32⟩
  | .hbm, ⟨10, _⟩ => ⟨S512x64, .f32⟩
  | .hbm, ⟨11, _⟩ => ⟨S512x64, .f32⟩
  | .hbm, ⟨12, _⟩ => ⟨S512x64, .f32⟩
  | .hbm, ⟨13, _⟩ => ⟨S512x64, .f32⟩
  | .hbm, ⟨14, _⟩ => ⟨S512x64, .f32⟩
  | .hbm, ⟨15, _⟩ => ⟨S512x64, .f32⟩
  | .hbm, ⟨16, _⟩ => ⟨S512x64, .f32⟩
  | .hbm, ⟨17, _⟩ => ⟨S512x64, .f32⟩
  | .hbm, ⟨18, _⟩ => ⟨S512x64, .f32⟩
  | .hbm, ⟨19, _⟩ => ⟨S512x64, .f32⟩
  | .hbm, ⟨20, _⟩ => ⟨S512x64, .f32⟩
  | .hbm, ⟨21, _⟩ => ⟨S512x64, .f32⟩
  | .hbm, ⟨22, _⟩ => ⟨S512x64, .f32⟩
  | .hbm, ⟨23, _⟩ => ⟨S512x64, .f32⟩
  | .hbm, ⟨24, _⟩ => ⟨S512x64, .f32⟩
  | .hbm, ⟨25, _⟩ => ⟨S512x64, .f32⟩
  | .hbm, ⟨26, _⟩ => ⟨S512x64, .f32⟩
  | .hbm, ⟨27, _⟩ => ⟨S512x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | .local _ .vmem, ⟨14, _⟩ => ⟨S512x64, .f32⟩
  | .local _ .vmem, ⟨15, _⟩ => ⟨S512x64, .f32⟩
  | .local _ .vmem, ⟨16, _⟩ => ⟨S512x64, .f32⟩
  | .local _ .vmem, ⟨17, _⟩ => ⟨S512x64, .f32⟩
  | .local _ .vmem, ⟨18, _⟩ => ⟨S512x64, .f32⟩
  | .local _ .vmem, ⟨19, _⟩ => ⟨S512x64, .f32⟩
  | .local _ .vmem, ⟨20, _⟩ => ⟨S512x64, .f32⟩
  | .local _ .vmem, ⟨21, _⟩ => ⟨S512x64, .f32⟩
  | .local _ .vmem, ⟨22, _⟩ => ⟨S512x64, .f32⟩
  | .local _ .vmem, ⟨23, _⟩ => ⟨S512x64, .f32⟩
  | .local _ .vmem, ⟨24, _⟩ => ⟨S512x64, .f32⟩
  | .local _ .vmem, ⟨25, _⟩ => ⟨S512x64, .f32⟩
  | .local _ .vmem, ⟨26, _⟩ => ⟨S512x64, .f32⟩
  | .local _ .vmem, ⟨27, _⟩ => ⟨S512x64, .f32⟩
  | _, _ => ⟨S512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S512x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S512x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S512x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S512x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S512x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S512x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S512x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S512x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]

abbrev stage0_23 : Fin 1 → Memref sig .tc .vmem S512x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true]

abbrev stage0_24 : Fin 1 → Memref sig .tc .vmem S512x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![true]

abbrev stage0_25 : Fin 1 → Memref sig .tc .vmem S512x64 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![true]

abbrev stage0_26 : Fin 1 → Memref sig .tc .vmem S512x64 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![true]

abbrev stage0_27 : Fin 1 → Memref sig .tc .vmem S512x64 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![true]
-- ==== Reference13Ideal.lean ====
abbrev S512x64 : Shape := ⟨2, ![512, 64]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S512x64, .f32⟩
  | 1 => ⟨S512x64, .f32⟩
  | 2 => ⟨S512x64, .f32⟩
  | 3 => ⟨S512x64, .f32⟩
  | 4 => ⟨S512x64, .f32⟩
  | 5 => ⟨S512x64, .f32⟩
  | 6 => ⟨S512x64, .f32⟩
  | 7 => ⟨S512x64, .f32⟩
  | 8 => ⟨S512x64, .f32⟩
  | 9 => ⟨S512x64, .f32⟩
  | 10 => ⟨S512x64, .f32⟩
  | 11 => ⟨S512x64, .f32⟩
  | 12 => ⟨S512x64, .f32⟩
  | 13 => ⟨S512x64, .f32⟩
  | 14 => ⟨S512x64, .f32⟩
  | 15 => ⟨S512x64, .f32⟩
  | 16 => ⟨S_, .f32⟩
  | 17 => ⟨S512x64, .f32⟩
  | 18 => ⟨S512x64, .f32⟩
  | 19 => ⟨S_, .f32⟩
  | 20 => ⟨S512x64, .f32⟩
  | 21 => ⟨S512x64, .f32⟩
  | 22 => ⟨S512x64, .f32⟩
  | 23 => ⟨S_, .f32⟩
  | 24 => ⟨S512x64, .f32⟩
  | 25 => ⟨S512x64, .f32⟩
  | 26 => ⟨S512x64, .f32⟩
  | 27 => ⟨S_, .f32⟩
  | 28 => ⟨S512x64, .f32⟩
  | 29 => ⟨S512x64, .f32⟩
  | 30 => ⟨S512x64, .f32⟩
  | 31 => ⟨S_, .f32⟩
  | 32 => ⟨S512x64, .f32⟩
  | 33 => ⟨S512x64, .f32⟩
  | 34 => ⟨S_, .f32⟩
  | 35 => ⟨S512x64, .f32⟩
  | 36 => ⟨S512x64, .f32⟩
  | 37 => ⟨S512x64, .f32⟩
  | 38 => ⟨S_, .f32⟩
  | 39 => ⟨S512x64, .f32⟩
  | 40 => ⟨S512x64, .f32⟩
  | 41 => ⟨S512x64, .f32⟩
  | 42 => ⟨S_, .f32⟩
  | 43 => ⟨S512x64, .f32⟩
  | 44 => ⟨S512x64, .f32⟩
  | 45 => ⟨S512x64, .f32⟩
  | 46 => ⟨S_, .f32⟩
  | 47 => ⟨S512x64, .f32⟩
  | 48 => ⟨S512x64, .f32⟩
  | 49 => ⟨S_, .f32⟩
  | 50 => ⟨S512x64, .f32⟩
  | 51 => ⟨S512x64, .f32⟩
  | 52 => ⟨S_, .f32⟩
  | 53 => ⟨S512x64, .f32⟩
  | 54 => ⟨S512x64, .f32⟩
  | 55 => ⟨S512x64, .f32⟩
  | 56 => ⟨S_, .f32⟩
  | 57 => ⟨S512x64, .f32⟩
  | 58 => ⟨S512x64, .f32⟩
  | 59 => ⟨S512x64, .f32⟩
  | 60 => ⟨S_, .f32⟩
  | 61 => ⟨S512x64, .f32⟩
  | 62 => ⟨S512x64, .f32⟩
  | 63 => ⟨S512x64, .f32⟩
  | 64 => ⟨S_, .f32⟩
  | 65 => ⟨S512x64, .f32⟩
  | 66 => ⟨S512x64, .f32⟩
  | 67 => ⟨S_, .f32⟩
  | 68 => ⟨S512x64, .f32⟩
  | 69 => ⟨S512x64, .f32⟩
  | 70 => ⟨S512x64, .f32⟩
  | 71 => ⟨S_, .f32⟩
  | 72 => ⟨S512x64, .f32⟩
  | 73 => ⟨S512x64, .f32⟩
  | 74 => ⟨S512x64, .f32⟩
  | 75 => ⟨S_, .f32⟩
  | 76 => ⟨S512x64, .f32⟩
  | 77 => ⟨S512x64, .f32⟩
  | 78 => ⟨S512x64, .f32⟩
  | 79 => ⟨S_, .f32⟩
  | 80 => ⟨S512x64, .f32⟩
  | 81 => ⟨S512x64, .f32⟩
  | 82 => ⟨S_, .f32⟩
  | 83 => ⟨S512x64, .f32⟩
  | 84 => ⟨S512x64, .f32⟩
  | 85 => ⟨S_, .f32⟩
  | 86 => ⟨S512x64, .f32⟩
  | 87 => ⟨S512x64, .f32⟩
  | 88 => ⟨S512x64, .f32⟩
  | 89 => ⟨S_, .f32⟩
  | 90 => ⟨S512x64, .f32⟩
  | 91 => ⟨S512x64, .f32⟩
  | 92 => ⟨S512x64, .f32⟩
  | 93 => ⟨S_, .f32⟩
  | 94 => ⟨S512x64, .f32⟩
  | 95 => ⟨S512x64, .f32⟩
  | 96 => ⟨S512x64, .f32⟩
  | 97 => ⟨S_, .f32⟩
  | 98 => ⟨S512x64, .f32⟩
  | 99 => ⟨S512x64, .f32⟩
  | 100 => ⟨S_, .f32⟩
  | 101 => ⟨S512x64, .f32⟩
  | 102 => ⟨S512x64, .f32⟩
  | 103 => ⟨S512x64, .f32⟩
  | 104 => ⟨S_, .f32⟩
  | 105 => ⟨S512x64, .f32⟩
  | 106 => ⟨S512x64, .f32⟩
  | 107 => ⟨S512x64, .f32⟩
  | 108 => ⟨S_, .f32⟩
  | 109 => ⟨S512x64, .f32⟩
  | 110 => ⟨S512x64, .f32⟩
  | 111 => ⟨S512x64, .f32⟩
  | 112 => ⟨S_, .f32⟩
  | 113 => ⟨S512x64, .f32⟩
  | 114 => ⟨S512x64, .f32⟩
  | 115 => ⟨S_, .f32⟩
  | 116 => ⟨S512x64, .f32⟩
  | 117 => ⟨S512x64, .f32⟩
  | 118 => ⟨S_, .f32⟩
  | 119 => ⟨S512x64, .f32⟩
  | 120 => ⟨S512x64, .f32⟩
  | 121 => ⟨S512x64, .f32⟩
  | 122 => ⟨S_, .f32⟩
  | 123 => ⟨S512x64, .f32⟩
  | 124 => ⟨S512x64, .f32⟩
  | 125 => ⟨S512x64, .f32⟩
  | 126 => ⟨S_, .f32⟩
  | 127 => ⟨S512x64, .f32⟩
  | _ => ⟨S512x64, .f32⟩

abbrev hbmTy0_1 (i : Nat) : BufTy := match i % 128 with
  | 0 => ⟨S512x64, .f32⟩
  | 1 => ⟨S512x64, .f32⟩
  | 2 => ⟨S_, .f32⟩
  | 3 => ⟨S512x64, .f32⟩
  | 4 => ⟨S512x64, .f32⟩
  | 5 => ⟨S_, .f32⟩
  | 6 => ⟨S512x64, .f32⟩
  | 7 => ⟨S512x64, .f32⟩
  | 8 => ⟨S512x64, .f32⟩
  | 9 => ⟨S_, .f32⟩
  | 10 => ⟨S512x64, .f32⟩
  | 11 => ⟨S512x64, .f32⟩
  | 12 => ⟨S512x64, .f32⟩
  | 13 => ⟨S_, .f32⟩
  | 14 => ⟨S512x64, .f32⟩
  | 15 => ⟨S512x64, .f32⟩
  | 16 => ⟨S512x64, .f32⟩
  | 17 => ⟨S_, .f32⟩
  | 18 => ⟨S512x64, .f32⟩
  | 19 => ⟨S512x64, .f32⟩
  | _ => ⟨S512x64, .f32⟩

abbrev hbmTy (i : Nat) : BufTy := match i / 128 with
  | 0 => hbmTy0_0 i
  | 1 => hbmTy0_1 i
  | _ => ⟨S512x64, .f32⟩

abbrev bufTy : (tb : Table) → Fin (tcTables nBuf tb) → BufTy
  | .hbm, ⟨i, _⟩ => hbmTy i
  | _, _ => ⟨S512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Kernel14.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel14Ideal.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S256x128 : Shape := ⟨2, ![256, 128]⟩
abbrev S128x256 : Shape := ⟨2, ![128, 256]⟩

abbrev nBuf : Space → Nat
  | .hbm => 16
  | .vmem => 16
  | .smem => 0
  | _ => 0

abbrev bufTy : (tb : Table) → Fin (tcTables nBuf tb) → BufTy
  | .hbm, ⟨0, _⟩ => ⟨S256x128, .f32⟩
  | .hbm, ⟨1, _⟩ => ⟨S128x256, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S128x256, .f32⟩
  | .hbm, ⟨6, _⟩ => ⟨S256x128, .f32⟩
  | .hbm, ⟨7, _⟩ => ⟨S256x128, .f32⟩
  | .hbm, ⟨8, _⟩ => ⟨S256x128, .f32⟩
  | .hbm, ⟨9, _⟩ => ⟨S256x128, .f32⟩
  | .hbm, ⟨10, _⟩ => ⟨S256x128, .f32⟩
  | .hbm, ⟨11, _⟩ => ⟨S256x128, .f32⟩
  | .hbm, ⟨12, _⟩ => ⟨S256x128, .f32⟩
  | .hbm, ⟨13, _⟩ => ⟨S256x128, .f32⟩
  | .hbm, ⟨14, _⟩ => ⟨S256x128, .f32⟩
  | .hbm, ⟨15, _⟩ => ⟨S256x128, .f32⟩
  | .local _ .vmem, ⟨0, _⟩ => ⟨S256x128, .f32⟩
  | .local _ .vmem, ⟨1, _⟩ => ⟨S128x256, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S128x256, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== Kernel15Ideal.lean ====
abbrev S256x128 : Shape := ⟨2, ![256, 128]⟩
abbrev S128x256 : Shape := ⟨2, ![128, 256]⟩

abbrev nBuf : Space → Nat
  | .hbm => 16
  | .vmem => 16
  | .smem => 0
  | _ => 0

abbrev bufTy : (tb : Table) → Fin (tcTables nBuf tb) → BufTy
  | .hbm, ⟨0, _⟩ => ⟨S256x128, .f32⟩
  | .hbm, ⟨1, _⟩ => ⟨S128x256, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S128x256, .f32⟩
  | .hbm, ⟨6, _⟩ => ⟨S256x128, .f32⟩
  | .hbm, ⟨7, _⟩ => ⟨S256x128, .f32⟩
  | .hbm, ⟨8, _⟩ => ⟨S256x128, .f32⟩
  | .hbm, ⟨9, _⟩ => ⟨S256x128, .f32⟩
  | .hbm, ⟨10, _⟩ => ⟨S256x128, .f32⟩
  | .hbm, ⟨11, _⟩ => ⟨S256x128, .f32⟩
  | .hbm, ⟨12, _⟩ => ⟨S256x128, .f32⟩
  | .hbm, ⟨13, _⟩ => ⟨S256x128, .f32⟩
  | .hbm, ⟨14, _⟩ => ⟨S256x128, .f32⟩
  | .hbm, ⟨15, _⟩ => ⟨S256x128, .f32⟩
  | .local _ .vmem, ⟨0, _⟩ => ⟨S256x128, .f32⟩
  | .local _ .vmem, ⟨1, _⟩ => ⟨S128x256, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S128x256, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== Reference15Ideal.lean ====
abbrev S256x128 : Shape := ⟨2, ![256, 128]⟩
abbrev S128x256 : Shape := ⟨2, ![128, 256]⟩
abbrev S_ : Shape := ⟨0, ![]⟩

abbrev nBuf : Space → Nat
  | .hbm => 76
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S128x256, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S128x256, .f32⟩
  | .hbm, ⟨6, _⟩ => ⟨S256x128, .f32⟩
  | .hbm, ⟨7, _⟩ => ⟨S256x128, .f32⟩
  | .hbm, ⟨8, _⟩ => ⟨S256x128, .f32⟩
  | .hbm, ⟨9, _⟩ => ⟨S_, .f32⟩
  | .hbm, ⟨10, _⟩ => ⟨S256x128, .f32⟩
  | .hbm, ⟨11, _⟩ => ⟨S256x128, .f32⟩
  | .hbm, ⟨12, _⟩ => ⟨S_, .f32⟩
  | .hbm, ⟨13, _⟩ => ⟨S256x128, .f32⟩
  | .hbm, ⟨14, _⟩ => ⟨S256x128, .f32⟩
  | .hbm, ⟨15, _⟩ => ⟨S256x128, .f32⟩
  | .hbm, ⟨16, _⟩ => ⟨S_, .f32⟩
  | .hbm, ⟨17, _⟩ => ⟨S256x128, .f32⟩
  | .hbm, ⟨18, _⟩ => ⟨S256x128, .f32⟩
  | .hbm, ⟨19, _⟩ => ⟨S256x128, .f32⟩
  | .hbm, ⟨20, _⟩ => ⟨S_, .f32⟩
  | .hbm, ⟨21, _⟩ => ⟨S256x128, .f32⟩
  | .hbm, ⟨22, _⟩ => ⟨S256x128, .f32⟩
  | .hbm, ⟨23, _⟩ => ⟨S256x128, .f32⟩
  | .hbm, ⟨24, _⟩ => ⟨S_, .f32⟩
  | .hbm, ⟨25, _⟩ => ⟨S256x128, .f32⟩
  | .hbm, ⟨26, _⟩ => ⟨S256x128, .f32⟩
  | .hbm, ⟨27, _⟩ => ⟨S_, .f32⟩
  | .hbm, ⟨28, _⟩ => ⟨S256x128, .f32⟩
  | .hbm, ⟨29, _⟩ => ⟨S256x128, .f32⟩
  | .hbm, ⟨30, _⟩ => ⟨S256x128, .f32⟩
  | .hbm, ⟨31, _⟩ => ⟨S_, .f32⟩
  | .hbm, ⟨32, _⟩ => ⟨S256x128, .f32⟩
  | .hbm, ⟨33, _⟩ => ⟨S256x128, .f32⟩
  | .hbm, ⟨34, _⟩ => ⟨S256x128, .f32⟩
  | .hbm, ⟨35, _⟩ => ⟨S_, .f32⟩
  | .hbm, ⟨36, _⟩ => ⟨S256x128, .f32⟩
  | .hbm, ⟨37, _⟩ => ⟨S256x128, .f32⟩
  | .hbm, ⟨38, _⟩ => ⟨S256x128, .f32⟩
  | .hbm, ⟨39, _⟩ => ⟨S_, .f32⟩
  | .hbm, ⟨40, _⟩ => ⟨S256x128, .f32⟩
  | .hbm, ⟨41, _⟩ => ⟨S256x128, .f32⟩
  | .hbm, ⟨42, _⟩ => ⟨S256x128, .f32⟩
  | .hbm, ⟨43, _⟩ => ⟨S_, .f32⟩
  | .hbm, ⟨44, _⟩ => ⟨S256x128, .f32⟩
  | .hbm, ⟨45, _⟩ => ⟨S256x128, .f32⟩
  | .hbm, ⟨46, _⟩ => ⟨S_, .f32⟩
  | .hbm, ⟨47, _⟩ => ⟨S256x128, .f32⟩
  | .hbm, ⟨48, _⟩ => ⟨S256x128, .f32⟩
  | .hbm, ⟨49, _⟩ => ⟨S256x128, .f32⟩
  | .hbm, ⟨50, _⟩ => ⟨S_, .f32⟩
  | .hbm, ⟨51, _⟩ => ⟨S256x128, .f32⟩
  | .hbm, ⟨52, _⟩ => ⟨S256x128, .f32⟩
  | .hbm, ⟨53, _⟩ => ⟨S256x128, .f32⟩
  | .hbm, ⟨54, _⟩ => ⟨S_, .f32⟩
  | .hbm, ⟨55, _⟩ => ⟨S256x128, .f32⟩
  | .hbm, ⟨56, _⟩ => ⟨S256x128, .f32⟩
  | .hbm, ⟨57, _⟩ => ⟨S256x128, .f32⟩
  | .hbm, ⟨58, _⟩ => ⟨S_, .f32⟩
  | .hbm, ⟨59, _⟩ => ⟨S256x128, .f32⟩
  | .hbm, ⟨60, _⟩ => ⟨S256x128, .f32⟩
  | .hbm, ⟨61, _⟩ => ⟨S_, .f32⟩
  | .hbm, ⟨62, _⟩ => ⟨S256x128, .f32⟩
  | .hbm, ⟨63, _⟩ => ⟨S256x128, .f32⟩
  | .hbm, ⟨64, _⟩ => ⟨S256x128, .f32⟩
  | .hbm, ⟨65, _⟩ => ⟨S_, .f32⟩
  | .hbm, ⟨66, _⟩ => ⟨S256x128, .f32⟩
  | .hbm, ⟨67, _⟩ => ⟨S256x128, .f32⟩
  | .hbm, ⟨68, _⟩ => ⟨S256x128, .f32⟩
  | .hbm, ⟨69, _⟩ => ⟨S_, .f32⟩
  | .hbm, ⟨70, _⟩ => ⟨S256x128, .f32⟩
  | .hbm, ⟨71, _⟩ => ⟨S256x128, .f32⟩
  | .hbm, ⟨72, _⟩ => ⟨S256x128, .f32⟩
  | .hbm, ⟨73, _⟩ => ⟨S_, .f32⟩
  | .hbm, ⟨74, _⟩ => ⟨S256x128, .f32⟩
  | .hbm, ⟨75, _⟩ => ⟨S256x128, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_11 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_12 : Ref sig .tc := ⟨.hbm, 58, rfl⟩
abbrev main_v37 : Ref sig .tc := ⟨.hbm, 59, rfl⟩
abbrev main_v38 : Ref sig .tc := ⟨.hbm, 60, rfl⟩
abbrev main_cst_13 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_14 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_15 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_16 : Ref sig .tc := ⟨.hbm, 73, rfl⟩
abbrev main_v48 : Ref sig .tc := ⟨.hbm, 74, rfl⟩
abbrev main_v49 : Ref sig .tc := ⟨.hbm, 75, rfl⟩

abbrev nD : Nat := 1
abbrev τ : Topo := Topo.v7x

variable {F : FTy → Type} [FloatOps F]
-- ==== Kernel16.lean ====
abbrev S128x1024 : Shape := ⟨2, ![128, 1024]⟩

abbrev nBuf : Space → Nat
  | .hbm => 21
  | .vmem => 21
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S128x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]
-- ==== Kernel16Ideal.lean ====
abbrev S128x1024 : Shape := ⟨2, ![128, 1024]⟩

abbrev nBuf : Space → Nat
  | .hbm => 21
  | .vmem => 21
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S128x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]
-- ==== Reference16Ideal.lean ====
abbrev S128x1024 : Shape := ⟨2, ![128, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S_, .f32⟩
  | .hbm, ⟨46, _⟩ => ⟨S128x1024, .f32⟩
  | .hbm, ⟨47, _⟩ => ⟨S128x1024, .f32⟩
  | .hbm, ⟨48, _⟩ => ⟨S_, .f32⟩
  | .hbm, ⟨49, _⟩ => ⟨S128x1024, .f32⟩
  | .hbm, ⟨50, _⟩ => ⟨S128x1024, .f32⟩
  | .hbm, ⟨51, _⟩ => ⟨S128x1024, .f32⟩
  | .hbm, ⟨52, _⟩ => ⟨S_, .f32⟩
  | .hbm, ⟨53, _⟩ => ⟨S128x1024, .f32⟩
  | .hbm, ⟨54, _⟩ => ⟨S128x1024, .f32⟩
  | .hbm, ⟨55, _⟩ => ⟨S128x1024, .f32⟩
  | .hbm, ⟨56, _⟩ => ⟨S_, .f32⟩
  | .hbm, ⟨57, _⟩ => ⟨S128x1024, .f32⟩
  | .hbm, ⟨58, _⟩ => ⟨S128x1024, .f32⟩
  | .hbm, ⟨59, _⟩ => ⟨S128x1024, .f32⟩
  | .hbm, ⟨60, _⟩ => ⟨S_, .f32⟩
  | .hbm, ⟨61, _⟩ => ⟨S128x1024, .f32⟩
  | .hbm, ⟨62, _⟩ => ⟨S128x1024, .f32⟩
  | .hbm, ⟨63, _⟩ => ⟨S_, .f32⟩
  | .hbm, ⟨64, _⟩ => ⟨S128x1024, .f32⟩
  | .hbm, ⟨65, _⟩ => ⟨S128x1024, .f32⟩
  | .hbm, ⟨66, _⟩ => ⟨S128x1024, .f32⟩
  | .hbm, ⟨67, _⟩ => ⟨S_, .f32⟩
  | .hbm, ⟨68, _⟩ => ⟨S128x1024, .f32⟩
  | .hbm, ⟨69, _⟩ => ⟨S128x1024, .f32⟩
  | .hbm, ⟨70, _⟩ => ⟨S128x1024, .f32⟩
  | .hbm, ⟨71, _⟩ => ⟨S_, .f32⟩
  | .hbm, ⟨72, _⟩ => ⟨S128x1024, .f32⟩
  | .hbm, ⟨73, _⟩ => ⟨S128x1024, .f32⟩
  | .hbm, ⟨74, _⟩ => ⟨S128x1024, .f32⟩
  | .hbm, ⟨75, _⟩ => ⟨S_, .f32⟩
  | .hbm, ⟨76, _⟩ => ⟨S128x1024, .f32⟩
  | .hbm, ⟨77, _⟩ => ⟨S128x1024, .f32⟩
  | .hbm, ⟨78, _⟩ => ⟨S_, .f32⟩
  | .hbm, ⟨79, _⟩ => ⟨S128x1024, .f32⟩
  | .hbm, ⟨80, _⟩ => ⟨S128x1024, .f32⟩
  | .hbm, ⟨81, _⟩ => ⟨S_, .f32⟩
  | .hbm, ⟨82, _⟩ => ⟨S128x1024, .f32⟩
  | .hbm, ⟨83, _⟩ => ⟨S128x1024, .f32⟩
  | .hbm, ⟨84, _⟩ => ⟨S128x1024, .f32⟩
  | .hbm, ⟨85, _⟩ => ⟨S_, .f32⟩
  | .hbm, ⟨86, _⟩ => ⟨S128x1024, .f32⟩
  | .hbm, ⟨87, _⟩ => ⟨S128x1024, .f32⟩
  | .hbm, ⟨88, _⟩ => ⟨S128x1024, .f32⟩
  | .hbm, ⟨89, _⟩ => ⟨S_, .f32⟩
  | .hbm, ⟨90, _⟩ => ⟨S128x1024, .f32⟩
  | .hbm, ⟨91, _⟩ => ⟨S128x1024, .f32⟩
  | .hbm, ⟨92, _⟩ => ⟨S128x1024, .f32⟩
  | .hbm, ⟨93, _⟩ => ⟨S_, .f32⟩
  | .hbm, ⟨94, _⟩ => ⟨S128x1024, .f32⟩
  | .hbm, ⟨95, _⟩ => ⟨S128x1024, .f32⟩
  | .hbm, ⟨96, _⟩ => ⟨S_, .f32⟩
  | .hbm, ⟨97, _⟩ => ⟨S128x1024, .f32⟩
  | .hbm, ⟨98, _⟩ => ⟨S128x1024, .f32⟩
  | .hbm, ⟨99, _⟩ => ⟨S128x1024, .f32⟩
  | .hbm, ⟨100, _⟩ => ⟨S_, .f32⟩
  | .hbm, ⟨101, _⟩ => ⟨S128x1024, .f32⟩
  | .hbm, ⟨102, _⟩ => ⟨S128x1024, .f32⟩
  | .hbm, ⟨103, _⟩ => ⟨S128x1024, .f32⟩
  | .hbm, ⟨104, _⟩ => ⟨S_, .f32⟩
  | .hbm, ⟨105, _⟩ => ⟨S128x1024, .f32⟩
  | .hbm, ⟨106, _⟩ => ⟨S128x1024, .f32⟩
  | .hbm, ⟨107, _⟩ => ⟨S128x1024, .f32⟩
  | .hbm, ⟨108, _⟩ => ⟨S_, .f32⟩
  | .hbm, ⟨109, _⟩ => ⟨S128x1024, .f32⟩
  | .hbm, ⟨110, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel17.lean ====
abbrev S1024x256 : Shape := ⟨2, ![1024, 256]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1024x256, .f32⟩
  | .hbm, ⟨1, _⟩ => ⟨S256x1024, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S1024x256, .f32⟩
  | .local _ .vmem, ⟨1, _⟩ => ⟨S256x1024, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference17Ideal.lean ====
abbrev S1024x256 : Shape := ⟨2, ![1024, 256]⟩
abbrev S256x1024 : Shape := ⟨2, ![256, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x1024, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S_, .f32⟩
  | .hbm, ⟨6, _⟩ => ⟨S1024x256, .f32⟩
  | .hbm, ⟨7, _⟩ => ⟨S1024x256, .f32⟩
  | .hbm, ⟨8, _⟩ => ⟨S_, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S_, .f32⟩
  | .hbm, ⟨13, _⟩ => ⟨S1024x256, .f32⟩
  | .hbm, ⟨14, _⟩ => ⟨S1024x256, .f32⟩
  | .hbm, ⟨15, _⟩ => ⟨S1024x256, .f32⟩
  | .hbm, ⟨16, _⟩ => ⟨S_, .f32⟩
  | .hbm, ⟨17, _⟩ => ⟨S1024x256, .f32⟩
  | .hbm, ⟨18, _⟩ => ⟨S1024x256, .f32⟩
  | .hbm, ⟨19, _⟩ => ⟨S1024x256, .f32⟩
  | .hbm, ⟨20, _⟩ => ⟨S_, .f32⟩
  | .hbm, ⟨21, _⟩ => ⟨S1024x256, .f32⟩
  | .hbm, ⟨22, _⟩ => ⟨S1024x256, .f32⟩
  | .hbm, ⟨23, _⟩ => ⟨S_, .f32⟩
  | .hbm, ⟨24, _⟩ => ⟨S1024x256, .f32⟩
  | .hbm, ⟨25, _⟩ => ⟨S1024x256, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S1024x256, .f32⟩
  | .hbm, ⟨31, _⟩ => ⟨S_, .f32⟩
  | .hbm, ⟨32, _⟩ => ⟨S1024x256, .f32⟩
  | .hbm, ⟨33, _⟩ => ⟨S1024x256, .f32⟩
  | .hbm, ⟨34, _⟩ => ⟨S1024x256, .f32⟩
  | .hbm, ⟨35, _⟩ => ⟨S_, .f32⟩
  | .hbm, ⟨36, _⟩ => ⟨S1024x256, .f32⟩
  | .hbm, ⟨37, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Proof.AttnSpec.lean ====
module

public import Idealize.ShloMosaic.Lib.Pointwise

@[expose] public section

noncomputable section

namespace Cert.AttnSpec

open Idealize.ShloMosaic

/-- An array of two axes as a function of its row and its column. -/
abbrev mat {a b : ℕ} {s : Shape} (f : Fin a → Fin b → s.Idx) {t : FTy} (x : FVec Ideal s t) : Fin a → Fin b → EReal := fun r l => x (f r l)

/-- The largest entry of a row, folded from minus infinity. -/
def top {n : ℕ} (s : Fin n → EReal) : EReal :=
  Finset.fold max (Ideal.ofBits FTy.f32 4286578688#32) s Finset.univ

/-- The exponential of a row's entry less the row's largest. -/
def ex {n : ℕ} (s : Fin n → EReal) (m : Fin n) : EReal := Ideal.exp (s m - top s)

/-- Softmax of a row. -/
def prob {n : ℕ} (s : Fin n → EReal) (m : Fin n) : EReal := Ideal.div (ex s m) (∑ x, ex s x)

/-- The scaled scores of head `h` at row `r`. -/
def sRow {n : ℕ} (q : Fin n → Fin 1024 → EReal) (kv : Fin 256 → Fin 2048 → EReal) (h : Fin 4) (r : Fin n) (m : Fin 256) : EReal :=
  (∑ y : Fin 256, q r ⟨h * 256 + y, by omega⟩ * kv m ⟨h * 256 + y, by omega⟩) * Ideal.ofBits FTy.f32 1031798784#32

/-- The cotangent of head `h`'s probabilities at row `r`. -/
def dRow {n : ℕ} (o : Fin n → Fin 1024 → EReal) (kv : Fin 256 → Fin 2048 → EReal) (h : Fin 4) (r : Fin n) (m : Fin 256) : EReal :=
  ∑ y : Fin 256, o r ⟨h * 256 + y, by omega⟩ * kv m ⟨1024 + (h * 256 + y), by omega⟩

/-- The cotangent of a row of scores, as the fused form has it: `p (dp - Σ dp p)` scaled by a sixteenth. -/
def dsFused {n : ℕ} (s d : Fin n → EReal) (m : Fin n) : EReal :=
  prob s m * (d m - ∑ x, d x * prob s x) * Ideal.ofBits FTy.f32 1031798784#32

/-- The cotangent of a row of scores, as differentiating the quotient of exponentials gives it. -/
def dsPlain {n : ℕ} (s d : Fin n → EReal) (m : Fin n) : EReal :=
  Ideal.div ((Ideal.div (d m) (∑ x, ex s x)
    + ∑ _x : Fin 1, -∑ x, d x * Ideal.div 1 ((∑ x, ex s x) * ∑ x, ex s x) * ex s x) * ex s m)
    (Ideal.ofBits FTy.f32 1098907648#32)

/-- The query gradient, at row `r` and column `x`. -/
def dq {n : ℕ} (q : Fin n → Fin 1024 → EReal) (kv : Fin 256 → Fin 2048 → EReal) (o : Fin n → Fin 1024 → EReal) (r : Fin n) (x : Fin 1024) : EReal :=
  ∑ m, dsFused (sRow q kv ⟨x / 256, by omega⟩ r) (dRow o kv ⟨x / 256, by omega⟩ r) m * kv m ⟨x, by omega⟩

/-- One row's contribution to the gradient of the keys (first 1024 columns) and values (the others). -/
def dkvAt {n : ℕ} (q : Fin n → Fin 1024 → EReal) (kv : Fin 256 → Fin 2048 → EReal) (o : Fin n → Fin 1024 → EReal) (m : Fin 256) (x : Fin 2048) (r : Fin n) : EReal :=
  if h : (x : ℕ) < 1024 then
    dsFused (sRow q kv ⟨x / 256, by omega⟩ r) (dRow o kv ⟨x / 256, by omega⟩ r) m * q r ⟨x, h⟩
  else prob (sRow q kv ⟨(x - 1024) / 256, by omega⟩ r) m * o r ⟨x - 1024, by omega⟩

/-- The query gradient at a row reads that row alone. -/
theorem dq_congr {n n' : ℕ} {q o : Fin n → Fin 1024 → EReal} {q' o' : Fin n' → Fin 1024 → EReal} (kv : Fin 256 → Fin 2048 → EReal)
    {r : Fin n} {r' : Fin n'} (hq : q r = q' r') (ho : o r = o' r') (x : Fin 1024) : dq q kv o r x = dq q' kv o' r' x := by
  unfold dq dsFused prob ex top sRow dRow; rw [hq, ho]

/-- A row's contribution to the gradient of keys and values reads that row alone. -/
theorem dkvAt_congr {n n' : ℕ} {q o : Fin n → Fin 1024 → EReal} {q' o' : Fin n' → Fin 1024 → EReal} (kv : Fin 256 → Fin 2048 → EReal)
    {r : Fin n} {r' : Fin n'} (hq : q r = q' r') (ho : o r = o' r') (m : Fin 256) (x : Fin 2048) : dkvAt q kv o m x r = dkvAt q' kv o' m x r' := by
  unfold dkvAt dsFused prob ex top sRow dRow; rw [hq, ho]

theorem negInf : Ideal.ofBits FTy.f32 4286578688#32 = ⊥ := by simp [Ideal.ofBits, Ideal.ieee]

theorem sixteen : Ideal.ofBits FTy.f32 1098907648#32 = ((16 : ℝ) : EReal) := by
  simp [Ideal.ofBits, Ideal.ieee, -EReal.coe_mul]; norm_num

theorem sixteenth : Ideal.ofBits FTy.f32 1031798784#32 = ((1 / 16 : ℝ) : EReal) := by
  simp [Ideal.ofBits, Ideal.ieee, -EReal.coe_mul]; norm_num

/-- Dividing by sixteen is multiplying by a sixteenth, at every extended real. -/
theorem div_sixteen (x : EReal) :
    Ideal.div x (Ideal.ofBits FTy.f32 1098907648#32) = x * Ideal.ofBits FTy.f32 1031798784#32 := by
  rw [sixteen, sixteenth, Ideal.div_coe (by norm_num)]

/-- The largest entry of a nonempty row of reals is a real. -/
theorem top_real {n : ℕ} (s : Fin (n + 1) → ℝ) : ∃ M : ℝ, top (fun x => (s x : EReal)) = (M : EReal) := by
  have hlt : top (fun x => (s x : EReal)) < ⊤ := by
    unfold top; rw [negInf, Finset.fold_max_lt]
    exact ⟨by simp, fun x _ => EReal.coe_lt_top _⟩
  have hgt : ⊥ < top (fun x => (s x : EReal)) := by
    unfold top; rw [Finset.lt_fold_max]
    exact Or.inr ⟨0, Finset.mem_univ _, EReal.bot_lt_coe _⟩
  exact ⟨_, (EReal.coe_toReal hlt.ne hgt.ne').symm⟩

theorem coe_sum {n : ℕ} (f : Fin n → ℝ) : (∑ x, ((f x : ℝ) : EReal)) = ((∑ x, f x : ℝ) : EReal) :=
  (map_sum (⟨⟨fun r : ℝ => (r : EReal), EReal.coe_zero⟩, EReal.coe_add⟩ : ℝ →+ EReal) f Finset.univ).symm

/-- On rows of reals the two forms of the score cotangent agree. -/
theorem dsFused_eq_dsPlain {n : ℕ} (s d : Fin (n + 1) → ℝ) (m : Fin (n + 1)) :
    dsFused (fun x => (s x : EReal)) (fun x => (d x : EReal)) m
      = dsPlain (fun x => (s x : EReal)) (fun x => (d x : EReal)) m := by
  obtain ⟨M, hM⟩ := top_real s
  have he : ∀ x, ex (fun x => (s x : EReal)) x = ((Real.exp (s x - M) : ℝ) : EReal) := fun x => by
    unfold ex; rw [hM, ← EReal.coe_sub, Ideal.exp_coe]
  have hZ : (0 : ℝ) < ∑ x, Real.exp (s x - M) :=
    Finset.sum_pos (fun x _ => Real.exp_pos _) ⟨0, Finset.mem_univ _⟩
  unfold dsFused dsPlain prob
  simp only [he, coe_sum, div_sixteen, sixteenth]
  generalize hz : (∑ x, Real.exp (s x - M)) = Z at *
  have hZ' : Z ≠ 0 := hZ.ne'
  have hZZ : Z * Z ≠ 0 := mul_ne_zero hZ' hZ'
  have h1 : (1 : EReal) = ((1 : ℝ) : EReal) := rfl
  simp only [← EReal.coe_mul, Ideal.div_coe hZ', Ideal.div_coe hZZ, h1, coe_sum, ← EReal.coe_neg, ← EReal.coe_sub, ← EReal.coe_add]
  congr 1
  rw [Finset.sum_const, Finset.card_univ, Fintype.card_fin, one_smul]
  have e : (∑ x, d x * (1 * (1 / (Z * Z))) * Real.exp (s x - M)) = (∑ x, d x * (Real.exp (s x - M) * (1 / Z))) * (1 / Z) := by
    rw [Finset.sum_mul]
    refine Finset.sum_congr rfl fun x _ => ?_
    field_simp
  rw [e]; ring

end Cert.AttnSpec
-- ==== Proof.AttnPure.lean ====
module

public import proofs.«01_k».proof.Proof.Gen.KernelIdeal.Skeleton
public import proofs.«01_k».proof.Proof.AttnSpec

@[expose] public section

set_option maxRecDepth 16384

noncomputable section

namespace Cert.KernelIdeal.Attn

open Cert.KernelIdeal Cert.KernelIdeal.Gen Cert.AttnSpec Idealize.ShloMosaic Idealize.ShloMosaic.TcCoe Idealize.SL.Sem

variable (q : FVec Ideal S1024x256 .bf16) (k : FVec Ideal S256x256 .bf16) (o : FVec Ideal S1024x256 .bf16) (v : FVec Ideal S256x256 .bf16)
  (a : FVec Ideal S256x256 .f32)

/-- A row of scaled scores of one head's tiles. -/
def ts (r : Fin 1024) (m : Fin 256) : EReal := (∑ y : Fin 256, q (ix2 r y) * k (ix2 m y)) * Ideal.ofBits FTy.f32 1031798784#32

/-- A row of the probabilities' cotangent of one head's tiles. -/
def td (r : Fin 1024) (m : Fin 256) : EReal := ∑ y : Fin 256, o (ix2 r y) * v (ix2 m y)

/-- Head 0: the values' gradient tile, added to what it holds. -/
theorem dv0 (r l : Fin 256) : k0_pay8 (F := Ideal) q k o a (ix2 r l) = a (ix2 r l) + ∑ x : Fin 1024, prob (ts q k x) r * o (ix2 x l) := by
  unfold prob ex top ts
  pointwise [k0_pay8, k0_pay7]

/-- Head 0: the keys' gradient tile, added to what it holds. -/
theorem dk0 (r l : Fin 256) : k0_pay11 (F := Ideal) q (k0_pay9 q k o v) a (ix2 r l) = a (ix2 r l) + ∑ x : Fin 1024, dsFused (ts q k x) (td o v x) r * q (ix2 x l) := by
  unfold dsFused prob ex top ts td
  pointwise [k0_pay11, k0_pay9, k0_pay7]

/-- Head 0: the query gradient tile. -/
theorem dq0 (r : Fin 1024) (l : Fin 256) : k0_pay10 (F := Ideal) k (k0_pay9 q k o v) (ix2 r l) = ∑ x : Fin 256, dsFused (ts q k r) (td o v r) x * k (ix2 x l) := by
  unfold dsFused prob ex top ts td
  pointwise [k0_pay10, k0_pay9, k0_pay7]

/-- Head 1: the values' gradient tile, added to what it holds. -/
theorem dv1 (r l : Fin 256) : k0_pay14 (F := Ideal) q k o a (ix2 r l) = a (ix2 r l) + ∑ x : Fin 1024, prob (ts q k x) r * o (ix2 x l) := by
  unfold prob ex top ts
  pointwise [k0_pay14, k0_pay12]

/-- Head 1: the keys' gradient tile, added to what it holds. -/
theorem dk1 (r l : Fin 256) : k0_pay17 (F := Ideal) q (k0_pay12 q k) (k0_pay13 o v) a (ix2 r l) = a (ix2 r l) + ∑ x : Fin 1024, dsFused (ts q k x) (td o v x) r * q (ix2 x l) := by
  unfold dsFused prob ex top ts td
  pointwise [k0_pay17, k0_pay15, k0_pay12, k0_pay13]

/-- Head 1: the query gradient tile. -/
theorem dq1 (r : Fin 1024) (l : Fin 256) : k0_pay16 (F := Ideal) k (k0_pay12 q k) (k0_pay13 o v) (ix2 r l) = ∑ x : Fin 256, dsFused (ts q k r) (td o v r) x * k (ix2 x l) := by
  unfold dsFused prob ex top ts td
  pointwise [k0_pay16, k0_pay15, k0_pay12, k0_pay13]

/-- Head 2: the values' gradient tile, added to what it holds. -/
theorem dv2 (r l : Fin 256) : k0_pay20 (F := Ideal) o (k0_pay18 q k) a (ix2 r l) = a (ix2 r l) + ∑ x : Fin 1024, prob (ts q k x) r * o (ix2 x l) := by
  unfold prob ex top ts
  pointwise [k0_pay20, k0_pay18]

/-- Head 2: the keys' gradient tile, added to what it holds. -/
theorem dk2 (r l : Fin 256) : k0_pay23 (F := Ideal) q (k0_pay18 q k) (k0_pay19 o v) a (ix2 r l) = a (ix2 r l) + ∑ x : Fin 1024, dsFused (ts q k x) (td o v x) r * q (ix2 x l) := by
  unfold dsFused prob ex top ts td
  pointwise [k0_pay23, k0_pay21, k0_pay18, k0_pay19]

/-- Head 2: the query gradient tile. -/
theorem dq2 (r : Fin 1024) (l : Fin 256) : k0_pay22 (F := Ideal) k (k0_pay18 q k) (k0_pay19 o v) (ix2 r l) = ∑ x : Fin 256, dsFused (ts q k r) (td o v r) x * k (ix2 x l) := by
  unfold dsFused prob ex top ts td
  pointwise [k0_pay22, k0_pay21, k0_pay18, k0_pay19]

/-- Head 3: the values' gradient tile, added to what it holds. -/
theorem dv3 (r l : Fin 256) : k0_pay2 (F := Ideal) o (k0_pay24 q k) a (ix2 r l) = a (ix2 r l) + ∑ x : Fin 1024, prob (ts q k x) r * o (ix2 x l) := by
  unfold prob ex top ts
  pointwise [k0_pay2, k0_pay1, k0_pay24]

/-- Head 3: the keys' gradient tile, added to what it holds. -/
theorem dk3 (r l : Fin 256) : k0_pay5 (F := Ideal) q o (k0_pay24 q k) v a (ix2 r l) = a (ix2 r l) + ∑ x : Fin 1024, dsFused (ts q k x) (td o v x) r * q (ix2 x l) := by
  unfold dsFused prob ex top ts td
  pointwise [k0_pay5, k0_pay3, k0_pay1, k0_pay24]

/-- Head 3: the query gradient tile. -/
theorem dq3 (r : Fin 1024) (l : Fin 256) : k0_pay4 (F := Ideal) k o (k0_pay24 q k) v (ix2 r l) = ∑ x : Fin 256, dsFused (ts q k r) (td o v r) x * k (ix2 x l) := by
  unfold dsFused prob ex top ts td
  pointwise [k0_pay4, k0_pay3, k0_pay1, k0_pay24]

variable {q k o v}

/-- Scores of tiles cut out of whole rows. -/
theorem ts_eq {Q : Fin 1024 → Fin 1024 → EReal} {KV : Fin 256 → Fin 2048 → EReal} (h : Fin 4)
    (hq : ∀ (r : Fin 1024) (y : Fin 256), q (ix2 r y) = Q r ⟨h * 256 + y, by omega⟩)
    (hk : ∀ m y : Fin 256, k (ix2 m y) = KV m ⟨h * 256 + y, by omega⟩) (r : Fin 1024) : ts q k r = sRow Q KV h r := by
  funext m; unfold ts sRow
  simp only [hq, hk]

/-- The probabilities' cotangent of tiles cut out of whole rows. -/
theorem td_eq {O : Fin 1024 → Fin 1024 → EReal} {KV : Fin 256 → Fin 2048 → EReal} (h : Fin 4)
    (ho : ∀ (r : Fin 1024) (y : Fin 256), o (ix2 r y) = O r ⟨h * 256 + y, by omega⟩)
    (hv : ∀ m y : Fin 256, v (ix2 m y) = KV m ⟨1024 + (h * 256 + y), by omega⟩) (r : Fin 1024) : td o v r = dRow O KV h r := by
  funext m; unfold td dRow
  simp only [ho, hv]

variable {a} {Q : Fin 1024 → Fin 1024 → EReal} {KV : Fin 256 → Fin 2048 → EReal} {O : Fin 1024 → Fin 1024 → EReal}

/-- A tile of the keys' gradient is the block's contribution at its columns, added to what it holds. -/
theorem dk_close (h : Fin 4) {T : FVec Ideal S256x256 .f32}
    (hT : ∀ r l : Fin 256, T (ix2 r l) = a (ix2 r l) + ∑ x : Fin 1024, dsFused (ts q k x) (td o v x) r * q (ix2 x l))
    (hq : ∀ (r : Fin 1024) (y : Fin 256), q (ix2 r y) = Q r ⟨h * 256 + y, by omega⟩)
    (hk : ∀ m y : Fin 256, k (ix2 m y) = KV m ⟨h * 256 + y, by omega⟩)
    (ho : ∀ (r : Fin 1024) (y : Fin 256), o (ix2 r y) = O r ⟨h * 256 + y, by omega⟩)
    (hv : ∀ m y : Fin 256, v (ix2 m y) = KV m ⟨1024 + (h * 256 + y), by omega⟩)
    {A : Fin 256 → Fin 2048 → EReal} (ha : ∀ r l : Fin 256, a (ix2 r l) = A r ⟨h * 256 + l, by omega⟩)
    (j0 : Fin 256) (j1 : Fin 2048) (x : S256x256.Idx) (h0 : (j0 : ℕ) = x 0) (h1 : (j1 : ℕ) = h * 256 + x 1) :
    T x = A j0 j1 + ∑ y, dkvAt Q KV O j0 j1 y := by
  obtain ⟨r, l, rfl⟩ : ∃ (r l : Fin 256), x = ix2 r l := ⟨x 0, x 1, eq_ix2 x⟩
  obtain rfl : j0 = r := Fin.ext h0
  obtain ⟨j1, hj1⟩ := j1
  obtain rfl : j1 = h * 256 + l := h1
  rw [hT, ha]
  congr 1
  refine Finset.sum_congr rfl fun y _ => ?_
  have e : (⟨(h * 256 + (l : ℕ)) / 256, by omega⟩ : Fin 4) = h := Fin.ext (by show (h * 256 + (l : ℕ)) / 256 = h; omega)
  unfold dkvAt
  rw [dif_pos (by show h * 256 + (l : ℕ) < 1024; omega)]
  simp only [e, ts_eq h hq hk, td_eq h ho hv, hq]

/-- A tile of the values' gradient is the block's contribution at its columns, added to what it holds. -/
theorem dv_close (h : Fin 4) {T : FVec Ideal S256x256 .f32}
    (hT : ∀ r l : Fin 256, T (ix2 r l) = a (ix2 r l) + ∑ x : Fin 1024, prob (ts q k x) r * o (ix2 x l))
    (hq : ∀ (r : Fin 1024) (y : Fin 256), q (ix2 r y) = Q r ⟨h * 256 + y, by omega⟩)
    (hk : ∀ m y : Fin 256, k (ix2 m y) = KV m ⟨h * 256 + y, by omega⟩)
    (ho : ∀ (r : Fin 1024) (y : Fin 256), o (ix2 r y) = O r ⟨h * 256 + y, by omega⟩)
    {A : Fin 256 → Fin 2048 → EReal} (ha : ∀ r l : Fin 256, a (ix2 r l) = A r ⟨1024 + (h * 256 + l), by omega⟩)
    (j0 : Fin 256) (j1 : Fin 2048) (x : S256x256.Idx) (h0 : (j0 : ℕ) = x 0) (h1 : (j1 : ℕ) = 1024 + (h * 256 + x 1)) :
    T x = A j0 j1 + ∑ y, dkvAt Q KV O j0 j1 y := by
  obtain ⟨r, l, rfl⟩ : ∃ (r l : Fin 256), x = ix2 r l := ⟨x 0, x 1, eq_ix2 x⟩
  obtain rfl : j0 = r := Fin.ext h0
  obtain ⟨j1, hj1⟩ := j1
  obtain rfl : j1 = 1024 + (h * 256 + l) := h1
  rw [hT, ha]
  congr 1
  refine Finset.sum_congr rfl fun y _ => ?_
  have e : (⟨(1024 + (h * 256 + (l : ℕ)) - 1024) / 256, by omega⟩ : Fin 4) = h :=
    Fin.ext (by show (1024 + (h * 256 + (l : ℕ)) - 1024) / 256 = h; omega)
  have e' : (⟨1024 + (h * 256 + (l : ℕ)) - 1024, by omega⟩ : Fin 1024) = ⟨h * 256 + l, by omega⟩ := Fin.ext (Nat.add_sub_cancel_left 1024 _)
  unfold dkvAt
  rw [dif_neg (by show ¬1024 + (h * 256 + (l : ℕ)) < 1024; omega)]
  simp only [e, e', ts_eq h hq hk, ho]

/-- A tile of the query gradient is the block's query gradient at its columns. -/
theorem dq_close (h : Fin 4) {T : FVec Ideal S1024x256 .bf16}
    (hT : ∀ (r : Fin 1024) (l : Fin 256), T (ix2 r l) = ∑ x : Fin 256, dsFused (ts q k r) (td o v r) x * k (ix2 x l))
    (hq : ∀ (r : Fin 1024) (y : Fin 256), q (ix2 r y) = Q r ⟨h * 256 + y, by omega⟩)
    (hk : ∀ m y : Fin 256, k (ix2 m y) = KV m ⟨h * 256 + y, by omega⟩)
    (ho : ∀ (r : Fin 1024) (y : Fin 256), o (ix2 r y) = O r ⟨h * 256 + y, by omega⟩)
    (hv : ∀ m y : Fin 256, v (ix2 m y) = KV m ⟨1024 + (h * 256 + y), by omega⟩)
    (j0 : Fin 1024) (j1 : Fin 1024) (x : S1024x256.Idx) (h0 : (j0 : ℕ) = x 0) (h1 : (j1 : ℕ) = h * 256 + x 1) :
    T x = AttnSpec.dq Q KV O j0 j1 := by
  obtain ⟨r, l, rfl⟩ : ∃ (r : Fin 1024) (l : Fin 256), x = ix2 r l := ⟨x 0, x 1, eq_ix2 x⟩
  obtain rfl : j0 = r := Fin.ext h0
  obtain ⟨j1, hj1⟩ := j1
  obtain rfl : j1 = h * 256 + l := h1
  have e : (⟨(h * 256 + (l : ℕ)) / 256, by omega⟩ : Fin 4) = h := Fin.ext (by show (h * 256 + (l : ℕ)) / 256 = h; omega)
  rw [hT]
  unfold AttnSpec.dq
  simp only [e, ts_eq h hq hk, td_eq h ho hv, hk]

end Cert.KernelIdeal.Attn
-- ==== Proof.AttnPoint.lean ====
module

public import proofs.«01_k».proof.Proof.Gen.KernelIdeal.Value
public import Idealize.ShloMosaic.Lib.Pipeline.ValueKit
public import Idealize.ShloMosaic.Lib.Pipeline.ReadBack
public import proofs.«01_k».proof.Proof.AttnPure

@[expose] public section

set_option maxRecDepth 16384

noncomputable section

namespace Cert.KernelIdeal.Attn

open Cert.KernelIdeal Cert.KernelIdeal.Gen Cert.AttnSpec Idealize.ShloMosaic Idealize.ShloMosaic.TcCoe Idealize.SL.Sem

variable (m : (ℓ : Loc nD τ sig) → Buf (Elt Ideal) ℓ)

/-- The block of queries at a grid point. -/
abbrev bq (c : Dev nD) (t : Fin cfg0.N) : Fin 1024 → Fin 1024 → EReal := mat (s := S1024x1024) (t := .bf16) ix2 (iblk m c 0 t)

/-- The keys and values at a grid point. -/
abbrev bkv (c : Dev nD) (t : Fin cfg0.N) : Fin 256 → Fin 2048 → EReal := mat (s := S256x2048) (t := .bf16) ix2 (iblk m c 1 t)

/-- The block of the output's cotangent at a grid point. -/
abbrev bo (c : Dev nD) (t : Fin cfg0.N) : Fin 1024 → Fin 1024 → EReal := mat (s := S1024x1024) (t := .bf16) ix2 (iblk m c 2 t)

/-- The query gradient's block at a core's first point. -/
theorem dq_A (c : Dev nD) (t : Fin cfg0.N) (h : t.val % 4 = 0) (j : S1024x1024.Idx) :
    (outsAt0 m c t.val t.isLt).1 j = AttnSpec.dq (bq m c t) (bkv m c t) (bo m c t) (j 0) (j 1) := by
  rw [outsAt0_A m c t h]; frame_out
  canon_tiles x hx
  case piece0 => exact dq_close 3 (dq3 _ _ _ _) (fun r y => by pointwise []) (fun r y => by pointwise []) (fun r y => by pointwise []) (fun r y => by pointwise [] <;> exact congrArg (fun z : Fin 2048 => (iblk m c 1 t : Vec Ideal S256x2048 .bf16) (ix2 r z)) (Fin.ext (Nat.add_assoc 1024 768 y))) (j 0) (j 1) x hx0 (by show _ = 3 * 256 + _; omega)
  case piece1 => exact dq_close 2 (dq2 _ _ _ _) (fun r y => by pointwise []) (fun r y => by pointwise []) (fun r y => by pointwise []) (fun r y => by pointwise [] <;> exact congrArg (fun z : Fin 2048 => (iblk m c 1 t : Vec Ideal S256x2048 .bf16) (ix2 r z)) (Fin.ext (Nat.add_assoc 1024 512 y))) (j 0) (j 1) x hx0 (by show _ = 2 * 256 + _; omega)
  case piece2 => exact dq_close 1 (dq1 _ _ _ _) (fun r y => by pointwise []) (fun r y => by pointwise []) (fun r y => by pointwise []) (fun r y => by pointwise [] <;> exact congrArg (fun z : Fin 2048 => (iblk m c 1 t : Vec Ideal S256x2048 .bf16) (ix2 r z)) (Fin.ext (Nat.add_assoc 1024 256 y))) (j 0) (j 1) x hx0 (by show _ = 1 * 256 + _; omega)
  case piece3 => exact dq_close 0 (dq0 _ _ _ _) (fun r y => by pointwise []) (fun r y => by pointwise []) (fun r y => by pointwise []) (fun r y => by pointwise [] <;> exact congrArg (fun z : Fin 2048 => (iblk m c 1 t : Vec Ideal S256x2048 .bf16) (ix2 r z)) (Fin.ext (Nat.add_assoc 1024 0 y))) (j 0) (j 1) x hx0 (by show _ = 0 * 256 + _; omega)

/-- The query gradient's block at a later point. -/
theorem dq_B (c : Dev nD) (t : Fin cfg0.N) (h : ¬t.val % 4 = 0) (j : S1024x1024.Idx) :
    (outsAt0 m c t.val t.isLt).1 j = AttnSpec.dq (bq m c t) (bkv m c t) (bo m c t) (j 0) (j 1) := by
  rw [outsAt0_B m c t h]; frame_out
  canon_tiles x hx
  case piece0 => exact dq_close 3 (dq3 _ _ _ _) (fun r y => by pointwise []) (fun r y => by pointwise []) (fun r y => by pointwise []) (fun r y => by pointwise [] <;> exact congrArg (fun z : Fin 2048 => (iblk m c 1 t : Vec Ideal S256x2048 .bf16) (ix2 r z)) (Fin.ext (Nat.add_assoc 1024 768 y))) (j 0) (j 1) x hx0 (by show _ = 3 * 256 + _; omega)
  case piece1 => exact dq_close 2 (dq2 _ _ _ _) (fun r y => by pointwise []) (fun r y => by pointwise []) (fun r y => by pointwise []) (fun r y => by pointwise [] <;> exact congrArg (fun z : Fin 2048 => (iblk m c 1 t : Vec Ideal S256x2048 .bf16) (ix2 r z)) (Fin.ext (Nat.add_assoc 1024 512 y))) (j 0) (j 1) x hx0 (by show _ = 2 * 256 + _; omega)
  case piece2 => exact dq_close 1 (dq1 _ _ _ _) (fun r y => by pointwise []) (fun r y => by pointwise []) (fun r y => by pointwise []) (fun r y => by pointwise [] <;> exact congrArg (fun z : Fin 2048 => (iblk m c 1 t : Vec Ideal S256x2048 .bf16) (ix2 r z)) (Fin.ext (Nat.add_assoc 1024 256 y))) (j 0) (j 1) x hx0 (by show _ = 1 * 256 + _; omega)
  case piece3 => exact dq_close 0 (dq0 _ _ _ _) (fun r y => by pointwise []) (fun r y => by pointwise []) (fun r y => by pointwise []) (fun r y => by pointwise [] <;> exact congrArg (fun z : Fin 2048 => (iblk m c 1 t : Vec Ideal S256x2048 .bf16) (ix2 r z)) (Fin.ext (Nat.add_assoc 1024 0 y))) (j 0) (j 1) x hx0 (by show _ = 0 * 256 + _; omega)

/-- The keys' and values' gradient after a core's first point. -/
theorem dkv_A (c : Dev nD) (t : Fin cfg0.N) (h : t.val % 4 = 0) (j : S256x2048.Idx) :
    (outsAt0 m c t.val t.isLt).2 j = 0 + ∑ y, dkvAt (bq m c t) (bkv m c t) (bo m c t) (j 0) (j 1) y := by
  rw [outsAt0_A m c t h]; frame_out
  simp (disch := decide) only [↓View.readCov_skip, ↓View.readCov_fill]
  refine (View.canon_append_of_piecesOf (Val := Elt Ideal) (s := S256x2048) (e := .f32) (fun j => (show EReal from 0 + ∑ y, dkvAt (bq m c t) (bkv m c t) (bo m c t) (j 0) (j 1) y)) [_] [_, _, _, _, _, _, _, _] ?_ j ?_)
  · refine ⟨fun x => dk_close 3 (dk3 _ _ _ _ _) (fun r y => by pointwise []) (fun r y => by pointwise []) (fun r y => by pointwise []) (fun r y => by pointwise [] <;> exact congrArg (fun z : Fin 2048 => (iblk m c 1 t : Vec Ideal S256x2048 .bf16) (ix2 r z)) (Fin.ext (Nat.add_assoc 1024 768 y))) (A := fun _ _ => 0) (fun r y => by pointwise [k0_pay6]) _ _ x ((congrArg (fun z => 0 + z) (Nat.one_mul _)).trans (Nat.zero_add _)) (congrArg (fun z => 768 + z) (Nat.one_mul _)),
      fun x => dv_close 3 (dv3 _ _ _ _) (fun r y => by pointwise []) (fun r y => by pointwise []) (fun r y => by pointwise []) (A := fun _ _ => 0) (fun r y => by pointwise [k0_pay6]) _ _ x ((congrArg (fun z => 0 + z) (Nat.one_mul _)).trans (Nat.zero_add _)) ((congrArg (fun z => 1792 + z) (Nat.one_mul _)).trans (Nat.add_assoc 1024 768 _)),
      fun x => dk_close 2 (dk2 _ _ _ _ _) (fun r y => by pointwise []) (fun r y => by pointwise []) (fun r y => by pointwise []) (fun r y => by pointwise [] <;> exact congrArg (fun z : Fin 2048 => (iblk m c 1 t : Vec Ideal S256x2048 .bf16) (ix2 r z)) (Fin.ext (Nat.add_assoc 1024 512 y))) (A := fun _ _ => 0) (fun r y => by pointwise [k0_pay6]) _ _ x ((congrArg (fun z => 0 + z) (Nat.one_mul _)).trans (Nat.zero_add _)) (congrArg (fun z => 512 + z) (Nat.one_mul _)),
      fun x => dv_close 2 (dv2 _ _ _ _) (fun r y => by pointwise []) (fun r y => by pointwise []) (fun r y => by pointwise []) (A := fun _ _ => 0) (fun r y => by pointwise [k0_pay6]) _ _ x ((congrArg (fun z => 0 + z) (Nat.one_mul _)).trans (Nat.zero_add _)) ((congrArg (fun z => 1536 + z) (Nat.one_mul _)).trans (Nat.add_assoc 1024 512 _)),
      fun x => dk_close 1 (dk1 _ _ _ _ _) (fun r y => by pointwise []) (fun r y => by pointwise []) (fun r y => by pointwise []) (fun r y => by pointwise [] <;> exact congrArg (fun z : Fin 2048 => (iblk m c 1 t : Vec Ideal S256x2048 .bf16) (ix2 r z)) (Fin.ext (Nat.add_assoc 1024 256 y))) (A := fun _ _ => 0) (fun r y => by pointwise [k0_pay6]) _ _ x ((congrArg (fun z => 0 + z) (Nat.one_mul _)).trans (Nat.zero_add _)) (congrArg (fun z => 256 + z) (Nat.one_mul _)),
      fun x => dv_close 1 (dv1 _ _ _ _) (fun r y => by pointwise []) (fun r y => by pointwise []) (fun r y => by pointwise []) (A := fun _ _ => 0) (fun r y => by pointwise [k0_pay6]) _ _ x ((congrArg (fun z => 0 + z) (Nat.one_mul _)).trans (Nat.zero_add _)) ((congrArg (fun z => 1280 + z) (Nat.one_mul _)).trans (Nat.add_assoc 1024 256 _)),
      fun x => dk_close 0 (dk0 _ _ _ _ _) (fun r y => by pointwise []) (fun r y => by pointwise []) (fun r y => by pointwise []) (fun r y => by pointwise [] <;> exact congrArg (fun z : Fin 2048 => (iblk m c 1 t : Vec Ideal S256x2048 .bf16) (ix2 r z)) (Fin.ext (Nat.add_assoc 1024 0 y))) (A := fun _ _ => 0) (fun r y => by pointwise [k0_pay6]) _ _ x ((congrArg (fun z => 0 + z) (Nat.one_mul _)).trans (Nat.zero_add _)) (congrArg (fun z => 0 + z) (Nat.one_mul _)),
      fun x => dv_close 0 (dv0 _ _ _ _) (fun r y => by pointwise []) (fun r y => by pointwise []) (fun r y => by pointwise []) (A := fun _ _ => 0) (fun r y => by pointwise [k0_pay6]) _ _ x ((congrArg (fun z => 0 + z) (Nat.one_mul _)).trans (Nat.zero_add _)) ((congrArg (fun z => 1024 + z) (Nat.one_mul _)).trans (Nat.add_assoc 1024 0 _)), trivial⟩
  · exact View.cover_of_tiledL _ ![256, 256] (by rfl) j

/-- The keys' and values' gradient after a later point, over what the point before left. -/
theorem dkv_B (c : Dev nD) (t : Fin cfg0.N) (h : ¬t.val % 4 = 0) (j : S256x2048.Idx) :
    (outsAt0 m c t.val t.isLt).2 j = (outsAt0 m c (t.val - 1) (Nat.lt_of_le_of_lt (Nat.sub_le _ _) t.isLt)).2 j + ∑ y, dkvAt (bq m c t) (bkv m c t) (bo m c t) (j 0) (j 1) y := by
  conv_rhs => rw [eq_ix2 j]
  rw [outsAt0_B m c t h]; frame_out
  canon_tiles x hx
  case piece0 => exact dk_close 3 (dk3 _ _ _ _ _) (fun r y => by pointwise []) (fun r y => by pointwise []) (fun r y => by pointwise []) (fun r y => by pointwise [] <;> exact congrArg (fun z : Fin 2048 => (iblk m c 1 t : Vec Ideal S256x2048 .bf16) (ix2 r z)) (Fin.ext (Nat.add_assoc 1024 768 y))) (A := mat (t := .f32) ix2 (outsAt0 m c (t.val - 1) (Nat.lt_of_le_of_lt (Nat.sub_le _ _) t.isLt)).2) (fun r y => by pointwise [] <;> exact congrArg (fun z : Fin 2048 => (outsAt0 m c (t.val - 1) (Nat.lt_of_le_of_lt (Nat.sub_le _ _) t.isLt)).2 (ix2 r z)) (Fin.ext (Nat.add_assoc 1024 768 y))) (j 0) (j 1) x hx0 (by show _ = 3 * 256 + _; omega)
  case piece1 => exact dv_close 3 (dv3 _ _ _ _) (fun r y => by pointwise []) (fun r y => by pointwise []) (fun r y => by pointwise []) (A := mat (t := .f32) ix2 (outsAt0 m c (t.val - 1) (Nat.lt_of_le_of_lt (Nat.sub_le _ _) t.isLt)).2) (fun r y => by pointwise [] <;> exact congrArg (fun z : Fin 2048 => (outsAt0 m c (t.val - 1) (Nat.lt_of_le_of_lt (Nat.sub_le _ _) t.isLt)).2 (ix2 r z)) (Fin.ext (Nat.add_assoc 1024 768 y))) (j 0) (j 1) x hx0 (by show _ = 1024 + (3 * 256 + _); omega)
  case piece2 => exact dk_close 2 (dk2 _ _ _ _ _) (fun r y => by pointwise []) (fun r y => by pointwise []) (fun r y => by pointwise []) (fun r y => by pointwise [] <;> exact congrArg (fun z : Fin 2048 => (iblk m c 1 t : Vec Ideal S256x2048 .bf16) (ix2 r z)) (Fin.ext (Nat.add_assoc 1024 512 y))) (A := mat (t := .f32) ix2 (outsAt0 m c (t.val - 1) (Nat.lt_of_le_of_lt (Nat.sub_le _ _) t.isLt)).2) (fun r y => by pointwise [] <;> exact congrArg (fun z : Fin 2048 => (outsAt0 m c (t.val - 1) (Nat.lt_of_le_of_lt (Nat.sub_le _ _) t.isLt)).2 (ix2 r z)) (Fin.ext (Nat.add_assoc 1024 512 y))) (j 0) (j 1) x hx0 (by show _ = 2 * 256 + _; omega)
  case piece3 => exact dv_close 2 (dv2 _ _ _ _) (fun r y => by pointwise []) (fun r y => by pointwise []) (fun r y => by pointwise []) (A := mat (t := .f32) ix2 (outsAt0 m c (t.val - 1) (Nat.lt_of_le_of_lt (Nat.sub_le _ _) t.isLt)).2) (fun r y => by pointwise [] <;> exact congrArg (fun z : Fin 2048 => (outsAt0 m c (t.val - 1) (Nat.lt_of_le_of_lt (Nat.sub_le _ _) t.isLt)).2 (ix2 r z)) (Fin.ext (Nat.add_assoc 1024 512 y))) (j 0) (j 1) x hx0 (by show _ = 1024 + (2 * 256 + _); omega)
  case piece4 => exact dk_close 1 (dk1 _ _ _ _ _) (fun r y => by pointwise []) (fun r y => by pointwise []) (fun r y => by pointwise []) (fun r y => by pointwise [] <;> exact congrArg (fun z : Fin 2048 => (iblk m c 1 t : Vec Ideal S256x2048 .bf16) (ix2 r z)) (Fin.ext (Nat.add_assoc 1024 256 y))) (A := mat (t := .f32) ix2 (outsAt0 m c (t.val - 1) (Nat.lt_of_le_of_lt (Nat.sub_le _ _) t.isLt)).2) (fun r y => by pointwise [] <;> exact congrArg (fun z : Fin 2048 => (outsAt0 m c (t.val - 1) (Nat.lt_of_le_of_lt (Nat.sub_le _ _) t.isLt)).2 (ix2 r z)) (Fin.ext (Nat.add_assoc 1024 256 y))) (j 0) (j 1) x hx0 (by show _ = 1 * 256 + _; omega)
  case piece5 => exact dv_close 1 (dv1 _ _ _ _) (fun r y => by pointwise []) (fun r y => by pointwise []) (fun r y => by pointwise []) (A := mat (t := .f32) ix2 (outsAt0 m c (t.val - 1) (Nat.lt_of_le_of_lt (Nat.sub_le _ _) t.isLt)).2) (fun r y => by pointwise [] <;> exact congrArg (fun z : Fin 2048 => (outsAt0 m c (t.val - 1) (Nat.lt_of_le_of_lt (Nat.sub_le _ _) t.isLt)).2 (ix2 r z)) (Fin.ext (Nat.add_assoc 1024 256 y))) (j 0) (j 1) x hx0 (by show _ = 1024 + (1 * 256 + _); omega)
  case piece6 => exact dk_close 0 (dk0 _ _ _ _ _) (fun r y => by pointwise []) (fun r y => by pointwise []) (fun r y => by pointwise []) (fun r y => by pointwise [] <;> exact congrArg (fun z : Fin 2048 => (iblk m c 1 t : Vec Ideal S256x2048 .bf16) (ix2 r z)) (Fin.ext (Nat.add_assoc 1024 0 y))) (A := mat (t := .f32) ix2 (outsAt0 m c (t.val - 1) (Nat.lt_of_le_of_lt (Nat.sub_le _ _) t.isLt)).2) (fun r y => by pointwise [] <;> exact congrArg (fun z : Fin 2048 => (outsAt0 m c (t.val - 1) (Nat.lt_of_le_of_lt (Nat.sub_le _ _) t.isLt)).2 (ix2 r z)) (Fin.ext (Nat.add_assoc 1024 0 y))) (j 0) (j 1) x hx0 (by show _ = 0 * 256 + _; omega)
  case piece7 => exact dv_close 0 (dv0 _ _ _ _) (fun r y => by pointwise []) (fun r y => by pointwise []) (fun r y => by pointwise []) (A := mat (t := .f32) ix2 (outsAt0 m c (t.val - 1) (Nat.lt_of_le_of_lt (Nat.sub_le _ _) t.isLt)).2) (fun r y => by pointwise [] <;> exact congrArg (fun z : Fin 2048 => (outsAt0 m c (t.val - 1) (Nat.lt_of_le_of_lt (Nat.sub_le _ _) t.isLt)).2 (ix2 r z)) (Fin.ext (Nat.add_assoc 1024 0 y))) (j 0) (j 1) x hx0 (by show _ = 1024 + (0 * 256 + _); omega)

end Cert.KernelIdeal.Attn
-- ==== Proof.AttnKernel.lean ====
module

public import proofs.«01_k».proof.Proof.AttnPoint

@[expose] public section

set_option maxRecDepth 16384

noncomputable section

namespace Cert.KernelIdeal.Attn

open Cert.KernelIdeal Cert.KernelIdeal.Gen Cert.AttnSpec Idealize.ShloMosaic Idealize.ShloMosaic.TcCoe Idealize.SL.Sem

variable (m : (ℓ : Loc nD τ sig) → Buf (Elt Ideal) ℓ)

/-- The three arguments on a device, as functions of row and column. -/
abbrev aq (c : Dev nD) : Fin 4096 → Fin 1024 → EReal := mat (s := S4096x1024) (t := .bf16) ix2 (m ((c : Thread nD τ).loc main_arg0))
@[inherit_doc aq] abbrev akv (c : Dev nD) : Fin 256 → Fin 2048 → EReal := mat (s := S256x2048) (t := .bf16) ix2 (m ((c : Thread nD τ).loc main_arg1))
@[inherit_doc aq] abbrev ao (c : Dev nD) : Fin 4096 → Fin 1024 → EReal := mat (s := S4096x1024) (t := .bf16) ix2 (m ((c : Thread nD τ).loc main_arg2))

/-- Where each grid point's blocks lie. -/
theorem idx : ∀ t : Fin cfg0.N, win0_0.index t = ![t.val, 0] ∧ win0_1.index t = ![0, 0] ∧ win0_2.index t = ![t.val, 0] ∧ win0_3.index t = ![t.val, 0] ∧ win0_4.index t = ![0, 0] :=
  (by decide +kernel : ∀ t : Fin grid0.N, _)

/-- A block of queries is the queries' rows of its grid point. -/
theorem bq_eq (c : Dev nD) (t : Fin cfg0.N) (r : Fin 1024) (l : Fin 1024) (h : t.val * 1024 + r < 4096) : bq m c t r l = aq m c ⟨t.val * 1024 + r, h⟩ l := by
  unfold bq aq mat
  blk_ext [iblk, V, idx t]

/-- A block of the output's cotangent is its rows of its grid point. -/
theorem bo_eq (c : Dev nD) (t : Fin cfg0.N) (r : Fin 1024) (l : Fin 1024) (h : t.val * 1024 + r < 4096) : bo m c t r l = ao m c ⟨t.val * 1024 + r, h⟩ l := by
  unfold bo ao mat
  blk_ext [iblk, V, idx t]

/-- Every grid point sees all keys and values. -/
theorem bkv_eq (c : Dev nD) (t : Fin cfg0.N) : bkv m c t = akv m c := by
  funext r l
  unfold bkv akv mat
  blk_ext [iblk, V, idx t]

/-- The query gradient's block at every point. -/
theorem dq_eq (c : Dev nD) (t : Fin cfg0.N) (j : S1024x1024.Idx) :
    (outsAt0 m c t.val t.isLt).1 j = AttnSpec.dq (bq m c t) (bkv m c t) (bo m c t) (j 0) (j 1) := by
  by_cases h : t.val % 4 = 0
  · exact dq_A m c t h j
  · exact dq_B m c t h j

/-- The query gradient's array after the run. -/
theorem final3 (c : Dev nD) : (dats m 0 c).arrAt 3 cfg0.N
    = fun i : S4096x1024.Idx => AttnSpec.dq (aq m c) (akv m c) (ao m c) (i 0) (i 1) := by
  refine (dats m 0 c).arrAt_eq_of_covers 3 _ (by decide +kernel) fun t hf y => ?_
  blk_simp
  rw [after0_3, dq_eq]
  have e0 : (((win0_3.blk t).view.emb y 0 : Fin 4096) : ℕ) = t.val * 1024 + (y 0 : ℕ) := by blk_simp [idx t]
  have e1 : (win0_3.blk t).view.emb y 1 = y 1 := Fin.ext (by blk_simp [idx t])
  have hlt : t.val * 1024 + (y 0 : ℕ) < 4096 := e0 ▸ ((win0_3.blk t).view.emb y 0 : Fin 4096).isLt
  have e0' : ((win0_3.blk t).view.emb y 0 : Fin 4096) = ⟨t.val * 1024 + (y 0 : ℕ), hlt⟩ := Fin.ext e0
  rw [e0', e1, bkv_eq]
  exact dq_congr _ (funext fun l => bq_eq m c t (y 0) l hlt) (funext fun l => bo_eq m c t (y 0) l hlt) (y 1)

/-- The keys' and values' gradient array after the run. -/
theorem final4 (c : Dev nD) : (dats m 0 c).arrAt 4 cfg0.N
    = fun i : S256x2048.Idx => ∑ y, dkvAt (aq m c) (akv m c) (ao m c) (i 0) (i 1) y := by
  refine (dats m 0 c).arrAt_eq_of_after_last 4 t0_3 (by decide +kernel) _ fun j => ?_
  blk_simp
  rw [after0_4, Pipeline.eq_sum_fin_of_reset_step_apply_last (fun n h => (outsAt0 m c n h).2) 4 (fun _ => 0) _
    (fun t h j => by rw [dkv_A m c t h])
    (fun t h j => by rw [dkv_B m c t h])
    (le_of_eq N_0) t0_3 rfl j, zero_add]
  refine Fin.sum_mul_add_congr fun p k hl => ?_
  rw [bkv_eq]
  exact dkvAt_congr _ (funext fun l => bq_eq m c p k l hl) (funext fun l => bo_eq m c p k l hl) (j 0) (j 1)

end Cert.KernelIdeal.Attn
-- ==== Proof.AttnRef.lean ====
module

public import proofs.«01_k».proof.Proof.Gen.ReferenceIdeal.Read
public import proofs.«01_k».proof.Proof.AttnSpec

@[expose] public section

set_option maxRecDepth 16384

noncomputable section

namespace Cert.ReferenceIdeal.Attn

open Cert.ReferenceIdeal Cert.ReferenceIdeal.Read Cert.AttnSpec Idealize.ShloMosaic Idealize.ShloMosaic.TcCoe Idealize.SL.Sem

variable (q : FVec Ideal S4096x1024 .bf16) (kv : FVec Ideal S256x2048 .bf16) (o : FVec Ideal S4096x1024 .bf16)

/-- The reference's scores. -/
theorem r9 (h : Fin 4) (r : Fin 4096) (x : Fin 256) :
    val_main_v9 (F := Ideal) q kv (ix3 h r x) = sRow (mat ix2 q) (mat ix2 kv) h r x := by
  unfold sRow mat
  rw [← div_sixteen]
  pointwise [val_main_v0, val_main_v1, val_main_v2, val_main_v3, val_main_v4, val_main_v5, val_main_v6, val_main_v7, val_main_cst, val_main_v8, val_main_v9]

/-- A row's largest score. -/
theorem r10 (h : Fin 4) (r : Fin 4096) :
    val_main_v10 (F := Ideal) q kv (ix2 h r) = top (sRow (mat ix2 q) (mat ix2 kv) h r) := by
  have e : sRow (mat ix2 q) (mat ix2 kv) h r = fun x => (show EReal from val_main_v9 (F := Ideal) q kv (ix3 h r x)) := funext fun x => (r9 q kv h r x).symm
  rw [e]
  unfold top val_main_v10
  generalize val_main_v9 (F := Ideal) q kv = w
  pointwise [val_main_cst_0]

/-- A larger of minus infinity and `x` is `x`. -/
theorem max_negInf (x : EReal) : max (Ideal.ofBits FTy.f32 4286578688#32) x = x := by rw [negInf]; exact max_eq_right bot_le

/-- The reference's guard of a row's largest score against minus infinity changes nothing. -/
theorem r17 (h : Fin 4) (r : Fin 4096) :
    val_main_v17 (F := Ideal) q kv (ix2 h r) = val_main_v10 (F := Ideal) q kv (ix2 h r) := by
  rw [val_main_v17_apply, val_main_v16_apply, val_main_cst_2_apply]
  generalize val_main_v10 (F := Ideal) q kv (ix2 h r) = w
  exact max_negInf w

/-- The exponentials of the scores less their row's largest. -/
theorem r30 (h : Fin 4) (r : Fin 4096) (x : Fin 256) :
    val_main_v30 (F := Ideal) q kv (ix3 h r x) = ex (sRow (mat ix2 q) (mat ix2 kv) h r) x := by
  unfold ex
  rw [← r10, ← r17, ← r9]
  unfold val_main_v30 val_main_v29 val_main_v28 val_main_v27
  generalize val_main_v9 (F := Ideal) q kv = w9
  generalize val_main_v17 (F := Ideal) q kv = w10
  pointwise []

/-- The row sums of the exponentials. -/
theorem r31 (h : Fin 4) (r : Fin 4096) :
    val_main_v31 (F := Ideal) q kv (ix2 h r) = ∑ x, ex (sRow (mat ix2 q) (mat ix2 kv) h r) x := by
  have e : ex (sRow (mat ix2 q) (mat ix2 kv) h r) = fun x => (show EReal from val_main_v30 (F := Ideal) q kv (ix3 h r x)) := funext fun x => (r30 q kv h r x).symm
  rw [e]
  unfold val_main_v31
  generalize val_main_v30 (F := Ideal) q kv = w
  pointwise [val_main_cst_8]

/-- The probabilities. -/
theorem r34 (h : Fin 4) (r : Fin 4096) (x : Fin 256) :
    val_main_v34 (F := Ideal) q kv (ix3 h r x) = prob (sRow (mat ix2 q) (mat ix2 kv) h r) x := by
  unfold prob
  rw [← r31, ← r30]
  unfold val_main_v34 val_main_v33 val_main_v32
  generalize val_main_v30 (F := Ideal) q kv = w
  generalize val_main_v31 (F := Ideal) q kv = w'
  pointwise []

/-- The cotangent of the probabilities. -/
theorem r44 (h : Fin 4) (r : Fin 4096) (x : Fin 256) :
    val_main_v44 (F := Ideal) kv o (ix3 h r x) = dRow (mat ix2 o) (mat ix2 kv) h r x := by
  unfold dRow mat
  pointwise [val_main_v41, val_main_v42, val_main_v43, val_main_v44, val_main_v5, val_main_v6, val_main_v1]

/-- The cotangent of the scores. -/
theorem r60 (h : Fin 4) (r : Fin 4096) (x : Fin 256) :
    val_main_v60 (F := Ideal) q kv o (ix3 h r x) = dsPlain (sRow (mat ix2 q) (mat ix2 kv) h r) (dRow (mat ix2 o) (mat ix2 kv) h r) x := by
  have e30 : ex (sRow (mat ix2 q) (mat ix2 kv) h r) = fun x => (show EReal from val_main_v30 (F := Ideal) q kv (ix3 h r x)) := funext fun x => (r30 q kv h r x).symm
  have e44 : dRow (mat ix2 o) (mat ix2 kv) h r = fun x => (show EReal from val_main_v44 (F := Ideal) kv o (ix3 h r x)) := funext fun x => (r44 kv o h r x).symm
  unfold dsPlain
  rw [← r31, e30, e44]
  clear e30 e44
  beta_reduce
  unfold val_main_v60 val_main_v59 val_main_v58 val_main_v57 val_main_v56 val_main_v55 val_main_v54 val_main_v53 val_main_v52 val_main_v51 val_main_v50 val_main_v49 val_main_v48 val_main_v47 val_main_v37 val_main_v36 val_main_v35 val_main_v32
  generalize val_main_v30 (F := Ideal) q kv = w30
  generalize val_main_v31 (F := Ideal) q kv = w31
  generalize val_main_v44 (F := Ideal) kv o = w44
  pointwise [val_main_cst_9, val_main_cst_10, val_main_cst_11, val_main_cst_12]

/-- The query gradient as a product of the score cotangents and the keys. -/
theorem r71 (r : Fin 4096) (x : Fin 1024) :
    val_main_v71 (F := Ideal) q kv o (ix2 r x)
      = ∑ y : Fin 256, (show EReal from val_main_v60 (F := Ideal) q kv o (ix3 (⟨x / 256, by omega⟩ : Fin 4) r y)) * kv (ix2 y (⟨x, by omega⟩ : Fin 2048)) := by
  unfold val_main_v71 val_main_v70 val_main_v64 val_main_v63
  generalize val_main_v60 (F := Ideal) q kv o = w
  pointwise [val_main_v4, val_main_v3, val_main_v1]

/-- The gradient of the keys and values, at a column of the keys. -/
theorem r69k (r : Fin 256) (x : Fin 2048) (h : (x : ℕ) < 1024) :
    val_main_v69 (F := Ideal) q kv o (ix2 r x)
      = ∑ y : Fin 4096, (show EReal from val_main_v60 (F := Ideal) q kv o (ix3 (⟨x / 256, by omega⟩ : Fin 4) y r)) * q (ix2 y (⟨x, h⟩ : Fin 1024)) := by
  unfold val_main_v69 val_main_v68 val_main_v67 val_main_v66 val_main_v65 val_main_v62 val_main_v61 val_main_v46 val_main_v45
  generalize val_main_v60 (F := Ideal) q kv o = w
  generalize val_main_v34 (F := Ideal) q kv = w'
  pointwise [val_main_v43, val_main_v42, val_main_v41, val_main_v2, val_main_v0, val_main_cst_13, val_main_cst_14]
  rw [dif_neg (by omega), dif_pos h, zero_add]
  simp only [Nat.div_add_mod']

/-- The gradient of the keys and values, at a column of the values. -/
theorem r69v (r : Fin 256) (x : Fin 2048) (h : ¬(x : ℕ) < 1024) :
    val_main_v69 (F := Ideal) q kv o (ix2 r x)
      = ∑ y : Fin 4096, o (ix2 y (⟨x - 1024, by omega⟩ : Fin 1024)) * (show EReal from val_main_v34 (F := Ideal) q kv (ix3 (⟨(x - 1024) / 256, by omega⟩ : Fin 4) y r)) := by
  unfold val_main_v69 val_main_v68 val_main_v67 val_main_v66 val_main_v65 val_main_v62 val_main_v61 val_main_v46 val_main_v45
  generalize val_main_v60 (F := Ideal) q kv o = w
  generalize val_main_v34 (F := Ideal) q kv = w'
  pointwise [val_main_v43, val_main_v42, val_main_v41, val_main_v2, val_main_v0, val_main_cst_13, val_main_cst_14]
  rw [dif_pos (by omega), dif_neg h, add_zero]
  simp only [Nat.div_add_mod']

/-- The reference's query gradient. -/
theorem ref_dq (hds : ∀ h r m, dsFused (sRow (mat ix2 q) (mat ix2 kv) h r) (dRow (mat ix2 o) (mat ix2 kv) h r) m
      = dsPlain (sRow (mat ix2 q) (mat ix2 kv) h r) (dRow (mat ix2 o) (mat ix2 kv) h r) m) (r : Fin 4096) (x : Fin 1024) :
    val_main_v71 (F := Ideal) q kv o (ix2 r x) = dq (mat ix2 q) (mat ix2 kv) (mat ix2 o) r x := by
  rw [r71]
  simp only [r60, ← hds]
  rfl

/-- The reference's gradient of the keys and values. -/
theorem ref_dkv (hds : ∀ h r m, dsFused (sRow (mat ix2 q) (mat ix2 kv) h r) (dRow (mat ix2 o) (mat ix2 kv) h r) m
      = dsPlain (sRow (mat ix2 q) (mat ix2 kv) h r) (dRow (mat ix2 o) (mat ix2 kv) h r) m) (r : Fin 256) (x : Fin 2048) :
    val_main_v69 (F := Ideal) q kv o (ix2 r x) = ∑ y, dkvAt (mat ix2 q) (mat ix2 kv) (mat ix2 o) r x y := by
  unfold dkvAt
  split
  next h =>
    rw [r69k q kv o r x h]
    simp only [r60, ← hds]
  next h =>
    rw [r69v q kv o r x h]
    simp only [r34]
    exact Finset.sum_congr rfl fun y _ => mul_comm _ _

end Cert.ReferenceIdeal.Attn
-- ==== Proof.Finite.lean ====
module

public import Idealize.ShloMosaic.Lib.Pointwise
public import Idealize.ShloMosaic.PureOps.Ideal.Laws

@[expose] public section

noncomputable section

namespace Cert.Finite

open Idealize.ShloMosaic

theorem posInf : Ideal.ofBits FTy.f32 2139095040#32 = ⊤ := by simp [Ideal.ofBits, Ideal.ieee]

/-- A value of magnitude below plus infinity is a real. -/
theorem real_of_lt {s : Shape} (v w : FVec Ideal s .f32) (hw : ∀ i, w i = (⊤ : EReal))
    (h : cmpf .olt (Host.absf v) w = fun _ => 1#1) (i : s.Idx) : ∃ r : ℝ, v i = (r : EReal) := by
  have h1 : Ideal.cmp .olt (max (v i) (-(v i)) : EReal) (w i) = 1#1 := congrFun h i
  rw [hw] at h1
  generalize hx : (v i : EReal) = x at h1 ⊢
  have h2 : max x (-x) < (⊤ : EReal) := by
    by_contra hc
    simp [Ideal.cmp, hc] at h1
  induction (x : EReal) using EReal.rec with
  | bot => simp at h2
  | coe r => exact ⟨r, rfl⟩
  | top => simp at h2

end Cert.Finite
-- ==== Proof.AttnClaim.lean ====
module

public import proofs.«01_k».proof.Defs
public import proofs.«01_k».proof.Proof.AttnKernel
public import proofs.«01_k».proof.Proof.AttnRef
public import proofs.«01_k».proof.Proof.Finite
public import proofs.«01_k».proof.Proof.Gen.ReferenceIdeal.Run
public import proofs.«01_k».proof.Proof.Gen.Pre_finite
public import Idealize.ShloMosaic.Lib.Claim

@[expose] public section

set_option maxRecDepth 16384

noncomputable section

namespace Cert.Attn

open Cert.AttnSpec Idealize.ShloMosaic Idealize.ShloMosaic.TcCoe Idealize.SL.Sem

/-- On real queries, keys, values and cotangents the two forms of the score cotangent agree at every row. -/
theorem scores_agree {n : ℕ} (q o : Fin n → Fin 1024 → EReal) (kv : Fin 256 → Fin 2048 → EReal)
    (hq : ∀ r l, ∃ x : ℝ, q r l = (x : EReal)) (hkv : ∀ r l, ∃ x : ℝ, kv r l = (x : EReal)) (ho : ∀ r l, ∃ x : ℝ, o r l = (x : EReal))
    (h : Fin 4) (r : Fin n) (m : Fin 256) :
    dsFused (sRow q kv h r) (dRow o kv h r) m = dsPlain (sRow q kv h r) (dRow o kv h r) m := by
  choose q' hq' using hq
  choose kv' hkv' using hkv
  choose o' ho' using ho
  have es : sRow q kv h r = fun x => (((∑ y : Fin 256, q' r ⟨h * 256 + y, by omega⟩ * kv' x ⟨h * 256 + y, by omega⟩) * (1 / 16) : ℝ) : EReal) := by
    funext x
    unfold sRow
    rw [sixteenth]
    simp only [hq', hkv', ← EReal.coe_mul, coe_sum]
  have ed : dRow o kv h r = fun x => ((∑ y : Fin 256, o' r ⟨h * 256 + y, by omega⟩ * kv' x ⟨1024 + (h * 256 + y), by omega⟩ : ℝ) : EReal) := by
    funext x
    unfold dRow
    simp only [ho', hkv', ← EReal.coe_mul, coe_sum]
  rw [es, ed]
  exact dsFused_eq_dsPlain (n := 255) _ _ m

/-- The precondition gives reals. -/
theorem reals {q : FVec Ideal Cert.Pre_finite.S4096x1024 .bf16} {kv : FVec Ideal Cert.Pre_finite.S256x2048 .bf16} {o : FVec Ideal Cert.Pre_finite.S4096x1024 .bf16}
    (h : (Cert.Pre_finite.fn (F := Ideal) q kv o).1 = (fun _ => 1#1) ∧ (Cert.Pre_finite.fn (F := Ideal) q kv o).2.1 = (fun _ => 1#1)
      ∧ (Cert.Pre_finite.fn (F := Ideal) q kv o).2.2 = (fun _ => 1#1)) :
    (∀ i, ∃ x : ℝ, q i = (x : EReal)) ∧ (∀ i, ∃ x : ℝ, kv i = (x : EReal)) ∧ (∀ i, ∃ x : ℝ, o i = (x : EReal)) :=
  ⟨Cert.Finite.real_of_lt _ _ (fun _ => Cert.Finite.posInf) h.1, Cert.Finite.real_of_lt _ _ (fun _ => Cert.Finite.posInf) h.2.1,
    Cert.Finite.real_of_lt _ _ (fun _ => Cert.Finite.posInf) h.2.2⟩

/-- The score cotangents agree on one device's three arguments. -/
theorem hds {m : (ℓ : Loc Cert.KernelIdeal.nD Cert.KernelIdeal.τ Cert.KernelIdeal.sig) → Buf (Elt Ideal) ℓ}
    (hpre : Cert.Pre_KernelIdeal_finite m) (c : Dev Cert.KernelIdeal.nD) (h : Fin 4) (r : Fin 4096) (x : Fin 256) :
    dsFused (sRow (Cert.KernelIdeal.Attn.aq m c) (Cert.KernelIdeal.Attn.akv m c) h r)
        (dRow (Cert.KernelIdeal.Attn.ao m c) (Cert.KernelIdeal.Attn.akv m c) h r) x
      = dsPlain (sRow (Cert.KernelIdeal.Attn.aq m c) (Cert.KernelIdeal.Attn.akv m c) h r)
        (dRow (Cert.KernelIdeal.Attn.ao m c) (Cert.KernelIdeal.Attn.akv m c) h r) x :=
  have hr := reals (hpre c)
  scores_agree _ _ _ (fun _ _ => hr.1 _) (fun _ _ => hr.2.1 _) (fun _ _ => hr.2.2 _) h r x

set_option maxHeartbeats 1000000 in
/-- The kernel's two gradients are the reference's. -/
theorem algebraic : Cert.algebraic_KernelIdeal_ReferenceIdeal_pre_finite := by
  pair_intro
  · run_from Cert.KernelIdeal.Value.run_blocks m g
  · run_from Cert.ReferenceIdeal.Value.run m' g'
    · rw [Cert.ReferenceIdeal.Read.val_main_v71_eq, (hagree c).1, (hagree c).2.1, (hagree c).2.2]
      refine Eq.trans ?_ (Cert.KernelIdeal.Attn.final3 m c).symm
      exact funext fun i => (congrArg _ (eq_ix2 i)).trans (Cert.ReferenceIdeal.Attn.ref_dq _ _ _ (hds hpre c) (i 0) (i 1))
    · rw [Cert.ReferenceIdeal.Read.val_main_v69_eq, (hagree c).1, (hagree c).2.1, (hagree c).2.2]
      refine Eq.trans ?_ (Cert.KernelIdeal.Attn.final4 m c).symm
      exact funext fun i => (congrArg _ (eq_ix2 i)).trans (Cert.ReferenceIdeal.Attn.ref_dkv _ _ _ (hds hpre c) (i 0) (i 1))

end Cert.Attn
-- ==== Proof.FfnSpec.lean ====
module

public import Idealize.ShloMosaic.Lib.Pipeline.ValueKit

@[expose] public section

noncomputable section

namespace Cert.FfnSpec

open Idealize.ShloMosaic

/-- An array of two axes as a function of its row and its column. -/
abbrev mat {a b : ℕ} {s : Shape} (f : Fin a → Fin b → s.Idx) {t : FTy} (x : FVec Ideal s t) : Fin a → Fin b → EReal := fun r l => x (f r l)

/-- A row's mean square with the small constant added. -/
def ms (h : Fin 1024 → EReal) : EReal :=
  Ideal.div (∑ k, h k * h k) (Ideal.ofBits FTy.f32 1149239296#32) + Ideal.ofBits FTy.f32 897988541#32

/-- The factor that normalises a row. -/
def rstd (h : Fin 1024 → EReal) : EReal := Ideal.rsqrt (ms h)

/-- A row normalised. -/
def nh (h : Fin 1024 → EReal) (l : Fin 1024) : EReal := h l * rstd h

/-- A row normalised and scaled by the gains. -/
def nrm (g h : Fin 1024 → EReal) (l : Fin 1024) : EReal := nh h l * g l

/-- The product of two rows. -/
def dot {n : ℕ} (x y : Fin n → EReal) : EReal := ∑ k, x k * y k

/-- The hidden activation, of the gate's and the value's products. -/
def act (a b : EReal) : EReal := a * Ideal.logistic a * b

/-- The sublayer's output at one entry: half of the hidden row's product, added to the residual. -/
def out {n : ℕ} (x : EReal) (hid w : Fin n → EReal) : EReal := x + Ideal.ofBits FTy.f32 1056964608#32 * dot hid w

/-- The hidden activation's cotangent at one entry. -/
def dhid {n : ℕ} (dh w : Fin n → EReal) : EReal := Ideal.ofBits FTy.f32 1056964608#32 * dot dh w

/-- The gate product's cotangent. -/
def da (d a b : EReal) : EReal :=
  d * b * (Ideal.logistic a * (Ideal.ofBits FTy.f32 1065353216#32 + a * (Ideal.ofBits FTy.f32 1065353216#32 - Ideal.logistic a)))

/-- The value product's cotangent. -/
def db (d a : EReal) : EReal := d * (a * Ideal.logistic a)

/-- A row's own share of its cotangent under the normalisation. -/
def nb (g h dn : Fin 1024 → EReal) (l : Fin 1024) : EReal :=
  rstd h * (dn l * g l - nh h l * Ideal.div (∑ k, dn k * g k * nh h k) (Ideal.ofBits FTy.f32 1149239296#32))

variable (h : Fin 4096 → Fin 1024 → EReal) (g : Fin 1024 → EReal) (wg wu wd : Fin 2816 → Fin 1024 → EReal) (dh : Fin 4096 → Fin 1024 → EReal)

/-- The product of the normalised rows with a projection's rows: the gate's or the value's. -/
def fUp (w : Fin 2816 → Fin 1024 → EReal) (r : Fin 4096) (j : Fin 2816) : EReal := dot (nrm g (h r)) (w j)

/-- The hidden activations. -/
def fHid (r : Fin 4096) (j : Fin 2816) : EReal := act (fUp h g wg r j) (fUp h g wu r j)

/-- The sublayer's output. -/
def fOut (r : Fin 4096) (l : Fin 1024) : EReal := out (h r l) (fHid h g wg wu r) fun k => wd k l

/-- The hidden activations' cotangent. -/
def fDhid (r : Fin 4096) (j : Fin 2816) : EReal := dhid (dh r) (wd j)

/-- The gate products' cotangent. -/
def fDa (r : Fin 4096) (j : Fin 2816) : EReal := da (fDhid wd dh r j) (fUp h g wg r j) (fUp h g wu r j)

/-- The value products' cotangent. -/
def fDb (r : Fin 4096) (j : Fin 2816) : EReal := db (fDhid wd dh r j) (fUp h g wg r j)

/-- The down projection's gradient. -/
def fDwd (j : Fin 2816) (l : Fin 1024) : EReal := dot (fun r => fHid h g wg wu r j) (fun r => dh r l) * Ideal.ofBits FTy.f32 1056964608#32

/-- The gate projection's gradient. -/
def fDwg (j : Fin 2816) (l : Fin 1024) : EReal := dot (fun r => fDa h g wg wu wd dh r j) fun r => nrm g (h r) l

/-- The value projection's gradient. -/
def fDwu (j : Fin 2816) (l : Fin 1024) : EReal := dot (fun r => fDb h g wg wd dh r j) fun r => nrm g (h r) l

/-- The normalised rows' cotangent. -/
def fDn (r : Fin 4096) (l : Fin 1024) : EReal :=
  dot (fDa h g wg wu wd dh r) (fun k => wg k l) + dot (fDb h g wg wd dh r) fun k => wu k l

/-- The sublayer's input's cotangent. -/
def fDin (r : Fin 4096) (l : Fin 1024) : EReal := dh r l + nb g (h r) (fDn h g wg wu wd dh r) l

/-- The gains' gradient. -/
def fDg (l : Fin 1024) : EReal := ∑ r, fDn h g wg wu wd dh r l * nh (h r) l

end Cert.FfnSpec
-- ==== Proof.FfnNorm.lean ====
module

public import proofs.«01_k».proof.Proof.Gen.Kernel2Ideal.Skeleton
public import proofs.«01_k».proof.Proof.Gen.Kernel2Ideal.Frame.Region0
public import Idealize.ShloMosaic.Lib.Pipeline.ValueKit
public import Idealize.ShloMosaic.Lib.Pipeline.ReadBack
public import proofs.«01_k».proof.Proof.FfnSpec

@[expose] public section

set_option maxRecDepth 16384

noncomputable section

namespace Cert.Kernel2Ideal.Ffn

open Cert.Kernel2Ideal Cert.Kernel2Ideal.Gen Cert.FfnSpec Idealize.ShloMosaic Idealize.ShloMosaic.TcCoe Idealize.SL.Sem

variable (V : (c : Dev nD) → (b : Ref sig .tc) → Buf (Elt Ideal) ((c : Thread nD τ).loc b))

/-- Where each grid point's blocks lie. -/
theorem idx0 : ∀ t : Fin cfg0.N, win0_0.index t = ![t.val, 0] ∧ win0_1.index t = ![0, 0] ∧ win0_2.index t = ![t.val, 0] :=
  (by decide +kernel : ∀ t : Fin grid0.N, _)

set_option maxHeartbeats 1000000 in
/-- The normalised rows. -/
theorem fin0_2 (c : Dev nD) : (dat0 V c).arrAt 2 cfg0.N
    = fun i : S4096x1024.Idx => nrm (fun k : Fin 1024 => (V c main_arg1 : FVec Ideal S1x1024 .f32) (ix2 0 k)) (mat (s := S4096x1024) (t := .f32) ix2 (V c main_arg0) (i 0)) (i 1) := by
  refine (dat0 V c).arrAt_eq_of_covers 2 _ (by decide +kernel) fun t hf y => ?_
  blk_simp
  rw [after0_2]
  unfold out0_2
  canon_tiles x hx
  all_goals pointwise [k0_pay1, nrm, nh, rstd, ms, mat]
  all_goals blk_point [iblk0, idx0 t]

end Cert.Kernel2Ideal.Ffn
-- ==== Proof.FfnUp.lean ====
module

public import proofs.«01_k».proof.Proof.Gen.Kernel2Ideal.Skeleton
public import proofs.«01_k».proof.Proof.Gen.Kernel2Ideal.Frame.Region1
public import Idealize.ShloMosaic.Lib.Pipeline.ValueKit
public import Idealize.ShloMosaic.Lib.Pipeline.ReadBack
public import proofs.«01_k».proof.Proof.FfnSpec

@[expose] public section

set_option maxRecDepth 16384

noncomputable section

namespace Cert.Kernel2Ideal.Ffn

open Cert.Kernel2Ideal Cert.Kernel2Ideal.Gen Cert.FfnSpec Idealize.ShloMosaic Idealize.ShloMosaic.TcCoe Idealize.SL.Sem

variable (V : (c : Dev nD) → (b : Ref sig .tc) → Buf (Elt Ideal) ((c : Thread nD τ).loc b))

/-- Where each grid point's blocks lie. -/
theorem idx1 : ∀ t : Fin cfg1.N, win1_0.index t = ![t.val / 2, 0] ∧ win1_1.index t = ![t.val % 2, 0] ∧ win1_2.index t = ![t.val % 2, 0] ∧ win1_3.index t = ![t.val / 2, t.val % 2] ∧ win1_4.index t = ![t.val / 2, t.val % 2] ∧ win1_5.index t = ![t.val / 2, t.val % 2] :=
  (by decide +kernel : ∀ t : Fin grid1.N, _)

set_option maxHeartbeats 1000000 in
/-- The gate's product. -/
theorem fin1_3 (c : Dev nD) : (dat1 V c).arrAt 3 cfg1.N
    = fun i : S4096x2816.Idx => dot (mat (s := S4096x1024) (t := .bf16) ix2 (V c main_v0) (i 0)) (mat (s := S2816x1024) (t := .bf16) ix2 (V c main_arg2) (i 1)) := by
  refine (dat1 V c).arrAt_eq_of_covers 3 _ (by decide +kernel) fun t hf y => ?_
  blk_simp
  rw [after1_3]
  unfold out1_3
  canon_tiles x hx
  all_goals pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, dot, mat]
  all_goals blk_point [iblk1, idx1 t]

set_option maxHeartbeats 1000000 in
/-- The value's product. -/
theorem fin1_4 (c : Dev nD) : (dat1 V c).arrAt 4 cfg1.N
    = fun i : S4096x2816.Idx => dot (mat (s := S4096x1024) (t := .bf16) ix2 (V c main_v0) (i 0)) (mat (s := S2816x1024) (t := .bf16) ix2 (V c main_arg3) (i 1)) := by
  refine (dat1 V c).arrAt_eq_of_covers 4 _ (by decide +kernel) fun t hf y => ?_
  blk_simp
  rw [after1_4]
  unfold out1_4
  canon_tiles x hx
  all_goals pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, dot, mat]
  all_goals blk_point [iblk1, idx1 t]

set_option maxHeartbeats 1000000 in
/-- The hidden activation. -/
theorem fin1_5 (c : Dev nD) : (dat1 V c).arrAt 5 cfg1.N
    = fun i : S4096x2816.Idx => act (dot (mat (s := S4096x1024) (t := .bf16) ix2 (V c main_v0) (i 0)) (mat (s := S2816x1024) (t := .bf16) ix2 (V c main_arg2) (i 1))) (dot (mat (s := S4096x1024) (t := .bf16) ix2 (V c main_v0) (i 0)) (mat (s := S2816x1024) (t := .bf16) ix2 (V c main_arg3) (i 1))) := by
  refine (dat1 V c).arrAt_eq_of_covers 5 _ (by decide +kernel) fun t hf y => ?_
  blk_simp
  rw [after1_5]
  unfold out1_5
  canon_tiles x hx
  all_goals pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, act, dot, mat]
  all_goals blk_point [iblk1, idx1 t]

end Cert.Kernel2Ideal.Ffn
-- ==== Proof.FfnDown.lean ====
module

public import proofs.«01_k».proof.Proof.Gen.Kernel2Ideal.Skeleton
public import proofs.«01_k».proof.Proof.Gen.Kernel2Ideal.Frame.Region2
public import Idealize.ShloMosaic.Lib.Pipeline.ValueKit
public import Idealize.ShloMosaic.Lib.Pipeline.ReadBack
public import proofs.«01_k».proof.Proof.FfnSpec

@[expose] public section

set_option maxRecDepth 16384

noncomputable section

namespace Cert.Kernel2Ideal.Ffn

open Cert.Kernel2Ideal Cert.Kernel2Ideal.Gen Cert.FfnSpec Idealize.ShloMosaic Idealize.ShloMosaic.TcCoe Idealize.SL.Sem

variable (V : (c : Dev nD) → (b : Ref sig .tc) → Buf (Elt Ideal) ((c : Thread nD τ).loc b))

/-- Where each grid point's blocks lie. -/
theorem idx2 : ∀ t : Fin cfg2.N, win2_0.index t = ![t.val / 2, 0] ∧ win2_1.index t = ![0, t.val % 2] ∧ win2_2.index t = ![t.val / 2, t.val % 2] ∧ win2_3.index t = ![t.val / 2, t.val % 2] :=
  (by decide +kernel : ∀ t : Fin grid2.N, _)

set_option maxHeartbeats 1000000 in
/-- The sublayer's output. -/
theorem fin2_3 (c : Dev nD) : (dat2 V c).arrAt 3 cfg2.N
    = fun i : S4096x1024.Idx => out (mat (s := S4096x1024) (t := .f32) ix2 (V c main_arg0) (i 0) (i 1)) (mat (s := S4096x2816) (t := .bf16) ix2 (V c main_v1_2) (i 0)) (fun k : Fin 2816 => mat (s := S2816x1024) (t := .bf16) ix2 (V c main_arg4) k (i 1)) := by
  refine (dat2 V c).arrAt_eq_of_covers 3 _ (by decide +kernel) fun t hf y => ?_
  blk_simp
  rw [after2_3]
  unfold out2_3
  canon_tiles x hx
  all_goals pointwise [k2_pay1, k2_pay2, k2_pay3, k2_pay4, k2_pay5, out, dot, mat]
  all_goals blk_point [iblk2, idx2 t]

end Cert.Kernel2Ideal.Ffn
-- ==== Proof.FfnHidA.lean ====
module

public import proofs.«01_k».proof.Proof.Gen.Kernel2Ideal.Skeleton
public import proofs.«01_k».proof.Proof.Gen.Kernel2Ideal.Frame.Region3
public import Idealize.ShloMosaic.Lib.Pipeline.ValueKit
public import Idealize.ShloMosaic.Lib.Pipeline.ReadBack
public import proofs.«01_k».proof.Proof.FfnSpec

@[expose] public section

set_option maxRecDepth 16384

noncomputable section

namespace Cert.Kernel2Ideal.Ffn

open Cert.Kernel2Ideal Cert.Kernel2Ideal.Gen Cert.FfnSpec Idealize.ShloMosaic Idealize.ShloMosaic.TcCoe Idealize.SL.Sem

variable (V : (c : Dev nD) → (b : Ref sig .tc) → Buf (Elt Ideal) ((c : Thread nD τ).loc b))

/-- Where each grid point's blocks lie. -/
theorem idx3 : ∀ t : Fin cfg3.N, win3_0.index t = ![t.val / 2, 0] ∧ win3_1.index t = ![t.val % 2, 0] ∧ win3_2.index t = ![t.val / 2, t.val % 2] ∧ win3_3.index t = ![t.val / 2, t.val % 2] ∧ win3_4.index t = ![t.val / 2, t.val % 2] ∧ win3_5.index t = ![t.val / 2, t.val % 2] :=
  (by decide +kernel : ∀ t : Fin grid3.N, _)

set_option maxHeartbeats 1000000 in
/-- The gate product's cotangent. -/
theorem fin3_4 (c : Dev nD) : (dat3 V c).arrAt 4 cfg3.N
    = fun i : S4096x2816.Idx => da (dhid (mat (s := S4096x1024) (t := .bf16) ix2 (V c main_v3) (i 0)) (mat (s := S2816x1024) (t := .bf16) ix2 (V c main_arg4) (i 1))) (mat (s := S4096x2816) (t := .bf16) ix2 (V c main_v1_0) (i 0) (i 1)) (mat (s := S4096x2816) (t := .bf16) ix2 (V c main_v1_1) (i 0) (i 1)) := by
  refine (dat3 V c).arrAt_eq_of_covers 4 _ (by decide +kernel) fun t hf y => ?_
  blk_simp
  rw [after3_4]
  unfold out3_4
  canon_tiles x hx
  all_goals pointwise [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, da, dhid, dot, mat]
  all_goals blk_point [iblk3, idx3 t]

end Cert.Kernel2Ideal.Ffn
-- ==== Proof.FfnHidB.lean ====
module

public import proofs.«01_k».proof.Proof.Gen.Kernel2Ideal.Skeleton
public import proofs.«01_k».proof.Proof.Gen.Kernel2Ideal.Frame.Region3
public import Idealize.ShloMosaic.Lib.Pipeline.ValueKit
public import Idealize.ShloMosaic.Lib.Pipeline.ReadBack
public import proofs.«01_k».proof.Proof.FfnSpec

@[expose] public section

set_option maxRecDepth 16384

noncomputable section

namespace Cert.Kernel2Ideal.Ffn

open Cert.Kernel2Ideal Cert.Kernel2Ideal.Gen Cert.FfnSpec Idealize.ShloMosaic Idealize.ShloMosaic.TcCoe Idealize.SL.Sem

variable (V : (c : Dev nD) → (b : Ref sig .tc) → Buf (Elt Ideal) ((c : Thread nD τ).loc b))

/-- Where each grid point's blocks lie. -/
theorem idx3b : ∀ t : Fin cfg3.N, win3_0.index t = ![t.val / 2, 0] ∧ win3_1.index t = ![t.val % 2, 0] ∧ win3_2.index t = ![t.val / 2, t.val % 2] ∧ win3_3.index t = ![t.val / 2, t.val % 2] ∧ win3_4.index t = ![t.val / 2, t.val % 2] ∧ win3_5.index t = ![t.val / 2, t.val % 2] :=
  (by decide +kernel : ∀ t : Fin grid3.N, _)

set_option maxHeartbeats 1000000 in
/-- The value product's cotangent. -/
theorem fin3_5 (c : Dev nD) : (dat3 V c).arrAt 5 cfg3.N
    = fun i : S4096x2816.Idx => db (dhid (mat (s := S4096x1024) (t := .bf16) ix2 (V c main_v3) (i 0)) (mat (s := S2816x1024) (t := .bf16) ix2 (V c main_arg4) (i 1))) (mat (s := S4096x2816) (t := .bf16) ix2 (V c main_v1_0) (i 0) (i 1)) := by
  refine (dat3 V c).arrAt_eq_of_covers 5 _ (by decide +kernel) fun t hf y => ?_
  blk_simp
  rw [after3_5]
  unfold out3_5
  canon_tiles x hx
  all_goals pointwise [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, db, dhid, dot, mat]
  all_goals blk_point [iblk3, idx3b t]

end Cert.Kernel2Ideal.Ffn
-- ==== Proof.FfnDw.lean ====
module

public import proofs.«01_k».proof.Proof.Gen.Kernel2Ideal.Skeleton
public import proofs.«01_k».proof.Proof.Gen.Kernel2Ideal.Frame.Region4
public import proofs.«01_k».proof.Proof.Gen.Kernel2Ideal.Frame.Region5
public import proofs.«01_k».proof.Proof.Gen.Kernel2Ideal.Frame.Region6
public import Idealize.ShloMosaic.Lib.Pipeline.ValueKit
public import Idealize.ShloMosaic.Lib.Pipeline.ReadBack
public import proofs.«01_k».proof.Proof.FfnSpec

@[expose] public section

set_option maxRecDepth 16384

noncomputable section

namespace Cert.Kernel2Ideal.Ffn

open Cert.Kernel2Ideal Cert.Kernel2Ideal.Gen Cert.FfnSpec Idealize.ShloMosaic Idealize.ShloMosaic.TcCoe Idealize.SL.Sem

variable (V : (c : Dev nD) → (b : Ref sig .tc) → Buf (Elt Ideal) ((c : Thread nD τ).loc b))

/-- Where each grid point's blocks lie. -/
theorem idx4 : ∀ t : Fin cfg4.N, win4_0.index t = ![0, t.val / 2] ∧ win4_1.index t = ![0, t.val % 2] ∧ win4_2.index t = ![t.val / 2, t.val % 2] :=
  (by decide +kernel : ∀ t : Fin grid4.N, _)

set_option maxHeartbeats 1000000 in
/-- The down projection's gradient. -/
theorem fin4_2 (c : Dev nD) : (dat4 V c).arrAt 2 cfg4.N
    = fun i : S2816x1024.Idx => dot (fun r : Fin 4096 => mat (s := S4096x2816) (t := .bf16) ix2 (V c main_v1_2) r (i 0)) (fun r : Fin 4096 => mat (s := S4096x1024) (t := .bf16) ix2 (V c main_v3) r (i 1)) * Ideal.ofBits FTy.f32 1056964608#32 := by
  refine (dat4 V c).arrAt_eq_of_covers 2 _ (by decide +kernel) fun t hf y => ?_
  blk_simp
  rw [after4_2]
  unfold out4_2
  canon_tiles x hx
  all_goals pointwise [k4_pay1, dot, mat]
  all_goals blk_point [iblk4, idx4 t]

/-- Where each grid point's blocks lie. -/
theorem idx5 : ∀ t : Fin cfg5.N, win5_0.index t = ![0, t.val / 2] ∧ win5_1.index t = ![0, t.val % 2] ∧ win5_2.index t = ![t.val / 2, t.val % 2] :=
  (by decide +kernel : ∀ t : Fin grid5.N, _)

set_option maxHeartbeats 1000000 in
/-- The gate projection's gradient. -/
theorem fin5_2 (c : Dev nD) : (dat5 V c).arrAt 2 cfg5.N
    = fun i : S2816x1024.Idx => dot (fun r : Fin 4096 => mat (s := S4096x2816) (t := .bf16) ix2 (V c main_v4_0) r (i 0)) (fun r : Fin 4096 => mat (s := S4096x1024) (t := .bf16) ix2 (V c main_v0) r (i 1)) := by
  refine (dat5 V c).arrAt_eq_of_covers 2 _ (by decide +kernel) fun t hf y => ?_
  blk_simp
  rw [after5_2]
  unfold out5_2
  canon_tiles x hx
  all_goals pointwise [k5_pay1, dot, mat]
  all_goals blk_point [iblk5, idx5 t]

/-- Where each grid point's blocks lie. -/
theorem idx6 : ∀ t : Fin cfg6.N, win6_0.index t = ![0, t.val / 2] ∧ win6_1.index t = ![0, t.val % 2] ∧ win6_2.index t = ![t.val / 2, t.val % 2] :=
  (by decide +kernel : ∀ t : Fin grid6.N, _)

set_option maxHeartbeats 1000000 in
/-- The value projection's gradient. -/
theorem fin6_2 (c : Dev nD) : (dat6 V c).arrAt 2 cfg6.N
    = fun i : S2816x1024.Idx => dot (fun r : Fin 4096 => mat (s := S4096x2816) (t := .bf16) ix2 (V c main_v4_1) r (i 0)) (fun r : Fin 4096 => mat (s := S4096x1024) (t := .bf16) ix2 (V c main_v0) r (i 1)) := by
  refine (dat6 V c).arrAt_eq_of_covers 2 _ (by decide +kernel) fun t hf y => ?_
  blk_simp
  rw [after6_2]
  unfold out6_2
  canon_tiles x hx
  all_goals pointwise [k6_pay1, dot, mat]
  all_goals blk_point [iblk6, idx6 t]

end Cert.Kernel2Ideal.Ffn
-- ==== Proof.FfnDn.lean ====
module

public import proofs.«01_k».proof.Proof.Gen.Kernel2Ideal.Skeleton
public import proofs.«01_k».proof.Proof.Gen.Kernel2Ideal.Frame.Region7
public import Idealize.ShloMosaic.Lib.Pipeline.ValueKit
public import Idealize.ShloMosaic.Lib.Pipeline.ReadBack
public import proofs.«01_k».proof.Proof.FfnSpec

@[expose] public section

set_option maxRecDepth 16384

noncomputable section

namespace Cert.Kernel2Ideal.Ffn

open Cert.Kernel2Ideal Cert.Kernel2Ideal.Gen Cert.FfnSpec Idealize.ShloMosaic Idealize.ShloMosaic.TcCoe Idealize.SL.Sem

variable (V : (c : Dev nD) → (b : Ref sig .tc) → Buf (Elt Ideal) ((c : Thread nD τ).loc b))

/-- Where each grid point's blocks lie. -/
theorem idx7 : ∀ t : Fin cfg7.N, win7_0.index t = ![t.val / 2, 0] ∧ win7_1.index t = ![t.val / 2, 0] ∧ win7_2.index t = ![0, t.val % 2] ∧ win7_3.index t = ![0, t.val % 2] ∧ win7_4.index t = ![t.val / 2, t.val % 2] :=
  (by decide +kernel : ∀ t : Fin grid7.N, _)

set_option maxHeartbeats 1000000 in
/-- The normalised rows' cotangent. -/
theorem fin7_4 (c : Dev nD) : (dat7 V c).arrAt 4 cfg7.N
    = fun i : S4096x1024.Idx => dot (mat (s := S4096x2816) (t := .bf16) ix2 (V c main_v4_0) (i 0)) (fun k : Fin 2816 => mat (s := S2816x1024) (t := .bf16) ix2 (V c main_arg2) k (i 1)) + dot (mat (s := S4096x2816) (t := .bf16) ix2 (V c main_v4_1) (i 0)) (fun k : Fin 2816 => mat (s := S2816x1024) (t := .bf16) ix2 (V c main_arg3) k (i 1)) := by
  refine (dat7 V c).arrAt_eq_of_covers 4 _ (by decide +kernel) fun t hf y => ?_
  blk_simp
  rw [after7_4]
  unfold out7_4
  canon_tiles x hx
  all_goals pointwise [k7_pay1, k7_pay2, k7_pay3, k7_pay4, dot, mat]
  all_goals blk_point [iblk7, idx7 t]

end Cert.Kernel2Ideal.Ffn
-- ==== Proof.FfnNb.lean ====
module

public import proofs.«01_k».proof.Proof.Gen.Kernel2Ideal.Skeleton
public import proofs.«01_k».proof.Proof.Gen.Kernel2Ideal.Frame.Region8
public import Idealize.ShloMosaic.Lib.Pipeline.ValueKit
public import Idealize.ShloMosaic.Lib.Pipeline.ReadBack
public import proofs.«01_k».proof.Proof.FfnSpec

@[expose] public section

set_option maxRecDepth 16384

noncomputable section

namespace Cert.Kernel2Ideal.Ffn

open Cert.Kernel2Ideal Cert.Kernel2Ideal.Gen Cert.FfnSpec Idealize.ShloMosaic Idealize.ShloMosaic.TcCoe Idealize.SL.Sem

variable (V : (c : Dev nD) → (b : Ref sig .tc) → Buf (Elt Ideal) ((c : Thread nD τ).loc b))

/-- Where each grid point's blocks lie. -/
theorem idx8 : ∀ t : Fin cfg8.N, win8_0.index t = ![t.val, 0] ∧ win8_1.index t = ![0, 0] ∧ win8_2.index t = ![t.val, 0] ∧ win8_3.index t = ![t.val, 0] ∧ win8_4.index t = ![t.val, 0] ∧ win8_5.index t = ![t.val, 0] ∧ win8_6.index t = ![0, 0] :=
  (by decide +kernel : ∀ t : Fin grid8.N, _)

/-- Every grid point sees all the gains. -/
theorem gains (c : Dev nD) (t : Fin cfg8.N) : (fun k : Fin 1024 => (iblk8 V c 1 t : FVec Ideal S1x1024 .f32) (ix2 0 k)) = fun k : Fin 1024 => (V c main_arg1 : FVec Ideal S1x1024 .f32) (ix2 0 k) := by
  funext k
  blk_ext [iblk8, idx8 t]

set_option maxHeartbeats 1000000 in
/-- The input's cotangent in a block (the first point). -/
theorem o8_4_A (c : Dev nD) (t : Fin cfg8.N) (h : t.val % 4 = 0) (j : S1024x1024.Idx) :
    (outsAt8 V c t.val t.isLt).1 j = (mat (s := S1024x1024) (t := .f32) ix2 (iblk8 V c 3 t) (j 0)) (j 1) + nb (fun k : Fin 1024 => (iblk8 V c 1 t : FVec Ideal S1x1024 .f32) (ix2 0 k)) (mat (s := S1024x1024) (t := .f32) ix2 (iblk8 V c 0 t) (j 0)) (mat (s := S1024x1024) (t := .f32) ix2 (iblk8 V c 2 t) (j 0)) (j 1) := by
  rw [outsAt8_A V c t h]; frame_out
  pointwise [k8_pay1, k8_pay2, k8_pay3, k8_pay4, k8_pay5, k8_pay6, k8_pay7, k8_pay8, nb, nh, rstd, ms, mat]
  all_goals blk_point

set_option maxHeartbeats 1000000 in
/-- The input's cotangent in a block (a later point). -/
theorem o8_4_B (c : Dev nD) (t : Fin cfg8.N) (h : ¬t.val % 4 = 0) (j : S1024x1024.Idx) :
    (outsAt8 V c t.val t.isLt).1 j = (mat (s := S1024x1024) (t := .f32) ix2 (iblk8 V c 3 t) (j 0)) (j 1) + nb (fun k : Fin 1024 => (iblk8 V c 1 t : FVec Ideal S1x1024 .f32) (ix2 0 k)) (mat (s := S1024x1024) (t := .f32) ix2 (iblk8 V c 0 t) (j 0)) (mat (s := S1024x1024) (t := .f32) ix2 (iblk8 V c 2 t) (j 0)) (j 1) := by
  rw [outsAt8_B V c t h]; frame_out
  pointwise [k8_pay1, k8_pay2, k8_pay3, k8_pay4, k8_pay5, k8_pay6, k8_pay7, k8_pay8, nb, nh, rstd, ms, mat]
  all_goals blk_point

set_option maxHeartbeats 1000000 in
/-- The input's cotangent in a block, as the narrower array has it (the first point). -/
theorem o8_5_A (c : Dev nD) (t : Fin cfg8.N) (h : t.val % 4 = 0) (j : S1024x1024.Idx) :
    (outsAt8 V c t.val t.isLt).2.1 j = (mat (s := S1024x1024) (t := .f32) ix2 (iblk8 V c 3 t) (j 0)) (j 1) + nb (fun k : Fin 1024 => (iblk8 V c 1 t : FVec Ideal S1x1024 .f32) (ix2 0 k)) (mat (s := S1024x1024) (t := .f32) ix2 (iblk8 V c 0 t) (j 0)) (mat (s := S1024x1024) (t := .f32) ix2 (iblk8 V c 2 t) (j 0)) (j 1) := by
  rw [outsAt8_A V c t h]; frame_out
  pointwise [k8_pay1, k8_pay2, k8_pay3, k8_pay4, k8_pay5, k8_pay6, k8_pay7, k8_pay8, nb, nh, rstd, ms, mat]
  all_goals blk_point

set_option maxHeartbeats 1000000 in
/-- The input's cotangent in a block, as the narrower array has it (a later point). -/
theorem o8_5_B (c : Dev nD) (t : Fin cfg8.N) (h : ¬t.val % 4 = 0) (j : S1024x1024.Idx) :
    (outsAt8 V c t.val t.isLt).2.1 j = (mat (s := S1024x1024) (t := .f32) ix2 (iblk8 V c 3 t) (j 0)) (j 1) + nb (fun k : Fin 1024 => (iblk8 V c 1 t : FVec Ideal S1x1024 .f32) (ix2 0 k)) (mat (s := S1024x1024) (t := .f32) ix2 (iblk8 V c 0 t) (j 0)) (mat (s := S1024x1024) (t := .f32) ix2 (iblk8 V c 2 t) (j 0)) (j 1) := by
  rw [outsAt8_B V c t h]; frame_out
  pointwise [k8_pay1, k8_pay2, k8_pay3, k8_pay4, k8_pay5, k8_pay6, k8_pay7, k8_pay8, nb, nh, rstd, ms, mat]
  all_goals blk_point

set_option maxHeartbeats 1000000 in
/-- The gains' gradient after a point (the first point). -/
theorem o8_6_A (c : Dev nD) (t : Fin cfg8.N) (h : t.val % 4 = 0) (j : S1x1024.Idx) :
    (outsAt8 V c t.val t.isLt).2.2 j = 0 + ∑ x : Fin 1024, (mat (s := S1024x1024) (t := .f32) ix2 (iblk8 V c 2 t) x) (j 1) * nh (mat (s := S1024x1024) (t := .f32) ix2 (iblk8 V c 0 t) x) (j 1) := by
  rw [outsAt8_A V c t h]; frame_out
  pointwise [k8_pay1, k8_pay2, k8_pay3, k8_pay4, k8_pay5, k8_pay6, k8_pay7, k8_pay8, nb, nh, rstd, ms, mat]
  all_goals blk_point

set_option maxHeartbeats 1000000 in
/-- The gains' gradient after a point (a later point). -/
theorem o8_6_B (c : Dev nD) (t : Fin cfg8.N) (h : ¬t.val % 4 = 0) (j : S1x1024.Idx) :
    (outsAt8 V c t.val t.isLt).2.2 j = (outsAt8 V c (t.val - 1) (Nat.lt_of_le_of_lt (Nat.sub_le _ _) t.isLt)).2.2 j + ∑ x : Fin 1024, (mat (s := S1024x1024) (t := .f32) ix2 (iblk8 V c 2 t) x) (j 1) * nh (mat (s := S1024x1024) (t := .f32) ix2 (iblk8 V c 0 t) x) (j 1) := by
  rw [outsAt8_B V c t h]; frame_out
  pointwise [k8_pay1, k8_pay2, k8_pay3, k8_pay4, k8_pay5, k8_pay6, k8_pay7, k8_pay8, nb, nh, rstd, ms, mat]
  all_goals blk_point

set_option maxHeartbeats 1000000 in
/-- The input's cotangent. -/
theorem fin8_4 (c : Dev nD) : (dat8 V c).arrAt 4 cfg8.N
    = fun i : S4096x1024.Idx => mat (s := S4096x1024) (t := .f32) ix2 (V c main_arg5) (i 0) (i 1) + nb (fun k : Fin 1024 => (V c main_arg1 : FVec Ideal S1x1024 .f32) (ix2 0 k)) (mat (s := S4096x1024) (t := .f32) ix2 (V c main_arg0) (i 0)) (mat (s := S4096x1024) (t := .f32) ix2 (V c main_v8) (i 0)) (i 1) := by
  refine (dat8 V c).arrAt_eq_of_covers 4 _ (by decide +kernel) fun t hf y => ?_
  blk_simp
  rw [after8_4]
  have e1 : (win8_4.blk t).view.emb y 1 = y 1 := Fin.ext (by blk_simp [idx8 t])
  rw [e1]
  by_cases hc : t.val % 4 = 0
  · rw [o8_4_A V c t hc, gains V c t]
    unfold nb nh rstd ms mat
    blk_point [iblk8, idx8 t]
  · rw [o8_4_B V c t hc, gains V c t]
    unfold nb nh rstd ms mat
    blk_point [iblk8, idx8 t]

set_option maxHeartbeats 1000000 in
/-- The input's cotangent. -/
theorem fin8_5 (c : Dev nD) : (dat8 V c).arrAt 5 cfg8.N
    = fun i : S4096x1024.Idx => mat (s := S4096x1024) (t := .f32) ix2 (V c main_arg5) (i 0) (i 1) + nb (fun k : Fin 1024 => (V c main_arg1 : FVec Ideal S1x1024 .f32) (ix2 0 k)) (mat (s := S4096x1024) (t := .f32) ix2 (V c main_arg0) (i 0)) (mat (s := S4096x1024) (t := .f32) ix2 (V c main_v8) (i 0)) (i 1) := by
  refine (dat8 V c).arrAt_eq_of_covers 5 _ (by decide +kernel) fun t hf y => ?_
  blk_simp
  rw [after8_5]
  have e1 : (win8_5.blk t).view.emb y 1 = y 1 := Fin.ext (by blk_simp [idx8 t])
  rw [e1]
  by_cases hc : t.val % 4 = 0
  · rw [o8_5_A V c t hc, gains V c t]
    unfold nb nh rstd ms mat
    blk_point [iblk8, idx8 t]
  · rw [o8_5_B V c t hc, gains V c t]
    unfold nb nh rstd ms mat
    blk_point [iblk8, idx8 t]

set_option maxHeartbeats 1000000 in
/-- The gains' gradient. -/
theorem fin8_6 (c : Dev nD) : (dat8 V c).arrAt 6 cfg8.N
    = fun i : S1x1024.Idx => ∑ r : Fin 4096, mat (s := S4096x1024) (t := .f32) ix2 (V c main_v8) r (i 1) * nh (mat (s := S4096x1024) (t := .f32) ix2 (V c main_arg0) r) (i 1) := by
  refine (dat8 V c).arrAt_eq_of_after_last 6 t8_3 (by decide +kernel) _ fun j => ?_
  blk_simp
  rw [after8_6, Pipeline.eq_sum_fin_of_reset_step_apply_last (fun n h => (outsAt8 V c n h).2.2) 4 (fun _ => 0) _
    (fun t h j => by rw [o8_6_A V c t h])
    (fun t h j => by rw [o8_6_B V c t h])
    (le_of_eq N_8) t8_3 rfl j, zero_add]
  refine Fin.sum_mul_add_congr fun p k hl => ?_
  unfold nh rstd ms mat
  blk_point [iblk8, idx8 p]

end Cert.Kernel2Ideal.Ffn
-- ==== Proof.FfnChain.lean ====
module

public import proofs.«01_k».proof.Proof.Gen.Kernel2Ideal.Frame
public import proofs.«01_k».proof.Proof.FfnNorm
public import proofs.«01_k».proof.Proof.FfnUp
public import proofs.«01_k».proof.Proof.FfnDown
public import proofs.«01_k».proof.Proof.FfnHidA
public import proofs.«01_k».proof.Proof.FfnHidB
public import proofs.«01_k».proof.Proof.FfnDw
public import proofs.«01_k».proof.Proof.FfnDn
public import proofs.«01_k».proof.Proof.FfnNb

@[expose] public section

set_option maxRecDepth 16384

noncomputable section

namespace Cert.Kernel2Ideal.Ffn

open Cert.Kernel2Ideal Cert.Kernel2Ideal.Gen Cert.FfnSpec Idealize.ShloMosaic Idealize.ShloMosaic.TcCoe Idealize.SL.Sem

variable (m : (ℓ : Loc nD τ sig) → Buf (Elt Ideal) ℓ) (ρ : Dev nD → PrngReg)

/-- The arguments on a device, as functions of row and column. -/
abbrev xh (c : Dev nD) : Fin 4096 → Fin 1024 → EReal := mat (s := S4096x1024) (t := .f32) ix2 (m ((c : Thread nD τ).loc main_arg0))
@[inherit_doc xh] abbrev xg (c : Dev nD) : Fin 1024 → EReal := fun k => (m ((c : Thread nD τ).loc main_arg1) : FVec Ideal S1x1024 .f32) (ix2 0 k)
@[inherit_doc xh] abbrev xwg (c : Dev nD) : Fin 2816 → Fin 1024 → EReal := mat (s := S2816x1024) (t := .bf16) ix2 (m ((c : Thread nD τ).loc main_arg2))
@[inherit_doc xh] abbrev xwu (c : Dev nD) : Fin 2816 → Fin 1024 → EReal := mat (s := S2816x1024) (t := .bf16) ix2 (m ((c : Thread nD τ).loc main_arg3))
@[inherit_doc xh] abbrev xwd (c : Dev nD) : Fin 2816 → Fin 1024 → EReal := mat (s := S2816x1024) (t := .bf16) ix2 (m ((c : Thread nD τ).loc main_arg4))
@[inherit_doc xh] abbrev xdh (c : Dev nD) : Fin 4096 → Fin 1024 → EReal := mat (s := S4096x1024) (t := .f32) ix2 (m ((c : Thread nD τ).loc main_arg5))

/-- The normalised rows. -/
theorem v0_eq (c : Dev nD) : W1 m ρ c (Proc.devRef .tc main_v0) = fun i : S4096x1024.Idx => nrm (xg m c) (xh m c (i 0)) (i 1) := by
  refine (W1_arr m ρ c 2).trans ((fin0_2 (V0 m ρ) c).trans ?_)
  rw [show V0 m ρ c main_arg0 = m ((c : Thread nD τ).loc main_arg0) from (rfl : W0 m ρ c (Proc.devRef .tc main_arg0) = m ((c : Thread nD τ).loc main_arg0)),
    show V0 m ρ c main_arg1 = m ((c : Thread nD τ).loc main_arg1) from (rfl : W0 m ρ c (Proc.devRef .tc main_arg1) = m ((c : Thread nD τ).loc main_arg1))]

/-- The gate's products. -/
theorem v1_0_eq (c : Dev nD) : W2 m ρ c (Proc.devRef .tc main_v1_0) = fun i : S4096x2816.Idx => fUp (xh m c) (xg m c) (xwg m c) (i 0) (i 1) := by
  refine (W2_arr m ρ c 3).trans ((fin1_3 (V1 m ρ) c).trans ?_)
  rw [show V1 m ρ c main_v0 = fun i : S4096x1024.Idx => nrm (xg m c) (xh m c (i 0)) (i 1) from v0_eq m ρ c,
    show V1 m ρ c main_arg2 = m ((c : Thread nD τ).loc main_arg2) from (W1_args m ρ c main_arg2 (by decide))]
  rfl

/-- The value's products. -/
theorem v1_1_eq (c : Dev nD) : W2 m ρ c (Proc.devRef .tc main_v1_1) = fun i : S4096x2816.Idx => fUp (xh m c) (xg m c) (xwu m c) (i 0) (i 1) := by
  refine (W2_arr m ρ c 4).trans ((fin1_4 (V1 m ρ) c).trans ?_)
  rw [show V1 m ρ c main_v0 = fun i : S4096x1024.Idx => nrm (xg m c) (xh m c (i 0)) (i 1) from v0_eq m ρ c,
    show V1 m ρ c main_arg3 = m ((c : Thread nD τ).loc main_arg3) from (W1_args m ρ c main_arg3 (by decide))]
  rfl

/-- The hidden activations. -/
theorem v1_2_eq (c : Dev nD) : W2 m ρ c (Proc.devRef .tc main_v1_2) = fun i : S4096x2816.Idx => fHid (xh m c) (xg m c) (xwg m c) (xwu m c) (i 0) (i 1) := by
  refine (W2_arr m ρ c 5).trans ((fin1_5 (V1 m ρ) c).trans ?_)
  rw [show V1 m ρ c main_v0 = fun i : S4096x1024.Idx => nrm (xg m c) (xh m c (i 0)) (i 1) from v0_eq m ρ c,
    show V1 m ρ c main_arg2 = m ((c : Thread nD τ).loc main_arg2) from (W1_args m ρ c main_arg2 (by decide)),
    show V1 m ρ c main_arg3 = m ((c : Thread nD τ).loc main_arg3) from (W1_args m ρ c main_arg3 (by decide))]
  rfl

/-- The sublayer's output. -/
theorem v2_eq (c : Dev nD) : W3 m ρ c (Proc.devRef .tc main_v2) = fun i : S4096x1024.Idx => fOut (xh m c) (xg m c) (xwg m c) (xwu m c) (xwd m c) (i 0) (i 1) := by
  refine (W3_arr m ρ c 3).trans ((fin2_3 (V2 m ρ) c).trans ?_)
  rw [show V2 m ρ c main_v1_2 = fun i : S4096x2816.Idx => fHid (xh m c) (xg m c) (xwg m c) (xwu m c) (i 0) (i 1) from v1_2_eq m ρ c,
    show V2 m ρ c main_arg0 = m ((c : Thread nD τ).loc main_arg0) from (W2_args m ρ c main_arg0 (by decide)),
    show V2 m ρ c main_arg4 = m ((c : Thread nD τ).loc main_arg4) from (W2_args m ρ c main_arg4 (by decide))]
  rfl

/-- The output's cotangent as the products take it. -/
theorem v3_eq (c : Dev nD) : W4 m ρ c (Proc.devRef .tc main_v3) = fun i : S4096x1024.Idx => xdh m c (i 0) (i 1) := by
  have h : W4 m ρ c (Proc.devRef .tc main_v3) = (truncf (F := Ideal) .bf16 (W3 m ρ c (Proc.devRef .tc main_arg5) : FVec Ideal S4096x1024 .f32) bitsLt_bf16_f32 : FVec Ideal S4096x1024 .bf16) := by
    show StableHlo.after hostOps3 (W3 m ρ c) (Proc.devRef .tc main_v3) = _
    simp only [StableHlo.after]
    rfl
  rw [h, W3_args m ρ c main_arg5 (by decide)]
  funext i
  exact congrArg (m ((c : Thread nD τ).loc main_arg5) : FVec Ideal S4096x1024 .f32) (eq_ix2 i)

/-- The gate products' cotangent. -/
theorem v4_0_eq (c : Dev nD) : W5 m ρ c (Proc.devRef .tc main_v4_0) = fun i : S4096x2816.Idx => fDa (xh m c) (xg m c) (xwg m c) (xwu m c) (xwd m c) (xdh m c) (i 0) (i 1) := by
  refine (W5_arr m ρ c 4).trans ((fin3_4 (V4 m ρ) c).trans ?_)
  rw [show V4 m ρ c main_v3 = fun i : S4096x1024.Idx => xdh m c (i 0) (i 1) from v3_eq m ρ c,
    show V4 m ρ c main_v1_0 = fun i : S4096x2816.Idx => fUp (xh m c) (xg m c) (xwg m c) (i 0) (i 1) from ((W4_of m ρ c main_v1_0 (by decide +kernel)).trans (W3_of m ρ c main_v1_0 (by decide +kernel))).trans (v1_0_eq m ρ c),
    show V4 m ρ c main_v1_1 = fun i : S4096x2816.Idx => fUp (xh m c) (xg m c) (xwu m c) (i 0) (i 1) from ((W4_of m ρ c main_v1_1 (by decide +kernel)).trans (W3_of m ρ c main_v1_1 (by decide +kernel))).trans (v1_1_eq m ρ c),
    show V4 m ρ c main_arg4 = m ((c : Thread nD τ).loc main_arg4) from (W4_args m ρ c main_arg4 (by decide))]
  rfl

/-- The value products' cotangent. -/
theorem v4_1_eq (c : Dev nD) : W5 m ρ c (Proc.devRef .tc main_v4_1) = fun i : S4096x2816.Idx => fDb (xh m c) (xg m c) (xwg m c) (xwd m c) (xdh m c) (i 0) (i 1) := by
  refine (W5_arr m ρ c 5).trans ((fin3_5 (V4 m ρ) c).trans ?_)
  rw [show V4 m ρ c main_v3 = fun i : S4096x1024.Idx => xdh m c (i 0) (i 1) from v3_eq m ρ c,
    show V4 m ρ c main_v1_0 = fun i : S4096x2816.Idx => fUp (xh m c) (xg m c) (xwg m c) (i 0) (i 1) from ((W4_of m ρ c main_v1_0 (by decide +kernel)).trans (W3_of m ρ c main_v1_0 (by decide +kernel))).trans (v1_0_eq m ρ c),
    show V4 m ρ c main_arg4 = m ((c : Thread nD τ).loc main_arg4) from (W4_args m ρ c main_arg4 (by decide))]
  rfl

/-- The down projection's gradient. -/
theorem v5_eq (c : Dev nD) : W6 m ρ c (Proc.devRef .tc main_v5) = fun i : S2816x1024.Idx => fDwd (xh m c) (xg m c) (xwg m c) (xwu m c) (xdh m c) (i 0) (i 1) := by
  refine (W6_arr m ρ c 2).trans ((fin4_2 (V5 m ρ) c).trans ?_)
  rw [show V5 m ρ c main_v1_2 = fun i : S4096x2816.Idx => fHid (xh m c) (xg m c) (xwg m c) (xwu m c) (i 0) (i 1) from (((W5_of m ρ c main_v1_2 (by decide +kernel)).trans (W4_of m ρ c main_v1_2 (by decide +kernel))).trans (W3_of m ρ c main_v1_2 (by decide +kernel))).trans (v1_2_eq m ρ c),
    show V5 m ρ c main_v3 = fun i : S4096x1024.Idx => xdh m c (i 0) (i 1) from (W5_of m ρ c main_v3 (by decide +kernel)).trans (v3_eq m ρ c)]
  rfl

/-- The gate projection's gradient. -/
theorem v6_eq (c : Dev nD) : W7 m ρ c (Proc.devRef .tc main_v6) = fun i : S2816x1024.Idx => fDwg (xh m c) (xg m c) (xwg m c) (xwu m c) (xwd m c) (xdh m c) (i 0) (i 1) := by
  refine (W7_arr m ρ c 2).trans ((fin5_2 (V6 m ρ) c).trans ?_)
  rw [show V6 m ρ c main_v4_0 = fun i : S4096x2816.Idx => fDa (xh m c) (xg m c) (xwg m c) (xwu m c) (xwd m c) (xdh m c) (i 0) (i 1) from (W6_of m ρ c main_v4_0 (by decide +kernel)).trans (v4_0_eq m ρ c),
    show V6 m ρ c main_v0 = fun i : S4096x1024.Idx => nrm (xg m c) (xh m c (i 0)) (i 1) from (((((W6_of m ρ c main_v0 (by decide +kernel)).trans (W5_of m ρ c main_v0 (by decide +kernel))).trans (W4_of m ρ c main_v0 (by decide +kernel))).trans (W3_of m ρ c main_v0 (by decide +kernel))).trans (W2_of m ρ c main_v0 (by decide +kernel))).trans (v0_eq m ρ c)]
  rfl

/-- The value projection's gradient. -/
theorem v7_eq (c : Dev nD) : W8 m ρ c (Proc.devRef .tc main_v7) = fun i : S2816x1024.Idx => fDwu (xh m c) (xg m c) (xwg m c) (xwd m c) (xdh m c) (i 0) (i 1) := by
  refine (W8_arr m ρ c 2).trans ((fin6_2 (V7 m ρ) c).trans ?_)
  rw [show V7 m ρ c main_v4_1 = fun i : S4096x2816.Idx => fDb (xh m c) (xg m c) (xwg m c) (xwd m c) (xdh m c) (i 0) (i 1) from ((W7_of m ρ c main_v4_1 (by decide +kernel)).trans (W6_of m ρ c main_v4_1 (by decide +kernel))).trans (v4_1_eq m ρ c),
    show V7 m ρ c main_v0 = fun i : S4096x1024.Idx => nrm (xg m c) (xh m c (i 0)) (i 1) from ((((((W7_of m ρ c main_v0 (by decide +kernel)).trans (W6_of m ρ c main_v0 (by decide +kernel))).trans (W5_of m ρ c main_v0 (by decide +kernel))).trans (W4_of m ρ c main_v0 (by decide +kernel))).trans (W3_of m ρ c main_v0 (by decide +kernel))).trans (W2_of m ρ c main_v0 (by decide +kernel))).trans (v0_eq m ρ c)]
  rfl

/-- The normalised rows' cotangent. -/
theorem v8_eq (c : Dev nD) : W9 m ρ c (Proc.devRef .tc main_v8) = fun i : S4096x1024.Idx => fDn (xh m c) (xg m c) (xwg m c) (xwu m c) (xwd m c) (xdh m c) (i 0) (i 1) := by
  refine (W9_arr m ρ c 4).trans ((fin7_4 (V8 m ρ) c).trans ?_)
  rw [show V8 m ρ c main_v4_0 = fun i : S4096x2816.Idx => fDa (xh m c) (xg m c) (xwg m c) (xwu m c) (xwd m c) (xdh m c) (i 0) (i 1) from (((W8_of m ρ c main_v4_0 (by decide +kernel)).trans (W7_of m ρ c main_v4_0 (by decide +kernel))).trans (W6_of m ρ c main_v4_0 (by decide +kernel))).trans (v4_0_eq m ρ c),
    show V8 m ρ c main_v4_1 = fun i : S4096x2816.Idx => fDb (xh m c) (xg m c) (xwg m c) (xwd m c) (xdh m c) (i 0) (i 1) from (((W8_of m ρ c main_v4_1 (by decide +kernel)).trans (W7_of m ρ c main_v4_1 (by decide +kernel))).trans (W6_of m ρ c main_v4_1 (by decide +kernel))).trans (v4_1_eq m ρ c),
    show V8 m ρ c main_arg2 = m ((c : Thread nD τ).loc main_arg2) from (W8_args m ρ c main_arg2 (by decide)),
    show V8 m ρ c main_arg3 = m ((c : Thread nD τ).loc main_arg3) from (W8_args m ρ c main_arg3 (by decide))]
  rfl

/-- The sublayer's input's cotangent. -/
theorem v9_0_eq (c : Dev nD) : W10 m ρ c (Proc.devRef .tc main_v9_0) = fun i : S4096x1024.Idx => fDin (xh m c) (xg m c) (xwg m c) (xwu m c) (xwd m c) (xdh m c) (i 0) (i 1) := by
  refine (W10_arr m ρ c 4).trans ((fin8_4 (V9 m ρ) c).trans ?_)
  rw [show V9 m ρ c main_arg0 = m ((c : Thread nD τ).loc main_arg0) from (W9_args m ρ c main_arg0 (by decide)),
    show V9 m ρ c main_arg1 = m ((c : Thread nD τ).loc main_arg1) from (W9_args m ρ c main_arg1 (by decide)),
    show V9 m ρ c main_v8 = fun i : S4096x1024.Idx => fDn (xh m c) (xg m c) (xwg m c) (xwu m c) (xwd m c) (xdh m c) (i 0) (i 1) from v8_eq m ρ c,
    show V9 m ρ c main_arg5 = m ((c : Thread nD τ).loc main_arg5) from (W9_args m ρ c main_arg5 (by decide))]
  rfl

/-- The sublayer's input's cotangent, as the narrower array has it. -/
theorem v9_1_eq (c : Dev nD) : W10 m ρ c (Proc.devRef .tc main_v9_1) = fun i : S4096x1024.Idx => fDin (xh m c) (xg m c) (xwg m c) (xwu m c) (xwd m c) (xdh m c) (i 0) (i 1) := by
  refine (W10_arr m ρ c 5).trans ((fin8_5 (V9 m ρ) c).trans ?_)
  rw [show V9 m ρ c main_arg0 = m ((c : Thread nD τ).loc main_arg0) from (W9_args m ρ c main_arg0 (by decide)),
    show V9 m ρ c main_arg1 = m ((c : Thread nD τ).loc main_arg1) from (W9_args m ρ c main_arg1 (by decide)),
    show V9 m ρ c main_v8 = fun i : S4096x1024.Idx => fDn (xh m c) (xg m c) (xwg m c) (xwu m c) (xwd m c) (xdh m c) (i 0) (i 1) from v8_eq m ρ c,
    show V9 m ρ c main_arg5 = m ((c : Thread nD τ).loc main_arg5) from (W9_args m ρ c main_arg5 (by decide))]
  rfl

/-- The gains' gradient. -/
theorem v9_2_eq (c : Dev nD) : W10 m ρ c (Proc.devRef .tc main_v9_2) = fun i : S1x1024.Idx => fDg (xh m c) (xg m c) (xwg m c) (xwu m c) (xwd m c) (xdh m c) (i 1) := by
  refine (W10_arr m ρ c 6).trans ((fin8_6 (V9 m ρ) c).trans ?_)
  rw [show V9 m ρ c main_arg0 = m ((c : Thread nD τ).loc main_arg0) from (W9_args m ρ c main_arg0 (by decide)),
    show V9 m ρ c main_v8 = fun i : S4096x1024.Idx => fDn (xh m c) (xg m c) (xwg m c) (xwu m c) (xwd m c) (xdh m c) (i 0) (i 1) from v8_eq m ρ c]
  rfl

/-- It stands at the end of the run. -/
theorem v2_end (c : Dev nD) : W10 m ρ c (Proc.devRef .tc main_v2) = fun i : S4096x1024.Idx => fOut (xh m c) (xg m c) (xwg m c) (xwu m c) (xwd m c) (i 0) (i 1) :=
  (((((((W10_of m ρ c main_v2 (by decide +kernel)).trans (W9_of m ρ c main_v2 (by decide +kernel))).trans (W8_of m ρ c main_v2 (by decide +kernel))).trans (W7_of m ρ c main_v2 (by decide +kernel))).trans (W6_of m ρ c main_v2 (by decide +kernel))).trans (W5_of m ρ c main_v2 (by decide +kernel))).trans (W4_of m ρ c main_v2 (by decide +kernel))).trans (v2_eq m ρ c)

/-- It stands at the end of the run. -/
theorem v6_end (c : Dev nD) : W10 m ρ c (Proc.devRef .tc main_v6) = fun i : S2816x1024.Idx => fDwg (xh m c) (xg m c) (xwg m c) (xwu m c) (xwd m c) (xdh m c) (i 0) (i 1) :=
  (((W10_of m ρ c main_v6 (by decide +kernel)).trans (W9_of m ρ c main_v6 (by decide +kernel))).trans (W8_of m ρ c main_v6 (by decide +kernel))).trans (v6_eq m ρ c)

/-- It stands at the end of the run. -/
theorem v7_end (c : Dev nD) : W10 m ρ c (Proc.devRef .tc main_v7) = fun i : S2816x1024.Idx => fDwu (xh m c) (xg m c) (xwg m c) (xwd m c) (xdh m c) (i 0) (i 1) :=
  ((W10_of m ρ c main_v7 (by decide +kernel)).trans (W9_of m ρ c main_v7 (by decide +kernel))).trans (v7_eq m ρ c)

/-- It stands at the end of the run. -/
theorem v5_end (c : Dev nD) : W10 m ρ c (Proc.devRef .tc main_v5) = fun i : S2816x1024.Idx => fDwd (xh m c) (xg m c) (xwg m c) (xwu m c) (xdh m c) (i 0) (i 1) :=
  ((((W10_of m ρ c main_v5 (by decide +kernel)).trans (W9_of m ρ c main_v5 (by decide +kernel))).trans (W8_of m ρ c main_v5 (by decide +kernel))).trans (W7_of m ρ c main_v5 (by decide +kernel))).trans (v5_eq m ρ c)

end Cert.Kernel2Ideal.Ffn
-- ==== Proof.FfnRun.lean ====
module

public import proofs.«01_k».proof.Proof.FfnChain

@[expose] public section

set_option maxRecDepth 16384

noncomputable section

namespace Cert.Kernel2Ideal.Ffn

open Cert.Kernel2Ideal Cert.Kernel2Ideal.Gen Cert.FfnSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

-- `θ_run_regions_kit_sems`'s implicit arguments are found by unifying its conclusion with this one, which takes unfolding
-- plain definitions in a metavariable's type
set_option backward.isDefEq.respectTransparency.types false in
/-- The run with every result array named: each at its formula of the arguments, the arguments as they were, every counter at zero. -/
theorem run : θ_run defs (onTc (τ := τ) (main (F := Ideal))) ⟨m, fun _ => 0, ρ⟩ (fun r => (∀ c : Dev nD,
      r.2.mem ((c.tc : Thread nD τ).loc main_v2) = (fun i : S4096x1024.Idx => fOut (xh m c) (xg m c) (xwg m c) (xwu m c) (xwd m c) (i 0) (i 1)) ∧
      r.2.mem ((c.tc : Thread nD τ).loc main_v9_0) = (fun i : S4096x1024.Idx => fDin (xh m c) (xg m c) (xwg m c) (xwu m c) (xwd m c) (xdh m c) (i 0) (i 1)) ∧
      r.2.mem ((c.tc : Thread nD τ).loc main_v9_1) = (fun i : S4096x1024.Idx => fDin (xh m c) (xg m c) (xwg m c) (xwu m c) (xwd m c) (xdh m c) (i 0) (i 1)) ∧
      r.2.mem ((c.tc : Thread nD τ).loc main_v9_2) = (fun i : S1x1024.Idx => fDg (xh m c) (xg m c) (xwg m c) (xwu m c) (xwd m c) (xdh m c) (i 1)) ∧
      r.2.mem ((c.tc : Thread nD τ).loc main_v6) = (fun i : S2816x1024.Idx => fDwg (xh m c) (xg m c) (xwg m c) (xwu m c) (xwd m c) (xdh m c) (i 0) (i 1)) ∧
      r.2.mem ((c.tc : Thread nD τ).loc main_v7) = (fun i : S2816x1024.Idx => fDwu (xh m c) (xg m c) (xwg m c) (xwd m c) (xdh m c) (i 0) (i 1)) ∧
      r.2.mem ((c.tc : Thread nD τ).loc main_v5) = (fun i : S2816x1024.Idx => fDwd (xh m c) (xg m c) (xwg m c) (xwu m c) (xdh m c) (i 0) (i 1)) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨(fun c =>
      ⟨(h c _ (mem_uc main_v2 (by decide))).trans (v2_end m ρ c),
       (h c _ (mem_uc main_v9_0 (by decide))).trans (v9_0_eq m ρ c),
       (h c _ (mem_uc main_v9_1 (by decide))).trans (v9_1_eq m ρ c),
       (h c _ (mem_uc main_v9_2 (by decide))).trans (v9_2_eq m ρ c),
       (h c _ (mem_uc main_v6 (by decide))).trans (v6_end m ρ c),
       (h c _ (mem_uc main_v7 (by decide))).trans (v7_end m ρ c),
       (h c _ (mem_uc main_v5 (by decide))).trans (v5_end m ρ c),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩), funext fun g => hz g (.inr (no_unscoped g.2))⟩)

end Cert.Kernel2Ideal.Ffn
-- ==== Proof.FfnPlain.lean ====
module

public import proofs.«01_k».proof.Proof.FfnSpec

@[expose] public section

noncomputable section

namespace Cert.FfnSpec

open Idealize.ShloMosaic

/-- An extended real that is a real. -/
def IsReal (x : EReal) : Prop := ∃ y : ℝ, x = (y : EReal)

/-- A sum of reals is a real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A difference of reals is a real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A product of reals is a real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals, in the extended reals. -/
theorem sum_real {n : ℕ} (f : Fin n → ℝ) : (∑ x, ((f x : ℝ) : EReal)) = ((∑ x, f x : ℝ) : EReal) :=
  (map_sum (⟨⟨fun r : ℝ => (r : EReal), EReal.coe_zero⟩, EReal.coe_add⟩ : ℝ →+ EReal) f Finset.univ).symm

/-- The product of two rows of reals is a real. -/
theorem IsReal.dot {n : ℕ} {x y : Fin n → EReal} (hx : ∀ k, IsReal (x k)) (hy : ∀ k, IsReal (y k)) : IsReal (dot x y) := by
  choose a ha using fun k => (hx k).mul (hy k)
  exact ⟨∑ k, a k, by unfold FfnSpec.dot; rw [← sum_real]; exact Finset.sum_congr rfl fun k _ => ha k⟩

/-- The constant one half. -/
theorem half_real : Ideal.ofBits FTy.f32 1056964608#32 = ((1 / 2 : ℝ) : EReal) := by
  simp [Ideal.ofBits, Ideal.ieee, -EReal.coe_mul]; norm_num

/-- The constant minus one half. -/
theorem minus_half_real : Ideal.ofBits FTy.f32 3204448256#32 = ((-(1 / 2) : ℝ) : EReal) := by
  simp [Ideal.ofBits, Ideal.ieee, -EReal.coe_mul]; norm_num

/-- The constant one. -/
theorem one_real : Ideal.ofBits FTy.f32 1065353216#32 = ((1 : ℝ) : EReal) := by
  simp [Ideal.ofBits, Ideal.ieee, -EReal.coe_mul]; norm_num

/-- The constant 1024, a row's width. -/
theorem width_real : Ideal.ofBits FTy.f32 1149239296#32 = ((1024 : ℝ) : EReal) := by
  simp [Ideal.ofBits, Ideal.ieee, -EReal.coe_mul]; norm_num

/-- The small constant under the root. -/
theorem small_real : Ideal.ofBits FTy.f32 897988541#32 = ((8796093 * (2 : ℝ) ^ (-43 : ℤ) : ℝ) : EReal) := by
  simp [Ideal.ofBits, Ideal.ieee, -EReal.coe_mul]

/-- On a row of reals the mean square with the constant added is a positive real, and the factor is its root's inverse. -/
theorem ms_real (x : Fin 1024 → ℝ) : ∃ v : ℝ, 0 < v ∧ ms (fun k => (x k : EReal)) = (v : EReal)
    ∧ rstd (fun k => (x k : EReal)) = (((Real.sqrt v)⁻¹ : ℝ) : EReal) := by
  have hv : 0 < (∑ k, x k * x k) * (1 / 1024) + 8796093 * (2 : ℝ) ^ (-43 : ℤ) :=
    add_pos_of_nonneg_of_pos (mul_nonneg (Finset.sum_nonneg fun k _ => mul_self_nonneg (x k)) (by norm_num)) (by positivity)
  have hm : ms (fun k => (x k : EReal)) = (((∑ k, x k * x k) * (1 / 1024) + 8796093 * (2 : ℝ) ^ (-43 : ℤ) : ℝ) : EReal) := by
    unfold ms
    rw [width_real, small_real, Ideal.div_coe (by norm_num)]
    simp only [← EReal.coe_mul, sum_real, ← EReal.coe_add]
  refine ⟨_, hv, hm, ?_⟩
  unfold rstd
  rw [hm, Ideal.rsqrt_coe, if_neg (not_lt.mpr hv.le), if_neg hv.ne']

/-- A row of reals stays one when normalised. -/
theorem IsReal.nh {h : Fin 1024 → EReal} (hh : ∀ k, IsReal (h k)) (l : Fin 1024) : IsReal (nh h l) := by
  choose x hx using hh
  obtain rfl : h = fun k => (x k : EReal) := funext hx
  obtain ⟨v, -, -, hr⟩ := ms_real x
  exact IsReal.mul ⟨_, rfl⟩ ⟨_, hr⟩

/-- The sigmoid of a real is a real. -/
theorem IsReal.logistic {a : EReal} (ha : IsReal a) : IsReal (Ideal.logistic a) := by
  obtain ⟨x, rfl⟩ := ha
  exact ⟨_, Ideal.logistic_coe x⟩

/-- The hidden activation's cotangent, the half taken into the sum. -/
def pDhid {n : ℕ} (dh w : Fin n → EReal) : EReal := dot (fun k => Ideal.ofBits FTy.f32 1056964608#32 * dh k) w

/-- On reals the half may stand before the sum or inside it. -/
theorem dhid_eq {n : ℕ} {dh w : Fin n → EReal} (hd : ∀ k, IsReal (dh k)) (hw : ∀ k, IsReal (w k)) : dhid dh w = pDhid dh w := by
  choose d hd using hd
  choose u hu using hw
  unfold dhid pDhid dot
  simp only [hd, hu, half_real, ← EReal.coe_mul, sum_real]
  congr 1
  rw [Finset.mul_sum]
  exact Finset.sum_congr rfl fun k _ => by ring

/-- The hidden activation's cotangent is a real on reals. -/
theorem IsReal.dhid {n : ℕ} {dh w : Fin n → EReal} (hd : ∀ k, IsReal (dh k)) (hw : ∀ k, IsReal (w k)) : IsReal (dhid dh w) :=
  IsReal.mul ⟨_, half_real⟩ (IsReal.dot hd hw)

/-- The gate product's cotangent as the derivative's rules give it: the factor's share and the sigmoid's. -/
def pDa (d a b : EReal) : EReal :=
  d * b * Ideal.logistic a + a * (d * b) * (Ideal.logistic a * (Ideal.ofBits FTy.f32 1065353216#32 - Ideal.logistic a))

/-- On reals the two forms of the gate product's cotangent agree. -/
theorem da_eq {d a b : EReal} (hd : IsReal d) (ha : IsReal a) (hb : IsReal b) : da d a b = pDa d a b := by
  obtain ⟨s, hs⟩ := ha.logistic
  obtain ⟨d, rfl⟩ := hd
  obtain ⟨a, rfl⟩ := ha
  obtain ⟨b, rfl⟩ := hb
  unfold da pDa
  rw [hs, one_real]
  simp only [← EReal.coe_mul, ← EReal.coe_sub, ← EReal.coe_add]
  congr 1
  ring

/-- The gate product's cotangent is a real on reals. -/
theorem IsReal.da {d a b : EReal} (hd : IsReal d) (ha : IsReal a) (hb : IsReal b) : IsReal (da d a b) :=
  (hd.mul hb).mul (ha.logistic.mul (IsReal.add ⟨_, one_real⟩ (ha.mul (IsReal.sub ⟨_, one_real⟩ ha.logistic))))

/-- The value product's cotangent, its factors in the derivative's order. -/
def pDb (d a : EReal) : EReal := a * Ideal.logistic a * d

/-- The two forms of the value product's cotangent agree. -/
theorem db_eq (d a : EReal) : db d a = pDb d a := mul_comm _ _

/-- The value product's cotangent is a real on reals. -/
theorem IsReal.db {d a : EReal} (hd : IsReal d) (ha : IsReal a) : IsReal (db d a) := hd.mul (ha.mul ha.logistic)

/-- The cotangent of a row's mean square, with the factor that each of the row's two occurrences in a square takes. -/
def pQ (g h dn : Fin 1024 → EReal) : EReal :=
  Ideal.div ((∑ k, h k * (dn k * g k)) * (Ideal.ofBits FTy.f32 3204448256#32 * Ideal.div (rstd h) (ms h))) (Ideal.ofBits FTy.f32 1149239296#32)

/-- The input's cotangent as the derivative's rules give it: the residual's, the scaling's, and the two occurrences' in the square. -/
def pDin (d : EReal) (g h dn : Fin 1024 → EReal) (l : Fin 1024) : EReal :=
  d + dn l * g l * rstd h + h l * pQ g h dn + pQ g h dn * h l

/-- On reals the closed form of the normalisation's cotangent is what the derivative's rules give. -/
theorem din_eq {d : EReal} {g h dn : Fin 1024 → EReal} (hd : IsReal d) (hg : ∀ k, IsReal (g k)) (hh : ∀ k, IsReal (h k)) (hn : ∀ k, IsReal (dn k))
    (l : Fin 1024) : d + nb g h dn l = pDin d g h dn l := by
  obtain ⟨d, rfl⟩ := hd
  choose g' hg' using hg
  choose x hx using hh
  choose n hn' using hn
  obtain rfl : g = fun k => (g' k : EReal) := funext hg'
  obtain rfl : h = fun k => (x k : EReal) := funext hx
  obtain rfl : dn = fun k => (n k : EReal) := funext hn'
  obtain ⟨v, hv, hm, hr⟩ := ms_real x
  unfold nb pDin pQ FfnSpec.nh
  rw [hm, hr, width_real, minus_half_real, Ideal.div_coe (by norm_num), Ideal.div_coe (by norm_num), Ideal.div_coe hv.ne']
  simp only [← EReal.coe_mul, sum_real, ← EReal.coe_sub, ← EReal.coe_add]
  congr 1
  have e : (∑ k, n k * g' k * (x k * (Real.sqrt v)⁻¹)) = (∑ k, x k * (n k * g' k)) * (Real.sqrt v)⁻¹ := by
    rw [Finset.sum_mul]
    exact Finset.sum_congr rfl fun k _ => by ring
  rw [e]
  have hs : (Real.sqrt v)⁻¹ * (Real.sqrt v)⁻¹ = 1 / v := by
    rw [← mul_inv, Real.mul_self_sqrt hv.le, one_div]
  generalize (∑ k, x k * (n k * g' k)) = S
  rw [← hs]
  ring

variable (h : Fin 4096 → Fin 1024 → EReal) (g : Fin 1024 → EReal) (wg wu wd : Fin 2816 → Fin 1024 → EReal) (dh : Fin 4096 → Fin 1024 → EReal)

/-- The gate products' cotangent, by the derivative's rules. -/
def gDa (r : Fin 4096) (j : Fin 2816) : EReal := pDa (pDhid (dh r) (wd j)) (fUp h g wg r j) (fUp h g wu r j)

/-- The value products' cotangent, by the derivative's rules. -/
def gDb (r : Fin 4096) (j : Fin 2816) : EReal := pDb (pDhid (dh r) (wd j)) (fUp h g wg r j)

/-- The down projection's gradient, by the derivative's rules. -/
def gDwd (j : Fin 2816) (l : Fin 1024) : EReal :=
  dot (fun r => Ideal.ofBits FTy.f32 1056964608#32 * dh r l) fun r => fHid h g wg wu r j

/-- The gate projection's gradient, by the derivative's rules. -/
def gDwg (j : Fin 2816) (l : Fin 1024) : EReal := dot (fun r => gDa h g wg wu wd dh r j) fun r => nrm g (h r) l

/-- The value projection's gradient, by the derivative's rules. -/
def gDwu (j : Fin 2816) (l : Fin 1024) : EReal := dot (fun r => gDb h g wg wd dh r j) fun r => nrm g (h r) l

/-- The normalised rows' cotangent, by the derivative's rules. -/
def gDn (r : Fin 4096) (l : Fin 1024) : EReal :=
  dot (gDb h g wg wd dh r) (fun k => wu k l) + dot (gDa h g wg wu wd dh r) fun k => wg k l

/-- The sublayer's input's cotangent, by the derivative's rules. -/
def gDin (r : Fin 4096) (l : Fin 1024) : EReal := pDin (dh r l) g (h r) (gDn h g wg wu wd dh r) l

/-- The gains' gradient, by the derivative's rules. -/
def gDg (l : Fin 1024) : EReal := ∑ r, nh (h r) l * gDn h g wg wu wd dh r l

/-- Every entry of the six arguments is a real. -/
structure Reals : Prop where
  h : ∀ r l, IsReal (h r l)
  g : ∀ l, IsReal (g l)
  wg : ∀ j l, IsReal (wg j l)
  wu : ∀ j l, IsReal (wu j l)
  wd : ∀ j l, IsReal (wd j l)
  dh : ∀ r l, IsReal (dh r l)

variable {h g wg wu wd dh} (R : Reals h g wg wu wd dh)
include R

/-- The normalised rows are reals. -/
theorem nrm_fin (r : Fin 4096) (l : Fin 1024) : IsReal (nrm g (h r) l) := (IsReal.nh (R.h r) l).mul (R.g l)

/-- The gate's products are reals. -/
theorem gate_fin (r : Fin 4096) (j : Fin 2816) : IsReal (fUp h g wg r j) := IsReal.dot (nrm_fin R r) (R.wg j)

/-- The value's products are reals. -/
theorem value_fin (r : Fin 4096) (j : Fin 2816) : IsReal (fUp h g wu r j) := IsReal.dot (nrm_fin R r) (R.wu j)

/-- The hidden activations are reals. -/
theorem hid_fin (r : Fin 4096) (j : Fin 2816) : IsReal (fHid h g wg wu r j) :=
  ((gate_fin R r j).mul (gate_fin R r j).logistic).mul (value_fin R r j)

/-- Their cotangents are reals. -/
theorem dhid_fin (r : Fin 4096) (j : Fin 2816) : IsReal (fDhid wd dh r j) := IsReal.dhid (R.dh r) (R.wd j)

/-- The normalised rows' cotangents are reals. -/
theorem dn_fin (r : Fin 4096) (l : Fin 1024) : IsReal (fDn h g wg wu wd dh r l) :=
  (IsReal.dot (fun j => IsReal.da (dhid_fin R r j) (gate_fin R r j) (value_fin R r j)) fun j => R.wg j l).add
    (IsReal.dot (fun j => IsReal.db (dhid_fin R r j) (gate_fin R r j)) fun j => R.wu j l)

/-- On reals the gate products' cotangents agree. -/
theorem fDa_eq : fDa h g wg wu wd dh = gDa h g wg wu wd dh := by
  funext r j
  unfold fDa gDa
  rw [da_eq (dhid_fin R r j) (gate_fin R r j) (value_fin R r j)]
  unfold fDhid
  rw [dhid_eq (R.dh r) (R.wd j)]

/-- On reals the value products' cotangents agree. -/
theorem fDb_eq : fDb h g wg wd dh = gDb h g wg wd dh := by
  funext r j
  unfold fDb gDb
  rw [db_eq]
  unfold fDhid
  rw [dhid_eq (R.dh r) (R.wd j)]

/-- On reals the gate projection's gradients agree. -/
theorem fDwg_eq (j : Fin 2816) (l : Fin 1024) : fDwg h g wg wu wd dh j l = gDwg h g wg wu wd dh j l := by
  unfold fDwg gDwg
  rw [fDa_eq R]

/-- On reals the value projection's gradients agree. -/
theorem fDwu_eq (j : Fin 2816) (l : Fin 1024) : fDwu h g wg wd dh j l = gDwu h g wg wd dh j l := by
  unfold fDwu gDwu
  rw [fDb_eq R]

/-- On reals the normalised rows' cotangents agree. -/
theorem fDn_eq : fDn h g wg wu wd dh = gDn h g wg wu wd dh := by
  funext r l
  unfold fDn gDn
  rw [fDa_eq R, fDb_eq R, add_comm]

/-- On reals the input's cotangents agree. -/
theorem fDin_eq (r : Fin 4096) (l : Fin 1024) : fDin h g wg wu wd dh r l = gDin h g wg wu wd dh r l := by
  unfold fDin gDin
  rw [din_eq (R.dh r l) R.g (R.h r) (dn_fin R r), fDn_eq R]

/-- On reals the gains' gradients agree. -/
theorem fDg_eq (l : Fin 1024) : fDg h g wg wu wd dh l = gDg h g wg wu wd dh l := by
  unfold fDg gDg
  rw [fDn_eq R]
  exact Finset.sum_congr rfl fun r _ => mul_comm _ _

/-- On reals the down projection's gradients agree. -/
theorem fDwd_eq (j : Fin 2816) (l : Fin 1024) : fDwd h g wg wu dh j l = gDwd h g wg wu dh j l := by
  choose y hy using fun r => hid_fin R r j
  choose d hd using fun r => R.dh r l
  unfold fDwd gDwd dot
  simp only [hy, hd, half_real, ← EReal.coe_mul, sum_real]
  congr 1
  rw [Finset.sum_mul]
  exact Finset.sum_congr rfl fun k _ => by ring

end Cert.FfnSpec
-- ==== Proof.FfnRef.lean ====
module

public import proofs.«01_k».proof.Proof.Gen.Reference2Ideal.Read
public import proofs.«01_k».proof.Proof.FfnPlain

@[expose] public section

set_option maxRecDepth 16384

noncomputable section

namespace Cert.Reference2Ideal.Ffn

open Cert.Reference2Ideal Cert.Reference2Ideal.Read Cert.FfnSpec Idealize.ShloMosaic Idealize.ShloMosaic.TcCoe Idealize.SL.Sem

variable (x0 : FVec Ideal S4096x1024 .f32) (x1 : FVec Ideal S1x1024 .f32) (x2 x3 x4 : FVec Ideal S2816x1024 .bf16) (x5 : FVec Ideal S4096x1024 .f32)

/-- The gains as a row. -/
abbrev gain : Fin 1024 → EReal := fun k => x1 (ix2 0 k)

/-- The reference's mean squares. -/
theorem r11 (r : Fin 4096) : val_main_v11 (F := Ideal) x0 (ix2 r 0) = ms (mat ix2 x0 r) := by
  unfold ms mat
  pointwise [val_main_v5, val_main_cst, val_main_v6, val_main_v7, val_main_cst_0, val_main_v8, val_main_v9, val_main_cst_1, val_main_v10, val_main_v11]

/-- The reference's factors. -/
theorem r12 (r : Fin 4096) : val_main_v12 (F := Ideal) x0 (ix2 r 0) = rstd (mat ix2 x0 r) := by
  unfold rstd
  rw [← r11]
  unfold val_main_v12
  generalize val_main_v11 (F := Ideal) x0 = w
  pointwise []

/-- The reference's normalised rows. -/
theorem r17 (r : Fin 4096) (l : Fin 1024) : val_main_v17 (F := Ideal) x0 (ix2 r l) = nh (mat ix2 x0 r) l := by
  unfold nh
  rw [← r12]
  unfold val_main_v17 val_main_v16
  generalize val_main_v12 (F := Ideal) x0 = w
  pointwise []

/-- The reference's normalised and scaled rows. -/
theorem r19 (r : Fin 4096) (l : Fin 1024) : val_main_v19 (F := Ideal) x0 x1 (ix2 r l) = nrm (gain x1) (mat ix2 x0 r) l := by
  unfold nrm
  rw [← r17]
  unfold val_main_v19 val_main_v18
  generalize val_main_v17 (F := Ideal) x0 = w
  pointwise []

/-- The reference's gate products. -/
theorem r20 (r : Fin 4096) (j : Fin 2816) :
    val_main_v20 (F := Ideal) x0 x1 x2 (ix2 r j) = fUp (mat ix2 x0) (gain x1) (mat ix2 x2) r j := by
  have e : nrm (gain x1) (mat ix2 x0 r) = fun l => (show EReal from val_main_v19 (F := Ideal) x0 x1 (ix2 r l)) := funext fun l => (r19 x0 x1 r l).symm
  unfold fUp dot
  rw [e]
  unfold val_main_v20
  generalize val_main_v19 (F := Ideal) x0 x1 = w
  pointwise [val_main_v0, val_main_v1]

/-- The reference's value products. -/
theorem r22 (r : Fin 4096) (j : Fin 2816) :
    val_main_v22 (F := Ideal) x0 x1 x3 (ix2 r j) = fUp (mat ix2 x0) (gain x1) (mat ix2 x3) r j := by
  have e : nrm (gain x1) (mat ix2 x0 r) = fun l => (show EReal from val_main_v19 (F := Ideal) x0 x1 (ix2 r l)) := funext fun l => (r19 x0 x1 r l).symm
  unfold fUp dot
  rw [e]
  unfold val_main_v22
  generalize val_main_v19 (F := Ideal) x0 x1 = w
  pointwise [val_main_v2, val_main_v3]

/-- The reference's sigmoids. -/
theorem r21s (r : Fin 4096) (j : Fin 2816) :
    val_main_v21_2 (F := Ideal) x0 x1 x2 (ix2 r j) = Ideal.logistic (fUp (mat ix2 x0) (gain x1) (mat ix2 x2) r j) := by
  rw [← r20]
  unfold val_main_v21_2 val_main_call0_v3 val_main_call0_v1 val_main_call0_v0
  generalize val_main_v20 (F := Ideal) x0 x1 x2 = w
  unfold Ideal.logistic
  pointwise [val_main_call0_cst, val_main_call0_v2, val_main_call0_cst_0, val_main_call0_v4, one_real, EReal.coe_one]

/-- The reference's gate products times their sigmoids. -/
theorem r21g (r : Fin 4096) (j : Fin 2816) :
    val_main_v21_0 (F := Ideal) x0 x1 x2 (ix2 r j)
      = fUp (mat ix2 x0) (gain x1) (mat ix2 x2) r j * Ideal.logistic (fUp (mat ix2 x0) (gain x1) (mat ix2 x2) r j) := by
  rw [← r21s, ← r20]
  unfold val_main_v21_0
  generalize val_main_v21_2 (F := Ideal) x0 x1 x2 = w
  generalize val_main_v20 (F := Ideal) x0 x1 x2 = w'
  pointwise []

/-- The reference's hidden activations. -/
theorem r23 (r : Fin 4096) (j : Fin 2816) :
    val_main_v23 (F := Ideal) x0 x1 x2 x3 (ix2 r j) = fHid (mat ix2 x0) (gain x1) (mat ix2 x2) (mat ix2 x3) r j := by
  unfold fHid act
  rw [← r21g, ← r22]
  unfold val_main_v23
  generalize val_main_v21_0 (F := Ideal) x0 x1 x2 = w
  generalize val_main_v22 (F := Ideal) x0 x1 x3 = w'
  pointwise []

/-- The reference's output. -/
theorem r27 (r : Fin 4096) (l : Fin 1024) :
    val_main_v27 (F := Ideal) x0 x1 x2 x3 x4 (ix2 r l) = fOut (mat ix2 x0) (gain x1) (mat ix2 x2) (mat ix2 x3) (mat ix2 x4) r l := by
  have e : fHid (mat ix2 x0) (gain x1) (mat ix2 x2) (mat ix2 x3) r = fun j => (show EReal from val_main_v23 (F := Ideal) x0 x1 x2 x3 (ix2 r j)) :=
    funext fun j => (r23 x0 x1 x2 x3 r j).symm
  unfold fOut out dot
  rw [e]
  unfold val_main_v27 val_main_v26 val_main_v24
  generalize val_main_v23 (F := Ideal) x0 x1 x2 x3 = w
  pointwise [val_main_v4, val_main_cst_3, val_main_v25]

/-- The output's cotangent, halved. -/
theorem r30 (r : Fin 4096) (l : Fin 1024) :
    val_main_v30 (F := Ideal) x5 (ix2 r l) = Ideal.ofBits FTy.f32 1056964608#32 * mat ix2 x5 r l := by
  unfold mat
  pointwise [val_main_v28, val_main_cst_4, val_main_v29, val_main_v30]

/-- The reference's cotangents of the hidden activations. -/
theorem r33 (r : Fin 4096) (j : Fin 2816) :
    val_main_v33 (F := Ideal) x4 x5 (ix2 r j) = pDhid (mat ix2 x5 r) (mat ix2 x4 j) := by
  have e : (fun l => Ideal.ofBits FTy.f32 1056964608#32 * mat ix2 x5 r l) = fun l => (show EReal from val_main_v30 (F := Ideal) x5 (ix2 r l)) :=
    funext fun l => (r30 x5 r l).symm
  unfold pDhid dot
  rw [e]
  unfold val_main_v33
  generalize val_main_v30 (F := Ideal) x5 = w
  pointwise [val_main_v4]

/-- The reference's cotangents of the value products. -/
theorem r34 (r : Fin 4096) (j : Fin 2816) :
    val_main_v34 (F := Ideal) x0 x1 x2 x4 x5 (ix2 r j) = gDb (mat ix2 x0) (gain x1) (mat ix2 x2) (mat ix2 x4) (mat ix2 x5) r j := by
  unfold gDb pDb
  rw [← r21g, ← r33]
  unfold val_main_v34
  generalize val_main_v21_0 (F := Ideal) x0 x1 x2 = w
  generalize val_main_v33 (F := Ideal) x4 x5 = w'
  pointwise []

/-- The reference's cotangents of the gate products. -/
theorem r39 (r : Fin 4096) (j : Fin 2816) :
    val_main_v39 (F := Ideal) x0 x1 x2 x3 x4 x5 (ix2 r j)
      = gDa (mat ix2 x0) (gain x1) (mat ix2 x2) (mat ix2 x3) (mat ix2 x4) (mat ix2 x5) r j := by
  unfold gDa pDa
  rw [← r21s, ← r20 x0 x1 x2, ← r22 x0 x1 x3, ← r33]
  unfold val_main_v39 val_main_call1_v2 val_main_call1_v1 val_main_call1_v0 val_main_v35 val_main_v21_1 val_main_call0_v7
  generalize val_main_v21_2 (F := Ideal) x0 x1 x2 = w
  generalize val_main_v20 (F := Ideal) x0 x1 x2 = w1
  generalize val_main_v22 (F := Ideal) x0 x1 x3 = w2
  generalize val_main_v33 (F := Ideal) x4 x5 = w3
  pointwise [val_main_call0_cst_1, val_main_call0_v6]

/-- The reference's gradient of the gate projection. -/
theorem r66 (j : Fin 2816) (l : Fin 1024) :
    val_main_v66 (F := Ideal) x0 x1 x2 x3 x4 x5 (ix2 j l)
      = gDwg (mat ix2 x0) (gain x1) (mat ix2 x2) (mat ix2 x3) (mat ix2 x4) (mat ix2 x5) j l := by
  have e : gDa (mat ix2 x0) (gain x1) (mat ix2 x2) (mat ix2 x3) (mat ix2 x4) (mat ix2 x5)
      = fun r j => (show EReal from val_main_v39 (F := Ideal) x0 x1 x2 x3 x4 x5 (ix2 r j)) := funext fun r => funext fun j => (r39 x0 x1 x2 x3 x4 x5 r j).symm
  have e' : (fun r => nrm (gain x1) (mat ix2 x0 r) l) = fun r => (show EReal from val_main_v19 (F := Ideal) x0 x1 (ix2 r l)) := funext fun r => (r19 x0 x1 r l).symm
  unfold gDwg dot
  rw [e, e']
  unfold val_main_v66 val_main_v65 val_main_v41 val_main_v40
  generalize val_main_v39 (F := Ideal) x0 x1 x2 x3 x4 x5 = w
  generalize val_main_v19 (F := Ideal) x0 x1 = w'
  pointwise []

/-- The reference's gradient of the value projection. -/
theorem r68 (j : Fin 2816) (l : Fin 1024) :
    val_main_v68 (F := Ideal) x0 x1 x2 x4 x5 (ix2 j l)
      = gDwu (mat ix2 x0) (gain x1) (mat ix2 x2) (mat ix2 x4) (mat ix2 x5) j l := by
  have e : gDb (mat ix2 x0) (gain x1) (mat ix2 x2) (mat ix2 x4) (mat ix2 x5)
      = fun r j => (show EReal from val_main_v34 (F := Ideal) x0 x1 x2 x4 x5 (ix2 r j)) := funext fun r => funext fun j => (r34 x0 x1 x2 x4 x5 r j).symm
  have e' : (fun r => nrm (gain x1) (mat ix2 x0 r) l) = fun r => (show EReal from val_main_v19 (F := Ideal) x0 x1 (ix2 r l)) := funext fun r => (r19 x0 x1 r l).symm
  unfold gDwu dot
  rw [e, e']
  unfold val_main_v68 val_main_v67 val_main_v37 val_main_v36
  generalize val_main_v34 (F := Ideal) x0 x1 x2 x4 x5 = w
  generalize val_main_v19 (F := Ideal) x0 x1 = w'
  pointwise []

/-- The reference's gradient of the down projection. -/
theorem r69 (j : Fin 2816) (l : Fin 1024) :
    val_main_v69 (F := Ideal) x0 x1 x2 x3 x5 (ix2 j l)
      = gDwd (mat ix2 x0) (gain x1) (mat ix2 x2) (mat ix2 x3) (mat ix2 x5) j l := by
  have e : (fun r => fHid (mat ix2 x0) (gain x1) (mat ix2 x2) (mat ix2 x3) r j)
      = fun r => (show EReal from val_main_v23 (F := Ideal) x0 x1 x2 x3 (ix2 r j)) := funext fun r => (r23 x0 x1 x2 x3 r j).symm
  have e' : (fun r => Ideal.ofBits FTy.f32 1056964608#32 * mat ix2 x5 r l) = fun r => (show EReal from val_main_v30 (F := Ideal) x5 (ix2 r l)) :=
    funext fun r => (r30 x5 r l).symm
  unfold gDwd dot
  rw [e, e']
  unfold val_main_v69 val_main_v32 val_main_v31
  generalize val_main_v23 (F := Ideal) x0 x1 x2 x3 = w
  generalize val_main_v30 (F := Ideal) x5 = w'
  pointwise []

/-- The reference's cotangents of the normalised rows. -/
theorem r43 (r : Fin 4096) (l : Fin 1024) :
    val_main_v43 (F := Ideal) x0 x1 x2 x3 x4 x5 (ix2 r l)
      = gDn (mat ix2 x0) (gain x1) (mat ix2 x2) (mat ix2 x3) (mat ix2 x4) (mat ix2 x5) r l := by
  have e : gDa (mat ix2 x0) (gain x1) (mat ix2 x2) (mat ix2 x3) (mat ix2 x4) (mat ix2 x5) r
      = fun j => (show EReal from val_main_v39 (F := Ideal) x0 x1 x2 x3 x4 x5 (ix2 r j)) := funext fun j => (r39 x0 x1 x2 x3 x4 x5 r j).symm
  have e' : gDb (mat ix2 x0) (gain x1) (mat ix2 x2) (mat ix2 x4) (mat ix2 x5) r
      = fun j => (show EReal from val_main_v34 (F := Ideal) x0 x1 x2 x4 x5 (ix2 r j)) := funext fun j => (r34 x0 x1 x2 x4 x5 r j).symm
  unfold gDn dot
  rw [e, e']
  unfold val_main_v43 val_main_v38 val_main_v42
  generalize val_main_v39 (F := Ideal) x0 x1 x2 x3 x4 x5 = w
  generalize val_main_v34 (F := Ideal) x0 x1 x2 x4 x5 = w'
  pointwise [val_main_v0, val_main_v1, val_main_v2, val_main_v3]

/-- The reference's gradient of the gains. -/
theorem r46 (l : Fin 1024) :
    val_main_v46 (F := Ideal) x0 x1 x2 x3 x4 x5 (ix2 0 l)
      = gDg (mat ix2 x0) (gain x1) (mat ix2 x2) (mat ix2 x3) (mat ix2 x4) (mat ix2 x5) l := by
  have e : gDn (mat ix2 x0) (gain x1) (mat ix2 x2) (mat ix2 x3) (mat ix2 x4) (mat ix2 x5)
      = fun r l => (show EReal from val_main_v43 (F := Ideal) x0 x1 x2 x3 x4 x5 (ix2 r l)) := funext fun r => funext fun l => (r43 x0 x1 x2 x3 x4 x5 r l).symm
  have e' : (fun r => nh (mat ix2 x0 r) l) = fun r => (show EReal from val_main_v17 (F := Ideal) x0 (ix2 r l)) := funext fun r => (r17 x0 r l).symm
  have e'' : gDg (mat ix2 x0) (gain x1) (mat ix2 x2) (mat ix2 x3) (mat ix2 x4) (mat ix2 x5) l
      = ∑ r, (fun r => nh (mat ix2 x0 r) l) r * gDn (mat ix2 x0) (gain x1) (mat ix2 x2) (mat ix2 x3) (mat ix2 x4) (mat ix2 x5) r l := rfl
  rw [e'', e, e']
  clear e e' e''
  unfold val_main_v46 val_main_v45 val_main_v44
  generalize val_main_v43 (F := Ideal) x0 x1 x2 x3 x4 x5 = w
  generalize val_main_v17 (F := Ideal) x0 = w'
  pointwise [val_main_cst_5]

/-- The reference's cotangent of the mean square's share, before it is spread over a row. -/
theorem r58 (r : Fin 4096) :
    val_main_v58 (F := Ideal) x0 x1 x2 x3 x4 x5 (ix1 r)
      = pQ (gain x1) (mat ix2 x0 r) (gDn (mat ix2 x0) (gain x1) (mat ix2 x2) (mat ix2 x3) (mat ix2 x4) (mat ix2 x5) r) := by
  have e : gDn (mat ix2 x0) (gain x1) (mat ix2 x2) (mat ix2 x3) (mat ix2 x4) (mat ix2 x5) r
      = fun l => (show EReal from val_main_v43 (F := Ideal) x0 x1 x2 x3 x4 x5 (ix2 r l)) := funext fun l => (r43 x0 x1 x2 x3 x4 x5 r l).symm
  unfold pQ
  rw [e, ← r12, ← r11]
  clear e
  unfold mat val_main_v58 val_main_v57 val_main_v55 val_main_v51 val_main_v50 val_main_v49 val_main_v48 val_main_v15 val_main_v13
  generalize val_main_v43 (F := Ideal) x0 x1 x2 x3 x4 x5 = w
  generalize val_main_v12 (F := Ideal) x0 = w1
  generalize val_main_v11 (F := Ideal) x0 = w2
  pointwise [val_main_cst_8, val_main_cst_7, val_main_v56, val_main_cst_6, val_main_v47, val_main_cst_2, val_main_v14]
  exact Fin.sum_univ_one _

/-- The reference's cotangent of the sublayer's input. -/
theorem r63 (r : Fin 4096) (l : Fin 1024) :
    val_main_v63 (F := Ideal) x0 x1 x2 x3 x4 x5 (ix2 r l)
      = gDin (mat ix2 x0) (gain x1) (mat ix2 x2) (mat ix2 x3) (mat ix2 x4) (mat ix2 x5) r l := by
  unfold gDin pDin
  rw [← r58, ← r43, ← r12]
  unfold val_main_v63 val_main_v62 val_main_v61 val_main_v60 val_main_v59 val_main_v54 val_main_v53 val_main_v52 val_main_v48
  generalize val_main_v58 (F := Ideal) x0 x1 x2 x3 x4 x5 = w3
  generalize val_main_v43 (F := Ideal) x0 x1 x2 x3 x4 x5 = w
  generalize val_main_v12 (F := Ideal) x0 = w1
  unfold mat
  pointwise [val_main_v47]

/-- The same cotangent in the narrower array. -/
theorem r64 (r : Fin 4096) (l : Fin 1024) :
    val_main_v64 (F := Ideal) x0 x1 x2 x3 x4 x5 (ix2 r l)
      = gDin (mat ix2 x0) (gain x1) (mat ix2 x2) (mat ix2 x3) (mat ix2 x4) (mat ix2 x5) r l := by
  rw [← r63]
  unfold val_main_v64
  generalize val_main_v63 (F := Ideal) x0 x1 x2 x3 x4 x5 = w
  pointwise []

end Cert.Reference2Ideal.Ffn
-- ==== Proof.FfnRefRun.lean ====
module

public import proofs.«01_k».proof.Proof.FfnRef
public import proofs.«01_k».proof.Proof.Gen.Reference2Ideal.Run

@[expose] public section

set_option maxRecDepth 16384

noncomputable section

namespace Cert.Reference2Ideal.Ffn

open Cert.Reference2Ideal Cert.Reference2Ideal.Read Cert.FfnSpec Idealize.ShloMosaic Idealize.ShloMosaic.TcCoe Idealize.SL.Sem

variable (m : (ℓ : Loc nD τ sig) → Buf (Elt Ideal) ℓ) (ρ : Dev nD → PrngReg)

/-- The reference's arguments on a device, as functions of row and column. -/
abbrev yh (c : Dev nD) : Fin 4096 → Fin 1024 → EReal := mat (s := S4096x1024) (t := .f32) ix2 (m ((c.tc : Thread nD τ).loc main_arg0))
@[inherit_doc yh] abbrev yg (c : Dev nD) : Fin 1024 → EReal := fun k => (m ((c.tc : Thread nD τ).loc main_arg1) : FVec Ideal S1x1024 .f32) (ix2 0 k)
@[inherit_doc yh] abbrev ywg (c : Dev nD) : Fin 2816 → Fin 1024 → EReal := mat (s := S2816x1024) (t := .bf16) ix2 (m ((c.tc : Thread nD τ).loc main_arg2))
@[inherit_doc yh] abbrev ywu (c : Dev nD) : Fin 2816 → Fin 1024 → EReal := mat (s := S2816x1024) (t := .bf16) ix2 (m ((c.tc : Thread nD τ).loc main_arg3))
@[inherit_doc yh] abbrev ywd (c : Dev nD) : Fin 2816 → Fin 1024 → EReal := mat (s := S2816x1024) (t := .bf16) ix2 (m ((c.tc : Thread nD τ).loc main_arg4))
@[inherit_doc yh] abbrev ydh (c : Dev nD) : Fin 4096 → Fin 1024 → EReal := mat (s := S4096x1024) (t := .f32) ix2 (m ((c.tc : Thread nD τ).loc main_arg5))

/-- What the reference leaves in one of its results, over the arguments' arrays. -/
theorem v27_end (c : Dev nD) : val_main_v27 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = fun i : S4096x1024.Idx => fOut (yh m c) (yg m c) (ywg m c) (ywu m c) (ywd m c) (i 0) (i 1) :=
  funext fun i => (congrArg _ (eq_ix2 i)).trans (r27 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1))

/-- What the reference leaves in one of its results, over the arguments' arrays. -/
theorem v63_end (c : Dev nD) : val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun i : S4096x1024.Idx => gDin (yh m c) (yg m c) (ywg m c) (ywu m c) (ywd m c) (ydh m c) (i 0) (i 1) :=
  funext fun i => (congrArg _ (eq_ix2 i)).trans (r63 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1))

/-- What the reference leaves in one of its results, over the arguments' arrays. -/
theorem v64_end (c : Dev nD) : val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun i : S4096x1024.Idx => gDin (yh m c) (yg m c) (ywg m c) (ywu m c) (ywd m c) (ydh m c) (i 0) (i 1) :=
  funext fun i => (congrArg _ (eq_ix2 i)).trans (r64 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1))

/-- What the reference leaves in one of its results, over the arguments' arrays. -/
theorem v46_end (c : Dev nD) : val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun i : S1x1024.Idx => gDg (yh m c) (yg m c) (ywg m c) (ywu m c) (ywd m c) (ydh m c) (i 1) :=
  by
  funext i
  rw [show i = ix2 (0 : Fin 1) (i 1) from (eq_ix2 i).trans (congrArg (fun z => ix2 z (i 1)) (Subsingleton.elim _ _))]
  exact r46 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 1)

/-- What the reference leaves in one of its results, over the arguments' arrays. -/
theorem v66_end (c : Dev nD) : val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun i : S2816x1024.Idx => gDwg (yh m c) (yg m c) (ywg m c) (ywu m c) (ywd m c) (ydh m c) (i 0) (i 1) :=
  funext fun i => (congrArg _ (eq_ix2 i)).trans (r66 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1))

/-- What the reference leaves in one of its results, over the arguments' arrays. -/
theorem v68_end (c : Dev nD) : val_main_v68 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) = fun i : S2816x1024.Idx => gDwu (yh m c) (yg m c) (ywg m c) (ywd m c) (ydh m c) (i 0) (i 1) :=
  funext fun i => (congrArg _ (eq_ix2 i)).trans (r68 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (i 0) (i 1))

/-- What the reference leaves in one of its results, over the arguments' arrays. -/
theorem v69_end (c : Dev nD) : val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) = fun i : S2816x1024.Idx => gDwd (yh m c) (yg m c) (ywg m c) (ywu m c) (ydh m c) (i 0) (i 1) :=
  funext fun i => (congrArg _ (eq_ix2 i)).trans (r69 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (i 0) (i 1))

set_option maxHeartbeats 1000000 in
/-- The reference's run, each result at its formula of the arguments. -/
theorem run : θ_run defs (onTc (τ := τ) (main (F := Ideal))) ⟨m, fun _ => 0, ρ⟩ fun r => ∀ c : Dev nD,
      r.2.mem ((c.tc : Thread nD τ).loc main_v27) = (fun i : S4096x1024.Idx => fOut (yh m c) (yg m c) (ywg m c) (ywu m c) (ywd m c) (i 0) (i 1)) ∧
      r.2.mem ((c.tc : Thread nD τ).loc main_v63) = (fun i : S4096x1024.Idx => gDin (yh m c) (yg m c) (ywg m c) (ywu m c) (ywd m c) (ydh m c) (i 0) (i 1)) ∧
      r.2.mem ((c.tc : Thread nD τ).loc main_v64) = (fun i : S4096x1024.Idx => gDin (yh m c) (yg m c) (ywg m c) (ywu m c) (ywd m c) (ydh m c) (i 0) (i 1)) ∧
      r.2.mem ((c.tc : Thread nD τ).loc main_v46) = (fun i : S1x1024.Idx => gDg (yh m c) (yg m c) (ywg m c) (ywu m c) (ywd m c) (ydh m c) (i 1)) ∧
      r.2.mem ((c.tc : Thread nD τ).loc main_v66) = (fun i : S2816x1024.Idx => gDwg (yh m c) (yg m c) (ywg m c) (ywu m c) (ywd m c) (ydh m c) (i 0) (i 1)) ∧
      r.2.mem ((c.tc : Thread nD τ).loc main_v68) = (fun i : S2816x1024.Idx => gDwu (yh m c) (yg m c) (ywg m c) (ywd m c) (ydh m c) (i 0) (i 1)) ∧
      r.2.mem ((c.tc : Thread nD τ).loc main_v69) = (fun i : S2816x1024.Idx => gDwd (yh m c) (yg m c) (ywg m c) (ywu m c) (ydh m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Cert.Reference2Ideal.Value.run (F := Ideal) m ρ)
  obtain ⟨hv27, hv63, hv64, hv46, hv66, hv68, hv69, hargs⟩ := h c
  exact ⟨hv27.trans ((val_main_v27_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))).trans (v27_end m c)),
    hv63.trans ((val_main_v63_eq (F := Ideal) m c).trans (v63_end m c)),
    hv64.trans ((val_main_v64_eq (F := Ideal) m c).trans (v64_end m c)),
    hv46.trans ((val_main_v46_eq (F := Ideal) m c).trans (v46_end m c)),
    hv66.trans ((val_main_v66_eq (F := Ideal) m c).trans (v66_end m c)),
    hv68.trans ((val_main_v68_eq (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))).trans (v68_end m c)),
    hv69.trans ((val_main_v69_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))).trans (v69_end m c)), hargs⟩

end Cert.Reference2Ideal.Ffn
-- ==== Proof.FfnClaim.lean ====
module

public import proofs.«01_k».proof.Defs
public import proofs.«01_k».proof.Proof.FfnRun
public import proofs.«01_k».proof.Proof.FfnRefRun
public import proofs.«01_k».proof.Proof.Finite
public import proofs.«01_k».proof.Proof.Gen.Pre_finite2

@[expose] public section

set_option maxRecDepth 16384

noncomputable section

namespace Cert.Ffn

open Cert.FfnSpec Idealize.ShloMosaic Idealize.ShloMosaic.TcCoe Idealize.SL.Sem

/-- The precondition gives reals on every device. -/
theorem reals {m : (ℓ : Loc Cert.Kernel2Ideal.nD Cert.Kernel2Ideal.τ Cert.Kernel2Ideal.sig) → Buf (Elt Ideal) ℓ}
    (hpre : Cert.Pre_Kernel2Ideal_finite2 m) (c : Dev Cert.Kernel2Ideal.nD) :
    Reals (Cert.Kernel2Ideal.Ffn.xh m c) (Cert.Kernel2Ideal.Ffn.xg m c) (Cert.Kernel2Ideal.Ffn.xwg m c) (Cert.Kernel2Ideal.Ffn.xwu m c)
      (Cert.Kernel2Ideal.Ffn.xwd m c) (Cert.Kernel2Ideal.Ffn.xdh m c) := by
  obtain ⟨h0, h1, h2, h3, h4, h5⟩ := hpre c
  exact ⟨fun r l => Cert.Finite.real_of_lt _ _ (fun _ => Cert.Finite.posInf) h0 (ix2 r l),
    fun l => Cert.Finite.real_of_lt _ _ (fun _ => Cert.Finite.posInf) h1 (ix2 0 l),
    fun j l => Cert.Finite.real_of_lt _ _ (fun _ => Cert.Finite.posInf) h2 (ix2 j l),
    fun j l => Cert.Finite.real_of_lt _ _ (fun _ => Cert.Finite.posInf) h3 (ix2 j l),
    fun j l => Cert.Finite.real_of_lt _ _ (fun _ => Cert.Finite.posInf) h4 (ix2 j l),
    fun r l => Cert.Finite.real_of_lt _ _ (fun _ => Cert.Finite.posInf) h5 (ix2 r l)⟩

set_option maxHeartbeats 1000000 in
/-- The kernel's seven results are the reference's. -/
theorem algebraic : Cert.algebraic_Kernel2Ideal_Reference2Ideal_pre_finite2 := by
  intro m g m' g' hpre hagree
  refine ⟨fun c => (fun i : Cert.Kernel2Ideal.S4096x1024.Idx => fOut (Cert.Kernel2Ideal.Ffn.xh m c) (Cert.Kernel2Ideal.Ffn.xg m c) (Cert.Kernel2Ideal.Ffn.xwg m c) (Cert.Kernel2Ideal.Ffn.xwu m c) (Cert.Kernel2Ideal.Ffn.xwd m c) (i 0) (i 1)),
    fun c => (fun i : Cert.Kernel2Ideal.S4096x1024.Idx => fDin (Cert.Kernel2Ideal.Ffn.xh m c) (Cert.Kernel2Ideal.Ffn.xg m c) (Cert.Kernel2Ideal.Ffn.xwg m c) (Cert.Kernel2Ideal.Ffn.xwu m c) (Cert.Kernel2Ideal.Ffn.xwd m c) (Cert.Kernel2Ideal.Ffn.xdh m c) (i 0) (i 1)),
    fun c => (fun i : Cert.Kernel2Ideal.S4096x1024.Idx => fDin (Cert.Kernel2Ideal.Ffn.xh m c) (Cert.Kernel2Ideal.Ffn.xg m c) (Cert.Kernel2Ideal.Ffn.xwg m c) (Cert.Kernel2Ideal.Ffn.xwu m c) (Cert.Kernel2Ideal.Ffn.xwd m c) (Cert.Kernel2Ideal.Ffn.xdh m c) (i 0) (i 1)),
    fun c => (fun i : Cert.Kernel2Ideal.S1x1024.Idx => fDg (Cert.Kernel2Ideal.Ffn.xh m c) (Cert.Kernel2Ideal.Ffn.xg m c) (Cert.Kernel2Ideal.Ffn.xwg m c) (Cert.Kernel2Ideal.Ffn.xwu m c) (Cert.Kernel2Ideal.Ffn.xwd m c) (Cert.Kernel2Ideal.Ffn.xdh m c) (i 1)),
    fun c => (fun i : Cert.Kernel2Ideal.S2816x1024.Idx => fDwg (Cert.Kernel2Ideal.Ffn.xh m c) (Cert.Kernel2Ideal.Ffn.xg m c) (Cert.Kernel2Ideal.Ffn.xwg m c) (Cert.Kernel2Ideal.Ffn.xwu m c) (Cert.Kernel2Ideal.Ffn.xwd m c) (Cert.Kernel2Ideal.Ffn.xdh m c) (i 0) (i 1)),
    fun c => (fun i : Cert.Kernel2Ideal.S2816x1024.Idx => fDwu (Cert.Kernel2Ideal.Ffn.xh m c) (Cert.Kernel2Ideal.Ffn.xg m c) (Cert.Kernel2Ideal.Ffn.xwg m c) (Cert.Kernel2Ideal.Ffn.xwd m c) (Cert.Kernel2Ideal.Ffn.xdh m c) (i 0) (i 1)),
    fun c => (fun i : Cert.Kernel2Ideal.S2816x1024.Idx => fDwd (Cert.Kernel2Ideal.Ffn.xh m c) (Cert.Kernel2Ideal.Ffn.xg m c) (Cert.Kernel2Ideal.Ffn.xwg m c) (Cert.Kernel2Ideal.Ffn.xwu m c) (Cert.Kernel2Ideal.Ffn.xdh m c) (i 0) (i 1)),
    (θ_run _ _ _).mono (fun r h => h.1) (Cert.Kernel2Ideal.Ffn.run m g), (θ_run _ _ _).mono (fun r h c => ?_) (Cert.Reference2Ideal.Ffn.run m' g')⟩
  have e0 : Cert.Reference2Ideal.Ffn.yh m' c = Cert.Kernel2Ideal.Ffn.xh m c := congrArg (mat (s := Cert.Kernel2Ideal.S4096x1024) (t := .f32) ix2) (hagree c).1
  have e1 : Cert.Reference2Ideal.Ffn.yg m' c = Cert.Kernel2Ideal.Ffn.xg m c := congrArg (fun (v : FVec Ideal Cert.Kernel2Ideal.S1x1024 .f32) (k : Fin 1024) => (v (ix2 0 k) : EReal)) (hagree c).2.1
  have e2 : Cert.Reference2Ideal.Ffn.ywg m' c = Cert.Kernel2Ideal.Ffn.xwg m c := congrArg (mat (s := Cert.Kernel2Ideal.S2816x1024) (t := .bf16) ix2) (hagree c).2.2.1
  have e3 : Cert.Reference2Ideal.Ffn.ywu m' c = Cert.Kernel2Ideal.Ffn.xwu m c := congrArg (mat (s := Cert.Kernel2Ideal.S2816x1024) (t := .bf16) ix2) (hagree c).2.2.2.1
  have e4 : Cert.Reference2Ideal.Ffn.ywd m' c = Cert.Kernel2Ideal.Ffn.xwd m c := congrArg (mat (s := Cert.Kernel2Ideal.S2816x1024) (t := .bf16) ix2) (hagree c).2.2.2.2.1
  have e5 : Cert.Reference2Ideal.Ffn.ydh m' c = Cert.Kernel2Ideal.Ffn.xdh m c := congrArg (mat (s := Cert.Kernel2Ideal.S4096x1024) (t := .f32) ix2) (hagree c).2.2.2.2.2
  have h' := h c
  rw [e0, e1, e2, e3, e4, e5] at h'
  obtain ⟨h0, h1, h2, h3, h4, h5, h6, hargs⟩ := h'
  exact ⟨h0, h1.trans (funext fun i => (fDin_eq (reals hpre c) (i 0) (i 1)).symm), h2.trans (funext fun i => (fDin_eq (reals hpre c) (i 0) (i 1)).symm), h3.trans (funext fun i => (fDg_eq (reals hpre c) (i 1)).symm), h4.trans (funext fun i => (fDwg_eq (reals hpre c) (i 0) (i 1)).symm), h5.trans (funext fun i => (fDwu_eq (reals hpre c) (i 0) (i 1)).symm), h6.trans (funext fun i => (fDwd_eq (reals hpre c) (i 0) (i 1)).symm), hargs⟩

end Cert.Ffn
-- ==== Proof.MixSpec.lean ====
module

public import proofs.«01_k».proof.Proof.FfnSpec

@[expose] public section

noncomputable section

namespace Cert.MixSpec

open Idealize.ShloMosaic Cert.FfnSpec

/-- The place of the pooled mixer's gate in a projected row. -/
def gpAt (l : Fin 1024) : Fin 2816 := ⟨768 + l.val, by omega⟩

/-- The place of the state mixer's gate in a projected row. -/
def gsAt (l : Fin 1024) : Fin 2816 := ⟨1792 + l.val, by omega⟩

/-- The hyperbolic tangent inside the activation. -/
def th (y : EReal) : EReal := Ideal.tanh (Ideal.ofBits FTy.f32 1061962282#32 * (y + Ideal.ofBits FTy.f32 1027024659#32 * (y * (y * y))))

/-- The activation of the state mixer's output. -/
def gelu (y : EReal) : EReal := y * (Ideal.ofBits FTy.f32 1056964608#32 * (Ideal.ofBits FTy.f32 1065353216#32 + th y))

/-- The part of the activation's cotangent that comes through the tangent's argument. -/
def through (y d : EReal) : EReal :=
  Ideal.ofBits FTy.f32 1061962282#32 * (Ideal.ofBits FTy.f32 1056964608#32 * (y * d)
    * ((Ideal.ofBits FTy.f32 1065353216#32 + th y) * (Ideal.ofBits FTy.f32 1065353216#32 - th y)))

/-- The activation's cotangent. -/
def dgelu (y d : EReal) : EReal :=
  d * (Ideal.ofBits FTy.f32 1056964608#32 * (Ideal.ofBits FTy.f32 1065353216#32 + th y)) + through y d
    + Ideal.ofBits FTy.f32 1027024659#32 * through y d * (Ideal.ofBits FTy.f32 1077936128#32 * (y * y))

/-- One entry of the merge: the pooled mixer's and the state mixer's, each through its gate. -/
def merge (p s z v g : EReal) : EReal := Ideal.logistic p * z + Ideal.logistic s * (v * Ideal.logistic g)

/-- The pooled product's cotangent. -/
def dz (d p : EReal) : EReal := d * Ideal.logistic p

/-- The pooled mixer's gate's cotangent. -/
def dp (d p z : EReal) : EReal := d * z * (Ideal.logistic p * (Ideal.ofBits FTy.f32 1065353216#32 - Ideal.logistic p))

/-- The state mixer's gate's cotangent. -/
def ds (d s v g : EReal) : EReal :=
  d * (v * Ideal.logistic g) * (Ideal.logistic s * (Ideal.ofBits FTy.f32 1065353216#32 - Ideal.logistic s))

/-- The value product's cotangent. -/
def dv (d s g : EReal) : EReal := d * Ideal.logistic s * Ideal.logistic g

/-- The inner gate product's cotangent. -/
def dg (d s v g : EReal) : EReal :=
  d * Ideal.logistic s * (v * Ideal.logistic g) * (Ideal.ofBits FTy.f32 1065353216#32 - Ideal.logistic g)

variable (h : Fin 4096 → Fin 1024 → EReal) (q : Fin 4096 → Fin 2816 → EReal) (pm : Fin 4096 → Fin 512 → EReal)
  (y : Fin 4096 → Fin 256 → EReal) (wp : Fin 1024 → Fin 512 → EReal) (wv wg : Fin 1024 → Fin 256 → EReal)

/-- The activated output of the state mixer. -/
def fY (r : Fin 4096) (k : Fin 256) : EReal := gelu (y r k)

/-- The pooled mixer's product. -/
def fP (r : Fin 4096) (j : Fin 1024) : EReal := dot (pm r) (wp j)

/-- The state mixer's product with a projection: the value's or the gate's. -/
def fS (w : Fin 1024 → Fin 256 → EReal) (r : Fin 4096) (j : Fin 1024) : EReal := dot (fY y r) (w j)

/-- The merged rows. -/
def fM (r : Fin 4096) (j : Fin 1024) : EReal := merge (q r (gpAt j)) (q r (gsAt j)) (fP pm wp r j) (fS y wv r j) (fS y wg r j)

/-- The sublayer's output. -/
def fH (wo : Fin 1024 → Fin 1024 → EReal) (r : Fin 4096) (l : Fin 1024) : EReal := h r l + dot (fM q pm y wp wv wg r) fun k => wo k l

/-- The merged rows' cotangent. -/
def fD (wo : Fin 1024 → Fin 1024 → EReal) (dh : Fin 4096 → Fin 1024 → EReal) (r : Fin 4096) (j : Fin 1024) : EReal := dot (dh r) (wo j)

variable (wo : Fin 1024 → Fin 1024 → EReal) (dh : Fin 4096 → Fin 1024 → EReal)

/-- The pooled products' cotangent. -/
def fDz (r : Fin 4096) (j : Fin 1024) : EReal := dz (fD wo dh r j) (q r (gpAt j))

/-- The pooled mixer's gates' cotangent. -/
def fDp (r : Fin 4096) (j : Fin 1024) : EReal := dp (fD wo dh r j) (q r (gpAt j)) (fP pm wp r j)

/-- The state mixer's gates' cotangent. -/
def fDs (r : Fin 4096) (j : Fin 1024) : EReal := ds (fD wo dh r j) (q r (gsAt j)) (fS y wv r j) (fS y wg r j)

/-- The value products' cotangent. -/
def fDv (r : Fin 4096) (j : Fin 1024) : EReal := dv (fD wo dh r j) (q r (gsAt j)) (fS y wg r j)

/-- The inner gate products' cotangent. -/
def fDg (r : Fin 4096) (j : Fin 1024) : EReal := dg (fD wo dh r j) (q r (gsAt j)) (fS y wv r j) (fS y wg r j)

/-- The output projection's gradient. -/
def fDwo (j l : Fin 1024) : EReal := dot (fun r => fM q pm y wp wv wg r j) fun r => dh r l

/-- The pooled projection's gradient. -/
def fDwp (j : Fin 1024) (k : Fin 512) : EReal := dot (fun r => fDz q wo dh r j) fun r => pm r k

/-- The value projection's gradient. -/
def fDwv (j : Fin 1024) (k : Fin 256) : EReal := dot (fun r => fDv q y wg wo dh r j) fun r => fY y r k

/-- The inner gate projection's gradient. -/
def fDwg (j : Fin 1024) (k : Fin 256) : EReal := dot (fun r => fDg q y wv wg wo dh r j) fun r => fY y r k

/-- The state mixer's output's cotangent. -/
def fDy (r : Fin 4096) (k : Fin 256) : EReal :=
  dgelu (y r k) (dot (fDv q y wg wo dh r) (fun j => wv j k) + dot (fDg q y wv wg wo dh r) fun j => wg j k)

/-- The pooled mixer's output's cotangent. -/
def fDpm (r : Fin 4096) (k : Fin 512) : EReal := dot (fDz q wo dh r) fun j => wp j k

end Cert.MixSpec
-- ==== Proof.MixUp.lean ====
module

public import proofs.«01_k».proof.Proof.Gen.Kernel3Ideal.Skeleton
public import proofs.«01_k».proof.Proof.Gen.Kernel3Ideal.Frame.Region0
public import Idealize.ShloMosaic.Lib.Pipeline.ValueKit
public import Idealize.ShloMosaic.Lib.Pipeline.ReadBack
public import proofs.«01_k».proof.Proof.MixSpec

@[expose] public section

set_option maxRecDepth 16384

noncomputable section

namespace Cert.Kernel3Ideal.Mix

open Cert.Kernel3Ideal Cert.Kernel3Ideal.Gen Cert.FfnSpec Cert.MixSpec Idealize.ShloMosaic Idealize.ShloMosaic.TcCoe Idealize.SL.Sem

variable (V : (c : Dev nD) → (b : Ref sig .tc) → Buf (Elt Ideal) ((c : Thread nD τ).loc b))

/-- Where each grid point's blocks lie. -/
theorem idx0 : ∀ t : Fin cfg0.N, win0_0.index t = ![t.val / 4, 0] ∧ win0_1.index t = ![t.val / 4, 0] ∧ win0_2.index t = ![t.val % 4, 0] ∧ win0_3.index t = ![t.val % 4, 0] ∧ win0_4.index t = ![t.val % 4, 0] ∧ win0_5.index t = ![t.val / 4, t.val % 4 + 3] ∧ win0_6.index t = ![t.val / 4, t.val % 4 + 7] ∧ win0_7.index t = ![t.val / 4, t.val % 4] :=
  (by decide +kernel : ∀ t : Fin grid0.N, _)

set_option maxHeartbeats 4000000 in
/-- The merged rows. In a block, of the blocks it is made from. -/
theorem blk0_7 (x0 : FVec Ideal S2048x512 .bf16) (x1 : FVec Ideal S2048x256 .bf16) (x2 : FVec Ideal S256x512 .bf16) (x3 : FVec Ideal S256x256 .bf16) (x4 : FVec Ideal S256x256 .bf16) (x5 : FVec Ideal S2048x256 .f32) (x6 : FVec Ideal S2048x256 .f32) :
    out0_7 (F := Ideal) x0 x1 x2 x3 x4 x5 x6 = fun j : S2048x256.Idx => merge (x5 j) (x6 j) (dot (mat ix2 x0 (j 0)) (mat ix2 x2 (j 1))) (dot (mat ix2 x1 (j 0)) (mat ix2 x3 (j 1))) (dot (mat ix2 x1 (j 0)) (mat ix2 x4 (j 1))) := by
  funext y
  unfold out0_7
  canon_tiles x hx
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, merge, dot, mat]
  all_goals blk_point

set_option maxHeartbeats 1000000 in
/-- The merged rows. -/
theorem fin0_7 (c : Dev nD) : (dat0 V c).arrAt 7 cfg0.N
    = fun i : S4096x1024.Idx => merge (mat (s := S4096x2816) (t := .f32) ix2 (V c main_arg1) (i 0) (gpAt (i 1))) (mat (s := S4096x2816) (t := .f32) ix2 (V c main_arg1) (i 0) (gsAt (i 1))) (dot (mat (s := S4096x512) (t := .bf16) ix2 (V c main_arg2) (i 0)) (mat (s := S1024x512) (t := .bf16) ix2 (V c main_arg4) (i 1))) (dot (mat (s := S4096x256) (t := .bf16) ix2 (V c main_v13) (i 0)) (mat (s := S1024x256) (t := .bf16) ix2 (V c main_arg5) (i 1))) (dot (mat (s := S4096x256) (t := .bf16) ix2 (V c main_v13) (i 0)) (mat (s := S1024x256) (t := .bf16) ix2 (V c main_arg6) (i 1))) := by
  refine (dat0 V c).arrAt_eq_of_covers 7 _ (by decide +kernel) fun t hf y => ?_
  blk_simp
  rw [after0_7, blk0_7]
  unfold merge gpAt gsAt dot mat
  beta_reduce
  blk_point [iblk0, idx0 t]

end Cert.Kernel3Ideal.Mix
-- ==== Proof.MixOut.lean ====
module

public import proofs.«01_k».proof.Proof.Gen.Kernel3Ideal.Skeleton
public import proofs.«01_k».proof.Proof.Gen.Kernel3Ideal.Frame.Region1
public import Idealize.ShloMosaic.Lib.Pipeline.ValueKit
public import Idealize.ShloMosaic.Lib.Pipeline.ReadBack
public import proofs.«01_k».proof.Proof.MixSpec

@[expose] public section

set_option maxRecDepth 16384

noncomputable section

namespace Cert.Kernel3Ideal.Mix

open Cert.Kernel3Ideal Cert.Kernel3Ideal.Gen Cert.FfnSpec Cert.MixSpec Idealize.ShloMosaic Idealize.ShloMosaic.TcCoe Idealize.SL.Sem

variable (V : (c : Dev nD) → (b : Ref sig .tc) → Buf (Elt Ideal) ((c : Thread nD τ).loc b))

/-- Where each grid point's blocks lie. -/
theorem idx1 : ∀ t : Fin cfg1.N, win1_0.index t = ![t.val / 2, 0] ∧ win1_1.index t = ![0, t.val % 2] ∧ win1_2.index t = ![t.val / 2, t.val % 2] ∧ win1_3.index t = ![t.val / 2, t.val % 2] :=
  (by decide +kernel : ∀ t : Fin grid1.N, _)

set_option maxHeartbeats 4000000 in
/-- The sublayer's output. In a block, of the blocks it is made from. -/
theorem blk1_3 (x0 : FVec Ideal S2048x1024 .bf16) (x1 : FVec Ideal S1024x512 .bf16) (x2 : FVec Ideal S2048x512 .f32) :
    out1_3 (F := Ideal) x0 x1 x2 = fun j : S2048x512.Idx => x2 j + (dot (mat ix2 x0 (j 0)) (fun k : Fin 1024 => mat ix2 x1 k (j 1))) := by
  funext y
  unfold out1_3
  canon_tiles x hx
  all_goals pointwise [k1_pay1, k1_pay2, k1_pay3, k1_pay4, k1_pay5, k1_pay6, k1_pay7, k1_pay8, dot, mat]
  all_goals blk_point

set_option maxHeartbeats 1000000 in
/-- The sublayer's output. -/
theorem fin1_3 (c : Dev nD) : (dat1 V c).arrAt 3 cfg1.N
    = fun i : S4096x1024.Idx => mat (s := S4096x1024) (t := .f32) ix2 (V c main_arg0) (i 0) (i 1) + dot (mat (s := S4096x1024) (t := .bf16) ix2 (V c main_v15) (i 0)) (fun k : Fin 1024 => mat (s := S1024x1024) (t := .bf16) ix2 (V c main_arg7) k (i 1)) := by
  refine (dat1 V c).arrAt_eq_of_covers 3 _ (by decide +kernel) fun t hf y => ?_
  blk_simp
  rw [after1_3, blk1_3]
  unfold  dot mat
  beta_reduce
  blk_point [iblk1, idx1 t]

end Cert.Kernel3Ideal.Mix
-- ==== Proof.MixDwo.lean ====
module

public import proofs.«01_k».proof.Proof.Gen.Kernel3Ideal.Skeleton
public import proofs.«01_k».proof.Proof.Gen.Kernel3Ideal.Frame.Region2
public import Idealize.ShloMosaic.Lib.Pipeline.ValueKit
public import Idealize.ShloMosaic.Lib.Pipeline.ReadBack
public import proofs.«01_k».proof.Proof.MixSpec

@[expose] public section

set_option maxRecDepth 16384

noncomputable section

namespace Cert.Kernel3Ideal.Mix

open Cert.Kernel3Ideal Cert.Kernel3Ideal.Gen Cert.FfnSpec Cert.MixSpec Idealize.ShloMosaic Idealize.ShloMosaic.TcCoe Idealize.SL.Sem

variable (V : (c : Dev nD) → (b : Ref sig .tc) → Buf (Elt Ideal) ((c : Thread nD τ).loc b))

/-- Where each grid point's blocks lie. -/
theorem idx2 : ∀ t : Fin cfg2.N, win2_0.index t = ![0, t.val / 2] ∧ win2_1.index t = ![0, t.val % 2] ∧ win2_2.index t = ![t.val / 2, t.val % 2] :=
  (by decide +kernel : ∀ t : Fin grid2.N, _)

set_option maxHeartbeats 1000000 in
/-- The output projection's gradient. -/
theorem fin2_2 (c : Dev nD) : (dat2 V c).arrAt 2 cfg2.N
    = fun i : S1024x1024.Idx => dot (fun r : Fin 4096 => mat (s := S4096x1024) (t := .bf16) ix2 (V c main_v15) r (i 0)) (fun r : Fin 4096 => mat (s := S4096x1024) (t := .bf16) ix2 (V c main_v14) r (i 1)) := by
  refine (dat2 V c).arrAt_eq_of_covers 2 _ (by decide +kernel) fun t hf y => ?_
  blk_simp
  rw [after2_2]
  unfold out2_2
  canon_tiles x hx
  all_goals pointwise [k2_pay1, dot, mat]
  all_goals blk_point [iblk2, idx2 t]

end Cert.Kernel3Ideal.Mix
-- ==== Proof.MixIdx.lean ====
module

public import proofs.«01_k».proof.Proof.Gen.Kernel3Ideal.Skeleton
public import proofs.«01_k».proof.Proof.Gen.Kernel3Ideal.Frame.Region3
public import Idealize.ShloMosaic.Lib.Pipeline.ValueKit
public import Idealize.ShloMosaic.Lib.Pipeline.ReadBack
public import proofs.«01_k».proof.Proof.MixSpec

@[expose] public section

set_option maxRecDepth 16384

noncomputable section

namespace Cert.Kernel3Ideal.Mix

open Cert.Kernel3Ideal Cert.Kernel3Ideal.Gen Cert.FfnSpec Cert.MixSpec Idealize.ShloMosaic Idealize.ShloMosaic.TcCoe Idealize.SL.Sem

variable (V : (c : Dev nD) → (b : Ref sig .tc) → Buf (Elt Ideal) ((c : Thread nD τ).loc b))

/-- Where each grid point's blocks lie. -/
theorem idx3 : ∀ t : Fin cfg3.N, win3_0.index t = ![t.val / 4, 0] ∧ win3_1.index t = ![t.val / 4, 0] ∧ win3_2.index t = ![t.val / 4, 0] ∧ win3_3.index t = ![t.val % 4, 0] ∧ win3_4.index t = ![t.val % 4, 0] ∧ win3_5.index t = ![t.val % 4, 0] ∧ win3_6.index t = ![t.val % 4, 0] ∧ win3_7.index t = ![t.val / 4, t.val % 4 + 3] ∧ win3_8.index t = ![t.val / 4, t.val % 4 + 7] ∧ win3_9.index t = ![t.val / 4, t.val % 4] ∧ win3_10.index t = ![t.val / 4, t.val % 4] ∧ win3_11.index t = ![t.val / 4, t.val % 4] ∧ win3_12.index t = ![t.val / 4, t.val % 4] ∧ win3_13.index t = ![t.val / 4, t.val % 4] :=
  (by decide +kernel : ∀ t : Fin grid3.N, _)

end Cert.Kernel3Ideal.Mix
-- ==== Proof.MixBackA.lean ====
module

public import proofs.«01_k».proof.Proof.Gen.Kernel3Ideal.Skeleton
public import proofs.«01_k».proof.Proof.Gen.Kernel3Ideal.Frame.Region3
public import Idealize.ShloMosaic.Lib.Pipeline.ValueKit
public import Idealize.ShloMosaic.Lib.Pipeline.ReadBack
public import proofs.«01_k».proof.Proof.MixIdx

@[expose] public section

set_option maxRecDepth 16384

noncomputable section

namespace Cert.Kernel3Ideal.Mix

open Cert.Kernel3Ideal Cert.Kernel3Ideal.Gen Cert.FfnSpec Cert.MixSpec Idealize.ShloMosaic Idealize.ShloMosaic.TcCoe Idealize.SL.Sem

variable (V : (c : Dev nD) → (b : Ref sig .tc) → Buf (Elt Ideal) ((c : Thread nD τ).loc b))

set_option maxHeartbeats 4000000 in
/-- The pooled products' cotangent. In a block, of the blocks it is made from. -/
theorem blk3_9 (x0 : FVec Ideal S2048x1024 .bf16) (x1 : FVec Ideal S2048x512 .bf16) (x2 : FVec Ideal S2048x256 .bf16) (x3 : FVec Ideal S256x1024 .bf16) (x4 : FVec Ideal S256x512 .bf16) (x5 : FVec Ideal S256x256 .bf16) (x6 : FVec Ideal S256x256 .bf16) (x7 : FVec Ideal S2048x256 .f32) (x8 : FVec Ideal S2048x256 .f32) :
    out3_9 (F := Ideal) x0 x1 x2 x3 x4 x5 x6 x7 x8 = fun j : S2048x256.Idx => dz (dot (mat ix2 x0 (j 0)) (mat ix2 x3 (j 1))) (x7 j) := by
  funext y
  unfold out3_9
  canon_tiles x hx
  all_goals pointwise [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, k3_pay67, k3_pay68, k3_pay69, k3_pay70, k3_pay71, k3_pay72, k3_pay73, k3_pay74, k3_pay75, k3_pay76, k3_pay77, k3_pay78, k3_pay79, k3_pay80, k3_pay81, k3_pay82, k3_pay83, k3_pay84, k3_pay85, k3_pay86, k3_pay87, k3_pay88, k3_pay89, k3_pay90, k3_pay91, k3_pay92, k3_pay93, k3_pay94, k3_pay95, k3_pay96, k3_pay97, k3_pay98, k3_pay99, k3_pay100, k3_pay101, k3_pay102, k3_pay103, k3_pay104, k3_pay105, k3_pay106, k3_pay107, k3_pay108, k3_pay109, k3_pay110, k3_pay111, k3_pay112, k3_pay113, k3_pay114, k3_pay115, k3_pay116, k3_pay117, k3_pay118, k3_pay119, k3_pay120, k3_pay121, k3_pay122, k3_pay123, k3_pay124, k3_pay125, k3_pay126, k3_pay127, k3_pay128, k3_pay129, k3_pay130, k3_pay131, k3_pay132, k3_pay133, k3_pay134, k3_pay135, dz, dot, mat]
  all_goals blk_point

set_option maxHeartbeats 1000000 in
/-- The pooled products' cotangent. -/
theorem fin3_9 (c : Dev nD) : (dat3 V c).arrAt 9 cfg3.N
    = fun i : S4096x1024.Idx => dz (dot (mat (s := S4096x1024) (t := .bf16) ix2 (V c main_v14) (i 0)) (mat (s := S1024x1024) (t := .bf16) ix2 (V c main_arg7) (i 1))) (mat (s := S4096x2816) (t := .f32) ix2 (V c main_arg1) (i 0) (gpAt (i 1))) := by
  refine (dat3 V c).arrAt_eq_of_covers 9 _ (by decide +kernel) fun t hf y => ?_
  blk_simp
  rw [after3_9, blk3_9]
  unfold dz gpAt dot mat
  beta_reduce
  blk_point [iblk3, idx3 t]

end Cert.Kernel3Ideal.Mix
-- ==== Proof.MixBackB.lean ====
module

public import proofs.«01_k».proof.Proof.Gen.Kernel3Ideal.Skeleton
public import proofs.«01_k».proof.Proof.Gen.Kernel3Ideal.Frame.Region3
public import Idealize.ShloMosaic.Lib.Pipeline.ValueKit
public import Idealize.ShloMosaic.Lib.Pipeline.ReadBack
public import proofs.«01_k».proof.Proof.MixIdx

@[expose] public section

set_option maxRecDepth 16384

noncomputable section

namespace Cert.Kernel3Ideal.Mix

open Cert.Kernel3Ideal Cert.Kernel3Ideal.Gen Cert.FfnSpec Cert.MixSpec Idealize.ShloMosaic Idealize.ShloMosaic.TcCoe Idealize.SL.Sem

variable (V : (c : Dev nD) → (b : Ref sig .tc) → Buf (Elt Ideal) ((c : Thread nD τ).loc b))

set_option maxHeartbeats 4000000 in
/-- The pooled mixer's gates' cotangent. In a block, of the blocks it is made from. -/
theorem blk3_10 (x0 : FVec Ideal S2048x1024 .bf16) (x1 : FVec Ideal S2048x512 .bf16) (x2 : FVec Ideal S2048x256 .bf16) (x3 : FVec Ideal S256x1024 .bf16) (x4 : FVec Ideal S256x512 .bf16) (x5 : FVec Ideal S256x256 .bf16) (x6 : FVec Ideal S256x256 .bf16) (x7 : FVec Ideal S2048x256 .f32) (x8 : FVec Ideal S2048x256 .f32) :
    out3_10 (F := Ideal) x0 x1 x2 x3 x4 x5 x6 x7 x8 = fun j : S2048x256.Idx => dp (dot (mat ix2 x0 (j 0)) (mat ix2 x3 (j 1))) (x7 j) (dot (mat ix2 x1 (j 0)) (mat ix2 x4 (j 1))) := by
  funext y
  unfold out3_10
  canon_tiles x hx
  all_goals pointwise [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, k3_pay67, k3_pay68, k3_pay69, k3_pay70, k3_pay71, k3_pay72, k3_pay73, k3_pay74, k3_pay75, k3_pay76, k3_pay77, k3_pay78, k3_pay79, k3_pay80, k3_pay81, k3_pay82, k3_pay83, k3_pay84, k3_pay85, k3_pay86, k3_pay87, k3_pay88, k3_pay89, k3_pay90, k3_pay91, k3_pay92, k3_pay93, k3_pay94, k3_pay95, k3_pay96, k3_pay97, k3_pay98, k3_pay99, k3_pay100, k3_pay101, k3_pay102, k3_pay103, k3_pay104, k3_pay105, k3_pay106, k3_pay107, k3_pay108, k3_pay109, k3_pay110, k3_pay111, k3_pay112, k3_pay113, k3_pay114, k3_pay115, k3_pay116, k3_pay117, k3_pay118, k3_pay119, k3_pay120, k3_pay121, k3_pay122, k3_pay123, k3_pay124, k3_pay125, k3_pay126, k3_pay127, k3_pay128, k3_pay129, k3_pay130, k3_pay131, k3_pay132, k3_pay133, k3_pay134, k3_pay135, dp, dot, mat]
  all_goals blk_point

set_option maxHeartbeats 1000000 in
/-- The pooled mixer's gates' cotangent. -/
theorem fin3_10 (c : Dev nD) : (dat3 V c).arrAt 10 cfg3.N
    = fun i : S4096x1024.Idx => dp (dot (mat (s := S4096x1024) (t := .bf16) ix2 (V c main_v14) (i 0)) (mat (s := S1024x1024) (t := .bf16) ix2 (V c main_arg7) (i 1))) (mat (s := S4096x2816) (t := .f32) ix2 (V c main_arg1) (i 0) (gpAt (i 1))) (dot (mat (s := S4096x512) (t := .bf16) ix2 (V c main_arg2) (i 0)) (mat (s := S1024x512) (t := .bf16) ix2 (V c main_arg4) (i 1))) := by
  refine (dat3 V c).arrAt_eq_of_covers 10 _ (by decide +kernel) fun t hf y => ?_
  blk_simp
  rw [after3_10, blk3_10]
  unfold dp gpAt dot mat
  beta_reduce
  blk_point [iblk3, idx3 t]

end Cert.Kernel3Ideal.Mix
-- ==== Proof.MixBackC.lean ====
module

public import proofs.«01_k».proof.Proof.Gen.Kernel3Ideal.Skeleton
public import proofs.«01_k».proof.Proof.Gen.Kernel3Ideal.Frame.Region3
public import Idealize.ShloMosaic.Lib.Pipeline.ValueKit
public import Idealize.ShloMosaic.Lib.Pipeline.ReadBack
public import proofs.«01_k».proof.Proof.MixIdx

@[expose] public section

set_option maxRecDepth 16384

noncomputable section

namespace Cert.Kernel3Ideal.Mix

open Cert.Kernel3Ideal Cert.Kernel3Ideal.Gen Cert.FfnSpec Cert.MixSpec Idealize.ShloMosaic Idealize.ShloMosaic.TcCoe Idealize.SL.Sem

variable (V : (c : Dev nD) → (b : Ref sig .tc) → Buf (Elt Ideal) ((c : Thread nD τ).loc b))

set_option maxHeartbeats 4000000 in
/-- The state mixer's gates' cotangent. In a block, of the blocks it is made from. -/
theorem blk3_11 (x0 : FVec Ideal S2048x1024 .bf16) (x1 : FVec Ideal S2048x512 .bf16) (x2 : FVec Ideal S2048x256 .bf16) (x3 : FVec Ideal S256x1024 .bf16) (x4 : FVec Ideal S256x512 .bf16) (x5 : FVec Ideal S256x256 .bf16) (x6 : FVec Ideal S256x256 .bf16) (x7 : FVec Ideal S2048x256 .f32) (x8 : FVec Ideal S2048x256 .f32) :
    out3_11 (F := Ideal) x0 x1 x2 x3 x4 x5 x6 x7 x8 = fun j : S2048x256.Idx => ds (dot (mat ix2 x0 (j 0)) (mat ix2 x3 (j 1))) (x8 j) (dot (mat ix2 x2 (j 0)) (mat ix2 x5 (j 1))) (dot (mat ix2 x2 (j 0)) (mat ix2 x6 (j 1))) := by
  funext y
  unfold out3_11
  canon_tiles x hx
  all_goals pointwise [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, k3_pay67, k3_pay68, k3_pay69, k3_pay70, k3_pay71, k3_pay72, k3_pay73, k3_pay74, k3_pay75, k3_pay76, k3_pay77, k3_pay78, k3_pay79, k3_pay80, k3_pay81, k3_pay82, k3_pay83, k3_pay84, k3_pay85, k3_pay86, k3_pay87, k3_pay88, k3_pay89, k3_pay90, k3_pay91, k3_pay92, k3_pay93, k3_pay94, k3_pay95, k3_pay96, k3_pay97, k3_pay98, k3_pay99, k3_pay100, k3_pay101, k3_pay102, k3_pay103, k3_pay104, k3_pay105, k3_pay106, k3_pay107, k3_pay108, k3_pay109, k3_pay110, k3_pay111, k3_pay112, k3_pay113, k3_pay114, k3_pay115, k3_pay116, k3_pay117, k3_pay118, k3_pay119, k3_pay120, k3_pay121, k3_pay122, k3_pay123, k3_pay124, k3_pay125, k3_pay126, k3_pay127, k3_pay128, k3_pay129, k3_pay130, k3_pay131, k3_pay132, k3_pay133, k3_pay134, k3_pay135, ds, dot, mat]
  all_goals blk_point

set_option maxHeartbeats 1000000 in
/-- The state mixer's gates' cotangent. -/
theorem fin3_11 (c : Dev nD) : (dat3 V c).arrAt 11 cfg3.N
    = fun i : S4096x1024.Idx => ds (dot (mat (s := S4096x1024) (t := .bf16) ix2 (V c main_v14) (i 0)) (mat (s := S1024x1024) (t := .bf16) ix2 (V c main_arg7) (i 1))) (mat (s := S4096x2816) (t := .f32) ix2 (V c main_arg1) (i 0) (gsAt (i 1))) (dot (mat (s := S4096x256) (t := .bf16) ix2 (V c main_v13) (i 0)) (mat (s := S1024x256) (t := .bf16) ix2 (V c main_arg5) (i 1))) (dot (mat (s := S4096x256) (t := .bf16) ix2 (V c main_v13) (i 0)) (mat (s := S1024x256) (t := .bf16) ix2 (V c main_arg6) (i 1))) := by
  refine (dat3 V c).arrAt_eq_of_covers 11 _ (by decide +kernel) fun t hf y => ?_
  blk_simp
  rw [after3_11, blk3_11]
  unfold ds gsAt dot mat
  beta_reduce
  blk_point [iblk3, idx3 t]

end Cert.Kernel3Ideal.Mix
-- ==== Proof.MixBackD.lean ====
module

public import proofs.«01_k».proof.Proof.Gen.Kernel3Ideal.Skeleton
public import proofs.«01_k».proof.Proof.Gen.Kernel3Ideal.Frame.Region3
public import Idealize.ShloMosaic.Lib.Pipeline.ValueKit
public import Idealize.ShloMosaic.Lib.Pipeline.ReadBack
public import proofs.«01_k».proof.Proof.MixIdx

@[expose] public section

set_option maxRecDepth 16384

noncomputable section

namespace Cert.Kernel3Ideal.Mix

open Cert.Kernel3Ideal Cert.Kernel3Ideal.Gen Cert.FfnSpec Cert.MixSpec Idealize.ShloMosaic Idealize.ShloMosaic.TcCoe Idealize.SL.Sem

variable (V : (c : Dev nD) → (b : Ref sig .tc) → Buf (Elt Ideal) ((c : Thread nD τ).loc b))

set_option maxHeartbeats 4000000 in
/-- The value products' cotangent. In a block, of the blocks it is made from. -/
theorem blk3_12 (x0 : FVec Ideal S2048x1024 .bf16) (x1 : FVec Ideal S2048x512 .bf16) (x2 : FVec Ideal S2048x256 .bf16) (x3 : FVec Ideal S256x1024 .bf16) (x4 : FVec Ideal S256x512 .bf16) (x5 : FVec Ideal S256x256 .bf16) (x6 : FVec Ideal S256x256 .bf16) (x7 : FVec Ideal S2048x256 .f32) (x8 : FVec Ideal S2048x256 .f32) :
    out3_12 (F := Ideal) x0 x1 x2 x3 x4 x5 x6 x7 x8 = fun j : S2048x256.Idx => dv (dot (mat ix2 x0 (j 0)) (mat ix2 x3 (j 1))) (x8 j) (dot (mat ix2 x2 (j 0)) (mat ix2 x6 (j 1))) := by
  funext y
  unfold out3_12
  canon_tiles x hx
  all_goals pointwise [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, k3_pay67, k3_pay68, k3_pay69, k3_pay70, k3_pay71, k3_pay72, k3_pay73, k3_pay74, k3_pay75, k3_pay76, k3_pay77, k3_pay78, k3_pay79, k3_pay80, k3_pay81, k3_pay82, k3_pay83, k3_pay84, k3_pay85, k3_pay86, k3_pay87, k3_pay88, k3_pay89, k3_pay90, k3_pay91, k3_pay92, k3_pay93, k3_pay94, k3_pay95, k3_pay96, k3_pay97, k3_pay98, k3_pay99, k3_pay100, k3_pay101, k3_pay102, k3_pay103, k3_pay104, k3_pay105, k3_pay106, k3_pay107, k3_pay108, k3_pay109, k3_pay110, k3_pay111, k3_pay112, k3_pay113, k3_pay114, k3_pay115, k3_pay116, k3_pay117, k3_pay118, k3_pay119, k3_pay120, k3_pay121, k3_pay122, k3_pay123, k3_pay124, k3_pay125, k3_pay126, k3_pay127, k3_pay128, k3_pay129, k3_pay130, k3_pay131, k3_pay132, k3_pay133, k3_pay134, k3_pay135, dv, dot, mat]
  all_goals blk_point

set_option maxHeartbeats 1000000 in
/-- The value products' cotangent. -/
theorem fin3_12 (c : Dev nD) : (dat3 V c).arrAt 12 cfg3.N
    = fun i : S4096x1024.Idx => dv (dot (mat (s := S4096x1024) (t := .bf16) ix2 (V c main_v14) (i 0)) (mat (s := S1024x1024) (t := .bf16) ix2 (V c main_arg7) (i 1))) (mat (s := S4096x2816) (t := .f32) ix2 (V c main_arg1) (i 0) (gsAt (i 1))) (dot (mat (s := S4096x256) (t := .bf16) ix2 (V c main_v13) (i 0)) (mat (s := S1024x256) (t := .bf16) ix2 (V c main_arg6) (i 1))) := by
  refine (dat3 V c).arrAt_eq_of_covers 12 _ (by decide +kernel) fun t hf y => ?_
  blk_simp
  rw [after3_12, blk3_12]
  unfold dv gsAt dot mat
  beta_reduce
  blk_point [iblk3, idx3 t]

end Cert.Kernel3Ideal.Mix
-- ==== Proof.MixBackE.lean ====
module

public import proofs.«01_k».proof.Proof.Gen.Kernel3Ideal.Skeleton
public import proofs.«01_k».proof.Proof.Gen.Kernel3Ideal.Frame.Region3
public import Idealize.ShloMosaic.Lib.Pipeline.ValueKit
public import Idealize.ShloMosaic.Lib.Pipeline.ReadBack
public import proofs.«01_k».proof.Proof.MixIdx

@[expose] public section

set_option maxRecDepth 16384

noncomputable section

namespace Cert.Kernel3Ideal.Mix

open Cert.Kernel3Ideal Cert.Kernel3Ideal.Gen Cert.FfnSpec Cert.MixSpec Idealize.ShloMosaic Idealize.ShloMosaic.TcCoe Idealize.SL.Sem

variable (V : (c : Dev nD) → (b : Ref sig .tc) → Buf (Elt Ideal) ((c : Thread nD τ).loc b))

set_option maxHeartbeats 4000000 in
/-- The inner gate products' cotangent. In a block, of the blocks it is made from. -/
theorem blk3_13 (x0 : FVec Ideal S2048x1024 .bf16) (x1 : FVec Ideal S2048x512 .bf16) (x2 : FVec Ideal S2048x256 .bf16) (x3 : FVec Ideal S256x1024 .bf16) (x4 : FVec Ideal S256x512 .bf16) (x5 : FVec Ideal S256x256 .bf16) (x6 : FVec Ideal S256x256 .bf16) (x7 : FVec Ideal S2048x256 .f32) (x8 : FVec Ideal S2048x256 .f32) :
    out3_13 (F := Ideal) x0 x1 x2 x3 x4 x5 x6 x7 x8 = fun j : S2048x256.Idx => dg (dot (mat ix2 x0 (j 0)) (mat ix2 x3 (j 1))) (x8 j) (dot (mat ix2 x2 (j 0)) (mat ix2 x5 (j 1))) (dot (mat ix2 x2 (j 0)) (mat ix2 x6 (j 1))) := by
  funext y
  unfold out3_13
  canon_tiles x hx
  all_goals pointwise [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, k3_pay67, k3_pay68, k3_pay69, k3_pay70, k3_pay71, k3_pay72, k3_pay73, k3_pay74, k3_pay75, k3_pay76, k3_pay77, k3_pay78, k3_pay79, k3_pay80, k3_pay81, k3_pay82, k3_pay83, k3_pay84, k3_pay85, k3_pay86, k3_pay87, k3_pay88, k3_pay89, k3_pay90, k3_pay91, k3_pay92, k3_pay93, k3_pay94, k3_pay95, k3_pay96, k3_pay97, k3_pay98, k3_pay99, k3_pay100, k3_pay101, k3_pay102, k3_pay103, k3_pay104, k3_pay105, k3_pay106, k3_pay107, k3_pay108, k3_pay109, k3_pay110, k3_pay111, k3_pay112, k3_pay113, k3_pay114, k3_pay115, k3_pay116, k3_pay117, k3_pay118, k3_pay119, k3_pay120, k3_pay121, k3_pay122, k3_pay123, k3_pay124, k3_pay125, k3_pay126, k3_pay127, k3_pay128, k3_pay129, k3_pay130, k3_pay131, k3_pay132, k3_pay133, k3_pay134, k3_pay135, dg, dot, mat]
  all_goals blk_point

set_option maxHeartbeats 1000000 in
/-- The inner gate products' cotangent. -/
theorem fin3_13 (c : Dev nD) : (dat3 V c).arrAt 13 cfg3.N
    = fun i : S4096x1024.Idx => dg (dot (mat (s := S4096x1024) (t := .bf16) ix2 (V c main_v14) (i 0)) (mat (s := S1024x1024) (t := .bf16) ix2 (V c main_arg7) (i 1))) (mat (s := S4096x2816) (t := .f32) ix2 (V c main_arg1) (i 0) (gsAt (i 1))) (dot (mat (s := S4096x256) (t := .bf16) ix2 (V c main_v13) (i 0)) (mat (s := S1024x256) (t := .bf16) ix2 (V c main_arg5) (i 1))) (dot (mat (s := S4096x256) (t := .bf16) ix2 (V c main_v13) (i 0)) (mat (s := S1024x256) (t := .bf16) ix2 (V c main_arg6) (i 1))) := by
  refine (dat3 V c).arrAt_eq_of_covers 13 _ (by decide +kernel) fun t hf y => ?_
  blk_simp
  rw [after3_13, blk3_13]
  unfold dg gsAt dot mat
  beta_reduce
  blk_point [iblk3, idx3 t]

end Cert.Kernel3Ideal.Mix
-- ==== Proof.MixDw.lean ====
module

public import proofs.«01_k».proof.Proof.Gen.Kernel3Ideal.Skeleton
public import proofs.«01_k».proof.Proof.Gen.Kernel3Ideal.Frame.Region4
public import proofs.«01_k».proof.Proof.Gen.Kernel3Ideal.Frame.Region5
public import proofs.«01_k».proof.Proof.Gen.Kernel3Ideal.Frame.Region6
public import Idealize.ShloMosaic.Lib.Pipeline.ValueKit
public import Idealize.ShloMosaic.Lib.Pipeline.ReadBack
public import proofs.«01_k».proof.Proof.MixSpec

@[expose] public section

set_option maxRecDepth 16384

noncomputable section

namespace Cert.Kernel3Ideal.Mix

open Cert.Kernel3Ideal Cert.Kernel3Ideal.Gen Cert.FfnSpec Cert.MixSpec Idealize.ShloMosaic Idealize.ShloMosaic.TcCoe Idealize.SL.Sem

variable (V : (c : Dev nD) → (b : Ref sig .tc) → Buf (Elt Ideal) ((c : Thread nD τ).loc b))

/-- Where each grid point's blocks lie. -/
theorem idx4 : ∀ t : Fin cfg4.N, win4_0.index t = ![0, t.val] ∧ win4_1.index t = ![0, 0] ∧ win4_2.index t = ![t.val, 0] :=
  (by decide +kernel : ∀ t : Fin grid4.N, _)

set_option maxHeartbeats 1000000 in
/-- The pooled projection's gradient. -/
theorem fin4_2 (c : Dev nD) : (dat4 V c).arrAt 2 cfg4.N
    = fun i : S1024x512.Idx => dot (fun r : Fin 4096 => mat (s := S4096x1024) (t := .bf16) ix2 (V c main_v18_0) r (i 0)) (fun r : Fin 4096 => mat (s := S4096x512) (t := .bf16) ix2 (V c main_arg2) r (i 1)) := by
  refine (dat4 V c).arrAt_eq_of_covers 2 _ (by decide +kernel) fun t hf y => ?_
  blk_simp
  rw [after4_2]
  unfold out4_2
  canon_tiles x hx
  all_goals pointwise [k4_pay1, dot, mat]
  all_goals blk_point [iblk4, idx4 t]

/-- Where each grid point's blocks lie. -/
theorem idx5 : ∀ t : Fin cfg5.N, win5_0.index t = ![0, t.val] ∧ win5_1.index t = ![0, 0] ∧ win5_2.index t = ![t.val, 0] :=
  (by decide +kernel : ∀ t : Fin grid5.N, _)

set_option maxHeartbeats 1000000 in
/-- The value projection's gradient. -/
theorem fin5_2 (c : Dev nD) : (dat5 V c).arrAt 2 cfg5.N
    = fun i : S1024x256.Idx => dot (fun r : Fin 4096 => mat (s := S4096x1024) (t := .bf16) ix2 (V c main_v18_3) r (i 0)) (fun r : Fin 4096 => mat (s := S4096x256) (t := .bf16) ix2 (V c main_v13) r (i 1)) := by
  refine (dat5 V c).arrAt_eq_of_covers 2 _ (by decide +kernel) fun t hf y => ?_
  blk_simp
  rw [after5_2]
  unfold out5_2
  canon_tiles x hx
  all_goals pointwise [k5_pay1, dot, mat]
  all_goals blk_point [iblk5, idx5 t]

/-- Where each grid point's blocks lie. -/
theorem idx6 : ∀ t : Fin cfg6.N, win6_0.index t = ![0, t.val] ∧ win6_1.index t = ![0, 0] ∧ win6_2.index t = ![t.val, 0] :=
  (by decide +kernel : ∀ t : Fin grid6.N, _)

set_option maxHeartbeats 1000000 in
/-- The inner gate projection's gradient. -/
theorem fin6_2 (c : Dev nD) : (dat6 V c).arrAt 2 cfg6.N
    = fun i : S1024x256.Idx => dot (fun r : Fin 4096 => mat (s := S4096x1024) (t := .bf16) ix2 (V c main_v18_4) r (i 0)) (fun r : Fin 4096 => mat (s := S4096x256) (t := .bf16) ix2 (V c main_v13) r (i 1)) := by
  refine (dat6 V c).arrAt_eq_of_covers 2 _ (by decide +kernel) fun t hf y => ?_
  blk_simp
  rw [after6_2]
  unfold out6_2
  canon_tiles x hx
  all_goals pointwise [k6_pay1, dot, mat]
  all_goals blk_point [iblk6, idx6 t]

end Cert.Kernel3Ideal.Mix
-- ==== Proof.MixDy.lean ====
module

public import proofs.«01_k».proof.Proof.Gen.Kernel3Ideal.Skeleton
public import proofs.«01_k».proof.Proof.Gen.Kernel3Ideal.Frame.Region7
public import Idealize.ShloMosaic.Lib.Pipeline.ValueKit
public import Idealize.ShloMosaic.Lib.Pipeline.ReadBack
public import proofs.«01_k».proof.Proof.MixSpec

@[expose] public section

set_option maxRecDepth 16384

noncomputable section

namespace Cert.Kernel3Ideal.Mix

open Cert.Kernel3Ideal Cert.Kernel3Ideal.Gen Cert.FfnSpec Cert.MixSpec Idealize.ShloMosaic Idealize.ShloMosaic.TcCoe Idealize.SL.Sem

variable (V : (c : Dev nD) → (b : Ref sig .tc) → Buf (Elt Ideal) ((c : Thread nD τ).loc b))

/-- Where each grid point's blocks lie. -/
theorem idx7 : ∀ t : Fin cfg7.N, win7_0.index t = ![t.val, 0] ∧ win7_1.index t = ![t.val, 0] ∧ win7_2.index t = ![0, 0] ∧ win7_3.index t = ![0, 0] ∧ win7_4.index t = ![t.val, 0] ∧ win7_5.index t = ![t.val, 0] :=
  (by decide +kernel : ∀ t : Fin grid7.N, _)

set_option maxHeartbeats 4000000 in
/-- The state mixer's output's cotangent. In a block, of the blocks it is made from. -/
theorem blk7_5 (x0 : FVec Ideal S1024x1024 .bf16) (x1 : FVec Ideal S1024x1024 .bf16) (x2 : FVec Ideal S1024x256 .bf16) (x3 : FVec Ideal S1024x256 .bf16) (x4 : FVec Ideal S1024x256 .f32) :
    out7_5 (F := Ideal) x0 x1 x2 x3 x4 = fun j : S1024x256.Idx => dgelu (x4 j) ((dot (mat ix2 x0 (j 0)) (fun k : Fin 1024 => mat ix2 x2 k (j 1))) + (dot (mat ix2 x1 (j 0)) (fun k : Fin 1024 => mat ix2 x3 k (j 1)))) := by
  funext y
  unfold out7_5
  canon_tiles x hx
  all_goals pointwise [k7_pay1, k7_pay2, k7_pay3, k7_pay4, k7_pay5, k7_pay6, k7_pay7, k7_pay8, k7_pay9, k7_pay10, k7_pay11, k7_pay12, k7_pay13, k7_pay14, k7_pay15, k7_pay16, k7_pay17, k7_pay18, k7_pay19, k7_pay20, k7_pay21, k7_pay22, k7_pay23, k7_pay24, k7_pay25, k7_pay26, dgelu, through, th, dot, mat]
  all_goals blk_point

set_option maxHeartbeats 1000000 in
/-- The state mixer's output's cotangent. -/
theorem fin7_5 (c : Dev nD) : (dat7 V c).arrAt 5 cfg7.N
    = fun i : S4096x256.Idx => dgelu (mat (s := S4096x256) (t := .f32) ix2 (V c main_arg3) (i 0) (i 1)) (dot (mat (s := S4096x1024) (t := .bf16) ix2 (V c main_v18_3) (i 0)) (fun k : Fin 1024 => mat (s := S1024x256) (t := .bf16) ix2 (V c main_arg5) k (i 1)) + dot (mat (s := S4096x1024) (t := .bf16) ix2 (V c main_v18_4) (i 0)) (fun k : Fin 1024 => mat (s := S1024x256) (t := .bf16) ix2 (V c main_arg6) k (i 1))) := by
  refine (dat7 V c).arrAt_eq_of_covers 5 _ (by decide +kernel) fun t hf y => ?_
  blk_simp
  rw [after7_5, blk7_5]
  unfold dgelu through th dot mat
  beta_reduce
  blk_point [iblk7, idx7 t]

end Cert.Kernel3Ideal.Mix
-- ==== Proof.MixDpm.lean ====
module

public import proofs.«01_k».proof.Proof.Gen.Kernel3Ideal.Skeleton
public import proofs.«01_k».proof.Proof.Gen.Kernel3Ideal.Frame.Region8
public import Idealize.ShloMosaic.Lib.Pipeline.ValueKit
public import Idealize.ShloMosaic.Lib.Pipeline.ReadBack
public import proofs.«01_k».proof.Proof.MixSpec

@[expose] public section

set_option maxRecDepth 16384

noncomputable section

namespace Cert.Kernel3Ideal.Mix

open Cert.Kernel3Ideal Cert.Kernel3Ideal.Gen Cert.FfnSpec Cert.MixSpec Idealize.ShloMosaic Idealize.ShloMosaic.TcCoe Idealize.SL.Sem

variable (V : (c : Dev nD) → (b : Ref sig .tc) → Buf (Elt Ideal) ((c : Thread nD τ).loc b))

/-- Where each grid point's blocks lie. -/
theorem idx8 : ∀ t : Fin cfg8.N, win8_0.index t = ![t.val / 2, 0] ∧ win8_1.index t = ![0, t.val % 2] ∧ win8_2.index t = ![t.val / 2, t.val % 2] :=
  (by decide +kernel : ∀ t : Fin grid8.N, _)

set_option maxHeartbeats 4000000 in
/-- The pooled mixer's output's cotangent. In a block, of the blocks it is made from. -/
theorem blk8_2 (x0 : FVec Ideal S2048x1024 .bf16) (x1 : FVec Ideal S1024x256 .bf16) :
    out8_2 (F := Ideal) x0 x1 = fun j : S2048x256.Idx => (dot (mat ix2 x0 (j 0)) (fun k : Fin 1024 => mat ix2 x1 k (j 1))) := by
  funext y
  unfold out8_2
  canon_tiles x hx
  all_goals pointwise [k8_pay1, k8_pay2, k8_pay3, k8_pay4, k8_pay5, k8_pay6, k8_pay7, k8_pay8, k8_pay9, dot, mat]
  all_goals blk_point

set_option maxHeartbeats 1000000 in
/-- The pooled mixer's output's cotangent. -/
theorem fin8_2 (c : Dev nD) : (dat8 V c).arrAt 2 cfg8.N
    = fun i : S4096x512.Idx => dot (mat (s := S4096x1024) (t := .bf16) ix2 (V c main_v18_0) (i 0)) (fun k : Fin 1024 => mat (s := S1024x512) (t := .bf16) ix2 (V c main_arg4) k (i 1)) := by
  refine (dat8 V c).arrAt_eq_of_covers 2 _ (by decide +kernel) fun t hf y => ?_
  blk_simp
  rw [after8_2, blk8_2]
  unfold  dot mat
  beta_reduce
  blk_point [iblk8, idx8 t]

end Cert.Kernel3Ideal.Mix
-- ==== Proof.MixChain.lean ====
module

public import proofs.«01_k».proof.Proof.Gen.Kernel3Ideal.Frame
public import proofs.«01_k».proof.Proof.MixUp
public import proofs.«01_k».proof.Proof.MixOut
public import proofs.«01_k».proof.Proof.MixDwo
public import proofs.«01_k».proof.Proof.MixBackA
public import proofs.«01_k».proof.Proof.MixBackB
public import proofs.«01_k».proof.Proof.MixBackC
public import proofs.«01_k».proof.Proof.MixBackD
public import proofs.«01_k».proof.Proof.MixBackE
public import proofs.«01_k».proof.Proof.MixDw
public import proofs.«01_k».proof.Proof.MixDy
public import proofs.«01_k».proof.Proof.MixDpm

@[expose] public section

set_option maxRecDepth 16384

noncomputable section

namespace Cert.Kernel3Ideal.Mix

open Cert.Kernel3Ideal Cert.Kernel3Ideal.Gen Cert.MixSpec Idealize.ShloMosaic Idealize.ShloMosaic.TcCoe Idealize.SL.Sem
open Cert.FfnSpec (mat dot)

variable (m : (ℓ : Loc nD τ sig) → Buf (Elt Ideal) ℓ) (ρ : Dev nD → PrngReg)

/-- The arguments on a device, as functions of row and column. -/
abbrev xh (c : Dev nD) : Fin 4096 → Fin 1024 → EReal := mat (s := S4096x1024) (t := .f32) ix2 (m ((c : Thread nD τ).loc main_arg0))
@[inherit_doc xh] abbrev xq (c : Dev nD) : Fin 4096 → Fin 2816 → EReal := mat (s := S4096x2816) (t := .f32) ix2 (m ((c : Thread nD τ).loc main_arg1))
@[inherit_doc xh] abbrev xpm (c : Dev nD) : Fin 4096 → Fin 512 → EReal := mat (s := S4096x512) (t := .bf16) ix2 (m ((c : Thread nD τ).loc main_arg2))
@[inherit_doc xh] abbrev xy (c : Dev nD) : Fin 4096 → Fin 256 → EReal := mat (s := S4096x256) (t := .f32) ix2 (m ((c : Thread nD τ).loc main_arg3))
@[inherit_doc xh] abbrev xwp (c : Dev nD) : Fin 1024 → Fin 512 → EReal := mat (s := S1024x512) (t := .bf16) ix2 (m ((c : Thread nD τ).loc main_arg4))
@[inherit_doc xh] abbrev xwv (c : Dev nD) : Fin 1024 → Fin 256 → EReal := mat (s := S1024x256) (t := .bf16) ix2 (m ((c : Thread nD τ).loc main_arg5))
@[inherit_doc xh] abbrev xwg (c : Dev nD) : Fin 1024 → Fin 256 → EReal := mat (s := S1024x256) (t := .bf16) ix2 (m ((c : Thread nD τ).loc main_arg6))
@[inherit_doc xh] abbrev xwo (c : Dev nD) : Fin 1024 → Fin 1024 → EReal := mat (s := S1024x1024) (t := .bf16) ix2 (m ((c : Thread nD τ).loc main_arg7))
@[inherit_doc xh] abbrev xdh (c : Dev nD) : Fin 4096 → Fin 1024 → EReal := mat (s := S4096x1024) (t := .f32) ix2 (m ((c : Thread nD τ).loc main_arg8))

/-- What the first host operations make of the state mixer's output: its activation, in the narrower array. -/
def ysv (y : FVec Ideal S4096x256 .f32) : FVec Ideal S4096x256 .bf16 :=
  truncf .bf16 (mulf y (mulf (broadcastInDim S4096x256 ![] bcast_S_S4096x256 (constant (F := Ideal) S_ .f32 0x3F000000#32)) (addf (broadcastInDim S4096x256 ![] bcast_S_S4096x256 (constant (F := Ideal) S_ .f32 0x3F800000#32)) (Host.tanh (mulf (broadcastInDim S4096x256 ![] bcast_S_S4096x256 (constant (F := Ideal) S_ .f32 0x3F4C422A#32))
    (addf y (mulf (broadcastInDim S4096x256 ![] bcast_S_S4096x256 (constant (F := Ideal) S_ .f32 0x3D372713#32)) (mulf (mulf y y) y)))))))) bitsLt_bf16_f32

/-- It is the activation, entry by entry. -/
theorem ysv_apply (y : FVec Ideal S4096x256 .f32) (r : Fin 4096) (k : Fin 256) : ysv y (ix2 r k) = fY (mat ix2 y) r k := by
  unfold fY gelu th
  rw [show mat ix2 y r k * (mat ix2 y r k * mat ix2 y r k) = mat ix2 y r k * mat ix2 y r k * mat ix2 y r k from (mul_assoc _ _ _).symm]
  unfold mat
  pointwise [ysv]

/-- The activated output of the state mixer, as the products take it. -/
theorem v13_eq (c : Dev nD) : W1 m ρ c (Proc.devRef .tc main_v13) = fun i : S4096x256.Idx => fY (xy m c) (i 0) (i 1) := by
  have h : W1 m ρ c (Proc.devRef .tc main_v13) = ysv (m ((c : Thread nD τ).loc main_arg3)) := by
    show StableHlo.after hostOps0 (W0 m ρ c) (Proc.devRef .tc main_v13) = _
    simp only [StableHlo.after]
    rfl
  rw [h]
  funext i
  exact (congrArg (ysv (m ((c : Thread nD τ).loc main_arg3))) (eq_ix2 i)).trans (ysv_apply _ (i 0) (i 1))

/-- The output's cotangent as the products take it. -/
theorem v14_eq (c : Dev nD) : W1 m ρ c (Proc.devRef .tc main_v14) = fun i : S4096x1024.Idx => xdh m c (i 0) (i 1) := by
  have h : W1 m ρ c (Proc.devRef .tc main_v14) = (truncf (F := Ideal) .bf16 (m ((c : Thread nD τ).loc main_arg8) : FVec Ideal S4096x1024 .f32) bitsLt_bf16_f32 : FVec Ideal S4096x1024 .bf16) := by
    show StableHlo.after hostOps0 (W0 m ρ c) (Proc.devRef .tc main_v14) = _
    simp only [StableHlo.after]
    rfl
  rw [h]
  funext i
  exact congrArg (m ((c : Thread nD τ).loc main_arg8) : FVec Ideal S4096x1024 .f32) (eq_ix2 i)

/-- The merged rows. -/
theorem v15_eq (c : Dev nD) : W2 m ρ c (Proc.devRef .tc main_v15) = fun i : S4096x1024.Idx => fM (xq m c) (xpm m c) (xy m c) (xwp m c) (xwv m c) (xwg m c) (i 0) (i 1) := by
  refine (W2_arr m ρ c 7).trans ((fin0_7 (V1 m ρ) c).trans ?_)
  rw [show V1 m ρ c main_arg1 = m ((c : Thread nD τ).loc main_arg1) from (W1_args m ρ c main_arg1 (by decide)),
    show V1 m ρ c main_arg2 = m ((c : Thread nD τ).loc main_arg2) from (W1_args m ρ c main_arg2 (by decide)),
    show V1 m ρ c main_v13 = fun i : S4096x256.Idx => fY (xy m c) (i 0) (i 1) from v13_eq m ρ c,
    show V1 m ρ c main_arg4 = m ((c : Thread nD τ).loc main_arg4) from (W1_args m ρ c main_arg4 (by decide)),
    show V1 m ρ c main_arg5 = m ((c : Thread nD τ).loc main_arg5) from (W1_args m ρ c main_arg5 (by decide)),
    show V1 m ρ c main_arg6 = m ((c : Thread nD τ).loc main_arg6) from (W1_args m ρ c main_arg6 (by decide))]
  rfl

/-- The sublayer's output. -/
theorem v16_eq (c : Dev nD) : W3 m ρ c (Proc.devRef .tc main_v16) = fun i : S4096x1024.Idx => fH (xh m c) (xq m c) (xpm m c) (xy m c) (xwp m c) (xwv m c) (xwg m c) (xwo m c) (i 0) (i 1) := by
  refine (W3_arr m ρ c 3).trans ((fin1_3 (V2 m ρ) c).trans ?_)
  rw [show V2 m ρ c main_arg0 = m ((c : Thread nD τ).loc main_arg0) from (W2_args m ρ c main_arg0 (by decide)),
    show V2 m ρ c main_v15 = fun i : S4096x1024.Idx => fM (xq m c) (xpm m c) (xy m c) (xwp m c) (xwv m c) (xwg m c) (i 0) (i 1) from v15_eq m ρ c,
    show V2 m ρ c main_arg7 = m ((c : Thread nD τ).loc main_arg7) from (W2_args m ρ c main_arg7 (by decide))]
  rfl

/-- The output projection's gradient. -/
theorem v17_eq (c : Dev nD) : W4 m ρ c (Proc.devRef .tc main_v17) = fun i : S1024x1024.Idx => fDwo (xq m c) (xpm m c) (xy m c) (xwp m c) (xwv m c) (xwg m c) (xdh m c) (i 0) (i 1) := by
  refine (W4_arr m ρ c 2).trans ((fin2_2 (V3 m ρ) c).trans ?_)
  rw [show V3 m ρ c main_v15 = fun i : S4096x1024.Idx => fM (xq m c) (xpm m c) (xy m c) (xwp m c) (xwv m c) (xwg m c) (i 0) (i 1) from (W3_of m ρ c main_v15 (by decide +kernel)).trans (v15_eq m ρ c),
    show V3 m ρ c main_v14 = fun i : S4096x1024.Idx => xdh m c (i 0) (i 1) from ((W3_of m ρ c main_v14 (by decide +kernel)).trans (W2_of m ρ c main_v14 (by decide +kernel))).trans (v14_eq m ρ c)]
  rfl

/-- The pooled products' cotangent. -/
theorem v18_0_eq (c : Dev nD) : W5 m ρ c (Proc.devRef .tc main_v18_0) = fun i : S4096x1024.Idx => fDz (xq m c) (xwo m c) (xdh m c) (i 0) (i 1) := by
  refine (W5_arr m ρ c 9).trans ((fin3_9 (V4 m ρ) c).trans ?_)
  rw [show V4 m ρ c main_v14 = fun i : S4096x1024.Idx => xdh m c (i 0) (i 1) from (((W4_of m ρ c main_v14 (by decide +kernel)).trans (W3_of m ρ c main_v14 (by decide +kernel))).trans (W2_of m ρ c main_v14 (by decide +kernel))).trans (v14_eq m ρ c),
    show V4 m ρ c main_arg7 = m ((c : Thread nD τ).loc main_arg7) from (W4_args m ρ c main_arg7 (by decide)),
    show V4 m ρ c main_arg1 = m ((c : Thread nD τ).loc main_arg1) from (W4_args m ρ c main_arg1 (by decide))]
  rfl

/-- The pooled mixer's gates' cotangent. -/
theorem v18_1_eq (c : Dev nD) : W5 m ρ c (Proc.devRef .tc main_v18_1) = fun i : S4096x1024.Idx => fDp (xq m c) (xpm m c) (xwp m c) (xwo m c) (xdh m c) (i 0) (i 1) := by
  refine (W5_arr m ρ c 10).trans ((fin3_10 (V4 m ρ) c).trans ?_)
  rw [show V4 m ρ c main_v14 = fun i : S4096x1024.Idx => xdh m c (i 0) (i 1) from (((W4_of m ρ c main_v14 (by decide +kernel)).trans (W3_of m ρ c main_v14 (by decide +kernel))).trans (W2_of m ρ c main_v14 (by decide +kernel))).trans (v14_eq m ρ c),
    show V4 m ρ c main_arg7 = m ((c : Thread nD τ).loc main_arg7) from (W4_args m ρ c main_arg7 (by decide)),
    show V4 m ρ c main_arg1 = m ((c : Thread nD τ).loc main_arg1) from (W4_args m ρ c main_arg1 (by decide)),
    show V4 m ρ c main_arg2 = m ((c : Thread nD τ).loc main_arg2) from (W4_args m ρ c main_arg2 (by decide)),
    show V4 m ρ c main_arg4 = m ((c : Thread nD τ).loc main_arg4) from (W4_args m ρ c main_arg4 (by decide))]
  rfl

/-- The state mixer's gates' cotangent. -/
theorem v18_2_eq (c : Dev nD) : W5 m ρ c (Proc.devRef .tc main_v18_2) = fun i : S4096x1024.Idx => fDs (xq m c) (xy m c) (xwv m c) (xwg m c) (xwo m c) (xdh m c) (i 0) (i 1) := by
  refine (W5_arr m ρ c 11).trans ((fin3_11 (V4 m ρ) c).trans ?_)
  rw [show V4 m ρ c main_v14 = fun i : S4096x1024.Idx => xdh m c (i 0) (i 1) from (((W4_of m ρ c main_v14 (by decide +kernel)).trans (W3_of m ρ c main_v14 (by decide +kernel))).trans (W2_of m ρ c main_v14 (by decide +kernel))).trans (v14_eq m ρ c),
    show V4 m ρ c main_arg7 = m ((c : Thread nD τ).loc main_arg7) from (W4_args m ρ c main_arg7 (by decide)),
    show V4 m ρ c main_arg1 = m ((c : Thread nD τ).loc main_arg1) from (W4_args m ρ c main_arg1 (by decide)),
    show V4 m ρ c main_v13 = fun i : S4096x256.Idx => fY (xy m c) (i 0) (i 1) from (((W4_of m ρ c main_v13 (by decide +kernel)).trans (W3_of m ρ c main_v13 (by decide +kernel))).trans (W2_of m ρ c main_v13 (by decide +kernel))).trans (v13_eq m ρ c),
    show V4 m ρ c main_arg5 = m ((c : Thread nD τ).loc main_arg5) from (W4_args m ρ c main_arg5 (by decide)),
    show V4 m ρ c main_arg6 = m ((c : Thread nD τ).loc main_arg6) from (W4_args m ρ c main_arg6 (by decide))]
  rfl

/-- The value products' cotangent. -/
theorem v18_3_eq (c : Dev nD) : W5 m ρ c (Proc.devRef .tc main_v18_3) = fun i : S4096x1024.Idx => fDv (xq m c) (xy m c) (xwg m c) (xwo m c) (xdh m c) (i 0) (i 1) := by
  refine (W5_arr m ρ c 12).trans ((fin3_12 (V4 m ρ) c).trans ?_)
  rw [show V4 m ρ c main_v14 = fun i : S4096x1024.Idx => xdh m c (i 0) (i 1) from (((W4_of m ρ c main_v14 (by decide +kernel)).trans (W3_of m ρ c main_v14 (by decide +kernel))).trans (W2_of m ρ c main_v14 (by decide +kernel))).trans (v14_eq m ρ c),
    show V4 m ρ c main_arg7 = m ((c : Thread nD τ).loc main_arg7) from (W4_args m ρ c main_arg7 (by decide)),
    show V4 m ρ c main_arg1 = m ((c : Thread nD τ).loc main_arg1) from (W4_args m ρ c main_arg1 (by decide)),
    show V4 m ρ c main_v13 = fun i : S4096x256.Idx => fY (xy m c) (i 0) (i 1) from (((W4_of m ρ c main_v13 (by decide +kernel)).trans (W3_of m ρ c main_v13 (by decide +kernel))).trans (W2_of m ρ c main_v13 (by decide +kernel))).trans (v13_eq m ρ c),
    show V4 m ρ c main_arg6 = m ((c : Thread nD τ).loc main_arg6) from (W4_args m ρ c main_arg6 (by decide))]
  rfl

/-- The inner gate products' cotangent. -/
theorem v18_4_eq (c : Dev nD) : W5 m ρ c (Proc.devRef .tc main_v18_4) = fun i : S4096x1024.Idx => fDg (xq m c) (xy m c) (xwv m c) (xwg m c) (xwo m c) (xdh m c) (i 0) (i 1) := by
  refine (W5_arr m ρ c 13).trans ((fin3_13 (V4 m ρ) c).trans ?_)
  rw [show V4 m ρ c main_v14 = fun i : S4096x1024.Idx => xdh m c (i 0) (i 1) from (((W4_of m ρ c main_v14 (by decide +kernel)).trans (W3_of m ρ c main_v14 (by decide +kernel))).trans (W2_of m ρ c main_v14 (by decide +kernel))).trans (v14_eq m ρ c),
    show V4 m ρ c main_arg7 = m ((c : Thread nD τ).loc main_arg7) from (W4_args m ρ c main_arg7 (by decide)),
    show V4 m ρ c main_arg1 = m ((c : Thread nD τ).loc main_arg1) from (W4_args m ρ c main_arg1 (by decide)),
    show V4 m ρ c main_v13 = fun i : S4096x256.Idx => fY (xy m c) (i 0) (i 1) from (((W4_of m ρ c main_v13 (by decide +kernel)).trans (W3_of m ρ c main_v13 (by decide +kernel))).trans (W2_of m ρ c main_v13 (by decide +kernel))).trans (v13_eq m ρ c),
    show V4 m ρ c main_arg5 = m ((c : Thread nD τ).loc main_arg5) from (W4_args m ρ c main_arg5 (by decide)),
    show V4 m ρ c main_arg6 = m ((c : Thread nD τ).loc main_arg6) from (W4_args m ρ c main_arg6 (by decide))]
  rfl

/-- The pooled projection's gradient. -/
theorem v19_eq (c : Dev nD) : W6 m ρ c (Proc.devRef .tc main_v19) = fun i : S1024x512.Idx => fDwp (xq m c) (xpm m c) (xwo m c) (xdh m c) (i 0) (i 1) := by
  refine (W6_arr m ρ c 2).trans ((fin4_2 (V5 m ρ) c).trans ?_)
  rw [show V5 m ρ c main_v18_0 = fun i : S4096x1024.Idx => fDz (xq m c) (xwo m c) (xdh m c) (i 0) (i 1) from v18_0_eq m ρ c,
    show V5 m ρ c main_arg2 = m ((c : Thread nD τ).loc main_arg2) from (W5_args m ρ c main_arg2 (by decide))]
  rfl

/-- The value projection's gradient. -/
theorem v20_eq (c : Dev nD) : W7 m ρ c (Proc.devRef .tc main_v20) = fun i : S1024x256.Idx => fDwv (xq m c) (xy m c) (xwg m c) (xwo m c) (xdh m c) (i 0) (i 1) := by
  refine (W7_arr m ρ c 2).trans ((fin5_2 (V6 m ρ) c).trans ?_)
  rw [show V6 m ρ c main_v18_3 = fun i : S4096x1024.Idx => fDv (xq m c) (xy m c) (xwg m c) (xwo m c) (xdh m c) (i 0) (i 1) from (W6_of m ρ c main_v18_3 (by decide +kernel)).trans (v18_3_eq m ρ c),
    show V6 m ρ c main_v13 = fun i : S4096x256.Idx => fY (xy m c) (i 0) (i 1) from (((((W6_of m ρ c main_v13 (by decide +kernel)).trans (W5_of m ρ c main_v13 (by decide +kernel))).trans (W4_of m ρ c main_v13 (by decide +kernel))).trans (W3_of m ρ c main_v13 (by decide +kernel))).trans (W2_of m ρ c main_v13 (by decide +kernel))).trans (v13_eq m ρ c)]
  rfl

/-- The inner gate projection's gradient. -/
theorem v21_eq (c : Dev nD) : W8 m ρ c (Proc.devRef .tc main_v21) = fun i : S1024x256.Idx => fDwg (xq m c) (xy m c) (xwv m c) (xwg m c) (xwo m c) (xdh m c) (i 0) (i 1) := by
  refine (W8_arr m ρ c 2).trans ((fin6_2 (V7 m ρ) c).trans ?_)
  rw [show V7 m ρ c main_v18_4 = fun i : S4096x1024.Idx => fDg (xq m c) (xy m c) (xwv m c) (xwg m c) (xwo m c) (xdh m c) (i 0) (i 1) from ((W7_of m ρ c main_v18_4 (by decide +kernel)).trans (W6_of m ρ c main_v18_4 (by decide +kernel))).trans (v18_4_eq m ρ c),
    show V7 m ρ c main_v13 = fun i : S4096x256.Idx => fY (xy m c) (i 0) (i 1) from ((((((W7_of m ρ c main_v13 (by decide +kernel)).trans (W6_of m ρ c main_v13 (by decide +kernel))).trans (W5_of m ρ c main_v13 (by decide +kernel))).trans (W4_of m ρ c main_v13 (by decide +kernel))).trans (W3_of m ρ c main_v13 (by decide +kernel))).trans (W2_of m ρ c main_v13 (by decide +kernel))).trans (v13_eq m ρ c)]
  rfl

/-- The state mixer's output's cotangent. -/
theorem v22_eq (c : Dev nD) : W9 m ρ c (Proc.devRef .tc main_v22) = fun i : S4096x256.Idx => fDy (xq m c) (xy m c) (xwv m c) (xwg m c) (xwo m c) (xdh m c) (i 0) (i 1) := by
  refine (W9_arr m ρ c 5).trans ((fin7_5 (V8 m ρ) c).trans ?_)
  rw [show V8 m ρ c main_arg3 = m ((c : Thread nD τ).loc main_arg3) from (W8_args m ρ c main_arg3 (by decide)),
    show V8 m ρ c main_v18_3 = fun i : S4096x1024.Idx => fDv (xq m c) (xy m c) (xwg m c) (xwo m c) (xdh m c) (i 0) (i 1) from (((W8_of m ρ c main_v18_3 (by decide +kernel)).trans (W7_of m ρ c main_v18_3 (by decide +kernel))).trans (W6_of m ρ c main_v18_3 (by decide +kernel))).trans (v18_3_eq m ρ c),
    show V8 m ρ c main_v18_4 = fun i : S4096x1024.Idx => fDg (xq m c) (xy m c) (xwv m c) (xwg m c) (xwo m c) (xdh m c) (i 0) (i 1) from (((W8_of m ρ c main_v18_4 (by decide +kernel)).trans (W7_of m ρ c main_v18_4 (by decide +kernel))).trans (W6_of m ρ c main_v18_4 (by decide +kernel))).trans (v18_4_eq m ρ c),
    show V8 m ρ c main_arg5 = m ((c : Thread nD τ).loc main_arg5) from (W8_args m ρ c main_arg5 (by decide)),
    show V8 m ρ c main_arg6 = m ((c : Thread nD τ).loc main_arg6) from (W8_args m ρ c main_arg6 (by decide))]
  rfl

/-- The pooled mixer's output's cotangent. -/
theorem v23_eq (c : Dev nD) : W10 m ρ c (Proc.devRef .tc main_v23) = fun i : S4096x512.Idx => fDpm (xq m c) (xwp m c) (xwo m c) (xdh m c) (i 0) (i 1) := by
  refine (W10_arr m ρ c 2).trans ((fin8_2 (V9 m ρ) c).trans ?_)
  rw [show V9 m ρ c main_v18_0 = fun i : S4096x1024.Idx => fDz (xq m c) (xwo m c) (xdh m c) (i 0) (i 1) from ((((W9_of m ρ c main_v18_0 (by decide +kernel)).trans (W8_of m ρ c main_v18_0 (by decide +kernel))).trans (W7_of m ρ c main_v18_0 (by decide +kernel))).trans (W6_of m ρ c main_v18_0 (by decide +kernel))).trans (v18_0_eq m ρ c),
    show V9 m ρ c main_arg4 = m ((c : Thread nD τ).loc main_arg4) from (W9_args m ρ c main_arg4 (by decide))]
  rfl

/-- It stands at the end of the run. -/
theorem v16_end (c : Dev nD) : W10 m ρ c (Proc.devRef .tc main_v16) = fun i : S4096x1024.Idx => fH (xh m c) (xq m c) (xpm m c) (xy m c) (xwp m c) (xwv m c) (xwg m c) (xwo m c) (i 0) (i 1) :=
  (((((((W10_of m ρ c main_v16 (by decide +kernel)).trans (W9_of m ρ c main_v16 (by decide +kernel))).trans (W8_of m ρ c main_v16 (by decide +kernel))).trans (W7_of m ρ c main_v16 (by decide +kernel))).trans (W6_of m ρ c main_v16 (by decide +kernel))).trans (W5_of m ρ c main_v16 (by decide +kernel))).trans (W4_of m ρ c main_v16 (by decide +kernel))).trans (v16_eq m ρ c)

/-- It stands at the end of the run. -/
theorem v18_1_end (c : Dev nD) : W10 m ρ c (Proc.devRef .tc main_v18_1) = fun i : S4096x1024.Idx => fDp (xq m c) (xpm m c) (xwp m c) (xwo m c) (xdh m c) (i 0) (i 1) :=
  (((((W10_of m ρ c main_v18_1 (by decide +kernel)).trans (W9_of m ρ c main_v18_1 (by decide +kernel))).trans (W8_of m ρ c main_v18_1 (by decide +kernel))).trans (W7_of m ρ c main_v18_1 (by decide +kernel))).trans (W6_of m ρ c main_v18_1 (by decide +kernel))).trans (v18_1_eq m ρ c)

/-- It stands at the end of the run. -/
theorem v18_2_end (c : Dev nD) : W10 m ρ c (Proc.devRef .tc main_v18_2) = fun i : S4096x1024.Idx => fDs (xq m c) (xy m c) (xwv m c) (xwg m c) (xwo m c) (xdh m c) (i 0) (i 1) :=
  (((((W10_of m ρ c main_v18_2 (by decide +kernel)).trans (W9_of m ρ c main_v18_2 (by decide +kernel))).trans (W8_of m ρ c main_v18_2 (by decide +kernel))).trans (W7_of m ρ c main_v18_2 (by decide +kernel))).trans (W6_of m ρ c main_v18_2 (by decide +kernel))).trans (v18_2_eq m ρ c)

/-- It stands at the end of the run. -/
theorem v22_end (c : Dev nD) : W10 m ρ c (Proc.devRef .tc main_v22) = fun i : S4096x256.Idx => fDy (xq m c) (xy m c) (xwv m c) (xwg m c) (xwo m c) (xdh m c) (i 0) (i 1) :=
  (W10_of m ρ c main_v22 (by decide +kernel)).trans (v22_eq m ρ c)

/-- It stands at the end of the run. -/
theorem v19_end (c : Dev nD) : W10 m ρ c (Proc.devRef .tc main_v19) = fun i : S1024x512.Idx => fDwp (xq m c) (xpm m c) (xwo m c) (xdh m c) (i 0) (i 1) :=
  ((((W10_of m ρ c main_v19 (by decide +kernel)).trans (W9_of m ρ c main_v19 (by decide +kernel))).trans (W8_of m ρ c main_v19 (by decide +kernel))).trans (W7_of m ρ c main_v19 (by decide +kernel))).trans (v19_eq m ρ c)

/-- It stands at the end of the run. -/
theorem v20_end (c : Dev nD) : W10 m ρ c (Proc.devRef .tc main_v20) = fun i : S1024x256.Idx => fDwv (xq m c) (xy m c) (xwg m c) (xwo m c) (xdh m c) (i 0) (i 1) :=
  (((W10_of m ρ c main_v20 (by decide +kernel)).trans (W9_of m ρ c main_v20 (by decide +kernel))).trans (W8_of m ρ c main_v20 (by decide +kernel))).trans (v20_eq m ρ c)

/-- It stands at the end of the run. -/
theorem v21_end (c : Dev nD) : W10 m ρ c (Proc.devRef .tc main_v21) = fun i : S1024x256.Idx => fDwg (xq m c) (xy m c) (xwv m c) (xwg m c) (xwo m c) (xdh m c) (i 0) (i 1) :=
  ((W10_of m ρ c main_v21 (by decide +kernel)).trans (W9_of m ρ c main_v21 (by decide +kernel))).trans (v21_eq m ρ c)

/-- It stands at the end of the run. -/
theorem v17_end (c : Dev nD) : W10 m ρ c (Proc.devRef .tc main_v17) = fun i : S1024x1024.Idx => fDwo (xq m c) (xpm m c) (xy m c) (xwp m c) (xwv m c) (xwg m c) (xdh m c) (i 0) (i 1) :=
  ((((((W10_of m ρ c main_v17 (by decide +kernel)).trans (W9_of m ρ c main_v17 (by decide +kernel))).trans (W8_of m ρ c main_v17 (by decide +kernel))).trans (W7_of m ρ c main_v17 (by decide +kernel))).trans (W6_of m ρ c main_v17 (by decide +kernel))).trans (W5_of m ρ c main_v17 (by decide +kernel))).trans (v17_eq m ρ c)

end Cert.Kernel3Ideal.Mix
-- ==== Proof.MixRun.lean ====
module

public import proofs.«01_k».proof.Proof.MixChain

@[expose] public section

set_option maxRecDepth 16384

noncomputable section

namespace Cert.Kernel3Ideal.Mix

open Cert.Kernel3Ideal Cert.Kernel3Ideal.Gen Cert.MixSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

-- `θ_run_regions_kit_sems`'s implicit arguments are found by unifying its conclusion with this one, which takes unfolding
-- plain definitions in a metavariable's type
set_option backward.isDefEq.respectTransparency.types false in
/-- The run with every result array named: each at its formula of the arguments, the arguments as they were, every counter at zero. -/
theorem run : θ_run defs (onTc (τ := τ) (main (F := Ideal))) ⟨m, fun _ => 0, ρ⟩ (fun r => (∀ c : Dev nD,
      r.2.mem ((c.tc : Thread nD τ).loc main_v16) = (fun i : S4096x1024.Idx => fH (xh m c) (xq m c) (xpm m c) (xy m c) (xwp m c) (xwv m c) (xwg m c) (xwo m c) (i 0) (i 1)) ∧
      r.2.mem ((c.tc : Thread nD τ).loc main_v18_1) = (fun i : S4096x1024.Idx => fDp (xq m c) (xpm m c) (xwp m c) (xwo m c) (xdh m c) (i 0) (i 1)) ∧
      r.2.mem ((c.tc : Thread nD τ).loc main_v18_2) = (fun i : S4096x1024.Idx => fDs (xq m c) (xy m c) (xwv m c) (xwg m c) (xwo m c) (xdh m c) (i 0) (i 1)) ∧
      r.2.mem ((c.tc : Thread nD τ).loc main_v23) = (fun i : S4096x512.Idx => fDpm (xq m c) (xwp m c) (xwo m c) (xdh m c) (i 0) (i 1)) ∧
      r.2.mem ((c.tc : Thread nD τ).loc main_v22) = (fun i : S4096x256.Idx => fDy (xq m c) (xy m c) (xwv m c) (xwg m c) (xwo m c) (xdh m c) (i 0) (i 1)) ∧
      r.2.mem ((c.tc : Thread nD τ).loc main_v19) = (fun i : S1024x512.Idx => fDwp (xq m c) (xpm m c) (xwo m c) (xdh m c) (i 0) (i 1)) ∧
      r.2.mem ((c.tc : Thread nD τ).loc main_v20) = (fun i : S1024x256.Idx => fDwv (xq m c) (xy m c) (xwg m c) (xwo m c) (xdh m c) (i 0) (i 1)) ∧
      r.2.mem ((c.tc : Thread nD τ).loc main_v21) = (fun i : S1024x256.Idx => fDwg (xq m c) (xy m c) (xwv m c) (xwg m c) (xwo m c) (xdh m c) (i 0) (i 1)) ∧
      r.2.mem ((c.tc : Thread nD τ).loc main_v17) = (fun i : S1024x1024.Idx => fDwo (xq m c) (xpm m c) (xy m c) (xwp m c) (xwv m c) (xwg m c) (xdh m c) (i 0) (i 1)) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨(fun c =>
      ⟨(h c _ (mem_uc main_v16 (by decide))).trans (v16_end m ρ c),
       (h c _ (mem_uc main_v18_1 (by decide))).trans (v18_1_end m ρ c),
       (h c _ (mem_uc main_v18_2 (by decide))).trans (v18_2_end m ρ c),
       (h c _ (mem_uc main_v23 (by decide))).trans (v23_eq m ρ c),
       (h c _ (mem_uc main_v22 (by decide))).trans (v22_end m ρ c),
       (h c _ (mem_uc main_v19 (by decide))).trans (v19_end m ρ c),
       (h c _ (mem_uc main_v20 (by decide))).trans (v20_end m ρ c),
       (h c _ (mem_uc main_v21 (by decide))).trans (v21_end m ρ c),
       (h c _ (mem_uc main_v17 (by decide))).trans (v17_end m ρ c),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩), funext fun g => hz g (.inr (no_unscoped g.2))⟩)

end Cert.Kernel3Ideal.Mix
-- ==== Proof.MixRef.lean ====
module

public import proofs.«01_k».proof.Proof.Gen.Reference3Ideal.Read
public import proofs.«01_k».proof.Proof.FfnPlain
public import proofs.«01_k».proof.Proof.MixSpec

@[expose] public section

set_option maxRecDepth 16384

noncomputable section

namespace Cert.MixSpec

open Idealize.ShloMosaic Cert.FfnSpec

/-- The inner gate's cotangent with its factors as the reference groups them. -/
theorem dg_eq (d s v g : EReal) : dg d s v g
    = v * (Ideal.logistic s * d) * (Ideal.logistic g * (Ideal.ofBits FTy.f32 1065353216#32 - Ideal.logistic g)) := by
  unfold dg
  ac_rfl

/-- A product of two rows does not mind their order. -/
theorem dot_comm {n : ℕ} (x y : Fin n → EReal) : dot x y = dot y x := Finset.sum_congr rfl fun k _ => mul_comm _ _

end Cert.MixSpec

namespace Cert.Reference3Ideal.Mix

open Cert.Reference3Ideal Cert.Reference3Ideal.Read Cert.MixSpec Idealize.ShloMosaic Idealize.ShloMosaic.TcCoe Idealize.SL.Sem
open Cert.FfnSpec (mat dot one_real)

variable (x0 : FVec Ideal S4096x1024 .f32) (x1 : FVec Ideal S4096x2816 .f32) (x2 : FVec Ideal S4096x512 .bf16) (x3 : FVec Ideal S4096x256 .f32)
  (x4 : FVec Ideal S1024x512 .bf16) (x5 x6 : FVec Ideal S1024x256 .bf16) (x7 : FVec Ideal S1024x1024 .bf16) (x8 : FVec Ideal S4096x1024 .f32)

/-- The pooled mixer's gates, cut out of the projected rows. -/
theorem r0 (r : Fin 4096) (j : Fin 1024) :
    val_main_v0 (F := Ideal) x1 (ix2 r j) = mat ix2 x1 r (gpAt j) := by
  unfold mat gpAt
  pointwise [val_main_v0]

/-- The state mixer's gates, cut out of the projected rows. -/
theorem r1 (r : Fin 4096) (j : Fin 1024) :
    val_main_v1 (F := Ideal) x1 (ix2 r j) = mat ix2 x1 r (gsAt j) := by
  unfold mat gsAt
  pointwise [val_main_v1]

/-- The tangent inside the activation. -/
theorem r21 (r : Fin 4096) (k : Fin 256) :
    val_main_v21 (F := Ideal) x3 (ix2 r k) = th (mat ix2 x3 r k) := by
  unfold th
  rw [show mat ix2 x3 r k * (mat ix2 x3 r k * mat ix2 x3 r k) = mat ix2 x3 r k * mat ix2 x3 r k * mat ix2 x3 r k from (mul_assoc _ _ _).symm]
  unfold mat
  pointwise [val_main_v11, val_main_v12, val_main_cst_0, val_main_v16, val_main_v17, val_main_v18, val_main_cst_1, val_main_v19, val_main_v20, val_main_v21]

/-- Half of one and the tangent. -/
theorem r30 (r : Fin 4096) (k : Fin 256) :
    val_main_v30 (F := Ideal) x3 (ix2 r k) = Ideal.ofBits FTy.f32 1056964608#32 * (Ideal.ofBits FTy.f32 1065353216#32 + th (mat ix2 x3 r k)) := by
  rw [← r21]
  unfold val_main_v30 val_main_v28
  generalize val_main_v21 (F := Ideal) x3 = w21
  pointwise [val_main_cst_4, val_main_v27, val_main_cst_5, val_main_v29]

/-- The activated output of the state mixer. -/
theorem r31 (r : Fin 4096) (k : Fin 256) :
    val_main_v31 (F := Ideal) x3 (ix2 r k) = fY (mat ix2 x3) r k := by
  unfold fY gelu
  rw [← r30]
  unfold val_main_v31
  generalize val_main_v30 (F := Ideal) x3 = w30
  unfold mat
  pointwise []

/-- The pooled mixer's product. -/
theorem r10 (r : Fin 4096) (j : Fin 1024) :
    val_main_v10 (F := Ideal) x2 x4 (ix2 r j) = fP (mat ix2 x2) (mat ix2 x4) r j := by
  unfold fP dot mat
  pointwise [val_main_v2, val_main_v3, val_main_v4, val_main_v10]

/-- The state mixer's product with the value projection. -/
theorem r32 (r : Fin 4096) (j : Fin 1024) :
    val_main_v32 (F := Ideal) x3 x5 (ix2 r j) = fS (mat ix2 x3) (mat ix2 x5) r j := by
  have e : fY (mat ix2 x3) r = fun k => (show EReal from val_main_v31 (F := Ideal) x3 (ix2 r k)) := funext fun k => (r31 x3 r k).symm
  unfold fS dot
  rw [e]
  unfold mat
  unfold val_main_v32
  generalize val_main_v31 (F := Ideal) x3 = w31
  pointwise [val_main_v5, val_main_v6]

/-- The state mixer's product with the inner gate projection. -/
theorem r33 (r : Fin 4096) (j : Fin 1024) :
    val_main_v33 (F := Ideal) x3 x6 (ix2 r j) = fS (mat ix2 x3) (mat ix2 x6) r j := by
  have e : fY (mat ix2 x3) r = fun k => (show EReal from val_main_v31 (F := Ideal) x3 (ix2 r k)) := funext fun k => (r31 x3 r k).symm
  unfold fS dot
  rw [e]
  unfold mat
  unfold val_main_v33
  generalize val_main_v31 (F := Ideal) x3 = w31
  pointwise [val_main_v7, val_main_v8]

/-- The inner gate's sigmoid. -/
theorem r39 (r : Fin 4096) (j : Fin 1024) :
    val_main_v39 (F := Ideal) x3 x6 (ix2 r j) = Ideal.logistic (fS (mat ix2 x3) (mat ix2 x6) r j) := by
  rw [← r33]
  unfold val_main_v39 val_main_v37 val_main_v35 val_main_v34
  generalize val_main_v33 (F := Ideal) x3 x6 = w33
  unfold Ideal.logistic
  pointwise [val_main_cst_6, val_main_v36, val_main_cst_7, val_main_v38, one_real, EReal.coe_one]

/-- The pooled mixer's gate's sigmoid. -/
theorem r49 (r : Fin 4096) (j : Fin 1024) :
    val_main_v49 (F := Ideal) x1 (ix2 r j) = Ideal.logistic (mat ix2 x1 r (gpAt j)) := by
  rw [← r0]
  unfold val_main_v49 val_main_v47 val_main_v45 val_main_v44
  generalize val_main_v0 (F := Ideal) x1 = w0
  unfold Ideal.logistic
  pointwise [val_main_cst_9, val_main_v46, val_main_cst_10, val_main_v48, one_real, EReal.coe_one]

/-- The state mixer's gate's sigmoid. -/
theorem r59 (r : Fin 4096) (j : Fin 1024) :
    val_main_v59 (F := Ideal) x1 (ix2 r j) = Ideal.logistic (mat ix2 x1 r (gsAt j)) := by
  rw [← r1]
  unfold val_main_v59 val_main_v57 val_main_v55 val_main_v54
  generalize val_main_v1 (F := Ideal) x1 = w1
  unfold Ideal.logistic
  pointwise [val_main_cst_12, val_main_v56, val_main_cst_13, val_main_v58, one_real, EReal.coe_one]

/-- The value through its inner gate. -/
theorem r43 (r : Fin 4096) (j : Fin 1024) :
    val_main_v43 (F := Ideal) x3 x5 x6 (ix2 r j) = fS (mat ix2 x3) (mat ix2 x5) r j * Ideal.logistic (fS (mat ix2 x3) (mat ix2 x6) r j) := by
  rw [← r32, ← r39]
  unfold val_main_v43
  generalize val_main_v32 (F := Ideal) x3 x5 = w32
  generalize val_main_v39 (F := Ideal) x3 x6 = w39
  pointwise []

/-- The merged rows. -/
theorem r64 (r : Fin 4096) (j : Fin 1024) :
    val_main_v64 (F := Ideal) x1 x2 x3 x4 x5 x6 (ix2 r j) = fM (mat ix2 x1) (mat ix2 x2) (mat ix2 x3) (mat ix2 x4) (mat ix2 x5) (mat ix2 x6) r j := by
  unfold fM merge
  rw [← r43, ← r49, ← r59, ← r10]
  unfold val_main_v64 val_main_v63 val_main_v53
  generalize val_main_v43 (F := Ideal) x3 x5 x6 = w43
  generalize val_main_v49 (F := Ideal) x1 = w49
  generalize val_main_v59 (F := Ideal) x1 = w59
  generalize val_main_v10 (F := Ideal) x2 x4 = w10
  pointwise []

/-- The sublayer's output. -/
theorem r66 (r : Fin 4096) (l : Fin 1024) :
    val_main_v66 (F := Ideal) x0 x1 x2 x3 x4 x5 x6 x7 (ix2 r l) = fH (mat ix2 x0) (mat ix2 x1) (mat ix2 x2) (mat ix2 x3) (mat ix2 x4) (mat ix2 x5) (mat ix2 x6) (mat ix2 x7) r l := by
  have e : fM (mat ix2 x1) (mat ix2 x2) (mat ix2 x3) (mat ix2 x4) (mat ix2 x5) (mat ix2 x6) r = fun j => (show EReal from val_main_v64 (F := Ideal) x1 x2 x3 x4 x5 x6 (ix2 r j)) := funext fun j => (r64 x1 x2 x3 x4 x5 x6 r j).symm
  unfold fH dot
  rw [e]
  unfold mat
  unfold val_main_v66 val_main_v65
  generalize val_main_v64 (F := Ideal) x1 x2 x3 x4 x5 x6 = w64
  pointwise [val_main_v9]

/-- The merged rows' cotangent. -/
theorem r70 (r : Fin 4096) (j : Fin 1024) :
    val_main_v70 (F := Ideal) x7 x8 (ix2 r j) = fD (mat ix2 x7) (mat ix2 x8) r j := by
  unfold fD dot mat
  pointwise [val_main_v9, val_main_v67, val_main_v70]

/-- The pooled products' cotangent. -/
theorem r74 (r : Fin 4096) (j : Fin 1024) :
    val_main_v74 (F := Ideal) x1 x7 x8 (ix2 r j) = fDz (mat ix2 x1) (mat ix2 x7) (mat ix2 x8) r j := by
  unfold fDz dz
  rw [← r70, ← r49, mul_comm]
  unfold val_main_v74
  generalize val_main_v70 (F := Ideal) x7 x8 = w70
  generalize val_main_v49 (F := Ideal) x1 = w49
  pointwise []

/-- The pooled mixer's gates' cotangent. -/
theorem r76 (r : Fin 4096) (j : Fin 1024) :
    val_main_v76 (F := Ideal) x1 x2 x4 x7 x8 (ix2 r j) = fDp (mat ix2 x1) (mat ix2 x2) (mat ix2 x4) (mat ix2 x7) (mat ix2 x8) r j := by
  unfold fDp dp
  rw [← r70, ← r49, ← r10]
  unfold val_main_v76 val_main_v75 val_main_v52 val_main_v51
  generalize val_main_v70 (F := Ideal) x7 x8 = w70
  generalize val_main_v49 (F := Ideal) x1 = w49
  generalize val_main_v10 (F := Ideal) x2 x4 = w10
  pointwise [val_main_cst_11, val_main_v50]

/-- The state mixer's gates' cotangent. -/
theorem r73 (r : Fin 4096) (j : Fin 1024) :
    val_main_v73 (F := Ideal) x1 x3 x5 x6 x7 x8 (ix2 r j) = fDs (mat ix2 x1) (mat ix2 x3) (mat ix2 x5) (mat ix2 x6) (mat ix2 x7) (mat ix2 x8) r j := by
  unfold fDs ds
  rw [← r43, ← r70, ← r59]
  unfold val_main_v73 val_main_v72 val_main_v62 val_main_v61
  generalize val_main_v43 (F := Ideal) x3 x5 x6 = w43
  generalize val_main_v70 (F := Ideal) x7 x8 = w70
  generalize val_main_v59 (F := Ideal) x1 = w59
  pointwise [val_main_cst_14, val_main_v60]

/-- The value products' cotangent. -/
theorem r78 (r : Fin 4096) (j : Fin 1024) :
    val_main_v78 (F := Ideal) x1 x3 x6 x7 x8 (ix2 r j) = fDv (mat ix2 x1) (mat ix2 x3) (mat ix2 x6) (mat ix2 x7) (mat ix2 x8) r j := by
  unfold fDv dv
  rw [mul_comm (fD (mat ix2 x7) (mat ix2 x8) r j)]
  rw [← r70, ← r59, ← r39]
  unfold val_main_v78 val_main_v71
  generalize val_main_v70 (F := Ideal) x7 x8 = w70
  generalize val_main_v59 (F := Ideal) x1 = w59
  generalize val_main_v39 (F := Ideal) x3 x6 = w39
  pointwise []

/-- The inner gate products' cotangent. -/
theorem r79 (r : Fin 4096) (j : Fin 1024) :
    val_main_v79 (F := Ideal) x1 x3 x5 x6 x7 x8 (ix2 r j) = fDg (mat ix2 x1) (mat ix2 x3) (mat ix2 x5) (mat ix2 x6) (mat ix2 x7) (mat ix2 x8) r j := by
  unfold fDg
  rw [dg_eq, ← r70, ← r59, ← r39, ← r32]
  unfold val_main_v79 val_main_v77 val_main_v71 val_main_v42 val_main_v41
  generalize val_main_v70 (F := Ideal) x7 x8 = w70
  generalize val_main_v59 (F := Ideal) x1 = w59
  generalize val_main_v39 (F := Ideal) x3 x6 = w39
  generalize val_main_v32 (F := Ideal) x3 x5 = w32
  pointwise [val_main_cst_8, val_main_v40]

/-- The output projection's gradient. -/
theorem r110 (j : Fin 1024) (l : Fin 1024) :
    val_main_v110 (F := Ideal) x1 x2 x3 x4 x5 x6 x8 (ix2 j l) = fDwo (mat ix2 x1) (mat ix2 x2) (mat ix2 x3) (mat ix2 x4) (mat ix2 x5) (mat ix2 x6) (mat ix2 x8) j l := by
  have e : fM (mat ix2 x1) (mat ix2 x2) (mat ix2 x3) (mat ix2 x4) (mat ix2 x5) (mat ix2 x6) = fun r j => (show EReal from val_main_v64 (F := Ideal) x1 x2 x3 x4 x5 x6 (ix2 r j)) := funext fun r => funext fun j => (r64 x1 x2 x3 x4 x5 x6 r j).symm
  unfold fDwo
  rw [dot_comm]
  unfold dot
  rw [e]
  unfold mat
  unfold val_main_v110 val_main_v69 val_main_v68
  generalize val_main_v64 (F := Ideal) x1 x2 x3 x4 x5 x6 = w64
  pointwise [val_main_v67]

/-- The pooled projection's gradient. -/
theorem r105 (j : Fin 1024) (k : Fin 512) :
    val_main_v105 (F := Ideal) x1 x2 x7 x8 (ix2 j k) = fDwp (mat ix2 x1) (mat ix2 x2) (mat ix2 x7) (mat ix2 x8) j k := by
  have e : fDz (mat ix2 x1) (mat ix2 x7) (mat ix2 x8) = fun r j => (show EReal from val_main_v74 (F := Ideal) x1 x7 x8 (ix2 r j)) := funext fun r => funext fun j => (r74 x1 x7 x8 r j).symm
  unfold fDwp dot
  rw [e]
  unfold mat
  unfold val_main_v105 val_main_v104 val_main_v100 val_main_v99
  generalize val_main_v74 (F := Ideal) x1 x7 x8 = w74
  pointwise [val_main_v2]

/-- The value projection's gradient. -/
theorem r107 (j : Fin 1024) (k : Fin 256) :
    val_main_v107 (F := Ideal) x1 x3 x6 x7 x8 (ix2 j k) = fDwv (mat ix2 x1) (mat ix2 x3) (mat ix2 x6) (mat ix2 x7) (mat ix2 x8) j k := by
  have e : fDv (mat ix2 x1) (mat ix2 x3) (mat ix2 x6) (mat ix2 x7) (mat ix2 x8) = fun r j => (show EReal from val_main_v78 (F := Ideal) x1 x3 x6 x7 x8 (ix2 r j)) := funext fun r => funext fun j => (r78 x1 x3 x6 x7 x8 r j).symm
  have e' : fY (mat ix2 x3) = fun r k => (show EReal from val_main_v31 (F := Ideal) x3 (ix2 r k)) := funext fun r => funext fun k => (r31 x3 r k).symm
  unfold fDwv dot
  rw [e, e']
  unfold val_main_v107 val_main_v106 val_main_v84 val_main_v83
  generalize val_main_v78 (F := Ideal) x1 x3 x6 x7 x8 = w78
  generalize val_main_v31 (F := Ideal) x3 = w31
  pointwise []

/-- The inner gate projection's gradient. -/
theorem r109 (j : Fin 1024) (k : Fin 256) :
    val_main_v109 (F := Ideal) x1 x3 x5 x6 x7 x8 (ix2 j k) = fDwg (mat ix2 x1) (mat ix2 x3) (mat ix2 x5) (mat ix2 x6) (mat ix2 x7) (mat ix2 x8) j k := by
  have e : fDg (mat ix2 x1) (mat ix2 x3) (mat ix2 x5) (mat ix2 x6) (mat ix2 x7) (mat ix2 x8) = fun r j => (show EReal from val_main_v79 (F := Ideal) x1 x3 x5 x6 x7 x8 (ix2 r j)) := funext fun r => funext fun j => (r79 x1 x3 x5 x6 x7 x8 r j).symm
  have e' : fY (mat ix2 x3) = fun r k => (show EReal from val_main_v31 (F := Ideal) x3 (ix2 r k)) := funext fun r => funext fun k => (r31 x3 r k).symm
  unfold fDwg dot
  rw [e, e']
  unfold val_main_v109 val_main_v108 val_main_v81 val_main_v80
  generalize val_main_v79 (F := Ideal) x1 x3 x5 x6 x7 x8 = w79
  generalize val_main_v31 (F := Ideal) x3 = w31
  pointwise []

/-- The pooled mixer's output's cotangent. -/
theorem r101 (r : Fin 4096) (k : Fin 512) :
    val_main_v101 (F := Ideal) x1 x4 x7 x8 (ix2 r k) = fDpm (mat ix2 x1) (mat ix2 x4) (mat ix2 x7) (mat ix2 x8) r k := by
  have e : fDz (mat ix2 x1) (mat ix2 x7) (mat ix2 x8) r = fun j => (show EReal from val_main_v74 (F := Ideal) x1 x7 x8 (ix2 r j)) := funext fun j => (r74 x1 x7 x8 r j).symm
  unfold fDpm dot
  rw [e]
  unfold mat
  unfold val_main_v101
  generalize val_main_v74 (F := Ideal) x1 x7 x8 = w74
  pointwise [val_main_v3, val_main_v4]

/-- The activation's cotangent, as the two products give it. -/
theorem r86 (r : Fin 4096) (k : Fin 256) :
    val_main_v86 (F := Ideal) x1 x3 x5 x6 x7 x8 (ix2 r k) = dot (fDv (mat ix2 x1) (mat ix2 x3) (mat ix2 x6) (mat ix2 x7) (mat ix2 x8) r) (fun j => mat ix2 x5 j k) + dot (fDg (mat ix2 x1) (mat ix2 x3) (mat ix2 x5) (mat ix2 x6) (mat ix2 x7) (mat ix2 x8) r) fun j => mat ix2 x6 j k := by
  have e : fDv (mat ix2 x1) (mat ix2 x3) (mat ix2 x6) (mat ix2 x7) (mat ix2 x8) r = fun j => (show EReal from val_main_v78 (F := Ideal) x1 x3 x6 x7 x8 (ix2 r j)) := funext fun j => (r78 x1 x3 x6 x7 x8 r j).symm
  have e' : fDg (mat ix2 x1) (mat ix2 x3) (mat ix2 x5) (mat ix2 x6) (mat ix2 x7) (mat ix2 x8) r = fun j => (show EReal from val_main_v79 (F := Ideal) x1 x3 x5 x6 x7 x8 (ix2 r j)) := funext fun j => (r79 x1 x3 x5 x6 x7 x8 r j).symm
  unfold dot
  rw [e, e', add_comm]
  unfold mat
  unfold val_main_v86 val_main_v82 val_main_v85
  generalize val_main_v78 (F := Ideal) x1 x3 x6 x7 x8 = w78
  generalize val_main_v79 (F := Ideal) x1 x3 x5 x6 x7 x8 = w79
  pointwise [val_main_v5, val_main_v6, val_main_v7, val_main_v8]

/-- The state mixer's output's cotangent. -/
theorem r98 (r : Fin 4096) (k : Fin 256) :
    val_main_v98 (F := Ideal) x1 x3 x5 x6 x7 x8 (ix2 r k) = fDy (mat ix2 x1) (mat ix2 x3) (mat ix2 x5) (mat ix2 x6) (mat ix2 x7) (mat ix2 x8) r k := by
  unfold fDy dgelu through
  rw [← r86, ← r30, ← r21]
  unfold mat
  unfold val_main_v98 val_main_v97 val_main_v96 val_main_v94 val_main_v93 val_main_v91 val_main_v90 val_main_v88 val_main_v87 val_main_v26 val_main_v25 val_main_v23
  generalize val_main_v86 (F := Ideal) x1 x3 x5 x6 x7 x8 = w86
  generalize val_main_v30 (F := Ideal) x3 = w30
  generalize val_main_v21 (F := Ideal) x3 = w21
  pointwise [val_main_v13, val_main_cst, val_main_v14, val_main_v15, val_main_cst_2, val_main_v22, val_main_cst_3, val_main_v24, val_main_cst_15, val_main_v89, val_main_cst_16, val_main_v92, val_main_cst_17, val_main_v95]

/-- The pooled mixer's gates' cotangent, in the narrower array. -/
theorem r102 (r : Fin 4096) (j : Fin 1024) :
    val_main_v102 (F := Ideal) x1 x2 x4 x7 x8 (ix2 r j) = fDp (mat ix2 x1) (mat ix2 x2) (mat ix2 x4) (mat ix2 x7) (mat ix2 x8) r j := by
  rw [← r76]
  unfold val_main_v102
  generalize val_main_v76 (F := Ideal) x1 x2 x4 x7 x8 = w76
  pointwise []

/-- The state mixer's gates' cotangent, in the narrower array. -/
theorem r103 (r : Fin 4096) (j : Fin 1024) :
    val_main_v103 (F := Ideal) x1 x3 x5 x6 x7 x8 (ix2 r j) = fDs (mat ix2 x1) (mat ix2 x3) (mat ix2 x5) (mat ix2 x6) (mat ix2 x7) (mat ix2 x8) r j := by
  rw [← r73]
  unfold val_main_v103
  generalize val_main_v73 (F := Ideal) x1 x3 x5 x6 x7 x8 = w73
  pointwise []

end Cert.Reference3Ideal.Mix
-- ==== Proof.MixRefRun.lean ====
module

public import proofs.«01_k».proof.Proof.MixRef
public import proofs.«01_k».proof.Proof.Gen.Reference3Ideal.Run

@[expose] public section

set_option maxRecDepth 16384

noncomputable section

namespace Cert.Reference3Ideal.Mix

open Cert.Reference3Ideal Cert.Reference3Ideal.Read Cert.MixSpec Idealize.ShloMosaic Idealize.ShloMosaic.TcCoe Idealize.SL.Sem
open Cert.FfnSpec (mat dot)

variable (m : (ℓ : Loc nD τ sig) → Buf (Elt Ideal) ℓ) (ρ : Dev nD → PrngReg)

/-- The reference's arguments on a device, as functions of row and column. -/
abbrev yh (c : Dev nD) : Fin 4096 → Fin 1024 → EReal := mat (s := S4096x1024) (t := .f32) ix2 (m ((c.tc : Thread nD τ).loc main_arg0))
@[inherit_doc yh] abbrev yq (c : Dev nD) : Fin 4096 → Fin 2816 → EReal := mat (s := S4096x2816) (t := .f32) ix2 (m ((c.tc : Thread nD τ).loc main_arg1))
@[inherit_doc yh] abbrev ypm (c : Dev nD) : Fin 4096 → Fin 512 → EReal := mat (s := S4096x512) (t := .bf16) ix2 (m ((c.tc : Thread nD τ).loc main_arg2))
@[inherit_doc yh] abbrev yy (c : Dev nD) : Fin 4096 → Fin 256 → EReal := mat (s := S4096x256) (t := .f32) ix2 (m ((c.tc : Thread nD τ).loc main_arg3))
@[inherit_doc yh] abbrev ywp (c : Dev nD) : Fin 1024 → Fin 512 → EReal := mat (s := S1024x512) (t := .bf16) ix2 (m ((c.tc : Thread nD τ).loc main_arg4))
@[inherit_doc yh] abbrev ywv (c : Dev nD) : Fin 1024 → Fin 256 → EReal := mat (s := S1024x256) (t := .bf16) ix2 (m ((c.tc : Thread nD τ).loc main_arg5))
@[inherit_doc yh] abbrev ywg (c : Dev nD) : Fin 1024 → Fin 256 → EReal := mat (s := S1024x256) (t := .bf16) ix2 (m ((c.tc : Thread nD τ).loc main_arg6))
@[inherit_doc yh] abbrev ywo (c : Dev nD) : Fin 1024 → Fin 1024 → EReal := mat (s := S1024x1024) (t := .bf16) ix2 (m ((c.tc : Thread nD τ).loc main_arg7))
@[inherit_doc yh] abbrev ydh (c : Dev nD) : Fin 4096 → Fin 1024 → EReal := mat (s := S4096x1024) (t := .f32) ix2 (m ((c.tc : Thread nD τ).loc main_arg8))

/-- What the reference leaves in one of its results, over the arguments' arrays. -/
theorem v66_end (c : Dev nD) : val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun i : S4096x1024.Idx => fH (yh m c) (yq m c) (ypm m c) (yy m c) (ywp m c) (ywv m c) (ywg m c) (ywo m c) (i 0) (i 1) :=
  funext fun i => (congrArg _ (eq_ix2 i)).trans (r66 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (i 0) (i 1))

/-- What the reference leaves in one of its results, over the arguments' arrays. -/
theorem v102_end (c : Dev nD) : val_main_v102 (F := Ideal) (m ((c.tc : Thread nD τ).loc main_arg1)) (m ((c.tc : Thread nD τ).loc main_arg2)) (m ((c.tc : Thread nD τ).loc main_arg4)) (m ((c.tc : Thread nD τ).loc main_arg7)) (m ((c.tc : Thread nD τ).loc main_arg8)) = fun i : S4096x1024.Idx => fDp (yq m c) (ypm m c) (ywp m c) (ywo m c) (ydh m c) (i 0) (i 1) :=
  funext fun i => (congrArg _ (eq_ix2 i)).trans (r102 (m ((c.tc : Thread nD τ).loc main_arg1)) (m ((c.tc : Thread nD τ).loc main_arg2)) (m ((c.tc : Thread nD τ).loc main_arg4)) (m ((c.tc : Thread nD τ).loc main_arg7)) (m ((c.tc : Thread nD τ).loc main_arg8)) (i 0) (i 1))

/-- What the reference leaves in one of its results, over the arguments' arrays. -/
theorem v103_end (c : Dev nD) : val_main_v103 (F := Ideal) (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) = fun i : S4096x1024.Idx => fDs (yq m c) (yy m c) (ywv m c) (ywg m c) (ywo m c) (ydh m c) (i 0) (i 1) :=
  funext fun i => (congrArg _ (eq_ix2 i)).trans (r103 (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (i 0) (i 1))

/-- What the reference leaves in one of its results, over the arguments' arrays. -/
theorem v101_end (c : Dev nD) : val_main_v101 (F := Ideal) (m ((c.tc : Thread nD τ).loc main_arg1)) (m ((c.tc : Thread nD τ).loc main_arg4)) (m ((c.tc : Thread nD τ).loc main_arg7)) (m ((c.tc : Thread nD τ).loc main_arg8)) = fun i : S4096x512.Idx => fDpm (yq m c) (ywp m c) (ywo m c) (ydh m c) (i 0) (i 1) :=
  funext fun i => (congrArg _ (eq_ix2 i)).trans (r101 (m ((c.tc : Thread nD τ).loc main_arg1)) (m ((c.tc : Thread nD τ).loc main_arg4)) (m ((c.tc : Thread nD τ).loc main_arg7)) (m ((c.tc : Thread nD τ).loc main_arg8)) (i 0) (i 1))

/-- What the reference leaves in one of its results, over the arguments' arrays. -/
theorem v98_end (c : Dev nD) : val_main_v98 (F := Ideal) (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) = fun i : S4096x256.Idx => fDy (yq m c) (yy m c) (ywv m c) (ywg m c) (ywo m c) (ydh m c) (i 0) (i 1) :=
  funext fun i => (congrArg _ (eq_ix2 i)).trans (r98 (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (i 0) (i 1))

/-- What the reference leaves in one of its results, over the arguments' arrays. -/
theorem v105_end (c : Dev nD) : val_main_v105 (F := Ideal) (m ((c.tc : Thread nD τ).loc main_arg1)) (m ((c.tc : Thread nD τ).loc main_arg2)) (m ((c.tc : Thread nD τ).loc main_arg7)) (m ((c.tc : Thread nD τ).loc main_arg8)) = fun i : S1024x512.Idx => fDwp (yq m c) (ypm m c) (ywo m c) (ydh m c) (i 0) (i 1) :=
  funext fun i => (congrArg _ (eq_ix2 i)).trans (r105 (m ((c.tc : Thread nD τ).loc main_arg1)) (m ((c.tc : Thread nD τ).loc main_arg2)) (m ((c.tc : Thread nD τ).loc main_arg7)) (m ((c.tc : Thread nD τ).loc main_arg8)) (i 0) (i 1))

/-- What the reference leaves in one of its results, over the arguments' arrays. -/
theorem v107_end (c : Dev nD) : val_main_v107 (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)) = fun i : S1024x256.Idx => fDwv (yq m c) (yy m c) (ywg m c) (ywo m c) (ydh m c) (i 0) (i 1) :=
  funext fun i => (congrArg _ (eq_ix2 i)).trans (r107 (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)) (i 0) (i 1))

/-- What the reference leaves in one of its results, over the arguments' arrays. -/
theorem v109_end (c : Dev nD) : val_main_v109 (F := Ideal) (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) = fun i : S1024x256.Idx => fDwg (yq m c) (yy m c) (ywv m c) (ywg m c) (ywo m c) (ydh m c) (i 0) (i 1) :=
  funext fun i => (congrArg _ (eq_ix2 i)).trans (r109 (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (i 0) (i 1))

/-- What the reference leaves in one of its results, over the arguments' arrays. -/
theorem v110_end (c : Dev nD) : val_main_v110 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) = fun i : S1024x1024.Idx => fDwo (yq m c) (ypm m c) (yy m c) (ywp m c) (ywv m c) (ywg m c) (ydh m c) (i 0) (i 1) :=
  funext fun i => (congrArg _ (eq_ix2 i)).trans (r110 (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (i 0) (i 1))

set_option maxHeartbeats 1000000 in
/-- The reference's run, each result at its formula of the arguments. -/
theorem run : θ_run defs (onTc (τ := τ) (main (F := Ideal))) ⟨m, fun _ => 0, ρ⟩ fun r => ∀ c : Dev nD,
      r.2.mem ((c.tc : Thread nD τ).loc main_v66) = (fun i : S4096x1024.Idx => fH (yh m c) (yq m c) (ypm m c) (yy m c) (ywp m c) (ywv m c) (ywg m c) (ywo m c) (i 0) (i 1)) ∧
      r.2.mem ((c.tc : Thread nD τ).loc main_v102) = (fun i : S4096x1024.Idx => fDp (yq m c) (ypm m c) (ywp m c) (ywo m c) (ydh m c) (i 0) (i 1)) ∧
      r.2.mem ((c.tc : Thread nD τ).loc main_v103) = (fun i : S4096x1024.Idx => fDs (yq m c) (yy m c) (ywv m c) (ywg m c) (ywo m c) (ydh m c) (i 0) (i 1)) ∧
      r.2.mem ((c.tc : Thread nD τ).loc main_v101) = (fun i : S4096x512.Idx => fDpm (yq m c) (ywp m c) (ywo m c) (ydh m c) (i 0) (i 1)) ∧
      r.2.mem ((c.tc : Thread nD τ).loc main_v98) = (fun i : S4096x256.Idx => fDy (yq m c) (yy m c) (ywv m c) (ywg m c) (ywo m c) (ydh m c) (i 0) (i 1)) ∧
      r.2.mem ((c.tc : Thread nD τ).loc main_v105) = (fun i : S1024x512.Idx => fDwp (yq m c) (ypm m c) (ywo m c) (ydh m c) (i 0) (i 1)) ∧
      r.2.mem ((c.tc : Thread nD τ).loc main_v107) = (fun i : S1024x256.Idx => fDwv (yq m c) (yy m c) (ywg m c) (ywo m c) (ydh m c) (i 0) (i 1)) ∧
      r.2.mem ((c.tc : Thread nD τ).loc main_v109) = (fun i : S1024x256.Idx => fDwg (yq m c) (yy m c) (ywv m c) (ywg m c) (ywo m c) (ydh m c) (i 0) (i 1)) ∧
      r.2.mem ((c.tc : Thread nD τ).loc main_v110) = (fun i : S1024x1024.Idx => fDwo (yq m c) (ypm m c) (yy m c) (ywp m c) (ywv m c) (ywg m c) (ydh m c) (i 0) (i 1)) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) := by
  refine (θ_run defs _ _).mono (fun r h c => ?_) (Cert.Reference3Ideal.Value.run (F := Ideal) m ρ)
  obtain ⟨hv66, hv102, hv103, hv101, hv98, hv105, hv107, hv109, hv110, hargs⟩ := h c
  exact ⟨hv66.trans ((val_main_v66_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))).trans (v66_end m c)),
    hv102.trans ((val_main_v102_eq (F := Ideal) (m ((c.tc : Thread nD τ).loc main_arg1)) (m ((c.tc : Thread nD τ).loc main_arg2)) (m ((c.tc : Thread nD τ).loc main_arg4)) (m ((c.tc : Thread nD τ).loc main_arg7)) (m ((c.tc : Thread nD τ).loc main_arg8))).trans (v102_end m c)),
    hv103.trans ((val_main_v103_eq (F := Ideal) (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8))).trans (v103_end m c)),
    hv101.trans ((val_main_v101_eq (F := Ideal) (m ((c.tc : Thread nD τ).loc main_arg1)) (m ((c.tc : Thread nD τ).loc main_arg4)) (m ((c.tc : Thread nD τ).loc main_arg7)) (m ((c.tc : Thread nD τ).loc main_arg8))).trans (v101_end m c)),
    hv98.trans ((val_main_v98_eq (F := Ideal) m c).trans (v98_end m c)),
    hv105.trans ((val_main_v105_eq (F := Ideal) (m ((c.tc : Thread nD τ).loc main_arg1)) (m ((c.tc : Thread nD τ).loc main_arg2)) (m ((c.tc : Thread nD τ).loc main_arg7)) (m ((c.tc : Thread nD τ).loc main_arg8))).trans (v105_end m c)),
    hv107.trans ((val_main_v107_eq (F := Ideal) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))).trans (v107_end m c)),
    hv109.trans ((val_main_v109_eq (F := Ideal) m c).trans (v109_end m c)),
    hv110.trans ((val_main_v110_eq (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8))).trans (v110_end m c)), hargs⟩

end Cert.Reference3Ideal.Mix
-- ==== Proof.MixClaim.lean ====
module

public import proofs.«01_k».proof.Defs
public import proofs.«01_k».proof.Proof.MixRun
public import proofs.«01_k».proof.Proof.MixRefRun

@[expose] public section

set_option maxRecDepth 16384

noncomputable section

namespace Cert.Mix

open Cert.MixSpec Idealize.ShloMosaic Idealize.ShloMosaic.TcCoe Idealize.SL.Sem
open Cert.FfnSpec (mat dot)

set_option maxHeartbeats 1000000 in
/-- The kernel's nine results are the reference's. -/
theorem algebraic : Cert.algebraic_Kernel3Ideal_Reference3Ideal := by
  intro m g m' g' _ hagree
  refine ⟨fun c => (fun i : Cert.Kernel3Ideal.S4096x1024.Idx => fH (Cert.Kernel3Ideal.Mix.xh m c) (Cert.Kernel3Ideal.Mix.xq m c) (Cert.Kernel3Ideal.Mix.xpm m c) (Cert.Kernel3Ideal.Mix.xy m c) (Cert.Kernel3Ideal.Mix.xwp m c) (Cert.Kernel3Ideal.Mix.xwv m c) (Cert.Kernel3Ideal.Mix.xwg m c) (Cert.Kernel3Ideal.Mix.xwo m c) (i 0) (i 1)),
    fun c => (fun i : Cert.Kernel3Ideal.S4096x1024.Idx => fDp (Cert.Kernel3Ideal.Mix.xq m c) (Cert.Kernel3Ideal.Mix.xpm m c) (Cert.Kernel3Ideal.Mix.xwp m c) (Cert.Kernel3Ideal.Mix.xwo m c) (Cert.Kernel3Ideal.Mix.xdh m c) (i 0) (i 1)),
    fun c => (fun i : Cert.Kernel3Ideal.S4096x1024.Idx => fDs (Cert.Kernel3Ideal.Mix.xq m c) (Cert.Kernel3Ideal.Mix.xy m c) (Cert.Kernel3Ideal.Mix.xwv m c) (Cert.Kernel3Ideal.Mix.xwg m c) (Cert.Kernel3Ideal.Mix.xwo m c) (Cert.Kernel3Ideal.Mix.xdh m c) (i 0) (i 1)),
    fun c => (fun i : Cert.Kernel3Ideal.S4096x512.Idx => fDpm (Cert.Kernel3Ideal.Mix.xq m c) (Cert.Kernel3Ideal.Mix.xwp m c) (Cert.Kernel3Ideal.Mix.xwo m c) (Cert.Kernel3Ideal.Mix.xdh m c) (i 0) (i 1)),
    fun c => (fun i : Cert.Kernel3Ideal.S4096x256.Idx => fDy (Cert.Kernel3Ideal.Mix.xq m c) (Cert.Kernel3Ideal.Mix.xy m c) (Cert.Kernel3Ideal.Mix.xwv m c) (Cert.Kernel3Ideal.Mix.xwg m c) (Cert.Kernel3Ideal.Mix.xwo m c) (Cert.Kernel3Ideal.Mix.xdh m c) (i 0) (i 1)),
    fun c => (fun i : Cert.Kernel3Ideal.S1024x512.Idx => fDwp (Cert.Kernel3Ideal.Mix.xq m c) (Cert.Kernel3Ideal.Mix.xpm m c) (Cert.Kernel3Ideal.Mix.xwo m c) (Cert.Kernel3Ideal.Mix.xdh m c) (i 0) (i 1)),
    fun c => (fun i : Cert.Kernel3Ideal.S1024x256.Idx => fDwv (Cert.Kernel3Ideal.Mix.xq m c) (Cert.Kernel3Ideal.Mix.xy m c) (Cert.Kernel3Ideal.Mix.xwg m c) (Cert.Kernel3Ideal.Mix.xwo m c) (Cert.Kernel3Ideal.Mix.xdh m c) (i 0) (i 1)),
    fun c => (fun i : Cert.Kernel3Ideal.S1024x256.Idx => fDwg (Cert.Kernel3Ideal.Mix.xq m c) (Cert.Kernel3Ideal.Mix.xy m c) (Cert.Kernel3Ideal.Mix.xwv m c) (Cert.Kernel3Ideal.Mix.xwg m c) (Cert.Kernel3Ideal.Mix.xwo m c) (Cert.Kernel3Ideal.Mix.xdh m c) (i 0) (i 1)),
    fun c => (fun i : Cert.Kernel3Ideal.S1024x1024.Idx => fDwo (Cert.Kernel3Ideal.Mix.xq m c) (Cert.Kernel3Ideal.Mix.xpm m c) (Cert.Kernel3Ideal.Mix.xy m c) (Cert.Kernel3Ideal.Mix.xwp m c) (Cert.Kernel3Ideal.Mix.xwv m c) (Cert.Kernel3Ideal.Mix.xwg m c) (Cert.Kernel3Ideal.Mix.xdh m c) (i 0) (i 1)),
    (θ_run _ _ _).mono (fun r h => h.1) (Cert.Kernel3Ideal.Mix.run m g), (θ_run _ _ _).mono (fun r h c => ?_) (Cert.Reference3Ideal.Mix.run m' g')⟩
  have e0 : Cert.Reference3Ideal.Mix.yh m' c = Cert.Kernel3Ideal.Mix.xh m c := congrArg (mat (s := Cert.Kernel3Ideal.S4096x1024) (t := .f32) ix2) (hagree c).1
  have e1 : Cert.Reference3Ideal.Mix.yq m' c = Cert.Kernel3Ideal.Mix.xq m c := congrArg (mat (s := Cert.Kernel3Ideal.S4096x2816) (t := .f32) ix2) (hagree c).2.1
  have e2 : Cert.Reference3Ideal.Mix.ypm m' c = Cert.Kernel3Ideal.Mix.xpm m c := congrArg (mat (s := Cert.Kernel3Ideal.S4096x512) (t := .bf16) ix2) (hagree c).2.2.1
  have e3 : Cert.Reference3Ideal.Mix.yy m' c = Cert.Kernel3Ideal.Mix.xy m c := congrArg (mat (s := Cert.Kernel3Ideal.S4096x256) (t := .f32) ix2) (hagree c).2.2.2.1
  have e4 : Cert.Reference3Ideal.Mix.ywp m' c = Cert.Kernel3Ideal.Mix.xwp m c := congrArg (mat (s := Cert.Kernel3Ideal.S1024x512) (t := .bf16) ix2) (hagree c).2.2.2.2.1
  have e5 : Cert.Reference3Ideal.Mix.ywv m' c = Cert.Kernel3Ideal.Mix.xwv m c := congrArg (mat (s := Cert.Kernel3Ideal.S1024x256) (t := .bf16) ix2) (hagree c).2.2.2.2.2.1
  have e6 : Cert.Reference3Ideal.Mix.ywg m' c = Cert.Kernel3Ideal.Mix.xwg m c := congrArg (mat (s := Cert.Kernel3Ideal.S1024x256) (t := .bf16) ix2) (hagree c).2.2.2.2.2.2.1
  have e7 : Cert.Reference3Ideal.Mix.ywo m' c = Cert.Kernel3Ideal.Mix.xwo m c := congrArg (mat (s := Cert.Kernel3Ideal.S1024x1024) (t := .bf16) ix2) (hagree c).2.2.2.2.2.2.2.1
  have e8 : Cert.Reference3Ideal.Mix.ydh m' c = Cert.Kernel3Ideal.Mix.xdh m c := congrArg (mat (s := Cert.Kernel3Ideal.S4096x1024) (t := .f32) ix2) (hagree c).2.2.2.2.2.2.2.2
  have h' := h c
  rw [e0, e1, e2, e3, e4, e5, e6, e7, e8] at h'
  exact h'

end Cert.Mix
-- ==== Proof.ProjNorm.lean ====
module

public import proofs.«01_k».proof.Proof.Gen.Kernel4Ideal.Skeleton
public import proofs.«01_k».proof.Proof.Gen.Kernel4Ideal.Frame.Region0
public import Idealize.ShloMosaic.Lib.Pipeline.ValueKit
public import Idealize.ShloMosaic.Lib.Pipeline.ReadBack
public import proofs.«01_k».proof.Proof.FfnSpec

@[expose] public section

set_option maxRecDepth 16384

noncomputable section

namespace Cert.Kernel4Ideal.Proj

open Cert.Kernel4Ideal Cert.Kernel4Ideal.Gen Cert.FfnSpec Idealize.ShloMosaic Idealize.ShloMosaic.TcCoe Idealize.SL.Sem

variable (V : (c : Dev nD) → (b : Ref sig .tc) → Buf (Elt Ideal) ((c : Thread nD τ).loc b))

/-- Where each grid point's blocks lie. -/
theorem idx0 : ∀ t : Fin cfg0.N, win0_0.index t = ![t.val, 0] ∧ win0_1.index t = ![0, 0] ∧ win0_2.index t = ![t.val, 0] :=
  (by decide +kernel : ∀ t : Fin grid0.N, _)

set_option maxHeartbeats 1000000 in
/-- The normalised rows. -/
theorem fin0_2 (c : Dev nD) : (dat0 V c).arrAt 2 cfg0.N
    = fun i : S4096x1024.Idx => nrm (fun k : Fin 1024 => (V c main_arg1 : FVec Ideal S1x1024 .f32) (ix2 0 k)) (mat (s := S4096x1024) (t := .f32) ix2 (V c main_arg0) (i 0)) (i 1) := by
  refine (dat0 V c).arrAt_eq_of_covers 2 _ (by decide +kernel) fun t hf y => ?_
  blk_simp
  rw [after0_2]
  unfold out0_2
  canon_tiles x hx
  all_goals pointwise [k0_pay1, nrm, nh, rstd, ms, mat]
  all_goals blk_point [iblk0, idx0 t]

end Cert.Kernel4Ideal.Proj
-- ==== Proof.ProjIn.lean ====
module

public import proofs.«01_k».proof.Proof.Gen.Kernel4Ideal.Skeleton
public import proofs.«01_k».proof.Proof.Gen.Kernel4Ideal.Frame.Region1
public import Idealize.ShloMosaic.Lib.Pipeline.ValueKit
public import Idealize.ShloMosaic.Lib.Pipeline.ReadBack
public import proofs.«01_k».proof.Proof.FfnSpec

@[expose] public section

set_option maxRecDepth 16384

noncomputable section

namespace Cert.Kernel4Ideal.Proj

open Cert.Kernel4Ideal Cert.Kernel4Ideal.Gen Cert.FfnSpec Idealize.ShloMosaic Idealize.ShloMosaic.TcCoe Idealize.SL.Sem

variable (V : (c : Dev nD) → (b : Ref sig .tc) → Buf (Elt Ideal) ((c : Thread nD τ).loc b))

/-- Where each grid point's blocks lie. -/
theorem idx1 : ∀ t : Fin cfg1.N, win1_0.index t = ![t.val / 2, 0] ∧ win1_1.index t = ![t.val % 2, 0] ∧ win1_2.index t = ![t.val / 2, t.val % 2] :=
  (by decide +kernel : ∀ t : Fin grid1.N, _)

set_option maxHeartbeats 4000000 in
/-- The projected rows. In a block, of the blocks it is made from. -/
theorem blk1_2 (x0 : FVec Ideal S2048x1024 .bf16) (x1 : FVec Ideal S1408x1024 .bf16) :
    out1_2 (F := Ideal) x0 x1 = fun j : S2048x1408.Idx => (dot (mat ix2 x0 (j 0)) (mat ix2 x1 (j 1))) := by
  funext y
  unfold out1_2
  canon_tiles x hx
  all_goals pointwise [k1_pay1, k1_pay2, k1_pay3, k1_pay4, k1_pay5, k1_pay6, k1_pay7, k1_pay8, k1_pay9, dot, mat]
  all_goals blk_point

set_option maxHeartbeats 1000000 in
/-- The projected rows. -/
theorem fin1_2 (c : Dev nD) : (dat1 V c).arrAt 2 cfg1.N
    = fun i : S4096x2816.Idx => dot (mat (s := S4096x1024) (t := .bf16) ix2 (V c main_v0) (i 0)) (mat (s := S2816x1024) (t := .bf16) ix2 (V c main_arg2) (i 1)) := by
  refine (dat1 V c).arrAt_eq_of_covers 2 _ (by decide +kernel) fun t hf y => ?_
  blk_simp
  rw [after1_2, blk1_2]
  unfold  dot mat
  beta_reduce
  blk_point [iblk1, idx1 t]

end Cert.Kernel4Ideal.Proj
-- ==== Proof.ProjDw.lean ====
module

public import proofs.«01_k».proof.Proof.Gen.Kernel4Ideal.Skeleton
public import proofs.«01_k».proof.Proof.Gen.Kernel4Ideal.Frame.Region2
public import proofs.«01_k».proof.Proof.Gen.Kernel4Ideal.Frame.Region3
public import proofs.«01_k».proof.Proof.Gen.Kernel4Ideal.Frame.Region4
public import proofs.«01_k».proof.Proof.Gen.Kernel4Ideal.Frame.Region5
public import Idealize.ShloMosaic.Lib.Pipeline.ValueKit
public import Idealize.ShloMosaic.Lib.Pipeline.ReadBack
public import proofs.«01_k».proof.Proof.FfnSpec

@[expose] public section

set_option maxRecDepth 16384

noncomputable section

namespace Cert.Kernel4Ideal.Proj

open Cert.Kernel4Ideal Cert.Kernel4Ideal.Gen Cert.FfnSpec Idealize.ShloMosaic Idealize.ShloMosaic.TcCoe Idealize.SL.Sem

variable (V : (c : Dev nD) → (b : Ref sig .tc) → Buf (Elt Ideal) ((c : Thread nD τ).loc b))

/-- Where each grid point's blocks lie. -/
theorem idx2 : ∀ t : Fin cfg2.N, win2_0.index t = ![0, 0] ∧ win2_1.index t = ![0, t.val] ∧ win2_2.index t = ![0, t.val] :=
  (by decide +kernel : ∀ t : Fin grid2.N, _)

set_option maxHeartbeats 1000000 in
/-- The pooled mixer's part of the projection's gradient. -/
theorem fin2_2 (c : Dev nD) : (dat2 V c).arrAt 2 cfg2.N
    = fun i : S512x1024.Idx => dot (fun r : Fin 4096 => mat (s := S4096x512) (t := .bf16) ix2 (V c main_arg3) r (i 0)) (fun r : Fin 4096 => mat (s := S4096x1024) (t := .bf16) ix2 (V c main_v0) r (i 1)) := by
  refine (dat2 V c).arrAt_eq_of_covers 2 _ (by decide +kernel) fun t hf y => ?_
  blk_simp
  rw [after2_2]
  unfold out2_2
  canon_tiles x hx
  all_goals pointwise [k2_pay1, dot, mat]
  all_goals blk_point [iblk2, idx2 t]

/-- Where each grid point's blocks lie. -/
theorem idx3 : ∀ t : Fin cfg3.N, win3_0.index t = ![0, 0] ∧ win3_1.index t = ![0, t.val] ∧ win3_2.index t = ![0, t.val] :=
  (by decide +kernel : ∀ t : Fin grid3.N, _)

set_option maxHeartbeats 1000000 in
/-- The state mixer's part of the projection's gradient. -/
theorem fin3_2 (c : Dev nD) : (dat3 V c).arrAt 2 cfg3.N
    = fun i : S256x1024.Idx => dot (fun r : Fin 4096 => mat (s := S4096x256) (t := .bf16) ix2 (V c main_arg4) r (i 0)) (fun r : Fin 4096 => mat (s := S4096x1024) (t := .bf16) ix2 (V c main_v0) r (i 1)) := by
  refine (dat3 V c).arrAt_eq_of_covers 2 _ (by decide +kernel) fun t hf y => ?_
  blk_simp
  rw [after3_2]
  unfold out3_2
  canon_tiles x hx
  all_goals pointwise [k3_pay1, dot, mat]
  all_goals blk_point [iblk3, idx3 t]

/-- Where each grid point's blocks lie. -/
theorem idx4 : ∀ t : Fin cfg4.N, win4_0.index t = ![0, 0] ∧ win4_1.index t = ![0, t.val] ∧ win4_2.index t = ![0, t.val] :=
  (by decide +kernel : ∀ t : Fin grid4.N, _)

set_option maxHeartbeats 1000000 in
/-- The pooled mixer's gates' part of the projection's gradient. -/
theorem fin4_2 (c : Dev nD) : (dat4 V c).arrAt 2 cfg4.N
    = fun i : S1024x1024.Idx => dot (fun r : Fin 4096 => mat (s := S4096x1024) (t := .bf16) ix2 (V c main_arg5) r (i 0)) (fun r : Fin 4096 => mat (s := S4096x1024) (t := .bf16) ix2 (V c main_v0) r (i 1)) := by
  refine (dat4 V c).arrAt_eq_of_covers 2 _ (by decide +kernel) fun t hf y => ?_
  blk_simp
  rw [after4_2]
  unfold out4_2
  canon_tiles x hx
  all_goals pointwise [k4_pay1, dot, mat]
  all_goals blk_point [iblk4, idx4 t]

/-- Where each grid point's blocks lie. -/
theorem idx5 : ∀ t : Fin cfg5.N, win5_0.index t = ![0, 0] ∧ win5_1.index t = ![0, t.val] ∧ win5_2.index t = ![0, t.val] :=
  (by decide +kernel : ∀ t : Fin grid5.N, _)

set_option maxHeartbeats 1000000 in
/-- The state mixer's gates' part of the projection's gradient. -/
theorem fin5_2 (c : Dev nD) : (dat5 V c).arrAt 2 cfg5.N
    = fun i : S1024x1024.Idx => dot (fun r : Fin 4096 => mat (s := S4096x1024) (t := .bf16) ix2 (V c main_arg6) r (i 0)) (fun r : Fin 4096 => mat (s := S4096x1024) (t := .bf16) ix2 (V c main_v0) r (i 1)) := by
  refine (dat5 V c).arrAt_eq_of_covers 2 _ (by decide +kernel) fun t hf y => ?_
  blk_simp
  rw [after5_2]
  unfold out5_2
  canon_tiles x hx
  all_goals pointwise [k5_pay1, dot, mat]
  all_goals blk_point [iblk5, idx5 t]

end Cert.Kernel4Ideal.Proj
-- ==== Proof.ProjDu.lean ====
module

public import proofs.«01_k».proof.Proof.Gen.Kernel4Ideal.Skeleton
public import proofs.«01_k».proof.Proof.Gen.Kernel4Ideal.Frame.Region6
public import Idealize.ShloMosaic.Lib.Pipeline.ValueKit
public import Idealize.ShloMosaic.Lib.Pipeline.ReadBack
public import proofs.«01_k».proof.Proof.FfnSpec

@[expose] public section

set_option maxRecDepth 16384

noncomputable section

namespace Cert.Kernel4Ideal.Proj

open Cert.Kernel4Ideal Cert.Kernel4Ideal.Gen Cert.FfnSpec Idealize.ShloMosaic Idealize.ShloMosaic.TcCoe Idealize.SL.Sem

variable (V : (c : Dev nD) → (b : Ref sig .tc) → Buf (Elt Ideal) ((c : Thread nD τ).loc b))

/-- Where each grid point's blocks lie. -/
theorem idx6 : ∀ t : Fin cfg6.N, win6_0.index t = ![t.val / 2, 0] ∧ win6_1.index t = ![t.val / 2, 0] ∧ win6_2.index t = ![t.val / 2, 0] ∧ win6_3.index t = ![t.val / 2, 0] ∧ win6_4.index t = ![0, t.val % 2] ∧ win6_5.index t = ![0, t.val % 2] ∧ win6_6.index t = ![0, t.val % 2] ∧ win6_7.index t = ![0, t.val % 2] ∧ win6_8.index t = ![t.val / 2, t.val % 2] :=
  (by decide +kernel : ∀ t : Fin grid6.N, _)

set_option maxHeartbeats 4000000 in
/-- The normalised rows' cotangent. In a block, of the blocks it is made from. -/
theorem blk6_8 (x0 : FVec Ideal S2048x512 .bf16) (x1 : FVec Ideal S2048x256 .bf16) (x2 : FVec Ideal S2048x1024 .bf16) (x3 : FVec Ideal S2048x1024 .bf16) (x4 : FVec Ideal S512x512 .bf16) (x5 : FVec Ideal S256x512 .bf16) (x6 : FVec Ideal S1024x512 .bf16) (x7 : FVec Ideal S1024x512 .bf16) :
    out6_8 (F := Ideal) x0 x1 x2 x3 x4 x5 x6 x7 = fun j : S2048x512.Idx => (dot (mat ix2 x0 (j 0)) (fun k : Fin 512 => mat ix2 x4 k (j 1))) + (dot (mat ix2 x1 (j 0)) (fun k : Fin 256 => mat ix2 x5 k (j 1))) + (dot (mat ix2 x2 (j 0)) (fun k : Fin 1024 => mat ix2 x6 k (j 1))) + (dot (mat ix2 x3 (j 0)) (fun k : Fin 1024 => mat ix2 x7 k (j 1))) := by
  funext y
  unfold out6_8
  canon_tiles x hx
  all_goals pointwise [k6_pay1, k6_pay2, k6_pay3, k6_pay4, k6_pay5, k6_pay6, k6_pay7, k6_pay8, k6_pay9, k6_pay10, k6_pay11, k6_pay12, k6_pay13, k6_pay14, k6_pay15, k6_pay16, k6_pay17, k6_pay18, dot, mat]
  all_goals blk_point

set_option maxHeartbeats 1000000 in
/-- The normalised rows' cotangent. -/
theorem fin6_8 (c : Dev nD) : (dat6 V c).arrAt 8 cfg6.N
    = fun i : S4096x1024.Idx => dot (mat (s := S4096x512) (t := .bf16) ix2 (V c main_arg3) (i 0)) (fun k : Fin 512 => mat (s := S512x1024) (t := .bf16) ix2 (V c main_v2) k (i 1)) + dot (mat (s := S4096x256) (t := .bf16) ix2 (V c main_arg4) (i 0)) (fun k : Fin 256 => mat (s := S256x1024) (t := .bf16) ix2 (V c main_v3) k (i 1)) + dot (mat (s := S4096x1024) (t := .bf16) ix2 (V c main_arg5) (i 0)) (fun k : Fin 1024 => mat (s := S1024x1024) (t := .bf16) ix2 (V c main_v4) k (i 1)) + dot (mat (s := S4096x1024) (t := .bf16) ix2 (V c main_arg6) (i 0)) (fun k : Fin 1024 => mat (s := S1024x1024) (t := .bf16) ix2 (V c main_v5) k (i 1)) := by
  refine (dat6 V c).arrAt_eq_of_covers 8 _ (by decide +kernel) fun t hf y => ?_
  blk_simp
  rw [after6_8, blk6_8]
  unfold  dot mat
  beta_reduce
  blk_point [iblk6, idx6 t]

end Cert.Kernel4Ideal.Proj
-- ==== Proof.ProjNb.lean ====
module

public import proofs.«01_k».proof.Proof.Gen.Kernel4Ideal.Skeleton
public import proofs.«01_k».proof.Proof.Gen.Kernel4Ideal.Frame.Region7
public import Idealize.ShloMosaic.Lib.Pipeline.ValueKit
public import Idealize.ShloMosaic.Lib.Pipeline.ReadBack
public import proofs.«01_k».proof.Proof.FfnSpec

@[expose] public section

set_option maxRecDepth 16384

noncomputable section

namespace Cert.Kernel4Ideal.Proj

open Cert.Kernel4Ideal Cert.Kernel4Ideal.Gen Cert.FfnSpec Idealize.ShloMosaic Idealize.ShloMosaic.TcCoe Idealize.SL.Sem

variable (V : (c : Dev nD) → (b : Ref sig .tc) → Buf (Elt Ideal) ((c : Thread nD τ).loc b))

/-- Where each grid point's blocks lie. -/
theorem idx7 : ∀ t : Fin cfg7.N, win7_0.index t = ![t.val, 0] ∧ win7_1.index t = ![0, 0] ∧ win7_2.index t = ![t.val, 0] ∧ win7_3.index t = ![t.val, 0] ∧ win7_4.index t = ![t.val, 0] ∧ win7_5.index t = ![t.val, 0] ∧ win7_6.index t = ![0, 0] :=
  (by decide +kernel : ∀ t : Fin grid7.N, _)

/-- Every grid point sees all the gains. -/
theorem gains (c : Dev nD) (t : Fin cfg7.N) : (fun k : Fin 1024 => (iblk7 V c 1 t : FVec Ideal S1x1024 .f32) (ix2 0 k)) = fun k : Fin 1024 => (V c main_arg1 : FVec Ideal S1x1024 .f32) (ix2 0 k) := by
  funext k
  blk_ext [iblk7, idx7 t]

set_option maxHeartbeats 1000000 in
/-- The input's cotangent in a block (the first point). -/
theorem o7_4_A (c : Dev nD) (t : Fin cfg7.N) (h : t.val % 4 = 0) (j : S1024x1024.Idx) :
    (outsAt7 V c t.val t.isLt).1 j = (mat (s := S1024x1024) (t := .f32) ix2 (iblk7 V c 3 t) (j 0)) (j 1) + nb (fun k : Fin 1024 => (iblk7 V c 1 t : FVec Ideal S1x1024 .f32) (ix2 0 k)) (mat (s := S1024x1024) (t := .f32) ix2 (iblk7 V c 0 t) (j 0)) (mat (s := S1024x1024) (t := .f32) ix2 (iblk7 V c 2 t) (j 0)) (j 1) := by
  rw [outsAt7_A V c t h]; frame_out
  pointwise [k7_pay1, k7_pay2, k7_pay3, k7_pay4, k7_pay5, k7_pay6, k7_pay7, k7_pay8, nb, nh, rstd, ms, mat]
  all_goals blk_point

set_option maxHeartbeats 1000000 in
/-- The input's cotangent in a block (a later point). -/
theorem o7_4_B (c : Dev nD) (t : Fin cfg7.N) (h : ¬t.val % 4 = 0) (j : S1024x1024.Idx) :
    (outsAt7 V c t.val t.isLt).1 j = (mat (s := S1024x1024) (t := .f32) ix2 (iblk7 V c 3 t) (j 0)) (j 1) + nb (fun k : Fin 1024 => (iblk7 V c 1 t : FVec Ideal S1x1024 .f32) (ix2 0 k)) (mat (s := S1024x1024) (t := .f32) ix2 (iblk7 V c 0 t) (j 0)) (mat (s := S1024x1024) (t := .f32) ix2 (iblk7 V c 2 t) (j 0)) (j 1) := by
  rw [outsAt7_B V c t h]; frame_out
  pointwise [k7_pay1, k7_pay2, k7_pay3, k7_pay4, k7_pay5, k7_pay6, k7_pay7, k7_pay8, nb, nh, rstd, ms, mat]
  all_goals blk_point

set_option maxHeartbeats 1000000 in
/-- The input's cotangent in a block, as the narrower array has it (the first point). -/
theorem o7_5_A (c : Dev nD) (t : Fin cfg7.N) (h : t.val % 4 = 0) (j : S1024x1024.Idx) :
    (outsAt7 V c t.val t.isLt).2.1 j = (mat (s := S1024x1024) (t := .f32) ix2 (iblk7 V c 3 t) (j 0)) (j 1) + nb (fun k : Fin 1024 => (iblk7 V c 1 t : FVec Ideal S1x1024 .f32) (ix2 0 k)) (mat (s := S1024x1024) (t := .f32) ix2 (iblk7 V c 0 t) (j 0)) (mat (s := S1024x1024) (t := .f32) ix2 (iblk7 V c 2 t) (j 0)) (j 1) := by
  rw [outsAt7_A V c t h]; frame_out
  pointwise [k7_pay1, k7_pay2, k7_pay3, k7_pay4, k7_pay5, k7_pay6, k7_pay7, k7_pay8, nb, nh, rstd, ms, mat]
  all_goals blk_point

set_option maxHeartbeats 1000000 in
/-- The input's cotangent in a block, as the narrower array has it (a later point). -/
theorem o7_5_B (c : Dev nD) (t : Fin cfg7.N) (h : ¬t.val % 4 = 0) (j : S1024x1024.Idx) :
    (outsAt7 V c t.val t.isLt).2.1 j = (mat (s := S1024x1024) (t := .f32) ix2 (iblk7 V c 3 t) (j 0)) (j 1) + nb (fun k : Fin 1024 => (iblk7 V c 1 t : FVec Ideal S1x1024 .f32) (ix2 0 k)) (mat (s := S1024x1024) (t := .f32) ix2 (iblk7 V c 0 t) (j 0)) (mat (s := S1024x1024) (t := .f32) ix2 (iblk7 V c 2 t) (j 0)) (j 1) := by
  rw [outsAt7_B V c t h]; frame_out
  pointwise [k7_pay1, k7_pay2, k7_pay3, k7_pay4, k7_pay5, k7_pay6, k7_pay7, k7_pay8, nb, nh, rstd, ms, mat]
  all_goals blk_point

set_option maxHeartbeats 1000000 in
/-- The gains' gradient after a point (the first point). -/
theorem o7_6_A (c : Dev nD) (t : Fin cfg7.N) (h : t.val % 4 = 0) (j : S1x1024.Idx) :
    (outsAt7 V c t.val t.isLt).2.2 j = 0 + ∑ x : Fin 1024, (mat (s := S1024x1024) (t := .f32) ix2 (iblk7 V c 2 t) x) (j 1) * nh (mat (s := S1024x1024) (t := .f32) ix2 (iblk7 V c 0 t) x) (j 1) := by
  rw [outsAt7_A V c t h]; frame_out
  pointwise [k7_pay1, k7_pay2, k7_pay3, k7_pay4, k7_pay5, k7_pay6, k7_pay7, k7_pay8, nb, nh, rstd, ms, mat]
  all_goals blk_point

set_option maxHeartbeats 1000000 in
/-- The gains' gradient after a point (a later point). -/
theorem o7_6_B (c : Dev nD) (t : Fin cfg7.N) (h : ¬t.val % 4 = 0) (j : S1x1024.Idx) :
    (outsAt7 V c t.val t.isLt).2.2 j = (outsAt7 V c (t.val - 1) (Nat.lt_of_le_of_lt (Nat.sub_le _ _) t.isLt)).2.2 j + ∑ x : Fin 1024, (mat (s := S1024x1024) (t := .f32) ix2 (iblk7 V c 2 t) x) (j 1) * nh (mat (s := S1024x1024) (t := .f32) ix2 (iblk7 V c 0 t) x) (j 1) := by
  rw [outsAt7_B V c t h]; frame_out
  pointwise [k7_pay1, k7_pay2, k7_pay3, k7_pay4, k7_pay5, k7_pay6, k7_pay7, k7_pay8, nb, nh, rstd, ms, mat]
  all_goals blk_point

set_option maxHeartbeats 1000000 in
/-- The input's cotangent. -/
theorem fin7_4 (c : Dev nD) : (dat7 V c).arrAt 4 cfg7.N
    = fun i : S4096x1024.Idx => mat (s := S4096x1024) (t := .f32) ix2 (V c main_arg7) (i 0) (i 1) + nb (fun k : Fin 1024 => (V c main_arg1 : FVec Ideal S1x1024 .f32) (ix2 0 k)) (mat (s := S4096x1024) (t := .f32) ix2 (V c main_arg0) (i 0)) (mat (s := S4096x1024) (t := .f32) ix2 (V c main_v11) (i 0)) (i 1) := by
  refine (dat7 V c).arrAt_eq_of_covers 4 _ (by decide +kernel) fun t hf y => ?_
  blk_simp
  rw [after7_4]
  have e1 : (win7_4.blk t).view.emb y 1 = y 1 := Fin.ext (by blk_simp [idx7 t])
  rw [e1]
  by_cases hc : t.val % 4 = 0
  · rw [o7_4_A V c t hc, gains V c t]
    unfold nb nh rstd ms mat
    blk_point [iblk7, idx7 t]
  · rw [o7_4_B V c t hc, gains V c t]
    unfold nb nh rstd ms mat
    blk_point [iblk7, idx7 t]

set_option maxHeartbeats 1000000 in
/-- The input's cotangent. -/
theorem fin7_5 (c : Dev nD) : (dat7 V c).arrAt 5 cfg7.N
    = fun i : S4096x1024.Idx => mat (s := S4096x1024) (t := .f32) ix2 (V c main_arg7) (i 0) (i 1) + nb (fun k : Fin 1024 => (V c main_arg1 : FVec Ideal S1x1024 .f32) (ix2 0 k)) (mat (s := S4096x1024) (t := .f32) ix2 (V c main_arg0) (i 0)) (mat (s := S4096x1024) (t := .f32) ix2 (V c main_v11) (i 0)) (i 1) := by
  refine (dat7 V c).arrAt_eq_of_covers 5 _ (by decide +kernel) fun t hf y => ?_
  blk_simp
  rw [after7_5]
  have e1 : (win7_5.blk t).view.emb y 1 = y 1 := Fin.ext (by blk_simp [idx7 t])
  rw [e1]
  by_cases hc : t.val % 4 = 0
  · rw [o7_5_A V c t hc, gains V c t]
    unfold nb nh rstd ms mat
    blk_point [iblk7, idx7 t]
  · rw [o7_5_B V c t hc, gains V c t]
    unfold nb nh rstd ms mat
    blk_point [iblk7, idx7 t]

set_option maxHeartbeats 1000000 in
/-- The gains' gradient. -/
theorem fin7_6 (c : Dev nD) : (dat7 V c).arrAt 6 cfg7.N
    = fun i : S1x1024.Idx => ∑ r : Fin 4096, mat (s := S4096x1024) (t := .f32) ix2 (V c main_v11) r (i 1) * nh (mat (s := S4096x1024) (t := .f32) ix2 (V c main_arg0) r) (i 1) := by
  refine (dat7 V c).arrAt_eq_of_after_last 6 t7_3 (by decide +kernel) _ fun j => ?_
  blk_simp
  rw [after7_6, Pipeline.eq_sum_fin_of_reset_step_apply_last (fun n h => (outsAt7 V c n h).2.2) 4 (fun _ => 0) _
    (fun t h j => by rw [o7_6_A V c t h])
    (fun t h j => by rw [o7_6_B V c t h])
    (le_of_eq N_7) t7_3 rfl j, zero_add]
  refine Fin.sum_mul_add_congr fun p k hl => ?_
  unfold nh rstd ms mat
  blk_point [iblk7, idx7 p]

end Cert.Kernel4Ideal.Proj
-- ==== Proof.ProjSpec.lean ====
module

public import proofs.«01_k».proof.Proof.FfnPlain

@[expose] public section

noncomputable section

namespace Cert.ProjSpec

open Cert.FfnSpec Idealize.ShloMosaic

/-- The first part's places among the projected columns: the pooled mixer's. -/
abbrev at0 (k : Fin 512) : Fin 2816 := ⟨k.val, by omega⟩

/-- The second part's: the state mixer's. -/
abbrev at1 (k : Fin 256) : Fin 2816 := ⟨512 + k.val, by omega⟩

/-- The third part's: the pooled mixer's gates'. -/
abbrev at2 (k : Fin 1024) : Fin 2816 := ⟨768 + k.val, by omega⟩

/-- The last part's: the state mixer's gates'. -/
abbrev at3 (k : Fin 1024) : Fin 2816 := ⟨1792 + k.val, by omega⟩

/-- The four parts laid one after the other. -/
def cat (a : Fin 512 → EReal) (b : Fin 256 → EReal) (c d : Fin 1024 → EReal) (j : Fin 2816) : EReal :=
  if h : j.val < 512 then a ⟨j.val, h⟩
  else if h' : j.val - 512 < 256 then b ⟨j.val - 512, h'⟩
  else if h'' : j.val - 512 - 256 < 1024 then c ⟨j.val - 512 - 256, h''⟩
  else d ⟨j.val - 512 - 256 - 1024, by omega⟩

/-- The first part of the four. -/
theorem cat_at0 (a : Fin 512 → EReal) (b : Fin 256 → EReal) (c d : Fin 1024 → EReal) (k : Fin 512) : cat a b c d (at0 k) = a k := by
  unfold cat
  rw [dif_pos k.isLt]

/-- The second part of the four. -/
theorem cat_at1 (a : Fin 512 → EReal) (b : Fin 256 → EReal) (c d : Fin 1024 → EReal) (k : Fin 256) : cat a b c d (at1 k) = b k := by
  unfold cat
  rw [dif_neg (by simp), dif_pos (by simp)]
  exact congrArg b (Fin.ext (by simp))

/-- The third part of the four. -/
theorem cat_at2 (a : Fin 512 → EReal) (b : Fin 256 → EReal) (c d : Fin 1024 → EReal) (k : Fin 1024) : cat a b c d (at2 k) = c k := by
  unfold cat
  rw [dif_neg (by simp; omega), dif_neg (by simp; omega), dif_pos (by simp; omega)]
  exact congrArg c (Fin.ext (by simp; omega))

/-- The last part of the four. -/
theorem cat_at3 (a : Fin 512 → EReal) (b : Fin 256 → EReal) (c d : Fin 1024 → EReal) (k : Fin 1024) : cat a b c d (at3 k) = d k := by
  unfold cat
  rw [dif_neg (by simp; omega), dif_neg (by simp; omega), dif_neg (by simp; omega)]
  exact congrArg d (Fin.ext (by simp; omega))

/-- A sum over all the columns is the sum of the four parts' sums. -/
theorem sum_parts (f : Fin 2816 → EReal) : ∑ j, f j = (∑ k, f (at0 k)) + (∑ k, f (at1 k)) + (∑ k, f (at2 k)) + ∑ k, f (at3 k) := by
  rw [show ∑ j, f j = _ from Fin.sum_univ_add (a := 1792) (b := 1024) f,
    show ∑ j : Fin 1792, f (Fin.castAdd 1024 j) = _ from Fin.sum_univ_add (a := 768) (b := 1024) fun j => f (Fin.castAdd 1024 j),
    show ∑ j : Fin 768, f (Fin.castAdd 1024 (Fin.castAdd 1024 j)) = _ from
      Fin.sum_univ_add (a := 512) (b := 256) fun j => f (Fin.castAdd 1024 (Fin.castAdd 1024 j))]
  rfl

variable (h : Fin 4096 → Fin 1024 → EReal) (g : Fin 1024 → EReal) (w : Fin 2816 → Fin 1024 → EReal)
  (dp : Fin 4096 → Fin 512 → EReal) (ds : Fin 4096 → Fin 256 → EReal) (gp gs dh : Fin 4096 → Fin 1024 → EReal)

/-- The projected rows' cotangent, of its four parts. -/
def ct (r : Fin 4096) (j : Fin 2816) : EReal := cat (dp r) (ds r) (gp r) (gs r) j

/-- The projection's gradient: each part of the columns with the normalised rows, the four laid one after the other. -/
def fDw (j : Fin 2816) (l : Fin 1024) : EReal :=
  cat (fun k => dot (fun r => dp r k) fun r => nrm g (h r) l) (fun k => dot (fun r => ds r k) fun r => nrm g (h r) l)
    (fun k => dot (fun r => gp r k) fun r => nrm g (h r) l) (fun k => dot (fun r => gs r k) fun r => nrm g (h r) l) j

/-- The normalised rows' cotangent: the four parts' products. -/
def fDu (r : Fin 4096) (l : Fin 1024) : EReal :=
  dot (dp r) (fun k => w (at0 k) l) + dot (ds r) (fun k => w (at1 k) l) + dot (gp r) (fun k => w (at2 k) l) + dot (gs r) fun k => w (at3 k) l

/-- The stream's cotangent before the projection. -/
def fDin (r : Fin 4096) (l : Fin 1024) : EReal := dh r l + nb g (h r) (fDu w dp ds gp gs r) l

/-- The gains' gradient. -/
def fDg (l : Fin 1024) : EReal := ∑ r, fDu w dp ds gp gs r l * nh (h r) l

/-- The projection's gradient, over the whole cotangent. -/
def gDw (j : Fin 2816) (l : Fin 1024) : EReal := dot (fun r => ct dp ds gp gs r j) fun r => nrm g (h r) l

/-- The normalised rows' cotangent, over the whole cotangent. -/
def gDu (r : Fin 4096) (l : Fin 1024) : EReal := dot (ct dp ds gp gs r) fun j => w j l

/-- The stream's cotangent, by the derivative's rules. -/
def gDin (r : Fin 4096) (l : Fin 1024) : EReal := pDin (dh r l) g (h r) (gDu w dp ds gp gs r) l

/-- The gains' gradient, by the derivative's rules. -/
def gDg (l : Fin 1024) : EReal := ∑ r, nh (h r) l * gDu w dp ds gp gs r l

/-- The two forms of the projection's gradient agree. -/
theorem fDw_eq (j : Fin 2816) (l : Fin 1024) : fDw h g dp ds gp gs j l = gDw h g dp ds gp gs j l := by
  unfold fDw gDw ct cat
  split_ifs <;> rfl

/-- The two forms of the normalised rows' cotangent agree. -/
theorem fDu_eq : fDu w dp ds gp gs = gDu w dp ds gp gs := by
  funext r l
  unfold fDu gDu ct dot
  rw [sum_parts]
  simp only [cat_at0, cat_at1, cat_at2, cat_at3]

/-- The two forms of the gains' gradient agree. -/
theorem fDg_eq (l : Fin 1024) : fDg h w dp ds gp gs l = gDg h w dp ds gp gs l := by
  unfold fDg gDg
  rw [fDu_eq]
  exact Finset.sum_congr rfl fun r _ => mul_comm _ _

/-- Every entry of the arguments is a real. -/
structure Reals : Prop where
  h : ∀ r l, IsReal (h r l)
  g : ∀ l, IsReal (g l)
  w : ∀ j l, IsReal (w j l)
  dp : ∀ r k, IsReal (dp r k)
  ds : ∀ r k, IsReal (ds r k)
  gp : ∀ r k, IsReal (gp r k)
  gs : ∀ r k, IsReal (gs r k)
  dh : ∀ r l, IsReal (dh r l)

variable {h g w dp ds gp gs dh}

/-- On reals the two forms of the stream's cotangent agree. -/
theorem fDin_eq (R : Reals h g w dp ds gp gs dh) (r : Fin 4096) (l : Fin 1024) :
    fDin h g w dp ds gp gs dh r l = gDin h g w dp ds gp gs dh r l := by
  have hn : ∀ k, IsReal (fDu w dp ds gp gs r k) := fun k =>
    (((IsReal.dot (R.dp r) fun j => R.w _ k).add (IsReal.dot (R.ds r) fun j => R.w _ k)).add (IsReal.dot (R.gp r) fun j => R.w _ k)).add
      (IsReal.dot (R.gs r) fun j => R.w _ k)
  unfold fDin gDin
  rw [din_eq (R.dh r l) R.g (R.h r) hn, fDu_eq]

end Cert.ProjSpec
-- ==== Proof.ProjChain.lean ====
module

public import proofs.«01_k».proof.Proof.Gen.Kernel4Ideal.Frame
public import proofs.«01_k».proof.Proof.ProjNorm
public import proofs.«01_k».proof.Proof.ProjIn
public import proofs.«01_k».proof.Proof.ProjDw
public import proofs.«01_k».proof.Proof.ProjDu
public import proofs.«01_k».proof.Proof.ProjNb
public import proofs.«01_k».proof.Proof.ProjSpec

@[expose] public section

set_option maxRecDepth 16384

noncomputable section

namespace Cert.Kernel4Ideal.Proj

open Cert.Kernel4Ideal Cert.Kernel4Ideal.Gen Cert.ProjSpec Idealize.ShloMosaic Idealize.ShloMosaic.TcCoe Idealize.SL.Sem
open Cert.FfnSpec (mat dot nrm fUp)

variable (m : (ℓ : Loc nD τ sig) → Buf (Elt Ideal) ℓ) (ρ : Dev nD → PrngReg)

/-- The arguments on a device, as functions of row and column. -/
abbrev xh (c : Dev nD) : Fin 4096 → Fin 1024 → EReal := mat (s := S4096x1024) (t := .f32) ix2 (m ((c : Thread nD τ).loc main_arg0))
@[inherit_doc xh] abbrev xg (c : Dev nD) : Fin 1024 → EReal := fun k => (m ((c : Thread nD τ).loc main_arg1) : FVec Ideal S1x1024 .f32) (ix2 0 k)
@[inherit_doc xh] abbrev xw (c : Dev nD) : Fin 2816 → Fin 1024 → EReal := mat (s := S2816x1024) (t := .bf16) ix2 (m ((c : Thread nD τ).loc main_arg2))
@[inherit_doc xh] abbrev xdp (c : Dev nD) : Fin 4096 → Fin 512 → EReal := mat (s := S4096x512) (t := .bf16) ix2 (m ((c : Thread nD τ).loc main_arg3))
@[inherit_doc xh] abbrev xds (c : Dev nD) : Fin 4096 → Fin 256 → EReal := mat (s := S4096x256) (t := .bf16) ix2 (m ((c : Thread nD τ).loc main_arg4))
@[inherit_doc xh] abbrev xgp (c : Dev nD) : Fin 4096 → Fin 1024 → EReal := mat (s := S4096x1024) (t := .bf16) ix2 (m ((c : Thread nD τ).loc main_arg5))
@[inherit_doc xh] abbrev xgs (c : Dev nD) : Fin 4096 → Fin 1024 → EReal := mat (s := S4096x1024) (t := .bf16) ix2 (m ((c : Thread nD τ).loc main_arg6))
@[inherit_doc xh] abbrev xdh (c : Dev nD) : Fin 4096 → Fin 1024 → EReal := mat (s := S4096x1024) (t := .f32) ix2 (m ((c : Thread nD τ).loc main_arg7))

/-- The normalised rows. -/
theorem v0_eq (c : Dev nD) : W1 m ρ c (Proc.devRef .tc main_v0) = fun i : S4096x1024.Idx => nrm (xg m c) (xh m c (i 0)) (i 1) := by
  refine (W1_arr m ρ c 2).trans ((fin0_2 (V0 m ρ) c).trans ?_)
  rw [show V0 m ρ c main_arg0 = m ((c : Thread nD τ).loc main_arg0) from (rfl : W0 m ρ c (Proc.devRef .tc main_arg0) = m ((c : Thread nD τ).loc main_arg0)),
    show V0 m ρ c main_arg1 = m ((c : Thread nD τ).loc main_arg1) from (rfl : W0 m ρ c (Proc.devRef .tc main_arg1) = m ((c : Thread nD τ).loc main_arg1))]

/-- The projected rows. -/
theorem v1_eq (c : Dev nD) : W2 m ρ c (Proc.devRef .tc main_v1) = fun i : S4096x2816.Idx => fUp (xh m c) (xg m c) (xw m c) (i 0) (i 1) := by
  refine (W2_arr m ρ c 2).trans ((fin1_2 (V1 m ρ) c).trans ?_)
  rw [show V1 m ρ c main_v0 = fun i : S4096x1024.Idx => nrm (xg m c) (xh m c (i 0)) (i 1) from v0_eq m ρ c,
    show V1 m ρ c main_arg2 = m ((c : Thread nD τ).loc main_arg2) from (W1_args m ρ c main_arg2 (by decide))]
  rfl

/-- The projection's first part. -/
theorem v2_eq (c : Dev nD) : W3 m ρ c (Proc.devRef .tc main_v2) = fun i : S512x1024.Idx => xw m c (at0 (i 0)) (i 1) := by
  have h : W3 m ρ c (Proc.devRef .tc main_v2) = extractStridedSlice S512x1024 ![0, 0] (W2 m ρ c (Proc.devRef .tc main_arg2) : FVec Ideal S2816x1024 .bf16) slices_S2816x1024_S512x1024_0_0 := by
    show StableHlo.after hostOps2 (W2 m ρ c) (Proc.devRef .tc main_v2) = _
    simp only [StableHlo.after]
    rfl
  rw [h, W2_args m ρ c main_arg2 (by decide)]
  funext i
  unfold xw mat
  generalize m ((c : Thread nD τ).loc main_arg2) = a
  pointwise []

/-- The projection's second part. -/
theorem v3_eq (c : Dev nD) : W3 m ρ c (Proc.devRef .tc main_v3) = fun i : S256x1024.Idx => xw m c (at1 (i 0)) (i 1) := by
  have h : W3 m ρ c (Proc.devRef .tc main_v3) = extractStridedSlice S256x1024 ![512, 0] (W2 m ρ c (Proc.devRef .tc main_arg2) : FVec Ideal S2816x1024 .bf16) slices_S2816x1024_S256x1024_512_0 := by
    show StableHlo.after hostOps2 (W2 m ρ c) (Proc.devRef .tc main_v3) = _
    simp only [StableHlo.after]
    rfl
  rw [h, W2_args m ρ c main_arg2 (by decide)]
  funext i
  unfold xw mat
  generalize m ((c : Thread nD τ).loc main_arg2) = a
  pointwise []

/-- The projection's third part. -/
theorem v4_eq (c : Dev nD) : W3 m ρ c (Proc.devRef .tc main_v4) = fun i : S1024x1024.Idx => xw m c (at2 (i 0)) (i 1) := by
  have h : W3 m ρ c (Proc.devRef .tc main_v4) = extractStridedSlice S1024x1024 ![768, 0] (W2 m ρ c (Proc.devRef .tc main_arg2) : FVec Ideal S2816x1024 .bf16) slices_S2816x1024_S1024x1024_768_0 := by
    show StableHlo.after hostOps2 (W2 m ρ c) (Proc.devRef .tc main_v4) = _
    simp only [StableHlo.after]
    rfl
  rw [h, W2_args m ρ c main_arg2 (by decide)]
  funext i
  unfold xw mat
  generalize m ((c : Thread nD τ).loc main_arg2) = a
  pointwise []

/-- The projection's last part. -/
theorem v5_eq (c : Dev nD) : W3 m ρ c (Proc.devRef .tc main_v5) = fun i : S1024x1024.Idx => xw m c (at3 (i 0)) (i 1) := by
  have h : W3 m ρ c (Proc.devRef .tc main_v5) = extractStridedSlice S1024x1024 ![1792, 0] (W2 m ρ c (Proc.devRef .tc main_arg2) : FVec Ideal S2816x1024 .bf16) slices_S2816x1024_S1024x1024_1792_0 := by
    show StableHlo.after hostOps2 (W2 m ρ c) (Proc.devRef .tc main_v5) = _
    simp only [StableHlo.after]
    rfl
  rw [h, W2_args m ρ c main_arg2 (by decide)]
  funext i
  unfold xw mat
  generalize m ((c : Thread nD τ).loc main_arg2) = a
  pointwise []

/-- The pooled mixer's part of the projection's gradient. -/
theorem v6_eq (c : Dev nD) : W4 m ρ c (Proc.devRef .tc main_v6) = fun i : S512x1024.Idx => dot (fun r => xdp m c r (i 0)) (fun r => nrm (xg m c) (xh m c r) (i 1)) := by
  refine (W4_arr m ρ c 2).trans ((fin2_2 (V3 m ρ) c).trans ?_)
  rw [show V3 m ρ c main_arg3 = m ((c : Thread nD τ).loc main_arg3) from (W3_args m ρ c main_arg3 (by decide)),
    show V3 m ρ c main_v0 = fun i : S4096x1024.Idx => nrm (xg m c) (xh m c (i 0)) (i 1) from ((W3_of m ρ c main_v0 (by decide +kernel)).trans (W2_of m ρ c main_v0 (by decide +kernel))).trans (v0_eq m ρ c)]
  rfl

/-- The state mixer's part of the projection's gradient. -/
theorem v7_eq (c : Dev nD) : W5 m ρ c (Proc.devRef .tc main_v7) = fun i : S256x1024.Idx => dot (fun r => xds m c r (i 0)) (fun r => nrm (xg m c) (xh m c r) (i 1)) := by
  refine (W5_arr m ρ c 2).trans ((fin3_2 (V4 m ρ) c).trans ?_)
  rw [show V4 m ρ c main_arg4 = m ((c : Thread nD τ).loc main_arg4) from (W4_args m ρ c main_arg4 (by decide)),
    show V4 m ρ c main_v0 = fun i : S4096x1024.Idx => nrm (xg m c) (xh m c (i 0)) (i 1) from (((W4_of m ρ c main_v0 (by decide +kernel)).trans (W3_of m ρ c main_v0 (by decide +kernel))).trans (W2_of m ρ c main_v0 (by decide +kernel))).trans (v0_eq m ρ c)]
  rfl

/-- The pooled mixer's gates' part of the projection's gradient. -/
theorem v8_eq (c : Dev nD) : W6 m ρ c (Proc.devRef .tc main_v8) = fun i : S1024x1024.Idx => dot (fun r => xgp m c r (i 0)) (fun r => nrm (xg m c) (xh m c r) (i 1)) := by
  refine (W6_arr m ρ c 2).trans ((fin4_2 (V5 m ρ) c).trans ?_)
  rw [show V5 m ρ c main_arg5 = m ((c : Thread nD τ).loc main_arg5) from (W5_args m ρ c main_arg5 (by decide)),
    show V5 m ρ c main_v0 = fun i : S4096x1024.Idx => nrm (xg m c) (xh m c (i 0)) (i 1) from ((((W5_of m ρ c main_v0 (by decide +kernel)).trans (W4_of m ρ c main_v0 (by decide +kernel))).trans (W3_of m ρ c main_v0 (by decide +kernel))).trans (W2_of m ρ c main_v0 (by decide +kernel))).trans (v0_eq m ρ c)]
  rfl

/-- The state mixer's gates' part of the projection's gradient. -/
theorem v9_eq (c : Dev nD) : W7 m ρ c (Proc.devRef .tc main_v9) = fun i : S1024x1024.Idx => dot (fun r => xgs m c r (i 0)) (fun r => nrm (xg m c) (xh m c r) (i 1)) := by
  refine (W7_arr m ρ c 2).trans ((fin5_2 (V6 m ρ) c).trans ?_)
  rw [show V6 m ρ c main_arg6 = m ((c : Thread nD τ).loc main_arg6) from (W6_args m ρ c main_arg6 (by decide)),
    show V6 m ρ c main_v0 = fun i : S4096x1024.Idx => nrm (xg m c) (xh m c (i 0)) (i 1) from (((((W6_of m ρ c main_v0 (by decide +kernel)).trans (W5_of m ρ c main_v0 (by decide +kernel))).trans (W4_of m ρ c main_v0 (by decide +kernel))).trans (W3_of m ρ c main_v0 (by decide +kernel))).trans (W2_of m ρ c main_v0 (by decide +kernel))).trans (v0_eq m ρ c)]
  rfl

/-- The four parts as the host lays them one after the other. -/
def joined (a : FVec Ideal S512x1024 .bf16) (b : FVec Ideal S256x1024 .bf16) (c d : FVec Ideal S1024x1024 .bf16) : FVec Ideal S2816x1024 .bf16 :=
  concatenate S2816x1024 0 [⟨S512x1024, a⟩, ⟨S256x1024, b⟩, ⟨S1024x1024, c⟩, ⟨S1024x1024, d⟩] concatenates_S512x1024_S256x1024_S1024x1024_S1024x1024_S2816x1024_d0

/-- Each row of them is its part's. -/
theorem joined_apply (a : FVec Ideal S512x1024 .bf16) (b : FVec Ideal S256x1024 .bf16) (c d : FVec Ideal S1024x1024 .bf16) (j : Fin 2816) (l : Fin 1024) :
    joined a b c d (ix2 j l) = cat (fun k => a (ix2 k l)) (fun k => b (ix2 k l)) (fun k => c (ix2 k l)) (fun k => d (ix2 k l)) j := by
  unfold cat
  pointwise [joined]

/-- The projection's gradient. -/
theorem v10_eq (c : Dev nD) : W8 m ρ c (Proc.devRef .tc main_v10) = fun i : S2816x1024.Idx => fDw (xh m c) (xg m c) (xdp m c) (xds m c) (xgp m c) (xgs m c) (i 0) (i 1) := by
  have h : W8 m ρ c (Proc.devRef .tc main_v10) = joined (W7 m ρ c (Proc.devRef .tc main_v6)) (W7 m ρ c (Proc.devRef .tc main_v7)) (W7 m ρ c (Proc.devRef .tc main_v8)) (W7 m ρ c (Proc.devRef .tc main_v9)) := by
    show StableHlo.after hostOps6 (W7 m ρ c) (Proc.devRef .tc main_v10) = _
    simp only [StableHlo.after]
    rfl
  rw [h, show W7 m ρ c (Proc.devRef .tc main_v6) = fun i : S512x1024.Idx => dot (fun r => xdp m c r (i 0)) (fun r => nrm (xg m c) (xh m c r) (i 1)) from (((W7_of m ρ c main_v6 (by decide +kernel)).trans (W6_of m ρ c main_v6 (by decide +kernel))).trans (W5_of m ρ c main_v6 (by decide +kernel))).trans (v6_eq m ρ c),
    show W7 m ρ c (Proc.devRef .tc main_v7) = fun i : S256x1024.Idx => dot (fun r => xds m c r (i 0)) (fun r => nrm (xg m c) (xh m c r) (i 1)) from ((W7_of m ρ c main_v7 (by decide +kernel)).trans (W6_of m ρ c main_v7 (by decide +kernel))).trans (v7_eq m ρ c),
    show W7 m ρ c (Proc.devRef .tc main_v8) = fun i : S1024x1024.Idx => dot (fun r => xgp m c r (i 0)) (fun r => nrm (xg m c) (xh m c r) (i 1)) from (W7_of m ρ c main_v8 (by decide +kernel)).trans (v8_eq m ρ c),
    show W7 m ρ c (Proc.devRef .tc main_v9) = fun i : S1024x1024.Idx => dot (fun r => xgs m c r (i 0)) (fun r => nrm (xg m c) (xh m c r) (i 1)) from v9_eq m ρ c]
  funext i
  exact (congrArg _ (eq_ix2 i)).trans (joined_apply _ _ _ _ (i 0) (i 1))

/-- The normalised rows' cotangent. -/
theorem v11_eq (c : Dev nD) : W9 m ρ c (Proc.devRef .tc main_v11) = fun i : S4096x1024.Idx => fDu (xw m c) (xdp m c) (xds m c) (xgp m c) (xgs m c) (i 0) (i 1) := by
  refine (W9_arr m ρ c 8).trans ((fin6_8 (V8 m ρ) c).trans ?_)
  rw [show V8 m ρ c main_arg3 = m ((c : Thread nD τ).loc main_arg3) from (W8_args m ρ c main_arg3 (by decide)),
    show V8 m ρ c main_arg4 = m ((c : Thread nD τ).loc main_arg4) from (W8_args m ρ c main_arg4 (by decide)),
    show V8 m ρ c main_arg5 = m ((c : Thread nD τ).loc main_arg5) from (W8_args m ρ c main_arg5 (by decide)),
    show V8 m ρ c main_arg6 = m ((c : Thread nD τ).loc main_arg6) from (W8_args m ρ c main_arg6 (by decide)),
    show V8 m ρ c main_v2 = fun i : S512x1024.Idx => xw m c (at0 (i 0)) (i 1) from (((((W8_of m ρ c main_v2 (by decide +kernel)).trans (W7_of m ρ c main_v2 (by decide +kernel))).trans (W6_of m ρ c main_v2 (by decide +kernel))).trans (W5_of m ρ c main_v2 (by decide +kernel))).trans (W4_of m ρ c main_v2 (by decide +kernel))).trans (v2_eq m ρ c),
    show V8 m ρ c main_v3 = fun i : S256x1024.Idx => xw m c (at1 (i 0)) (i 1) from (((((W8_of m ρ c main_v3 (by decide +kernel)).trans (W7_of m ρ c main_v3 (by decide +kernel))).trans (W6_of m ρ c main_v3 (by decide +kernel))).trans (W5_of m ρ c main_v3 (by decide +kernel))).trans (W4_of m ρ c main_v3 (by decide +kernel))).trans (v3_eq m ρ c),
    show V8 m ρ c main_v4 = fun i : S1024x1024.Idx => xw m c (at2 (i 0)) (i 1) from (((((W8_of m ρ c main_v4 (by decide +kernel)).trans (W7_of m ρ c main_v4 (by decide +kernel))).trans (W6_of m ρ c main_v4 (by decide +kernel))).trans (W5_of m ρ c main_v4 (by decide +kernel))).trans (W4_of m ρ c main_v4 (by decide +kernel))).trans (v4_eq m ρ c),
    show V8 m ρ c main_v5 = fun i : S1024x1024.Idx => xw m c (at3 (i 0)) (i 1) from (((((W8_of m ρ c main_v5 (by decide +kernel)).trans (W7_of m ρ c main_v5 (by decide +kernel))).trans (W6_of m ρ c main_v5 (by decide +kernel))).trans (W5_of m ρ c main_v5 (by decide +kernel))).trans (W4_of m ρ c main_v5 (by decide +kernel))).trans (v5_eq m ρ c)]
  rfl

/-- The stream's cotangent. -/
theorem v12_0_eq (c : Dev nD) : W10 m ρ c (Proc.devRef .tc main_v12_0) = fun i : S4096x1024.Idx => fDin (xh m c) (xg m c) (xw m c) (xdp m c) (xds m c) (xgp m c) (xgs m c) (xdh m c) (i 0) (i 1) := by
  refine (W10_arr m ρ c 4).trans ((fin7_4 (V9 m ρ) c).trans ?_)
  rw [show V9 m ρ c main_arg7 = m ((c : Thread nD τ).loc main_arg7) from (W9_args m ρ c main_arg7 (by decide)),
    show V9 m ρ c main_arg1 = m ((c : Thread nD τ).loc main_arg1) from (W9_args m ρ c main_arg1 (by decide)),
    show V9 m ρ c main_arg0 = m ((c : Thread nD τ).loc main_arg0) from (W9_args m ρ c main_arg0 (by decide)),
    show V9 m ρ c main_v11 = fun i : S4096x1024.Idx => fDu (xw m c) (xdp m c) (xds m c) (xgp m c) (xgs m c) (i 0) (i 1) from v11_eq m ρ c]
  rfl

/-- The stream's cotangent in the narrower array. -/
theorem v12_1_eq (c : Dev nD) : W10 m ρ c (Proc.devRef .tc main_v12_1) = fun i : S4096x1024.Idx => fDin (xh m c) (xg m c) (xw m c) (xdp m c) (xds m c) (xgp m c) (xgs m c) (xdh m c) (i 0) (i 1) := by
  refine (W10_arr m ρ c 5).trans ((fin7_5 (V9 m ρ) c).trans ?_)
  rw [show V9 m ρ c main_arg7 = m ((c : Thread nD τ).loc main_arg7) from (W9_args m ρ c main_arg7 (by decide)),
    show V9 m ρ c main_arg1 = m ((c : Thread nD τ).loc main_arg1) from (W9_args m ρ c main_arg1 (by decide)),
    show V9 m ρ c main_arg0 = m ((c : Thread nD τ).loc main_arg0) from (W9_args m ρ c main_arg0 (by decide)),
    show V9 m ρ c main_v11 = fun i : S4096x1024.Idx => fDu (xw m c) (xdp m c) (xds m c) (xgp m c) (xgs m c) (i 0) (i 1) from v11_eq m ρ c]
  rfl

/-- The gains' gradient. -/
theorem v12_2_eq (c : Dev nD) : W10 m ρ c (Proc.devRef .tc main_v12_2) = fun i : S1x1024.Idx => fDg (xh m c) (xw m c) (xdp m c) (xds m c) (xgp m c) (xgs m c) (i 1) := by
  refine (W10_arr m ρ c 6).trans ((fin7_6 (V9 m ρ) c).trans ?_)
  rw [show V9 m ρ c main_v11 = fun i : S4096x1024.Idx => fDu (xw m c) (xdp m c) (xds m c) (xgp m c) (xgs m c) (i 0) (i 1) from v11_eq m ρ c,
    show V9 m ρ c main_arg0 = m ((c : Thread nD τ).loc main_arg0) from (W9_args m ρ c main_arg0 (by decide))]
  rfl

/-- It stands at the end of the run. -/
theorem v1_end (c : Dev nD) : W10 m ρ c (Proc.devRef .tc main_v1) = fun i : S4096x2816.Idx => fUp (xh m c) (xg m c) (xw m c) (i 0) (i 1) :=
  ((((((((W10_of m ρ c main_v1 (by decide +kernel)).trans (W9_of m ρ c main_v1 (by decide +kernel))).trans (W8_of m ρ c main_v1 (by decide +kernel))).trans (W7_of m ρ c main_v1 (by decide +kernel))).trans (W6_of m ρ c main_v1 (by decide +kernel))).trans (W5_of m ρ c main_v1 (by decide +kernel))).trans (W4_of m ρ c main_v1 (by decide +kernel))).trans (W3_of m ρ c main_v1 (by decide +kernel))).trans (v1_eq m ρ c)

/-- It stands at the end of the run. -/
theorem v10_end (c : Dev nD) : W10 m ρ c (Proc.devRef .tc main_v10) = fun i : S2816x1024.Idx => fDw (xh m c) (xg m c) (xdp m c) (xds m c) (xgp m c) (xgs m c) (i 0) (i 1) :=
  ((W10_of m ρ c main_v10 (by decide +kernel)).trans (W9_of m ρ c main_v10 (by decide +kernel))).trans (v10_eq m ρ c)

end Cert.Kernel4Ideal.Proj
-- ==== Proof.ProjRun.lean ====
module

public import proofs.«01_k».proof.Proof.ProjChain

@[expose] public section

set_option maxRecDepth 16384

noncomputable section

namespace Cert.Kernel4Ideal.Proj

open Cert.Kernel4Ideal Cert.Kernel4Ideal.Gen Cert.ProjSpec
open Cert.FfnSpec (mat dot nrm fUp)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

-- `θ_run_regions_kit_sems`'s implicit arguments are found by unifying its conclusion with this one, which takes unfolding
-- plain definitions in a metavariable's type
set_option backward.isDefEq.respectTransparency.types false in
/-- The run with every result array named: each at its formula of the arguments, the arguments as they were, every counter at zero. -/
theorem run : θ_run defs (onTc (τ := τ) (main (F := Ideal))) ⟨m, fun _ => 0, ρ⟩ (fun r => (∀ c : Dev nD,
      r.2.mem ((c.tc : Thread nD τ).loc main_v1) = (fun i : S4096x2816.Idx => fUp (xh m c) (xg m c) (xw m c) (i 0) (i 1)) ∧
      r.2.mem ((c.tc : Thread nD τ).loc main_v12_0) = (fun i : S4096x1024.Idx => fDin (xh m c) (xg m c) (xw m c) (xdp m c) (xds m c) (xgp m c) (xgs m c) (xdh m c) (i 0) (i 1)) ∧
      r.2.mem ((c.tc : Thread nD τ).loc main_v12_1) = (fun i : S4096x1024.Idx => fDin (xh m c) (xg m c) (xw m c) (xdp m c) (xds m c) (xgp m c) (xgs m c) (xdh m c) (i 0) (i 1)) ∧
      r.2.mem ((c.tc : Thread nD τ).loc main_v12_2) = (fun i : S1x1024.Idx => fDg (xh m c) (xw m c) (xdp m c) (xds m c) (xgp m c) (xgs m c) (i 1)) ∧
      r.2.mem ((c.tc : Thread nD τ).loc main_v10) = (fun i : S2816x1024.Idx => fDw (xh m c) (xg m c) (xdp m c) (xds m c) (xgp m c) (xgs m c) (i 0) (i 1)) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨(fun c =>
      ⟨(h c _ (mem_uc main_v1 (by decide))).trans (v1_end m ρ c),
       (h c _ (mem_uc main_v12_0 (by decide))).trans (v12_0_eq m ρ c),
       (h c _ (mem_uc main_v12_1 (by decide))).trans (v12_1_eq m ρ c),
       (h c _ (mem_uc main_v12_2 (by decide))).trans (v12_2_eq m ρ c),
       (h c _ (mem_uc main_v10 (by decide))).trans (v10_end m ρ c),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩), funext fun g => hz g (.inr (no_unscoped g.2))⟩)

end Cert.Kernel4Ideal.Proj
-- ==== Proof.ProjRef.lean ====
module

public import proofs.«01_k».proof.Proof.Gen.Reference4Ideal.Read
public import proofs.«01_k».proof.Proof.ProjSpec

@[expose] public section

set_option maxRecDepth 16384

noncomputable section

namespace Cert.Reference4Ideal.Proj

open Cert.Reference4Ideal Cert.Reference4Ideal.Read Cert.ProjSpec Idealize.ShloMosaic Idealize.ShloMosaic.TcCoe Idealize.SL.Sem
open Cert.FfnSpec (mat dot ms rstd nh nrm fUp pQ pDin)

variable (x0 : FVec Ideal S4096x1024 .f32) (x1 : FVec Ideal S1x1024 .f32) (x2 : FVec Ideal S2816x1024 .bf16) (x3 : FVec Ideal S4096x512 .bf16)
  (x4 : FVec Ideal S4096x256 .bf16) (x5 x6 : FVec Ideal S4096x1024 .bf16) (x7 : FVec Ideal S4096x1024 .f32)

/-- The gains as a row. -/
abbrev gain : Fin 1024 → EReal := fun k => x1 (ix2 0 k)

/-- The reference's mean squares. -/
theorem r8 (r : Fin 4096) : val_main_v8 (F := Ideal) x0 (ix2 r 0) = ms (mat ix2 x0 r) := by
  unfold ms mat
  pointwise [val_main_v2, val_main_cst, val_main_v3, val_main_v4, val_main_cst_0, val_main_v5, val_main_v6, val_main_cst_1, val_main_v7, val_main_v8]

/-- The reference's factors. -/
theorem r9 (r : Fin 4096) : val_main_v9 (F := Ideal) x0 (ix2 r 0) = rstd (mat ix2 x0 r) := by
  unfold rstd
  rw [← r8]
  unfold val_main_v9
  generalize val_main_v8 (F := Ideal) x0 = w
  pointwise []

/-- The reference's normalised rows. -/
theorem r14 (r : Fin 4096) (l : Fin 1024) : val_main_v14 (F := Ideal) x0 (ix2 r l) = nh (mat ix2 x0 r) l := by
  unfold nh
  rw [← r9]
  unfold val_main_v14 val_main_v13
  generalize val_main_v9 (F := Ideal) x0 = w
  pointwise []

/-- The reference's normalised and scaled rows. -/
theorem r16 (r : Fin 4096) (l : Fin 1024) : val_main_v16 (F := Ideal) x0 x1 (ix2 r l) = nrm (gain x1) (mat ix2 x0 r) l := by
  unfold nrm
  rw [← r14]
  unfold val_main_v16 val_main_v15
  generalize val_main_v14 (F := Ideal) x0 = w
  pointwise []

/-- The reference's projected rows. -/
theorem r17 (r : Fin 4096) (j : Fin 2816) :
    val_main_v17 (F := Ideal) x0 x1 x2 (ix2 r j) = fUp (mat ix2 x0) (gain x1) (mat ix2 x2) r j := by
  have e : nrm (gain x1) (mat ix2 x0 r) = fun l => (show EReal from val_main_v16 (F := Ideal) x0 x1 (ix2 r l)) := funext fun l => (r16 x0 x1 r l).symm
  unfold fUp dot
  rw [e]
  unfold val_main_v17
  generalize val_main_v16 (F := Ideal) x0 x1 = w
  pointwise [val_main_v0, val_main_v1]

/-- The four parts of the projected rows' cotangent side by side. -/
theorem r22 (r : Fin 4096) (j : Fin 2816) :
    val_main_v22 (F := Ideal) x3 x4 x5 x6 (ix2 r j) = ct (mat ix2 x3) (mat ix2 x4) (mat ix2 x5) (mat ix2 x6) r j := by
  unfold ct cat mat
  pointwise [val_main_v22, val_main_v18, val_main_v19, val_main_v20, val_main_v21]

/-- The reference's gradient of the projection. -/
theorem r48 (j : Fin 2816) (l : Fin 1024) :
    val_main_v48 (F := Ideal) x0 x1 x3 x4 x5 x6 (ix2 j l)
      = gDw (mat ix2 x0) (gain x1) (mat ix2 x3) (mat ix2 x4) (mat ix2 x5) (mat ix2 x6) j l := by
  have e : (fun r => ct (mat ix2 x3) (mat ix2 x4) (mat ix2 x5) (mat ix2 x6) r j)
      = fun r => (show EReal from val_main_v22 (F := Ideal) x3 x4 x5 x6 (ix2 r j)) := funext fun r => (r22 x3 x4 x5 x6 r j).symm
  have e' : (fun r => nrm (gain x1) (mat ix2 x0 r) l) = fun r => (show EReal from val_main_v16 (F := Ideal) x0 x1 (ix2 r l)) := funext fun r => (r16 x0 x1 r l).symm
  unfold gDw dot
  rw [e, e']
  unfold val_main_v48 val_main_v47 val_main_v24 val_main_v23
  generalize val_main_v22 (F := Ideal) x3 x4 x5 x6 = w
  generalize val_main_v16 (F := Ideal) x0 x1 = w'
  pointwise []

/-- The reference's cotangents of the normalised rows. -/
theorem r25 (r : Fin 4096) (l : Fin 1024) :
    val_main_v25 (F := Ideal) x2 x3 x4 x5 x6 (ix2 r l)
      = gDu (mat ix2 x2) (mat ix2 x3) (mat ix2 x4) (mat ix2 x5) (mat ix2 x6) r l := by
  have e : ct (mat ix2 x3) (mat ix2 x4) (mat ix2 x5) (mat ix2 x6) r
      = fun j => (show EReal from val_main_v22 (F := Ideal) x3 x4 x5 x6 (ix2 r j)) := funext fun j => (r22 x3 x4 x5 x6 r j).symm
  unfold gDu dot
  rw [e]
  unfold val_main_v25
  generalize val_main_v22 (F := Ideal) x3 x4 x5 x6 = w
  pointwise [val_main_v0, val_main_v1]

/-- The reference's gradient of the gains. -/
theorem r28 (l : Fin 1024) :
    val_main_v28 (F := Ideal) x0 x2 x3 x4 x5 x6 (ix2 0 l)
      = gDg (mat ix2 x0) (mat ix2 x2) (mat ix2 x3) (mat ix2 x4) (mat ix2 x5) (mat ix2 x6) l := by
  have e : gDu (mat ix2 x2) (mat ix2 x3) (mat ix2 x4) (mat ix2 x5) (mat ix2 x6)
      = fun r l => (show EReal from val_main_v25 (F := Ideal) x2 x3 x4 x5 x6 (ix2 r l)) := funext fun r => funext fun l => (r25 x2 x3 x4 x5 x6 r l).symm
  have e' : (fun r => nh (mat ix2 x0 r) l) = fun r => (show EReal from val_main_v14 (F := Ideal) x0 (ix2 r l)) := funext fun r => (r14 x0 r l).symm
  have e'' : gDg (mat ix2 x0) (mat ix2 x2) (mat ix2 x3) (mat ix2 x4) (mat ix2 x5) (mat ix2 x6) l
      = ∑ r, (fun r => nh (mat ix2 x0 r) l) r * gDu (mat ix2 x2) (mat ix2 x3) (mat ix2 x4) (mat ix2 x5) (mat ix2 x6) r l := rfl
  rw [e'', e, e']
  clear e e' e''
  unfold val_main_v28 val_main_v27 val_main_v26
  generalize val_main_v25 (F := Ideal) x2 x3 x4 x5 x6 = w
  generalize val_main_v14 (F := Ideal) x0 = w'
  pointwise [val_main_cst_3]

/-- The reference's cotangent of the mean square's share, before it is spread over a row. -/
theorem r39 (r : Fin 4096) :
    val_main_v39 (F := Ideal) x0 x1 x2 x3 x4 x5 x6 (ix1 r)
      = pQ (gain x1) (mat ix2 x0 r) (gDu (mat ix2 x2) (mat ix2 x3) (mat ix2 x4) (mat ix2 x5) (mat ix2 x6) r) := by
  have e : gDu (mat ix2 x2) (mat ix2 x3) (mat ix2 x4) (mat ix2 x5) (mat ix2 x6) r
      = fun l => (show EReal from val_main_v25 (F := Ideal) x2 x3 x4 x5 x6 (ix2 r l)) := funext fun l => (r25 x2 x3 x4 x5 x6 r l).symm
  unfold pQ
  rw [e, ← r9, ← r8]
  clear e
  unfold mat val_main_v39 val_main_v38 val_main_v36 val_main_v33 val_main_v32 val_main_v31 val_main_v30 val_main_v12 val_main_v10
  generalize val_main_v25 (F := Ideal) x2 x3 x4 x5 x6 = w
  generalize val_main_v9 (F := Ideal) x0 = w1
  generalize val_main_v8 (F := Ideal) x0 = w2
  pointwise [val_main_cst_6, val_main_cst_5, val_main_v37, val_main_cst_4, val_main_v29, val_main_cst_2, val_main_v11]
  exact Fin.sum_univ_one _

/-- The reference's cotangent of the stream before the projection. -/
theorem r45 (r : Fin 4096) (l : Fin 1024) :
    val_main_v45 (F := Ideal) x0 x1 x2 x3 x4 x5 x6 x7 (ix2 r l)
      = gDin (mat ix2 x0) (gain x1) (mat ix2 x2) (mat ix2 x3) (mat ix2 x4) (mat ix2 x5) (mat ix2 x6) (mat ix2 x7) r l := by
  unfold gDin pDin
  rw [← r39, ← r25, ← r9, add_assoc, add_assoc, ← add_assoc (_ * _)]
  unfold val_main_v45 val_main_v44 val_main_v43 val_main_v42 val_main_v41 val_main_v40 val_main_v35 val_main_v34 val_main_v30
  generalize val_main_v39 (F := Ideal) x0 x1 x2 x3 x4 x5 x6 = w3
  generalize val_main_v25 (F := Ideal) x2 x3 x4 x5 x6 = w
  generalize val_main_v9 (F := Ideal) x0 = w1
  unfold mat
  pointwise [val_main_v29]

/-- The same cotangent in the narrower array. -/
theorem r46 (r : Fin 4096) (l : Fin 1024) :
    val_main_v46 (F := Ideal) x0 x1 x2 x3 x4 x5 x6 x7 (ix2 r l)
      = gDin (mat ix2 x0) (gain x1) (mat ix2 x2) (mat ix2 x3) (mat ix2 x4) (mat ix2 x5) (mat ix2 x6) (mat ix2 x7) r l := by
  rw [← r45]
  unfold val_main_v46
  generalize val_main_v45 (F := Ideal) x0 x1 x2 x3 x4 x5 x6 x7 = w
  pointwise []

end Cert.Reference4Ideal.Proj
-- ==== Proof.ProjRefRun.lean ====
module

public import proofs.«01_k».proof.Proof.ProjRef
public import proofs.«01_k».proof.Proof.Gen.Reference4Ideal.Run

@[expose] public section

set_option maxRecDepth 16384

noncomputable section

namespace Cert.Reference4Ideal.Proj

open Cert.Reference4Ideal Cert.Reference4Ideal.Read Cert.ProjSpec Idealize.ShloMosaic Idealize.ShloMosaic.TcCoe Idealize.SL.Sem
open Cert.FfnSpec (mat dot fUp)

variable (m : (ℓ : Loc nD τ sig) → Buf (Elt Ideal) ℓ) (ρ : Dev nD → PrngReg)

/-- The reference's arguments on a device, as functions of row and column. -/
abbrev yh (c : Dev nD) : Fin 4096 → Fin 1024 → EReal := mat (s := S4096x1024) (t := .f32) ix2 (m ((c.tc : Thread nD τ).loc main_arg0))
@[inherit_doc yh] abbrev yg (c : Dev nD) : Fin 1024 → EReal := fun k => (m ((c.tc : Thread nD τ).loc main_arg1) : FVec Ideal S1x1024 .f32) (ix2 0 k)
@[inherit_doc yh] abbrev yw (c : Dev nD) : Fin 2816 → Fin 1024 → EReal := mat (s := S2816x1024) (t := .bf16) ix2 (m ((c.tc : Thread nD τ).loc main_arg2))
@[inherit_doc yh] abbrev ydp (c : Dev nD) : Fin 4096 → Fin 512 → EReal := mat (s := S4096x512) (t := .bf16) ix2 (m ((c.tc : Thread nD τ).loc main_arg3))
@[inherit_doc yh] abbrev yds (c : Dev nD) : Fin 4096 → Fin 256 → EReal := mat (s := S4096x256) (t := .bf16) ix2 (m ((c.tc : Thread nD τ).loc main_arg4))
@[inherit_doc yh] abbrev ygp (c : Dev nD) : Fin 4096 → Fin 1024 → EReal := mat (s := S4096x1024) (t := .bf16) ix2 (m ((c.tc : Thread nD τ).loc main_arg5))
@[inherit_doc yh] abbrev ygs (c : Dev nD) : Fin 4096 → Fin 1024 → EReal := mat (s := S4096x1024) (t := .bf16) ix2 (m ((c.tc : Thread nD τ).loc main_arg6))
@[inherit_doc yh] abbrev ydh (c : Dev nD) : Fin 4096 → Fin 1024 → EReal := mat (s := S4096x1024) (t := .f32) ix2 (m ((c.tc : Thread nD τ).loc main_arg7))

/-- What the reference leaves in one of its results, over the arguments' arrays. -/
theorem v17_end (c : Dev nD) : val_main_v17 (F := Ideal) (m ((c.tc : Thread nD τ).loc main_arg0)) (m ((c.tc : Thread nD τ).loc main_arg1)) (m ((c.tc : Thread nD τ).loc main_arg2)) = fun i : S4096x2816.Idx => fUp (yh m c) (yg m c) (yw m c) (i 0) (i 1) :=
  funext fun i => (congrArg _ (eq_ix2 i)).trans (r17 (m ((c.tc : Thread nD τ).loc main_arg0)) (m ((c.tc : Thread nD τ).loc main_arg1)) (m ((c.tc : Thread nD τ).loc main_arg2)) (i 0) (i 1))

/-- What the reference leaves in one of its results, over the arguments' arrays. -/
theorem v45_end (c : Dev nD) : val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun i : S4096x1024.Idx => gDin (yh m c) (yg m c) (yw m c) (ydp m c) (yds m c) (ygp m c) (ygs m c) (ydh m c) (i 0) (i 1) :=
  funext fun i => (congrArg _ (eq_ix2 i)).trans (r45 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (i 0) (i 1))

/-- What the reference leaves in one of its results, over the arguments' arrays. -/
theorem v46_end (c : Dev nD) : val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun i : S4096x1024.Idx => gDin (yh m c) (yg m c) (yw m c) (ydp m c) (yds m c) (ygp m c) (ygs m c) (ydh m c) (i 0) (i 1) :=
  funext fun i => (congrArg _ (eq_ix2 i)).trans (r46 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (i 0) (i 1))

/-- What the reference leaves in one of its results, over the arguments' arrays. -/
theorem v28_end (c : Dev nD) : val_main_v28 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun i : S1x1024.Idx => gDg (yh m c) (yw m c) (ydp m c) (yds m c) (ygp m c) (ygs m c) (i 1) :=
  by
  funext i
  rw [show i = ix2 (0 : Fin 1) (i 1) from (eq_ix2 i).trans (congrArg (fun z => ix2 z (i 1)) (Subsingleton.elim _ _))]
  exact r28 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 1)

/-- What the reference leaves in one of its results, over the arguments' arrays. -/
theorem v48_end (c : Dev nD) : val_main_v48 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) = fun i : S2816x1024.Idx => gDw (yh m c) (yg m c) (ydp m c) (yds m c) (ygp m c) (ygs m c) (i 0) (i 1) :=
  funext fun i => (congrArg _ (eq_ix2 i)).trans (r48 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (i 0) (i 1))

set_option maxHeartbeats 1000000 in
/-- The reference's run, each result at its formula of the arguments. -/
theorem run : θ_run defs (onTc (τ := τ) (main (F := Ideal))) ⟨m, fun _ => 0, ρ⟩ fun r => ∀ c : Dev nD,
      r.2.mem ((c.tc : Thread nD τ).loc main_v17) = (fun i : S4096x2816.Idx => fUp (yh m c) (yg m c) (yw m c) (i 0) (i 1)) ∧
      r.2.mem ((c.tc : Thread nD τ).loc main_v45) = (fun i : S4096x1024.Idx => gDin (yh m c) (yg m c) (yw m c) (ydp m c) (yds m c) (ygp m c) (ygs m c) (ydh m c) (i 0) (i 1)) ∧
      r.2.mem ((c.tc : Thread nD τ).loc main_v46) = (fun i : S4096x1024.Idx => gDin (yh m c) (yg m c) (yw m c) (ydp m c) (yds m c) (ygp m c) (ygs m c) (ydh m c) (i 0) (i 1)) ∧
      r.2.mem ((c.tc : Thread nD τ).loc main_v28) = (fun i : S1x1024.Idx => gDg (yh m c) (yw m c) (ydp m c) (yds m c) (ygp m c) (ygs m c) (i 1)) ∧
      r.2.mem ((c.tc : Thread nD τ).loc main_v48) = (fun i : S2816x1024.Idx => gDw (yh m c) (yg m c) (ydp m c) (yds m c) (ygp m c) (ygs m c) (i 0) (i 1)) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) := by
  refine (θ_run defs _ _).mono (fun r h c => ?_) (Cert.Reference4Ideal.Value.run (F := Ideal) m ρ)
  obtain ⟨hv17, hv45, hv46, hv28, hv48, hargs⟩ := h c
  exact ⟨hv17.trans ((val_main_v17_eq (F := Ideal) (m ((c.tc : Thread nD τ).loc main_arg0)) (m ((c.tc : Thread nD τ).loc main_arg1)) (m ((c.tc : Thread nD τ).loc main_arg2))).trans (v17_end m c)),
    hv45.trans ((val_main_v45_eq (F := Ideal) m c).trans (v45_end m c)),
    hv46.trans ((val_main_v46_eq (F := Ideal) m c).trans (v46_end m c)),
    hv28.trans ((val_main_v28_eq (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))).trans (v28_end m c)),
    hv48.trans ((val_main_v48_eq (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))).trans (v48_end m c)), hargs⟩

end Cert.Reference4Ideal.Proj
-- ==== Proof.ProjClaim.lean ====
module

public import proofs.«01_k».proof.Defs
public import proofs.«01_k».proof.Proof.ProjRun
public import proofs.«01_k».proof.Proof.ProjRefRun
public import proofs.«01_k».proof.Proof.Finite
public import proofs.«01_k».proof.Proof.Gen.Pre_finite4

@[expose] public section

set_option maxRecDepth 16384

noncomputable section

namespace Cert.Proj

open Cert.ProjSpec Idealize.ShloMosaic Idealize.ShloMosaic.TcCoe Idealize.SL.Sem
open Cert.FfnSpec (mat dot fUp)

/-- The precondition gives reals on every device. -/
theorem reals {m : (ℓ : Loc Cert.Kernel4Ideal.nD Cert.Kernel4Ideal.τ Cert.Kernel4Ideal.sig) → Buf (Elt Ideal) ℓ}
    (hpre : Cert.Pre_Kernel4Ideal_finite4 m) (c : Dev Cert.Kernel4Ideal.nD) :
    Reals (Cert.Kernel4Ideal.Proj.xh m c) (Cert.Kernel4Ideal.Proj.xg m c) (Cert.Kernel4Ideal.Proj.xw m c) (Cert.Kernel4Ideal.Proj.xdp m c) (Cert.Kernel4Ideal.Proj.xds m c) (Cert.Kernel4Ideal.Proj.xgp m c) (Cert.Kernel4Ideal.Proj.xgs m c) (Cert.Kernel4Ideal.Proj.xdh m c) := by
  obtain ⟨h0, h1, h2, h3, h4, h5, h6, h7⟩ := hpre c
  exact ⟨fun r l => Cert.Finite.real_of_lt _ _ (fun _ => Cert.Finite.posInf) h0 (ix2 r l),
    fun l => Cert.Finite.real_of_lt _ _ (fun _ => Cert.Finite.posInf) h1 (ix2 0 l),
    fun r l => Cert.Finite.real_of_lt _ _ (fun _ => Cert.Finite.posInf) h2 (ix2 r l),
    fun r l => Cert.Finite.real_of_lt _ _ (fun _ => Cert.Finite.posInf) h3 (ix2 r l),
    fun r l => Cert.Finite.real_of_lt _ _ (fun _ => Cert.Finite.posInf) h4 (ix2 r l),
    fun r l => Cert.Finite.real_of_lt _ _ (fun _ => Cert.Finite.posInf) h5 (ix2 r l),
    fun r l => Cert.Finite.real_of_lt _ _ (fun _ => Cert.Finite.posInf) h6 (ix2 r l),
    fun r l => Cert.Finite.real_of_lt _ _ (fun _ => Cert.Finite.posInf) h7 (ix2 r l)⟩

set_option maxHeartbeats 1000000 in
/-- The kernel's five results are the reference's. -/
theorem algebraic : Cert.algebraic_Kernel4Ideal_Reference4Ideal_pre_finite4 := by
  intro m g m' g' hpre hagree
  refine ⟨fun c => (fun i : Cert.Kernel4Ideal.S4096x2816.Idx => fUp (Cert.Kernel4Ideal.Proj.xh m c) (Cert.Kernel4Ideal.Proj.xg m c) (Cert.Kernel4Ideal.Proj.xw m c) (i 0) (i 1)),
    fun c => (fun i : Cert.Kernel4Ideal.S4096x1024.Idx => fDin (Cert.Kernel4Ideal.Proj.xh m c) (Cert.Kernel4Ideal.Proj.xg m c) (Cert.Kernel4Ideal.Proj.xw m c) (Cert.Kernel4Ideal.Proj.xdp m c) (Cert.Kernel4Ideal.Proj.xds m c) (Cert.Kernel4Ideal.Proj.xgp m c) (Cert.Kernel4Ideal.Proj.xgs m c) (Cert.Kernel4Ideal.Proj.xdh m c) (i 0) (i 1)),
    fun c => (fun i : Cert.Kernel4Ideal.S4096x1024.Idx => fDin (Cert.Kernel4Ideal.Proj.xh m c) (Cert.Kernel4Ideal.Proj.xg m c) (Cert.Kernel4Ideal.Proj.xw m c) (Cert.Kernel4Ideal.Proj.xdp m c) (Cert.Kernel4Ideal.Proj.xds m c) (Cert.Kernel4Ideal.Proj.xgp m c) (Cert.Kernel4Ideal.Proj.xgs m c) (Cert.Kernel4Ideal.Proj.xdh m c) (i 0) (i 1)),
    fun c => (fun i : Cert.Kernel4Ideal.S1x1024.Idx => fDg (Cert.Kernel4Ideal.Proj.xh m c) (Cert.Kernel4Ideal.Proj.xw m c) (Cert.Kernel4Ideal.Proj.xdp m c) (Cert.Kernel4Ideal.Proj.xds m c) (Cert.Kernel4Ideal.Proj.xgp m c) (Cert.Kernel4Ideal.Proj.xgs m c) (i 1)),
    fun c => (fun i : Cert.Kernel4Ideal.S2816x1024.Idx => fDw (Cert.Kernel4Ideal.Proj.xh m c) (Cert.Kernel4Ideal.Proj.xg m c) (Cert.Kernel4Ideal.Proj.xdp m c) (Cert.Kernel4Ideal.Proj.xds m c) (Cert.Kernel4Ideal.Proj.xgp m c) (Cert.Kernel4Ideal.Proj.xgs m c) (i 0) (i 1)),
    (θ_run _ _ _).mono (fun r h => h.1) (Cert.Kernel4Ideal.Proj.run m g), (θ_run _ _ _).mono (fun r h c => ?_) (Cert.Reference4Ideal.Proj.run m' g')⟩
  have e0 : Cert.Reference4Ideal.Proj.yh m' c = Cert.Kernel4Ideal.Proj.xh m c := congrArg (mat (s := Cert.Kernel4Ideal.S4096x1024) (t := .f32) ix2) (hagree c).1
  have e1 : Cert.Reference4Ideal.Proj.yg m' c = Cert.Kernel4Ideal.Proj.xg m c := congrArg (fun (v : FVec Ideal Cert.Kernel4Ideal.S1x1024 .f32) (k : Fin 1024) => (v (ix2 0 k) : EReal)) (hagree c).2.1
  have e2 : Cert.Reference4Ideal.Proj.yw m' c = Cert.Kernel4Ideal.Proj.xw m c := congrArg (mat (s := Cert.Kernel4Ideal.S2816x1024) (t := .bf16) ix2) (hagree c).2.2.1
  have e3 : Cert.Reference4Ideal.Proj.ydp m' c = Cert.Kernel4Ideal.Proj.xdp m c := congrArg (mat (s := Cert.Kernel4Ideal.S4096x512) (t := .bf16) ix2) (hagree c).2.2.2.1
  have e4 : Cert.Reference4Ideal.Proj.yds m' c = Cert.Kernel4Ideal.Proj.xds m c := congrArg (mat (s := Cert.Kernel4Ideal.S4096x256) (t := .bf16) ix2) (hagree c).2.2.2.2.1
  have e5 : Cert.Reference4Ideal.Proj.ygp m' c = Cert.Kernel4Ideal.Proj.xgp m c := congrArg (mat (s := Cert.Kernel4Ideal.S4096x1024) (t := .bf16) ix2) (hagree c).2.2.2.2.2.1
  have e6 : Cert.Reference4Ideal.Proj.ygs m' c = Cert.Kernel4Ideal.Proj.xgs m c := congrArg (mat (s := Cert.Kernel4Ideal.S4096x1024) (t := .bf16) ix2) (hagree c).2.2.2.2.2.2.1
  have e7 : Cert.Reference4Ideal.Proj.ydh m' c = Cert.Kernel4Ideal.Proj.xdh m c := congrArg (mat (s := Cert.Kernel4Ideal.S4096x1024) (t := .f32) ix2) (hagree c).2.2.2.2.2.2.2
  have h' := h c
  rw [e0, e1, e2, e3, e4, e5, e6, e7] at h'
  obtain ⟨h0, h1, h2, h3, h4, hargs⟩ := h'
  exact ⟨h0, h1.trans (funext fun i => (fDin_eq (reals hpre c) (i 0) (i 1)).symm), h2.trans (funext fun i => (fDin_eq (reals hpre c) (i 0) (i 1)).symm),
    h3.trans (funext fun i => (fDg_eq _ _ _ _ _ _ (i 1)).symm), h4.trans (funext fun i => (fDw_eq _ _ _ _ _ _ (i 0) (i 1)).symm), hargs⟩

end Cert.Proj
-- ==== Proof.OptSpec.lean ====
module

public import Idealize.ShloMosaic.Lib.Pipeline.ValueKit
public import Idealize.ShloMosaic.Lib.Pipeline.ReadBack

@[expose] public section

noncomputable section

namespace Cert.OptSpec

open Idealize.ShloMosaic Idealize.ShloMosaic.TcCoe

/-- The optimiser's new first moment of one element: nine tenths of the old and a tenth of the gradient. -/
def newM (g m : Ideal .f32) : Ideal .f32 :=
  FloatOps.addf (FloatOps.mulf (FloatOps.ofBits .f32 0x3F666666#32) m) (FloatOps.mulf (FloatOps.ofBits .f32 0x3DCCCCCD#32) g)

/-- The new second moment of one element, from the gradient's square. -/
def newV (g v : Ideal .f32) : Ideal .f32 :=
  FloatOps.addf (FloatOps.mulf (FloatOps.ofBits .f32 0x3F7FBE77#32) v) (FloatOps.mulf (FloatOps.ofBits .f32 0x3A83126F#32) (FloatOps.mulf g g))

/-- The step of one element: the corrected first moment over the root of the corrected second, with the weight's decay. -/
def delta (w g m v : Ideal .f32) : Ideal .f32 :=
  FloatOps.mulf (FloatOps.ofBits .f32 0xBA83126F#32)
    (FloatOps.addf
      (FloatOps.divf (FloatOps.divf (newM g m) (FloatOps.ofBits .f32 0x3F26BD02#32))
        (FloatOps.addf (FloatOps.sqrt (FloatOps.divf (newV g v) (FloatOps.ofBits .f32 0x3C231ACC#32))) (FloatOps.ofBits .f32 0x322BCC77#32)))
      (FloatOps.mulf (FloatOps.ofBits .f32 0x3C23D70A#32) w))

variable {s : Shape}

/-- The new first moments of an array. -/
def newMs (g m : FVec Ideal s .f32) : FVec Ideal s .f32 := fun i => newM (g i) (m i)

/-- The new second moments of an array. -/
def newVs (g v : FVec Ideal s .f32) : FVec Ideal s .f32 := fun i => newV (g i) (v i)

/-- The steps of an array. -/
def deltas (w g m v : FVec Ideal s .f32) : FVec Ideal s .f32 := fun i => delta (w i) (g i) (m i) (v i)

/-- A store's cast of an array to its own shape changes nothing: equal arrays stay equal behind it. -/
theorem eq_cast {x y : FVec Ideal s .f32} (h : s.ShapeCasts s) (e : x = y) : x = shapeCast s y h :=
  e.trans (shapeCast_self y h).symm

end Cert.OptSpec
-- ==== Proof.OptA.lean ====
module

public import proofs.«01_k».proof.Defs
public import proofs.«01_k».proof.Proof.OptSpec
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel14Ideal.Value
public import proofs.«01_k».proof.Proof.Gen.Reference14Ideal.Run
public import proofs.«01_k».proof.Proof.Gen.Kernel16Ideal.Value
public import proofs.«01_k».proof.Proof.Gen.Reference16Ideal.Run
public import Idealize.ShloMosaic.Lib.Claim

@[expose] public section

set_option maxRecDepth 16384

noncomputable section

namespace Cert.Opt

open Cert.OptSpec Idealize.ShloMosaic Idealize.ShloMosaic.TcCoe Idealize.SL.Sem

/-- The update of the pool weight: the kernel's steps and moments are the reference's. -/
theorem pool : Cert.algebraic_Kernel8Ideal_Reference8Ideal := by
  pair_intro
  · run_from Cert.Kernel8Ideal.Value.run m g
  · run_from Cert.Reference8Ideal.Value.run m' g' <;> exact eq_cast _ rfl

/-- The update of the pool's scale: the kernel's steps and moments are the reference's. -/
theorem scale : Cert.algebraic_Kernel9Ideal_Reference9Ideal := by
  pair_intro
  · run_from Cert.Kernel9Ideal.Value.run m g
  · run_from Cert.Reference9Ideal.Value.run m' g' <;> exact eq_cast _ rfl

/-- The update of the state mixer's poles, real and imaginary: the kernel's steps and moments are the reference's. -/
theorem poles : Cert.algebraic_Kernel11Ideal_Reference11Ideal := by
  pair_intro
  · run_from Cert.Kernel11Ideal.Value.run m g
  · run_from Cert.Reference11Ideal.Value.run m' g' <;> exact eq_cast _ rfl

/-- The update of the state mixer's step sizes: the kernel's steps and moments are the reference's. -/
theorem log_dt : Cert.algebraic_Kernel12Ideal_Reference12Ideal := by
  pair_intro
  · run_from Cert.Kernel12Ideal.Value.run m g
  · run_from Cert.Reference12Ideal.Value.run m' g' <;> exact eq_cast _ rfl

/-- The update of the state mixer's direct term: the kernel's steps and moments are the reference's. -/
theorem skip : Cert.algebraic_Kernel14Ideal_Reference14Ideal := by
  pair_intro
  · run_from Cert.Kernel14Ideal.Value.run m g
  · run_from Cert.Reference14Ideal.Value.run m' g' <;> exact eq_cast _ rfl

/-- The update of the three weights of the model's width: the kernel's steps and moments are the reference's. -/
theorem squares : Cert.algebraic_Kernel16Ideal_Reference16Ideal := by
  pair_intro
  · run_from Cert.Kernel16Ideal.Value.run m g
  · run_from Cert.Reference16Ideal.Value.run m' g' <;> exact eq_cast _ rfl

end Cert.Opt
-- ==== Proof.OptB.lean ====
module

public import proofs.«01_k».proof.Defs
public import proofs.«01_k».proof.Proof.OptSpec
public import proofs.«01_k».proof.Proof.Gen.Kernel10Ideal.Value
public import proofs.«01_k».proof.Proof.Gen.Reference10Ideal.Run
public import proofs.«01_k».proof.Proof.Gen.Kernel15Ideal.Value
public import proofs.«01_k».proof.Proof.Gen.Reference15Ideal.Run
public import proofs.«01_k».proof.Proof.Gen.Kernel17Ideal.Value
public import proofs.«01_k».proof.Proof.Gen.Reference17Ideal.Run
public import Idealize.ShloMosaic.Lib.Claim

@[expose] public section

set_option maxRecDepth 16384

noncomputable section

namespace Cert.Opt

open Cert.OptSpec Idealize.ShloMosaic Idealize.ShloMosaic.TcCoe Idealize.SL.Sem

/-- The update of the pool's projection, whose gradient comes transposed: the kernel's steps and moments are the reference's. -/
theorem pool_proj : Cert.algebraic_Kernel10Ideal_Reference10Ideal := by
  pair_intro
  · run_from Cert.Kernel10Ideal.Value.run m g
  · run_from Cert.Reference10Ideal.Value.run m' g' <;> exact eq_cast _ rfl

/-- The update of the two gated output weights, whose gradients come transposed: the kernel's steps and moments are the reference's. -/
theorem glu : Cert.algebraic_Kernel15Ideal_Reference15Ideal := by
  pair_intro
  · run_from Cert.Kernel15Ideal.Value.run m g
  · run_from Cert.Reference15Ideal.Value.run m' g' <;> exact eq_cast _ rfl

/-- The update of the keys' and values' weight, whose gradient comes transposed: the kernel's steps and moments are the reference's. -/
theorem kv : Cert.algebraic_Kernel17Ideal_Reference17Ideal := by
  pair_intro
  · run_from Cert.Kernel17Ideal.Value.run m g
  · run_from Cert.Reference17Ideal.Value.run m' g' <;> exact eq_cast _ rfl

end Cert.Opt
-- ==== Proof.OptDown.lean ====
module

public import proofs.«01_k».proof.Defs
public import proofs.«01_k».proof.Proof.OptSpec
public import proofs.«01_k».proof.Proof.Gen.Kernel7Ideal.Frame
public import proofs.«01_k».proof.Proof.Gen.Reference7Ideal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel7Ideal.Opt

open Cert.Kernel7Ideal Cert.Kernel7Ideal.Gen Cert.OptSpec Idealize.ShloMosaic Idealize.ShloMosaic.TcCoe Idealize.SL.Sem

variable (m : (ℓ : Loc nD τ sig) → Buf (Elt Ideal) ℓ)

/-- An argument's array on a device. -/
abbrev a (b : Ref sig .tc) (c : Dev nD) : Buf (Elt Ideal) ((c : Thread nD τ).loc b) := m ((c : Thread nD τ).loc b)

/-- Where each grid point's blocks lie. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] :=
  (by decide +kernel : ∀ t : Fin grid0.N, _)

set_option maxHeartbeats 8000000 in
/-- The six output arrays after the run: for each of the two weights the steps, the new first and the new second moments. -/
theorem finals (c : Dev nD) : (dats m 0 c).arrAt 8 cfg0.N = deltas (a m main_arg0 c) (a m main_arg1 c) (a m main_arg2 c) (a m main_arg3 c)
    ∧ (dats m 0 c).arrAt 9 cfg0.N = newMs (a m main_arg1 c) (a m main_arg2 c)
    ∧ (dats m 0 c).arrAt 10 cfg0.N = newVs (a m main_arg1 c) (a m main_arg3 c)
    ∧ (dats m 0 c).arrAt 11 cfg0.N = deltas (a m main_arg4 c) (a m main_arg5 c) (a m main_arg6 c) (a m main_arg7 c)
    ∧ (dats m 0 c).arrAt 12 cfg0.N = newMs (a m main_arg5 c) (a m main_arg6 c)
    ∧ (dats m 0 c).arrAt 13 cfg0.N = newVs (a m main_arg5 c) (a m main_arg7 c) := by
  refine ⟨(dats m 0 c).arrAt_eq_of_covers 8 _ (by decide +kernel) fun t hf y => ?_, (dats m 0 c).arrAt_eq_of_covers 9 _ (by decide +kernel) fun t hf y => ?_,
    (dats m 0 c).arrAt_eq_of_covers 10 _ (by decide +kernel) fun t hf y => ?_, (dats m 0 c).arrAt_eq_of_covers 11 _ (by decide +kernel) fun t hf y => ?_,
    (dats m 0 c).arrAt_eq_of_covers 12 _ (by decide +kernel) fun t hf y => ?_, (dats m 0 c).arrAt_eq_of_covers 13 _ (by decide +kernel) fun t hf y => ?_⟩ <;> blk_simp
  all_goals simp only [after0_8, after0_9, after0_10, after0_11, after0_12, after0_13]
  all_goals simp only [out0_8, out0_9, out0_10, out0_11, out0_12, out0_13]
  all_goals canon_tiles x hx
  all_goals pointwise [k0_pay1, k0_pay2, k0_pay3, k0_pay4, k0_pay5, k0_pay6, k0_pay7, k0_pay8, k0_pay9, k0_pay10, deltas, newMs, newVs, delta, newM, newV]
  all_goals blk_point [iblk, V, idx t]

/-- The run: the results hold the steps and the moments, the arguments are unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = deltas (a m main_arg0 c) (a m main_arg1 c) (a m main_arg2 c) (a m main_arg3 c)
      ∧ r.2.mem ((c.tc : Thread nD τ).loc main_v0_1) = newMs (a m main_arg1 c) (a m main_arg2 c)
      ∧ r.2.mem ((c.tc : Thread nD τ).loc main_v0_2) = newVs (a m main_arg1 c) (a m main_arg3 c)
      ∧ r.2.mem ((c.tc : Thread nD τ).loc main_v0_3) = deltas (a m main_arg4 c) (a m main_arg5 c) (a m main_arg6 c) (a m main_arg7 c)
      ∧ r.2.mem ((c.tc : Thread nD τ).loc main_v0_4) = newMs (a m main_arg5 c) (a m main_arg6 c)
      ∧ r.2.mem ((c.tc : Thread nD τ).loc main_v0_5) = newVs (a m main_arg5 c) (a m main_arg7 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => by
    obtain ⟨e8, e9, e10, e11, e12, e13⟩ := finals m c
    exact ⟨((h.2 c).1 8).trans e8, ((h.2 c).1 9).trans e9, ((h.2 c).1 10).trans e10, ((h.2 c).1 11).trans e11, ((h.2 c).1 12).trans e12, ((h.2 c).1 13).trans e13, h.1 c⟩)
    (θ_run_and (unchanged m ρ) (run_main m ρ))

end Cert.Kernel7Ideal.Opt

namespace Cert.Opt

open Idealize.ShloMosaic Idealize.ShloMosaic.TcCoe Idealize.SL.Sem

/-- The update of the two feed-forward blocks' down projections: the kernel's steps and moments are the reference's. -/
theorem down : Cert.algebraic_Kernel7Ideal_Reference7Ideal := by
  pair_intro
  · run_from Cert.Kernel7Ideal.Opt.run m g
  · run_from Cert.Reference7Ideal.Value.run m' g' <;> rfl

end Cert.Opt
-- ==== Proof.OptStateFrame.lean ====
module

public import proofs.«01_k».proof.Proof.Gen.Kernel13Ideal.Launch
public import proofs.«01_k».proof.Proof.Gen.Kernel13Ideal.Skeleton
public import proofs.«01_k».proof.Proof.Gen.Kernel13Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel13Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds its block at every point. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's staging buffer holds its block at every point. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's staging buffer holds its block at every point. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's staging buffer holds its block at every point. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- In the memory `μ` device `c` holds every argument array as launched. -/
abbrev Kept (μ : (ℓ : Loc nD τ sig) → Buf (Elt F) ℓ) (c : Dev nD) : Prop :=
      μ ((c.tc : Thread nD τ).loc main_arg0) = m ((c.tc : Thread nD τ).loc main_arg0)
      ∧ μ ((c.tc : Thread nD τ).loc main_arg1) = m ((c.tc : Thread nD τ).loc main_arg1)
      ∧ μ ((c.tc : Thread nD τ).loc main_arg2) = m ((c.tc : Thread nD τ).loc main_arg2)
      ∧ μ ((c.tc : Thread nD τ).loc main_arg3) = m ((c.tc : Thread nD τ).loc main_arg3)
      ∧ μ ((c.tc : Thread nD τ).loc main_arg4) = m ((c.tc : Thread nD τ).loc main_arg4)
      ∧ μ ((c.tc : Thread nD τ).loc main_arg5) = m ((c.tc : Thread nD τ).loc main_arg5)
      ∧ μ ((c.tc : Thread nD τ).loc main_arg6) = m ((c.tc : Thread nD τ).loc main_arg6)
      ∧ μ ((c.tc : Thread nD τ).loc main_arg7) = m ((c.tc : Thread nD τ).loc main_arg7)
      ∧ μ ((c.tc : Thread nD τ).loc main_arg8) = m ((c.tc : Thread nD τ).loc main_arg8)
      ∧ μ ((c.tc : Thread nD τ).loc main_arg9) = m ((c.tc : Thread nD τ).loc main_arg9)
      ∧ μ ((c.tc : Thread nD τ).loc main_arg10) = m ((c.tc : Thread nD τ).loc main_arg10)
      ∧ μ ((c.tc : Thread nD τ).loc main_arg11) = m ((c.tc : Thread nD τ).loc main_arg11)
      ∧ μ ((c.tc : Thread nD τ).loc main_arg12) = m ((c.tc : Thread nD τ).loc main_arg12)
      ∧ μ ((c.tc : Thread nD τ).loc main_arg13) = m ((c.tc : Thread nD τ).loc main_arg13)
      ∧ μ ((c.tc : Thread nD τ).loc main_arg14) = m ((c.tc : Thread nD τ).loc main_arg14)
      ∧ μ ((c.tc : Thread nD τ).loc main_arg15) = m ((c.tc : Thread nD τ).loc main_arg15)

set_option maxHeartbeats 1680000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel13Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      Kept m r.2.mem c) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c))),
      ((h c).1 15).trans (((dats 0 c).arrAt_in 15 rfl _).trans ((hA c 15).trans (V_main_arg15 m c)))⟩) h

/-! ## The body's accesses -/

abbrev r0_0 : Rect S512x64 := Rect.unit (s := S512x64) ![0, 0] S512x64.size inb_S512x64_S512x64_0_0

/-! ## What the body leaves in each output window's buffer -/

/-- Window 16's staging buffer after the body, from the input blocks. -/
def out0_16 (x0 x1 x2 x3 : Vec F S512x64 .f32) : Vec F S512x64 .f32 :=
  View.canon [⟨r0_0, k0_pay5 (View.ld x0 r0_0) (View.ld x1 r0_0) (View.ld x2 r0_0) (View.ld x3 r0_0)⟩]

/-- Its stores tile the buffer (checked by evaluation), so they cover it. -/
theorem cover0_16 (p0 : Vec F S512x64 .f32) (y : S512x64.Idx) :
    ∃ pc ∈ ([⟨r0_0, p0⟩] : List (View.Piece (Elt F) S512x64 .f32)), y ∈ pc.1.set :=
  View.cover_of_tiled [⟨r0_0, p0⟩] S512x64.size (by rfl) y

/-- Window 17's staging buffer after the body, from the input blocks. -/
def out0_17 (x1 x2 : Vec F S512x64 .f32) : Vec F S512x64 .f32 :=
  View.canon [⟨r0_0, k0_pay6 (View.ld x1 r0_0) (View.ld x2 r0_0)⟩]

/-- Its stores tile the buffer (checked by evaluation), so they cover it. -/
theorem cover0_17 (p0 : Vec F S512x64 .f32) (y : S512x64.Idx) :
    ∃ pc ∈ ([⟨r0_0, p0⟩] : List (View.Piece (Elt F) S512x64 .f32)), y ∈ pc.1.set :=
  View.cover_of_tiled [⟨r0_0, p0⟩] S512x64.size (by rfl) y

/-- Window 18's staging buffer after the body, from the input blocks. -/
def out0_18 (x1 x3 : Vec F S512x64 .f32) : Vec F S512x64 .f32 :=
  View.canon [⟨r0_0, k0_pay7 (k0_pay4 (View.ld x1 r0_0) (View.ld x3 r0_0))⟩]

/-- Its stores tile the buffer (checked by evaluation), so they cover it. -/
theorem cover0_18 (p0 : Vec F S512x64 .f32) (y : S512x64.Idx) :
    ∃ pc ∈ ([⟨r0_0, p0⟩] : List (View.Piece (Elt F) S512x64 .f32)), y ∈ pc.1.set :=
  View.cover_of_tiled [⟨r0_0, p0⟩] S512x64.size (by rfl) y

/-- Window 19's staging buffer after the body, from the input blocks. -/
def out0_19 (x4 x5 x6 x7 : Vec F S512x64 .f32) : Vec F S512x64 .f32 :=
  View.canon [⟨r0_0, k0_pay10 (View.ld x4 r0_0) (View.ld x5 r0_0) (View.ld x6 r0_0) (View.ld x7 r0_0)⟩]

/-- Its stores tile the buffer (checked by evaluation), so they cover it. -/
theorem cover0_19 (p0 : Vec F S512x64 .f32) (y : S512x64.Idx) :
    ∃ pc ∈ ([⟨r0_0, p0⟩] : List (View.Piece (Elt F) S512x64 .f32)), y ∈ pc.1.set :=
  View.cover_of_tiled [⟨r0_0, p0⟩] S512x64.size (by rfl) y

/-- Window 20's staging buffer after the body, from the input blocks. -/
def out0_20 (x5 x6 : Vec F S512x64 .f32) : Vec F S512x64 .f32 :=
  View.canon [⟨r0_0, k0_pay11 (View.ld x5 r0_0) (View.ld x6 r0_0)⟩]

/-- Its stores tile the buffer (checked by evaluation), so they cover it. -/
theorem cover0_20 (p0 : Vec F S512x64 .f32) (y : S512x64.Idx) :
    ∃ pc ∈ ([⟨r0_0, p0⟩] : List (View.Piece (Elt F) S512x64 .f32)), y ∈ pc.1.set :=
  View.cover_of_tiled [⟨r0_0, p0⟩] S512x64.size (by rfl) y

/-- Window 21's staging buffer after the body, from the input blocks. -/
def out0_21 (x5 x7 : Vec F S512x64 .f32) : Vec F S512x64 .f32 :=
  View.canon [⟨r0_0, k0_pay12 (k0_pay9 (View.ld x5 r0_0) (View.ld x7 r0_0))⟩]

/-- Its stores tile the buffer (checked by evaluation), so they cover it. -/
theorem cover0_21 (p0 : Vec F S512x64 .f32) (y : S512x64.Idx) :
    ∃ pc ∈ ([⟨r0_0, p0⟩] : List (View.Piece (Elt F) S512x64 .f32)), y ∈ pc.1.set :=
  View.cover_of_tiled [⟨r0_0, p0⟩] S512x64.size (by rfl) y

/-- Window 22's staging buffer after the body, from the input blocks. -/
def out0_22 (x8 x9 x10 x11 : Vec F S512x64 .f32) : Vec F S512x64 .f32 :=
  View.canon [⟨r0_0, k0_pay15 (View.ld x8 r0_0) (View.ld x9 r0_0) (View.ld x10 r0_0) (View.ld x11 r0_0)⟩]

/-- Its stores tile the buffer (checked by evaluation), so they cover it. -/
theorem cover0_22 (p0 : Vec F S512x64 .f32) (y : S512x64.Idx) :
    ∃ pc ∈ ([⟨r0_0, p0⟩] : List (View.Piece (Elt F) S512x64 .f32)), y ∈ pc.1.set :=
  View.cover_of_tiled [⟨r0_0, p0⟩] S512x64.size (by rfl) y

/-- Window 23's staging buffer after the body, from the input blocks. -/
def out0_23 (x9 x10 : Vec F S512x64 .f32) : Vec F S512x64 .f32 :=
  View.canon [⟨r0_0, k0_pay16 (k0_pay13 (View.ld x9 r0_0) (View.ld x10 r0_0))⟩]

/-- Its stores tile the buffer (checked by evaluation), so they cover it. -/
theorem cover0_23 (p0 : Vec F S512x64 .f32) (y : S512x64.Idx) :
    ∃ pc ∈ ([⟨r0_0, p0⟩] : List (View.Piece (Elt F) S512x64 .f32)), y ∈ pc.1.set :=
  View.cover_of_tiled [⟨r0_0, p0⟩] S512x64.size (by rfl) y

/-- Window 24's staging buffer after the body, from the input blocks. -/
def out0_24 (x9 x11 : Vec F S512x64 .f32) : Vec F S512x64 .f32 :=
  View.canon [⟨r0_0, k0_pay17 (k0_pay14 (View.ld x9 r0_0) (View.ld x11 r0_0))⟩]

/-- Its stores tile the buffer (checked by evaluation), so they cover it. -/
theorem cover0_24 (p0 : Vec F S512x64 .f32) (y : S512x64.Idx) :
    ∃ pc ∈ ([⟨r0_0, p0⟩] : List (View.Piece (Elt F) S512x64 .f32)), y ∈ pc.1.set :=
  View.cover_of_tiled [⟨r0_0, p0⟩] S512x64.size (by rfl) y

/-- Window 25's staging buffer after the body, from the input blocks. -/
def out0_25 (x12 x13 x14 x15 : Vec F S512x64 .f32) : Vec F S512x64 .f32 :=
  View.canon [⟨r0_0, k0_pay20 (View.ld x12 r0_0) (View.ld x13 r0_0) (View.ld x14 r0_0) (View.ld x15 r0_0)⟩]

/-- Its stores tile the buffer (checked by evaluation), so they cover it. -/
theorem cover0_25 (p0 : Vec F S512x64 .f32) (y : S512x64.Idx) :
    ∃ pc ∈ ([⟨r0_0, p0⟩] : List (View.Piece (Elt F) S512x64 .f32)), y ∈ pc.1.set :=
  View.cover_of_tiled [⟨r0_0, p0⟩] S512x64.size (by rfl) y

/-- Window 26's staging buffer after the body, from the input blocks. -/
def out0_26 (x13 x14 : Vec F S512x64 .f32) : Vec F S512x64 .f32 :=
  View.canon [⟨r0_0, k0_pay1 (k0_pay18 (View.ld x13 r0_0) (View.ld x14 r0_0))⟩]

/-- Its stores tile the buffer (checked by evaluation), so they cover it. -/
theorem cover0_26 (p0 : Vec F S512x64 .f32) (y : S512x64.Idx) :
    ∃ pc ∈ ([⟨r0_0, p0⟩] : List (View.Piece (Elt F) S512x64 .f32)), y ∈ pc.1.set :=
  View.cover_of_tiled [⟨r0_0, p0⟩] S512x64.size (by rfl) y

/-- Window 27's staging buffer after the body, from the input blocks. -/
def out0_27 (x13 x15 : Vec F S512x64 .f32) : Vec F S512x64 .f32 :=
  View.canon [⟨r0_0, k0_pay2 (k0_pay19 (View.ld x13 r0_0) (View.ld x15 r0_0))⟩]

/-- Its stores tile the buffer (checked by evaluation), so they cover it. -/
theorem cover0_27 (p0 : Vec F S512x64 .f32) (y : S512x64.Idx) :
    ∃ pc ∈ ([⟨r0_0, p0⟩] : List (View.Piece (Elt F) S512x64 .f32)), y ∈ pc.1.set :=
  View.cover_of_tiled [⟨r0_0, p0⟩] S512x64.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S512x64 .f32) (harg13 : arg13.IsWhole) (arg14 : Memref sig .tc .vmem S512x64 .f32) (harg14 : arg14.IsWhole) (arg15 : Memref sig .tc .vmem S512x64 .f32) (harg15 : arg15.IsWhole) (arg16 : Memref sig .tc .vmem S512x64 .f32) (harg16 : arg16.IsWhole) (arg17 : Memref sig .tc .vmem S512x64 .f32) (harg17 : arg17.IsWhole) (arg18 : Memref sig .tc .vmem S512x64 .f32) (harg18 : arg18.IsWhole) (arg19 : Memref sig .tc .vmem S512x64 .f32) (harg19 : arg19.IsWhole) (arg20 : Memref sig .tc .vmem S512x64 .f32) (harg20 : arg20.IsWhole) (arg21 : Memref sig .tc .vmem S512x64 .f32) (harg21 : arg21.IsWhole) (arg22 : Memref sig .tc .vmem S512x64 .f32) (harg22 : arg22.IsWhole) (arg23 : Memref sig .tc .vmem S512x64 .f32) (harg23 : arg23.IsWhole) (arg24 : Memref sig .tc .vmem S512x64 .f32) (harg24 : arg24.IsWhole) (arg25 : Memref sig .tc .vmem S512x64 .f32) (harg25 : arg25.IsWhole) (arg26 : Memref sig .tc .vmem S512x64 .f32) (harg26 : arg26.IsWhole) (arg27 : Memref sig .tc .vmem S512x64 .f32) (harg27 : arg27.IsWhole) (arg28 : Memref sig .tc .vmem S512x64 .f32) (harg28 : arg28.IsWhole)
    (x0 x1 x2 x3 x4 x5 x6 x7 x8 x9 x10 x11 x12 x13 x14 x15 : Vec F S512x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out0_16 x0 x1 x2 x3) ∗ owns (c : Thread nD τ) arg18 fullShare (out0_17 x1 x2) ∗ owns (c : Thread nD τ) arg19 fullShare (out0_18 x1 x3) ∗ owns (c : Thread nD τ) arg20 fullShare (out0_19 x4 x5 x6 x7) ∗ owns (c : Thread nD τ) arg21 fullShare (out0_20 x5 x6) ∗ owns (c : Thread nD τ) arg22 fullShare (out0_21 x5 x7) ∗ owns (c : Thread nD τ) arg23 fullShare (out0_22 x8 x9 x10 x11) ∗ owns (c : Thread nD τ) arg24 fullShare (out0_23 x9 x10) ∗ owns (c : Thread nD τ) arg25 fullShare (out0_24 x9 x11) ∗ owns (c : Thread nD τ) arg26 fullShare (out0_25 x12 x13 x14 x15) ∗ owns (c : Thread nD τ) arg27 fullShare (out0_26 x13 x14) ∗ owns (c : Thread nD τ) arg28 fullShare (out0_27 x13 x15)) -∗ K ⟨⟩))
      ⊢ wp frame (wpE (defs₀ (F := F)) Variants.none c none) E (cc0_adamw_ssm_b_re i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0_adamw_ssm_b_re_eq_skeleton]; unfold cc0_adamw_ssm_b_re_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    exact View.read_writes_eq_canon _ _ _ (cover0_16 _)
  isplitl [H17]
  · iexists _; isplitr
    swap; · iexact H17
    ipureintro
    exact View.read_writes_eq_canon _ _ _ (cover0_17 _)
  isplitl [H18]
  · iexists _; isplitr
    swap; · iexact H18
    ipureintro
    exact View.read_writes_eq_canon _ _ _ (cover0_18 _)
  isplitl [H19]
  · iexists _; isplitr
    swap; · iexact H19
    ipureintro
    exact View.read_writes_eq_canon _ _ _ (cover0_19 _)
  isplitl [H20]
  · iexists _; isplitr
    swap; · iexact H20
    ipureintro
    exact View.read_writes_eq_canon _ _ _ (cover0_20 _)
  isplitl [H21]
  · iexists _; isplitr
    swap; · iexact H21
    ipureintro
    exact View.read_writes_eq_canon _ _ _ (cover0_21 _)
  isplitl [H22]
  · iexists _; isplitr
    swap; · iexact H22
    ipureintro
    exact View.read_writes_eq_canon _ _ _ (cover0_22 _)
  isplitl [H23]
  · iexists _; isplitr
    swap; · iexact H23
    ipureintro
    exact View.read_writes_eq_canon _ _ _ (cover0_23 _)
  isplitl [H24]
  · iexists _; isplitr
    swap; · iexact H24
    ipureintro
    exact View.read_writes_eq_canon _ _ _ (cover0_24 _)
  isplitl [H25]
  · iexists _; isplitr
    swap; · iexact H25
    ipureintro
    exact View.read_writes_eq_canon _ _ _ (cover0_25 _)
  isplitl [H26]
  · iexists _; isplitr
    swap; · iexact H26
    ipureintro
    exact View.read_writes_eq_canon _ _ _ (cover0_26 _)
  iexists _; isplitr
  swap; · iexact H27
  ipureintro
  exact View.read_writes_eq_canon _ _ _ (cover0_27 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out0_16 (iblk m c 0 t) (iblk m c 1 t) (iblk m c 2 t) (iblk m c 3 t)
    | ⟨17, _⟩ => out0_17 (iblk m c 1 t) (iblk m c 2 t)
    | ⟨18, _⟩ => out0_18 (iblk m c 1 t) (iblk m c 3 t)
    | ⟨19, _⟩ => out0_19 (iblk m c 4 t) (iblk m c 5 t) (iblk m c 6 t) (iblk m c 7 t)
    | ⟨20, _⟩ => out0_20 (iblk m c 5 t) (iblk m c 6 t)
    | ⟨21, _⟩ => out0_21 (iblk m c 5 t) (iblk m c 7 t)
    | ⟨22, _⟩ => out0_22 (iblk m c 8 t) (iblk m c 9 t) (iblk m c 10 t) (iblk m c 11 t)
    | ⟨23, _⟩ => out0_23 (iblk m c 9 t) (iblk m c 10 t)
    | ⟨24, _⟩ => out0_24 (iblk m c 9 t) (iblk m c 11 t)
    | ⟨25, _⟩ => out0_25 (iblk m c 12 t) (iblk m c 13 t) (iblk m c 14 t) (iblk m c 15 t)
    | ⟨26, _⟩ => out0_26 (iblk m c 13 t) (iblk m c 14 t)
    | ⟨27, _⟩ => out0_27 (iblk m c 13 t) (iblk m c 15 t)
    | ⟨_ + 28, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out0_16 (iblk m c 0 t) (iblk m c 1 t) (iblk m c 2 t) (iblk m c 3 t) := by dsimp only [dats]
theorem after0_17 (c : Dev nD) (t : Fin cfg0.N) : (dats m 0 c).after 17 t = out0_17 (iblk m c 1 t) (iblk m c 2 t) := by dsimp only [dats]
theorem after0_18 (c : Dev nD) (t : Fin cfg0.N) : (dats m 0 c).after 18 t = out0_18 (iblk m c 1 t) (iblk m c 3 t) := by dsimp only [dats]
theorem after0_19 (c : Dev nD) (t : Fin cfg0.N) : (dats m 0 c).after 19 t = out0_19 (iblk m c 4 t) (iblk m c 5 t) (iblk m c 6 t) (iblk m c 7 t) := by dsimp only [dats]
theorem after0_20 (c : Dev nD) (t : Fin cfg0.N) : (dats m 0 c).after 20 t = out0_20 (iblk m c 5 t) (iblk m c 6 t) := by dsimp only [dats]
theorem after0_21 (c : Dev nD) (t : Fin cfg0.N) : (dats m 0 c).after 21 t = out0_21 (iblk m c 5 t) (iblk m c 7 t) := by dsimp only [dats]
theorem after0_22 (c : Dev nD) (t : Fin cfg0.N) : (dats m 0 c).after 22 t = out0_22 (iblk m c 8 t) (iblk m c 9 t) (iblk m c 10 t) (iblk m c 11 t) := by dsimp only [dats]
theorem after0_23 (c : Dev nD) (t : Fin cfg0.N) : (dats m 0 c).after 23 t = out0_23 (iblk m c 9 t) (iblk m c 10 t) := by dsimp only [dats]
theorem after0_24 (c : Dev nD) (t : Fin cfg0.N) : (dats m 0 c).after 24 t = out0_24 (iblk m c 9 t) (iblk m c 11 t) := by dsimp only [dats]
theorem after0_25 (c : Dev nD) (t : Fin cfg0.N) : (dats m 0 c).after 25 t = out0_25 (iblk m c 12 t) (iblk m c 13 t) (iblk m c 14 t) (iblk m c 15 t) := by dsimp only [dats]
theorem after0_26 (c : Dev nD) (t : Fin cfg0.N) : (dats m 0 c).after 26 t = out0_26 (iblk m c 13 t) (iblk m c 14 t) := by dsimp only [dats]
theorem after0_27 (c : Dev nD) (t : Fin cfg0.N) : (dats m 0 c).after 27 t = out0_27 (iblk m c 13 t) (iblk m c 15 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 4000000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      Kept m r.2.mem c) :=
  frame_of m ρ (dats m) (A_eq m) (run_main m ρ)

/-- THE FRAME: `Cert.quiescent_Kernel13Ideal`'s statement (Defs.lean) at any `F` — Proof.lean cites it at `Bits`:
    `theorem Cert.Proof.claim : Cert.Claim := ⟨Cert.Kernel13Ideal.Gen.facts, fun m ρ _ => Cert.Kernel13Ideal.Gen.frame m ρ⟩`. -/
theorem frame : θ_run defs (onTc (τ := τ) (main (F := F))) ⟨m, fun _ => 0, ρ⟩ (fun r => (∀ c : Dev nD,
      Kept m r.2.mem c)
      ∧ r.2.sem = fun _ => 0) :=
  θ_run_and (unchanged m ρ) ((θ_run defs _ _).mono (fun _ h => h.2) (run_main_quiescent m ρ))

end Cert.Kernel13Ideal.Gen

end
-- ==== Proof.OptState.lean ====
module

public import proofs.«01_k».proof.Defs
public import proofs.«01_k».proof.Proof.OptSpec
public import proofs.«01_k».proof.Proof.OptStateFrame
public import proofs.«01_k».proof.Proof.Gen.Reference13Ideal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel13Ideal.Opt

open Cert.Kernel13Ideal Cert.Kernel13Ideal.Gen Cert.OptSpec Idealize.ShloMosaic Idealize.ShloMosaic.TcCoe Idealize.SL.Sem

variable (m : (ℓ : Loc nD τ sig) → Buf (Elt Ideal) ℓ)

/-- An argument's array on a device. -/
abbrev a (b : Ref sig .tc) (c : Dev nD) : Buf (Elt Ideal) ((c : Thread nD τ).loc b) := m ((c : Thread nD τ).loc b)

/-- Where each grid point's blocks lie. -/
theorem idx : ∀ t : Fin cfg0.N, (win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0])
    ∧ (win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0])
    ∧ (win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0])
    ∧ (win0_21.index t = ![0, 0] ∧ win0_22.index t = ![0, 0] ∧ win0_23.index t = ![0, 0] ∧ win0_24.index t = ![0, 0] ∧ win0_25.index t = ![0, 0] ∧ win0_26.index t = ![0, 0] ∧ win0_27.index t = ![0, 0]) :=
  fun t => by
  refine ⟨?_, ?_, ?_, ?_⟩ <;> (revert t; decide +kernel)

set_option maxHeartbeats 8000000 in
/-- The twelve output arrays after the run: for each of the four weights the steps, the new first and the new second moments. -/
theorem finals (c : Dev nD) : (dats m 0 c).arrAt 16 cfg0.N = deltas (a m main_arg0 c) (a m main_arg1 c) (a m main_arg2 c) (a m main_arg3 c)
    ∧ (dats m 0 c).arrAt 17 cfg0.N = newMs (a m main_arg1 c) (a m main_arg2 c)
    ∧ (dats m 0 c).arrAt 18 cfg0.N = newVs (a m main_arg1 c) (a m main_arg3 c)
    ∧ (dats m 0 c).arrAt 19 cfg0.N = deltas (a m main_arg4 c) (a m main_arg5 c) (a m main_arg6 c) (a m main_arg7 c)
    ∧ (dats m 0 c).arrAt 20 cfg0.N = newMs (a m main_arg5 c) (a m main_arg6 c)
    ∧ (dats m 0 c).arrAt 21 cfg0.N = newVs (a m main_arg5 c) (a m main_arg7 c)
    ∧ (dats m 0 c).arrAt 22 cfg0.N = deltas (a m main_arg8 c) (a m main_arg9 c) (a m main_arg10 c) (a m main_arg11 c)
    ∧ (dats m 0 c).arrAt 23 cfg0.N = newMs (a m main_arg9 c) (a m main_arg10 c)
    ∧ (dats m 0 c).arrAt 24 cfg0.N = newVs (a m main_arg9 c) (a m main_arg11 c)
    ∧ (dats m 0 c).arrAt 25 cfg0.N = deltas (a m main_arg12 c) (a m main_arg13 c) (a m main_arg14 c) (a m main_arg15 c)
    ∧ (dats m 0 c).arrAt 26 cfg0.N = newMs (a m main_arg13 c) (a m main_arg14 c)
    ∧ (dats m 0 c).arrAt 27 cfg0.N = newVs (a m main_arg13 c) (a m main_arg15 c) := by
  refine ⟨(dats m 0 c).arrAt_eq_of_covers 16 _ (by decide +kernel) fun t hf y => ?_, (dats m 0 c).arrAt_eq_of_covers 17 _ (by decide +kernel) fun t hf y => ?_,
    (dats m 0 c).arrAt_eq_of_covers 18 _ (by decide +kernel) fun t hf y => ?_, (dats m 0 c).arrAt_eq_of_covers 19 _ (by decide +kernel) fun t hf y => ?_,
    (dats m 0 c).arrAt_eq_of_covers 20 _ (by decide +kernel) fun t hf y => ?_, (dats m 0 c).arrAt_eq_of_covers 21 _ (by decide +kernel) fun t hf y => ?_,
    (dats m 0 c).arrAt_eq_of_covers 22 _ (by decide +kernel) fun t hf y => ?_, (dats m 0 c).arrAt_eq_of_covers 23 _ (by decide +kernel) fun t hf y => ?_,
    (dats m 0 c).arrAt_eq_of_covers 24 _ (by decide +kernel) fun t hf y => ?_, (dats m 0 c).arrAt_eq_of_covers 25 _ (by decide +kernel) fun t hf y => ?_,
    (dats m 0 c).arrAt_eq_of_covers 26 _ (by decide +kernel) fun t hf y => ?_, (dats m 0 c).arrAt_eq_of_covers 27 _ (by decide +kernel) fun t hf y => ?_⟩ <;> blk_simp
  all_goals simp only [after0_16, after0_17, after0_18, after0_19, after0_20, after0_21, after0_22, after0_23, after0_24, after0_25, after0_26, after0_27]
  all_goals simp only [out0_16, out0_17, out0_18, out0_19, out0_20, out0_21, out0_22, out0_23, out0_24, out0_25, out0_26, out0_27]
  all_goals canon_tiles x hx
  all_goals pointwise [k0_pay1, k0_pay2, k0_pay3, k0_pay4, k0_pay5, k0_pay6, k0_pay7, k0_pay8, k0_pay9, k0_pay10, k0_pay11, k0_pay12, k0_pay13, k0_pay14, k0_pay15, k0_pay16,
    k0_pay17, k0_pay18, k0_pay19, k0_pay20, deltas, newMs, newVs, delta, newM, newV]
  all_goals blk_point [iblk, V, idx t]

/-- The run: the results hold the steps and the moments, the arguments are unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = deltas (a m main_arg0 c) (a m main_arg1 c) (a m main_arg2 c) (a m main_arg3 c)
      ∧ r.2.mem ((c.tc : Thread nD τ).loc main_v0_1) = newMs (a m main_arg1 c) (a m main_arg2 c)
      ∧ r.2.mem ((c.tc : Thread nD τ).loc main_v0_2) = newVs (a m main_arg1 c) (a m main_arg3 c)
      ∧ r.2.mem ((c.tc : Thread nD τ).loc main_v0_3) = deltas (a m main_arg4 c) (a m main_arg5 c) (a m main_arg6 c) (a m main_arg7 c)
      ∧ r.2.mem ((c.tc : Thread nD τ).loc main_v0_4) = newMs (a m main_arg5 c) (a m main_arg6 c)
      ∧ r.2.mem ((c.tc : Thread nD τ).loc main_v0_5) = newVs (a m main_arg5 c) (a m main_arg7 c)
      ∧ r.2.mem ((c.tc : Thread nD τ).loc main_v0_6) = deltas (a m main_arg8 c) (a m main_arg9 c) (a m main_arg10 c) (a m main_arg11 c)
      ∧ r.2.mem ((c.tc : Thread nD τ).loc main_v0_7) = newMs (a m main_arg9 c) (a m main_arg10 c)
      ∧ r.2.mem ((c.tc : Thread nD τ).loc main_v0_8) = newVs (a m main_arg9 c) (a m main_arg11 c)
      ∧ r.2.mem ((c.tc : Thread nD τ).loc main_v0_9) = deltas (a m main_arg12 c) (a m main_arg13 c) (a m main_arg14 c) (a m main_arg15 c)
      ∧ r.2.mem ((c.tc : Thread nD τ).loc main_v0_10) = newMs (a m main_arg13 c) (a m main_arg14 c)
      ∧ r.2.mem ((c.tc : Thread nD τ).loc main_v0_11) = newVs (a m main_arg13 c) (a m main_arg15 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => by
    obtain ⟨e16, e17, e18, e19, e20, e21, e22, e23, e24, e25, e26, e27⟩ := finals m c
    exact ⟨((h.2 c).1 16).trans e16, ((h.2 c).1 17).trans e17, ((h.2 c).1 18).trans e18, ((h.2 c).1 19).trans e19, ((h.2 c).1 20).trans e20, ((h.2 c).1 21).trans e21, ((h.2 c).1 22).trans e22, ((h.2 c).1 23).trans e23, ((h.2 c).1 24).trans e24, ((h.2 c).1 25).trans e25, ((h.2 c).1 26).trans e26, ((h.2 c).1 27).trans e27, h.1 c⟩)
    (θ_run_and (unchanged m ρ) (run_main m ρ))

end Cert.Kernel13Ideal.Opt

namespace Cert.Opt

open Idealize.ShloMosaic Idealize.ShloMosaic.TcCoe Idealize.SL.Sem

/-- The update of the state mixer's input and output maps, real and imaginary: the kernel's steps and moments are the reference's. -/
theorem state : Cert.algebraic_Kernel13Ideal_Reference13Ideal := by
  pair_intro
  · run_from Cert.Kernel13Ideal.Opt.run m g
  · run_from Cert.Reference13Ideal.Value.run m' g' <;> rfl

end Cert.Opt
-- ==== Proof.OptNormsFrame.lean ====
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl
theorem V_main_arg16 (c : Dev nD) : V m c main_arg16 = m ((c : Thread nD τ).loc main_arg16) := rfl
theorem V_main_arg17 (c : Dev nD) : V m c main_arg17 = m ((c : Thread nD τ).loc main_arg17) := rfl
theorem V_main_arg18 (c : Dev nD) : V m c main_arg18 = m ((c : Thread nD τ).loc main_arg18) := rfl
theorem V_main_arg19 (c : Dev nD) : V m c main_arg19 = m ((c : Thread nD τ).loc main_arg19) := rfl
theorem V_main_arg20 (c : Dev nD) : V m c main_arg20 = m ((c : Thread nD τ).loc main_arg20) := rfl
theorem V_main_arg21 (c : Dev nD) : V m c main_arg21 = m ((c : Thread nD τ).loc main_arg21) := rfl
theorem V_main_arg22 (c : Dev nD) : V m c main_arg22 = m ((c : Thread nD τ).loc main_arg22) := rfl
theorem V_main_arg23 (c : Dev nD) : V m c main_arg23 = m ((c : Thread nD τ).loc main_arg23) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds its block at every point. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's staging buffer holds its block at every point. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's staging buffer holds its block at every point. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's staging buffer holds its block at every point. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's staging buffer holds its block at every point. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's staging buffer holds its block at every point. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's staging buffer holds its block at every point. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's staging buffer holds its block at every point. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's staging buffer holds its block at every point. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's staging buffer holds its block at every point. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's staging buffer holds its block at every point. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's staging buffer holds its block at every point. -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- In the memory `μ` device `c` holds every argument array as launched. -/
abbrev Kept (μ : (ℓ : Loc nD τ sig) → Buf (Elt F) ℓ) (c : Dev nD) : Prop :=
      μ ((c.tc : Thread nD τ).loc main_arg0) = m ((c.tc : Thread nD τ).loc main_arg0)
      ∧ μ ((c.tc : Thread nD τ).loc main_arg1) = m ((c.tc : Thread nD τ).loc main_arg1)
      ∧ μ ((c.tc : Thread nD τ).loc main_arg2) = m ((c.tc : Thread nD τ).loc main_arg2)
      ∧ μ ((c.tc : Thread nD τ).loc main_arg3) = m ((c.tc : Thread nD τ).loc main_arg3)
      ∧ μ ((c.tc : Thread nD τ).loc main_arg4) = m ((c.tc : Thread nD τ).loc main_arg4)
      ∧ μ ((c.tc : Thread nD τ).loc main_arg5) = m ((c.tc : Thread nD τ).loc main_arg5)
      ∧ μ ((c.tc : Thread nD τ).loc main_arg6) = m ((c.tc : Thread nD τ).loc main_arg6)
      ∧ μ ((c.tc : Thread nD τ).loc main_arg7) = m ((c.tc : Thread nD τ).loc main_arg7)
      ∧ μ ((c.tc : Thread nD τ).loc main_arg8) = m ((c.tc : Thread nD τ).loc main_arg8)
      ∧ μ ((c.tc : Thread nD τ).loc main_arg9) = m ((c.tc : Thread nD τ).loc main_arg9)
      ∧ μ ((c.tc : Thread nD τ).loc main_arg10) = m ((c.tc : Thread nD τ).loc main_arg10)
      ∧ μ ((c.tc : Thread nD τ).loc main_arg11) = m ((c.tc : Thread nD τ).loc main_arg11)
      ∧ μ ((c.tc : Thread nD τ).loc main_arg12) = m ((c.tc : Thread nD τ).loc main_arg12)
      ∧ μ ((c.tc : Thread nD τ).loc main_arg13) = m ((c.tc : Thread nD τ).loc main_arg13)
      ∧ μ ((c.tc : Thread nD τ).loc main_arg14) = m ((c.tc : Thread nD τ).loc main_arg14)
      ∧ μ ((c.tc : Thread nD τ).loc main_arg15) = m ((c.tc : Thread nD τ).loc main_arg15)
      ∧ μ ((c.tc : Thread nD τ).loc main_arg16) = m ((c.tc : Thread nD τ).loc main_arg16)
      ∧ μ ((c.tc : Thread nD τ).loc main_arg17) = m ((c.tc : Thread nD τ).loc main_arg17)
      ∧ μ ((c.tc : Thread nD τ).loc main_arg18) = m ((c.tc : Thread nD τ).loc main_arg18)
      ∧ μ ((c.tc : Thread nD τ).loc main_arg19) = m ((c.tc : Thread nD τ).loc main_arg19)
      ∧ μ ((c.tc : Thread nD τ).loc main_arg20) = m ((c.tc : Thread nD τ).loc main_arg20)
      ∧ μ ((c.tc : Thread nD τ).loc main_arg21) = m ((c.tc : Thread nD τ).loc main_arg21)
      ∧ μ ((c.tc : Thread nD τ).loc main_arg22) = m ((c.tc : Thread nD τ).loc main_arg22)
      ∧ μ ((c.tc : Thread nD τ).loc main_arg23) = m ((c.tc : Thread nD τ).loc main_arg23)

set_option maxHeartbeats 2520000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel5Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      Kept m r.2.mem c) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c))),
      ((h c).1 15).trans (((dats 0 c).arrAt_in 15 rfl _).trans ((hA c 15).trans (V_main_arg15 m c))),
      ((h c).1 16).trans (((dats 0 c).arrAt_in 16 rfl _).trans ((hA c 16).trans (V_main_arg16 m c))),
      ((h c).1 17).trans (((dats 0 c).arrAt_in 17 rfl _).trans ((hA c 17).trans (V_main_arg17 m c))),
      ((h c).1 18).trans (((dats 0 c).arrAt_in 18 rfl _).trans ((hA c 18).trans (V_main_arg18 m c))),
      ((h c).1 19).trans (((dats 0 c).arrAt_in 19 rfl _).trans ((hA c 19).trans (V_main_arg19 m c))),
      ((h c).1 20).trans (((dats 0 c).arrAt_in 20 rfl _).trans ((hA c 20).trans (V_main_arg20 m c))),
      ((h c).1 21).trans (((dats 0 c).arrAt_in 21 rfl _).trans ((hA c 21).trans (V_main_arg21 m c))),
      ((h c).1 22).trans (((dats 0 c).arrAt_in 22 rfl _).trans ((hA c 22).trans (V_main_arg22 m c))),
      ((h c).1 23).trans (((dats 0 c).arrAt_in 23 rfl _).trans ((hA c 23).trans (V_main_arg23 m c)))⟩) h

/-! ## The body's accesses -/

abbrev r0_0 : Rect S1x1024 := Rect.unit (s := S1x1024) ![0, 0] S1x1024.size inb_S1x1024_S1x1024_0_0

/-! ## What the body leaves in each output window's buffer -/

/-- Window 24's staging buffer after the body, from the input blocks. -/
def out0_24 (x0 x1 x2 x3 : Vec F S1x1024 .f32) : Vec F S1x1024 .f32 :=
  View.canon [⟨r0_0, k0_pay6 (View.ld x0 r0_0) (View.ld x1 r0_0) (View.ld x2 r0_0) (View.ld x3 r0_0)⟩]

/-- Its stores tile the buffer (checked by evaluation), so they cover it. -/
theorem cover0_24 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

/-- Window 25's staging buffer after the body, from the input blocks. -/
def out0_25 (x1 x2 : Vec F S1x1024 .f32) : Vec F S1x1024 .f32 :=
  View.canon [⟨r0_0, k0_pay7 (View.ld x1 r0_0) (View.ld x2 r0_0)⟩]

/-- Its stores tile the buffer (checked by evaluation), so they cover it. -/
theorem cover0_25 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

/-- Window 26's staging buffer after the body, from the input blocks. -/
def out0_26 (x1 x3 : Vec F S1x1024 .f32) : Vec F S1x1024 .f32 :=
  View.canon [⟨r0_0, k0_pay8 (k0_pay5 (View.ld x1 r0_0) (View.ld x3 r0_0))⟩]

/-- Its stores tile the buffer (checked by evaluation), so they cover it. -/
theorem cover0_26 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

/-- Window 27's staging buffer after the body, from the input blocks. -/
def out0_27 (x4 x5 x6 x7 : Vec F S1x1024 .f32) : Vec F S1x1024 .f32 :=
  View.canon [⟨r0_0, k0_pay11 (View.ld x4 r0_0) (View.ld x5 r0_0) (View.ld x6 r0_0) (View.ld x7 r0_0)⟩]

/-- Its stores tile the buffer (checked by evaluation), so they cover it. -/
theorem cover0_27 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

/-- Window 28's staging buffer after the body, from the input blocks. -/
def out0_28 (x5 x6 : Vec F S1x1024 .f32) : Vec F S1x1024 .f32 :=
  View.canon [⟨r0_0, k0_pay12 (View.ld x5 r0_0) (View.ld x6 r0_0)⟩]

/-- Its stores tile the buffer (checked by evaluation), so they cover it. -/
theorem cover0_28 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

/-- Window 29's staging buffer after the body, from the input blocks. -/
def out0_29 (x5 x7 : Vec F S1x1024 .f32) : Vec F S1x1024 .f32 :=
  View.canon [⟨r0_0, k0_pay13 (k0_pay10 (View.ld x5 r0_0) (View.ld x7 r0_0))⟩]

/-- Its stores tile the buffer (checked by evaluation), so they cover it. -/
theorem cover0_29 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

/-- Window 30's staging buffer after the body, from the input blocks. -/
def out0_30 (x8 x9 x10 x11 : Vec F S1x1024 .f32) : Vec F S1x1024 .f32 :=
  View.canon [⟨r0_0, k0_pay16 (View.ld x8 r0_0) (View.ld x9 r0_0) (View.ld x10 r0_0) (View.ld x11 r0_0)⟩]

/-- Its stores tile the buffer (checked by evaluation), so they cover it. -/
theorem cover0_30 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

/-- Window 31's staging buffer after the body, from the input blocks. -/
def out0_31 (x9 x10 : Vec F S1x1024 .f32) : Vec F S1x1024 .f32 :=
  View.canon [⟨r0_0, k0_pay17 (k0_pay14 (View.ld x9 r0_0) (View.ld x10 r0_0))⟩]

/-- Its stores tile the buffer (checked by evaluation), so they cover it. -/
theorem cover0_31 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

/-- Window 32's staging buffer after the body, from the input blocks. -/
def out0_32 (x9 x11 : Vec F S1x1024 .f32) : Vec F S1x1024 .f32 :=
  View.canon [⟨r0_0, k0_pay18 (k0_pay15 (View.ld x9 r0_0) (View.ld x11 r0_0))⟩]

/-- Its stores tile the buffer (checked by evaluation), so they cover it. -/
theorem cover0_32 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

/-- Window 33's staging buffer after the body, from the input blocks. -/
def out0_33 (x12 x13 x14 x15 : Vec F S1x1024 .f32) : Vec F S1x1024 .f32 :=
  View.canon [⟨r0_0, k0_pay21 (View.ld x12 r0_0) (View.ld x13 r0_0) (View.ld x14 r0_0) (View.ld x15 r0_0)⟩]

/-- Its stores tile the buffer (checked by evaluation), so they cover it. -/
theorem cover0_33 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

/-- Window 34's staging buffer after the body, from the input blocks. -/
def out0_34 (x13 x14 : Vec F S1x1024 .f32) : Vec F S1x1024 .f32 :=
  View.canon [⟨r0_0, k0_pay22 (k0_pay19 (View.ld x13 r0_0) (View.ld x14 r0_0))⟩]

/-- Its stores tile the buffer (checked by evaluation), so they cover it. -/
theorem cover0_34 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

/-- Window 35's staging buffer after the body, from the input blocks. -/
def out0_35 (x13 x15 : Vec F S1x1024 .f32) : Vec F S1x1024 .f32 :=
  View.canon [⟨r0_0, k0_pay23 (k0_pay20 (View.ld x13 r0_0) (View.ld x15 r0_0))⟩]

/-- Its stores tile the buffer (checked by evaluation), so they cover it. -/
theorem cover0_35 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

/-- Window 36's staging buffer after the body, from the input blocks. -/
def out0_36 (x16 x17 x18 x19 : Vec F S1x1024 .f32) : Vec F S1x1024 .f32 :=
  View.canon [⟨r0_0, k0_pay27 (k0_pay26 (View.ld x16 r0_0) (View.ld x17 r0_0) (View.ld x18 r0_0) (View.ld x19 r0_0))⟩]

/-- Its stores tile the buffer (checked by evaluation), so they cover it. -/
theorem cover0_36 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

/-- Window 37's staging buffer after the body, from the input blocks. -/
def out0_37 (x17 x18 : Vec F S1x1024 .f32) : Vec F S1x1024 .f32 :=
  View.canon [⟨r0_0, k0_pay28 (k0_pay24 (View.ld x17 r0_0) (View.ld x18 r0_0))⟩]

/-- Its stores tile the buffer (checked by evaluation), so they cover it. -/
theorem cover0_37 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

/-- Window 38's staging buffer after the body, from the input blocks. -/
def out0_38 (x17 x19 : Vec F S1x1024 .f32) : Vec F S1x1024 .f32 :=
  View.canon [⟨r0_0, k0_pay29 (k0_pay25 (View.ld x17 r0_0) (View.ld x19 r0_0))⟩]

/-- Its stores tile the buffer (checked by evaluation), so they cover it. -/
theorem cover0_38 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

/-- Window 39's staging buffer after the body, from the input blocks. -/
def out0_39 (x20 x21 x22 x23 : Vec F S1x1024 .f32) : Vec F S1x1024 .f32 :=
  View.canon [⟨r0_0, k0_pay1 (k0_pay32 (View.ld x20 r0_0) (View.ld x21 r0_0) (View.ld x22 r0_0) (View.ld x23 r0_0)) (k0_pay33 (F := F))⟩]

/-- Its stores tile the buffer (checked by evaluation), so they cover it. -/
theorem cover0_39 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

/-- Window 40's staging buffer after the body, from the input blocks. -/
def out0_40 (x21 x22 : Vec F S1x1024 .f32) : Vec F S1x1024 .f32 :=
  View.canon [⟨r0_0, k0_pay2 (k0_pay30 (View.ld x21 r0_0) (View.ld x22 r0_0))⟩]

/-- Its stores tile the buffer (checked by evaluation), so they cover it. -/
theorem cover0_40 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

/-- Window 41's staging buffer after the body, from the input blocks. -/
def out0_41 (x21 x23 : Vec F S1x1024 .f32) : Vec F S1x1024 .f32 :=
  View.canon [⟨r0_0, k0_pay3 (k0_pay31 (View.ld x21 r0_0) (View.ld x23 r0_0))⟩]

/-- Its stores tile the buffer (checked by evaluation), so they cover it. -/
theorem cover0_41 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S1x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1x1024 .f32) (harg24 : arg24.IsWhole) (arg25 : Memref sig .tc .vmem S1x1024 .f32) (harg25 : arg25.IsWhole) (arg26 : Memref sig .tc .vmem S1x1024 .f32) (harg26 : arg26.IsWhole) (arg27 : Memref sig .tc .vmem S1x1024 .f32) (harg27 : arg27.IsWhole) (arg28 : Memref sig .tc .vmem S1x1024 .f32) (harg28 : arg28.IsWhole) (arg29 : Memref sig .tc .vmem S1x1024 .f32) (harg29 : arg29.IsWhole) (arg30 : Memref sig .tc .vmem S1x1024 .f32) (harg30 : arg30.IsWhole) (arg31 : Memref sig .tc .vmem S1x1024 .f32) (harg31 : arg31.IsWhole) (arg32 : Memref sig .tc .vmem S1x1024 .f32) (harg32 : arg32.IsWhole) (arg33 : Memref sig .tc .vmem S1x1024 .f32) (harg33 : arg33.IsWhole) (arg34 : Memref sig .tc .vmem S1x1024 .f32) (harg34 : arg34.IsWhole) (arg35 : Memref sig .tc .vmem S1x1024 .f32) (harg35 : arg35.IsWhole) (arg36 : Memref sig .tc .vmem S1x1024 .f32) (harg36 : arg36.IsWhole) (arg37 : Memref sig .tc .vmem S1x1024 .f32) (harg37 : arg37.IsWhole) (arg38 : Memref sig .tc .vmem S1x1024 .f32) (harg38 : arg38.IsWhole) (arg39 : Memref sig .tc .vmem S1x1024 .f32) (harg39 : arg39.IsWhole) (arg40 : Memref sig .tc .vmem S1x1024 .f32) (harg40 : arg40.IsWhole) (arg41 : Memref sig .tc .vmem S1x1024 .f32) (harg41 : arg41.IsWhole) (arg42 : Memref sig .tc .vmem S1x1024 .f32) (harg42 : arg42.IsWhole)
    (x0 x1 x2 x3 x4 x5 x6 x7 x8 x9 x10 x11 x12 x13 x14 x15 x16 x17 x18 x19 x20 x21 x22 x23 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare (out0_24 x0 x1 x2 x3) ∗ owns (c : Thread nD τ) arg26 fullShare (out0_25 x1 x2) ∗ owns (c : Thread nD τ) arg27 fullShare (out0_26 x1 x3) ∗ owns (c : Thread nD τ) arg28 fullShare (out0_27 x4 x5 x6 x7) ∗ owns (c : Thread nD τ) arg29 fullShare (out0_28 x5 x6) ∗ owns (c : Thread nD τ) arg30 fullShare (out0_29 x5 x7) ∗ owns (c : Thread nD τ) arg31 fullShare (out0_30 x8 x9 x10 x11) ∗ owns (c : Thread nD τ) arg32 fullShare (out0_31 x9 x10) ∗ owns (c : Thread nD τ) arg33 fullShare (out0_32 x9 x11) ∗ owns (c : Thread nD τ) arg34 fullShare (out0_33 x12 x13 x14 x15) ∗ owns (c : Thread nD τ) arg35 fullShare (out0_34 x13 x14) ∗ owns (c : Thread nD τ) arg36 fullShare (out0_35 x13 x15) ∗ owns (c : Thread nD τ) arg37 fullShare (out0_36 x16 x17 x18 x19) ∗ owns (c : Thread nD τ) arg38 fullShare (out0_37 x17 x18) ∗ owns (c : Thread nD τ) arg39 fullShare (out0_38 x17 x19) ∗ owns (c : Thread nD τ) arg40 fullShare (out0_39 x20 x21 x22 x23) ∗ owns (c : Thread nD τ) arg41 fullShare (out0_40 x21 x22) ∗ owns (c : Thread nD τ) arg42 fullShare (out0_41 x21 x23)) -∗ K ⟨⟩))
      ⊢ wp frame (wpE (defs₀ (F := F)) Variants.none c none) E (cc0_adamw_ffn1_norm i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K := by
  simp only [cc0_adamw_ffn1_norm_eq_skeleton]; unfold cc0_adamw_ffn1_norm_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, Hk⟩
  subst hf0 hf1 hf2 hf3 hf4 hf5 hf6 hf7 hf8 hf9 hf10 hf11 hf12 hf13 hf14 hf15 hf16 hf17 hf18 hf19 hf20 hf21 hf22 hf23
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists _; isplitr
    swap; · iexact H24
    ipureintro
    exact View.read_writes_eq_canon _ _ _ (cover0_24 _)
  isplitl [H25]
  · iexists _; isplitr
    swap; · iexact H25
    ipureintro
    exact View.read_writes_eq_canon _ _ _ (cover0_25 _)
  isplitl [H26]
  · iexists _; isplitr
    swap; · iexact H26
    ipureintro
    exact View.read_writes_eq_canon _ _ _ (cover0_26 _)
  isplitl [H27]
  · iexists _; isplitr
    swap; · iexact H27
    ipureintro
    exact View.read_writes_eq_canon _ _ _ (cover0_27 _)
  isplitl [H28]
  · iexists _; isplitr
    swap; · iexact H28
    ipureintro
    exact View.read_writes_eq_canon _ _ _ (cover0_28 _)
  isplitl [H29]
  · iexists _; isplitr
    swap; · iexact H29
    ipureintro
    exact View.read_writes_eq_canon _ _ _ (cover0_29 _)
  isplitl [H30]
  · iexists _; isplitr
    swap; · iexact H30
    ipureintro
    exact View.read_writes_eq_canon _ _ _ (cover0_30 _)
  isplitl [H31]
  · iexists _; isplitr
    swap; · iexact H31
    ipureintro
    exact View.read_writes_eq_canon _ _ _ (cover0_31 _)
  isplitl [H32]
  · iexists _; isplitr
    swap; · iexact H32
    ipureintro
    exact View.read_writes_eq_canon _ _ _ (cover0_32 _)
  isplitl [H33]
  · iexists _; isplitr
    swap; · iexact H33
    ipureintro
    exact View.read_writes_eq_canon _ _ _ (cover0_33 _)
  isplitl [H34]
  · iexists _; isplitr
    swap; · iexact H34
    ipureintro
    exact View.read_writes_eq_canon _ _ _ (cover0_34 _)
  isplitl [H35]
  · iexists _; isplitr
    swap; · iexact H35
    ipureintro
    exact View.read_writes_eq_canon _ _ _ (cover0_35 _)
  isplitl [H36]
  · iexists _; isplitr
    swap; · iexact H36
    ipureintro
    exact View.read_writes_eq_canon _ _ _ (cover0_36 _)
  isplitl [H37]
  · iexists _; isplitr
    swap; · iexact H37
    ipureintro
    exact View.read_writes_eq_canon _ _ _ (cover0_37 _)
  isplitl [H38]
  · iexists _; isplitr
    swap; · iexact H38
    ipureintro
    exact View.read_writes_eq_canon _ _ _ (cover0_38 _)
  isplitl [H39]
  · iexists _; isplitr
    swap; · iexact H39
    ipureintro
    exact View.read_writes_eq_canon _ _ _ (cover0_39 _)
  isplitl [H40]
  · iexists _; isplitr
    swap; · iexact H40
    ipureintro
    exact View.read_writes_eq_canon _ _ _ (cover0_40 _)
  iexists _; isplitr
  swap; · iexact H41
  ipureintro
  exact View.read_writes_eq_canon _ _ _ (cover0_41 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => out0_24 (iblk m c 0 t) (iblk m c 1 t) (iblk m c 2 t) (iblk m c 3 t)
    | ⟨25, _⟩ => out0_25 (iblk m c 1 t) (iblk m c 2 t)
    | ⟨26, _⟩ => out0_26 (iblk m c 1 t) (iblk m c 3 t)
    | ⟨27, _⟩ => out0_27 (iblk m c 4 t) (iblk m c 5 t) (iblk m c 6 t) (iblk m c 7 t)
    | ⟨28, _⟩ => out0_28 (iblk m c 5 t) (iblk m c 6 t)
    | ⟨29, _⟩ => out0_29 (iblk m c 5 t) (iblk m c 7 t)
    | ⟨30, _⟩ => out0_30 (iblk m c 8 t) (iblk m c 9 t) (iblk m c 10 t) (iblk m c 11 t)
    | ⟨31, _⟩ => out0_31 (iblk m c 9 t) (iblk m c 10 t)
    | ⟨32, _⟩ => out0_32 (iblk m c 9 t) (iblk m c 11 t)
    | ⟨33, _⟩ => out0_33 (iblk m c 12 t) (iblk m c 13 t) (iblk m c 14 t) (iblk m c 15 t)
    | ⟨34, _⟩ => out0_34 (iblk m c 13 t) (iblk m c 14 t)
    | ⟨35, _⟩ => out0_35 (iblk m c 13 t) (iblk m c 15 t)
    | ⟨36, _⟩ => out0_36 (iblk m c 16 t) (iblk m c 17 t) (iblk m c 18 t) (iblk m c 19 t)
    | ⟨37, _⟩ => out0_37 (iblk m c 17 t) (iblk m c 18 t)
    | ⟨38, _⟩ => out0_38 (iblk m c 17 t) (iblk m c 19 t)
    | ⟨39, _⟩ => out0_39 (iblk m c 20 t) (iblk m c 21 t) (iblk m c 22 t) (iblk m c 23 t)
    | ⟨40, _⟩ => out0_40 (iblk m c 21 t) (iblk m c 22 t)
    | ⟨41, _⟩ => out0_41 (iblk m c 21 t) (iblk m c 23 t)
    | ⟨_ + 42, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = out0_24 (iblk m c 0 t) (iblk m c 1 t) (iblk m c 2 t) (iblk m c 3 t) := by dsimp only [dats]
theorem after0_25 (c : Dev nD) (t : Fin cfg0.N) : (dats m 0 c).after 25 t = out0_25 (iblk m c 1 t) (iblk m c 2 t) := by dsimp only [dats]
theorem after0_26 (c : Dev nD) (t : Fin cfg0.N) : (dats m 0 c).after 26 t = out0_26 (iblk m c 1 t) (iblk m c 3 t) := by dsimp only [dats]
theorem after0_27 (c : Dev nD) (t : Fin cfg0.N) : (dats m 0 c).after 27 t = out0_27 (iblk m c 4 t) (iblk m c 5 t) (iblk m c 6 t) (iblk m c 7 t) := by dsimp only [dats]
theorem after0_28 (c : Dev nD) (t : Fin cfg0.N) : (dats m 0 c).after 28 t = out0_28 (iblk m c 5 t) (iblk m c 6 t) := by dsimp only [dats]
theorem after0_29 (c : Dev nD) (t : Fin cfg0.N) : (dats m 0 c).after 29 t = out0_29 (iblk m c 5 t) (iblk m c 7 t) := by dsimp only [dats]
theorem after0_30 (c : Dev nD) (t : Fin cfg0.N) : (dats m 0 c).after 30 t = out0_30 (iblk m c 8 t) (iblk m c 9 t) (iblk m c 10 t) (iblk m c 11 t) := by dsimp only [dats]
theorem after0_31 (c : Dev nD) (t : Fin cfg0.N) : (dats m 0 c).after 31 t = out0_31 (iblk m c 9 t) (iblk m c 10 t) := by dsimp only [dats]
theorem after0_32 (c : Dev nD) (t : Fin cfg0.N) : (dats m 0 c).after 32 t = out0_32 (iblk m c 9 t) (iblk m c 11 t) := by dsimp only [dats]
theorem after0_33 (c : Dev nD) (t : Fin cfg0.N) : (dats m 0 c).after 33 t = out0_33 (iblk m c 12 t) (iblk m c 13 t) (iblk m c 14 t) (iblk m c 15 t) := by dsimp only [dats]
theorem after0_34 (c : Dev nD) (t : Fin cfg0.N) : (dats m 0 c).after 34 t = out0_34 (iblk m c 13 t) (iblk m c 14 t) := by dsimp only [dats]
theorem after0_35 (c : Dev nD) (t : Fin cfg0.N) : (dats m 0 c).after 35 t = out0_35 (iblk m c 13 t) (iblk m c 15 t) := by dsimp only [dats]
theorem after0_36 (c : Dev nD) (t : Fin cfg0.N) : (dats m 0 c).after 36 t = out0_36 (iblk m c 16 t) (iblk m c 17 t) (iblk m c 18 t) (iblk m c 19 t) := by dsimp only [dats]
theorem after0_37 (c : Dev nD) (t : Fin cfg0.N) : (dats m 0 c).after 37 t = out0_37 (iblk m c 17 t) (iblk m c 18 t) := by dsimp only [dats]
theorem after0_38 (c : Dev nD) (t : Fin cfg0.N) : (dats m 0 c).after 38 t = out0_38 (iblk m c 17 t) (iblk m c 19 t) := by dsimp only [dats]
theorem after0_39 (c : Dev nD) (t : Fin cfg0.N) : (dats m 0 c).after 39 t = out0_39 (iblk m c 20 t) (iblk m c 21 t) (iblk m c 22 t) (iblk m c 23 t) := by dsimp only [dats]
theorem after0_40 (c : Dev nD) (t : Fin cfg0.N) : (dats m 0 c).after 40 t = out0_40 (iblk m c 21 t) (iblk m c 22 t) := by dsimp only [dats]
theorem after0_41 (c : Dev nD) (t : Fin cfg0.N) : (dats m 0 c).after 41 t = out0_41 (iblk m c 21 t) (iblk m c 23 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  iexact H41

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 4000000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      Kept m r.2.mem c) :=
  frame_of m ρ (dats m) (A_eq m) (run_main m ρ)

/-- THE FRAME: `Cert.quiescent_Kernel5Ideal`'s statement (Defs.lean) at any `F` — Proof.lean cites it at `Bits`:
    `theorem Cert.Proof.claim : Cert.Claim := ⟨Cert.Kernel5Ideal.Gen.facts, fun m ρ _ => Cert.Kernel5Ideal.Gen.frame m ρ⟩`. -/
theorem frame : θ_run defs (onTc (τ := τ) (main (F := F))) ⟨m, fun _ => 0, ρ⟩ (fun r => (∀ c : Dev nD,
      Kept m r.2.mem c)
      ∧ r.2.sem = fun _ => 0) :=
  θ_run_and (unchanged m ρ) ((θ_run defs _ _).mono (fun _ h => h.2) (run_main_quiescent m ρ))

end Cert.Kernel5Ideal.Gen

end
-- ==== Proof.OptNormsValue.lean ====
module

public import proofs.«01_k».proof.Defs
public import proofs.«01_k».proof.Proof.OptSpec
public import proofs.«01_k».proof.Proof.OptNormsFrame
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel5Ideal.Opt

open Cert.Kernel5Ideal Cert.Kernel5Ideal.Gen Cert.OptSpec Idealize.ShloMosaic Idealize.ShloMosaic.TcCoe Idealize.SL.Sem

variable (m : (ℓ : Loc nD τ sig) → Buf (Elt Ideal) ℓ)

/-- An argument's array on a device. -/
abbrev a (b : Ref sig .tc) (c : Dev nD) : Buf (Elt Ideal) ((c : Thread nD τ).loc b) := m ((c : Thread nD τ).loc b)

/-- Where each grid point's blocks lie. -/
theorem idx : ∀ t : Fin cfg0.N, (win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0])
    ∧ (win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0])
    ∧ (win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0])
    ∧ (win0_21.index t = ![0, 0] ∧ win0_22.index t = ![0, 0] ∧ win0_23.index t = ![0, 0] ∧ win0_24.index t = ![0, 0] ∧ win0_25.index t = ![0, 0] ∧ win0_26.index t = ![0, 0] ∧ win0_27.index t = ![0, 0])
    ∧ (win0_28.index t = ![0, 0] ∧ win0_29.index t = ![0, 0] ∧ win0_30.index t = ![0, 0] ∧ win0_31.index t = ![0, 0] ∧ win0_32.index t = ![0, 0] ∧ win0_33.index t = ![0, 0] ∧ win0_34.index t = ![0, 0])
    ∧ (win0_35.index t = ![0, 0] ∧ win0_36.index t = ![0, 0] ∧ win0_37.index t = ![0, 0] ∧ win0_38.index t = ![0, 0] ∧ win0_39.index t = ![0, 0] ∧ win0_40.index t = ![0, 0] ∧ win0_41.index t = ![0, 0]) :=
  fun t => by
  refine ⟨?_, ?_, ?_, ?_, ?_, ?_⟩ <;> (revert t; decide +kernel)

set_option maxHeartbeats 8000000 in
/-- The eighteen output arrays after the run: for each of the six weights the steps, the new first and the new second moments. -/
theorem finals (c : Dev nD) : (dats m 0 c).arrAt 24 cfg0.N = deltas (a m main_arg0 c) (a m main_arg1 c) (a m main_arg2 c) (a m main_arg3 c)
    ∧ (dats m 0 c).arrAt 25 cfg0.N = newMs (a m main_arg1 c) (a m main_arg2 c)
    ∧ (dats m 0 c).arrAt 26 cfg0.N = newVs (a m main_arg1 c) (a m main_arg3 c)
    ∧ (dats m 0 c).arrAt 27 cfg0.N = deltas (a m main_arg4 c) (a m main_arg5 c) (a m main_arg6 c) (a m main_arg7 c)
    ∧ (dats m 0 c).arrAt 28 cfg0.N = newMs (a m main_arg5 c) (a m main_arg6 c)
    ∧ (dats m 0 c).arrAt 29 cfg0.N = newVs (a m main_arg5 c) (a m main_arg7 c)
    ∧ (dats m 0 c).arrAt 30 cfg0.N = deltas (a m main_arg8 c) (a m main_arg9 c) (a m main_arg10 c) (a m main_arg11 c)
    ∧ (dats m 0 c).arrAt 31 cfg0.N = newMs (a m main_arg9 c) (a m main_arg10 c)
    ∧ (dats m 0 c).arrAt 32 cfg0.N = newVs (a m main_arg9 c) (a m main_arg11 c)
    ∧ (dats m 0 c).arrAt 33 cfg0.N = deltas (a m main_arg12 c) (a m main_arg13 c) (a m main_arg14 c) (a m main_arg15 c)
    ∧ (dats m 0 c).arrAt 34 cfg0.N = newMs (a m main_arg13 c) (a m main_arg14 c)
    ∧ (dats m 0 c).arrAt 35 cfg0.N = newVs (a m main_arg13 c) (a m main_arg15 c)
    ∧ (dats m 0 c).arrAt 36 cfg0.N = deltas (a m main_arg16 c) (a m main_arg17 c) (a m main_arg18 c) (a m main_arg19 c)
    ∧ (dats m 0 c).arrAt 37 cfg0.N = newMs (a m main_arg17 c) (a m main_arg18 c)
    ∧ (dats m 0 c).arrAt 38 cfg0.N = newVs (a m main_arg17 c) (a m main_arg19 c)
    ∧ (dats m 0 c).arrAt 39 cfg0.N = deltas (a m main_arg20 c) (a m main_arg21 c) (a m main_arg22 c) (a m main_arg23 c)
    ∧ (dats m 0 c).arrAt 40 cfg0.N = newMs (a m main_arg21 c) (a m main_arg22 c)
    ∧ (dats m 0 c).arrAt 41 cfg0.N = newVs (a m main_arg21 c) (a m main_arg23 c) := by
  refine ⟨(dats m 0 c).arrAt_eq_of_covers 24 _ (by decide +kernel) fun t hf y => ?_, (dats m 0 c).arrAt_eq_of_covers 25 _ (by decide +kernel) fun t hf y => ?_,
    (dats m 0 c).arrAt_eq_of_covers 26 _ (by decide +kernel) fun t hf y => ?_, (dats m 0 c).arrAt_eq_of_covers 27 _ (by decide +kernel) fun t hf y => ?_,
    (dats m 0 c).arrAt_eq_of_covers 28 _ (by decide +kernel) fun t hf y => ?_, (dats m 0 c).arrAt_eq_of_covers 29 _ (by decide +kernel) fun t hf y => ?_,
    (dats m 0 c).arrAt_eq_of_covers 30 _ (by decide +kernel) fun t hf y => ?_, (dats m 0 c).arrAt_eq_of_covers 31 _ (by decide +kernel) fun t hf y => ?_,
    (dats m 0 c).arrAt_eq_of_covers 32 _ (by decide +kernel) fun t hf y => ?_, (dats m 0 c).arrAt_eq_of_covers 33 _ (by decide +kernel) fun t hf y => ?_,
    (dats m 0 c).arrAt_eq_of_covers 34 _ (by decide +kernel) fun t hf y => ?_, (dats m 0 c).arrAt_eq_of_covers 35 _ (by decide +kernel) fun t hf y => ?_,
    (dats m 0 c).arrAt_eq_of_covers 36 _ (by decide +kernel) fun t hf y => ?_, (dats m 0 c).arrAt_eq_of_covers 37 _ (by decide +kernel) fun t hf y => ?_,
    (dats m 0 c).arrAt_eq_of_covers 38 _ (by decide +kernel) fun t hf y => ?_, (dats m 0 c).arrAt_eq_of_covers 39 _ (by decide +kernel) fun t hf y => ?_,
    (dats m 0 c).arrAt_eq_of_covers 40 _ (by decide +kernel) fun t hf y => ?_, (dats m 0 c).arrAt_eq_of_covers 41 _ (by decide +kernel) fun t hf y => ?_⟩ <;> blk_simp
  all_goals simp only [after0_24, after0_25, after0_26, after0_27, after0_28, after0_29, after0_30, after0_31, after0_32, after0_33, after0_34, after0_35, after0_36,
    after0_37, after0_38, after0_39, after0_40, after0_41]
  all_goals simp only [out0_24, out0_25, out0_26, out0_27, out0_28, out0_29, out0_30, out0_31, out0_32, out0_33, out0_34, out0_35, out0_36, out0_37, out0_38, out0_39,
    out0_40, out0_41]
  all_goals canon_tiles x hx
  all_goals pointwise [k0_pay1, k0_pay2, k0_pay3, k0_pay4, k0_pay5, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, k0_pay30, k0_pay31,
    k0_pay32, k0_pay33, deltas, newMs, newVs, delta, newM, newV]
  all_goals blk_point [iblk, V, idx t]

end Cert.Kernel5Ideal.Opt
-- ==== Proof.OptNorms.lean ====
module

public import proofs.«01_k».proof.Defs
public import proofs.«01_k».proof.Proof.OptSpec
public import proofs.«01_k».proof.Proof.OptNormsValue
public import proofs.«01_k».proof.Proof.Gen.Reference5Ideal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel5Ideal.Opt

open Cert.Kernel5Ideal Cert.Kernel5Ideal.Gen Cert.OptSpec Idealize.ShloMosaic Idealize.ShloMosaic.TcCoe Idealize.SL.Sem

variable (m : (ℓ : Loc nD τ sig) → Buf (Elt Ideal) ℓ)

set_option maxHeartbeats 8000000 in
/-- The run: the results hold the steps and the moments, the arguments are unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = deltas (a m main_arg0 c) (a m main_arg1 c) (a m main_arg2 c) (a m main_arg3 c)
      ∧ r.2.mem ((c.tc : Thread nD τ).loc main_v0_1) = newMs (a m main_arg1 c) (a m main_arg2 c)
      ∧ r.2.mem ((c.tc : Thread nD τ).loc main_v0_2) = newVs (a m main_arg1 c) (a m main_arg3 c)
      ∧ r.2.mem ((c.tc : Thread nD τ).loc main_v0_3) = deltas (a m main_arg4 c) (a m main_arg5 c) (a m main_arg6 c) (a m main_arg7 c)
      ∧ r.2.mem ((c.tc : Thread nD τ).loc main_v0_4) = newMs (a m main_arg5 c) (a m main_arg6 c)
      ∧ r.2.mem ((c.tc : Thread nD τ).loc main_v0_5) = newVs (a m main_arg5 c) (a m main_arg7 c)
      ∧ r.2.mem ((c.tc : Thread nD τ).loc main_v0_6) = deltas (a m main_arg8 c) (a m main_arg9 c) (a m main_arg10 c) (a m main_arg11 c)
      ∧ r.2.mem ((c.tc : Thread nD τ).loc main_v0_7) = newMs (a m main_arg9 c) (a m main_arg10 c)
      ∧ r.2.mem ((c.tc : Thread nD τ).loc main_v0_8) = newVs (a m main_arg9 c) (a m main_arg11 c)
      ∧ r.2.mem ((c.tc : Thread nD τ).loc main_v0_9) = deltas (a m main_arg12 c) (a m main_arg13 c) (a m main_arg14 c) (a m main_arg15 c)
      ∧ r.2.mem ((c.tc : Thread nD τ).loc main_v0_10) = newMs (a m main_arg13 c) (a m main_arg14 c)
      ∧ r.2.mem ((c.tc : Thread nD τ).loc main_v0_11) = newVs (a m main_arg13 c) (a m main_arg15 c)
      ∧ r.2.mem ((c.tc : Thread nD τ).loc main_v0_12) = deltas (a m main_arg16 c) (a m main_arg17 c) (a m main_arg18 c) (a m main_arg19 c)
      ∧ r.2.mem ((c.tc : Thread nD τ).loc main_v0_13) = newMs (a m main_arg17 c) (a m main_arg18 c)
      ∧ r.2.mem ((c.tc : Thread nD τ).loc main_v0_14) = newVs (a m main_arg17 c) (a m main_arg19 c)
      ∧ r.2.mem ((c.tc : Thread nD τ).loc main_v0_15) = deltas (a m main_arg20 c) (a m main_arg21 c) (a m main_arg22 c) (a m main_arg23 c)
      ∧ r.2.mem ((c.tc : Thread nD τ).loc main_v0_16) = newMs (a m main_arg21 c) (a m main_arg22 c)
      ∧ r.2.mem ((c.tc : Thread nD τ).loc main_v0_17) = newVs (a m main_arg21 c) (a m main_arg23 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun r h c => by
    obtain ⟨e24, e25, e26, e27, e28, e29, e30, e31, e32, e33, e34, e35, e36, e37, e38, e39, e40, e41⟩ := finals m c
    exact ⟨((h.2 c).1 24).trans e24, ((h.2 c).1 25).trans e25, ((h.2 c).1 26).trans e26, ((h.2 c).1 27).trans e27, ((h.2 c).1 28).trans e28, ((h.2 c).1 29).trans e29, ((h.2 c).1 30).trans e30, ((h.2 c).1 31).trans e31, ((h.2 c).1 32).trans e32, ((h.2 c).1 33).trans e33, ((h.2 c).1 34).trans e34, ((h.2 c).1 35).trans e35, ((h.2 c).1 36).trans e36, ((h.2 c).1 37).trans e37, ((h.2 c).1 38).trans e38, ((h.2 c).1 39).trans e39, ((h.2 c).1 40).trans e40, ((h.2 c).1 41).trans e41, h.1 c⟩)
    (θ_run_and (unchanged m ρ) (run_main m ρ))

end Cert.Kernel5Ideal.Opt

namespace Cert.Opt

open Idealize.ShloMosaic Idealize.ShloMosaic.TcCoe Idealize.SL.Sem

set_option maxHeartbeats 8000000 in
/-- The update of the six norms' weights: the kernel's steps and moments are the reference's. -/
theorem norms : Cert.algebraic_Kernel5Ideal_Reference5Ideal := by
  pair_intro
  · run_from Cert.Kernel5Ideal.Opt.run m g
  · run_from Cert.Reference5Ideal.Value.run m' g' <;> rfl

end Cert.Opt
-- ==== Proof.OptColumnsFrame.lean ====
module

public import proofs.«01_k».proof.Proof.Gen.Kernel6Ideal.Launch
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Pipeline.FrameSuffix
public import Idealize.ShloMosaic.Lib.Claim
public import Idealize.ShloMosaic.Lib.StableHlo.RunRead
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 1400000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- What the host operations before the region write. -/
abbrev refs0 : List (Ref sig .tc) := [main_v0, main_v1, main_v2, main_v3, main_v4, main_v5, main_v6, main_v7, main_v8, main_v9, main_v10, main_v11, main_v12, main_v13, main_v14]

/-- What the host operations after the region write. -/
abbrev refs1 : List (Ref sig .tc) := [main_v16, main_v17, main_v18, main_v19, main_v20, main_v21, main_v22, main_v23, main_v24, main_v25, main_v26, main_v27, main_v28, main_v29, main_v30, main_v31, main_v32, main_v33, main_v34, main_v35]

/-- A buffer that no host operation before the region writes: the region finds it as launched. -/
theorem V_arg (c : Dev nD) (b : Ref sig .tc) (hb : b ∉ refs0) : V m c b = m ((c : Thread nD τ).loc b) :=
  StableHlo.after_unwritten refs0 rfl hb _

/-- A buffer that no host operation writes and no window has for its array ends as launched. -/
theorem W_arg (dats : (p : Fin _) → (c : Dev nD) → Dat τ (Elt F) Unit ℕ (UR sig nD τ) ℕ (cfgs p) c) (c : Dev nD)
    (b : Ref sig .tc) (hb : b ∉ refs0) (hb' : b ∉ refs1) (hw : ∀ w, Pipeline.arrRef spec0 w ≠ b) :
    Pipeline.afterTail₀ cfgs dats 0 (V0 m) [hostOps1] c b = m ((c : Thread nD τ).loc b) := by
  unfold Pipeline.afterTail₀
  rw [StableHlo.after_unwritten refs1 rfl hb', Pipeline.withArrays_of_ne _ c (V0 m c) _ b hw]
  exact V_arg m c b hb
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds its block at every point. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's staging buffer holds its block at every point. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's staging buffer holds its block at every point. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's staging buffer holds its block at every point. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's staging buffer holds its block at every point. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's staging buffer holds its block at every point. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's staging buffer holds its block at every point. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's staging buffer holds its block at every point. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- In the memory `μ` device `c` holds every argument array as launched. -/
abbrev Kept (μ : (ℓ : Loc nD τ sig) → Buf (Elt F) ℓ) (c : Dev nD) : Prop :=
      μ ((c.tc : Thread nD τ).loc main_arg0) = m ((c.tc : Thread nD τ).loc main_arg0)
      ∧ μ ((c.tc : Thread nD τ).loc main_arg1) = m ((c.tc : Thread nD τ).loc main_arg1)
      ∧ μ ((c.tc : Thread nD τ).loc main_arg2) = m ((c.tc : Thread nD τ).loc main_arg2)
      ∧ μ ((c.tc : Thread nD τ).loc main_arg3) = m ((c.tc : Thread nD τ).loc main_arg3)
      ∧ μ ((c.tc : Thread nD τ).loc main_arg4) = m ((c.tc : Thread nD τ).loc main_arg4)
      ∧ μ ((c.tc : Thread nD τ).loc main_arg5) = m ((c.tc : Thread nD τ).loc main_arg5)
      ∧ μ ((c.tc : Thread nD τ).loc main_arg6) = m ((c.tc : Thread nD τ).loc main_arg6)
      ∧ μ ((c.tc : Thread nD τ).loc main_arg7) = m ((c.tc : Thread nD τ).loc main_arg7)
      ∧ μ ((c.tc : Thread nD τ).loc main_arg8) = m ((c.tc : Thread nD τ).loc main_arg8)
      ∧ μ ((c.tc : Thread nD τ).loc main_arg9) = m ((c.tc : Thread nD τ).loc main_arg9)
      ∧ μ ((c.tc : Thread nD τ).loc main_arg10) = m ((c.tc : Thread nD τ).loc main_arg10)
      ∧ μ ((c.tc : Thread nD τ).loc main_arg11) = m ((c.tc : Thread nD τ).loc main_arg11)
      ∧ μ ((c.tc : Thread nD τ).loc main_arg12) = m ((c.tc : Thread nD τ).loc main_arg12)
      ∧ μ ((c.tc : Thread nD τ).loc main_arg13) = m ((c.tc : Thread nD τ).loc main_arg13)
      ∧ μ ((c.tc : Thread nD τ).loc main_arg14) = m ((c.tc : Thread nD τ).loc main_arg14)
      ∧ μ ((c.tc : Thread nD τ).loc main_arg15) = m ((c.tc : Thread nD τ).loc main_arg15)
      ∧ μ ((c.tc : Thread nD τ).loc main_arg16) = m ((c.tc : Thread nD τ).loc main_arg16)
      ∧ μ ((c.tc : Thread nD τ).loc main_arg17) = m ((c.tc : Thread nD τ).loc main_arg17)
      ∧ μ ((c.tc : Thread nD τ).loc main_arg18) = m ((c.tc : Thread nD τ).loc main_arg18)
      ∧ μ ((c.tc : Thread nD τ).loc main_arg19) = m ((c.tc : Thread nD τ).loc main_arg19)

set_option maxHeartbeats 2100000 in
/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_Kernel6Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      Kept m r.2.mem c) :=
  (θ_run defs _ _).mono (fun _ h c => ⟨(((h c).2 main_arg0 (Pipeline.mem_restRefs_of main_arg0 (by decide) (by decide))).trans (W_arg m dats c main_arg0 (by decide) (by decide) (by decide))),
      ((h c).1 1).trans (((dats 0 c).arrAt_in 1 rfl _).trans ((hA c 1).trans (V_arg m c main_arg1 (by decide)))),
      (((h c).2 main_arg2 (Pipeline.mem_restRefs_of main_arg2 (by decide) (by decide))).trans (W_arg m dats c main_arg2 (by decide) (by decide) (by decide))),
      (((h c).2 main_arg3 (Pipeline.mem_restRefs_of main_arg3 (by decide) (by decide))).trans (W_arg m dats c main_arg3 (by decide) (by decide) (by decide))),
      (((h c).2 main_arg4 (Pipeline.mem_restRefs_of main_arg4 (by decide) (by decide))).trans (W_arg m dats c main_arg4 (by decide) (by decide) (by decide))),
      ((h c).1 5).trans (((dats 0 c).arrAt_in 5 rfl _).trans ((hA c 5).trans (V_arg m c main_arg5 (by decide)))),
      (((h c).2 main_arg6 (Pipeline.mem_restRefs_of main_arg6 (by decide) (by decide))).trans (W_arg m dats c main_arg6 (by decide) (by decide) (by decide))),
      (((h c).2 main_arg7 (Pipeline.mem_restRefs_of main_arg7 (by decide) (by decide))).trans (W_arg m dats c main_arg7 (by decide) (by decide) (by decide))),
      (((h c).2 main_arg8 (Pipeline.mem_restRefs_of main_arg8 (by decide) (by decide))).trans (W_arg m dats c main_arg8 (by decide) (by decide) (by decide))),
      ((h c).1 9).trans (((dats 0 c).arrAt_in 9 rfl _).trans ((hA c 9).trans (V_arg m c main_arg9 (by decide)))),
      (((h c).2 main_arg10 (Pipeline.mem_restRefs_of main_arg10 (by decide) (by decide))).trans (W_arg m dats c main_arg10 (by decide) (by decide) (by decide))),
      (((h c).2 main_arg11 (Pipeline.mem_restRefs_of main_arg11 (by decide) (by decide))).trans (W_arg m dats c main_arg11 (by decide) (by decide) (by decide))),
      (((h c).2 main_arg12 (Pipeline.mem_restRefs_of main_arg12 (by decide) (by decide))).trans (W_arg m dats c main_arg12 (by decide) (by decide) (by decide))),
      ((h c).1 13).trans (((dats 0 c).arrAt_in 13 rfl _).trans ((hA c 13).trans (V_arg m c main_arg13 (by decide)))),
      (((h c).2 main_arg14 (Pipeline.mem_restRefs_of main_arg14 (by decide) (by decide))).trans (W_arg m dats c main_arg14 (by decide) (by decide) (by decide))),
      (((h c).2 main_arg15 (Pipeline.mem_restRefs_of main_arg15 (by decide) (by decide))).trans (W_arg m dats c main_arg15 (by decide) (by decide) (by decide))),
      (((h c).2 main_arg16 (Pipeline.mem_restRefs_of main_arg16 (by decide) (by decide))).trans (W_arg m dats c main_arg16 (by decide) (by decide) (by decide))),
      ((h c).1 17).trans (((dats 0 c).arrAt_in 17 rfl _).trans ((hA c 17).trans (V_arg m c main_arg17 (by decide)))),
      (((h c).2 main_arg18 (Pipeline.mem_restRefs_of main_arg18 (by decide) (by decide))).trans (W_arg m dats c main_arg18 (by decide) (by decide) (by decide))),
      (((h c).2 main_arg19 (Pipeline.mem_restRefs_of main_arg19 (by decide) (by decide))).trans (W_arg m dats c main_arg19 (by decide) (by decide) (by decide)))⟩) h

/-! ## The body's accesses -/

abbrev r0_0 : Rect S88x1024 := Rect.unit (s := S88x1024) ![0, 0] S88x1024.size inb_S88x1024_S88x1024_0_0

/-! ## What the body leaves in each output window's buffer -/

/-! ### Values of the body that the stores' payloads, spelt out, would write more than once

    Each is a vector the body binds (often a part call's result), stated over the input windows' blocks and
    numbered on from the skeleton's payload functions (`k0_pay33` …, after `k0_pay32`), so that
    `out0_W` and the values after it name it instead of spelling it out (`unfold out0_W` opens a canon
    with them, `unfold_payloads` opens them with the payloads); the comment after each is the printed function's
    name for the value (a count appended where that name is bound again). -/

def k0_pay33 (x0 x1 x2 x3 x4 x5 x6 x7 x8 x9 x10 x11 x12 x13 x14 x15 x16 x17 x18 x19 : Vec F S88x1024 .f32) : FVec F S88x1024 .f32 :=
  k0_pay30 (View.ld x17 r0_0) (View.ld x19 r0_0) -- `v177`

/-- Window 20's staging buffer after the body, from the input blocks. -/
def out0_20 (x0 x1 x2 x3 : Vec F S88x1024 .f32) : Vec F S88x1024 .f32 :=
  View.canon [⟨r0_0, k0_pay6 (View.ld x0 r0_0) (View.ld x1 r0_0) (View.ld x2 r0_0) (View.ld x3 r0_0)⟩]

/-- Its stores tile the buffer (checked by evaluation), so they cover it. -/
theorem cover0_20 (p0 : Vec F S88x1024 .f32) (y : S88x1024.Idx) :
    ∃ pc ∈ ([⟨r0_0, p0⟩] : List (View.Piece (Elt F) S88x1024 .f32)), y ∈ pc.1.set :=
  View.cover_of_tiled [⟨r0_0, p0⟩] S88x1024.size (by rfl) y

/-- Window 21's staging buffer after the body, from the input blocks. -/
def out0_21 (x1 x2 : Vec F S88x1024 .f32) : Vec F S88x1024 .f32 :=
  View.canon [⟨r0_0, k0_pay7 (View.ld x1 r0_0) (View.ld x2 r0_0)⟩]

/-- Its stores tile the buffer (checked by evaluation), so they cover it. -/
theorem cover0_21 (p0 : Vec F S88x1024 .f32) (y : S88x1024.Idx) :
    ∃ pc ∈ ([⟨r0_0, p0⟩] : List (View.Piece (Elt F) S88x1024 .f32)), y ∈ pc.1.set :=
  View.cover_of_tiled [⟨r0_0, p0⟩] S88x1024.size (by rfl) y

/-- Window 22's staging buffer after the body, from the input blocks. -/
def out0_22 (x1 x3 : Vec F S88x1024 .f32) : Vec F S88x1024 .f32 :=
  View.canon [⟨r0_0, k0_pay8 (k0_pay5 (View.ld x1 r0_0) (View.ld x3 r0_0))⟩]

/-- Its stores tile the buffer (checked by evaluation), so they cover it. -/
theorem cover0_22 (p0 : Vec F S88x1024 .f32) (y : S88x1024.Idx) :
    ∃ pc ∈ ([⟨r0_0, p0⟩] : List (View.Piece (Elt F) S88x1024 .f32)), y ∈ pc.1.set :=
  View.cover_of_tiled [⟨r0_0, p0⟩] S88x1024.size (by rfl) y

/-- Window 23's staging buffer after the body, from the input blocks. -/
def out0_23 (x4 x5 x6 x7 : Vec F S88x1024 .f32) : Vec F S88x1024 .f32 :=
  View.canon [⟨r0_0, k0_pay11 (View.ld x4 r0_0) (View.ld x5 r0_0) (View.ld x6 r0_0) (View.ld x7 r0_0)⟩]

/-- Its stores tile the buffer (checked by evaluation), so they cover it. -/
theorem cover0_23 (p0 : Vec F S88x1024 .f32) (y : S88x1024.Idx) :
    ∃ pc ∈ ([⟨r0_0, p0⟩] : List (View.Piece (Elt F) S88x1024 .f32)), y ∈ pc.1.set :=
  View.cover_of_tiled [⟨r0_0, p0⟩] S88x1024.size (by rfl) y

/-- Window 24's staging buffer after the body, from the input blocks. -/
def out0_24 (x5 x6 : Vec F S88x1024 .f32) : Vec F S88x1024 .f32 :=
  View.canon [⟨r0_0, k0_pay12 (k0_pay9 (View.ld x5 r0_0) (View.ld x6 r0_0))⟩]

/-- Its stores tile the buffer (checked by evaluation), so they cover it. -/
theorem cover0_24 (p0 : Vec F S88x1024 .f32) (y : S88x1024.Idx) :
    ∃ pc ∈ ([⟨r0_0, p0⟩] : List (View.Piece (Elt F) S88x1024 .f32)), y ∈ pc.1.set :=
  View.cover_of_tiled [⟨r0_0, p0⟩] S88x1024.size (by rfl) y

/-- Window 25's staging buffer after the body, from the input blocks. -/
def out0_25 (x5 x7 : Vec F S88x1024 .f32) : Vec F S88x1024 .f32 :=
  View.canon [⟨r0_0, k0_pay13 (k0_pay10 (View.ld x5 r0_0) (View.ld x7 r0_0))⟩]

/-- Its stores tile the buffer (checked by evaluation), so they cover it. -/
theorem cover0_25 (p0 : Vec F S88x1024 .f32) (y : S88x1024.Idx) :
    ∃ pc ∈ ([⟨r0_0, p0⟩] : List (View.Piece (Elt F) S88x1024 .f32)), y ∈ pc.1.set :=
  View.cover_of_tiled [⟨r0_0, p0⟩] S88x1024.size (by rfl) y

/-- Window 26's staging buffer after the body, from the input blocks. -/
def out0_26 (x8 x9 x10 x11 : Vec F S88x1024 .f32) : Vec F S88x1024 .f32 :=
  View.canon [⟨r0_0, k0_pay18 (k0_pay16 (View.ld x8 r0_0) (View.ld x9 r0_0) (View.ld x10 r0_0) (View.ld x11 r0_0)) (k0_pay17 (F := F))⟩]

/-- Its stores tile the buffer (checked by evaluation), so they cover it. -/
theorem cover0_26 (p0 : Vec F S88x1024 .f32) (y : S88x1024.Idx) :
    ∃ pc ∈ ([⟨r0_0, p0⟩] : List (View.Piece (Elt F) S88x1024 .f32)), y ∈ pc.1.set :=
  View.cover_of_tiled [⟨r0_0, p0⟩] S88x1024.size (by rfl) y

/-- Window 27's staging buffer after the body, from the input blocks. -/
def out0_27 (x9 x10 : Vec F S88x1024 .f32) : Vec F S88x1024 .f32 :=
  View.canon [⟨r0_0, k0_pay19 (k0_pay14 (View.ld x9 r0_0) (View.ld x10 r0_0))⟩]

/-- Its stores tile the buffer (checked by evaluation), so they cover it. -/
theorem cover0_27 (p0 : Vec F S88x1024 .f32) (y : S88x1024.Idx) :
    ∃ pc ∈ ([⟨r0_0, p0⟩] : List (View.Piece (Elt F) S88x1024 .f32)), y ∈ pc.1.set :=
  View.cover_of_tiled [⟨r0_0, p0⟩] S88x1024.size (by rfl) y

/-- Window 28's staging buffer after the body, from the input blocks. -/
def out0_28 (x9 x11 : Vec F S88x1024 .f32) : Vec F S88x1024 .f32 :=
  View.canon [⟨r0_0, k0_pay20 (k0_pay15 (View.ld x9 r0_0) (View.ld x11 r0_0))⟩]

/-- Its stores tile the buffer (checked by evaluation), so they cover it. -/
theorem cover0_28 (p0 : Vec F S88x1024 .f32) (y : S88x1024.Idx) :
    ∃ pc ∈ ([⟨r0_0, p0⟩] : List (View.Piece (Elt F) S88x1024 .f32)), y ∈ pc.1.set :=
  View.cover_of_tiled [⟨r0_0, p0⟩] S88x1024.size (by rfl) y

/-- Window 29's staging buffer after the body, from the input blocks. -/
def out0_29 (x12 x13 x14 x15 : Vec F S88x1024 .f32) : Vec F S88x1024 .f32 :=
  View.canon [⟨r0_0, k0_pay25 (k0_pay21 (View.ld x12 r0_0)) (k0_pay24 (View.ld x13 r0_0) (View.ld x14 r0_0) (View.ld x15 r0_0))⟩]

/-- Its stores tile the buffer (checked by evaluation), so they cover it. -/
theorem cover0_29 (p0 : Vec F S88x1024 .f32) (y : S88x1024.Idx) :
    ∃ pc ∈ ([⟨r0_0, p0⟩] : List (View.Piece (Elt F) S88x1024 .f32)), y ∈ pc.1.set :=
  View.cover_of_tiled [⟨r0_0, p0⟩] S88x1024.size (by rfl) y

/-- Window 30's staging buffer after the body, from the input blocks. -/
def out0_30 (x13 x14 : Vec F S88x1024 .f32) : Vec F S88x1024 .f32 :=
  View.canon [⟨r0_0, k0_pay26 (k0_pay22 (View.ld x13 r0_0) (View.ld x14 r0_0))⟩]

/-- Its stores tile the buffer (checked by evaluation), so they cover it. -/
theorem cover0_30 (p0 : Vec F S88x1024 .f32) (y : S88x1024.Idx) :
    ∃ pc ∈ ([⟨r0_0, p0⟩] : List (View.Piece (Elt F) S88x1024 .f32)), y ∈ pc.1.set :=
  View.cover_of_tiled [⟨r0_0, p0⟩] S88x1024.size (by rfl) y

/-- Window 31's staging buffer after the body, from the input blocks. -/
def out0_31 (x13 x15 : Vec F S88x1024 .f32) : Vec F S88x1024 .f32 :=
  View.canon [⟨r0_0, k0_pay27 (k0_pay23 (View.ld x13 r0_0) (View.ld x15 r0_0))⟩]

/-- Its stores tile the buffer (checked by evaluation), so they cover it. -/
theorem cover0_31 (p0 : Vec F S88x1024 .f32) (y : S88x1024.Idx) :
    ∃ pc ∈ ([⟨r0_0, p0⟩] : List (View.Piece (Elt F) S88x1024 .f32)), y ∈ pc.1.set :=
  View.cover_of_tiled [⟨r0_0, p0⟩] S88x1024.size (by rfl) y

/-- Window 32's staging buffer after the body, from the input blocks. -/
def out0_32 (x0 x1 x2 x3 x4 x5 x6 x7 x8 x9 x10 x11 x12 x13 x14 x15 x16 x17 x18 x19 : Vec F S88x1024 .f32) : Vec F S88x1024 .f32 :=
  View.canon [⟨r0_0, k0_pay1 (k0_pay28 (View.ld x16 r0_0)) (k0_pay33 x0 x1 x2 x3 x4 x5 x6 x7 x8 x9 x10 x11 x12 x13 x14 x15 x16 x17 x18 x19) (k0_pay31 (View.ld x17 r0_0) (View.ld x18 r0_0)) (k0_pay32 (F := F))⟩]

/-- Its stores tile the buffer (checked by evaluation), so they cover it. -/
theorem cover0_32 (p0 : Vec F S88x1024 .f32) (y : S88x1024.Idx) :
    ∃ pc ∈ ([⟨r0_0, p0⟩] : List (View.Piece (Elt F) S88x1024 .f32)), y ∈ pc.1.set :=
  View.cover_of_tiled [⟨r0_0, p0⟩] S88x1024.size (by rfl) y

/-- Window 33's staging buffer after the body, from the input blocks. -/
def out0_33 (x17 x18 : Vec F S88x1024 .f32) : Vec F S88x1024 .f32 :=
  View.canon [⟨r0_0, k0_pay2 (k0_pay29 (View.ld x17 r0_0) (View.ld x18 r0_0))⟩]

/-- Its stores tile the buffer (checked by evaluation), so they cover it. -/
theorem cover0_33 (p0 : Vec F S88x1024 .f32) (y : S88x1024.Idx) :
    ∃ pc ∈ ([⟨r0_0, p0⟩] : List (View.Piece (Elt F) S88x1024 .f32)), y ∈ pc.1.set :=
  View.cover_of_tiled [⟨r0_0, p0⟩] S88x1024.size (by rfl) y

/-- Window 34's staging buffer after the body, from the input blocks. -/
def out0_34 (x0 x1 x2 x3 x4 x5 x6 x7 x8 x9 x10 x11 x12 x13 x14 x15 x16 x17 x18 x19 : Vec F S88x1024 .f32) : Vec F S88x1024 .f32 :=
  View.canon [⟨r0_0, k0_pay3 (k0_pay33 x0 x1 x2 x3 x4 x5 x6 x7 x8 x9 x10 x11 x12 x13 x14 x15 x16 x17 x18 x19)⟩]

/-- Its stores tile the buffer (checked by evaluation), so they cover it. -/
theorem cover0_34 (p0 : Vec F S88x1024 .f32) (y : S88x1024.Idx) :
    ∃ pc ∈ ([⟨r0_0, p0⟩] : List (View.Piece (Elt F) S88x1024 .f32)), y ∈ pc.1.set :=
  View.cover_of_tiled [⟨r0_0, p0⟩] S88x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S88x1024 .f32) (harg1 : arg1.IsWhole) (arg2 : Memref sig .tc .vmem S88x1024 .f32) (harg2 : arg2.IsWhole) (arg3 : Memref sig .tc .vmem S88x1024 .f32) (harg3 : arg3.IsWhole) (arg4 : Memref sig .tc .vmem S88x1024 .f32) (harg4 : arg4.IsWhole) (arg5 : Memref sig .tc .vmem S88x1024 .f32) (harg5 : arg5.IsWhole) (arg6 : Memref sig .tc .vmem S88x1024 .f32) (harg6 : arg6.IsWhole) (arg7 : Memref sig .tc .vmem S88x1024 .f32) (harg7 : arg7.IsWhole) (arg8 : Memref sig .tc .vmem S88x1024 .f32) (harg8 : arg8.IsWhole) (arg9 : Memref sig .tc .vmem S88x1024 .f32) (harg9 : arg9.IsWhole) (arg10 : Memref sig .tc .vmem S88x1024 .f32) (harg10 : arg10.IsWhole) (arg11 : Memref sig .tc .vmem S88x1024 .f32) (harg11 : arg11.IsWhole) (arg12 : Memref sig .tc .vmem S88x1024 .f32) (harg12 : arg12.IsWhole) (arg13 : Memref sig .tc .vmem S88x1024 .f32) (harg13 : arg13.IsWhole) (arg14 : Memref sig .tc .vmem S88x1024 .f32) (harg14 : arg14.IsWhole) (arg15 : Memref sig .tc .vmem S88x1024 .f32) (harg15 : arg15.IsWhole) (arg16 : Memref sig .tc .vmem S88x1024 .f32) (harg16 : arg16.IsWhole) (arg17 : Memref sig .tc .vmem S88x1024 .f32) (harg17 : arg17.IsWhole) (arg18 : Memref sig .tc .vmem S88x1024 .f32) (harg18 : arg18.IsWhole) (arg19 : Memref sig .tc .vmem S88x1024 .f32) (harg19 : arg19.IsWhole) (arg20 : Memref sig .tc .vmem S88x1024 .f32) (harg20 : arg20.IsWhole) (arg21 : Memref sig .tc .vmem S88x1024 .f32) (harg21 : arg21.IsWhole) (arg22 : Memref sig .tc .vmem S88x1024 .f32) (harg22 : arg22.IsWhole) (arg23 : Memref sig .tc .vmem S88x1024 .f32) (harg23 : arg23.IsWhole) (arg24 : Memref sig .tc .vmem S88x1024 .f32) (harg24 : arg24.IsWhole) (arg25 : Memref sig .tc .vmem S88x1024 .f32) (harg25 : arg25.IsWhole) (arg26 : Memref sig .tc .vmem S88x1024 .f32) (harg26 : arg26.IsWhole) (arg27 : Memref sig .tc .vmem S88x1024 .f32) (harg27 : arg27.IsWhole) (arg28 : Memref sig .tc .vmem S88x1024 .f32) (harg28 : arg28.IsWhole) (arg29 : Memref sig .tc .vmem S88x1024 .f32) (harg29 : arg29.IsWhole) (arg30 : Memref sig .tc .vmem S88x1024 .f32) (harg30 : arg30.IsWhole) (arg31 : Memref sig .tc .vmem S88x1024 .f32) (harg31 : arg31.IsWhole) (arg32 : Memref sig .tc .vmem S88x1024 .f32) (harg32 : arg32.IsWhole) (arg33 : Memref sig .tc .vmem S88x1024 .f32) (harg33 : arg33.IsWhole) (arg34 : Memref sig .tc .vmem S88x1024 .f32) (harg34 : arg34.IsWhole) (arg35 : Memref sig .tc .vmem S88x1024 .f32) (harg35 : arg35.IsWhole)
    (x0 x1 x2 x3 x4 x5 x6 x7 x8 x9 x10 x11 x12 x13 x14 x15 x16 x17 x18 x19 : Vec F S88x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare (out0_20 x0 x1 x2 x3) ∗ owns (c : Thread nD τ) arg22 fullShare (out0_21 x1 x2) ∗ owns (c : Thread nD τ) arg23 fullShare (out0_22 x1 x3) ∗ owns (c : Thread nD τ) arg24 fullShare (out0_23 x4 x5 x6 x7) ∗ owns (c : Thread nD τ) arg25 fullShare (out0_24 x5 x6) ∗ owns (c : Thread nD τ) arg26 fullShare (out0_25 x5 x7) ∗ owns (c : Thread nD τ) arg27 fullShare (out0_26 x8 x9 x10 x11) ∗ owns (c : Thread nD τ) arg28 fullShare (out0_27 x9 x10) ∗ owns (c : Thread nD τ) arg29 fullShare (out0_28 x9 x11) ∗ owns (c : Thread nD τ) arg30 fullShare (out0_29 x12 x13 x14 x15) ∗ owns (c : Thread nD τ) arg31 fullShare (out0_30 x13 x14) ∗ owns (c : Thread nD τ) arg32 fullShare (out0_31 x13 x15) ∗ owns (c : Thread nD τ) arg33 fullShare (out0_32 x0 x1 x2 x3 x4 x5 x6 x7 x8 x9 x10 x11 x12 x13 x14 x15 x16 x17 x18 x19) ∗ owns (c : Thread nD τ) arg34 fullShare (out0_33 x17 x18) ∗ owns (c : Thread nD τ) arg35 fullShare (out0_34 x0 x1 x2 x3 x4 x5 x6 x7 x8 x9 x10 x11 x12 x13 x14 x15 x16 x17 x18 x19)) -∗ K ⟨⟩))
      ⊢ wp frame (wpE (defs₀ (F := F)) Variants.none c none) E (cc0_adamw_ffn1_w_gate i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  simp only [cc0_adamw_ffn1_w_gate_eq_skeleton]; unfold cc0_adamw_ffn1_w_gate_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, Hk⟩
  subst hf0 hf1 hf2 hf3 hf4 hf5 hf6 hf7 hf8 hf9 hf10 hf11 hf12 hf13 hf14 hf15 hf16 hf17 hf18 hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  isplitl [H30]
  · iexists _; isplitr
    swap; · iexact H30
    ipureintro
    refine (View.read_writes_eq_canon _ _ _ (cover0_30 _)).trans ?_
    rfl
  isplitl [H31]
  · iexists _; isplitr
    swap; · iexact H31
    ipureintro
    refine (View.read_writes_eq_canon _ _ _ (cover0_31 _)).trans ?_
    rfl
  isplitl [H32]
  · iexists _; isplitr
    swap; · iexact H32
    ipureintro
    refine (View.read_writes_eq_canon _ _ _ (cover0_32 _)).trans ?_
    rfl
  isplitl [H33]
  · iexists _; isplitr
    swap; · iexact H33
    ipureintro
    refine (View.read_writes_eq_canon _ _ _ (cover0_33 _)).trans ?_
    rfl
  iexists _; isplitr
  swap; · iexact H34
  ipureintro
  refine (View.read_writes_eq_canon _ _ _ (cover0_34 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => out0_20 (iblk m c 0 t) (iblk m c 1 t) (iblk m c 2 t) (iblk m c 3 t)
    | ⟨21, _⟩ => out0_21 (iblk m c 1 t) (iblk m c 2 t)
    | ⟨22, _⟩ => out0_22 (iblk m c 1 t) (iblk m c 3 t)
    | ⟨23, _⟩ => out0_23 (iblk m c 4 t) (iblk m c 5 t) (iblk m c 6 t) (iblk m c 7 t)
    | ⟨24, _⟩ => out0_24 (iblk m c 5 t) (iblk m c 6 t)
    | ⟨25, _⟩ => out0_25 (iblk m c 5 t) (iblk m c 7 t)
    | ⟨26, _⟩ => out0_26 (iblk m c 8 t) (iblk m c 9 t) (iblk m c 10 t) (iblk m c 11 t)
    | ⟨27, _⟩ => out0_27 (iblk m c 9 t) (iblk m c 10 t)
    | ⟨28, _⟩ => out0_28 (iblk m c 9 t) (iblk m c 11 t)
    | ⟨29, _⟩ => out0_29 (iblk m c 12 t) (iblk m c 13 t) (iblk m c 14 t) (iblk m c 15 t)
    | ⟨30, _⟩ => out0_30 (iblk m c 13 t) (iblk m c 14 t)
    | ⟨31, _⟩ => out0_31 (iblk m c 13 t) (iblk m c 15 t)
    | ⟨32, _⟩ => out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨33, _⟩ => out0_33 (iblk m c 17 t) (iblk m c 18 t)
    | ⟨34, _⟩ => out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨_ + 35, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = out0_20 (iblk m c 0 t) (iblk m c 1 t) (iblk m c 2 t) (iblk m c 3 t) := by dsimp only [dats]
theorem after0_21 (c : Dev nD) (t : Fin cfg0.N) : (dats m 0 c).after 21 t = out0_21 (iblk m c 1 t) (iblk m c 2 t) := by dsimp only [dats]
theorem after0_22 (c : Dev nD) (t : Fin cfg0.N) : (dats m 0 c).after 22 t = out0_22 (iblk m c 1 t) (iblk m c 3 t) := by dsimp only [dats]
theorem after0_23 (c : Dev nD) (t : Fin cfg0.N) : (dats m 0 c).after 23 t = out0_23 (iblk m c 4 t) (iblk m c 5 t) (iblk m c 6 t) (iblk m c 7 t) := by dsimp only [dats]
theorem after0_24 (c : Dev nD) (t : Fin cfg0.N) : (dats m 0 c).after 24 t = out0_24 (iblk m c 5 t) (iblk m c 6 t) := by dsimp only [dats]
theorem after0_25 (c : Dev nD) (t : Fin cfg0.N) : (dats m 0 c).after 25 t = out0_25 (iblk m c 5 t) (iblk m c 7 t) := by dsimp only [dats]
theorem after0_26 (c : Dev nD) (t : Fin cfg0.N) : (dats m 0 c).after 26 t = out0_26 (iblk m c 8 t) (iblk m c 9 t) (iblk m c 10 t) (iblk m c 11 t) := by dsimp only [dats]
theorem after0_27 (c : Dev nD) (t : Fin cfg0.N) : (dats m 0 c).after 27 t = out0_27 (iblk m c 9 t) (iblk m c 10 t) := by dsimp only [dats]
theorem after0_28 (c : Dev nD) (t : Fin cfg0.N) : (dats m 0 c).after 28 t = out0_28 (iblk m c 9 t) (iblk m c 11 t) := by dsimp only [dats]
theorem after0_29 (c : Dev nD) (t : Fin cfg0.N) : (dats m 0 c).after 29 t = out0_29 (iblk m c 12 t) (iblk m c 13 t) (iblk m c 14 t) (iblk m c 15 t) := by dsimp only [dats]
theorem after0_30 (c : Dev nD) (t : Fin cfg0.N) : (dats m 0 c).after 30 t = out0_30 (iblk m c 13 t) (iblk m c 14 t) := by dsimp only [dats]
theorem after0_31 (c : Dev nD) (t : Fin cfg0.N) : (dats m 0 c).after 31 t = out0_31 (iblk m c 13 t) (iblk m c 15 t) := by dsimp only [dats]
theorem after0_32 (c : Dev nD) (t : Fin cfg0.N) : (dats m 0 c).after 32 t = out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_33 (c : Dev nD) (t : Fin cfg0.N) : (dats m 0 c).after 33 t = out0_33 (iblk m c 17 t) (iblk m c 18 t) := by dsimp only [dats]
theorem after0_34 (c : Dev nD) (t : Fin cfg0.N) : (dats m 0 c).after 34 t = out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  iintro ⟨H0, H1, H2, H3, H4, H5, H6, H7, H8, H9, H10, H11, H12, H13, H14, H15, H16, H17, H18, H19, H20, H21, H22, H23, H24, H25, H26, H27, H28, H29, H30, H31, H32, H33, H34⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 4000000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      Kept m r.2.mem c) :=
  frame_of m ρ (dats m) (A_eq m) (run_main m ρ)

/-- THE FRAME: `Cert.quiescent_Kernel6Ideal`'s statement (Defs.lean) at any `F` — Proof.lean cites it at `Bits`:
    `theorem Cert.Proof.claim : Cert.Claim := ⟨Cert.Kernel6Ideal.Gen.facts, fun m ρ _ => Cert.Kernel6Ideal.Gen.frame m ρ⟩`. -/
theorem frame : θ_run defs (onTc (τ := τ) (main (F := F))) ⟨m, fun _ => 0, ρ⟩ (fun r => (∀ c : Dev nD,
      Kept m r.2.mem c)
      ∧ r.2.sem = fun _ => 0) :=
  θ_run_and (unchanged m ρ) ((θ_run defs _ _).mono (fun _ h => h.2) (run_main_quiescent m ρ))

end Cert.Kernel6Ideal.Gen

end
-- ==== Proof.OptColumnsValue.lean ====
module

public import proofs.«01_k».proof.Defs
public import proofs.«01_k».proof.Proof.OptSpec
public import proofs.«01_k».proof.Proof.OptColumnsFrame
public import Idealize.ShloMosaic.Lib.Pipeline.ValueKit
public import Idealize.ShloMosaic.Lib.Pipeline.ReadBack
public import Idealize.ShloMosaic.Lib.ValueLayout
public import Idealize.ShloMosaic.Lib.StableHlo.RunRead
public import Idealize.ShloMosaic.Lib.Claim

@[expose] public section

set_option maxRecDepth 16384

noncomputable section

namespace Cert.Kernel6Ideal.Opt

open Cert.Kernel6Ideal Cert.Kernel6Ideal.Gen Cert.OptSpec Idealize.ShloMosaic Idealize.ShloMosaic.TcCoe Idealize.SL.Sem

variable (m : (ℓ : Loc nD τ sig) → Buf (Elt Ideal) ℓ)

/-- Where each grid point's blocks lie. -/
theorem idx : ∀ t : Fin cfg0.N, (win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0])
    ∧ (win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0])
    ∧ (win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0])
    ∧ (win0_21.index t = ![t.val, 0] ∧ win0_22.index t = ![t.val, 0] ∧ win0_23.index t = ![t.val, 0] ∧ win0_24.index t = ![t.val, 0] ∧ win0_25.index t = ![t.val, 0] ∧ win0_26.index t = ![t.val, 0] ∧ win0_27.index t = ![t.val, 0])
    ∧ (win0_28.index t = ![t.val, 0] ∧ win0_29.index t = ![t.val, 0] ∧ win0_30.index t = ![t.val, 0] ∧ win0_31.index t = ![t.val, 0] ∧ win0_32.index t = ![t.val, 0] ∧ win0_33.index t = ![t.val, 0] ∧ win0_34.index t = ![t.val, 0]) :=
  fun t => by
  refine ⟨?_, ?_, ?_, ?_, ?_⟩ <;> (revert t; decide +kernel)

set_option maxHeartbeats 8000000 in
/-- The region's fifteen output arrays: for each of the five weights the steps, the new first and the new second moments, transposed. -/
theorem finals (c : Dev nD) : (dats m 0 c).arrAt 20 cfg0.N = deltas (V m c main_v0) (V m c main_arg1) (V m c main_v1) (V m c main_v2)
    ∧ (dats m 0 c).arrAt 21 cfg0.N = newMs (V m c main_arg1) (V m c main_v1)
    ∧ (dats m 0 c).arrAt 22 cfg0.N = newVs (V m c main_arg1) (V m c main_v2)
    ∧ (dats m 0 c).arrAt 23 cfg0.N = deltas (V m c main_v3) (V m c main_arg5) (V m c main_v4) (V m c main_v5)
    ∧ (dats m 0 c).arrAt 24 cfg0.N = newMs (V m c main_arg5) (V m c main_v4)
    ∧ (dats m 0 c).arrAt 25 cfg0.N = newVs (V m c main_arg5) (V m c main_v5)
    ∧ (dats m 0 c).arrAt 26 cfg0.N = deltas (V m c main_v6) (V m c main_arg9) (V m c main_v7) (V m c main_v8)
    ∧ (dats m 0 c).arrAt 27 cfg0.N = newMs (V m c main_arg9) (V m c main_v7)
    ∧ (dats m 0 c).arrAt 28 cfg0.N = newVs (V m c main_arg9) (V m c main_v8)
    ∧ (dats m 0 c).arrAt 29 cfg0.N = deltas (V m c main_v9) (V m c main_arg13) (V m c main_v10) (V m c main_v11)
    ∧ (dats m 0 c).arrAt 30 cfg0.N = newMs (V m c main_arg13) (V m c main_v10)
    ∧ (dats m 0 c).arrAt 31 cfg0.N = newVs (V m c main_arg13) (V m c main_v11)
    ∧ (dats m 0 c).arrAt 32 cfg0.N = deltas (V m c main_v12) (V m c main_arg17) (V m c main_v13) (V m c main_v14)
    ∧ (dats m 0 c).arrAt 33 cfg0.N = newMs (V m c main_arg17) (V m c main_v13)
    ∧ (dats m 0 c).arrAt 34 cfg0.N = newVs (V m c main_arg17) (V m c main_v14) := by
  refine ⟨(dats m 0 c).arrAt_eq_of_covers 20 _ (by decide +kernel) fun t hf y => ?_, (dats m 0 c).arrAt_eq_of_covers 21 _ (by decide +kernel) fun t hf y => ?_,
    (dats m 0 c).arrAt_eq_of_covers 22 _ (by decide +kernel) fun t hf y => ?_, (dats m 0 c).arrAt_eq_of_covers 23 _ (by decide +kernel) fun t hf y => ?_,
    (dats m 0 c).arrAt_eq_of_covers 24 _ (by decide +kernel) fun t hf y => ?_, (dats m 0 c).arrAt_eq_of_covers 25 _ (by decide +kernel) fun t hf y => ?_,
    (dats m 0 c).arrAt_eq_of_covers 26 _ (by decide +kernel) fun t hf y => ?_, (dats m 0 c).arrAt_eq_of_covers 27 _ (by decide +kernel) fun t hf y => ?_,
    (dats m 0 c).arrAt_eq_of_covers 28 _ (by decide +kernel) fun t hf y => ?_, (dats m 0 c).arrAt_eq_of_covers 29 _ (by decide +kernel) fun t hf y => ?_,
    (dats m 0 c).arrAt_eq_of_covers 30 _ (by decide +kernel) fun t hf y => ?_, (dats m 0 c).arrAt_eq_of_covers 31 _ (by decide +kernel) fun t hf y => ?_,
    (dats m 0 c).arrAt_eq_of_covers 32 _ (by decide +kernel) fun t hf y => ?_, (dats m 0 c).arrAt_eq_of_covers 33 _ (by decide +kernel) fun t hf y => ?_,
    (dats m 0 c).arrAt_eq_of_covers 34 _ (by decide +kernel) fun t hf y => ?_⟩ <;> blk_simp
  all_goals simp only [after0_20, after0_21, after0_22, after0_23, after0_24, after0_25, after0_26, after0_27, after0_28, after0_29, after0_30, after0_31, after0_32,
    after0_33, after0_34]
  all_goals simp only [out0_20, out0_21, out0_22, out0_23, out0_24, out0_25, out0_26, out0_27, out0_28, out0_29, out0_30, out0_31, out0_32, out0_33, out0_34]
  all_goals canon_tiles x hx
  all_goals pointwise [k0_pay1, k0_pay2, k0_pay3, k0_pay4, k0_pay5, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, k0_pay30, k0_pay31,
    k0_pay32, k0_pay33, deltas, newMs, newVs, delta, newM, newV]
  all_goals blk_point [iblk, idx t]

end Cert.Kernel6Ideal.Opt
-- ==== Proof.OptColumnsTail.lean ====
module

public import proofs.«01_k».proof.Defs
public import proofs.«01_k».proof.Proof.OptSpec
public import proofs.«01_k».proof.Proof.OptColumnsFrame
public import Idealize.ShloMosaic.Lib.Pipeline.ValueKit
public import Idealize.ShloMosaic.Lib.Pipeline.ReadBack
public import Idealize.ShloMosaic.Lib.ValueLayout
public import Idealize.ShloMosaic.Lib.StableHlo.RunRead
public import Idealize.ShloMosaic.Lib.Claim

@[expose] public section

set_option maxRecDepth 16384

noncomputable section

namespace Cert.Kernel6Ideal.Opt

open Cert.Kernel6Ideal Cert.Kernel6Ideal.Gen Cert.OptSpec Idealize.ShloMosaic Idealize.ShloMosaic.TcCoe Idealize.SL.Sem

variable (m : (ℓ : Loc nD τ sig) → Buf (Elt Ideal) ℓ)

/-- An argument's array on a device. -/
abbrev a (b : Ref sig .tc) (c : Dev nD) : Buf (Elt Ideal) ((c : Thread nD τ).loc b) := m ((c : Thread nD τ).loc b)

/-- A column weight transposed for the region. -/
abbrev tin (x : Vec Ideal S1024x352 .f32) : Vec Ideal S352x1024 .f32 := transpose S352x1024 [1, 0] x transposes_S1024x352_S352x1024_1_0

/-- A region's array transposed back. -/
abbrev tout (x : Vec Ideal S352x1024 .f32) : Vec Ideal S1024x352 .f32 := transpose S1024x352 [1, 0] x transposes_S352x1024_S1024x352_1_0

/-- Transposing back what was transposed gives the array. -/
theorem tout_tin (x : Vec Ideal S1024x352 .f32) : tout (tin x) = x := by
  funext j
  rw [ValueIdx.eq_ix2 j]
  exact (ValueIdx.transpose_ix2_apply (tin x) _ _ _).trans (ValueIdx.transpose_ix2_apply x _ _ _)

/-- The steps of transposed arrays, transposed back. -/
theorem backD {D w g m v : Vec Ideal S352x1024 .f32} {w' m' v' : Vec Ideal S1024x352 .f32} {g' : Vec Ideal S352x1024 .f32}
    (e : D = deltas w g m v) (hw : w = tin w') (hg : g = g') (hm : m = tin m') (hv : v = tin v') :
    tout D = deltas w' (tout g') m' v' := by
  subst hw hg hm hv e
  exact (show _ = deltas (tout (tin w')) (tout g) (tout (tin m')) (tout (tin v')) from rfl).trans (by rw [tout_tin, tout_tin, tout_tin])

/-- The new first moments of transposed arrays, transposed back. -/
theorem backM {D g m : Vec Ideal S352x1024 .f32} {m' : Vec Ideal S1024x352 .f32} {g' : Vec Ideal S352x1024 .f32}
    (e : D = newMs g m) (hg : g = g') (hm : m = tin m') : tout D = newMs (tout g') m' := by
  subst hg hm e
  exact (show _ = newMs (tout g) (tout (tin m')) from rfl).trans (by rw [tout_tin])

/-- The new second moments of transposed arrays, transposed back. -/
theorem backV {D g v : Vec Ideal S352x1024 .f32} {v' : Vec Ideal S1024x352 .f32} {g' : Vec Ideal S352x1024 .f32}
    (e : D = newVs g v) (hg : g = g') (hv : v = tin v') : tout D = newVs (tout g') v' := by
  subst hg hv e
  exact (show _ = newVs (tout g) (tout (tin v')) from rfl).trans (by rw [tout_tin])

/-- What the region finds: the weights and the moments transposed. -/
theorem entry (c : Dev nD) : V m c main_v0 = tin (a m main_arg0 c)
    ∧ V m c main_v1 = tin (a m main_arg2 c)
    ∧ V m c main_v2 = tin (a m main_arg3 c)
    ∧ V m c main_v3 = tin (a m main_arg4 c)
    ∧ V m c main_v4 = tin (a m main_arg6 c)
    ∧ V m c main_v5 = tin (a m main_arg7 c)
    ∧ V m c main_v6 = tin (a m main_arg8 c)
    ∧ V m c main_v7 = tin (a m main_arg10 c)
    ∧ V m c main_v8 = tin (a m main_arg11 c)
    ∧ V m c main_v9 = tin (a m main_arg12 c)
    ∧ V m c main_v10 = tin (a m main_arg14 c)
    ∧ V m c main_v11 = tin (a m main_arg15 c)
    ∧ V m c main_v12 = tin (a m main_arg16 c)
    ∧ V m c main_v13 = tin (a m main_arg18 c)
    ∧ V m c main_v14 = tin (a m main_arg19 c) := by
  simp only [V, V0, hostOps0, List.flatten_cons, List.flatten_nil, List.append_nil]
  after_reads_simp
  and_intros <;> trivial

/-- What the operations after the region leave, from what they find. -/
theorem tail (W : Valuation τ sig (Elt Ideal)) : StableHlo.after (List.flatten [hostOps1]) W (Proc.devRef .tc main_v16) = tout (W (Proc.devRef .tc main_v15_0))
    ∧ StableHlo.after (List.flatten [hostOps1]) W (Proc.devRef .tc main_v17) = tout (W (Proc.devRef .tc main_v15_1))
    ∧ StableHlo.after (List.flatten [hostOps1]) W (Proc.devRef .tc main_v18) = tout (W (Proc.devRef .tc main_v15_2))
    ∧ StableHlo.after (List.flatten [hostOps1]) W (Proc.devRef .tc main_v19) = tout (W (Proc.devRef .tc main_arg1))
    ∧ StableHlo.after (List.flatten [hostOps1]) W (Proc.devRef .tc main_v20) = tout (W (Proc.devRef .tc main_v15_3))
    ∧ StableHlo.after (List.flatten [hostOps1]) W (Proc.devRef .tc main_v21) = tout (W (Proc.devRef .tc main_v15_4))
    ∧ StableHlo.after (List.flatten [hostOps1]) W (Proc.devRef .tc main_v22) = tout (W (Proc.devRef .tc main_v15_5))
    ∧ StableHlo.after (List.flatten [hostOps1]) W (Proc.devRef .tc main_v23) = tout (W (Proc.devRef .tc main_arg5))
    ∧ StableHlo.after (List.flatten [hostOps1]) W (Proc.devRef .tc main_v24) = tout (W (Proc.devRef .tc main_v15_6))
    ∧ StableHlo.after (List.flatten [hostOps1]) W (Proc.devRef .tc main_v25) = tout (W (Proc.devRef .tc main_v15_7))
    ∧ StableHlo.after (List.flatten [hostOps1]) W (Proc.devRef .tc main_v26) = tout (W (Proc.devRef .tc main_v15_8))
    ∧ StableHlo.after (List.flatten [hostOps1]) W (Proc.devRef .tc main_v27) = tout (W (Proc.devRef .tc main_arg9))
    ∧ StableHlo.after (List.flatten [hostOps1]) W (Proc.devRef .tc main_v28) = tout (W (Proc.devRef .tc main_v15_9))
    ∧ StableHlo.after (List.flatten [hostOps1]) W (Proc.devRef .tc main_v29) = tout (W (Proc.devRef .tc main_v15_10))
    ∧ StableHlo.after (List.flatten [hostOps1]) W (Proc.devRef .tc main_v30) = tout (W (Proc.devRef .tc main_v15_11))
    ∧ StableHlo.after (List.flatten [hostOps1]) W (Proc.devRef .tc main_v31) = tout (W (Proc.devRef .tc main_arg13))
    ∧ StableHlo.after (List.flatten [hostOps1]) W (Proc.devRef .tc main_v32) = tout (W (Proc.devRef .tc main_v15_12))
    ∧ StableHlo.after (List.flatten [hostOps1]) W (Proc.devRef .tc main_v33) = tout (W (Proc.devRef .tc main_v15_13))
    ∧ StableHlo.after (List.flatten [hostOps1]) W (Proc.devRef .tc main_v34) = tout (W (Proc.devRef .tc main_v15_14))
    ∧ StableHlo.after (List.flatten [hostOps1]) W (Proc.devRef .tc main_v35) = tout (W (Proc.devRef .tc main_arg17)) := by
  simp only [hostOps1, List.flatten_cons, List.flatten_nil, List.append_nil]
  after_reads_simp
  and_intros <;> trivial

/-- What a buffer outside the region's arrays holds at the end. -/
abbrev fin (c : Dev nD) (b : Ref sig .tc) : Buf (Elt Ideal) ((c : Thread nD τ).loc b) :=
  Pipeline.afterTail₀ cfgs (dats m) 0 (V0 m) [hostOps1] c b

/-- Such a buffer is read after the operations that follow the region. -/
theorem fin_eq (c : Dev nD) (b : Ref sig .tc) : fin m c b =
    StableHlo.after (List.flatten [hostOps1]) (Pipeline.withArrays spec0 c (V0 m c) fun w => (dats m 0 c).arrAt w cfg0.N) (Proc.devRef .tc b) := rfl

set_option maxHeartbeats 8000000 in
/-- The results: the region's arrays and the gradients, transposed back. -/
theorem results (c : Dev nD) : fin m c main_v16 = tout ((dats m 0 c).arrAt 20 cfg0.N)
    ∧ fin m c main_v17 = tout ((dats m 0 c).arrAt 21 cfg0.N)
    ∧ fin m c main_v18 = tout ((dats m 0 c).arrAt 22 cfg0.N)
    ∧ fin m c main_v19 = tout (a m main_arg1 c)
    ∧ fin m c main_v20 = tout ((dats m 0 c).arrAt 23 cfg0.N)
    ∧ fin m c main_v21 = tout ((dats m 0 c).arrAt 24 cfg0.N)
    ∧ fin m c main_v22 = tout ((dats m 0 c).arrAt 25 cfg0.N)
    ∧ fin m c main_v23 = tout (a m main_arg5 c)
    ∧ fin m c main_v24 = tout ((dats m 0 c).arrAt 26 cfg0.N)
    ∧ fin m c main_v25 = tout ((dats m 0 c).arrAt 27 cfg0.N)
    ∧ fin m c main_v26 = tout ((dats m 0 c).arrAt 28 cfg0.N)
    ∧ fin m c main_v27 = tout (a m main_arg9 c)
    ∧ fin m c main_v28 = tout ((dats m 0 c).arrAt 29 cfg0.N)
    ∧ fin m c main_v29 = tout ((dats m 0 c).arrAt 30 cfg0.N)
    ∧ fin m c main_v30 = tout ((dats m 0 c).arrAt 31 cfg0.N)
    ∧ fin m c main_v31 = tout (a m main_arg13 c)
    ∧ fin m c main_v32 = tout ((dats m 0 c).arrAt 32 cfg0.N)
    ∧ fin m c main_v33 = tout ((dats m 0 c).arrAt 33 cfg0.N)
    ∧ fin m c main_v34 = tout ((dats m 0 c).arrAt 34 cfg0.N)
    ∧ fin m c main_v35 = tout (a m main_arg17 c) := by
  have h := Pipeline.withArrays_arr spec0 launch0.win.arr_inj c (V0 m c) (fun w => (dats m 0 c).arrAt w cfg0.N)
  obtain ⟨e0, e1, e2, e3, e4, e5, e6, e7, e8, e9, e10, e11, e12, e13, e14, e15, e16, e17, e18, e19⟩ := tail (Pipeline.withArrays spec0 c (V0 m c) fun w => (dats m 0 c).arrAt w cfg0.N)
  exact ⟨(fin_eq m c main_v16).trans (e0.trans (congrArg tout (h 20))),
    (fin_eq m c main_v17).trans (e1.trans (congrArg tout (h 21))),
    (fin_eq m c main_v18).trans (e2.trans (congrArg tout (h 22))),
    (fin_eq m c main_v19).trans (e3.trans (congrArg tout ((h 1).trans (((dats m 0 c).arrAt_in 1 rfl _).trans ((A_eq m c 1).trans (V_arg m c main_arg1 (by decide))))))),
    (fin_eq m c main_v20).trans (e4.trans (congrArg tout (h 23))),
    (fin_eq m c main_v21).trans (e5.trans (congrArg tout (h 24))),
    (fin_eq m c main_v22).trans (e6.trans (congrArg tout (h 25))),
    (fin_eq m c main_v23).trans (e7.trans (congrArg tout ((h 5).trans (((dats m 0 c).arrAt_in 5 rfl _).trans ((A_eq m c 5).trans (V_arg m c main_arg5 (by decide))))))),
    (fin_eq m c main_v24).trans (e8.trans (congrArg tout (h 26))),
    (fin_eq m c main_v25).trans (e9.trans (congrArg tout (h 27))),
    (fin_eq m c main_v26).trans (e10.trans (congrArg tout (h 28))),
    (fin_eq m c main_v27).trans (e11.trans (congrArg tout ((h 9).trans (((dats m 0 c).arrAt_in 9 rfl _).trans ((A_eq m c 9).trans (V_arg m c main_arg9 (by decide))))))),
    (fin_eq m c main_v28).trans (e12.trans (congrArg tout (h 29))),
    (fin_eq m c main_v29).trans (e13.trans (congrArg tout (h 30))),
    (fin_eq m c main_v30).trans (e14.trans (congrArg tout (h 31))),
    (fin_eq m c main_v31).trans (e15.trans (congrArg tout ((h 13).trans (((dats m 0 c).arrAt_in 13 rfl _).trans ((A_eq m c 13).trans (V_arg m c main_arg13 (by decide))))))),
    (fin_eq m c main_v32).trans (e16.trans (congrArg tout (h 32))),
    (fin_eq m c main_v33).trans (e17.trans (congrArg tout (h 33))),
    (fin_eq m c main_v34).trans (e18.trans (congrArg tout (h 34))),
    (fin_eq m c main_v35).trans (e19.trans (congrArg tout ((h 17).trans (((dats m 0 c).arrAt_in 17 rfl _).trans ((A_eq m c 17).trans (V_arg m c main_arg17 (by decide)))))))⟩

end Cert.Kernel6Ideal.Opt
-- ==== Proof.OptColumns.lean ====
module

public import proofs.«01_k».proof.Defs
public import proofs.«01_k».proof.Proof.OptSpec
public import proofs.«01_k».proof.Proof.OptColumnsValue
public import proofs.«01_k».proof.Proof.OptColumnsTail
public import proofs.«01_k».proof.Proof.Gen.Reference6Ideal.Run
public import Idealize.ShloMosaic.Lib.Pipeline.ValueKit
public import Idealize.ShloMosaic.Lib.Pipeline.ReadBack
public import Idealize.ShloMosaic.Lib.ValueLayout
public import Idealize.ShloMosaic.Lib.StableHlo.RunRead
public import Idealize.ShloMosaic.Lib.Claim

@[expose] public section

set_option maxRecDepth 16384

noncomputable section

namespace Cert.Kernel6Ideal.Opt

open Cert.Kernel6Ideal Cert.Kernel6Ideal.Gen Cert.OptSpec Idealize.ShloMosaic Idealize.ShloMosaic.TcCoe Idealize.SL.Sem

variable (m : (ℓ : Loc nD τ sig) → Buf (Elt Ideal) ℓ)

set_option maxHeartbeats 8000000 in
/-- The run: the results hold the steps, the moments and the gradients, the arguments are unchanged. -/
theorem run (ρ : Dev nD → PrngReg) : θ_run defs (onTc (τ := τ) (main (F := Ideal))) ⟨m, fun _ => 0, ρ⟩ fun r => ∀ c : Dev nD,
      r.2.mem ((c.tc : Thread nD τ).loc main_v16) = deltas (a m main_arg0 c) (tout (a m main_arg1 c)) (a m main_arg2 c) (a m main_arg3 c)
      ∧ r.2.mem ((c.tc : Thread nD τ).loc main_v17) = newMs (tout (a m main_arg1 c)) (a m main_arg2 c)
      ∧ r.2.mem ((c.tc : Thread nD τ).loc main_v18) = newVs (tout (a m main_arg1 c)) (a m main_arg3 c)
      ∧ r.2.mem ((c.tc : Thread nD τ).loc main_v19) = tout (a m main_arg1 c)
      ∧ r.2.mem ((c.tc : Thread nD τ).loc main_v20) = deltas (a m main_arg4 c) (tout (a m main_arg5 c)) (a m main_arg6 c) (a m main_arg7 c)
      ∧ r.2.mem ((c.tc : Thread nD τ).loc main_v21) = newMs (tout (a m main_arg5 c)) (a m main_arg6 c)
      ∧ r.2.mem ((c.tc : Thread nD τ).loc main_v22) = newVs (tout (a m main_arg5 c)) (a m main_arg7 c)
      ∧ r.2.mem ((c.tc : Thread nD τ).loc main_v23) = tout (a m main_arg5 c)
      ∧ r.2.mem ((c.tc : Thread nD τ).loc main_v24) = deltas (a m main_arg8 c) (tout (a m main_arg9 c)) (a m main_arg10 c) (a m main_arg11 c)
      ∧ r.2.mem ((c.tc : Thread nD τ).loc main_v25) = newMs (tout (a m main_arg9 c)) (a m main_arg10 c)
      ∧ r.2.mem ((c.tc : Thread nD τ).loc main_v26) = newVs (tout (a m main_arg9 c)) (a m main_arg11 c)
      ∧ r.2.mem ((c.tc : Thread nD τ).loc main_v27) = tout (a m main_arg9 c)
      ∧ r.2.mem ((c.tc : Thread nD τ).loc main_v28) = deltas (a m main_arg12 c) (tout (a m main_arg13 c)) (a m main_arg14 c) (a m main_arg15 c)
      ∧ r.2.mem ((c.tc : Thread nD τ).loc main_v29) = newMs (tout (a m main_arg13 c)) (a m main_arg14 c)
      ∧ r.2.mem ((c.tc : Thread nD τ).loc main_v30) = newVs (tout (a m main_arg13 c)) (a m main_arg15 c)
      ∧ r.2.mem ((c.tc : Thread nD τ).loc main_v31) = tout (a m main_arg13 c)
      ∧ r.2.mem ((c.tc : Thread nD τ).loc main_v32) = deltas (a m main_arg16 c) (tout (a m main_arg17 c)) (a m main_arg18 c) (a m main_arg19 c)
      ∧ r.2.mem ((c.tc : Thread nD τ).loc main_v33) = newMs (tout (a m main_arg17 c)) (a m main_arg18 c)
      ∧ r.2.mem ((c.tc : Thread nD τ).loc main_v34) = newVs (tout (a m main_arg17 c)) (a m main_arg19 c)
      ∧ r.2.mem ((c.tc : Thread nD τ).loc main_v35) = tout (a m main_arg17 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun r h c => by
    obtain ⟨e20, e21, e22, e23, e24, e25, e26, e27, e28, e29, e30, e31, e32, e33, e34⟩ := finals m c
    obtain ⟨p0, p1, p2, p3, p4, p5, p6, p7, p8, p9, p10, p11, p12, p13, p14⟩ := entry m c
    obtain ⟨q0, q1, q2, q3, q4, q5, q6, q7, q8, q9, q10, q11, q12, q13, q14, q15, q16, q17, q18, q19⟩ := results m c
    exact ⟨((h.2 c).2 main_v16 (Pipeline.mem_restRefs_of main_v16 (by decide) (by decide))).trans (q0.trans (backD e20 p0 (V_arg m c main_arg1 (by decide)) p1 p2)),
      ((h.2 c).2 main_v17 (Pipeline.mem_restRefs_of main_v17 (by decide) (by decide))).trans (q1.trans (backM e21 (V_arg m c main_arg1 (by decide)) p1)),
      ((h.2 c).2 main_v18 (Pipeline.mem_restRefs_of main_v18 (by decide) (by decide))).trans (q2.trans (backV e22 (V_arg m c main_arg1 (by decide)) p2)),
      ((h.2 c).2 main_v19 (Pipeline.mem_restRefs_of main_v19 (by decide) (by decide))).trans q3,
      ((h.2 c).2 main_v20 (Pipeline.mem_restRefs_of main_v20 (by decide) (by decide))).trans (q4.trans (backD e23 p3 (V_arg m c main_arg5 (by decide)) p4 p5)),
      ((h.2 c).2 main_v21 (Pipeline.mem_restRefs_of main_v21 (by decide) (by decide))).trans (q5.trans (backM e24 (V_arg m c main_arg5 (by decide)) p4)),
      ((h.2 c).2 main_v22 (Pipeline.mem_restRefs_of main_v22 (by decide) (by decide))).trans (q6.trans (backV e25 (V_arg m c main_arg5 (by decide)) p5)),
      ((h.2 c).2 main_v23 (Pipeline.mem_restRefs_of main_v23 (by decide) (by decide))).trans q7,
      ((h.2 c).2 main_v24 (Pipeline.mem_restRefs_of main_v24 (by decide) (by decide))).trans (q8.trans (backD e26 p6 (V_arg m c main_arg9 (by decide)) p7 p8)),
      ((h.2 c).2 main_v25 (Pipeline.mem_restRefs_of main_v25 (by decide) (by decide))).trans (q9.trans (backM e27 (V_arg m c main_arg9 (by decide)) p7)),
      ((h.2 c).2 main_v26 (Pipeline.mem_restRefs_of main_v26 (by decide) (by decide))).trans (q10.trans (backV e28 (V_arg m c main_arg9 (by decide)) p8)),
      ((h.2 c).2 main_v27 (Pipeline.mem_restRefs_of main_v27 (by decide) (by decide))).trans q11,
      ((h.2 c).2 main_v28 (Pipeline.mem_restRefs_of main_v28 (by decide) (by decide))).trans (q12.trans (backD e29 p9 (V_arg m c main_arg13 (by decide)) p10 p11)),
      ((h.2 c).2 main_v29 (Pipeline.mem_restRefs_of main_v29 (by decide) (by decide))).trans (q13.trans (backM e30 (V_arg m c main_arg13 (by decide)) p10)),
      ((h.2 c).2 main_v30 (Pipeline.mem_restRefs_of main_v30 (by decide) (by decide))).trans (q14.trans (backV e31 (V_arg m c main_arg13 (by decide)) p11)),
      ((h.2 c).2 main_v31 (Pipeline.mem_restRefs_of main_v31 (by decide) (by decide))).trans q15,
      ((h.2 c).2 main_v32 (Pipeline.mem_restRefs_of main_v32 (by decide) (by decide))).trans (q16.trans (backD e32 p12 (V_arg m c main_arg17 (by decide)) p13 p14)),
      ((h.2 c).2 main_v33 (Pipeline.mem_restRefs_of main_v33 (by decide) (by decide))).trans (q17.trans (backM e33 (V_arg m c main_arg17 (by decide)) p13)),
      ((h.2 c).2 main_v34 (Pipeline.mem_restRefs_of main_v34 (by decide) (by decide))).trans (q18.trans (backV e34 (V_arg m c main_arg17 (by decide)) p14)),
      ((h.2 c).2 main_v35 (Pipeline.mem_restRefs_of main_v35 (by decide) (by decide))).trans q19,
      h.1 c⟩)
    (θ_run_and (unchanged m ρ) (run_main m ρ))

end Cert.Kernel6Ideal.Opt

namespace Cert.Opt

open Idealize.ShloMosaic Idealize.ShloMosaic.TcCoe Idealize.SL.Sem

set_option maxHeartbeats 8000000 in
/-- The update of the five column weights, whose gradients come transposed: the kernel's steps and moments are the reference's. -/
theorem columns : Cert.algebraic_Kernel6Ideal_Reference6Ideal := by
  pair_intro
  · run_from Cert.Kernel6Ideal.Opt.run m g
  · run_from Cert.Reference6Ideal.Value.run m' g' <;> rfl

end Cert.Opt
-- ==== Proof.lean ====
/- The gradient of the cross attention's core: the kernel over the extended reals returns the vector-Jacobian
   product of the plain layer's lines. The parts are in Proof/Attn….lean. Then, each forward and backward, the gated
   feed-forward sublayer (Proof/Ffn….lean), the gated merge of the two mixers (Proof/Mix….lean) and the projection into the
   mixers with the norm before it (Proof/Proj….lean); and the optimiser's update of every weight (Proof/Opt….lean). -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.AttnClaim
public import proofs.«01_k».proof.Proof.FfnClaim
public import proofs.«01_k».proof.Proof.MixClaim
public import proofs.«01_k».proof.Proof.ProjClaim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite2
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_finite4
public import proofs.«01_k».proof.Proof.Gen.Reference4Ideal.Run
public import proofs.«01_k».proof.Proof.Gen.Reference4Ideal.Read
public import proofs.«01_k».proof.Proof.OptA
public import proofs.«01_k».proof.Proof.OptB
public import proofs.«01_k».proof.Proof.OptDown
public import proofs.«01_k».proof.Proof.OptState
public import proofs.«01_k».proof.Proof.OptNorms
public import proofs.«01_k».proof.Proof.OptColumns
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13Ideal
public import proofs.«01_k».proof.Proof.Gen.Reference13Ideal
public import proofs.«01_k».proof.Proof.Gen.Reference13Ideal.Run
public import proofs.«01_k».proof.Proof.Gen.Kernel14
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Kernel16
public import proofs.«01_k».proof.Proof.Gen.Kernel16Ideal
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Kernel17
public import proofs.«01_k».proof.Proof.Gen.Kernel17Ideal
public import proofs.«01_k».proof.Proof.Gen.Kernel17Ideal.Frame
public import proofs.«01_k».proof.Proof.Gen.Reference17Ideal
public import proofs.«01_k».proof.Proof.Gen.Reference17Ideal.Run

@[expose] public section

noncomputable section

namespace Cert.Proof

open Idealize.ShloMosaic Idealize.SL.Sem

/-- The reference terminates with its arguments unchanged and every counter at zero. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The feed-forward sublayer's reference terminates with its arguments unchanged and every counter at zero. -/
theorem frame_reference2 : Cert.quiescent_Reference2Ideal := fun m ρ _ =>
  (θ_run Cert.Reference2Ideal.defs _ _).mono (fun r h => ⟨fun c => (h c).2.2.2.2.2.2.2, sem_eq_zero_of_no_sems (by decide) r.2⟩)
    (Cert.Reference2Ideal.Ffn.run m ρ)

/-- The merge's reference terminates with its arguments unchanged and every counter at zero. -/
theorem frame_reference3 : Cert.quiescent_Reference3Ideal := fun m ρ _ =>
  (θ_run Cert.Reference3Ideal.defs _ _).mono (fun r h => ⟨fun c => (h c).2.2.2.2.2.2.2.2.2, sem_eq_zero_of_no_sems (by decide) r.2⟩)
    (Cert.Reference3Ideal.Mix.run m ρ)

/-- The projection's reference terminates with its arguments unchanged and every counter at zero. -/
theorem frame_reference4 : Cert.quiescent_Reference4Ideal := fun m ρ _ =>
  (θ_run Cert.Reference4Ideal.defs _ _).mono (fun r h => ⟨fun c => (h c).2.2.2.2.2, sem_eq_zero_of_no_sems (by decide) r.2⟩)
    (Cert.Reference4Ideal.Proj.run m ρ)

set_option maxHeartbeats 8000000 in
set_option smartUnfolding false in
/-- The kernel that updates the six norms' weights terminates with its arguments unchanged and every counter at zero. -/
theorem frame_kernel5 : Cert.quiescent_Kernel5 := fun m ρ _ => Cert.Kernel5Ideal.Gen.frame (F := Bits) m ρ

/-- The reference for the update of the six norms' weights terminates with its arguments unchanged and every counter at zero. -/
theorem frame_reference5 : Cert.quiescent_Reference5Ideal := fun m ρ _ =>
  (θ_run Cert.Reference5Ideal.defs _ _).mono (fun r h => ⟨fun c => (h c).2.2.2.2.2.2.2.2.2.2.2.2.2.2.2.2.2.2, sem_eq_zero_of_no_sems (by decide) r.2⟩)
    (Cert.Reference5Ideal.Value.run (F := Ideal) m ρ)

set_option maxHeartbeats 8000000 in
set_option smartUnfolding false in
/-- The kernel that updates the five column weights terminates with its arguments unchanged and every counter at zero. -/
theorem frame_kernel6 : Cert.quiescent_Kernel6 := fun m ρ _ => Cert.Kernel6Ideal.Gen.frame (F := Bits) m ρ

/-- The reference for the update of the five column weights terminates with its arguments unchanged and every counter at zero. -/
theorem frame_reference6 : Cert.quiescent_Reference6Ideal := fun m ρ _ =>
  (θ_run Cert.Reference6Ideal.defs _ _).mono (fun r h => ⟨fun c => (h c).2.2.2.2.2.2.2.2.2.2.2.2.2.2.2.2.2.2.2.2, sem_eq_zero_of_no_sems (by decide) r.2⟩)
    (Cert.Reference6Ideal.Value.run (F := Ideal) m ρ)

set_option smartUnfolding false in
/-- The kernel that updates the two down projections terminates with its arguments unchanged and every counter at zero. -/
theorem frame_kernel7 : Cert.quiescent_Kernel7 := fun m ρ _ => Cert.Kernel7Ideal.Gen.frame (F := Bits) m ρ

/-- The reference for the update of the two down projections terminates with its arguments unchanged and every counter at zero. -/
theorem frame_reference7 : Cert.quiescent_Reference7Ideal := fun m ρ _ =>
  (θ_run Cert.Reference7Ideal.defs _ _).mono (fun r h => ⟨fun c => (h c).2.2.2.2.2.2, sem_eq_zero_of_no_sems (by decide) r.2⟩)
    (Cert.Reference7Ideal.Value.run (F := Ideal) m ρ)

set_option smartUnfolding false in
/-- The kernel that updates the pool's weights terminates with its arguments unchanged and every counter at zero. -/
theorem frame_kernel8 : Cert.quiescent_Kernel8 := fun m ρ _ => Cert.Kernel8Ideal.Gen.frame (F := Bits) m ρ

/-- The reference for the update of the pool's weights terminates with its arguments unchanged and every counter at zero. -/
theorem frame_reference8 : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

set_option smartUnfolding false in
/-- The kernel that updates the pool's scales terminates with its arguments unchanged and every counter at zero. -/
theorem frame_kernel9 : Cert.quiescent_Kernel9 := fun m ρ _ => Cert.Kernel9Ideal.Gen.frame (F := Bits) m ρ

/-- The reference for the update of the pool's scales terminates with its arguments unchanged and every counter at zero. -/
theorem frame_reference9 : Cert.quiescent_Reference9Ideal := fun m ρ _ =>
  (θ_run Cert.Reference9Ideal.defs _ _).mono (fun r h => ⟨fun c => (h c).2.2.2, sem_eq_zero_of_no_sems (by decide) r.2⟩)
    (Cert.Reference9Ideal.Value.run (F := Ideal) m ρ)

set_option smartUnfolding false in
/-- The kernel that updates the pool's projection terminates with its arguments unchanged and every counter at zero. -/
theorem frame_kernel10 : Cert.quiescent_Kernel10 := fun m ρ _ => Cert.Kernel10Ideal.Gen.frame (F := Bits) m ρ

/-- The reference for the update of the pool's projection terminates with its arguments unchanged and every counter at zero. -/
theorem frame_reference10 : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)

set_option smartUnfolding false in
/-- The kernel that updates the state mixer's poles terminates with its arguments unchanged and every counter at zero. -/
theorem frame_kernel11 : Cert.quiescent_Kernel11 := fun m ρ _ => Cert.Kernel11Ideal.Gen.frame (F := Bits) m ρ

/-- The reference for the update of the state mixer's poles terminates with its arguments unchanged and every counter at zero. -/
theorem frame_reference11 : Cert.quiescent_Reference11Ideal := fun m ρ _ =>
  (θ_run Cert.Reference11Ideal.defs _ _).mono (fun r h => ⟨fun c => (h c).2.2.2.2.2.2, sem_eq_zero_of_no_sems (by decide) r.2⟩)
    (Cert.Reference11Ideal.Value.run (F := Ideal) m ρ)

set_option smartUnfolding false in
/-- The kernel that updates the state mixer's step sizes terminates with its arguments unchanged and every counter at zero. -/
theorem frame_kernel12 : Cert.quiescent_Kernel12 := fun m ρ _ => Cert.Kernel12Ideal.Gen.frame (F := Bits) m ρ

/-- The reference for the update of the state mixer's step sizes terminates with its arguments unchanged and every counter at zero. -/
theorem frame_reference12 : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

set_option maxHeartbeats 8000000 in
set_option smartUnfolding false in
/-- The kernel that updates the state mixer's input and output maps terminates with its arguments unchanged and every counter at zero. -/
theorem frame_kernel13 : Cert.quiescent_Kernel13 := fun m ρ _ => Cert.Kernel13Ideal.Gen.frame (F := Bits) m ρ

/-- The reference for the update of the state mixer's input and output maps terminates with its arguments unchanged and every counter at zero. -/
theorem frame_reference13 : Cert.quiescent_Reference13Ideal := fun m ρ _ =>
  (θ_run Cert.Reference13Ideal.defs _ _).mono (fun r h => ⟨fun c => (h c).2.2.2.2.2.2.2.2.2.2.2.2, sem_eq_zero_of_no_sems (by decide) r.2⟩)
    (Cert.Reference13Ideal.Value.run (F := Ideal) m ρ)

set_option smartUnfolding false in
/-- The kernel that updates the state mixer's direct gains terminates with its arguments unchanged and every counter at zero. -/
theorem frame_kernel14 : Cert.quiescent_Kernel14 := fun m ρ _ => Cert.Kernel14Ideal.Gen.frame (F := Bits) m ρ

/-- The reference for the update of the state mixer's direct gains terminates with its arguments unchanged and every counter at zero. -/
theorem frame_reference14 : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

set_option smartUnfolding false in
/-- The kernel that updates the two gated output weights terminates with its arguments unchanged and every counter at zero. -/
theorem frame_kernel15 : Cert.quiescent_Kernel15 := fun m ρ _ => Cert.Kernel15Ideal.Gen.frame (F := Bits) m ρ

/-- The reference for the update of the two gated output weights terminates with its arguments unchanged and every counter at zero. -/
theorem frame_reference15 : Cert.quiescent_Reference15Ideal := fun m ρ _ =>
  (θ_run Cert.Reference15Ideal.defs _ _).mono (fun r h => ⟨fun c => (h c).2.2.2.2.2.2.2.2, sem_eq_zero_of_no_sems (by decide) r.2⟩)
    (Cert.Reference15Ideal.Value.run (F := Ideal) m ρ)

set_option smartUnfolding false in
/-- The kernel that updates the three square weights terminates with its arguments unchanged and every counter at zero. -/
theorem frame_kernel16 : Cert.quiescent_Kernel16 := fun m ρ _ => Cert.Kernel16Ideal.Gen.frame (F := Bits) m ρ

/-- The reference for the update of the three square weights terminates with its arguments unchanged and every counter at zero. -/
theorem frame_reference16 : Cert.quiescent_Reference16Ideal := fun m ρ _ =>
  (θ_run Cert.Reference16Ideal.defs _ _).mono (fun r h => ⟨fun c => (h c).2.2.2.2.2.2.2.2.2, sem_eq_zero_of_no_sems (by decide) r.2⟩)
    (Cert.Reference16Ideal.Value.run (F := Ideal) m ρ)

set_option smartUnfolding false in
/-- The kernel that updates the keys' and values' weight terminates with its arguments unchanged and every counter at zero. -/
theorem frame_kernel17 : Cert.quiescent_Kernel17 := fun m ρ _ => Cert.Kernel17Ideal.Gen.frame (F := Bits) m ρ

/-- The reference for the update of the keys' and values' weight terminates with its arguments unchanged and every counter at zero. -/
theorem frame_reference17 : Cert.quiescent_Reference17Ideal := fun m ρ _ =>
  (θ_run Cert.Reference17Ideal.defs _ _).mono (fun r h => ⟨fun c => (h c).2.2.2.2, sem_eq_zero_of_no_sems (by decide) r.2⟩)
    (Cert.Reference17Ideal.Value.run (F := Ideal) m ρ)

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Pre_finite.Gen.facts, Cert.Pre_finite2.Gen.facts, Cert.Pre_finite4.Gen.facts,
  fun m ρ _ => Cert.Kernel.Gen.frame m ρ,
  fun m ρ _ => Cert.KernelIdeal.Gen.frame m ρ,
  fun m ρ _ => Cert.KernelIdeal.Gen.frame m ρ,
  frame_reference, fun m ρ _ => frame_reference m ρ trivial,
  fun m ρ _ => Cert.Kernel2.Gen.frame m ρ,
  fun m ρ _ => Cert.Kernel2Ideal.Gen.frame m ρ,
  fun m ρ _ => Cert.Kernel2Ideal.Gen.frame m ρ,
  frame_reference2, fun m ρ _ => frame_reference2 m ρ trivial,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  fun m ρ _ => Cert.Kernel4Ideal.Gen.frame m ρ,
  frame_reference4, fun m ρ _ => frame_reference4 m ρ trivial,
  frame_kernel5, fun m ρ _ => Cert.Kernel5Ideal.Gen.frame m ρ, frame_reference5,
  frame_kernel6, fun m ρ _ => Cert.Kernel6Ideal.Gen.frame m ρ, frame_reference6,
  frame_kernel7, fun m ρ _ => Cert.Kernel7Ideal.Gen.frame m ρ, frame_reference7,
  frame_kernel8, fun m ρ _ => Cert.Kernel8Ideal.Gen.frame m ρ, frame_reference8,
  frame_kernel9, fun m ρ _ => Cert.Kernel9Ideal.Gen.frame m ρ, frame_reference9,
  frame_kernel10, fun m ρ _ => Cert.Kernel10Ideal.Gen.frame m ρ, frame_reference10,
  frame_kernel11, fun m ρ _ => Cert.Kernel11Ideal.Gen.frame m ρ, frame_reference11,
  frame_kernel12, fun m ρ _ => Cert.Kernel12Ideal.Gen.frame m ρ, frame_reference12,
  frame_kernel13, fun m ρ _ => Cert.Kernel13Ideal.Gen.frame m ρ, frame_reference13,
  frame_kernel14, fun m ρ _ => Cert.Kernel14Ideal.Gen.frame m ρ, frame_reference14,
  frame_kernel15, fun m ρ _ => Cert.Kernel15Ideal.Gen.frame m ρ, frame_reference15,
  frame_kernel16, fun m ρ _ => Cert.Kernel16Ideal.Gen.frame m ρ, frame_reference16,
  frame_kernel17, fun m ρ _ => Cert.Kernel17Ideal.Gen.frame m ρ, frame_reference17,
  trivial, Cert.Attn.algebraic, trivial, Cert.Ffn.algebraic, trivial, Cert.Mix.algebraic,
  trivial, Cert.Proj.algebraic,
  trivial, Cert.Opt.norms,
  trivial, Cert.Opt.columns,
  trivial, Cert.Opt.down,
  trivial, Cert.Opt.pool,
  trivial, Cert.Opt.scale,
  trivial, Cert.Opt.pool_proj,
  trivial, Cert.Opt.poles,
  trivial, Cert.Opt.log_dt,
  trivial, Cert.Opt.state,
  trivial, Cert.Opt.skip,
  trivial, Cert.Opt.glu,
  trivial, Cert.Opt.squares,
  trivial, Cert.Opt.kv⟩

end Cert.Proof

end
